-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Cum (m : (ℓ : Loc Cert.Cum.nD Cert.Cum.τ Cert.Cum.sig) → Buf (Elt Bits) ℓ) : Prop :=
  True

def Pre_CumIdeal (m : (ℓ : Loc Cert.CumIdeal.nD Cert.CumIdeal.τ Cert.CumIdeal.sig) → Buf (Elt Ideal) ℓ) : Prop :=
  True

def Pre_CumIdeal_finite_cumsum [hPre_finite_cumsum : Cert.Pre_finite_cumsum.Facts] (m : (ℓ : Loc Cert.CumIdeal.nD Cert.CumIdeal.τ Cert.CumIdeal.sig) → Buf (Elt Ideal) ℓ) : Prop :=
  ∀ c : Dev Cert.CumIdeal.nD,
    (Cert.Pre_finite_cumsum.fn (F := Ideal) (m ((c.tc : Thread Cert.CumIdeal.nD Cert.CumIdeal.τ).loc Cert.CumIdeal.main_arg0)) (m ((c.tc : Thread Cert.CumIdeal.nD Cert.CumIdeal.τ).loc Cert.CumIdeal.main_arg1)) (m ((c.tc : Thread Cert.CumIdeal.nD Cert.CumIdeal.τ).loc Cert.CumIdeal.main_arg2)) (m ((c.tc : Thread Cert.CumIdeal.nD Cert.CumIdeal.τ).loc Cert.CumIdeal.main_arg3)) (m ((c.tc : Thread Cert.CumIdeal.nD Cert.CumIdeal.τ).loc Cert.CumIdeal.main_arg4))) = (fun _ => 1#1)

def Pre_CumRefIdeal (m : (ℓ : Loc Cert.CumRefIdeal.nD Cert.CumRefIdeal.τ Cert.CumRefIdeal.sig) → Buf (Elt Ideal) ℓ) : Prop :=
  True

def Pre_CumRefIdeal_finite_cumsum [hPre_finite_cumsum : Cert.Pre_finite_cumsum.Facts] (m : (ℓ : Loc Cert.CumRefIdeal.nD Cert.CumRefIdeal.τ Cert.CumRefIdeal.sig) → Buf (Elt Ideal) ℓ) : Prop :=
  ∀ c : Dev Cert.CumRefIdeal.nD,
    (Cert.Pre_finite_cumsum.fn (F := Ideal) (m ((c.tc : Thread Cert.CumRefIdeal.nD Cert.CumRefIdeal.τ).loc Cert.CumRefIdeal.main_arg0)) (m ((c.tc : Thread Cert.CumRefIdeal.nD Cert.CumRefIdeal.τ).loc Cert.CumRefIdeal.main_arg1)) (m ((c.tc : Thread Cert.CumRefIdeal.nD Cert.CumRefIdeal.τ).loc Cert.CumRefIdeal.main_arg2)) (m ((c.tc : Thread Cert.CumRefIdeal.nD Cert.CumRefIdeal.τ).loc Cert.CumRefIdeal.main_arg3)) (m ((c.tc : Thread Cert.CumRefIdeal.nD Cert.CumRefIdeal.τ).loc Cert.CumRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_FoxKv (m : (ℓ : Loc Cert.FoxKv.nD Cert.FoxKv.τ Cert.FoxKv.sig) → Buf (Elt Bits) ℓ) : Prop :=
  True

def Pre_FoxKvIdeal (m : (ℓ : Loc Cert.FoxKvIdeal.nD Cert.FoxKvIdeal.τ Cert.FoxKvIdeal.sig) → Buf (Elt Ideal) ℓ) : Prop :=
  True

def Pre_FoxKvIdeal_finite_fox_kv [hPre_finite_fox_kv : Cert.Pre_finite_fox_kv.Facts] (m : (ℓ : Loc Cert.FoxKvIdeal.nD Cert.FoxKvIdeal.τ Cert.FoxKvIdeal.sig) → Buf (Elt Ideal) ℓ) : Prop :=
  ∀ c : Dev Cert.FoxKvIdeal.nD,
    (Cert.Pre_finite_fox_kv.fn (F := Ideal) (m ((c.tc : Thread Cert.FoxKvIdeal.nD Cert.FoxKvIdeal.τ).loc Cert.FoxKvIdeal.main_arg0)) (m ((c.tc : Thread Cert.FoxKvIdeal.nD Cert.FoxKvIdeal.τ).loc Cert.FoxKvIdeal.main_arg1)) (m ((c.tc : Thread Cert.FoxKvIdeal.nD Cert.FoxKvIdeal.τ).loc Cert.FoxKvIdeal.main_arg2)) (m ((c.tc : Thread Cert.FoxKvIdeal.nD Cert.FoxKvIdeal.τ).loc Cert.FoxKvIdeal.main_arg3)) (m ((c.tc : Thread Cert.FoxKvIdeal.nD Cert.FoxKvIdeal.τ).loc Cert.FoxKvIdeal.main_arg4))) = (fun _ => 1#1)

def Pre_FoxKvRefIdeal (m : (ℓ : Loc Cert.FoxKvRefIdeal.nD Cert.FoxKvRefIdeal.τ Cert.FoxKvRefIdeal.sig) → Buf (Elt Ideal) ℓ) : Prop :=
  True

def Pre_FoxKvRefIdeal_finite_fox_kv [hPre_finite_fox_kv : Cert.Pre_finite_fox_kv.Facts] (m : (ℓ : Loc Cert.FoxKvRefIdeal.nD Cert.FoxKvRefIdeal.τ Cert.FoxKvRefIdeal.sig) → Buf (Elt Ideal) ℓ) : Prop :=
  ∀ c : Dev Cert.FoxKvRefIdeal.nD,
    (Cert.Pre_finite_fox_kv.fn (F := Ideal) (m ((c.tc : Thread Cert.FoxKvRefIdeal.nD Cert.FoxKvRefIdeal.τ).loc Cert.FoxKvRefIdeal.main_arg0)) (m ((c.tc : Thread Cert.FoxKvRefIdeal.nD Cert.FoxKvRefIdeal.τ).loc Cert.FoxKvRefIdeal.main_arg1)) (m ((c.tc : Thread Cert.FoxKvRefIdeal.nD Cert.FoxKvRefIdeal.τ).loc Cert.FoxKvRefIdeal.main_arg2)) (m ((c.tc : Thread Cert.FoxKvRefIdeal.nD Cert.FoxKvRefIdeal.τ).loc Cert.FoxKvRefIdeal.main_arg3)) (m ((c.tc : Thread Cert.FoxKvRefIdeal.nD Cert.FoxKvRefIdeal.τ).loc Cert.FoxKvRefIdeal.main_arg4))) = (fun _ => 1#1)

def Pre_FoxQ (m : (ℓ : Loc Cert.FoxQ.nD Cert.FoxQ.τ Cert.FoxQ.sig) → Buf (Elt Bits) ℓ) : Prop :=
  True

def Pre_FoxQIdeal (m : (ℓ : Loc Cert.FoxQIdeal.nD Cert.FoxQIdeal.τ Cert.FoxQIdeal.sig) → Buf (Elt Ideal) ℓ) : Prop :=
  True

def Pre_FoxQIdeal_finite_fox_kv [hPre_finite_fox_kv : Cert.Pre_finite_fox_kv.Facts] (m : (ℓ : Loc Cert.FoxQIdeal.nD Cert.FoxQIdeal.τ Cert.FoxQIdeal.sig) → Buf (Elt Ideal) ℓ) : Prop :=
  ∀ c : Dev Cert.FoxQIdeal.nD,
    (Cert.Pre_finite_fox_kv.fn (F := Ideal) (m ((c.tc : Thread Cert.FoxQIdeal.nD Cert.FoxQIdeal.τ).loc Cert.FoxQIdeal.main_arg0)) (m ((c.tc : Thread Cert.FoxQIdeal.nD Cert.FoxQIdeal.τ).loc Cert.FoxQIdeal.main_arg1)) (m ((c.tc : Thread Cert.FoxQIdeal.nD Cert.FoxQIdeal.τ).loc Cert.FoxQIdeal.main_arg2)) (m ((c.tc : Thread Cert.FoxQIdeal.nD Cert.FoxQIdeal.τ).loc Cert.FoxQIdeal.main_arg3)) (m ((c.tc : Thread Cert.FoxQIdeal.nD Cert.FoxQIdeal.τ).loc Cert.FoxQIdeal.main_arg4))) = (fun _ => 1#1)

def Pre_FoxQRefIdeal (m : (ℓ : Loc Cert.FoxQRefIdeal.nD Cert.FoxQRefIdeal.τ Cert.FoxQRefIdeal.sig) → Buf (Elt Ideal) ℓ) : Prop :=
  True

def Pre_FoxQRefIdeal_finite_fox_kv [hPre_finite_fox_kv : Cert.Pre_finite_fox_kv.Facts] (m : (ℓ : Loc Cert.FoxQRefIdeal.nD Cert.FoxQRefIdeal.τ Cert.FoxQRefIdeal.sig) → Buf (Elt Ideal) ℓ) : Prop :=
  ∀ c : Dev Cert.FoxQRefIdeal.nD,
    (Cert.Pre_finite_fox_kv.fn (F := Ideal) (m ((c.tc : Thread Cert.FoxQRefIdeal.nD Cert.FoxQRefIdeal.τ).loc Cert.FoxQRefIdeal.main_arg0)) (m ((c.tc : Thread Cert.FoxQRefIdeal.nD Cert.FoxQRefIdeal.τ).loc Cert.FoxQRefIdeal.main_arg1)) (m ((c.tc : Thread Cert.FoxQRefIdeal.nD Cert.FoxQRefIdeal.τ).loc Cert.FoxQRefIdeal.main_arg2)) (m ((c.tc : Thread Cert.FoxQRefIdeal.nD Cert.FoxQRefIdeal.τ).loc Cert.FoxQRefIdeal.main_arg3)) (m ((c.tc : Thread Cert.FoxQRefIdeal.nD Cert.FoxQRefIdeal.τ).loc Cert.FoxQRefIdeal.main_arg4))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))) = (fun _ => 1#1)

def Pre_KvPost (m : (ℓ : Loc Cert.KvPost.nD Cert.KvPost.τ Cert.KvPost.sig) → Buf (Elt Bits) ℓ) : Prop :=
  True

def Pre_KvPostIdeal (m : (ℓ : Loc Cert.KvPostIdeal.nD Cert.KvPostIdeal.τ Cert.KvPostIdeal.sig) → Buf (Elt Ideal) ℓ) : Prop :=
  True

def Pre_KvPostIdeal_regular_kv_post [hPre_regular_kv_post : Cert.Pre_regular_kv_post.Facts] (m : (ℓ : Loc Cert.KvPostIdeal.nD Cert.KvPostIdeal.τ Cert.KvPostIdeal.sig) → Buf (Elt Ideal) ℓ) : Prop :=
  ∀ c : Dev Cert.KvPostIdeal.nD,
    (Cert.Pre_regular_kv_post.fn (F := Ideal) (m ((c.tc : Thread Cert.KvPostIdeal.nD Cert.KvPostIdeal.τ).loc Cert.KvPostIdeal.main_arg0)) (m ((c.tc : Thread Cert.KvPostIdeal.nD Cert.KvPostIdeal.τ).loc Cert.KvPostIdeal.main_arg1)) (m ((c.tc : Thread Cert.KvPostIdeal.nD Cert.KvPostIdeal.τ).loc Cert.KvPostIdeal.main_arg2)) (m ((c.tc : Thread Cert.KvPostIdeal.nD Cert.KvPostIdeal.τ).loc Cert.KvPostIdeal.main_arg3)) (m ((c.tc : Thread Cert.KvPostIdeal.nD Cert.KvPostIdeal.τ).loc Cert.KvPostIdeal.main_arg4)) (m ((c.tc : Thread Cert.KvPostIdeal.nD Cert.KvPostIdeal.τ).loc Cert.KvPostIdeal.main_arg5)) (m ((c.tc : Thread Cert.KvPostIdeal.nD Cert.KvPostIdeal.τ).loc Cert.KvPostIdeal.main_arg6))) = (fun _ => 1#1)

def Pre_KvPostRefIdeal (m : (ℓ : Loc Cert.KvPostRefIdeal.nD Cert.KvPostRefIdeal.τ Cert.KvPostRefIdeal.sig) → Buf (Elt Ideal) ℓ) : Prop :=
  True

def Pre_KvPostRefIdeal_regular_kv_post [hPre_regular_kv_post : Cert.Pre_regular_kv_post.Facts] (m : (ℓ : Loc Cert.KvPostRefIdeal.nD Cert.KvPostRefIdeal.τ Cert.KvPostRefIdeal.sig) → Buf (Elt Ideal) ℓ) : Prop :=
  ∀ c : Dev Cert.KvPostRefIdeal.nD,
    (Cert.Pre_regular_kv_post.fn (F := Ideal) (m ((c.tc : Thread Cert.KvPostRefIdeal.nD Cert.KvPostRefIdeal.τ).loc Cert.KvPostRefIdeal.main_arg0)) (m ((c.tc : Thread Cert.KvPostRefIdeal.nD Cert.KvPostRefIdeal.τ).loc Cert.KvPostRefIdeal.main_arg1)) (m ((c.tc : Thread Cert.KvPostRefIdeal.nD Cert.KvPostRefIdeal.τ).loc Cert.KvPostRefIdeal.main_arg2)) (m ((c.tc : Thread Cert.KvPostRefIdeal.nD Cert.KvPostRefIdeal.τ).loc Cert.KvPostRefIdeal.main_arg3)) (m ((c.tc : Thread Cert.KvPostRefIdeal.nD Cert.KvPostRefIdeal.τ).loc Cert.KvPostRefIdeal.main_arg4)) (m ((c.tc : Thread Cert.KvPostRefIdeal.nD Cert.KvPostRefIdeal.τ).loc Cert.KvPostRefIdeal.main_arg5)) (m ((c.tc : Thread Cert.KvPostRefIdeal.nD Cert.KvPostRefIdeal.τ).loc Cert.KvPostRefIdeal.main_arg6))) = (fun _ => 1#1)

def Pre_GdnPre (m : (ℓ : Loc Cert.GdnPre.nD Cert.GdnPre.τ Cert.GdnPre.sig) → Buf (Elt Bits) ℓ) : Prop :=
  True

def Pre_GdnPreIdeal (m : (ℓ : Loc Cert.GdnPreIdeal.nD Cert.GdnPreIdeal.τ Cert.GdnPreIdeal.sig) → Buf (Elt Ideal) ℓ) : Prop :=
  True

def Pre_GdnPreRefIdeal (m : (ℓ : Loc Cert.GdnPreRefIdeal.nD Cert.GdnPreRefIdeal.τ Cert.GdnPreRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryIdeal_finite_mem [hPre_finite_mem : Cert.Pre_finite_mem.Facts] (m : (ℓ : Loc Cert.MemoryIdeal.nD Cert.MemoryIdeal.τ Cert.MemoryIdeal.sig) → Buf (Elt Ideal) ℓ) : Prop :=
  ∀ c : Dev Cert.MemoryIdeal.nD,
    (Cert.Pre_finite_mem.fn (F := Ideal) (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1)) (m ((c.tc : Thread Cert.MemoryIdeal.nD Cert.MemoryIdeal.τ).loc Cert.MemoryIdeal.main_arg2))) = (fun _ => 1#1)

def Pre_MemoryRefIdeal (m : (ℓ : Loc Cert.MemoryRefIdeal.nD Cert.MemoryRefIdeal.τ Cert.MemoryRefIdeal.sig) → Buf (Elt Ideal) ℓ) : Prop :=
  True

def Pre_MemoryRefIdeal_finite_mem [hPre_finite_mem : Cert.Pre_finite_mem.Facts] (m : (ℓ : Loc Cert.MemoryRefIdeal.nD Cert.MemoryRefIdeal.τ Cert.MemoryRefIdeal.sig) → Buf (Elt Ideal) ℓ) : Prop :=
  ∀ c : Dev Cert.MemoryRefIdeal.nD,
    (Cert.Pre_finite_mem.fn (F := Ideal) (m ((c.tc : Thread Cert.MemoryRefIdeal.nD Cert.MemoryRefIdeal.τ).loc Cert.MemoryRefIdeal.main_arg0)) (m ((c.tc : Thread Cert.MemoryRefIdeal.nD Cert.MemoryRefIdeal.τ).loc Cert.MemoryRefIdeal.main_arg1)) (m ((c.tc : Thread Cert.MemoryRefIdeal.nD Cert.MemoryRefIdeal.τ).loc Cert.MemoryRefIdeal.main_arg2))) = (fun _ => 1#1)

def Pre_GdnPost (m : (ℓ : Loc Cert.GdnPost.nD Cert.GdnPost.τ Cert.GdnPost.sig) → Buf (Elt Bits) ℓ) : Prop :=
  True

def Pre_GdnPostIdeal (m : (ℓ : Loc Cert.GdnPostIdeal.nD Cert.GdnPostIdeal.τ Cert.GdnPostIdeal.sig) → Buf (Elt Ideal) ℓ) : Prop :=
  True

def Pre_GdnPostIdeal_finite_post [hPre_finite_post : Cert.Pre_finite_post.Facts] (m : (ℓ : Loc Cert.GdnPostIdeal.nD Cert.GdnPostIdeal.τ Cert.GdnPostIdeal.sig) → Buf (Elt Ideal) ℓ) : Prop :=
  ∀ c : Dev Cert.GdnPostIdeal.nD,
    (Cert.Pre_finite_post.fn (F := Ideal) (m ((c.tc : Thread Cert.GdnPostIdeal.nD Cert.GdnPostIdeal.τ).loc Cert.GdnPostIdeal.main_arg0)) (m ((c.tc : Thread Cert.GdnPostIdeal.nD Cert.GdnPostIdeal.τ).loc Cert.GdnPostIdeal.main_arg1)) (m ((c.tc : Thread Cert.GdnPostIdeal.nD Cert.GdnPostIdeal.τ).loc Cert.GdnPostIdeal.main_arg2)) (m ((c.tc : Thread Cert.GdnPostIdeal.nD Cert.GdnPostIdeal.τ).loc Cert.GdnPostIdeal.main_arg3))) = (fun _ => 1#1)

def Pre_GdnPostRefIdeal (m : (ℓ : Loc Cert.GdnPostRefIdeal.nD Cert.GdnPostRefIdeal.τ Cert.GdnPostRefIdeal.sig) → Buf (Elt Ideal) ℓ) : Prop :=
  True

def Pre_GdnPostRefIdeal_finite_post [hPre_finite_post : Cert.Pre_finite_post.Facts] (m : (ℓ : Loc Cert.GdnPostRefIdeal.nD Cert.GdnPostRefIdeal.τ Cert.GdnPostRefIdeal.sig) → Buf (Elt Ideal) ℓ) : Prop :=
  ∀ c : Dev Cert.GdnPostRefIdeal.nD,
    (Cert.Pre_finite_post.fn (F := Ideal) (m ((c.tc : Thread Cert.GdnPostRefIdeal.nD Cert.GdnPostRefIdeal.τ).loc Cert.GdnPostRefIdeal.main_arg0)) (m ((c.tc : Thread Cert.GdnPostRefIdeal.nD Cert.GdnPostRefIdeal.τ).loc Cert.GdnPostRefIdeal.main_arg1)) (m ((c.tc : Thread Cert.GdnPostRefIdeal.nD Cert.GdnPostRefIdeal.τ).loc Cert.GdnPostRefIdeal.main_arg2)) (m ((c.tc : Thread Cert.GdnPostRefIdeal.nD Cert.GdnPostRefIdeal.τ).loc Cert.GdnPostRefIdeal.main_arg3))) = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Cum [hCum : Cert.Cum.Facts] : Prop :=
  ∀ (m : (ℓ : Loc Cert.Cum.nD Cert.Cum.τ Cert.Cum.sig) → Buf (Elt Bits) ℓ) (g : Dev Cert.Cum.nD → PrngReg), Pre_Cum m →
    θ_run (Cert.Cum.defs (F := Bits)) (onTc (τ := Cert.Cum.τ) (Cert.Cum.main (F := Bits))) ⟨m, fun _ => 0, g⟩ (fun r => (∀ c : Dev Cert.Cum.nD,
      r.2.mem ((c.tc : Thread Cert.Cum.nD Cert.Cum.τ).loc Cert.Cum.main_arg0) = m ((c.tc : Thread Cert.Cum.nD Cert.Cum.τ).loc Cert.Cum.main_arg0)
      ∧ r.2.mem ((c.tc : Thread Cert.Cum.nD Cert.Cum.τ).loc Cert.Cum.main_arg1) = m ((c.tc : Thread Cert.Cum.nD Cert.Cum.τ).loc Cert.Cum.main_arg1)
      ∧ r.2.mem ((c.tc : Thread Cert.Cum.nD Cert.Cum.τ).loc Cert.Cum.main_arg2) = m ((c.tc : Thread Cert.Cum.nD Cert.Cum.τ).loc Cert.Cum.main_arg2)
      ∧ r.2.mem ((c.tc : Thread Cert.Cum.nD Cert.Cum.τ).loc Cert.Cum.main_arg3) = m ((c.tc : Thread Cert.Cum.nD Cert.Cum.τ).loc Cert.Cum.main_arg3)
      ∧ r.2.mem ((c.tc : Thread Cert.Cum.nD Cert.Cum.τ).loc Cert.Cum.main_arg4) = m ((c.tc : Thread Cert.Cum.nD Cert.Cum.τ).loc Cert.Cum.main_arg4))
      ∧ r.2.sem = fun _ => 0)

def quiescent_CumIdeal [hCumIdeal : Cert.CumIdeal.Facts] : Prop :=
  ∀ (m : (ℓ : Loc Cert.CumIdeal.nD Cert.CumIdeal.τ Cert.CumIdeal.sig) → Buf (Elt Ideal) ℓ) (g : Dev Cert.CumIdeal.nD → PrngReg), Pre_CumIdeal m →
    θ_run (Cert.CumIdeal.defs (F := Ideal)) (onTc (τ := Cert.CumIdeal.τ) (Cert.CumIdeal.main (F := Ideal))) ⟨m, fun _ => 0, g⟩ (fun r => (∀ c : Dev Cert.CumIdeal.nD,
      r.2.mem ((c.tc : Thread Cert.CumIdeal.nD Cert.CumIdeal.τ).loc Cert.CumIdeal.main_arg0) = m ((c.tc : Thread Cert.CumIdeal.nD Cert.CumIdeal.τ).loc Cert.CumIdeal.main_arg0)
      ∧ r.2.mem ((c.tc : Thread Cert.CumIdeal.nD Cert.CumIdeal.τ).loc Cert.CumIdeal.main_arg1) = m ((c.tc : Thread Cert.CumIdeal.nD Cert.CumIdeal.τ).loc Cert.CumIdeal.main_arg1)
      ∧ r.2.mem ((c.tc : Thread Cert.CumIdeal.nD Cert.CumIdeal.τ).loc Cert.CumIdeal.main_arg2) = m ((c.tc : Thread Cert.CumIdeal.nD Cert.CumIdeal.τ).loc Cert.CumIdeal.main_arg2)
      ∧ r.2.mem ((c.tc : Thread Cert.CumIdeal.nD Cert.CumIdeal.τ).loc Cert.CumIdeal.main_arg3) = m ((c.tc : Thread Cert.CumIdeal.nD Cert.CumIdeal.τ).loc Cert.CumIdeal.main_arg3)
      ∧ r.2.mem ((c.tc : Thread Cert.CumIdeal.nD Cert.CumIdeal.τ).loc Cert.CumIdeal.main_arg4) = m ((c.tc : Thread Cert.CumIdeal.nD Cert.CumIdeal.τ).loc Cert.CumIdeal.main_arg4))
      ∧ r.2.sem = fun _ => 0)

def quiescent_CumIdeal_pre_finite_cumsum [hCumIdeal : Cert.CumIdeal.Facts] [hPre_finite_cumsum : Cert.Pre_finite_cumsum.Facts] : Prop :=
  ∀ (m : (ℓ : Loc Cert.CumIdeal.nD Cert.CumIdeal.τ Cert.CumIdeal.sig) → Buf (Elt Ideal) ℓ) (g : Dev Cert.CumIdeal.nD → PrngReg), Pre_CumIdeal_finite_cumsum m →
    θ_run (Cert.CumIdeal.defs (F := Ideal)) (onTc (τ := Cert.CumIdeal.τ) (Cert.CumIdeal.main (F := Ideal))) ⟨m, fun _ => 0, g⟩ (fun r => (∀ c : Dev Cert.CumIdeal.nD,
      r.2.mem ((c.tc : Thread Cert.CumIdeal.nD Cert.CumIdeal.τ).loc Cert.CumIdeal.main_arg0) = m ((c.tc : Thread Cert.CumIdeal.nD Cert.CumIdeal.τ).loc Cert.CumIdeal.main_arg0)
      ∧ r.2.mem ((c.tc : Thread Cert.CumIdeal.nD Cert.CumIdeal.τ).loc Cert.CumIdeal.main_arg1) = m ((c.tc : Thread Cert.CumIdeal.nD Cert.CumIdeal.τ).loc Cert.CumIdeal.main_arg1)
      ∧ r.2.mem ((c.tc : Thread Cert.CumIdeal.nD Cert.CumIdeal.τ).loc Cert.CumIdeal.main_arg2) = m ((c.tc : Thread Cert.CumIdeal.nD Cert.CumIdeal.τ).loc Cert.CumIdeal.main_arg2)
      ∧ r.2.mem ((c.tc : Thread Cert.CumIdeal.nD Cert.CumIdeal.τ).loc Cert.CumIdeal.main_arg3) = m ((c.tc : Thread Cert.CumIdeal.nD Cert.CumIdeal.τ).loc Cert.CumIdeal.main_arg3)
      ∧ r.2.mem ((c.tc : Thread Cert.CumIdeal.nD Cert.CumIdeal.τ).loc Cert.CumIdeal.main_arg4) = m ((c.tc : Thread Cert.CumIdeal.nD Cert.CumIdeal.τ).loc Cert.CumIdeal.main_arg4))
      ∧ r.2.sem = fun _ => 0)

def quiescent_CumRefIdeal [hCumRefIdeal : Cert.CumRefIdeal.Facts] : Prop :=
  ∀ (m : (ℓ : Loc Cert.CumRefIdeal.nD Cert.CumRefIdeal.τ Cert.CumRefIdeal.sig) → Buf (Elt Ideal) ℓ) (g : Dev Cert.CumRefIdeal.nD → PrngReg), Pre_CumRefIdeal m →
    θ_run (Cert.CumRefIdeal.defs (F := Ideal)) (onTc (τ := Cert.CumRefIdeal.τ) (Cert.CumRefIdeal.main (F := Ideal))) ⟨m, fun _ => 0, g⟩ (fun r => (∀ c : Dev Cert.CumRefIdeal.nD,
      r.2.mem ((c.tc : Thread Cert.CumRefIdeal.nD Cert.CumRefIdeal.τ).loc Cert.CumRefIdeal.main_arg0) = m ((c.tc : Thread Cert.CumRefIdeal.nD Cert.CumRefIdeal.τ).loc Cert.CumRefIdeal.main_arg0)
      ∧ r.2.mem ((c.tc : Thread Cert.CumRefIdeal.nD Cert.CumRefIdeal.τ).loc Cert.CumRefIdeal.main_arg1) = m ((c.tc : Thread Cert.CumRefIdeal.nD Cert.CumRefIdeal.τ).loc Cert.CumRefIdeal.main_arg1)
      ∧ r.2.mem ((c.tc : Thread Cert.CumRefIdeal.nD Cert.CumRefIdeal.τ).loc Cert.CumRefIdeal.main_arg2) = m ((c.tc : Thread Cert.CumRefIdeal.nD Cert.CumRefIdeal.τ).loc Cert.CumRefIdeal.main_arg2)
      ∧ r.2.mem ((c.tc : Thread Cert.CumRefIdeal.nD Cert.CumRefIdeal.τ).loc Cert.CumRefIdeal.main_arg3) = m ((c.tc : Thread Cert.CumRefIdeal.nD Cert.CumRefIdeal.τ).loc Cert.CumRefIdeal.main_arg3)
      ∧ r.2.mem ((c.tc : Thread Cert.CumRefIdeal.nD Cert.CumRefIdeal.τ).loc Cert.CumRefIdeal.main_arg4) = m ((c.tc : Thread Cert.CumRefIdeal.nD Cert.CumRefIdeal.τ).loc Cert.CumRefIdeal.main_arg4))
      ∧ r.2.sem = fun _ => 0)

def quiescent_CumRefIdeal_pre_finite_cumsum [hCumRefIdeal : Cert.CumRefIdeal.Facts] [hPre_finite_cumsum : Cert.Pre_finite_cumsum.Facts] : Prop :=
  ∀ (m : (ℓ : Loc Cert.CumRefIdeal.nD Cert.CumRefIdeal.τ Cert.CumRefIdeal.sig) → Buf (Elt Ideal) ℓ) (g : Dev Cert.CumRefIdeal.nD → PrngReg), Pre_CumRefIdeal_finite_cumsum m →
    θ_run (Cert.CumRefIdeal.defs (F := Ideal)) (onTc (τ := Cert.CumRefIdeal.τ) (Cert.CumRefIdeal.main (F := Ideal))) ⟨m, fun _ => 0, g⟩ (fun r => (∀ c : Dev Cert.CumRefIdeal.nD,
      r.2.mem ((c.tc : Thread Cert.CumRefIdeal.nD Cert.CumRefIdeal.τ).loc Cert.CumRefIdeal.main_arg0) = m ((c.tc : Thread Cert.CumRefIdeal.nD Cert.CumRefIdeal.τ).loc Cert.CumRefIdeal.main_arg0)
      ∧ r.2.mem ((c.tc : Thread Cert.CumRefIdeal.nD Cert.CumRefIdeal.τ).loc Cert.CumRefIdeal.main_arg1) = m ((c.tc : Thread Cert.CumRefIdeal.nD Cert.CumRefIdeal.τ).loc Cert.CumRefIdeal.main_arg1)
      ∧ r.2.mem ((c.tc : Thread Cert.CumRefIdeal.nD Cert.CumRefIdeal.τ).loc Cert.CumRefIdeal.main_arg2) = m ((c.tc : Thread Cert.CumRefIdeal.nD Cert.CumRefIdeal.τ).loc Cert.CumRefIdeal.main_arg2)
      ∧ r.2.mem ((c.tc : Thread Cert.CumRefIdeal.nD Cert.CumRefIdeal.τ).loc Cert.CumRefIdeal.main_arg3) = m ((c.tc : Thread Cert.CumRefIdeal.nD Cert.CumRefIdeal.τ).loc Cert.CumRefIdeal.main_arg3)
      ∧ r.2.mem ((c.tc : Thread Cert.CumRefIdeal.nD Cert.CumRefIdeal.τ).loc Cert.CumRefIdeal.main_arg4) = m ((c.tc : Thread Cert.CumRefIdeal.nD Cert.CumRefIdeal.τ).loc Cert.CumRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FoxKv [hFoxKv : Cert.FoxKv.Facts] : Prop :=
  ∀ (m : (ℓ : Loc Cert.FoxKv.nD Cert.FoxKv.τ Cert.FoxKv.sig) → Buf (Elt Bits) ℓ) (g : Dev Cert.FoxKv.nD → PrngReg), Pre_FoxKv m →
    θ_run (Cert.FoxKv.defs (F := Bits)) (onTc (τ := Cert.FoxKv.τ) (Cert.FoxKv.main (F := Bits))) ⟨m, fun _ => 0, g⟩ (fun r => (∀ c : Dev Cert.FoxKv.nD,
      r.2.mem ((c.tc : Thread Cert.FoxKv.nD Cert.FoxKv.τ).loc Cert.FoxKv.main_arg0) = m ((c.tc : Thread Cert.FoxKv.nD Cert.FoxKv.τ).loc Cert.FoxKv.main_arg0)
      ∧ r.2.mem ((c.tc : Thread Cert.FoxKv.nD Cert.FoxKv.τ).loc Cert.FoxKv.main_arg1) = m ((c.tc : Thread Cert.FoxKv.nD Cert.FoxKv.τ).loc Cert.FoxKv.main_arg1)
      ∧ r.2.mem ((c.tc : Thread Cert.FoxKv.nD Cert.FoxKv.τ).loc Cert.FoxKv.main_arg2) = m ((c.tc : Thread Cert.FoxKv.nD Cert.FoxKv.τ).loc Cert.FoxKv.main_arg2)
      ∧ r.2.mem ((c.tc : Thread Cert.FoxKv.nD Cert.FoxKv.τ).loc Cert.FoxKv.main_arg3) = m ((c.tc : Thread Cert.FoxKv.nD Cert.FoxKv.τ).loc Cert.FoxKv.main_arg3)
      ∧ r.2.mem ((c.tc : Thread Cert.FoxKv.nD Cert.FoxKv.τ).loc Cert.FoxKv.main_arg4) = m ((c.tc : Thread Cert.FoxKv.nD Cert.FoxKv.τ).loc Cert.FoxKv.main_arg4))
      ∧ r.2.sem = fun _ => 0)

def quiescent_FoxKvIdeal [hFoxKvIdeal : Cert.FoxKvIdeal.Facts] : Prop :=
  ∀ (m : (ℓ : Loc Cert.FoxKvIdeal.nD Cert.FoxKvIdeal.τ Cert.FoxKvIdeal.sig) → Buf (Elt Ideal) ℓ) (g : Dev Cert.FoxKvIdeal.nD → PrngReg), Pre_FoxKvIdeal m →
    θ_run (Cert.FoxKvIdeal.defs (F := Ideal)) (onTc (τ := Cert.FoxKvIdeal.τ) (Cert.FoxKvIdeal.main (F := Ideal))) ⟨m, fun _ => 0, g⟩ (fun r => (∀ c : Dev Cert.FoxKvIdeal.nD,
      r.2.mem ((c.tc : Thread Cert.FoxKvIdeal.nD Cert.FoxKvIdeal.τ).loc Cert.FoxKvIdeal.main_arg0) = m ((c.tc : Thread Cert.FoxKvIdeal.nD Cert.FoxKvIdeal.τ).loc Cert.FoxKvIdeal.main_arg0)
      ∧ r.2.mem ((c.tc : Thread Cert.FoxKvIdeal.nD Cert.FoxKvIdeal.τ).loc Cert.FoxKvIdeal.main_arg1) = m ((c.tc : Thread Cert.FoxKvIdeal.nD Cert.FoxKvIdeal.τ).loc Cert.FoxKvIdeal.main_arg1)
      ∧ r.2.mem ((c.tc : Thread Cert.FoxKvIdeal.nD Cert.FoxKvIdeal.τ).loc Cert.FoxKvIdeal.main_arg2) = m ((c.tc : Thread Cert.FoxKvIdeal.nD Cert.FoxKvIdeal.τ).loc Cert.FoxKvIdeal.main_arg2)
      ∧ r.2.mem ((c.tc : Thread Cert.FoxKvIdeal.nD Cert.FoxKvIdeal.τ).loc Cert.FoxKvIdeal.main_arg3) = m ((c.tc : Thread Cert.FoxKvIdeal.nD Cert.FoxKvIdeal.τ).loc Cert.FoxKvIdeal.main_arg3)
      ∧ r.2.mem ((c.tc : Thread Cert.FoxKvIdeal.nD Cert.FoxKvIdeal.τ).loc Cert.FoxKvIdeal.main_arg4) = m ((c.tc : Thread Cert.FoxKvIdeal.nD Cert.FoxKvIdeal.τ).loc Cert.FoxKvIdeal.main_arg4))
      ∧ r.2.sem = fun _ => 0)

def quiescent_FoxKvIdeal_pre_finite_fox_kv [hFoxKvIdeal : Cert.FoxKvIdeal.Facts] [hPre_finite_fox_kv : Cert.Pre_finite_fox_kv.Facts] : Prop :=
  ∀ (m : (ℓ : Loc Cert.FoxKvIdeal.nD Cert.FoxKvIdeal.τ Cert.FoxKvIdeal.sig) → Buf (Elt Ideal) ℓ) (g : Dev Cert.FoxKvIdeal.nD → PrngReg), Pre_FoxKvIdeal_finite_fox_kv m →
    θ_run (Cert.FoxKvIdeal.defs (F := Ideal)) (onTc (τ := Cert.FoxKvIdeal.τ) (Cert.FoxKvIdeal.main (F := Ideal))) ⟨m, fun _ => 0, g⟩ (fun r => (∀ c : Dev Cert.FoxKvIdeal.nD,
      r.2.mem ((c.tc : Thread Cert.FoxKvIdeal.nD Cert.FoxKvIdeal.τ).loc Cert.FoxKvIdeal.main_arg0) = m ((c.tc : Thread Cert.FoxKvIdeal.nD Cert.FoxKvIdeal.τ).loc Cert.FoxKvIdeal.main_arg0)
      ∧ r.2.mem ((c.tc : Thread Cert.FoxKvIdeal.nD Cert.FoxKvIdeal.τ).loc Cert.FoxKvIdeal.main_arg1) = m ((c.tc : Thread Cert.FoxKvIdeal.nD Cert.FoxKvIdeal.τ).loc Cert.FoxKvIdeal.main_arg1)
      ∧ r.2.mem ((c.tc : Thread Cert.FoxKvIdeal.nD Cert.FoxKvIdeal.τ).loc Cert.FoxKvIdeal.main_arg2) = m ((c.tc : Thread Cert.FoxKvIdeal.nD Cert.FoxKvIdeal.τ).loc Cert.FoxKvIdeal.main_arg2)
      ∧ r.2.mem ((c.tc : Thread Cert.FoxKvIdeal.nD Cert.FoxKvIdeal.τ).loc Cert.FoxKvIdeal.main_arg3) = m ((c.tc : Thread Cert.FoxKvIdeal.nD Cert.FoxKvIdeal.τ).loc Cert.FoxKvIdeal.main_arg3)
      ∧ r.2.mem ((c.tc : Thread Cert.FoxKvIdeal.nD Cert.FoxKvIdeal.τ).loc Cert.FoxKvIdeal.main_arg4) = m ((c.tc : Thread Cert.FoxKvIdeal.nD Cert.FoxKvIdeal.τ).loc Cert.FoxKvIdeal.main_arg4))
      ∧ r.2.sem = fun _ => 0)

def quiescent_FoxKvRefIdeal [hFoxKvRefIdeal : Cert.FoxKvRefIdeal.Facts] : Prop :=
  ∀ (m : (ℓ : Loc Cert.FoxKvRefIdeal.nD Cert.FoxKvRefIdeal.τ Cert.FoxKvRefIdeal.sig) → Buf (Elt Ideal) ℓ) (g : Dev Cert.FoxKvRefIdeal.nD → PrngReg), Pre_FoxKvRefIdeal m →
    θ_run (Cert.FoxKvRefIdeal.defs (F := Ideal)) (onTc (τ := Cert.FoxKvRefIdeal.τ) (Cert.FoxKvRefIdeal.main (F := Ideal))) ⟨m, fun _ => 0, g⟩ (fun r => (∀ c : Dev Cert.FoxKvRefIdeal.nD,
      r.2.mem ((c.tc : Thread Cert.FoxKvRefIdeal.nD Cert.FoxKvRefIdeal.τ).loc Cert.FoxKvRefIdeal.main_arg0) = m ((c.tc : Thread Cert.FoxKvRefIdeal.nD Cert.FoxKvRefIdeal.τ).loc Cert.FoxKvRefIdeal.main_arg0)
      ∧ r.2.mem ((c.tc : Thread Cert.FoxKvRefIdeal.nD Cert.FoxKvRefIdeal.τ).loc Cert.FoxKvRefIdeal.main_arg1) = m ((c.tc : Thread Cert.FoxKvRefIdeal.nD Cert.FoxKvRefIdeal.τ).loc Cert.FoxKvRefIdeal.main_arg1)
      ∧ r.2.mem ((c.tc : Thread Cert.FoxKvRefIdeal.nD Cert.FoxKvRefIdeal.τ).loc Cert.FoxKvRefIdeal.main_arg2) = m ((c.tc : Thread Cert.FoxKvRefIdeal.nD Cert.FoxKvRefIdeal.τ).loc Cert.FoxKvRefIdeal.main_arg2)
      ∧ r.2.mem ((c.tc : Thread Cert.FoxKvRefIdeal.nD Cert.FoxKvRefIdeal.τ).loc Cert.FoxKvRefIdeal.main_arg3) = m ((c.tc : Thread Cert.FoxKvRefIdeal.nD Cert.FoxKvRefIdeal.τ).loc Cert.FoxKvRefIdeal.main_arg3)
      ∧ r.2.mem ((c.tc : Thread Cert.FoxKvRefIdeal.nD Cert.FoxKvRefIdeal.τ).loc Cert.FoxKvRefIdeal.main_arg4) = m ((c.tc : Thread Cert.FoxKvRefIdeal.nD Cert.FoxKvRefIdeal.τ).loc Cert.FoxKvRefIdeal.main_arg4))
      ∧ r.2.sem = fun _ => 0)

def quiescent_FoxKvRefIdeal_pre_finite_fox_kv [hFoxKvRefIdeal : Cert.FoxKvRefIdeal.Facts] [hPre_finite_fox_kv : Cert.Pre_finite_fox_kv.Facts] : Prop :=
  ∀ (m : (ℓ : Loc Cert.FoxKvRefIdeal.nD Cert.FoxKvRefIdeal.τ Cert.FoxKvRefIdeal.sig) → Buf (Elt Ideal) ℓ) (g : Dev Cert.FoxKvRefIdeal.nD → PrngReg), Pre_FoxKvRefIdeal_finite_fox_kv m →
    θ_run (Cert.FoxKvRefIdeal.defs (F := Ideal)) (onTc (τ := Cert.FoxKvRefIdeal.τ) (Cert.FoxKvRefIdeal.main (F := Ideal))) ⟨m, fun _ => 0, g⟩ (fun r => (∀ c : Dev Cert.FoxKvRefIdeal.nD,
      r.2.mem ((c.tc : Thread Cert.FoxKvRefIdeal.nD Cert.FoxKvRefIdeal.τ).loc Cert.FoxKvRefIdeal.main_arg0) = m ((c.tc : Thread Cert.FoxKvRefIdeal.nD Cert.FoxKvRefIdeal.τ).loc Cert.FoxKvRefIdeal.main_arg0)
      ∧ r.2.mem ((c.tc : Thread Cert.FoxKvRefIdeal.nD Cert.FoxKvRefIdeal.τ).loc Cert.FoxKvRefIdeal.main_arg1) = m ((c.tc : Thread Cert.FoxKvRefIdeal.nD Cert.FoxKvRefIdeal.τ).loc Cert.FoxKvRefIdeal.main_arg1)
      ∧ r.2.mem ((c.tc : Thread Cert.FoxKvRefIdeal.nD Cert.FoxKvRefIdeal.τ).loc Cert.FoxKvRefIdeal.main_arg2) = m ((c.tc : Thread Cert.FoxKvRefIdeal.nD Cert.FoxKvRefIdeal.τ).loc Cert.FoxKvRefIdeal.main_arg2)
      ∧ r.2.mem ((c.tc : Thread Cert.FoxKvRefIdeal.nD Cert.FoxKvRefIdeal.τ).loc Cert.FoxKvRefIdeal.main_arg3) = m ((c.tc : Thread Cert.FoxKvRefIdeal.nD Cert.FoxKvRefIdeal.τ).loc Cert.FoxKvRefIdeal.main_arg3)
      ∧ r.2.mem ((c.tc : Thread Cert.FoxKvRefIdeal.nD Cert.FoxKvRefIdeal.τ).loc Cert.FoxKvRefIdeal.main_arg4) = m ((c.tc : Thread Cert.FoxKvRefIdeal.nD Cert.FoxKvRefIdeal.τ).loc Cert.FoxKvRefIdeal.main_arg4))
      ∧ r.2.sem = fun _ => 0)

def quiescent_FoxQ [hFoxQ : Cert.FoxQ.Facts] : Prop :=
  ∀ (m : (ℓ : Loc Cert.FoxQ.nD Cert.FoxQ.τ Cert.FoxQ.sig) → Buf (Elt Bits) ℓ) (g : Dev Cert.FoxQ.nD → PrngReg), Pre_FoxQ m →
    θ_run (Cert.FoxQ.defs (F := Bits)) (onTc (τ := Cert.FoxQ.τ) (Cert.FoxQ.main (F := Bits))) ⟨m, fun _ => 0, g⟩ (fun r => (∀ c : Dev Cert.FoxQ.nD,
      r.2.mem ((c.tc : Thread Cert.FoxQ.nD Cert.FoxQ.τ).loc Cert.FoxQ.main_arg0) = m ((c.tc : Thread Cert.FoxQ.nD Cert.FoxQ.τ).loc Cert.FoxQ.main_arg0)
      ∧ r.2.mem ((c.tc : Thread Cert.FoxQ.nD Cert.FoxQ.τ).loc Cert.FoxQ.main_arg1) = m ((c.tc : Thread Cert.FoxQ.nD Cert.FoxQ.τ).loc Cert.FoxQ.main_arg1)
      ∧ r.2.mem ((c.tc : Thread Cert.FoxQ.nD Cert.FoxQ.τ).loc Cert.FoxQ.main_arg2) = m ((c.tc : Thread Cert.FoxQ.nD Cert.FoxQ.τ).loc Cert.FoxQ.main_arg2)
      ∧ r.2.mem ((c.tc : Thread Cert.FoxQ.nD Cert.FoxQ.τ).loc Cert.FoxQ.main_arg3) = m ((c.tc : Thread Cert.FoxQ.nD Cert.FoxQ.τ).loc Cert.FoxQ.main_arg3)
      ∧ r.2.mem ((c.tc : Thread Cert.FoxQ.nD Cert.FoxQ.τ).loc Cert.FoxQ.main_arg4) = m ((c.tc : Thread Cert.FoxQ.nD Cert.FoxQ.τ).loc Cert.FoxQ.main_arg4))
      ∧ r.2.sem = fun _ => 0)

def quiescent_FoxQIdeal [hFoxQIdeal : Cert.FoxQIdeal.Facts] : Prop :=
  ∀ (m : (ℓ : Loc Cert.FoxQIdeal.nD Cert.FoxQIdeal.τ Cert.FoxQIdeal.sig) → Buf (Elt Ideal) ℓ) (g : Dev Cert.FoxQIdeal.nD → PrngReg), Pre_FoxQIdeal m →
    θ_run (Cert.FoxQIdeal.defs (F := Ideal)) (onTc (τ := Cert.FoxQIdeal.τ) (Cert.FoxQIdeal.main (F := Ideal))) ⟨m, fun _ => 0, g⟩ (fun r => (∀ c : Dev Cert.FoxQIdeal.nD,
      r.2.mem ((c.tc : Thread Cert.FoxQIdeal.nD Cert.FoxQIdeal.τ).loc Cert.FoxQIdeal.main_arg0) = m ((c.tc : Thread Cert.FoxQIdeal.nD Cert.FoxQIdeal.τ).loc Cert.FoxQIdeal.main_arg0)
      ∧ r.2.mem ((c.tc : Thread Cert.FoxQIdeal.nD Cert.FoxQIdeal.τ).loc Cert.FoxQIdeal.main_arg1) = m ((c.tc : Thread Cert.FoxQIdeal.nD Cert.FoxQIdeal.τ).loc Cert.FoxQIdeal.main_arg1)
      ∧ r.2.mem ((c.tc : Thread Cert.FoxQIdeal.nD Cert.FoxQIdeal.τ).loc Cert.FoxQIdeal.main_arg2) = m ((c.tc : Thread Cert.FoxQIdeal.nD Cert.FoxQIdeal.τ).loc Cert.FoxQIdeal.main_arg2)
      ∧ r.2.mem ((c.tc : Thread Cert.FoxQIdeal.nD Cert.FoxQIdeal.τ).loc Cert.FoxQIdeal.main_arg3) = m ((c.tc : Thread Cert.FoxQIdeal.nD Cert.FoxQIdeal.τ).loc Cert.FoxQIdeal.main_arg3)
      ∧ r.2.mem ((c.tc : Thread Cert.FoxQIdeal.nD Cert.FoxQIdeal.τ).loc Cert.FoxQIdeal.main_arg4) = m ((c.tc : Thread Cert.FoxQIdeal.nD Cert.FoxQIdeal.τ).loc Cert.FoxQIdeal.main_arg4))
      ∧ r.2.sem = fun _ => 0)

def quiescent_FoxQIdeal_pre_finite_fox_kv [hFoxQIdeal : Cert.FoxQIdeal.Facts] [hPre_finite_fox_kv : Cert.Pre_finite_fox_kv.Facts] : Prop :=
  ∀ (m : (ℓ : Loc Cert.FoxQIdeal.nD Cert.FoxQIdeal.τ Cert.FoxQIdeal.sig) → Buf (Elt Ideal) ℓ) (g : Dev Cert.FoxQIdeal.nD → PrngReg), Pre_FoxQIdeal_finite_fox_kv m →
    θ_run (Cert.FoxQIdeal.defs (F := Ideal)) (onTc (τ := Cert.FoxQIdeal.τ) (Cert.FoxQIdeal.main (F := Ideal))) ⟨m, fun _ => 0, g⟩ (fun r => (∀ c : Dev Cert.FoxQIdeal.nD,
      r.2.mem ((c.tc : Thread Cert.FoxQIdeal.nD Cert.FoxQIdeal.τ).loc Cert.FoxQIdeal.main_arg0) = m ((c.tc : Thread Cert.FoxQIdeal.nD Cert.FoxQIdeal.τ).loc Cert.FoxQIdeal.main_arg0)
      ∧ r.2.mem ((c.tc : Thread Cert.FoxQIdeal.nD Cert.FoxQIdeal.τ).loc Cert.FoxQIdeal.main_arg1) = m ((c.tc : Thread Cert.FoxQIdeal.nD Cert.FoxQIdeal.τ).loc Cert.FoxQIdeal.main_arg1)
      ∧ r.2.mem ((c.tc : Thread Cert.FoxQIdeal.nD Cert.FoxQIdeal.τ).loc Cert.FoxQIdeal.main_arg2) = m ((c.tc : Thread Cert.FoxQIdeal.nD Cert.FoxQIdeal.τ).loc Cert.FoxQIdeal.main_arg2)
      ∧ r.2.mem ((c.tc : Thread Cert.FoxQIdeal.nD Cert.FoxQIdeal.τ).loc Cert.FoxQIdeal.main_arg3) = m ((c.tc : Thread Cert.FoxQIdeal.nD Cert.FoxQIdeal.τ).loc Cert.FoxQIdeal.main_arg3)
      ∧ r.2.mem ((c.tc : Thread Cert.FoxQIdeal.nD Cert.FoxQIdeal.τ).loc Cert.FoxQIdeal.main_arg4) = m ((c.tc : Thread Cert.FoxQIdeal.nD Cert.FoxQIdeal.τ).loc Cert.FoxQIdeal.main_arg4))
      ∧ r.2.sem = fun _ => 0)

def quiescent_FoxQRefIdeal [hFoxQRefIdeal : Cert.FoxQRefIdeal.Facts] : Prop :=
  ∀ (m : (ℓ : Loc Cert.FoxQRefIdeal.nD Cert.FoxQRefIdeal.τ Cert.FoxQRefIdeal.sig) → Buf (Elt Ideal) ℓ) (g : Dev Cert.FoxQRefIdeal.nD → PrngReg), Pre_FoxQRefIdeal m →
    θ_run (Cert.FoxQRefIdeal.defs (F := Ideal)) (onTc (τ := Cert.FoxQRefIdeal.τ) (Cert.FoxQRefIdeal.main (F := Ideal))) ⟨m, fun _ => 0, g⟩ (fun r => (∀ c : Dev Cert.FoxQRefIdeal.nD,
      r.2.mem ((c.tc : Thread Cert.FoxQRefIdeal.nD Cert.FoxQRefIdeal.τ).loc Cert.FoxQRefIdeal.main_arg0) = m ((c.tc : Thread Cert.FoxQRefIdeal.nD Cert.FoxQRefIdeal.τ).loc Cert.FoxQRefIdeal.main_arg0)
      ∧ r.2.mem ((c.tc : Thread Cert.FoxQRefIdeal.nD Cert.FoxQRefIdeal.τ).loc Cert.FoxQRefIdeal.main_arg1) = m ((c.tc : Thread Cert.FoxQRefIdeal.nD Cert.FoxQRefIdeal.τ).loc Cert.FoxQRefIdeal.main_arg1)
      ∧ r.2.mem ((c.tc : Thread Cert.FoxQRefIdeal.nD Cert.FoxQRefIdeal.τ).loc Cert.FoxQRefIdeal.main_arg2) = m ((c.tc : Thread Cert.FoxQRefIdeal.nD Cert.FoxQRefIdeal.τ).loc Cert.FoxQRefIdeal.main_arg2)
      ∧ r.2.mem ((c.tc : Thread Cert.FoxQRefIdeal.nD Cert.FoxQRefIdeal.τ).loc Cert.FoxQRefIdeal.main_arg3) = m ((c.tc : Thread Cert.FoxQRefIdeal.nD Cert.FoxQRefIdeal.τ).loc Cert.FoxQRefIdeal.main_arg3)
      ∧ r.2.mem ((c.tc : Thread Cert.FoxQRefIdeal.nD Cert.FoxQRefIdeal.τ).loc Cert.FoxQRefIdeal.main_arg4) = m ((c.tc : Thread Cert.FoxQRefIdeal.nD Cert.FoxQRefIdeal.τ).loc Cert.FoxQRefIdeal.main_arg4))
      ∧ r.2.sem = fun _ => 0)

def quiescent_FoxQRefIdeal_pre_finite_fox_kv [hFoxQRefIdeal : Cert.FoxQRefIdeal.Facts] [hPre_finite_fox_kv : Cert.Pre_finite_fox_kv.Facts] : Prop :=
  ∀ (m : (ℓ : Loc Cert.FoxQRefIdeal.nD Cert.FoxQRefIdeal.τ Cert.FoxQRefIdeal.sig) → Buf (Elt Ideal) ℓ) (g : Dev Cert.FoxQRefIdeal.nD → PrngReg), Pre_FoxQRefIdeal_finite_fox_kv m →
    θ_run (Cert.FoxQRefIdeal.defs (F := Ideal)) (onTc (τ := Cert.FoxQRefIdeal.τ) (Cert.FoxQRefIdeal.main (F := Ideal))) ⟨m, fun _ => 0, g⟩ (fun r => (∀ c : Dev Cert.FoxQRefIdeal.nD,
      r.2.mem ((c.tc : Thread Cert.FoxQRefIdeal.nD Cert.FoxQRefIdeal.τ).loc Cert.FoxQRefIdeal.main_arg0) = m ((c.tc : Thread Cert.FoxQRefIdeal.nD Cert.FoxQRefIdeal.τ).loc Cert.FoxQRefIdeal.main_arg0)
      ∧ r.2.mem ((c.tc : Thread Cert.FoxQRefIdeal.nD Cert.FoxQRefIdeal.τ).loc Cert.FoxQRefIdeal.main_arg1) = m ((c.tc : Thread Cert.FoxQRefIdeal.nD Cert.FoxQRefIdeal.τ).loc Cert.FoxQRefIdeal.main_arg1)
      ∧ r.2.mem ((c.tc : Thread Cert.FoxQRefIdeal.nD Cert.FoxQRefIdeal.τ).loc Cert.FoxQRefIdeal.main_arg2) = m ((c.tc : Thread Cert.FoxQRefIdeal.nD Cert.FoxQRefIdeal.τ).loc Cert.FoxQRefIdeal.main_arg2)
      ∧ r.2.mem ((c.tc : Thread Cert.FoxQRefIdeal.nD Cert.FoxQRefIdeal.τ).loc Cert.FoxQRefIdeal.main_arg3) = m ((c.tc : Thread Cert.FoxQRefIdeal.nD Cert.FoxQRefIdeal.τ).loc Cert.FoxQRefIdeal.main_arg3)
      ∧ r.2.mem ((c.tc : Thread Cert.FoxQRefIdeal.nD Cert.FoxQRefIdeal.τ).loc Cert.FoxQRefIdeal.main_arg4) = m ((c.tc : Thread Cert.FoxQRefIdeal.nD Cert.FoxQRefIdeal.τ).loc Cert.FoxQRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_KvPost [hKvPost : Cert.KvPost.Facts] : Prop :=
  ∀ (m : (ℓ : Loc Cert.KvPost.nD Cert.KvPost.τ Cert.KvPost.sig) → Buf (Elt Bits) ℓ) (g : Dev Cert.KvPost.nD → PrngReg), Pre_KvPost m →
    θ_run (Cert.KvPost.defs (F := Bits)) (onTc (τ := Cert.KvPost.τ) (Cert.KvPost.main (F := Bits))) ⟨m, fun _ => 0, g⟩ (fun r => (∀ c : Dev Cert.KvPost.nD,
      r.2.mem ((c.tc : Thread Cert.KvPost.nD Cert.KvPost.τ).loc Cert.KvPost.main_arg0) = m ((c.tc : Thread Cert.KvPost.nD Cert.KvPost.τ).loc Cert.KvPost.main_arg0)
      ∧ r.2.mem ((c.tc : Thread Cert.KvPost.nD Cert.KvPost.τ).loc Cert.KvPost.main_arg1) = m ((c.tc : Thread Cert.KvPost.nD Cert.KvPost.τ).loc Cert.KvPost.main_arg1)
      ∧ r.2.mem ((c.tc : Thread Cert.KvPost.nD Cert.KvPost.τ).loc Cert.KvPost.main_arg2) = m ((c.tc : Thread Cert.KvPost.nD Cert.KvPost.τ).loc Cert.KvPost.main_arg2)
      ∧ r.2.mem ((c.tc : Thread Cert.KvPost.nD Cert.KvPost.τ).loc Cert.KvPost.main_arg3) = m ((c.tc : Thread Cert.KvPost.nD Cert.KvPost.τ).loc Cert.KvPost.main_arg3)
      ∧ r.2.mem ((c.tc : Thread Cert.KvPost.nD Cert.KvPost.τ).loc Cert.KvPost.main_arg4) = m ((c.tc : Thread Cert.KvPost.nD Cert.KvPost.τ).loc Cert.KvPost.main_arg4)
      ∧ r.2.mem ((c.tc : Thread Cert.KvPost.nD Cert.KvPost.τ).loc Cert.KvPost.main_arg5) = m ((c.tc : Thread Cert.KvPost.nD Cert.KvPost.τ).loc Cert.KvPost.main_arg5)
      ∧ r.2.mem ((c.tc : Thread Cert.KvPost.nD Cert.KvPost.τ).loc Cert.KvPost.main_arg6) = m ((c.tc : Thread Cert.KvPost.nD Cert.KvPost.τ).loc Cert.KvPost.main_arg6))
      ∧ r.2.sem = fun _ => 0)

def quiescent_KvPostIdeal [hKvPostIdeal : Cert.KvPostIdeal.Facts] : Prop :=
  ∀ (m : (ℓ : Loc Cert.KvPostIdeal.nD Cert.KvPostIdeal.τ Cert.KvPostIdeal.sig) → Buf (Elt Ideal) ℓ) (g : Dev Cert.KvPostIdeal.nD → PrngReg), Pre_KvPostIdeal m →
    θ_run (Cert.KvPostIdeal.defs (F := Ideal)) (onTc (τ := Cert.KvPostIdeal.τ) (Cert.KvPostIdeal.main (F := Ideal))) ⟨m, fun _ => 0, g⟩ (fun r => (∀ c : Dev Cert.KvPostIdeal.nD,
      r.2.mem ((c.tc : Thread Cert.KvPostIdeal.nD Cert.KvPostIdeal.τ).loc Cert.KvPostIdeal.main_arg0) = m ((c.tc : Thread Cert.KvPostIdeal.nD Cert.KvPostIdeal.τ).loc Cert.KvPostIdeal.main_arg0)
      ∧ r.2.mem ((c.tc : Thread Cert.KvPostIdeal.nD Cert.KvPostIdeal.τ).loc Cert.KvPostIdeal.main_arg1) = m ((c.tc : Thread Cert.KvPostIdeal.nD Cert.KvPostIdeal.τ).loc Cert.KvPostIdeal.main_arg1)
      ∧ r.2.mem ((c.tc : Thread Cert.KvPostIdeal.nD Cert.KvPostIdeal.τ).loc Cert.KvPostIdeal.main_arg2) = m ((c.tc : Thread Cert.KvPostIdeal.nD Cert.KvPostIdeal.τ).loc Cert.KvPostIdeal.main_arg2)
      ∧ r.2.mem ((c.tc : Thread Cert.KvPostIdeal.nD Cert.KvPostIdeal.τ).loc Cert.KvPostIdeal.main_arg3) = m ((c.tc : Thread Cert.KvPostIdeal.nD Cert.KvPostIdeal.τ).loc Cert.KvPostIdeal.main_arg3)
      ∧ r.2.mem ((c.tc : Thread Cert.KvPostIdeal.nD Cert.KvPostIdeal.τ).loc Cert.KvPostIdeal.main_arg4) = m ((c.tc : Thread Cert.KvPostIdeal.nD Cert.KvPostIdeal.τ).loc Cert.KvPostIdeal.main_arg4)
      ∧ r.2.mem ((c.tc : Thread Cert.KvPostIdeal.nD Cert.KvPostIdeal.τ).loc Cert.KvPostIdeal.main_arg5) = m ((c.tc : Thread Cert.KvPostIdeal.nD Cert.KvPostIdeal.τ).loc Cert.KvPostIdeal.main_arg5)
      ∧ r.2.mem ((c.tc : Thread Cert.KvPostIdeal.nD Cert.KvPostIdeal.τ).loc Cert.KvPostIdeal.main_arg6) = m ((c.tc : Thread Cert.KvPostIdeal.nD Cert.KvPostIdeal.τ).loc Cert.KvPostIdeal.main_arg6))
      ∧ r.2.sem = fun _ => 0)

def quiescent_KvPostIdeal_pre_regular_kv_post [hKvPostIdeal : Cert.KvPostIdeal.Facts] [hPre_regular_kv_post : Cert.Pre_regular_kv_post.Facts] : Prop :=
  ∀ (m : (ℓ : Loc Cert.KvPostIdeal.nD Cert.KvPostIdeal.τ Cert.KvPostIdeal.sig) → Buf (Elt Ideal) ℓ) (g : Dev Cert.KvPostIdeal.nD → PrngReg), Pre_KvPostIdeal_regular_kv_post m →
    θ_run (Cert.KvPostIdeal.defs (F := Ideal)) (onTc (τ := Cert.KvPostIdeal.τ) (Cert.KvPostIdeal.main (F := Ideal))) ⟨m, fun _ => 0, g⟩ (fun r => (∀ c : Dev Cert.KvPostIdeal.nD,
      r.2.mem ((c.tc : Thread Cert.KvPostIdeal.nD Cert.KvPostIdeal.τ).loc Cert.KvPostIdeal.main_arg0) = m ((c.tc : Thread Cert.KvPostIdeal.nD Cert.KvPostIdeal.τ).loc Cert.KvPostIdeal.main_arg0)
      ∧ r.2.mem ((c.tc : Thread Cert.KvPostIdeal.nD Cert.KvPostIdeal.τ).loc Cert.KvPostIdeal.main_arg1) = m ((c.tc : Thread Cert.KvPostIdeal.nD Cert.KvPostIdeal.τ).loc Cert.KvPostIdeal.main_arg1)
      ∧ r.2.mem ((c.tc : Thread Cert.KvPostIdeal.nD Cert.KvPostIdeal.τ).loc Cert.KvPostIdeal.main_arg2) = m ((c.tc : Thread Cert.KvPostIdeal.nD Cert.KvPostIdeal.τ).loc Cert.KvPostIdeal.main_arg2)
      ∧ r.2.mem ((c.tc : Thread Cert.KvPostIdeal.nD Cert.KvPostIdeal.τ).loc Cert.KvPostIdeal.main_arg3) = m ((c.tc : Thread Cert.KvPostIdeal.nD Cert.KvPostIdeal.τ).loc Cert.KvPostIdeal.main_arg3)
      ∧ r.2.mem ((c.tc : Thread Cert.KvPostIdeal.nD Cert.KvPostIdeal.τ).loc Cert.KvPostIdeal.main_arg4) = m ((c.tc : Thread Cert.KvPostIdeal.nD Cert.KvPostIdeal.τ).loc Cert.KvPostIdeal.main_arg4)
      ∧ r.2.mem ((c.tc : Thread Cert.KvPostIdeal.nD Cert.KvPostIdeal.τ).loc Cert.KvPostIdeal.main_arg5) = m ((c.tc : Thread Cert.KvPostIdeal.nD Cert.KvPostIdeal.τ).loc Cert.KvPostIdeal.main_arg5)
      ∧ r.2.mem ((c.tc : Thread Cert.KvPostIdeal.nD Cert.KvPostIdeal.τ).loc Cert.KvPostIdeal.main_arg6) = m ((c.tc : Thread Cert.KvPostIdeal.nD Cert.KvPostIdeal.τ).loc Cert.KvPostIdeal.main_arg6))
      ∧ r.2.sem = fun _ => 0)

def quiescent_KvPostRefIdeal [hKvPostRefIdeal : Cert.KvPostRefIdeal.Facts] : Prop :=
  ∀ (m : (ℓ : Loc Cert.KvPostRefIdeal.nD Cert.KvPostRefIdeal.τ Cert.KvPostRefIdeal.sig) → Buf (Elt Ideal) ℓ) (g : Dev Cert.KvPostRefIdeal.nD → PrngReg), Pre_KvPostRefIdeal m →
    θ_run (Cert.KvPostRefIdeal.defs (F := Ideal)) (onTc (τ := Cert.KvPostRefIdeal.τ) (Cert.KvPostRefIdeal.main (F := Ideal))) ⟨m, fun _ => 0, g⟩ (fun r => (∀ c : Dev Cert.KvPostRefIdeal.nD,
      r.2.mem ((c.tc : Thread Cert.KvPostRefIdeal.nD Cert.KvPostRefIdeal.τ).loc Cert.KvPostRefIdeal.main_arg0) = m ((c.tc : Thread Cert.KvPostRefIdeal.nD Cert.KvPostRefIdeal.τ).loc Cert.KvPostRefIdeal.main_arg0)
      ∧ r.2.mem ((c.tc : Thread Cert.KvPostRefIdeal.nD Cert.KvPostRefIdeal.τ).loc Cert.KvPostRefIdeal.main_arg1) = m ((c.tc : Thread Cert.KvPostRefIdeal.nD Cert.KvPostRefIdeal.τ).loc Cert.KvPostRefIdeal.main_arg1)
      ∧ r.2.mem ((c.tc : Thread Cert.KvPostRefIdeal.nD Cert.KvPostRefIdeal.τ).loc Cert.KvPostRefIdeal.main_arg2) = m ((c.tc : Thread Cert.KvPostRefIdeal.nD Cert.KvPostRefIdeal.τ).loc Cert.KvPostRefIdeal.main_arg2)
      ∧ r.2.mem ((c.tc : Thread Cert.KvPostRefIdeal.nD Cert.KvPostRefIdeal.τ).loc Cert.KvPostRefIdeal.main_arg3) = m ((c.tc : Thread Cert.KvPostRefIdeal.nD Cert.KvPostRefIdeal.τ).loc Cert.KvPostRefIdeal.main_arg3)
      ∧ r.2.mem ((c.tc : Thread Cert.KvPostRefIdeal.nD Cert.KvPostRefIdeal.τ).loc Cert.KvPostRefIdeal.main_arg4) = m ((c.tc : Thread Cert.KvPostRefIdeal.nD Cert.KvPostRefIdeal.τ).loc Cert.KvPostRefIdeal.main_arg4)
      ∧ r.2.mem ((c.tc : Thread Cert.KvPostRefIdeal.nD Cert.KvPostRefIdeal.τ).loc Cert.KvPostRefIdeal.main_arg5) = m ((c.tc : Thread Cert.KvPostRefIdeal.nD Cert.KvPostRefIdeal.τ).loc Cert.KvPostRefIdeal.main_arg5)
      ∧ r.2.mem ((c.tc : Thread Cert.KvPostRefIdeal.nD Cert.KvPostRefIdeal.τ).loc Cert.KvPostRefIdeal.main_arg6) = m ((c.tc : Thread Cert.KvPostRefIdeal.nD Cert.KvPostRefIdeal.τ).loc Cert.KvPostRefIdeal.main_arg6))
      ∧ r.2.sem = fun _ => 0)

def quiescent_KvPostRefIdeal_pre_regular_kv_post [hKvPostRefIdeal : Cert.KvPostRefIdeal.Facts] [hPre_regular_kv_post : Cert.Pre_regular_kv_post.Facts] : Prop :=
  ∀ (m : (ℓ : Loc Cert.KvPostRefIdeal.nD Cert.KvPostRefIdeal.τ Cert.KvPostRefIdeal.sig) → Buf (Elt Ideal) ℓ) (g : Dev Cert.KvPostRefIdeal.nD → PrngReg), Pre_KvPostRefIdeal_regular_kv_post m →
    θ_run (Cert.KvPostRefIdeal.defs (F := Ideal)) (onTc (τ := Cert.KvPostRefIdeal.τ) (Cert.KvPostRefIdeal.main (F := Ideal))) ⟨m, fun _ => 0, g⟩ (fun r => (∀ c : Dev Cert.KvPostRefIdeal.nD,
      r.2.mem ((c.tc : Thread Cert.KvPostRefIdeal.nD Cert.KvPostRefIdeal.τ).loc Cert.KvPostRefIdeal.main_arg0) = m ((c.tc : Thread Cert.KvPostRefIdeal.nD Cert.KvPostRefIdeal.τ).loc Cert.KvPostRefIdeal.main_arg0)
      ∧ r.2.mem ((c.tc : Thread Cert.KvPostRefIdeal.nD Cert.KvPostRefIdeal.τ).loc Cert.KvPostRefIdeal.main_arg1) = m ((c.tc : Thread Cert.KvPostRefIdeal.nD Cert.KvPostRefIdeal.τ).loc Cert.KvPostRefIdeal.main_arg1)
      ∧ r.2.mem ((c.tc : Thread Cert.KvPostRefIdeal.nD Cert.KvPostRefIdeal.τ).loc Cert.KvPostRefIdeal.main_arg2) = m ((c.tc : Thread Cert.KvPostRefIdeal.nD Cert.KvPostRefIdeal.τ).loc Cert.KvPostRefIdeal.main_arg2)
      ∧ r.2.mem ((c.tc : Thread Cert.KvPostRefIdeal.nD Cert.KvPostRefIdeal.τ).loc Cert.KvPostRefIdeal.main_arg3) = m ((c.tc : Thread Cert.KvPostRefIdeal.nD Cert.KvPostRefIdeal.τ).loc Cert.KvPostRefIdeal.main_arg3)
      ∧ r.2.mem ((c.tc : Thread Cert.KvPostRefIdeal.nD Cert.KvPostRefIdeal.τ).loc Cert.KvPostRefIdeal.main_arg4) = m ((c.tc : Thread Cert.KvPostRefIdeal.nD Cert.KvPostRefIdeal.τ).loc Cert.KvPostRefIdeal.main_arg4)
      ∧ r.2.mem ((c.tc : Thread Cert.KvPostRefIdeal.nD Cert.KvPostRefIdeal.τ).loc Cert.KvPostRefIdeal.main_arg5) = m ((c.tc : Thread Cert.KvPostRefIdeal.nD Cert.KvPostRefIdeal.τ).loc Cert.KvPostRefIdeal.main_arg5)
      ∧ r.2.mem ((c.tc : Thread Cert.KvPostRefIdeal.nD Cert.KvPostRefIdeal.τ).loc Cert.KvPostRefIdeal.main_arg6) = m ((c.tc : Thread Cert.KvPostRefIdeal.nD Cert.KvPostRefIdeal.τ).loc Cert.KvPostRefIdeal.main_arg6))
      ∧ r.2.sem = fun _ => 0)

def quiescent_GdnPre [hGdnPre : Cert.GdnPre.Facts] : Prop :=
  ∀ (m : (ℓ : Loc Cert.GdnPre.nD Cert.GdnPre.τ Cert.GdnPre.sig) → Buf (Elt Bits) ℓ) (g : Dev Cert.GdnPre.nD → PrngReg), Pre_GdnPre m →
    θ_run (Cert.GdnPre.defs (F := Bits)) (onTc (τ := Cert.GdnPre.τ) (Cert.GdnPre.main (F := Bits))) ⟨m, fun _ => 0, g⟩ (fun r => (∀ c : Dev Cert.GdnPre.nD,
      r.2.mem ((c.tc : Thread Cert.GdnPre.nD Cert.GdnPre.τ).loc Cert.GdnPre.main_arg0) = m ((c.tc : Thread Cert.GdnPre.nD Cert.GdnPre.τ).loc Cert.GdnPre.main_arg0)
      ∧ r.2.mem ((c.tc : Thread Cert.GdnPre.nD Cert.GdnPre.τ).loc Cert.GdnPre.main_arg1) = m ((c.tc : Thread Cert.GdnPre.nD Cert.GdnPre.τ).loc Cert.GdnPre.main_arg1)
      ∧ r.2.mem ((c.tc : Thread Cert.GdnPre.nD Cert.GdnPre.τ).loc Cert.GdnPre.main_arg2) = m ((c.tc : Thread Cert.GdnPre.nD Cert.GdnPre.τ).loc Cert.GdnPre.main_arg2)
      ∧ r.2.mem ((c.tc : Thread Cert.GdnPre.nD Cert.GdnPre.τ).loc Cert.GdnPre.main_arg3) = m ((c.tc : Thread Cert.GdnPre.nD Cert.GdnPre.τ).loc Cert.GdnPre.main_arg3)
      ∧ r.2.mem ((c.tc : Thread Cert.GdnPre.nD Cert.GdnPre.τ).loc Cert.GdnPre.main_arg4) = m ((c.tc : Thread Cert.GdnPre.nD Cert.GdnPre.τ).loc Cert.GdnPre.main_arg4)
      ∧ r.2.mem ((c.tc : Thread Cert.GdnPre.nD Cert.GdnPre.τ).loc Cert.GdnPre.main_arg5) = m ((c.tc : Thread Cert.GdnPre.nD Cert.GdnPre.τ).loc Cert.GdnPre.main_arg5)
      ∧ r.2.mem ((c.tc : Thread Cert.GdnPre.nD Cert.GdnPre.τ).loc Cert.GdnPre.main_arg6) = m ((c.tc : Thread Cert.GdnPre.nD Cert.GdnPre.τ).loc Cert.GdnPre.main_arg6)
      ∧ r.2.mem ((c.tc : Thread Cert.GdnPre.nD Cert.GdnPre.τ).loc Cert.GdnPre.main_arg7) = m ((c.tc : Thread Cert.GdnPre.nD Cert.GdnPre.τ).loc Cert.GdnPre.main_arg7)
      ∧ r.2.mem ((c.tc : Thread Cert.GdnPre.nD Cert.GdnPre.τ).loc Cert.GdnPre.main_arg8) = m ((c.tc : Thread Cert.GdnPre.nD Cert.GdnPre.τ).loc Cert.GdnPre.main_arg8))
      ∧ r.2.sem = fun _ => 0)

def quiescent_GdnPreIdeal [hGdnPreIdeal : Cert.GdnPreIdeal.Facts] : Prop :=
  ∀ (m : (ℓ : Loc Cert.GdnPreIdeal.nD Cert.GdnPreIdeal.τ Cert.GdnPreIdeal.sig) → Buf (Elt Ideal) ℓ) (g : Dev Cert.GdnPreIdeal.nD → PrngReg), Pre_GdnPreIdeal m →
    θ_run (Cert.GdnPreIdeal.defs (F := Ideal)) (onTc (τ := Cert.GdnPreIdeal.τ) (Cert.GdnPreIdeal.main (F := Ideal))) ⟨m, fun _ => 0, g⟩ (fun r => (∀ c : Dev Cert.GdnPreIdeal.nD,
      r.2.mem ((c.tc : Thread Cert.GdnPreIdeal.nD Cert.GdnPreIdeal.τ).loc Cert.GdnPreIdeal.main_arg0) = m ((c.tc : Thread Cert.GdnPreIdeal.nD Cert.GdnPreIdeal.τ).loc Cert.GdnPreIdeal.main_arg0)
      ∧ r.2.mem ((c.tc : Thread Cert.GdnPreIdeal.nD Cert.GdnPreIdeal.τ).loc Cert.GdnPreIdeal.main_arg1) = m ((c.tc : Thread Cert.GdnPreIdeal.nD Cert.GdnPreIdeal.τ).loc Cert.GdnPreIdeal.main_arg1)
      ∧ r.2.mem ((c.tc : Thread Cert.GdnPreIdeal.nD Cert.GdnPreIdeal.τ).loc Cert.GdnPreIdeal.main_arg2) = m ((c.tc : Thread Cert.GdnPreIdeal.nD Cert.GdnPreIdeal.τ).loc Cert.GdnPreIdeal.main_arg2)
      ∧ r.2.mem ((c.tc : Thread Cert.GdnPreIdeal.nD Cert.GdnPreIdeal.τ).loc Cert.GdnPreIdeal.main_arg3) = m ((c.tc : Thread Cert.GdnPreIdeal.nD Cert.GdnPreIdeal.τ).loc Cert.GdnPreIdeal.main_arg3)
      ∧ r.2.mem ((c.tc : Thread Cert.GdnPreIdeal.nD Cert.GdnPreIdeal.τ).loc Cert.GdnPreIdeal.main_arg4) = m ((c.tc : Thread Cert.GdnPreIdeal.nD Cert.GdnPreIdeal.τ).loc Cert.GdnPreIdeal.main_arg4)
      ∧ r.2.mem ((c.tc : Thread Cert.GdnPreIdeal.nD Cert.GdnPreIdeal.τ).loc Cert.GdnPreIdeal.main_arg5) = m ((c.tc : Thread Cert.GdnPreIdeal.nD Cert.GdnPreIdeal.τ).loc Cert.GdnPreIdeal.main_arg5)
      ∧ r.2.mem ((c.tc : Thread Cert.GdnPreIdeal.nD Cert.GdnPreIdeal.τ).loc Cert.GdnPreIdeal.main_arg6) = m ((c.tc : Thread Cert.GdnPreIdeal.nD Cert.GdnPreIdeal.τ).loc Cert.GdnPreIdeal.main_arg6)
      ∧ r.2.mem ((c.tc : Thread Cert.GdnPreIdeal.nD Cert.GdnPreIdeal.τ).loc Cert.GdnPreIdeal.main_arg7) = m ((c.tc : Thread Cert.GdnPreIdeal.nD Cert.GdnPreIdeal.τ).loc Cert.GdnPreIdeal.main_arg7)
      ∧ r.2.mem ((c.tc : Thread Cert.GdnPreIdeal.nD Cert.GdnPreIdeal.τ).loc Cert.GdnPreIdeal.main_arg8) = m ((c.tc : Thread Cert.GdnPreIdeal.nD Cert.GdnPreIdeal.τ).loc Cert.GdnPreIdeal.main_arg8))
      ∧ r.2.sem = fun _ => 0)

def quiescent_GdnPreRefIdeal [hGdnPreRefIdeal : Cert.GdnPreRefIdeal.Facts] : Prop :=
  ∀ (m : (ℓ : Loc Cert.GdnPreRefIdeal.nD Cert.GdnPreRefIdeal.τ Cert.GdnPreRefIdeal.sig) → Buf (Elt Ideal) ℓ) (g : Dev Cert.GdnPreRefIdeal.nD → PrngReg), Pre_GdnPreRefIdeal m →
    θ_run (Cert.GdnPreRefIdeal.defs (F := Ideal)) (onTc (τ := Cert.GdnPreRefIdeal.τ) (Cert.GdnPreRefIdeal.main (F := Ideal))) ⟨m, fun _ => 0, g⟩ (fun r => (∀ c : Dev Cert.GdnPreRefIdeal.nD,
      r.2.mem ((c.tc : Thread Cert.GdnPreRefIdeal.nD Cert.GdnPreRefIdeal.τ).loc Cert.GdnPreRefIdeal.main_arg0) = m ((c.tc : Thread Cert.GdnPreRefIdeal.nD Cert.GdnPreRefIdeal.τ).loc Cert.GdnPreRefIdeal.main_arg0)
      ∧ r.2.mem ((c.tc : Thread Cert.GdnPreRefIdeal.nD Cert.GdnPreRefIdeal.τ).loc Cert.GdnPreRefIdeal.main_arg1) = m ((c.tc : Thread Cert.GdnPreRefIdeal.nD Cert.GdnPreRefIdeal.τ).loc Cert.GdnPreRefIdeal.main_arg1)
      ∧ r.2.mem ((c.tc : Thread Cert.GdnPreRefIdeal.nD Cert.GdnPreRefIdeal.τ).loc Cert.GdnPreRefIdeal.main_arg2) = m ((c.tc : Thread Cert.GdnPreRefIdeal.nD Cert.GdnPreRefIdeal.τ).loc Cert.GdnPreRefIdeal.main_arg2)
      ∧ r.2.mem ((c.tc : Thread Cert.GdnPreRefIdeal.nD Cert.GdnPreRefIdeal.τ).loc Cert.GdnPreRefIdeal.main_arg3) = m ((c.tc : Thread Cert.GdnPreRefIdeal.nD Cert.GdnPreRefIdeal.τ).loc Cert.GdnPreRefIdeal.main_arg3)
      ∧ r.2.mem ((c.tc : Thread Cert.GdnPreRefIdeal.nD Cert.GdnPreRefIdeal.τ).loc Cert.GdnPreRefIdeal.main_arg4) = m ((c.tc : Thread Cert.GdnPreRefIdeal.nD Cert.GdnPreRefIdeal.τ).loc Cert.GdnPreRefIdeal.main_arg4)
      ∧ r.2.mem ((c.tc : Thread Cert.GdnPreRefIdeal.nD Cert.GdnPreRefIdeal.τ).loc Cert.GdnPreRefIdeal.main_arg5) = m ((c.tc : Thread Cert.GdnPreRefIdeal.nD Cert.GdnPreRefIdeal.τ).loc Cert.GdnPreRefIdeal.main_arg5)
      ∧ r.2.mem ((c.tc : Thread Cert.GdnPreRefIdeal.nD Cert.GdnPreRefIdeal.τ).loc Cert.GdnPreRefIdeal.main_arg6) = m ((c.tc : Thread Cert.GdnPreRefIdeal.nD Cert.GdnPreRefIdeal.τ).loc Cert.GdnPreRefIdeal.main_arg6)
      ∧ r.2.mem ((c.tc : Thread Cert.GdnPreRefIdeal.nD Cert.GdnPreRefIdeal.τ).loc Cert.GdnPreRefIdeal.main_arg7) = m ((c.tc : Thread Cert.GdnPreRefIdeal.nD Cert.GdnPreRefIdeal.τ).loc Cert.GdnPreRefIdeal.main_arg7)
      ∧ r.2.mem ((c.tc : Thread Cert.GdnPreRefIdeal.nD Cert.GdnPreRefIdeal.τ).loc Cert.GdnPreRefIdeal.main_arg8) = m ((c.tc : Thread Cert.GdnPreRefIdeal.nD Cert.GdnPreRefIdeal.τ).loc Cert.GdnPreRefIdeal.main_arg8))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryIdeal_pre_finite_mem [hMemoryIdeal : Cert.MemoryIdeal.Facts] [hPre_finite_mem : Cert.Pre_finite_mem.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal_finite_mem m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_MemoryRefIdeal_pre_finite_mem [hMemoryRefIdeal : Cert.MemoryRefIdeal.Facts] [hPre_finite_mem : Cert.Pre_finite_mem.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal_finite_mem m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_GdnPost [hGdnPost : Cert.GdnPost.Facts] : Prop :=
  ∀ (m : (ℓ : Loc Cert.GdnPost.nD Cert.GdnPost.τ Cert.GdnPost.sig) → Buf (Elt Bits) ℓ) (g : Dev Cert.GdnPost.nD → PrngReg), Pre_GdnPost m →
    θ_run (Cert.GdnPost.defs (F := Bits)) (onTc (τ := Cert.GdnPost.τ) (Cert.GdnPost.main (F := Bits))) ⟨m, fun _ => 0, g⟩ (fun r => (∀ c : Dev Cert.GdnPost.nD,
      r.2.mem ((c.tc : Thread Cert.GdnPost.nD Cert.GdnPost.τ).loc Cert.GdnPost.main_arg0) = m ((c.tc : Thread Cert.GdnPost.nD Cert.GdnPost.τ).loc Cert.GdnPost.main_arg0)
      ∧ r.2.mem ((c.tc : Thread Cert.GdnPost.nD Cert.GdnPost.τ).loc Cert.GdnPost.main_arg1) = m ((c.tc : Thread Cert.GdnPost.nD Cert.GdnPost.τ).loc Cert.GdnPost.main_arg1)
      ∧ r.2.mem ((c.tc : Thread Cert.GdnPost.nD Cert.GdnPost.τ).loc Cert.GdnPost.main_arg2) = m ((c.tc : Thread Cert.GdnPost.nD Cert.GdnPost.τ).loc Cert.GdnPost.main_arg2)
      ∧ r.2.mem ((c.tc : Thread Cert.GdnPost.nD Cert.GdnPost.τ).loc Cert.GdnPost.main_arg3) = m ((c.tc : Thread Cert.GdnPost.nD Cert.GdnPost.τ).loc Cert.GdnPost.main_arg3))
      ∧ r.2.sem = fun _ => 0)

def quiescent_GdnPostIdeal [hGdnPostIdeal : Cert.GdnPostIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg), Pre_GdnPostIdeal m →
    θ_run (Cert.GdnPostIdeal.defs (F := Ideal)) (onTc (τ := Cert.GdnPostIdeal.τ) (Cert.GdnPostIdeal.main (F := Ideal))) ⟨m, fun _ => 0, g⟩ (fun r => (∀ c : Dev Cert.GdnPostIdeal.nD,
      r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
      ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
      ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2)
      ∧ r.2.mem ((c.tc : Thread Cert.GdnPostIdeal.nD Cert.GdnPostIdeal.τ).loc Cert.GdnPostIdeal.main_arg3) = m ((c.tc : Thread Cert.GdnPostIdeal.nD Cert.GdnPostIdeal.τ).loc Cert.GdnPostIdeal.main_arg3))
      ∧ r.2.sem = fun _ => 0)

def quiescent_GdnPostIdeal_pre_finite_post [hGdnPostIdeal : Cert.GdnPostIdeal.Facts] [hPre_finite_post : Cert.Pre_finite_post.Facts] : Prop :=
  ∀ (m : (ℓ : Loc Cert.GdnPostIdeal.nD Cert.GdnPostIdeal.τ Cert.GdnPostIdeal.sig) → Buf (Elt Ideal) ℓ) (g : Dev Cert.GdnPostIdeal.nD → PrngReg), Pre_GdnPostIdeal_finite_post m →
    θ_run (Cert.GdnPostIdeal.defs (F := Ideal)) (onTc (τ := Cert.GdnPostIdeal.τ) (Cert.GdnPostIdeal.main (F := Ideal))) ⟨m, fun _ => 0, g⟩ (fun r => (∀ c : Dev Cert.GdnPostIdeal.nD,
      r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
      ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
      ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2)
      ∧ r.2.mem ((c.tc : Thread Cert.GdnPostIdeal.nD Cert.GdnPostIdeal.τ).loc Cert.GdnPostIdeal.main_arg3) = m ((c.tc : Thread Cert.GdnPostIdeal.nD Cert.GdnPostIdeal.τ).loc Cert.GdnPostIdeal.main_arg3))
      ∧ r.2.sem = fun _ => 0)

def quiescent_GdnPostRefIdeal [hGdnPostRefIdeal : Cert.GdnPostRefIdeal.Facts] : Prop :=
  ∀ (m : (ℓ : Loc Cert.GdnPostRefIdeal.nD Cert.GdnPostRefIdeal.τ Cert.GdnPostRefIdeal.sig) → Buf (Elt Ideal) ℓ) (g : Dev Cert.GdnPostRefIdeal.nD → PrngReg), Pre_GdnPostRefIdeal m →
    θ_run (Cert.GdnPostRefIdeal.defs (F := Ideal)) (onTc (τ := Cert.GdnPostRefIdeal.τ) (Cert.GdnPostRefIdeal.main (F := Ideal))) ⟨m, fun _ => 0, g⟩ (fun r => (∀ c : Dev Cert.GdnPostRefIdeal.nD,
      r.2.mem ((c.tc : Thread Cert.GdnPostRefIdeal.nD Cert.GdnPostRefIdeal.τ).loc Cert.GdnPostRefIdeal.main_arg0) = m ((c.tc : Thread Cert.GdnPostRefIdeal.nD Cert.GdnPostRefIdeal.τ).loc Cert.GdnPostRefIdeal.main_arg0)
      ∧ r.2.mem ((c.tc : Thread Cert.GdnPostRefIdeal.nD Cert.GdnPostRefIdeal.τ).loc Cert.GdnPostRefIdeal.main_arg1) = m ((c.tc : Thread Cert.GdnPostRefIdeal.nD Cert.GdnPostRefIdeal.τ).loc Cert.GdnPostRefIdeal.main_arg1)
      ∧ r.2.mem ((c.tc : Thread Cert.GdnPostRefIdeal.nD Cert.GdnPostRefIdeal.τ).loc Cert.GdnPostRefIdeal.main_arg2) = m ((c.tc : Thread Cert.GdnPostRefIdeal.nD Cert.GdnPostRefIdeal.τ).loc Cert.GdnPostRefIdeal.main_arg2)
      ∧ r.2.mem ((c.tc : Thread Cert.GdnPostRefIdeal.nD Cert.GdnPostRefIdeal.τ).loc Cert.GdnPostRefIdeal.main_arg3) = m ((c.tc : Thread Cert.GdnPostRefIdeal.nD Cert.GdnPostRefIdeal.τ).loc Cert.GdnPostRefIdeal.main_arg3))
      ∧ r.2.sem = fun _ => 0)

def quiescent_GdnPostRefIdeal_pre_finite_post [hGdnPostRefIdeal : Cert.GdnPostRefIdeal.Facts] [hPre_finite_post : Cert.Pre_finite_post.Facts] : Prop :=
  ∀ (m : (ℓ : Loc Cert.GdnPostRefIdeal.nD Cert.GdnPostRefIdeal.τ Cert.GdnPostRefIdeal.sig) → Buf (Elt Ideal) ℓ) (g : Dev Cert.GdnPostRefIdeal.nD → PrngReg), Pre_GdnPostRefIdeal_finite_post m →
    θ_run (Cert.GdnPostRefIdeal.defs (F := Ideal)) (onTc (τ := Cert.GdnPostRefIdeal.τ) (Cert.GdnPostRefIdeal.main (F := Ideal))) ⟨m, fun _ => 0, g⟩ (fun r => (∀ c : Dev Cert.GdnPostRefIdeal.nD,
      r.2.mem ((c.tc : Thread Cert.GdnPostRefIdeal.nD Cert.GdnPostRefIdeal.τ).loc Cert.GdnPostRefIdeal.main_arg0) = m ((c.tc : Thread Cert.GdnPostRefIdeal.nD Cert.GdnPostRefIdeal.τ).loc Cert.GdnPostRefIdeal.main_arg0)
      ∧ r.2.mem ((c.tc : Thread Cert.GdnPostRefIdeal.nD Cert.GdnPostRefIdeal.τ).loc Cert.GdnPostRefIdeal.main_arg1) = m ((c.tc : Thread Cert.GdnPostRefIdeal.nD Cert.GdnPostRefIdeal.τ).loc Cert.GdnPostRefIdeal.main_arg1)
      ∧ r.2.mem ((c.tc : Thread Cert.GdnPostRefIdeal.nD Cert.GdnPostRefIdeal.τ).loc Cert.GdnPostRefIdeal.main_arg2) = m ((c.tc : Thread Cert.GdnPostRefIdeal.nD Cert.GdnPostRefIdeal.τ).loc Cert.GdnPostRefIdeal.main_arg2)
      ∧ r.2.mem ((c.tc : Thread Cert.GdnPostRefIdeal.nD Cert.GdnPostRefIdeal.τ).loc Cert.GdnPostRefIdeal.main_arg3) = m ((c.tc : Thread Cert.GdnPostRefIdeal.nD Cert.GdnPostRefIdeal.τ).loc Cert.GdnPostRefIdeal.main_arg3))
      ∧ r.2.sem = fun _ => 0)

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v5_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v5_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v63) = v0 c
          ∧ r.2.mem ((c.tc : Thread Cert.ConvRefIdeal.nD Cert.ConvRefIdeal.τ).loc Cert.ConvRefIdeal.main_v60) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Cum_CumIdeal : Prop :=
  True

def algebraic_CumIdeal_CumRefIdeal_pre_finite_cumsum [hCumIdeal : Cert.CumIdeal.Facts] [hCumRefIdeal : Cert.CumRefIdeal.Facts] [hPre_finite_cumsum : Cert.Pre_finite_cumsum.Facts] : Prop :=
  ∀ (m : (ℓ : Loc Cert.CumIdeal.nD Cert.CumIdeal.τ Cert.CumIdeal.sig) → Buf (Elt Ideal) ℓ) (g : Dev Cert.CumIdeal.nD → PrngReg)
    (m' : (ℓ : Loc Cert.CumRefIdeal.nD Cert.CumRefIdeal.τ Cert.CumRefIdeal.sig) → Buf (Elt Ideal) ℓ) (g' : Dev Cert.CumRefIdeal.nD → PrngReg), Pre_CumIdeal_finite_cumsum m →
    (∀ c : Dev Cert.CumIdeal.nD,
      m' ((c.tc : Thread Cert.CumRefIdeal.nD Cert.CumRefIdeal.τ).loc Cert.CumRefIdeal.main_arg0) = m ((c.tc : Thread Cert.CumIdeal.nD Cert.CumIdeal.τ).loc Cert.CumIdeal.main_arg0)
      ∧ m' ((c.tc : Thread Cert.CumRefIdeal.nD Cert.CumRefIdeal.τ).loc Cert.CumRefIdeal.main_arg1) = m ((c.tc : Thread Cert.CumIdeal.nD Cert.CumIdeal.τ).loc Cert.CumIdeal.main_arg1)
      ∧ m' ((c.tc : Thread Cert.CumRefIdeal.nD Cert.CumRefIdeal.τ).loc Cert.CumRefIdeal.main_arg2) = m ((c.tc : Thread Cert.CumIdeal.nD Cert.CumIdeal.τ).loc Cert.CumIdeal.main_arg2)
      ∧ m' ((c.tc : Thread Cert.CumRefIdeal.nD Cert.CumRefIdeal.τ).loc Cert.CumRefIdeal.main_arg3) = m ((c.tc : Thread Cert.CumIdeal.nD Cert.CumIdeal.τ).loc Cert.CumIdeal.main_arg3)
      ∧ m' ((c.tc : Thread Cert.CumRefIdeal.nD Cert.CumRefIdeal.τ).loc Cert.CumRefIdeal.main_arg4) = m ((c.tc : Thread Cert.CumIdeal.nD Cert.CumIdeal.τ).loc Cert.CumIdeal.main_arg4)) →
    ∃ (v0 : (c : Dev Cert.CumIdeal.nD) → Buf (Elt Ideal) ((c.tc : Thread Cert.CumIdeal.nD Cert.CumIdeal.τ).loc Cert.CumIdeal.main_v12)),
      θ_run (Cert.CumIdeal.defs (F := Ideal)) (onTc (τ := Cert.CumIdeal.τ) (Cert.CumIdeal.main (F := Ideal))) ⟨m, fun _ => 0, g⟩ (fun r => ∀ c : Dev Cert.CumIdeal.nD,
          r.2.mem ((c.tc : Thread Cert.CumIdeal.nD Cert.CumIdeal.τ).loc Cert.CumIdeal.main_v12) = v0 c
          ∧ r.2.mem ((c.tc : Thread Cert.CumIdeal.nD Cert.CumIdeal.τ).loc Cert.CumIdeal.main_arg0) = m ((c.tc : Thread Cert.CumIdeal.nD Cert.CumIdeal.τ).loc Cert.CumIdeal.main_arg0)
          ∧ r.2.mem ((c.tc : Thread Cert.CumIdeal.nD Cert.CumIdeal.τ).loc Cert.CumIdeal.main_arg1) = m ((c.tc : Thread Cert.CumIdeal.nD Cert.CumIdeal.τ).loc Cert.CumIdeal.main_arg1)
          ∧ r.2.mem ((c.tc : Thread Cert.CumIdeal.nD Cert.CumIdeal.τ).loc Cert.CumIdeal.main_arg2) = m ((c.tc : Thread Cert.CumIdeal.nD Cert.CumIdeal.τ).loc Cert.CumIdeal.main_arg2)
          ∧ r.2.mem ((c.tc : Thread Cert.CumIdeal.nD Cert.CumIdeal.τ).loc Cert.CumIdeal.main_arg3) = m ((c.tc : Thread Cert.CumIdeal.nD Cert.CumIdeal.τ).loc Cert.CumIdeal.main_arg3)
          ∧ r.2.mem ((c.tc : Thread Cert.CumIdeal.nD Cert.CumIdeal.τ).loc Cert.CumIdeal.main_arg4) = m ((c.tc : Thread Cert.CumIdeal.nD Cert.CumIdeal.τ).loc Cert.CumIdeal.main_arg4))
      ∧ θ_run (Cert.CumRefIdeal.defs (F := Ideal)) (onTc (τ := Cert.CumRefIdeal.τ) (Cert.CumRefIdeal.main (F := Ideal))) ⟨m', fun _ => 0, g'⟩ (fun r => ∀ c : Dev Cert.CumRefIdeal.nD,
          r.2.mem ((c.tc : Thread Cert.CumRefIdeal.nD Cert.CumRefIdeal.τ).loc Cert.CumRefIdeal.main_v11) = v0 c
          ∧ r.2.mem ((c.tc : Thread Cert.CumRefIdeal.nD Cert.CumRefIdeal.τ).loc Cert.CumRefIdeal.main_arg0) = m' ((c.tc : Thread Cert.CumRefIdeal.nD Cert.CumRefIdeal.τ).loc Cert.CumRefIdeal.main_arg0)
          ∧ r.2.mem ((c.tc : Thread Cert.CumRefIdeal.nD Cert.CumRefIdeal.τ).loc Cert.CumRefIdeal.main_arg1) = m' ((c.tc : Thread Cert.CumRefIdeal.nD Cert.CumRefIdeal.τ).loc Cert.CumRefIdeal.main_arg1)
          ∧ r.2.mem ((c.tc : Thread Cert.CumRefIdeal.nD Cert.CumRefIdeal.τ).loc Cert.CumRefIdeal.main_arg2) = m' ((c.tc : Thread Cert.CumRefIdeal.nD Cert.CumRefIdeal.τ).loc Cert.CumRefIdeal.main_arg2)
          ∧ r.2.mem ((c.tc : Thread Cert.CumRefIdeal.nD Cert.CumRefIdeal.τ).loc Cert.CumRefIdeal.main_arg3) = m' ((c.tc : Thread Cert.CumRefIdeal.nD Cert.CumRefIdeal.τ).loc Cert.CumRefIdeal.main_arg3)
          ∧ r.2.mem ((c.tc : Thread Cert.CumRefIdeal.nD Cert.CumRefIdeal.τ).loc Cert.CumRefIdeal.main_arg4) = m' ((c.tc : Thread Cert.CumRefIdeal.nD Cert.CumRefIdeal.τ).loc Cert.CumRefIdeal.main_arg4))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v26_0)) (v1 : (c : Dev Cert.FfnIdeal.nD) → Buf (Elt Ideal) ((c.tc : Thread Cert.FfnIdeal.nD Cert.FfnIdeal.τ).loc Cert.FfnIdeal.main_v26_1)) (v2 : (c : Dev Cert.FfnIdeal.nD) → Buf (Elt Ideal) ((c.tc : Thread Cert.FfnIdeal.nD Cert.FfnIdeal.τ).loc Cert.FfnIdeal.main_v24_1)) (v3 : (c : Dev Cert.FfnIdeal.nD) → Buf (Elt Ideal) ((c.tc : Thread Cert.FfnIdeal.nD Cert.FfnIdeal.τ).loc Cert.FfnIdeal.main_v24_2)) (v4 : (c : Dev Cert.FfnIdeal.nD) → Buf (Elt Ideal) ((c.tc : Thread Cert.FfnIdeal.nD Cert.FfnIdeal.τ).loc Cert.FfnIdeal.main_v24_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v26_0) = v0 c
          ∧ r.2.mem ((c.tc : Thread Cert.FfnIdeal.nD Cert.FfnIdeal.τ).loc Cert.FfnIdeal.main_v26_1) = v1 c
          ∧ r.2.mem ((c.tc : Thread Cert.FfnIdeal.nD Cert.FfnIdeal.τ).loc Cert.FfnIdeal.main_v24_1) = v2 c
          ∧ r.2.mem ((c.tc : Thread Cert.FfnIdeal.nD Cert.FfnIdeal.τ).loc Cert.FfnIdeal.main_v24_2) = v3 c
          ∧ r.2.mem ((c.tc : Thread Cert.FfnIdeal.nD Cert.FfnIdeal.τ).loc Cert.FfnIdeal.main_v24_3) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v58) = v0 c
          ∧ r.2.mem ((c.tc : Thread Cert.FfnRefIdeal.nD Cert.FfnRefIdeal.τ).loc Cert.FfnRefIdeal.main_v61) = v1 c
          ∧ r.2.mem ((c.tc : Thread Cert.FfnRefIdeal.nD Cert.FfnRefIdeal.τ).loc Cert.FfnRefIdeal.main_v62) = v2 c
          ∧ r.2.mem ((c.tc : Thread Cert.FfnRefIdeal.nD Cert.FfnRefIdeal.τ).loc Cert.FfnRefIdeal.main_v63) = v3 c
          ∧ r.2.mem ((c.tc : Thread Cert.FfnRefIdeal.nD Cert.FfnRefIdeal.τ).loc Cert.FfnRefIdeal.main_v29) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FoxKv_FoxKvIdeal : Prop :=
  IdealRules.named_const.Statement Cert.FoxKvIdeal.κ "scale_log2_e" .f32 0x3E0293EE#32 (((11863283 / 134217728) * (Real.log 2)⁻¹ : ℝ) : EReal)
  ∧ IdealRules.named_const.Statement Cert.FoxKvIdeal.κ "mask" .f32 0xF149F2CA#32 ⊥

def algebraic_FoxKvIdeal_FoxKvRefIdeal_pre_finite_fox_kv [hFoxKvIdeal : Cert.FoxKvIdeal.Facts] [hFoxKvRefIdeal : Cert.FoxKvRefIdeal.Facts] [hPre_finite_fox_kv : Cert.Pre_finite_fox_kv.Facts] : Prop :=
  ∀ (m : (ℓ : Loc Cert.FoxKvIdeal.nD Cert.FoxKvIdeal.τ Cert.FoxKvIdeal.sig) → Buf (Elt Ideal) ℓ) (g : Dev Cert.FoxKvIdeal.nD → PrngReg)
    (m' : (ℓ : Loc Cert.FoxKvRefIdeal.nD Cert.FoxKvRefIdeal.τ Cert.FoxKvRefIdeal.sig) → Buf (Elt Ideal) ℓ) (g' : Dev Cert.FoxKvRefIdeal.nD → PrngReg), Pre_FoxKvIdeal_finite_fox_kv m →
    (∀ c : Dev Cert.FoxKvIdeal.nD,
      m' ((c.tc : Thread Cert.FoxKvRefIdeal.nD Cert.FoxKvRefIdeal.τ).loc Cert.FoxKvRefIdeal.main_arg0) = m ((c.tc : Thread Cert.FoxKvIdeal.nD Cert.FoxKvIdeal.τ).loc Cert.FoxKvIdeal.main_arg0)
      ∧ m' ((c.tc : Thread Cert.FoxKvRefIdeal.nD Cert.FoxKvRefIdeal.τ).loc Cert.FoxKvRefIdeal.main_arg1) = m ((c.tc : Thread Cert.FoxKvIdeal.nD Cert.FoxKvIdeal.τ).loc Cert.FoxKvIdeal.main_arg1)
      ∧ m' ((c.tc : Thread Cert.FoxKvRefIdeal.nD Cert.FoxKvRefIdeal.τ).loc Cert.FoxKvRefIdeal.main_arg2) = m ((c.tc : Thread Cert.FoxKvIdeal.nD Cert.FoxKvIdeal.τ).loc Cert.FoxKvIdeal.main_arg2)
      ∧ m' ((c.tc : Thread Cert.FoxKvRefIdeal.nD Cert.FoxKvRefIdeal.τ).loc Cert.FoxKvRefIdeal.main_arg3) = m ((c.tc : Thread Cert.FoxKvIdeal.nD Cert.FoxKvIdeal.τ).loc Cert.FoxKvIdeal.main_arg3)
      ∧ m' ((c.tc : Thread Cert.FoxKvRefIdeal.nD Cert.FoxKvRefIdeal.τ).loc Cert.FoxKvRefIdeal.main_arg4) = m ((c.tc : Thread Cert.FoxKvIdeal.nD Cert.FoxKvIdeal.τ).loc Cert.FoxKvIdeal.main_arg4)) →
    ∃ (v0 : (c : Dev Cert.FoxKvIdeal.nD) → Buf (Elt Ideal) ((c.tc : Thread Cert.FoxKvIdeal.nD Cert.FoxKvIdeal.τ).loc Cert.FoxKvIdeal.main_v75_0)) (v1 : (c : Dev Cert.FoxKvIdeal.nD) → Buf (Elt Ideal) ((c.tc : Thread Cert.FoxKvIdeal.nD Cert.FoxKvIdeal.τ).loc Cert.FoxKvIdeal.main_v75_1)) (v2 : (c : Dev Cert.FoxKvIdeal.nD) → Buf (Elt Ideal) ((c.tc : Thread Cert.FoxKvIdeal.nD Cert.FoxKvIdeal.τ).loc Cert.FoxKvIdeal.main_v75_2)),
      θ_run (Cert.FoxKvIdeal.defs (F := Ideal)) (onTc (τ := Cert.FoxKvIdeal.τ) (Cert.FoxKvIdeal.main (F := Ideal))) ⟨m, fun _ => 0, g⟩ (fun r => ∀ c : Dev Cert.FoxKvIdeal.nD,
          r.2.mem ((c.tc : Thread Cert.FoxKvIdeal.nD Cert.FoxKvIdeal.τ).loc Cert.FoxKvIdeal.main_v75_0) = v0 c
          ∧ r.2.mem ((c.tc : Thread Cert.FoxKvIdeal.nD Cert.FoxKvIdeal.τ).loc Cert.FoxKvIdeal.main_v75_1) = v1 c
          ∧ r.2.mem ((c.tc : Thread Cert.FoxKvIdeal.nD Cert.FoxKvIdeal.τ).loc Cert.FoxKvIdeal.main_v75_2) = v2 c
          ∧ r.2.mem ((c.tc : Thread Cert.FoxKvIdeal.nD Cert.FoxKvIdeal.τ).loc Cert.FoxKvIdeal.main_arg0) = m ((c.tc : Thread Cert.FoxKvIdeal.nD Cert.FoxKvIdeal.τ).loc Cert.FoxKvIdeal.main_arg0)
          ∧ r.2.mem ((c.tc : Thread Cert.FoxKvIdeal.nD Cert.FoxKvIdeal.τ).loc Cert.FoxKvIdeal.main_arg1) = m ((c.tc : Thread Cert.FoxKvIdeal.nD Cert.FoxKvIdeal.τ).loc Cert.FoxKvIdeal.main_arg1)
          ∧ r.2.mem ((c.tc : Thread Cert.FoxKvIdeal.nD Cert.FoxKvIdeal.τ).loc Cert.FoxKvIdeal.main_arg2) = m ((c.tc : Thread Cert.FoxKvIdeal.nD Cert.FoxKvIdeal.τ).loc Cert.FoxKvIdeal.main_arg2)
          ∧ r.2.mem ((c.tc : Thread Cert.FoxKvIdeal.nD Cert.FoxKvIdeal.τ).loc Cert.FoxKvIdeal.main_arg3) = m ((c.tc : Thread Cert.FoxKvIdeal.nD Cert.FoxKvIdeal.τ).loc Cert.FoxKvIdeal.main_arg3)
          ∧ r.2.mem ((c.tc : Thread Cert.FoxKvIdeal.nD Cert.FoxKvIdeal.τ).loc Cert.FoxKvIdeal.main_arg4) = m ((c.tc : Thread Cert.FoxKvIdeal.nD Cert.FoxKvIdeal.τ).loc Cert.FoxKvIdeal.main_arg4))
      ∧ θ_run (Cert.FoxKvRefIdeal.defs (F := Ideal)) (onTc (τ := Cert.FoxKvRefIdeal.τ) (Cert.FoxKvRefIdeal.main (F := Ideal))) ⟨m', fun _ => 0, g'⟩ (fun r => ∀ c : Dev Cert.FoxKvRefIdeal.nD,
          r.2.mem ((c.tc : Thread Cert.FoxKvRefIdeal.nD Cert.FoxKvRefIdeal.τ).loc Cert.FoxKvRefIdeal.main_v79) = v0 c
          ∧ r.2.mem ((c.tc : Thread Cert.FoxKvRefIdeal.nD Cert.FoxKvRefIdeal.τ).loc Cert.FoxKvRefIdeal.main_v78) = v1 c
          ∧ r.2.mem ((c.tc : Thread Cert.FoxKvRefIdeal.nD Cert.FoxKvRefIdeal.τ).loc Cert.FoxKvRefIdeal.main_v80) = v2 c
          ∧ r.2.mem ((c.tc : Thread Cert.FoxKvRefIdeal.nD Cert.FoxKvRefIdeal.τ).loc Cert.FoxKvRefIdeal.main_arg0) = m' ((c.tc : Thread Cert.FoxKvRefIdeal.nD Cert.FoxKvRefIdeal.τ).loc Cert.FoxKvRefIdeal.main_arg0)
          ∧ r.2.mem ((c.tc : Thread Cert.FoxKvRefIdeal.nD Cert.FoxKvRefIdeal.τ).loc Cert.FoxKvRefIdeal.main_arg1) = m' ((c.tc : Thread Cert.FoxKvRefIdeal.nD Cert.FoxKvRefIdeal.τ).loc Cert.FoxKvRefIdeal.main_arg1)
          ∧ r.2.mem ((c.tc : Thread Cert.FoxKvRefIdeal.nD Cert.FoxKvRefIdeal.τ).loc Cert.FoxKvRefIdeal.main_arg2) = m' ((c.tc : Thread Cert.FoxKvRefIdeal.nD Cert.FoxKvRefIdeal.τ).loc Cert.FoxKvRefIdeal.main_arg2)
          ∧ r.2.mem ((c.tc : Thread Cert.FoxKvRefIdeal.nD Cert.FoxKvRefIdeal.τ).loc Cert.FoxKvRefIdeal.main_arg3) = m' ((c.tc : Thread Cert.FoxKvRefIdeal.nD Cert.FoxKvRefIdeal.τ).loc Cert.FoxKvRefIdeal.main_arg3)
          ∧ r.2.mem ((c.tc : Thread Cert.FoxKvRefIdeal.nD Cert.FoxKvRefIdeal.τ).loc Cert.FoxKvRefIdeal.main_arg4) = m' ((c.tc : Thread Cert.FoxKvRefIdeal.nD Cert.FoxKvRefIdeal.τ).loc Cert.FoxKvRefIdeal.main_arg4))

def preserves_FoxQ_FoxQIdeal : Prop :=
  IdealRules.named_const.Statement Cert.FoxQIdeal.κ "scale_log2_e" .f32 0x3E0293EE#32 (((11863283 / 134217728) * (Real.log 2)⁻¹ : ℝ) : EReal)
  ∧ IdealRules.named_const.Statement Cert.FoxQIdeal.κ "mask" .f32 0xF149F2CA#32 ⊥

def algebraic_FoxQIdeal_FoxQRefIdeal_pre_finite_fox_kv [hFoxQIdeal : Cert.FoxQIdeal.Facts] [hFoxQRefIdeal : Cert.FoxQRefIdeal.Facts] [hPre_finite_fox_kv : Cert.Pre_finite_fox_kv.Facts] : Prop :=
  ∀ (m : (ℓ : Loc Cert.FoxQIdeal.nD Cert.FoxQIdeal.τ Cert.FoxQIdeal.sig) → Buf (Elt Ideal) ℓ) (g : Dev Cert.FoxQIdeal.nD → PrngReg)
    (m' : (ℓ : Loc Cert.FoxQRefIdeal.nD Cert.FoxQRefIdeal.τ Cert.FoxQRefIdeal.sig) → Buf (Elt Ideal) ℓ) (g' : Dev Cert.FoxQRefIdeal.nD → PrngReg), Pre_FoxQIdeal_finite_fox_kv m →
    (∀ c : Dev Cert.FoxQIdeal.nD,
      m' ((c.tc : Thread Cert.FoxQRefIdeal.nD Cert.FoxQRefIdeal.τ).loc Cert.FoxQRefIdeal.main_arg0) = m ((c.tc : Thread Cert.FoxQIdeal.nD Cert.FoxQIdeal.τ).loc Cert.FoxQIdeal.main_arg0)
      ∧ m' ((c.tc : Thread Cert.FoxQRefIdeal.nD Cert.FoxQRefIdeal.τ).loc Cert.FoxQRefIdeal.main_arg1) = m ((c.tc : Thread Cert.FoxQIdeal.nD Cert.FoxQIdeal.τ).loc Cert.FoxQIdeal.main_arg1)
      ∧ m' ((c.tc : Thread Cert.FoxQRefIdeal.nD Cert.FoxQRefIdeal.τ).loc Cert.FoxQRefIdeal.main_arg2) = m ((c.tc : Thread Cert.FoxQIdeal.nD Cert.FoxQIdeal.τ).loc Cert.FoxQIdeal.main_arg2)
      ∧ m' ((c.tc : Thread Cert.FoxQRefIdeal.nD Cert.FoxQRefIdeal.τ).loc Cert.FoxQRefIdeal.main_arg3) = m ((c.tc : Thread Cert.FoxQIdeal.nD Cert.FoxQIdeal.τ).loc Cert.FoxQIdeal.main_arg3)
      ∧ m' ((c.tc : Thread Cert.FoxQRefIdeal.nD Cert.FoxQRefIdeal.τ).loc Cert.FoxQRefIdeal.main_arg4) = m ((c.tc : Thread Cert.FoxQIdeal.nD Cert.FoxQIdeal.τ).loc Cert.FoxQIdeal.main_arg4)) →
    ∃ (v0 : (c : Dev Cert.FoxQIdeal.nD) → Buf (Elt Ideal) ((c.tc : Thread Cert.FoxQIdeal.nD Cert.FoxQIdeal.τ).loc Cert.FoxQIdeal.main_v71_0)) (v1 : (c : Dev Cert.FoxQIdeal.nD) → Buf (Elt Ideal) ((c.tc : Thread Cert.FoxQIdeal.nD Cert.FoxQIdeal.τ).loc Cert.FoxQIdeal.main_v71_1)) (v2 : (c : Dev Cert.FoxQIdeal.nD) → Buf (Elt Ideal) ((c.tc : Thread Cert.FoxQIdeal.nD Cert.FoxQIdeal.τ).loc Cert.FoxQIdeal.main_v71_2)),
      θ_run (Cert.FoxQIdeal.defs (F := Ideal)) (onTc (τ := Cert.FoxQIdeal.τ) (Cert.FoxQIdeal.main (F := Ideal))) ⟨m, fun _ => 0, g⟩ (fun r => ∀ c : Dev Cert.FoxQIdeal.nD,
          r.2.mem ((c.tc : Thread Cert.FoxQIdeal.nD Cert.FoxQIdeal.τ).loc Cert.FoxQIdeal.main_v71_0) = v0 c
          ∧ r.2.mem ((c.tc : Thread Cert.FoxQIdeal.nD Cert.FoxQIdeal.τ).loc Cert.FoxQIdeal.main_v71_1) = v1 c
          ∧ r.2.mem ((c.tc : Thread Cert.FoxQIdeal.nD Cert.FoxQIdeal.τ).loc Cert.FoxQIdeal.main_v71_2) = v2 c
          ∧ r.2.mem ((c.tc : Thread Cert.FoxQIdeal.nD Cert.FoxQIdeal.τ).loc Cert.FoxQIdeal.main_arg0) = m ((c.tc : Thread Cert.FoxQIdeal.nD Cert.FoxQIdeal.τ).loc Cert.FoxQIdeal.main_arg0)
          ∧ r.2.mem ((c.tc : Thread Cert.FoxQIdeal.nD Cert.FoxQIdeal.τ).loc Cert.FoxQIdeal.main_arg1) = m ((c.tc : Thread Cert.FoxQIdeal.nD Cert.FoxQIdeal.τ).loc Cert.FoxQIdeal.main_arg1)
          ∧ r.2.mem ((c.tc : Thread Cert.FoxQIdeal.nD Cert.FoxQIdeal.τ).loc Cert.FoxQIdeal.main_arg2) = m ((c.tc : Thread Cert.FoxQIdeal.nD Cert.FoxQIdeal.τ).loc Cert.FoxQIdeal.main_arg2)
          ∧ r.2.mem ((c.tc : Thread Cert.FoxQIdeal.nD Cert.FoxQIdeal.τ).loc Cert.FoxQIdeal.main_arg3) = m ((c.tc : Thread Cert.FoxQIdeal.nD Cert.FoxQIdeal.τ).loc Cert.FoxQIdeal.main_arg3)
          ∧ r.2.mem ((c.tc : Thread Cert.FoxQIdeal.nD Cert.FoxQIdeal.τ).loc Cert.FoxQIdeal.main_arg4) = m ((c.tc : Thread Cert.FoxQIdeal.nD Cert.FoxQIdeal.τ).loc Cert.FoxQIdeal.main_arg4))
      ∧ θ_run (Cert.FoxQRefIdeal.defs (F := Ideal)) (onTc (τ := Cert.FoxQRefIdeal.τ) (Cert.FoxQRefIdeal.main (F := Ideal))) ⟨m', fun _ => 0, g'⟩ (fun r => ∀ c : Dev Cert.FoxQRefIdeal.nD,
          r.2.mem ((c.tc : Thread Cert.FoxQRefIdeal.nD Cert.FoxQRefIdeal.τ).loc Cert.FoxQRefIdeal.main_v80) = v0 c
          ∧ r.2.mem ((c.tc : Thread Cert.FoxQRefIdeal.nD Cert.FoxQRefIdeal.τ).loc Cert.FoxQRefIdeal.main_v82) = v1 c
          ∧ r.2.mem ((c.tc : Thread Cert.FoxQRefIdeal.nD Cert.FoxQRefIdeal.τ).loc Cert.FoxQRefIdeal.main_v83) = v2 c
          ∧ r.2.mem ((c.tc : Thread Cert.FoxQRefIdeal.nD Cert.FoxQRefIdeal.τ).loc Cert.FoxQRefIdeal.main_arg0) = m' ((c.tc : Thread Cert.FoxQRefIdeal.nD Cert.FoxQRefIdeal.τ).loc Cert.FoxQRefIdeal.main_arg0)
          ∧ r.2.mem ((c.tc : Thread Cert.FoxQRefIdeal.nD Cert.FoxQRefIdeal.τ).loc Cert.FoxQRefIdeal.main_arg1) = m' ((c.tc : Thread Cert.FoxQRefIdeal.nD Cert.FoxQRefIdeal.τ).loc Cert.FoxQRefIdeal.main_arg1)
          ∧ r.2.mem ((c.tc : Thread Cert.FoxQRefIdeal.nD Cert.FoxQRefIdeal.τ).loc Cert.FoxQRefIdeal.main_arg2) = m' ((c.tc : Thread Cert.FoxQRefIdeal.nD Cert.FoxQRefIdeal.τ).loc Cert.FoxQRefIdeal.main_arg2)
          ∧ r.2.mem ((c.tc : Thread Cert.FoxQRefIdeal.nD Cert.FoxQRefIdeal.τ).loc Cert.FoxQRefIdeal.main_arg3) = m' ((c.tc : Thread Cert.FoxQRefIdeal.nD Cert.FoxQRefIdeal.τ).loc Cert.FoxQRefIdeal.main_arg3)
          ∧ r.2.mem ((c.tc : Thread Cert.FoxQRefIdeal.nD Cert.FoxQRefIdeal.τ).loc Cert.FoxQRefIdeal.main_arg4) = m' ((c.tc : Thread Cert.FoxQRefIdeal.nD Cert.FoxQRefIdeal.τ).loc Cert.FoxQRefIdeal.main_arg4))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_KvPost_KvPostIdeal : Prop :=
  True

def algebraic_KvPostIdeal_KvPostRefIdeal_pre_regular_kv_post [hKvPostIdeal : Cert.KvPostIdeal.Facts] [hKvPostRefIdeal : Cert.KvPostRefIdeal.Facts] [hPre_regular_kv_post : Cert.Pre_regular_kv_post.Facts] : Prop :=
  ∀ (m : (ℓ : Loc Cert.KvPostIdeal.nD Cert.KvPostIdeal.τ Cert.KvPostIdeal.sig) → Buf (Elt Ideal) ℓ) (g : Dev Cert.KvPostIdeal.nD → PrngReg)
    (m' : (ℓ : Loc Cert.KvPostRefIdeal.nD Cert.KvPostRefIdeal.τ Cert.KvPostRefIdeal.sig) → Buf (Elt Ideal) ℓ) (g' : Dev Cert.KvPostRefIdeal.nD → PrngReg), Pre_KvPostIdeal_regular_kv_post m →
    (∀ c : Dev Cert.KvPostIdeal.nD,
      m' ((c.tc : Thread Cert.KvPostRefIdeal.nD Cert.KvPostRefIdeal.τ).loc Cert.KvPostRefIdeal.main_arg0) = m ((c.tc : Thread Cert.KvPostIdeal.nD Cert.KvPostIdeal.τ).loc Cert.KvPostIdeal.main_arg0)
      ∧ m' ((c.tc : Thread Cert.KvPostRefIdeal.nD Cert.KvPostRefIdeal.τ).loc Cert.KvPostRefIdeal.main_arg1) = m ((c.tc : Thread Cert.KvPostIdeal.nD Cert.KvPostIdeal.τ).loc Cert.KvPostIdeal.main_arg1)
      ∧ m' ((c.tc : Thread Cert.KvPostRefIdeal.nD Cert.KvPostRefIdeal.τ).loc Cert.KvPostRefIdeal.main_arg2) = m ((c.tc : Thread Cert.KvPostIdeal.nD Cert.KvPostIdeal.τ).loc Cert.KvPostIdeal.main_arg2)
      ∧ m' ((c.tc : Thread Cert.KvPostRefIdeal.nD Cert.KvPostRefIdeal.τ).loc Cert.KvPostRefIdeal.main_arg3) = m ((c.tc : Thread Cert.KvPostIdeal.nD Cert.KvPostIdeal.τ).loc Cert.KvPostIdeal.main_arg3)
      ∧ m' ((c.tc : Thread Cert.KvPostRefIdeal.nD Cert.KvPostRefIdeal.τ).loc Cert.KvPostRefIdeal.main_arg4) = m ((c.tc : Thread Cert.KvPostIdeal.nD Cert.KvPostIdeal.τ).loc Cert.KvPostIdeal.main_arg4)
      ∧ m' ((c.tc : Thread Cert.KvPostRefIdeal.nD Cert.KvPostRefIdeal.τ).loc Cert.KvPostRefIdeal.main_arg5) = m ((c.tc : Thread Cert.KvPostIdeal.nD Cert.KvPostIdeal.τ).loc Cert.KvPostIdeal.main_arg5)
      ∧ m' ((c.tc : Thread Cert.KvPostRefIdeal.nD Cert.KvPostRefIdeal.τ).loc Cert.KvPostRefIdeal.main_arg6) = m ((c.tc : Thread Cert.KvPostIdeal.nD Cert.KvPostIdeal.τ).loc Cert.KvPostIdeal.main_arg6)) →
    ∃ (v0 : (c : Dev Cert.KvPostIdeal.nD) → Buf (Elt Ideal) ((c.tc : Thread Cert.KvPostIdeal.nD Cert.KvPostIdeal.τ).loc Cert.KvPostIdeal.main_v4_0)) (v1 : (c : Dev Cert.KvPostIdeal.nD) → Buf (Elt Ideal) ((c.tc : Thread Cert.KvPostIdeal.nD Cert.KvPostIdeal.τ).loc Cert.KvPostIdeal.main_v4_1)) (v2 : (c : Dev Cert.KvPostIdeal.nD) → Buf (Elt Ideal) ((c.tc : Thread Cert.KvPostIdeal.nD Cert.KvPostIdeal.τ).loc Cert.KvPostIdeal.main_v4_2)) (v3 : (c : Dev Cert.KvPostIdeal.nD) → Buf (Elt Ideal) ((c.tc : Thread Cert.KvPostIdeal.nD Cert.KvPostIdeal.τ).loc Cert.KvPostIdeal.main_v4_3)),
      θ_run (Cert.KvPostIdeal.defs (F := Ideal)) (onTc (τ := Cert.KvPostIdeal.τ) (Cert.KvPostIdeal.main (F := Ideal))) ⟨m, fun _ => 0, g⟩ (fun r => ∀ c : Dev Cert.KvPostIdeal.nD,
          r.2.mem ((c.tc : Thread Cert.KvPostIdeal.nD Cert.KvPostIdeal.τ).loc Cert.KvPostIdeal.main_v4_0) = v0 c
          ∧ r.2.mem ((c.tc : Thread Cert.KvPostIdeal.nD Cert.KvPostIdeal.τ).loc Cert.KvPostIdeal.main_v4_1) = v1 c
          ∧ r.2.mem ((c.tc : Thread Cert.KvPostIdeal.nD Cert.KvPostIdeal.τ).loc Cert.KvPostIdeal.main_v4_2) = v2 c
          ∧ r.2.mem ((c.tc : Thread Cert.KvPostIdeal.nD Cert.KvPostIdeal.τ).loc Cert.KvPostIdeal.main_v4_3) = v3 c
          ∧ r.2.mem ((c.tc : Thread Cert.KvPostIdeal.nD Cert.KvPostIdeal.τ).loc Cert.KvPostIdeal.main_arg0) = m ((c.tc : Thread Cert.KvPostIdeal.nD Cert.KvPostIdeal.τ).loc Cert.KvPostIdeal.main_arg0)
          ∧ r.2.mem ((c.tc : Thread Cert.KvPostIdeal.nD Cert.KvPostIdeal.τ).loc Cert.KvPostIdeal.main_arg1) = m ((c.tc : Thread Cert.KvPostIdeal.nD Cert.KvPostIdeal.τ).loc Cert.KvPostIdeal.main_arg1)
          ∧ r.2.mem ((c.tc : Thread Cert.KvPostIdeal.nD Cert.KvPostIdeal.τ).loc Cert.KvPostIdeal.main_arg2) = m ((c.tc : Thread Cert.KvPostIdeal.nD Cert.KvPostIdeal.τ).loc Cert.KvPostIdeal.main_arg2)
          ∧ r.2.mem ((c.tc : Thread Cert.KvPostIdeal.nD Cert.KvPostIdeal.τ).loc Cert.KvPostIdeal.main_arg3) = m ((c.tc : Thread Cert.KvPostIdeal.nD Cert.KvPostIdeal.τ).loc Cert.KvPostIdeal.main_arg3)
          ∧ r.2.mem ((c.tc : Thread Cert.KvPostIdeal.nD Cert.KvPostIdeal.τ).loc Cert.KvPostIdeal.main_arg4) = m ((c.tc : Thread Cert.KvPostIdeal.nD Cert.KvPostIdeal.τ).loc Cert.KvPostIdeal.main_arg4)
          ∧ r.2.mem ((c.tc : Thread Cert.KvPostIdeal.nD Cert.KvPostIdeal.τ).loc Cert.KvPostIdeal.main_arg5) = m ((c.tc : Thread Cert.KvPostIdeal.nD Cert.KvPostIdeal.τ).loc Cert.KvPostIdeal.main_arg5)
          ∧ r.2.mem ((c.tc : Thread Cert.KvPostIdeal.nD Cert.KvPostIdeal.τ).loc Cert.KvPostIdeal.main_arg6) = m ((c.tc : Thread Cert.KvPostIdeal.nD Cert.KvPostIdeal.τ).loc Cert.KvPostIdeal.main_arg6))
      ∧ θ_run (Cert.KvPostRefIdeal.defs (F := Ideal)) (onTc (τ := Cert.KvPostRefIdeal.τ) (Cert.KvPostRefIdeal.main (F := Ideal))) ⟨m', fun _ => 0, g'⟩ (fun r => ∀ c : Dev Cert.KvPostRefIdeal.nD,
          r.2.mem ((c.tc : Thread Cert.KvPostRefIdeal.nD Cert.KvPostRefIdeal.τ).loc Cert.KvPostRefIdeal.main_v19) = v0 c
          ∧ r.2.mem ((c.tc : Thread Cert.KvPostRefIdeal.nD Cert.KvPostRefIdeal.τ).loc Cert.KvPostRefIdeal.main_v21) = v1 c
          ∧ r.2.mem ((c.tc : Thread Cert.KvPostRefIdeal.nD Cert.KvPostRefIdeal.τ).loc Cert.KvPostRefIdeal.main_v24) = v2 c
          ∧ r.2.mem ((c.tc : Thread Cert.KvPostRefIdeal.nD Cert.KvPostRefIdeal.τ).loc Cert.KvPostRefIdeal.main_v26) = v3 c
          ∧ r.2.mem ((c.tc : Thread Cert.KvPostRefIdeal.nD Cert.KvPostRefIdeal.τ).loc Cert.KvPostRefIdeal.main_arg0) = m' ((c.tc : Thread Cert.KvPostRefIdeal.nD Cert.KvPostRefIdeal.τ).loc Cert.KvPostRefIdeal.main_arg0)
          ∧ r.2.mem ((c.tc : Thread Cert.KvPostRefIdeal.nD Cert.KvPostRefIdeal.τ).loc Cert.KvPostRefIdeal.main_arg1) = m' ((c.tc : Thread Cert.KvPostRefIdeal.nD Cert.KvPostRefIdeal.τ).loc Cert.KvPostRefIdeal.main_arg1)
          ∧ r.2.mem ((c.tc : Thread Cert.KvPostRefIdeal.nD Cert.KvPostRefIdeal.τ).loc Cert.KvPostRefIdeal.main_arg2) = m' ((c.tc : Thread Cert.KvPostRefIdeal.nD Cert.KvPostRefIdeal.τ).loc Cert.KvPostRefIdeal.main_arg2)
          ∧ r.2.mem ((c.tc : Thread Cert.KvPostRefIdeal.nD Cert.KvPostRefIdeal.τ).loc Cert.KvPostRefIdeal.main_arg3) = m' ((c.tc : Thread Cert.KvPostRefIdeal.nD Cert.KvPostRefIdeal.τ).loc Cert.KvPostRefIdeal.main_arg3)
          ∧ r.2.mem ((c.tc : Thread Cert.KvPostRefIdeal.nD Cert.KvPostRefIdeal.τ).loc Cert.KvPostRefIdeal.main_arg4) = m' ((c.tc : Thread Cert.KvPostRefIdeal.nD Cert.KvPostRefIdeal.τ).loc Cert.KvPostRefIdeal.main_arg4)
          ∧ r.2.mem ((c.tc : Thread Cert.KvPostRefIdeal.nD Cert.KvPostRefIdeal.τ).loc Cert.KvPostRefIdeal.main_arg5) = m' ((c.tc : Thread Cert.KvPostRefIdeal.nD Cert.KvPostRefIdeal.τ).loc Cert.KvPostRefIdeal.main_arg5)
          ∧ r.2.mem ((c.tc : Thread Cert.KvPostRefIdeal.nD Cert.KvPostRefIdeal.τ).loc Cert.KvPostRefIdeal.main_arg6) = m' ((c.tc : Thread Cert.KvPostRefIdeal.nD Cert.KvPostRefIdeal.τ).loc Cert.KvPostRefIdeal.main_arg6))

def preserves_GdnPre_GdnPreIdeal : Prop :=
  True

def preserves_Memory_MemoryIdeal : Prop :=
  True

def algebraic_MemoryIdeal_MemoryRefIdeal_pre_finite_mem [hMemoryIdeal : Cert.MemoryIdeal.Facts] [hMemoryRefIdeal : Cert.MemoryRefIdeal.Facts] [hPre_finite_mem : Cert.Pre_finite_mem.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal_finite_mem m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v1_0)) (v1 : (c : Dev Cert.MemoryIdeal.nD) → Buf (Elt Ideal) ((c.tc : Thread Cert.MemoryIdeal.nD Cert.MemoryIdeal.τ).loc Cert.MemoryIdeal.main_v1_1)) (v2 : (c : Dev Cert.MemoryIdeal.nD) → Buf (Elt Ideal) ((c.tc : Thread Cert.MemoryIdeal.nD Cert.MemoryIdeal.τ).loc Cert.MemoryIdeal.main_v1_2)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v1_0) = v0 c
          ∧ r.2.mem ((c.tc : Thread Cert.MemoryIdeal.nD Cert.MemoryIdeal.τ).loc Cert.MemoryIdeal.main_v1_1) = v1 c
          ∧ r.2.mem ((c.tc : Thread Cert.MemoryIdeal.nD Cert.MemoryIdeal.τ).loc Cert.MemoryIdeal.main_v1_2) = v2 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v70) = v0 c
          ∧ r.2.mem ((c.tc : Thread Cert.MemoryRefIdeal.nD Cert.MemoryRefIdeal.τ).loc Cert.MemoryRefIdeal.main_v71) = v1 c
          ∧ r.2.mem ((c.tc : Thread Cert.MemoryRefIdeal.nD Cert.MemoryRefIdeal.τ).loc Cert.MemoryRefIdeal.main_v72) = v2 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def preserves_GdnPost_GdnPostIdeal : Prop :=
  True

def algebraic_GdnPostIdeal_GdnPostRefIdeal_pre_finite_post [hGdnPostIdeal : Cert.GdnPostIdeal.Facts] [hGdnPostRefIdeal : Cert.GdnPostRefIdeal.Facts] [hPre_finite_post : Cert.Pre_finite_post.Facts] : Prop :=
  ∀ (m : (ℓ : Loc Cert.GdnPostIdeal.nD Cert.GdnPostIdeal.τ Cert.GdnPostIdeal.sig) → Buf (Elt Ideal) ℓ) (g : Dev Cert.GdnPostIdeal.nD → PrngReg)
    (m' : (ℓ : Loc Cert.GdnPostRefIdeal.nD Cert.GdnPostRefIdeal.τ Cert.GdnPostRefIdeal.sig) → Buf (Elt Ideal) ℓ) (g' : Dev Cert.GdnPostRefIdeal.nD → PrngReg), Pre_GdnPostIdeal_finite_post m →
    (∀ c : Dev Cert.GdnPostIdeal.nD,
      m' ((c.tc : Thread Cert.GdnPostRefIdeal.nD Cert.GdnPostRefIdeal.τ).loc Cert.GdnPostRefIdeal.main_arg0) = m ((c.tc : Thread Cert.GdnPostIdeal.nD Cert.GdnPostIdeal.τ).loc Cert.GdnPostIdeal.main_arg0)
      ∧ m' ((c.tc : Thread Cert.GdnPostRefIdeal.nD Cert.GdnPostRefIdeal.τ).loc Cert.GdnPostRefIdeal.main_arg1) = m ((c.tc : Thread Cert.GdnPostIdeal.nD Cert.GdnPostIdeal.τ).loc Cert.GdnPostIdeal.main_arg1)
      ∧ m' ((c.tc : Thread Cert.GdnPostRefIdeal.nD Cert.GdnPostRefIdeal.τ).loc Cert.GdnPostRefIdeal.main_arg2) = m ((c.tc : Thread Cert.GdnPostIdeal.nD Cert.GdnPostIdeal.τ).loc Cert.GdnPostIdeal.main_arg2)
      ∧ m' ((c.tc : Thread Cert.GdnPostRefIdeal.nD Cert.GdnPostRefIdeal.τ).loc Cert.GdnPostRefIdeal.main_arg3) = m ((c.tc : Thread Cert.GdnPostIdeal.nD Cert.GdnPostIdeal.τ).loc Cert.GdnPostIdeal.main_arg3)) →
    ∃ (v0 : (c : Dev Cert.GdnPostIdeal.nD) → Buf (Elt Ideal) ((c.tc : Thread Cert.GdnPostIdeal.nD Cert.GdnPostIdeal.τ).loc Cert.GdnPostIdeal.main_v6_0)) (v1 : (c : Dev Cert.GdnPostIdeal.nD) → Buf (Elt Ideal) ((c.tc : Thread Cert.GdnPostIdeal.nD Cert.GdnPostIdeal.τ).loc Cert.GdnPostIdeal.main_v6_1)) (v2 : (c : Dev Cert.GdnPostIdeal.nD) → Buf (Elt Ideal) ((c.tc : Thread Cert.GdnPostIdeal.nD Cert.GdnPostIdeal.τ).loc Cert.GdnPostIdeal.main_v6_2)),
      θ_run (Cert.GdnPostIdeal.defs (F := Ideal)) (onTc (τ := Cert.GdnPostIdeal.τ) (Cert.GdnPostIdeal.main (F := Ideal))) ⟨m, fun _ => 0, g⟩ (fun r => ∀ c : Dev Cert.GdnPostIdeal.nD,
          r.2.mem ((c.tc : Thread Cert.GdnPostIdeal.nD Cert.GdnPostIdeal.τ).loc Cert.GdnPostIdeal.main_v6_0) = v0 c
          ∧ r.2.mem ((c.tc : Thread Cert.GdnPostIdeal.nD Cert.GdnPostIdeal.τ).loc Cert.GdnPostIdeal.main_v6_1) = v1 c
          ∧ r.2.mem ((c.tc : Thread Cert.GdnPostIdeal.nD Cert.GdnPostIdeal.τ).loc Cert.GdnPostIdeal.main_v6_2) = v2 c
          ∧ r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
          ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
          ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2)
          ∧ r.2.mem ((c.tc : Thread Cert.GdnPostIdeal.nD Cert.GdnPostIdeal.τ).loc Cert.GdnPostIdeal.main_arg3) = m ((c.tc : Thread Cert.GdnPostIdeal.nD Cert.GdnPostIdeal.τ).loc Cert.GdnPostIdeal.main_arg3))
      ∧ θ_run (Cert.GdnPostRefIdeal.defs (F := Ideal)) (onTc (τ := Cert.GdnPostRefIdeal.τ) (Cert.GdnPostRefIdeal.main (F := Ideal))) ⟨m', fun _ => 0, g'⟩ (fun r => ∀ c : Dev Cert.GdnPostRefIdeal.nD,
          r.2.mem ((c.tc : Thread Cert.GdnPostRefIdeal.nD Cert.GdnPostRefIdeal.τ).loc Cert.GdnPostRefIdeal.main_v48) = v0 c
          ∧ r.2.mem ((c.tc : Thread Cert.GdnPostRefIdeal.nD Cert.GdnPostRefIdeal.τ).loc Cert.GdnPostRefIdeal.main_v49) = v1 c
          ∧ r.2.mem ((c.tc : Thread Cert.GdnPostRefIdeal.nD Cert.GdnPostRefIdeal.τ).loc Cert.GdnPostRefIdeal.main_v50) = v2 c
          ∧ r.2.mem ((c.tc : Thread Cert.GdnPostRefIdeal.nD Cert.GdnPostRefIdeal.τ).loc Cert.GdnPostRefIdeal.main_arg0) = m' ((c.tc : Thread Cert.GdnPostRefIdeal.nD Cert.GdnPostRefIdeal.τ).loc Cert.GdnPostRefIdeal.main_arg0)
          ∧ r.2.mem ((c.tc : Thread Cert.GdnPostRefIdeal.nD Cert.GdnPostRefIdeal.τ).loc Cert.GdnPostRefIdeal.main_arg1) = m' ((c.tc : Thread Cert.GdnPostRefIdeal.nD Cert.GdnPostRefIdeal.τ).loc Cert.GdnPostRefIdeal.main_arg1)
          ∧ r.2.mem ((c.tc : Thread Cert.GdnPostRefIdeal.nD Cert.GdnPostRefIdeal.τ).loc Cert.GdnPostRefIdeal.main_arg2) = m' ((c.tc : Thread Cert.GdnPostRefIdeal.nD Cert.GdnPostRefIdeal.τ).loc Cert.GdnPostRefIdeal.main_arg2)
          ∧ r.2.mem ((c.tc : Thread Cert.GdnPostRefIdeal.nD Cert.GdnPostRefIdeal.τ).loc Cert.GdnPostRefIdeal.main_arg3) = m' ((c.tc : Thread Cert.GdnPostRefIdeal.nD Cert.GdnPostRefIdeal.τ).loc Cert.GdnPostRefIdeal.main_arg3))

def Claim : Prop :=
  ∃ (hLoss : Cert.Loss.Facts) (hLossIdeal : Cert.LossIdeal.Facts) (hLossRefIdeal : Cert.LossRefIdeal.Facts) (hConv : Cert.Conv.Facts) (hConvIdeal : Cert.ConvIdeal.Facts) (hConvRefIdeal : Cert.ConvRefIdeal.Facts) (hCum : Cert.Cum.Facts) (hCumIdeal : Cert.CumIdeal.Facts) (hCumRefIdeal : Cert.CumRefIdeal.Facts) (hFfn : Cert.Ffn.Facts) (hFfnIdeal : Cert.FfnIdeal.Facts) (hFfnRefIdeal : Cert.FfnRefIdeal.Facts) (hFoxKv : Cert.FoxKv.Facts) (hFoxKvIdeal : Cert.FoxKvIdeal.Facts) (hFoxKvRefIdeal : Cert.FoxKvRefIdeal.Facts) (hFoxQ : Cert.FoxQ.Facts) (hFoxQIdeal : Cert.FoxQIdeal.Facts) (hFoxQRefIdeal : Cert.FoxQRefIdeal.Facts) (hNorm : Cert.Norm.Facts) (hNormIdeal : Cert.NormIdeal.Facts) (hNormRefIdeal : Cert.NormRefIdeal.Facts) (hKvPost : Cert.KvPost.Facts) (hKvPostIdeal : Cert.KvPostIdeal.Facts) (hKvPostRefIdeal : Cert.KvPostRefIdeal.Facts) (hGdnPre : Cert.GdnPre.Facts) (hGdnPreIdeal : Cert.GdnPreIdeal.Facts) (hGdnPreRefIdeal : Cert.GdnPreRefIdeal.Facts) (hMemory : Cert.Memory.Facts) (hMemoryIdeal : Cert.MemoryIdeal.Facts) (hMemoryRefIdeal : Cert.MemoryRefIdeal.Facts) (hGdnPost : Cert.GdnPost.Facts) (hGdnPostIdeal : Cert.GdnPostIdeal.Facts) (hGdnPostRefIdeal : Cert.GdnPostRefIdeal.Facts) (hPre_finite_loss : Cert.Pre_finite_loss.Facts) (hPre_finite_cumsum : Cert.Pre_finite_cumsum.Facts) (hPre_finite_ffn : Cert.Pre_finite_ffn.Facts) (hPre_finite_fox_kv : Cert.Pre_finite_fox_kv.Facts) (hPre_finite_norm : Cert.Pre_finite_norm.Facts) (hPre_regular_kv_post : Cert.Pre_regular_kv_post.Facts) (hPre_finite_mem : Cert.Pre_finite_mem.Facts) (hPre_finite_post : Cert.Pre_finite_post.Facts),
    quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Conv (hConv := hConv)
    ∧ quiescent_ConvIdeal (hConvIdeal := hConvIdeal)
    ∧ quiescent_ConvRefIdeal (hConvRefIdeal := hConvRefIdeal)
    ∧ quiescent_Cum (hCum := hCum)
    ∧ quiescent_CumIdeal (hCumIdeal := hCumIdeal)
    ∧ quiescent_CumIdeal_pre_finite_cumsum (hCumIdeal := hCumIdeal) (hPre_finite_cumsum := hPre_finite_cumsum)
    ∧ quiescent_CumRefIdeal (hCumRefIdeal := hCumRefIdeal)
    ∧ quiescent_CumRefIdeal_pre_finite_cumsum (hCumRefIdeal := hCumRefIdeal) (hPre_finite_cumsum := hPre_finite_cumsum)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_FoxKv (hFoxKv := hFoxKv)
    ∧ quiescent_FoxKvIdeal (hFoxKvIdeal := hFoxKvIdeal)
    ∧ quiescent_FoxKvIdeal_pre_finite_fox_kv (hFoxKvIdeal := hFoxKvIdeal) (hPre_finite_fox_kv := hPre_finite_fox_kv)
    ∧ quiescent_FoxKvRefIdeal (hFoxKvRefIdeal := hFoxKvRefIdeal)
    ∧ quiescent_FoxKvRefIdeal_pre_finite_fox_kv (hFoxKvRefIdeal := hFoxKvRefIdeal) (hPre_finite_fox_kv := hPre_finite_fox_kv)
    ∧ quiescent_FoxQ (hFoxQ := hFoxQ)
    ∧ quiescent_FoxQIdeal (hFoxQIdeal := hFoxQIdeal)
    ∧ quiescent_FoxQIdeal_pre_finite_fox_kv (hFoxQIdeal := hFoxQIdeal) (hPre_finite_fox_kv := hPre_finite_fox_kv)
    ∧ quiescent_FoxQRefIdeal (hFoxQRefIdeal := hFoxQRefIdeal)
    ∧ quiescent_FoxQRefIdeal_pre_finite_fox_kv (hFoxQRefIdeal := hFoxQRefIdeal) (hPre_finite_fox_kv := hPre_finite_fox_kv)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_KvPost (hKvPost := hKvPost)
    ∧ quiescent_KvPostIdeal (hKvPostIdeal := hKvPostIdeal)
    ∧ quiescent_KvPostIdeal_pre_regular_kv_post (hKvPostIdeal := hKvPostIdeal) (hPre_regular_kv_post := hPre_regular_kv_post)
    ∧ quiescent_KvPostRefIdeal (hKvPostRefIdeal := hKvPostRefIdeal)
    ∧ quiescent_KvPostRefIdeal_pre_regular_kv_post (hKvPostRefIdeal := hKvPostRefIdeal) (hPre_regular_kv_post := hPre_regular_kv_post)
    ∧ quiescent_GdnPre (hGdnPre := hGdnPre)
    ∧ quiescent_GdnPreIdeal (hGdnPreIdeal := hGdnPreIdeal)
    ∧ quiescent_GdnPreRefIdeal (hGdnPreRefIdeal := hGdnPreRefIdeal)
    ∧ quiescent_Memory (hMemory := hMemory)
    ∧ quiescent_MemoryIdeal (hMemoryIdeal := hMemoryIdeal)
    ∧ quiescent_MemoryIdeal_pre_finite_mem (hMemoryIdeal := hMemoryIdeal) (hPre_finite_mem := hPre_finite_mem)
    ∧ quiescent_MemoryRefIdeal (hMemoryRefIdeal := hMemoryRefIdeal)
    ∧ quiescent_MemoryRefIdeal_pre_finite_mem (hMemoryRefIdeal := hMemoryRefIdeal) (hPre_finite_mem := hPre_finite_mem)
    ∧ quiescent_GdnPost (hGdnPost := hGdnPost)
    ∧ quiescent_GdnPostIdeal (hGdnPostIdeal := hGdnPostIdeal)
    ∧ quiescent_GdnPostIdeal_pre_finite_post (hGdnPostIdeal := hGdnPostIdeal) (hPre_finite_post := hPre_finite_post)
    ∧ quiescent_GdnPostRefIdeal (hGdnPostRefIdeal := hGdnPostRefIdeal)
    ∧ quiescent_GdnPostRefIdeal_pre_finite_post (hGdnPostRefIdeal := hGdnPostRefIdeal) (hPre_finite_post := hPre_finite_post)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Conv_ConvIdeal
    ∧ algebraic_ConvIdeal_ConvRefIdeal (hConvIdeal := hConvIdeal) (hConvRefIdeal := hConvRefIdeal)
    ∧ preserves_Cum_CumIdeal
    ∧ algebraic_CumIdeal_CumRefIdeal_pre_finite_cumsum (hCumIdeal := hCumIdeal) (hCumRefIdeal := hCumRefIdeal) (hPre_finite_cumsum := hPre_finite_cumsum)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_FoxKv_FoxKvIdeal
    ∧ algebraic_FoxKvIdeal_FoxKvRefIdeal_pre_finite_fox_kv (hFoxKvIdeal := hFoxKvIdeal) (hFoxKvRefIdeal := hFoxKvRefIdeal) (hPre_finite_fox_kv := hPre_finite_fox_kv)
    ∧ preserves_FoxQ_FoxQIdeal
    ∧ algebraic_FoxQIdeal_FoxQRefIdeal_pre_finite_fox_kv (hFoxQIdeal := hFoxQIdeal) (hFoxQRefIdeal := hFoxQRefIdeal) (hPre_finite_fox_kv := hPre_finite_fox_kv)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_KvPost_KvPostIdeal
    ∧ algebraic_KvPostIdeal_KvPostRefIdeal_pre_regular_kv_post (hKvPostIdeal := hKvPostIdeal) (hKvPostRefIdeal := hKvPostRefIdeal) (hPre_regular_kv_post := hPre_regular_kv_post)
    ∧ preserves_GdnPre_GdnPreIdeal
    ∧ preserves_Memory_MemoryIdeal
    ∧ algebraic_MemoryIdeal_MemoryRefIdeal_pre_finite_mem (hMemoryIdeal := hMemoryIdeal) (hMemoryRefIdeal := hMemoryRefIdeal) (hPre_finite_mem := hPre_finite_mem)
    ∧ preserves_GdnPost_GdnPostIdeal
    ∧ algebraic_GdnPostIdeal_GdnPostRefIdeal_pre_finite_post (hGdnPostIdeal := hGdnPostIdeal) (hGdnPostRefIdeal := hGdnPostRefIdeal) (hPre_finite_post := hPre_finite_post)
-- ==== Pre_finite_cumsum.lean ====
abbrev S8192x6 : Shape := ⟨2, ![8192, 6]⟩
abbrev S6x1x8192 : Shape := ⟨3, ![6, 1, 8192]⟩
abbrev S6x8192x1 : Shape := ⟨3, ![6, 8192, 1]⟩
abbrev S_ : Shape := ⟨0, ![]⟩

class Facts : Prop where
  bcast_S_S6x1x8192 : S_.BroadcastsInDim S6x1x8192 (![] : Fin 0 → Fin S6x1x8192.rank)
  reducesTo_S6x1x8192_S_d0_1_2 : S6x1x8192.ReducesTo [0, 1, 2] S_
  h_S_ : 0 < S_.numel
  bcast_S_S6x8192x1 : S_.BroadcastsInDim S6x8192x1 (![] : Fin 0 → Fin S6x8192x1.rank)
  reducesTo_S6x8192x1_S_d0_1_2 : S6x8192x1.ReducesTo [0, 1, 2] S_

variable [Facts]

def fn_part1 {F : FTy → Type} [FloatOps F] (main_v13 : IVec S_ 1) (main_v16 : IVec S6x8192x1 1) : IVec S_ 1 :=
  let main_c_5 : IVec S_ 1 := constantI S_ 1 1#1
  let main_v17 : IVec S_ 1 := (fun x v => Host.reduce IntOp.andi x v reducesTo_S6x8192x1_S_d0_1_2 h_S_) main_v16 main_c_5
  let main_v18 : IVec S_ 1 := andi main_v13 main_v17
  main_v18

def fn {F : FTy → Type} [FloatOps F] (main_arg0 : FVec F S8192x6 .f32) (main_arg1 : FVec F S6x1x8192 .f32) (main_arg2 : FVec F S6x8192x1 .f32) (main_arg3 : FVec F S6x1x8192 .f32) (main_arg4 : FVec F S6x8192x1 .f32) : IVec S_ 1 :=
  let main_v0 : FVec F S6x1x8192 .f32 := Host.absf main_arg1
  let main_cst : FVec F S_ .f32 := constant S_ .f32 0x7F800000#32
  let main_v1 : FVec F S6x1x8192 .f32 := broadcastInDim S6x1x8192 ![] bcast_S_S6x1x8192 main_cst
  let main_v2 : IVec S6x1x8192 1 := cmpf .olt main_v0 main_v1
  let main_c : IVec S_ 1 := constantI S_ 1 1#1
  let main_v3 : IVec S_ 1 := (fun x v => Host.reduce IntOp.andi x v reducesTo_S6x1x8192_S_d0_1_2 h_S_) main_v2 main_c
  let main_v4 : FVec F S6x8192x1 .f32 := Host.absf main_arg2
  let main_cst_0 : FVec F S_ .f32 := constant S_ .f32 0x7F800000#32
  let main_v5 : FVec F S6x8192x1 .f32 := broadcastInDim S6x8192x1 ![] bcast_S_S6x8192x1 main_cst_0
  let main_v6 : IVec S6x8192x1 1 := cmpf .olt main_v4 main_v5
  let main_c_1 : IVec S_ 1 := constantI S_ 1 1#1
  let main_v7 : IVec S_ 1 := (fun x v => Host.reduce IntOp.andi x v reducesTo_S6x8192x1_S_d0_1_2 h_S_) main_v6 main_c_1
  let main_v8 : IVec S_ 1 := andi main_v3 main_v7
  let main_v9 : FVec F S6x1x8192 .f32 := Host.absf main_arg3
  let main_cst_2 : FVec F S_ .f32 := constant S_ .f32 0x7F800000#32
  let main_v10 : FVec F S6x1x8192 .f32 := broadcastInDim S6x1x8192 ![] bcast_S_S6x1x8192 main_cst_2
  let main_v11 : IVec S6x1x8192 1 := cmpf .olt main_v9 main_v10
  let main_c_3 : IVec S_ 1 := constantI S_ 1 1#1
  let main_v12 : IVec S_ 1 := (fun x v => Host.reduce IntOp.andi x v reducesTo_S6x1x8192_S_d0_1_2 h_S_) main_v11 main_c_3
  let main_v13 : IVec S_ 1 := andi main_v8 main_v12
  let main_v14 : FVec F S6x8192x1 .f32 := Host.absf main_arg4
  let main_cst_4 : FVec F S_ .f32 := constant S_ .f32 0x7F800000#32
  let main_v15 : FVec F S6x8192x1 .f32 := broadcastInDim S6x8192x1 ![] bcast_S_S6x8192x1 main_cst_4
  let main_v16 : IVec S6x8192x1 1 := cmpf .olt main_v14 main_v15
  fn_part1 (F := F) main_v13 main_v16
-- ==== Pre_finite_ffn.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1024 .f32) (main_arg2 : FVec F S1024x5632 .f32) (main_arg3 : FVec F S2816x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite_fox_kv.lean ====
abbrev S8192x1024 : Shape := ⟨2, ![8192, 1024]⟩
abbrev S8192x768 : Shape := ⟨2, ![8192, 768]⟩
abbrev S6x8192 : Shape := ⟨2, ![6, 8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S6x8192 : S_.BroadcastsInDim S6x8192 (![] : Fin 0 → Fin S6x8192.rank)
  reducesTo_S6x8192_S_d0_1 : S6x8192.ReducesTo [0, 1] S_

variable [Facts]

def fn_part1 {F : FTy → Type} [FloatOps F] (main_arg4 : FVec F S8192x1024 .f32) (main_v13 : IVec S_ 1) (main_v16 : IVec S6x8192 1) : IVec S_ 1 :=
  let main_c_5 : IVec S_ 1 := constantI S_ 1 1#1
  let main_v17 : IVec S_ 1 := (fun x v => Host.reduce IntOp.andi x v reducesTo_S6x8192_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x768 .f32) (main_arg2 : FVec F S8192x768 .f32) (main_arg3 : FVec F S6x8192 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S8192x768 .f32 := Host.absf main_arg2
  let main_cst_2 : FVec F S_ .f32 := constant S_ .f32 0x7F800000#32
  let main_v10 : FVec F S8192x768 .f32 := broadcastInDim S8192x768 ![] bcast_S_S8192x768 main_cst_2
  let main_v11 : IVec S8192x768 1 := cmpf .olt main_v9 main_v10
  let main_c_3 : IVec S_ 1 := constantI S_ 1 1#1
  let main_v12 : IVec S_ 1 := (fun x v => Host.reduce IntOp.andi x v reducesTo_S8192x768_S_d0_1 h_S_) main_v11 main_c_3
  let main_v13 : IVec S_ 1 := andi main_v8 main_v12
  let main_v14 : FVec F S6x8192 .f32 := Host.absf main_arg3
  let main_cst_4 : FVec F S_ .f32 := constant S_ .f32 0x7F800000#32
  let main_v15 : FVec F S6x8192 .f32 := broadcastInDim S6x8192 ![] bcast_S_S6x8192 main_cst_4
  let main_v16 : IVec S6x8192 1 := cmpf .olt main_v14 main_v15
  fn_part1 (F := F) main_arg4 main_v13 main_v16
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S8192x1024 .f32) (main_arg2 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_finite_mem.lean ====
abbrev S8192x1024 : Shape := ⟨2, ![8192, 1024]⟩
abbrev S256x512 : Shape := ⟨2, ![256, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x1024 .f32) (main_arg1 : FVec F S256x512 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite_norm.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S8192x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_post.lean ====
abbrev S8192x768 : Shape := ⟨2, ![8192, 768]⟩
abbrev S8192x3340 : Shape := ⟨2, ![8192, 3340]⟩
abbrev S128 : Shape := ⟨1, ![128]⟩
abbrev S8192x1024 : Shape := ⟨2, ![8192, 1024]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S8192x3340 : S_.BroadcastsInDim S8192x3340 (![] : Fin 0 → Fin S8192x3340.rank)
  reducesTo_S8192x3340_S_d0_1 : S8192x3340.ReducesTo [0, 1] S_
  bcast_S_S128 : S_.BroadcastsInDim S128 (![] : Fin 0 → Fin S128.rank)
  reducesTo_S128_S_d0 : S128.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x768 .f32) (main_arg1 : FVec F S8192x3340 .f32) (main_arg2 : FVec F S128 .f32) (main_arg3 : FVec F S8192x1024 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x3340 .f32 := Host.absf main_arg1
  let main_cst_0 : FVec F S_ .f32 := constant S_ .f32 0x7F800000#32
  let main_v5 : FVec F S8192x3340 .f32 := broadcastInDim S8192x3340 ![] bcast_S_S8192x3340 main_cst_0
  let main_v6 : IVec S8192x3340 1 := cmpf .olt main_v4 main_v5
  let main_c_1 : IVec S_ 1 := constantI S_ 1 1#1
  let main_v7 : IVec S_ 1 := (fun x v => Host.reduce IntOp.andi x v reducesTo_S8192x3340_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_regular_kv_post.lean ====
abbrev S8192x1542 : Shape := ⟨2, ![8192, 1542]⟩
abbrev S6 : Shape := ⟨1, ![6]⟩
abbrev S8192x768 : Shape := ⟨2, ![8192, 768]⟩
abbrev S8192x6 : Shape := ⟨2, ![8192, 6]⟩
abbrev S_ : Shape := ⟨0, ![]⟩
abbrev S1x6 : Shape := ⟨2, ![1, 6]⟩

class Facts : Prop where
  bcast_S_S8192x1542 : S_.BroadcastsInDim S8192x1542 (![] : Fin 0 → Fin S8192x1542.rank)
  reducesTo_S8192x1542_S_d0_1 : S8192x1542.ReducesTo [0, 1] S_
  h_S_ : 0 < S_.numel
  bcast_S_S6 : S_.BroadcastsInDim S6 (![] : Fin 0 → Fin S6.rank)
  reducesTo_S6_S_d0 : S6.ReducesTo [0] S_
  bcast_S_S8192x6 : S_.BroadcastsInDim S8192x6 (![] : Fin 0 → Fin S8192x6.rank)
  reducesTo_S8192x6_S_d0_1 : S8192x6.ReducesTo [0, 1] S_
  slices_S8192x1542_S8192x6_0_1536 : S8192x1542.Slices ![0, 1536] S8192x6
  bcast_S6_S1x6_1 : S6.BroadcastsInDim S1x6 (![1] : Fin 1 → Fin S1x6.rank)
  bcast_S1x6_S8192x6_0_1 : S1x6.BroadcastsInDim S8192x6 (![0, 1] : Fin 2 → Fin S8192x6.rank)

variable [Facts]

def fn_part1 {F : FTy → Type} [FloatOps F] (main_v13 : IVec S_ 1) (main_v17 : FVec F S8192x6 .f32) : IVec S_ 1 :=
  let main_cst_4 : FVec F S_ .f32 := constant S_ .f32 0x00000000#32
  let main_v18 : FVec F S8192x6 .f32 := broadcastInDim S8192x6 ![] bcast_S_S8192x6 main_cst_4
  let main_v19 : IVec S8192x6 1 := cmpf .une main_v17 main_v18
  let main_c_5 : IVec S_ 1 := constantI S_ 1 1#1
  let main_v20 : IVec S_ 1 := (fun x v => Host.reduce IntOp.andi x v reducesTo_S8192x6_S_d0_1 h_S_) main_v19 main_c_5
  let main_v21 : IVec S_ 1 := andi main_v13 main_v20
  main_v21

def fn {F : FTy → Type} [FloatOps F] (main_arg0 : FVec F S8192x1542 .f32) (main_arg1 : FVec F S6 .f32) (main_arg2 : FVec F S8192x768 .f32) (main_arg3 : FVec F S8192x768 .f32) (main_arg4 : FVec F S8192x768 .f32) (main_arg5 : FVec F S8192x768 .f32) (main_arg6 : FVec F S8192x6 .f32) : IVec S_ 1 :=
  let main_v0 : FVec F S8192x1542 .f32 := Host.absf main_arg0
  let main_cst : FVec F S_ .f32 := constant S_ .f32 0x7F800000#32
  let main_v1 : FVec F S8192x1542 .f32 := broadcastInDim S8192x1542 ![] bcast_S_S8192x1542 main_cst
  let main_v2 : IVec S8192x1542 1 := cmpf .olt main_v0 main_v1
  let main_c : IVec S_ 1 := constantI S_ 1 1#1
  let main_v3 : IVec S_ 1 := (fun x v => Host.reduce IntOp.andi x v reducesTo_S8192x1542_S_d0_1 h_S_) main_v2 main_c
  let main_v4 : FVec F S6 .f32 := Host.absf main_arg1
  let main_cst_0 : FVec F S_ .f32 := constant S_ .f32 0x7F800000#32
  let main_v5 : FVec F S6 .f32 := broadcastInDim S6 ![] bcast_S_S6 main_cst_0
  let main_v6 : IVec S6 1 := cmpf .olt main_v4 main_v5
  let main_c_1 : IVec S_ 1 := constantI S_ 1 1#1
  let main_v7 : IVec S_ 1 := (fun x v => Host.reduce IntOp.andi x v reducesTo_S6_S_d0 h_S_) main_v6 main_c_1
  let main_v8 : IVec S_ 1 := andi main_v3 main_v7
  let main_v9 : FVec F S8192x6 .f32 := Host.absf main_arg6
  let main_cst_2 : FVec F S_ .f32 := constant S_ .f32 0x7F800000#32
  let main_v10 : FVec F S8192x6 .f32 := broadcastInDim S8192x6 ![] bcast_S_S8192x6 main_cst_2
  let main_v11 : IVec S8192x6 1 := cmpf .olt main_v9 main_v10
  let main_c_3 : IVec S_ 1 := constantI S_ 1 1#1
  let main_v12 : IVec S_ 1 := (fun x v => Host.reduce IntOp.andi x v reducesTo_S8192x6_S_d0_1 h_S_) main_v11 main_c_3
  let main_v13 : IVec S_ 1 := andi main_v8 main_v12
  let main_v14 : FVec F S8192x6 .f32 := (extractStridedSlice S8192x6 ![0, 1536] · slices_S8192x1542_S8192x6_0_1536) main_arg0
  let main_v15 : FVec F S1x6 .f32 := broadcastInDim S1x6 ![1] bcast_S6_S1x6_1 main_arg1
  let main_v16 : FVec F S8192x6 .f32 := broadcastInDim S8192x6 ![0, 1] bcast_S1x6_S8192x6_0_1 main_v15
  let main_v17 : FVec F S8192x6 .f32 := addf main_v14 main_v16
  fn_part1 (F := F) main_v13 main_v17
-- ==== Loss.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S1x128, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Conv.lean ====
abbrev S8192x3340 : Shape := ⟨2, ![8192, 3340]⟩
abbrev S4x2304 : Shape := ⟨2, ![4, 2304]⟩
abbrev S8192x2304 : Shape := ⟨2, ![8192, 2304]⟩
abbrev S8192x12 : Shape := ⟨2, ![8192, 12]⟩
abbrev S8192x3072 : Shape := ⟨2, ![8192, 3072]⟩
abbrev S8192x256 : Shape := ⟨2, ![8192, 256]⟩
abbrev S_ : Shape := ⟨0, ![]⟩
abbrev S8192x128 : Shape := ⟨2, ![8192, 128]⟩
abbrev S8192x3456 : Shape := ⟨2, ![8192, 3456]⟩
abbrev S512x2304 : Shape := ⟨2, ![512, 2304]⟩
abbrev S8x2304 : Shape := ⟨2, ![8, 2304]⟩
abbrev S520x2304 : Shape := ⟨2, ![520, 2304]⟩
abbrev S1x2304 : Shape := ⟨2, ![1, 2304]⟩
abbrev S2304 : Shape := ⟨1, ![2304]⟩

abbrev nBuf : Space → Nat
  | .hbm => 12
  | .vmem => 14
  | .smem => 0
  | _ => 0

abbrev bufTy : (tb : Table) → Fin (tcTables nBuf tb) → BufTy
  | .hbm, ⟨0, _⟩ => ⟨S8192x3340, .f32⟩
  | .hbm, ⟨1, _⟩ => ⟨S4x2304, .f32⟩
  | .hbm, ⟨2, _⟩ => ⟨S8192x2304, .f32⟩
  | .hbm, ⟨3, _⟩ => ⟨S8192x12, .f32⟩
  | .hbm, ⟨4, _⟩ => ⟨S8192x3072, .f32⟩
  | .hbm, ⟨5, _⟩ => ⟨S8192x256, .f32⟩
  | .hbm, ⟨6, _⟩ => ⟨S_, .i32⟩
  | .hbm, ⟨7, _⟩ => ⟨S_, .f32⟩
  | .hbm, ⟨8, _⟩ => ⟨S8192x128, .f32⟩
  | .hbm, ⟨9, _⟩ => ⟨S8192x3456, .f32⟩
  | .hbm, ⟨10, _⟩ => ⟨S8192x2304, .bf16⟩
  | .hbm, ⟨11, _⟩ => ⟨S4x2304, .f32⟩
  | .local _ .vmem, ⟨0, _⟩ => ⟨S512x2304, .f32⟩
  | .local _ .vmem, ⟨1, _⟩ => ⟨S512x2304, .f32⟩
  | .local _ .vmem, ⟨2, _⟩ => ⟨S8x2304, .f32⟩
  | .local _ .vmem, ⟨3, _⟩ => ⟨S8x2304, .f32⟩
  | .local _ .vmem, ⟨4, _⟩ => ⟨S512x2304, .f32⟩
  | .local _ .vmem, ⟨5, _⟩ => ⟨S512x2304, .f32⟩
  | .local _ .vmem, ⟨6, _⟩ => ⟨S8x2304, .f32⟩
  | .local _ .vmem, ⟨7, _⟩ => ⟨S8x2304, .f32⟩
  | .local _ .vmem, ⟨8, _⟩ => ⟨S4x2304, .f32⟩
  | .local _ .vmem, ⟨9, _⟩ => ⟨S512x2304, .bf16⟩
  | .local _ .vmem, ⟨10, _⟩ => ⟨S512x2304, .bf16⟩
  | .local _ .vmem, ⟨11, _⟩ => ⟨S4x2304, .f32⟩
  | .local _ .vmem, ⟨12, _⟩ => ⟨S520x2304, .f32⟩
  | .local _ .vmem, ⟨13, _⟩ => ⟨S520x2304, .f32⟩
  | _, _ => ⟨S8192x3340, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvRefIdeal.lean ====
abbrev S8192x3340 : Shape := ⟨2, ![8192, 3340]⟩
abbrev S4x2304 : Shape := ⟨2, ![4, 2304]⟩
abbrev S8192x2304 : Shape := ⟨2, ![8192, 2304]⟩
abbrev S_ : Shape := ⟨0, ![]⟩
abbrev S3x2304 : Shape := ⟨2, ![3, 2304]⟩
abbrev S8195x2304 : Shape := ⟨2, ![8195, 2304]⟩
abbrev S1x2304 : Shape := ⟨2, ![1, 2304]⟩
abbrev S2304 : Shape := ⟨1, ![2304]⟩

abbrev nBuf : Space → Nat
  | .hbm => 82
  | .vmem => 0
  | .smem => 0
  | _ => 0

abbrev bufTy : (tb : Table) → Fin (tcTables nBuf tb) → BufTy
  | .hbm, ⟨0, _⟩ => ⟨S8192x3340, .f32⟩
  | .hbm, ⟨1, _⟩ => ⟨S4x2304, .f32⟩
  | .hbm, ⟨2, _⟩ => ⟨S8192x2304, .f32⟩
  | .hbm, ⟨3, _⟩ => ⟨S8192x2304, .f32⟩
  | .hbm, ⟨4, _⟩ => ⟨S_, .f32⟩
  | .hbm, ⟨5, _⟩ => ⟨S3x2304, .f32⟩
  | .hbm, ⟨6, _⟩ => ⟨S8195x2304, .f32⟩
  | .hbm, ⟨7, _⟩ => ⟨S_, .f32⟩
  | .hbm, ⟨8, _⟩ => ⟨S3x2304, .f32⟩
  | .hbm, ⟨9, _⟩ => ⟨S1x2304, .f32⟩
  | .hbm, ⟨10, _⟩ => ⟨S8192x2304, .f32⟩
  | .hbm, ⟨11, _⟩ => ⟨S8192x2304, .f32⟩
  | .hbm, ⟨12, _⟩ => ⟨S8192x2304, .f32⟩
  | .hbm, ⟨13, _⟩ => ⟨S_, .f32⟩
  | .hbm, ⟨14, _⟩ => ⟨S8192x2304, .f32⟩
  | .hbm, ⟨15, _⟩ => ⟨S8192x2304, .f32⟩
  | .hbm, ⟨16, _⟩ => ⟨S1x2304, .f32⟩
  | .hbm, ⟨17, _⟩ => ⟨S8192x2304, .f32⟩
  | .hbm, ⟨18, _⟩ => ⟨S8192x2304, .f32⟩
  | .hbm, ⟨19, _⟩ => ⟨S8192x2304, .f32⟩
  | .hbm, ⟨20, _⟩ => ⟨S8192x2304, .f32⟩
  | .hbm, ⟨21, _⟩ => ⟨S1x2304, .f32⟩
  | .hbm, ⟨22, _⟩ => ⟨S8192x2304, .f32⟩
  | .hbm, ⟨23, _⟩ => ⟨S8192x2304, .f32⟩
  | .hbm, ⟨24, _⟩ => ⟨S8192x2304, .f32⟩
  | .hbm, ⟨25, _⟩ => ⟨S8192x2304, .f32⟩
  | .hbm, ⟨26, _⟩ => ⟨S1x2304, .f32⟩
  | .hbm, ⟨27, _⟩ => ⟨S8192x2304, .f32⟩
  | .hbm, ⟨28, _⟩ => ⟨S8192x2304, .f32⟩
  | .hbm, ⟨29, _⟩ => ⟨S8192x2304, .f32⟩
  | .hbm, ⟨30, _⟩ => ⟨S8192x2304, .f32⟩
  | .hbm, ⟨31, _⟩ => ⟨S8192x2304, .f32⟩
  | .hbm, ⟨32, _⟩ => ⟨S8192x2304, .f32⟩
  | .hbm, ⟨33, _⟩ => ⟨S8192x2304, .f32⟩
  | .hbm, ⟨34, _⟩ => ⟨S8192x2304, .f32⟩
  | .hbm, ⟨35, _⟩ => ⟨S8192x2304, .f32⟩
  | .hbm, ⟨36, _⟩ => ⟨S_, .f32⟩
  | .hbm, ⟨37, _⟩ => ⟨S2304, .f32⟩
  | .hbm, ⟨38, _⟩ => ⟨S1x2304, .f32⟩
  | .hbm, ⟨39, _⟩ => ⟨S_, .f32⟩
  | .hbm, ⟨40, _⟩ => ⟨S8195x2304, .f32⟩
  | .hbm, ⟨41, _⟩ => ⟨S_, .f32⟩
  | .hbm, ⟨42, _⟩ => ⟨S4x2304, .f32⟩
  | .hbm, ⟨43, _⟩ => ⟨S8192x2304, .f32⟩
  | .hbm, ⟨44, _⟩ => ⟨S8192x2304, .f32⟩
  | .hbm, ⟨45, _⟩ => ⟨S8192x2304, .f32⟩
  | .hbm, ⟨46, _⟩ => ⟨S_, .f32⟩
  | .hbm, ⟨47, _⟩ => ⟨S2304, .f32⟩
  | .hbm, ⟨48, _⟩ => ⟨S1x2304, .f32⟩
  | .hbm, ⟨49, _⟩ => ⟨S_, .f32⟩
  | .hbm, ⟨50, _⟩ => ⟨S8195x2304, .f32⟩
  | .hbm, ⟨51, _⟩ => ⟨S8195x2304, .f32⟩
  | .hbm, ⟨52, _⟩ => ⟨S_, .f32⟩
  | .hbm, ⟨53, _⟩ => ⟨S4x2304, .f32⟩
  | .hbm, ⟨54, _⟩ => ⟨S4x2304, .f32⟩
  | .hbm, ⟨55, _⟩ => ⟨S8192x2304, .f32⟩
  | .hbm, ⟨56, _⟩ => ⟨S8192x2304, .f32⟩
  | .hbm, ⟨57, _⟩ => ⟨S8192x2304, .f32⟩
  | .hbm, ⟨58, _⟩ => ⟨S_, .f32⟩
  | .hbm, ⟨59, _⟩ => ⟨S2304, .f32⟩
  | .hbm, ⟨60, _⟩ => ⟨S1x2304, .f32⟩
  | .hbm, ⟨61, _⟩ => ⟨S_, .f32⟩
  | .hbm, ⟨62, _⟩ => ⟨S8195x2304, .f32⟩
  | .hbm, ⟨63, _⟩ => ⟨S8195x2304, .f32⟩
  | .hbm, ⟨64, _⟩ => ⟨S_, .f32⟩
  | .hbm, ⟨65, _⟩ => ⟨S4x2304, .f32⟩
  | .hbm, ⟨66, _⟩ => ⟨S4x2304, .f32⟩
  | .hbm, ⟨67, _⟩ => ⟨S8192x2304, .f32⟩
  | .hbm, ⟨68, _⟩ => ⟨S8192x2304, .f32⟩
  | .hbm, ⟨69, _⟩ => ⟨S8192x2304, .f32⟩
  | .hbm, ⟨70, _⟩ => ⟨S_, .f32⟩
  | .hbm, ⟨71, _⟩ => ⟨S2304, .f32⟩
  | .hbm, ⟨72, _⟩ => ⟨S1x2304, .f32⟩
  | .hbm, ⟨73, _⟩ => ⟨S_, .f32⟩
  | .hbm, ⟨74, _⟩ => ⟨S8195x2304, .f32⟩
  | .hbm, ⟨75, _⟩ => ⟨S8195x2304, .f32⟩
  | .hbm, ⟨76, _⟩ => ⟨S_, .f32⟩
  | .hbm, ⟨77, _⟩ => ⟨S4x2304, .f32⟩
  | .hbm, ⟨78, _⟩ => ⟨S4x2304, .f32⟩
  | .hbm, ⟨79, _⟩ => ⟨S3x2304, .f32⟩
  | .hbm, ⟨80, _⟩ => ⟨S8192x2304, .f32⟩
  | .hbm, ⟨81, _⟩ => ⟨S8192x2304, .bf16⟩
  | _, _ => ⟨S8192x3340, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Cum.lean ====
abbrev S8192x6 : Shape := ⟨2, ![8192, 6]⟩
abbrev S6x1x8192 : Shape := ⟨3, ![6, 1, 8192]⟩
abbrev S6x8192x1 : Shape := ⟨3, ![6, 8192, 1]⟩
abbrev S6x8192 : Shape := ⟨2, ![6, 8192]⟩
abbrev S_ : Shape := ⟨0, ![]⟩
abbrev S8192x128 : Shape := ⟨2, ![8192, 128]⟩
abbrev S256x128 : Shape := ⟨2, ![256, 128]⟩
abbrev S1x128 : Shape := ⟨2, ![1, 128]⟩
abbrev S256x256 : Shape := ⟨2, ![256, 256]⟩
abbrev S128 : Shape := ⟨1, ![128]⟩

abbrev nBuf : Space → Nat
  | .hbm => 26
  | .vmem => 11
  | .smem => 0
  | _ => 0

abbrev bufTy : (tb : Table) → Fin (tcTables nBuf tb) → BufTy
  | .hbm, ⟨0, _⟩ => ⟨S8192x6, .f32⟩
  | .hbm, ⟨1, _⟩ => ⟨S6x1x8192, .f32⟩
  | .hbm, ⟨2, _⟩ => ⟨S6x8192x1, .f32⟩
  | .hbm, ⟨3, _⟩ => ⟨S6x1x8192, .f32⟩
  | .hbm, ⟨4, _⟩ => ⟨S6x8192x1, .f32⟩
  | .hbm, ⟨5, _⟩ => ⟨S6x8192, .f32⟩
  | .hbm, ⟨6, _⟩ => ⟨S8192x6, .f32⟩
  | .hbm, ⟨7, _⟩ => ⟨S_, .i32⟩
  | .hbm, ⟨8, _⟩ => ⟨S_, .f32⟩
  | .hbm, ⟨9, _⟩ => ⟨S8192x128, .f32⟩
  | .hbm, ⟨10, _⟩ => ⟨S6x8192, .f32⟩
  | .hbm, ⟨11, _⟩ => ⟨S8192x6, .f32⟩
  | .hbm, ⟨12, _⟩ => ⟨S_, .i32⟩
  | .hbm, ⟨13, _⟩ => ⟨S_, .f32⟩
  | .hbm, ⟨14, _⟩ => ⟨S8192x128, .f32⟩
  | .hbm, ⟨15, _⟩ => ⟨S6x8192, .f32⟩
  | .hbm, ⟨16, _⟩ => ⟨S8192x6, .f32⟩
  | .hbm, ⟨17, _⟩ => ⟨S_, .i32⟩
  | .hbm, ⟨18, _⟩ => ⟨S_, .f32⟩
  | .hbm, ⟨19, _⟩ => ⟨S8192x128, .f32⟩
  | .hbm, ⟨20, _⟩ => ⟨S6x8192, .f32⟩
  | .hbm, ⟨21, _⟩ => ⟨S8192x6, .f32⟩
  | .hbm, ⟨22, _⟩ => ⟨S_, .i32⟩
  | .hbm, ⟨23, _⟩ => ⟨S_, .f32⟩
  | .hbm, ⟨24, _⟩ => ⟨S8192x128, .f32⟩
  | .hbm, ⟨25, _⟩ => ⟨S8192x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | _, _ => ⟨S8192x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_call3_v0 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CumRefIdeal.lean ====
abbrev S8192x6 : Shape := ⟨2, ![8192, 6]⟩
abbrev S6x1x8192 : Shape := ⟨3, ![6, 1, 8192]⟩
abbrev S6x8192x1 : Shape := ⟨3, ![6, 8192, 1]⟩
abbrev S_ : Shape := ⟨0, ![]⟩
abbrev S6x8192 : Shape := ⟨2, ![6, 8192]⟩
abbrev S8192x128 : Shape := ⟨2, ![8192, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x6, .f32⟩
  | .hbm, ⟨1, _⟩ => ⟨S6x1x8192, .f32⟩
  | .hbm, ⟨2, _⟩ => ⟨S6x8192x1, .f32⟩
  | .hbm, ⟨3, _⟩ => ⟨S6x1x8192, .f32⟩
  | .hbm, ⟨4, _⟩ => ⟨S6x8192x1, .f32⟩
  | .hbm, ⟨5, _⟩ => ⟨S_, .f32⟩
  | .hbm, ⟨6, _⟩ => ⟨S_, .f32⟩
  | .hbm, ⟨7, _⟩ => ⟨S8192x6, .f32⟩
  | .hbm, ⟨8, _⟩ => ⟨S6x8192, .f32⟩
  | .hbm, ⟨9, _⟩ => ⟨S6x1x8192, .f32⟩
  | .hbm, ⟨10, _⟩ => ⟨S6x8192x1, .f32⟩
  | .hbm, ⟨11, _⟩ => ⟨S6x1x8192, .f32⟩
  | .hbm, ⟨12, _⟩ => ⟨S6x8192x1, .f32⟩
  | .hbm, ⟨13, _⟩ => ⟨S_, .f32⟩
  | .hbm, ⟨14, _⟩ => ⟨S6x8192, .f32⟩
  | .hbm, ⟨15, _⟩ => ⟨S_, .f32⟩
  | .hbm, ⟨16, _⟩ => ⟨S6x8192, .f32⟩
  | .hbm, ⟨17, _⟩ => ⟨S6x8192, .f32⟩
  | .hbm, ⟨18, _⟩ => ⟨S8192x6, .f32⟩
  | .hbm, ⟨19, _⟩ => ⟨S_, .f32⟩
  | .hbm, ⟨20, _⟩ => ⟨S_, .f32⟩
  | .hbm, ⟨21, _⟩ => ⟨S8192x6, .f32⟩
  | .hbm, ⟨22, _⟩ => ⟨S_, .i32⟩
  | .hbm, ⟨23, _⟩ => ⟨S_, .f32⟩
  | .hbm, ⟨24, _⟩ => ⟨S8192x128, .f32⟩
  | _, _ => ⟨S8192x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_call0_cst : Ref sig .tc := ⟨.hbm, 19, rfl⟩
abbrev main_call1_call0_v0 : Ref sig .tc := ⟨.hbm, 20, rfl⟩
abbrev main_v10 : Ref sig .tc := ⟨.hbm, 21, rfl⟩
abbrev main_c : Ref sig .tc := ⟨.hbm, 22, rfl⟩
abbrev main_call2_v0 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x8x704 : Shape := ⟨3, ![1024, 8, 704]⟩
abbrev S8x1024x704 : Shape := ⟨3, ![8, 1024, 704]⟩
abbrev S8x1x1024x704 : Shape := ⟨4, ![8, 1, 1024, 704]⟩
abbrev S1x2816x1024 : Shape := ⟨3, ![1, 2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x8x704 : Shape := ⟨3, ![8192, 8, 704]⟩
abbrev S8x8192x704 : Shape := ⟨3, ![8, 8192, 704]⟩
abbrev S4x8192x704 : Shape := ⟨3, ![4, 8192, 704]⟩
abbrev S4x8192x1024 : Shape := ⟨3, ![4, 8192, 1024]⟩
abbrev S4x1024x704 : Shape := ⟨3, ![4, 1024, 704]⟩
abbrev S512x1024 : Shape := ⟨2, ![512, 1024]⟩
abbrev S1x512x704 : Shape := ⟨3, ![1, 512, 704]⟩
abbrev S1x1x1024x704 : Shape := ⟨4, ![1, 1, 1024, 704]⟩
abbrev S1x704x1024 : Shape := ⟨3, ![1, 704, 1024]⟩
abbrev S1x512x1024 : Shape := ⟨3, ![1, 512, 1024]⟩
abbrev S1x1024x704 : Shape := ⟨3, ![1, 1024, 704]⟩
abbrev S704x1024 : Shape := ⟨2, ![704, 1024]⟩
abbrev S1024x704 : Shape := ⟨2, ![1024, 704]⟩
abbrev S512 : Shape := ⟨1, ![512]⟩
abbrev S512x1 : Shape := ⟨2, ![512, 1]⟩
abbrev S512x704 : Shape := ⟨2, ![512, 704]⟩

abbrev nBuf : Space → Nat
  | .hbm => 39
  | .vmem => 39
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1024x8x704, .f32⟩
  | .hbm, ⟨6, _⟩ => ⟨S8x1024x704, .f32⟩
  | .hbm, ⟨7, _⟩ => ⟨S8x1x1024x704, .f32⟩
  | .hbm, ⟨8, _⟩ => ⟨S1x2816x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x8x704, .f32⟩
  | .hbm, ⟨27, _⟩ => ⟨S8x8192x704, .f32⟩
  | .hbm, ⟨28, _⟩ => ⟨S8x8192x704, .bf16⟩
  | .hbm, ⟨29, _⟩ => ⟨S4x8192x704, .bf16⟩
  | .hbm, ⟨30, _⟩ => ⟨S4x8192x704, .bf16⟩
  | .hbm, ⟨31, _⟩ => ⟨S1x1024, .f32⟩
  | .hbm, ⟨32, _⟩ => ⟨S4x8192x1024, .bf16⟩
  | .hbm, ⟨33, _⟩ => ⟨S4x1024x704, .f32⟩
  | .hbm, ⟨34, _⟩ => ⟨S4x1024x704, .f32⟩
  | .hbm, ⟨35, _⟩ => ⟨S2816x1024, .f32⟩
  | .hbm, ⟨36, _⟩ => ⟨S1x1024, .f32⟩
  | .hbm, ⟨37, _⟩ => ⟨S8192x1024, .f32⟩
  | .hbm, ⟨38, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x1x1024x704, .f32⟩
  | .local _ .vmem, ⟨10, _⟩ => ⟨S1x1x1024x704, .f32⟩
  | .local _ .vmem, ⟨11, _⟩ => ⟨S1x1x1024x704, .f32⟩
  | .local _ .vmem, ⟨12, _⟩ => ⟨S1x1x1024x704, .f32⟩
  | .local _ .vmem, ⟨13, _⟩ => ⟨S1x704x1024, .f32⟩
  | .local _ .vmem, ⟨14, _⟩ => ⟨S1x704x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S1x1024x704, .f32⟩
  | .local _ .vmem, ⟨18, _⟩ => ⟨S1x1024x704, .f32⟩
  | .local _ .vmem, ⟨19, _⟩ => ⟨S1x1024x704, .f32⟩
  | .local _ .vmem, ⟨20, _⟩ => ⟨S1x1024x704, .f32⟩
  | .local _ .vmem, ⟨21, _⟩ => ⟨S704x1024, .f32⟩
  | .local _ .vmem, ⟨22, _⟩ => ⟨S704x1024, .f32⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x512x1024, .bf16⟩
  | .local _ .vmem, ⟨33, _⟩ => ⟨S1x512x1024, .bf16⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev main_v24_3 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc1_sem0_0 : DmaSem sig := 23
abbrev cc1_sem0_1 : DmaSem sig := 24
abbrev cc1_sem1_0 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S704x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_4 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_5 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== FfnRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1024x2816 : Shape := ⟨2, ![1024, 2816]⟩
abbrev S5632x1024 : Shape := ⟨2, ![5632, 1024]⟩
abbrev S1024x8x704 : Shape := ⟨3, ![1024, 8, 704]⟩
abbrev S8x1024x704 : Shape := ⟨3, ![8, 1024, 704]⟩
abbrev S4x1024x704 : Shape := ⟨3, ![4, 1024, 704]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S1024x2816, .f32⟩
  | .hbm, ⟨52, _⟩ => ⟨S2816x1024, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x5632, .f32⟩
  | .hbm, ⟨61, _⟩ => ⟨S5632x1024, .f32⟩
  | .hbm, ⟨62, _⟩ => ⟨S1024x5632, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S1024x8x704, .f32⟩
  | .hbm, ⟨91, _⟩ => ⟨S8x1024x704, .f32⟩
  | .hbm, ⟨92, _⟩ => ⟨S1x1024, .f32⟩
  | .hbm, ⟨93, _⟩ => ⟨S4x1024x704, .f32⟩
  | .hbm, ⟨94, _⟩ => ⟨S4x1024x704, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]
-- ==== FoxKv.lean ====
abbrev S8192x1024 : Shape := ⟨2, ![8192, 1024]⟩
abbrev S8192x768 : Shape := ⟨2, ![8192, 768]⟩
abbrev S6x8192 : Shape := ⟨2, ![6, 8192]⟩
abbrev S_ : Shape := ⟨0, ![]⟩
abbrev S6x1x8192 : Shape := ⟨3, ![6, 1, 8192]⟩
abbrev S8192x6x128 : Shape := ⟨3, ![8192, 6, 128]⟩
abbrev S6x8192x8192 : Shape := ⟨3, ![6, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S6x8192x1 : Shape := ⟨3, ![6, 8192, 1]⟩
abbrev S6x128x8192 : Shape := ⟨3, ![6, 128, 8192]⟩
abbrev S8192x6 : Shape := ⟨2, ![8192, 6]⟩
abbrev S1024x384 : Shape := ⟨2, ![1024, 384]⟩
abbrev S3x1x1024 : Shape := ⟨3, ![3, 1, 1024]⟩
abbrev S3x1024x1 : Shape := ⟨3, ![3, 1024, 1]⟩
abbrev S1024x128 : Shape := ⟨2, ![1024, 128]⟩
abbrev S1024x1024 : Shape := ⟨2, ![1024, 1024]⟩
abbrev S1x1x1024 : Shape := ⟨3, ![1, 1, 1024]⟩
abbrev S1x1024 : Shape := ⟨2, ![1, 1024]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 101
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x768, .f32⟩
  | .hbm, ⟨2, _⟩ => ⟨S8192x768, .f32⟩
  | .hbm, ⟨3, _⟩ => ⟨S6x8192, .f32⟩
  | .hbm, ⟨4, _⟩ => ⟨S8192x1024, .f32⟩
  | .hbm, ⟨5, _⟩ => ⟨S_, .f32⟩
  | .hbm, ⟨6, _⟩ => ⟨S_, .f32⟩
  | .hbm, ⟨7, _⟩ => ⟨S6x8192, .f32⟩
  | .hbm, ⟨8, _⟩ => ⟨S6x8192, .f32⟩
  | .hbm, ⟨9, _⟩ => ⟨S6x1x8192, .f32⟩
  | .hbm, ⟨10, _⟩ => ⟨S8192x768, .f32⟩
  | .hbm, ⟨11, _⟩ => ⟨S8192x6x128, .f32⟩
  | .hbm, ⟨12, _⟩ => ⟨S8192x6x128, .f32⟩
  | .hbm, ⟨13, _⟩ => ⟨S6x8192x8192, .f32⟩
  | .hbm, ⟨14, _⟩ => ⟨S_, .f32⟩
  | .hbm, ⟨15, _⟩ => ⟨S6x8192x8192, .f32⟩
  | .hbm, ⟨16, _⟩ => ⟨S6x8192x8192, .f32⟩
  | .hbm, ⟨17, _⟩ => ⟨S6x1x8192, .f32⟩
  | .hbm, ⟨18, _⟩ => ⟨S6x8192x8192, .f32⟩
  | .hbm, ⟨19, _⟩ => ⟨S6x8192x8192, .f32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S6x8192x8192, .i1⟩
  | .hbm, ⟨29, _⟩ => ⟨S6x8192x8192, .f32⟩
  | .hbm, ⟨30, _⟩ => ⟨S6x8192x8192, .f32⟩
  | .hbm, ⟨31, _⟩ => ⟨S_, .f32⟩
  | .hbm, ⟨32, _⟩ => ⟨S6x8192, .f32⟩
  | .hbm, ⟨33, _⟩ => ⟨S6x8192x1, .f32⟩
  | .hbm, ⟨34, _⟩ => ⟨S6x8192x8192, .f32⟩
  | .hbm, ⟨35, _⟩ => ⟨S6x8192x8192, .f32⟩
  | .hbm, ⟨36, _⟩ => ⟨S6x8192x8192, .f32⟩
  | .hbm, ⟨37, _⟩ => ⟨S_, .f32⟩
  | .hbm, ⟨38, _⟩ => ⟨S6x8192, .f32⟩
  | .hbm, ⟨39, _⟩ => ⟨S6x8192x1, .f32⟩
  | .hbm, ⟨40, _⟩ => ⟨S6x8192x1, .f32⟩
  | .hbm, ⟨41, _⟩ => ⟨S6x8192x1, .f32⟩
  | .hbm, ⟨42, _⟩ => ⟨S_, .f32⟩
  | .hbm, ⟨43, _⟩ => ⟨S_, .f32⟩
  | .hbm, ⟨44, _⟩ => ⟨S6x8192x1, .f32⟩
  | .hbm, ⟨45, _⟩ => ⟨S6x8192x1, .f32⟩
  | .hbm, ⟨46, _⟩ => ⟨S8192x768, .f32⟩
  | .hbm, ⟨47, _⟩ => ⟨S8192x6x128, .f32⟩
  | .hbm, ⟨48, _⟩ => ⟨S8192x6x128, .f32⟩
  | .hbm, ⟨49, _⟩ => ⟨S8192x6x128, .f32⟩
  | .hbm, ⟨50, _⟩ => ⟨S6x8192x8192, .f32⟩
  | .hbm, ⟨51, _⟩ => ⟨S_, .f32⟩
  | .hbm, ⟨52, _⟩ => ⟨S6x8192x8192, .f32⟩
  | .hbm, ⟨53, _⟩ => ⟨S6x8192x8192, .f32⟩
  | .hbm, ⟨54, _⟩ => ⟨S6x8192x1, .f32⟩
  | .hbm, ⟨55, _⟩ => ⟨S6x8192x8192, .f32⟩
  | .hbm, ⟨56, _⟩ => ⟨S6x8192x8192, .f32⟩
  | .hbm, ⟨57, _⟩ => ⟨S6x1x8192, .f32⟩
  | .hbm, ⟨58, _⟩ => ⟨S6x8192x8192, .f32⟩
  | .hbm, ⟨59, _⟩ => ⟨S6x8192x8192, .f32⟩
  | .hbm, ⟨60, _⟩ => ⟨S8192, .i32⟩
  | .hbm, ⟨61, _⟩ => ⟨S1x8192, .i32⟩
  | .hbm, ⟨62, _⟩ => ⟨S8192x1, .i32⟩
  | .hbm, ⟨63, _⟩ => ⟨S8192x8192, .i32⟩
  | .hbm, ⟨64, _⟩ => ⟨S8192x8192, .i32⟩
  | .hbm, ⟨65, _⟩ => ⟨S8192x8192, .i1⟩
  | .hbm, ⟨66, _⟩ => ⟨S_, .f32⟩
  | .hbm, ⟨67, _⟩ => ⟨S_, .f32⟩
  | .hbm, ⟨68, _⟩ => ⟨S6x8192x8192, .i1⟩
  | .hbm, ⟨69, _⟩ => ⟨S6x8192x8192, .f32⟩
  | .hbm, ⟨70, _⟩ => ⟨S6x8192x8192, .f32⟩
  | .hbm, ⟨71, _⟩ => ⟨S_, .f32⟩
  | .hbm, ⟨72, _⟩ => ⟨S6x8192, .f32⟩
  | .hbm, ⟨73, _⟩ => ⟨S_, .f32⟩
  | .hbm, ⟨74, _⟩ => ⟨S6x8192, .f32⟩
  | .hbm, ⟨75, _⟩ => ⟨S6x8192, .f32⟩
  | .hbm, ⟨76, _⟩ => ⟨S6x8192x1, .f32⟩
  | .hbm, ⟨77, _⟩ => ⟨S6x8192x8192, .f32⟩
  | .hbm, ⟨78, _⟩ => ⟨S6x8192x8192, .f32⟩
  | .hbm, ⟨79, _⟩ => ⟨S6x8192x8192, .f32⟩
  | .hbm, ⟨80, _⟩ => ⟨S_, .f32⟩
  | .hbm, ⟨81, _⟩ => ⟨S6x8192, .f32⟩
  | .hbm, ⟨82, _⟩ => ⟨S6x8192x1, .f32⟩
  | .hbm, ⟨83, _⟩ => ⟨S6x8192x8192, .f32⟩
  | .hbm, ⟨84, _⟩ => ⟨S6x8192x8192, .f32⟩
  | .hbm, ⟨85, _⟩ => ⟨S6x128x8192, .f32⟩
  | .hbm, ⟨86, _⟩ => ⟨S8192x6x128, .f32⟩
  | .hbm, ⟨87, _⟩ => ⟨S8192x768, .f32⟩
  | .hbm, ⟨88, _⟩ => ⟨S8192x768, .f32⟩
  | .hbm, ⟨89, _⟩ => ⟨S8192x768, .f32⟩
  | .hbm, ⟨90, _⟩ => ⟨S8192x6x128, .f32⟩
  | .hbm, ⟨91, _⟩ => ⟨S_, .f32⟩
  | .hbm, ⟨92, _⟩ => ⟨S8192x6, .f32⟩
  | .hbm, ⟨93, _⟩ => ⟨S6x8192, .f32⟩
  | .hbm, ⟨94, _⟩ => ⟨S6x8192x1, .f32⟩
  | .hbm, ⟨95, _⟩ => ⟨S8192x1024, .bf16⟩
  | .hbm, ⟨96, _⟩ => ⟨S8192x768, .bf16⟩
  | .hbm, ⟨97, _⟩ => ⟨S8192x768, .bf16⟩
  | .hbm, ⟨98, _⟩ => ⟨S8192x768, .f32⟩
  | .hbm, ⟨99, _⟩ => ⟨S8192x768, .f32⟩
  | .hbm, ⟨100, _⟩ => ⟨S6x1x8192, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | .local _ .vmem, ⟨6, _⟩ => ⟨S3x1x1024, .f32⟩
  | .local _ .vmem, ⟨7, _⟩ => ⟨S3x1x1024, .f32⟩
  | .local _ .vmem, ⟨8, _⟩ => ⟨S3x1024x1, .f32⟩
  | .local _ .vmem, ⟨9, _⟩ => ⟨S3x1024x1, .f32⟩
  | .local _ .vmem, ⟨10, _⟩ => ⟨S3x1024x1, .f32⟩
  | .local _ .vmem, ⟨11, _⟩ => ⟨S3x1024x1, .f32⟩
  | .local _ .vmem, ⟨12, _⟩ => ⟨S1024x384, .f32⟩
  | .local _ .vmem, ⟨13, _⟩ => ⟨S1024x384, .f32⟩
  | .local _ .vmem, ⟨14, _⟩ => ⟨S1024x384, .f32⟩
  | .local _ .vmem, ⟨15, _⟩ => ⟨S1024x384, .f32⟩
  | .local _ .vmem, ⟨16, _⟩ => ⟨S1024x384, .f32⟩
  | .local _ .vmem, ⟨17, _⟩ => ⟨S1024x384, .f32⟩
  | .local _ .vmem, ⟨18, _⟩ => ⟨S3x1x1024, .f32⟩
  | .local _ .vmem, ⟨19, _⟩ => ⟨S3x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75_0 : Ref sig .tc := ⟨.hbm, 98, rfl⟩
abbrev main_v75_1 : Ref sig .tc := ⟨.hbm, 99, rfl⟩
abbrev main_v75_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let arg2 : BitVec 32 := BitVec.ofNat 32 (i 2).val
  let v3 : BitVec 1 := Scalar.cmpi .slt arg1 arg2
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let arg2 : BitVec 32 := BitVec.ofNat 32 (i 2).val
  let v6 : BitVec 1 := Scalar.cmpi .eq arg1 arg2
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S3x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S3x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S3x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S3x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== FoxKvIdeal.lean ====
variable {F : FTy → Type} [FloatOps F] [Named F]
def κ : String → Option EReal := fun
  | "mask" => some ⊥
  | "scale_log2_e" => some (((11863283 / 134217728) * (Real.log 2)⁻¹ : ℝ) : EReal)
  | _ => none
-- ==== FoxKvRefIdeal.lean ====
abbrev S8192x1024 : Shape := ⟨2, ![8192, 1024]⟩
abbrev S8192x768 : Shape := ⟨2, ![8192, 768]⟩
abbrev S6x8192 : Shape := ⟨2, ![6, 8192]⟩
abbrev S8192x6x128 : Shape := ⟨3, ![8192, 6, 128]⟩
abbrev S6x8192x8192 : Shape := ⟨3, ![6, 8192, 8192]⟩
abbrev S_ : Shape := ⟨0, ![]⟩
abbrev S6x8192x1 : Shape := ⟨3, ![6, 8192, 1]⟩
abbrev S6x1x8192 : Shape := ⟨3, ![6, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S6x128x8192 : Shape := ⟨3, ![6, 128, 8192]⟩
abbrev S6x8192x128 : Shape := ⟨3, ![6, 8192, 128]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x768, .f32⟩
  | .hbm, ⟨2, _⟩ => ⟨S8192x768, .f32⟩
  | .hbm, ⟨3, _⟩ => ⟨S6x8192, .f32⟩
  | .hbm, ⟨4, _⟩ => ⟨S8192x1024, .f32⟩
  | .hbm, ⟨5, _⟩ => ⟨S8192x768, .f32⟩
  | .hbm, ⟨6, _⟩ => ⟨S8192x6x128, .f32⟩
  | .hbm, ⟨7, _⟩ => ⟨S8192x6x128, .f32⟩
  | .hbm, ⟨8, _⟩ => ⟨S8192x6x128, .f32⟩
  | .hbm, ⟨9, _⟩ => ⟨S6x8192x8192, .f32⟩
  | .hbm, ⟨10, _⟩ => ⟨S_, .f32⟩
  | .hbm, ⟨11, _⟩ => ⟨S6x8192x8192, .f32⟩
  | .hbm, ⟨12, _⟩ => ⟨S6x8192x8192, .f32⟩
  | .hbm, ⟨13, _⟩ => ⟨S6x8192x1, .f32⟩
  | .hbm, ⟨14, _⟩ => ⟨S6x8192x8192, .f32⟩
  | .hbm, ⟨15, _⟩ => ⟨S6x8192x8192, .f32⟩
  | .hbm, ⟨16, _⟩ => ⟨S6x1x8192, .f32⟩
  | .hbm, ⟨17, _⟩ => ⟨S6x8192x8192, .f32⟩
  | .hbm, ⟨18, _⟩ => ⟨S6x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S6x8192x8192, .i1⟩
  | .hbm, ⟨28, _⟩ => ⟨S6x8192x8192, .f32⟩
  | .hbm, ⟨29, _⟩ => ⟨S6x8192x8192, .f32⟩
  | .hbm, ⟨30, _⟩ => ⟨S_, .f32⟩
  | .hbm, ⟨31, _⟩ => ⟨S6x8192x8192, .f32⟩
  | .hbm, ⟨32, _⟩ => ⟨S_, .f32⟩
  | .hbm, ⟨33, _⟩ => ⟨S6x8192, .f32⟩
  | .hbm, ⟨34, _⟩ => ⟨S6x8192x1, .f32⟩
  | .hbm, ⟨35, _⟩ => ⟨S6x8192x8192, .f32⟩
  | .hbm, ⟨36, _⟩ => ⟨S6x8192x8192, .i1⟩
  | .hbm, ⟨37, _⟩ => ⟨S6x8192x8192, .f32⟩
  | .hbm, ⟨38, _⟩ => ⟨S_, .f32⟩
  | .hbm, ⟨39, _⟩ => ⟨S6x8192, .f32⟩
  | .hbm, ⟨40, _⟩ => ⟨S_, .f32⟩
  | .hbm, ⟨41, _⟩ => ⟨S6x8192, .f32⟩
  | .hbm, ⟨42, _⟩ => ⟨S6x8192, .f32⟩
  | .hbm, ⟨43, _⟩ => ⟨S_, .f32⟩
  | .hbm, ⟨44, _⟩ => ⟨S6x8192, .f32⟩
  | .hbm, ⟨45, _⟩ => ⟨S6x8192, .i1⟩
  | .hbm, ⟨46, _⟩ => ⟨S_, .f32⟩
  | .hbm, ⟨47, _⟩ => ⟨S6x8192, .f32⟩
  | .hbm, ⟨48, _⟩ => ⟨S6x8192, .i1⟩
  | .hbm, ⟨49, _⟩ => ⟨S_, .f32⟩
  | .hbm, ⟨50, _⟩ => ⟨S6x8192, .f32⟩
  | .hbm, ⟨51, _⟩ => ⟨S_, .f32⟩
  | .hbm, ⟨52, _⟩ => ⟨S6x8192, .f32⟩
  | .hbm, ⟨53, _⟩ => ⟨S_, .f32⟩
  | .hbm, ⟨54, _⟩ => ⟨S6x8192, .f32⟩
  | .hbm, ⟨55, _⟩ => ⟨S6x8192, .f32⟩
  | .hbm, ⟨56, _⟩ => ⟨S6x8192, .f32⟩
  | .hbm, ⟨57, _⟩ => ⟨S6x8192x1, .f32⟩
  | .hbm, ⟨58, _⟩ => ⟨S6x8192x8192, .f32⟩
  | .hbm, ⟨59, _⟩ => ⟨S6x8192x8192, .f32⟩
  | .hbm, ⟨60, _⟩ => ⟨S6x8192x8192, .f32⟩
  | .hbm, ⟨61, _⟩ => ⟨S_, .f32⟩
  | .hbm, ⟨62, _⟩ => ⟨S6x8192, .f32⟩
  | .hbm, ⟨63, _⟩ => ⟨S6x8192x1, .f32⟩
  | .hbm, ⟨64, _⟩ => ⟨S6x8192x8192, .f32⟩
  | .hbm, ⟨65, _⟩ => ⟨S6x8192x8192, .f32⟩
  | .hbm, ⟨66, _⟩ => ⟨S6x8192x1, .f32⟩
  | .hbm, ⟨67, _⟩ => ⟨S_, .f32⟩
  | .hbm, ⟨68, _⟩ => ⟨S6x8192x1, .f32⟩
  | .hbm, ⟨69, _⟩ => ⟨S6x8192x1, .f32⟩
  | .hbm, ⟨70, _⟩ => ⟨S6x128x8192, .f32⟩
  | .hbm, ⟨71, _⟩ => ⟨S8192x6x128, .f32⟩
  | .hbm, ⟨72, _⟩ => ⟨S8192x768, .f32⟩
  | .hbm, ⟨73, _⟩ => ⟨S8192x768, .f32⟩
  | .hbm, ⟨74, _⟩ => ⟨S8192x6x128, .f32⟩
  | .hbm, ⟨75, _⟩ => ⟨S6x128x8192, .f32⟩
  | .hbm, ⟨76, _⟩ => ⟨S6x8192x8192, .f32⟩
  | .hbm, ⟨77, _⟩ => ⟨S6x128x8192, .f32⟩
  | .hbm, ⟨78, _⟩ => ⟨S8192x6x128, .f32⟩
  | .hbm, ⟨79, _⟩ => ⟨S6x8192x8192, .f32⟩
  | .hbm, ⟨80, _⟩ => ⟨S6x8192x8192, .f32⟩
  | .hbm, ⟨81, _⟩ => ⟨S6x8192x8192, .f32⟩
  | .hbm, ⟨82, _⟩ => ⟨S_, .f32⟩
  | .hbm, ⟨83, _⟩ => ⟨S6x8192, .f32⟩
  | .hbm, ⟨84, _⟩ => ⟨S6x8192x1, .f32⟩
  | .hbm, ⟨85, _⟩ => ⟨S6x8192x1, .f32⟩
  | .hbm, ⟨86, _⟩ => ⟨S6x8192x8192, .f32⟩
  | .hbm, ⟨87, _⟩ => ⟨S6x8192x8192, .f32⟩
  | .hbm, ⟨88, _⟩ => ⟨S_, .f32⟩
  | .hbm, ⟨89, _⟩ => ⟨S6x8192, .f32⟩
  | .hbm, ⟨90, _⟩ => ⟨S6x8192x8192, .f32⟩
  | .hbm, ⟨91, _⟩ => ⟨S6x8192x8192, .f32⟩
  | .hbm, ⟨92, _⟩ => ⟨S6x8192x8192, .f32⟩
  | .hbm, ⟨93, _⟩ => ⟨S_, .f32⟩
  | .hbm, ⟨94, _⟩ => ⟨S6x8192x8192, .f32⟩
  | .hbm, ⟨95, _⟩ => ⟨S6x8192x8192, .f32⟩
  | .hbm, ⟨96, _⟩ => ⟨S6x8192x8192, .f32⟩
  | .hbm, ⟨97, _⟩ => ⟨S_, .f32⟩
  | .hbm, ⟨98, _⟩ => ⟨S6x8192, .f32⟩
  | .hbm, ⟨99, _⟩ => ⟨S6x1x8192, .f32⟩
  | .hbm, ⟨100, _⟩ => ⟨S_, .f32⟩
  | .hbm, ⟨101, _⟩ => ⟨S6x8192, .f32⟩
  | .hbm, ⟨102, _⟩ => ⟨S_, .f32⟩
  | .hbm, ⟨103, _⟩ => ⟨S6x8192x8192, .f32⟩
  | .hbm, ⟨104, _⟩ => ⟨S6x8192x8192, .f32⟩
  | .hbm, ⟨105, _⟩ => ⟨S6x8192x128, .f32⟩
  | .hbm, ⟨106, _⟩ => ⟨S8192x6x128, .f32⟩
  | .hbm, ⟨107, _⟩ => ⟨S8192x768, .f32⟩
  | .hbm, ⟨108, _⟩ => ⟨S8192x768, .f32⟩
  | .hbm, ⟨109, _⟩ => ⟨S6x1x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== FoxQ.lean ====
abbrev S8192x1024 : Shape := ⟨2, ![8192, 1024]⟩
abbrev S8192x768 : Shape := ⟨2, ![8192, 768]⟩
abbrev S6x8192 : Shape := ⟨2, ![6, 8192]⟩
abbrev S_ : Shape := ⟨0, ![]⟩
abbrev S6x1x8192 : Shape := ⟨3, ![6, 1, 8192]⟩
abbrev S8192x6x128 : Shape := ⟨3, ![8192, 6, 128]⟩
abbrev S6x8192x8192 : Shape := ⟨3, ![6, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S6x8192x1 : Shape := ⟨3, ![6, 8192, 1]⟩
abbrev S6x128x8192 : Shape := ⟨3, ![6, 128, 8192]⟩
abbrev S1024x384 : Shape := ⟨2, ![1024, 384]⟩
abbrev S3x1x1024 : Shape := ⟨3, ![3, 1, 1024]⟩
abbrev S3x1024x1 : Shape := ⟨3, ![3, 1024, 1]⟩
abbrev S1024x128 : Shape := ⟨2, ![1024, 128]⟩
abbrev S1024 : Shape := ⟨1, ![1024]⟩
abbrev S1024x1 : Shape := ⟨2, ![1024, 1]⟩
abbrev S1x1024x1 : Shape := ⟨3, ![1, 1024, 1]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 98
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x768, .f32⟩
  | .hbm, ⟨2, _⟩ => ⟨S8192x768, .f32⟩
  | .hbm, ⟨3, _⟩ => ⟨S6x8192, .f32⟩
  | .hbm, ⟨4, _⟩ => ⟨S8192x1024, .f32⟩
  | .hbm, ⟨5, _⟩ => ⟨S_, .f32⟩
  | .hbm, ⟨6, _⟩ => ⟨S_, .f32⟩
  | .hbm, ⟨7, _⟩ => ⟨S6x8192, .f32⟩
  | .hbm, ⟨8, _⟩ => ⟨S6x8192, .f32⟩
  | .hbm, ⟨9, _⟩ => ⟨S6x1x8192, .f32⟩
  | .hbm, ⟨10, _⟩ => ⟨S8192x768, .f32⟩
  | .hbm, ⟨11, _⟩ => ⟨S8192x6x128, .f32⟩
  | .hbm, ⟨12, _⟩ => ⟨S8192x6x128, .f32⟩
  | .hbm, ⟨13, _⟩ => ⟨S6x8192x8192, .f32⟩
  | .hbm, ⟨14, _⟩ => ⟨S_, .f32⟩
  | .hbm, ⟨15, _⟩ => ⟨S6x8192x8192, .f32⟩
  | .hbm, ⟨16, _⟩ => ⟨S6x8192x8192, .f32⟩
  | .hbm, ⟨17, _⟩ => ⟨S6x1x8192, .f32⟩
  | .hbm, ⟨18, _⟩ => ⟨S6x8192x8192, .f32⟩
  | .hbm, ⟨19, _⟩ => ⟨S6x8192x8192, .f32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S6x8192x8192, .i1⟩
  | .hbm, ⟨29, _⟩ => ⟨S6x8192x8192, .f32⟩
  | .hbm, ⟨30, _⟩ => ⟨S6x8192x8192, .f32⟩
  | .hbm, ⟨31, _⟩ => ⟨S_, .f32⟩
  | .hbm, ⟨32, _⟩ => ⟨S6x8192, .f32⟩
  | .hbm, ⟨33, _⟩ => ⟨S6x8192x1, .f32⟩
  | .hbm, ⟨34, _⟩ => ⟨S6x8192x8192, .f32⟩
  | .hbm, ⟨35, _⟩ => ⟨S6x8192x8192, .f32⟩
  | .hbm, ⟨36, _⟩ => ⟨S6x8192x8192, .f32⟩
  | .hbm, ⟨37, _⟩ => ⟨S_, .f32⟩
  | .hbm, ⟨38, _⟩ => ⟨S6x8192, .f32⟩
  | .hbm, ⟨39, _⟩ => ⟨S6x8192x1, .f32⟩
  | .hbm, ⟨40, _⟩ => ⟨S6x8192x1, .f32⟩
  | .hbm, ⟨41, _⟩ => ⟨S6x8192x1, .f32⟩
  | .hbm, ⟨42, _⟩ => ⟨S_, .f32⟩
  | .hbm, ⟨43, _⟩ => ⟨S_, .f32⟩
  | .hbm, ⟨44, _⟩ => ⟨S6x8192x1, .f32⟩
  | .hbm, ⟨45, _⟩ => ⟨S6x8192x1, .f32⟩
  | .hbm, ⟨46, _⟩ => ⟨S8192x768, .f32⟩
  | .hbm, ⟨47, _⟩ => ⟨S8192x6x128, .f32⟩
  | .hbm, ⟨48, _⟩ => ⟨S8192x6x128, .f32⟩
  | .hbm, ⟨49, _⟩ => ⟨S8192x6x128, .f32⟩
  | .hbm, ⟨50, _⟩ => ⟨S6x8192x8192, .f32⟩
  | .hbm, ⟨51, _⟩ => ⟨S_, .f32⟩
  | .hbm, ⟨52, _⟩ => ⟨S6x8192x8192, .f32⟩
  | .hbm, ⟨53, _⟩ => ⟨S6x8192x8192, .f32⟩
  | .hbm, ⟨54, _⟩ => ⟨S6x8192x1, .f32⟩
  | .hbm, ⟨55, _⟩ => ⟨S6x8192x8192, .f32⟩
  | .hbm, ⟨56, _⟩ => ⟨S6x8192x8192, .f32⟩
  | .hbm, ⟨57, _⟩ => ⟨S6x1x8192, .f32⟩
  | .hbm, ⟨58, _⟩ => ⟨S6x8192x8192, .f32⟩
  | .hbm, ⟨59, _⟩ => ⟨S6x8192x8192, .f32⟩
  | .hbm, ⟨60, _⟩ => ⟨S8192, .i32⟩
  | .hbm, ⟨61, _⟩ => ⟨S1x8192, .i32⟩
  | .hbm, ⟨62, _⟩ => ⟨S8192x1, .i32⟩
  | .hbm, ⟨63, _⟩ => ⟨S8192x8192, .i32⟩
  | .hbm, ⟨64, _⟩ => ⟨S8192x8192, .i32⟩
  | .hbm, ⟨65, _⟩ => ⟨S8192x8192, .i1⟩
  | .hbm, ⟨66, _⟩ => ⟨S_, .f32⟩
  | .hbm, ⟨67, _⟩ => ⟨S_, .f32⟩
  | .hbm, ⟨68, _⟩ => ⟨S6x8192x8192, .i1⟩
  | .hbm, ⟨69, _⟩ => ⟨S6x8192x8192, .f32⟩
  | .hbm, ⟨70, _⟩ => ⟨S6x8192x8192, .f32⟩
  | .hbm, ⟨71, _⟩ => ⟨S_, .f32⟩
  | .hbm, ⟨72, _⟩ => ⟨S6x8192, .f32⟩
  | .hbm, ⟨73, _⟩ => ⟨S_, .f32⟩
  | .hbm, ⟨74, _⟩ => ⟨S6x8192, .f32⟩
  | .hbm, ⟨75, _⟩ => ⟨S6x8192, .f32⟩
  | .hbm, ⟨76, _⟩ => ⟨S6x8192x1, .f32⟩
  | .hbm, ⟨77, _⟩ => ⟨S6x8192x8192, .f32⟩
  | .hbm, ⟨78, _⟩ => ⟨S6x8192x8192, .f32⟩
  | .hbm, ⟨79, _⟩ => ⟨S6x8192x8192, .f32⟩
  | .hbm, ⟨80, _⟩ => ⟨S_, .f32⟩
  | .hbm, ⟨81, _⟩ => ⟨S6x8192, .f32⟩
  | .hbm, ⟨82, _⟩ => ⟨S6x8192x1, .f32⟩
  | .hbm, ⟨83, _⟩ => ⟨S6x8192x8192, .f32⟩
  | .hbm, ⟨84, _⟩ => ⟨S6x8192x8192, .f32⟩
  | .hbm, ⟨85, _⟩ => ⟨S6x128x8192, .f32⟩
  | .hbm, ⟨86, _⟩ => ⟨S8192x6x128, .f32⟩
  | .hbm, ⟨87, _⟩ => ⟨S8192x768, .f32⟩
  | .hbm, ⟨88, _⟩ => ⟨S_, .i32⟩
  | .hbm, ⟨89, _⟩ => ⟨S_, .f32⟩
  | .hbm, ⟨90, _⟩ => ⟨S8192x1024, .f32⟩
  | .hbm, ⟨91, _⟩ => ⟨S8192x1024, .bf16⟩
  | .hbm, ⟨92, _⟩ => ⟨S8192x768, .bf16⟩
  | .hbm, ⟨93, _⟩ => ⟨S8192x768, .bf16⟩
  | .hbm, ⟨94, _⟩ => ⟨S8192x1024, .bf16⟩
  | .hbm, ⟨95, _⟩ => ⟨S8192x768, .bf16⟩
  | .hbm, ⟨96, _⟩ => ⟨S6x8192x1, .f32⟩
  | .hbm, ⟨97, _⟩ => ⟨S6x8192x1, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | .local _ .vmem, ⟨6, _⟩ => ⟨S3x1x1024, .f32⟩
  | .local _ .vmem, ⟨7, _⟩ => ⟨S3x1x1024, .f32⟩
  | .local _ .vmem, ⟨8, _⟩ => ⟨S3x1024x1, .f32⟩
  | .local _ .vmem, ⟨9, _⟩ => ⟨S3x1024x1, .f32⟩
  | .local _ .vmem, ⟨10, _⟩ => ⟨S1024x384, .bf16⟩
  | .local _ .vmem, ⟨11, _⟩ => ⟨S1024x384, .bf16⟩
  | .local _ .vmem, ⟨12, _⟩ => ⟨S1024x384, .f32⟩
  | .local _ .vmem, ⟨13, _⟩ => ⟨S1024x384, .f32⟩
  | .local _ .vmem, ⟨14, _⟩ => ⟨S1024x384, .bf16⟩
  | .local _ .vmem, ⟨15, _⟩ => ⟨S1024x384, .bf16⟩
  | .local _ .vmem, ⟨16, _⟩ => ⟨S3x1024x1, .f32⟩
  | .local _ .vmem, ⟨17, _⟩ => ⟨S3x1024x1, .f32⟩
  | .local _ .vmem, ⟨18, _⟩ => ⟨S3x1024x1, .f32⟩
  | .local _ .vmem, ⟨19, _⟩ => ⟨S3x1024x1, .f32⟩
  | .local _ .vmem, ⟨20, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c : Ref sig .tc := ⟨.hbm, 88, rfl⟩
abbrev main_call2_v0 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71_0 : Ref sig .tc := ⟨.hbm, 95, rfl⟩
abbrev main_v71_1 : Ref sig .tc := ⟨.hbm, 96, rfl⟩
abbrev main_v71_2 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 8], ![false, false, false]⟩

def k0_cond4 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_14 : BitVec 32 := 0#32
  let v17 : BitVec 1 := Scalar.cmpi .ne v16 c0_i32_14
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  ![v0.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S3x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S3x1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S3x1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== FoxQIdeal.lean ====
variable {F : FTy → Type} [FloatOps F] [Named F]
def κ : String → Option EReal := fun
  | "mask" => some ⊥
  | "scale_log2_e" => some (((11863283 / 134217728) * (Real.log 2)⁻¹ : ℝ) : EReal)
  | _ => none
-- ==== FoxQRefIdeal.lean ====
abbrev S8192x1024 : Shape := ⟨2, ![8192, 1024]⟩
abbrev S8192x768 : Shape := ⟨2, ![8192, 768]⟩
abbrev S6x8192 : Shape := ⟨2, ![6, 8192]⟩
abbrev S8192x6x128 : Shape := ⟨3, ![8192, 6, 128]⟩
abbrev S6x8192x8192 : Shape := ⟨3, ![6, 8192, 8192]⟩
abbrev S_ : Shape := ⟨0, ![]⟩
abbrev S6x8192x1 : Shape := ⟨3, ![6, 8192, 1]⟩
abbrev S6x1x8192 : Shape := ⟨3, ![6, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S6x128x8192 : Shape := ⟨3, ![6, 128, 8192]⟩
abbrev S6x8192x128 : Shape := ⟨3, ![6, 8192, 128]⟩
abbrev S8192x6 : Shape := ⟨2, ![8192, 6]⟩

abbrev nBuf : Space → Nat
  | .hbm => 114
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x768, .f32⟩
  | .hbm, ⟨2, _⟩ => ⟨S8192x768, .f32⟩
  | .hbm, ⟨3, _⟩ => ⟨S6x8192, .f32⟩
  | .hbm, ⟨4, _⟩ => ⟨S8192x1024, .f32⟩
  | .hbm, ⟨5, _⟩ => ⟨S8192x768, .f32⟩
  | .hbm, ⟨6, _⟩ => ⟨S8192x6x128, .f32⟩
  | .hbm, ⟨7, _⟩ => ⟨S8192x6x128, .f32⟩
  | .hbm, ⟨8, _⟩ => ⟨S8192x6x128, .f32⟩
  | .hbm, ⟨9, _⟩ => ⟨S6x8192x8192, .f32⟩
  | .hbm, ⟨10, _⟩ => ⟨S_, .f32⟩
  | .hbm, ⟨11, _⟩ => ⟨S6x8192x8192, .f32⟩
  | .hbm, ⟨12, _⟩ => ⟨S6x8192x8192, .f32⟩
  | .hbm, ⟨13, _⟩ => ⟨S6x8192x1, .f32⟩
  | .hbm, ⟨14, _⟩ => ⟨S6x8192x8192, .f32⟩
  | .hbm, ⟨15, _⟩ => ⟨S6x8192x8192, .f32⟩
  | .hbm, ⟨16, _⟩ => ⟨S6x1x8192, .f32⟩
  | .hbm, ⟨17, _⟩ => ⟨S6x8192x8192, .f32⟩
  | .hbm, ⟨18, _⟩ => ⟨S6x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S6x8192x8192, .i1⟩
  | .hbm, ⟨28, _⟩ => ⟨S6x8192x8192, .f32⟩
  | .hbm, ⟨29, _⟩ => ⟨S6x8192x8192, .f32⟩
  | .hbm, ⟨30, _⟩ => ⟨S_, .f32⟩
  | .hbm, ⟨31, _⟩ => ⟨S6x8192x8192, .f32⟩
  | .hbm, ⟨32, _⟩ => ⟨S_, .f32⟩
  | .hbm, ⟨33, _⟩ => ⟨S6x8192, .f32⟩
  | .hbm, ⟨34, _⟩ => ⟨S6x8192x1, .f32⟩
  | .hbm, ⟨35, _⟩ => ⟨S6x8192x8192, .f32⟩
  | .hbm, ⟨36, _⟩ => ⟨S6x8192x8192, .i1⟩
  | .hbm, ⟨37, _⟩ => ⟨S6x8192x8192, .f32⟩
  | .hbm, ⟨38, _⟩ => ⟨S_, .f32⟩
  | .hbm, ⟨39, _⟩ => ⟨S6x8192, .f32⟩
  | .hbm, ⟨40, _⟩ => ⟨S_, .f32⟩
  | .hbm, ⟨41, _⟩ => ⟨S6x8192, .f32⟩
  | .hbm, ⟨42, _⟩ => ⟨S6x8192, .f32⟩
  | .hbm, ⟨43, _⟩ => ⟨S_, .f32⟩
  | .hbm, ⟨44, _⟩ => ⟨S6x8192, .f32⟩
  | .hbm, ⟨45, _⟩ => ⟨S6x8192, .i1⟩
  | .hbm, ⟨46, _⟩ => ⟨S_, .f32⟩
  | .hbm, ⟨47, _⟩ => ⟨S6x8192, .f32⟩
  | .hbm, ⟨48, _⟩ => ⟨S6x8192, .i1⟩
  | .hbm, ⟨49, _⟩ => ⟨S_, .f32⟩
  | .hbm, ⟨50, _⟩ => ⟨S6x8192, .f32⟩
  | .hbm, ⟨51, _⟩ => ⟨S_, .f32⟩
  | .hbm, ⟨52, _⟩ => ⟨S6x8192, .f32⟩
  | .hbm, ⟨53, _⟩ => ⟨S_, .f32⟩
  | .hbm, ⟨54, _⟩ => ⟨S6x8192, .f32⟩
  | .hbm, ⟨55, _⟩ => ⟨S6x8192, .f32⟩
  | .hbm, ⟨56, _⟩ => ⟨S6x8192, .f32⟩
  | .hbm, ⟨57, _⟩ => ⟨S6x8192x1, .f32⟩
  | .hbm, ⟨58, _⟩ => ⟨S6x8192x8192, .f32⟩
  | .hbm, ⟨59, _⟩ => ⟨S6x8192x8192, .f32⟩
  | .hbm, ⟨60, _⟩ => ⟨S6x8192x8192, .f32⟩
  | .hbm, ⟨61, _⟩ => ⟨S_, .f32⟩
  | .hbm, ⟨62, _⟩ => ⟨S6x8192, .f32⟩
  | .hbm, ⟨63, _⟩ => ⟨S6x8192x1, .f32⟩
  | .hbm, ⟨64, _⟩ => ⟨S6x8192x8192, .f32⟩
  | .hbm, ⟨65, _⟩ => ⟨S6x8192x8192, .f32⟩
  | .hbm, ⟨66, _⟩ => ⟨S6x8192x1, .f32⟩
  | .hbm, ⟨67, _⟩ => ⟨S_, .f32⟩
  | .hbm, ⟨68, _⟩ => ⟨S6x8192x1, .f32⟩
  | .hbm, ⟨69, _⟩ => ⟨S6x8192x1, .f32⟩
  | .hbm, ⟨70, _⟩ => ⟨S6x128x8192, .f32⟩
  | .hbm, ⟨71, _⟩ => ⟨S8192x6x128, .f32⟩
  | .hbm, ⟨72, _⟩ => ⟨S8192x768, .f32⟩
  | .hbm, ⟨73, _⟩ => ⟨S8192x768, .f32⟩
  | .hbm, ⟨74, _⟩ => ⟨S8192x6x128, .f32⟩
  | .hbm, ⟨75, _⟩ => ⟨S6x128x8192, .f32⟩
  | .hbm, ⟨76, _⟩ => ⟨S6x8192x8192, .f32⟩
  | .hbm, ⟨77, _⟩ => ⟨S6x8192x8192, .f32⟩
  | .hbm, ⟨78, _⟩ => ⟨S6x8192x8192, .f32⟩
  | .hbm, ⟨79, _⟩ => ⟨S6x8192x8192, .f32⟩
  | .hbm, ⟨80, _⟩ => ⟨S_, .f32⟩
  | .hbm, ⟨81, _⟩ => ⟨S6x8192, .f32⟩
  | .hbm, ⟨82, _⟩ => ⟨S6x8192x1, .f32⟩
  | .hbm, ⟨83, _⟩ => ⟨S6x8192x1, .f32⟩
  | .hbm, ⟨84, _⟩ => ⟨S6x8192x8192, .f32⟩
  | .hbm, ⟨85, _⟩ => ⟨S6x8192x8192, .f32⟩
  | .hbm, ⟨86, _⟩ => ⟨S_, .f32⟩
  | .hbm, ⟨87, _⟩ => ⟨S6x8192, .f32⟩
  | .hbm, ⟨88, _⟩ => ⟨S6x8192x8192, .f32⟩
  | .hbm, ⟨89, _⟩ => ⟨S6x8192x8192, .f32⟩
  | .hbm, ⟨90, _⟩ => ⟨S6x8192x8192, .f32⟩
  | .hbm, ⟨91, _⟩ => ⟨S_, .f32⟩
  | .hbm, ⟨92, _⟩ => ⟨S6x8192x8192, .f32⟩
  | .hbm, ⟨93, _⟩ => ⟨S6x8192x8192, .f32⟩
  | .hbm, ⟨94, _⟩ => ⟨S_, .f32⟩
  | .hbm, ⟨95, _⟩ => ⟨S6x8192, .f32⟩
  | .hbm, ⟨96, _⟩ => ⟨S6x8192x1, .f32⟩
  | .hbm, ⟨97, _⟩ => ⟨S_, .f32⟩
  | .hbm, ⟨98, _⟩ => ⟨S6x8192, .f32⟩
  | .hbm, ⟨99, _⟩ => ⟨S_, .f32⟩
  | .hbm, ⟨100, _⟩ => ⟨S6x8192x8192, .f32⟩
  | .hbm, ⟨101, _⟩ => ⟨S6x8192x8192, .f32⟩
  | .hbm, ⟨102, _⟩ => ⟨S6x8192x128, .f32⟩
  | .hbm, ⟨103, _⟩ => ⟨S8192x6x128, .f32⟩
  | .hbm, ⟨104, _⟩ => ⟨S8192x768, .f32⟩
  | .hbm, ⟨105, _⟩ => ⟨S8192x768, .f32⟩
  | .hbm, ⟨106, _⟩ => ⟨S8192x768, .f32⟩
  | .hbm, ⟨107, _⟩ => ⟨S8192x6x128, .f32⟩
  | .hbm, ⟨108, _⟩ => ⟨S_, .f32⟩
  | .hbm, ⟨109, _⟩ => ⟨S8192x6, .f32⟩
  | .hbm, ⟨110, _⟩ => ⟨S8192x768, .bf16⟩
  | .hbm, ⟨111, _⟩ => ⟨S6x8192, .f32⟩
  | .hbm, ⟨112, _⟩ => ⟨S6x8192x1, .f32⟩
  | .hbm, ⟨113, _⟩ => ⟨S6x8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call1_cst : Ref sig .tc := ⟨.hbm, 91, rfl⟩
abbrev main_call1_v0 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KvPost.lean ====
abbrev S8192x1542 : Shape := ⟨2, ![8192, 1542]⟩
abbrev S6 : Shape := ⟨1, ![6]⟩
abbrev S8192x768 : Shape := ⟨2, ![8192, 768]⟩
abbrev S8192x6 : Shape := ⟨2, ![8192, 6]⟩
abbrev S_ : Shape := ⟨0, ![]⟩
abbrev S8192x1664 : Shape := ⟨2, ![8192, 1664]⟩
abbrev S1x6 : Shape := ⟨2, ![1, 6]⟩
abbrev S1x128 : Shape := ⟨2, ![1, 128]⟩
abbrev S8192x128 : Shape := ⟨2, ![8192, 128]⟩
abbrev S512x768 : Shape := ⟨2, ![512, 768]⟩
abbrev S512x128 : Shape := ⟨2, ![512, 128]⟩
abbrev S128 : Shape := ⟨1, ![128]⟩

abbrev nBuf : Space → Nat
  | .hbm => 21
  | .vmem => 24
  | .smem => 0
  | _ => 0

abbrev bufTy : (tb : Table) → Fin (tcTables nBuf tb) → BufTy
  | .hbm, ⟨0, _⟩ => ⟨S8192x1542, .f32⟩
  | .hbm, ⟨1, _⟩ => ⟨S6, .f32⟩
  | .hbm, ⟨2, _⟩ => ⟨S8192x768, .f32⟩
  | .hbm, ⟨3, _⟩ => ⟨S8192x768, .f32⟩
  | .hbm, ⟨4, _⟩ => ⟨S8192x768, .f32⟩
  | .hbm, ⟨5, _⟩ => ⟨S8192x768, .f32⟩
  | .hbm, ⟨6, _⟩ => ⟨S8192x6, .f32⟩
  | .hbm, ⟨7, _⟩ => ⟨S_, .i32⟩
  | .hbm, ⟨8, _⟩ => ⟨S_, .f32⟩
  | .hbm, ⟨9, _⟩ => ⟨S8192x1664, .f32⟩
  | .hbm, ⟨10, _⟩ => ⟨S1x6, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S_, .i32⟩
  | .hbm, ⟨15, _⟩ => ⟨S_, .f32⟩
  | .hbm, ⟨16, _⟩ => ⟨S8192x128, .f32⟩
  | .hbm, ⟨17, _⟩ => ⟨S8192x768, .bf16⟩
  | .hbm, ⟨18, _⟩ => ⟨S8192x768, .bf16⟩
  | .hbm, ⟨19, _⟩ => ⟨S8192x128, .bf16⟩
  | .hbm, ⟨20, _⟩ => ⟨S1x128, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x128, .f32⟩
  | .local _ .vmem, ⟨16, _⟩ => ⟨S512x128, .f32⟩
  | .local _ .vmem, ⟨17, _⟩ => ⟨S512x768, .bf16⟩
  | .local _ .vmem, ⟨18, _⟩ => ⟨S512x768, .bf16⟩
  | .local _ .vmem, ⟨19, _⟩ => ⟨S512x768, .bf16⟩
  | .local _ .vmem, ⟨20, _⟩ => ⟨S512x768, .bf16⟩
  | .local _ .vmem, ⟨21, _⟩ => ⟨S512x128, .bf16⟩
  | .local _ .vmem, ⟨22, _⟩ => ⟨S512x128, .bf16⟩
  | .local _ .vmem, ⟨23, _⟩ => ⟨S1x128, .f32⟩
  | _, _ => ⟨S8192x1542, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_c_1 : Ref sig .tc := ⟨.hbm, 14, rfl⟩
abbrev main_call2_v0 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KvPostRefIdeal.lean ====
abbrev S8192x1542 : Shape := ⟨2, ![8192, 1542]⟩
abbrev S6 : Shape := ⟨1, ![6]⟩
abbrev S8192x768 : Shape := ⟨2, ![8192, 768]⟩
abbrev S8192x6 : Shape := ⟨2, ![8192, 6]⟩
abbrev S1x6 : Shape := ⟨2, ![1, 6]⟩
abbrev S_ : Shape := ⟨0, ![]⟩
abbrev S8192x128 : Shape := ⟨2, ![8192, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S8192x1542, .f32⟩
  | .hbm, ⟨1, _⟩ => ⟨S6, .f32⟩
  | .hbm, ⟨2, _⟩ => ⟨S8192x768, .f32⟩
  | .hbm, ⟨3, _⟩ => ⟨S8192x768, .f32⟩
  | .hbm, ⟨4, _⟩ => ⟨S8192x768, .f32⟩
  | .hbm, ⟨5, _⟩ => ⟨S8192x768, .f32⟩
  | .hbm, ⟨6, _⟩ => ⟨S8192x6, .f32⟩
  | .hbm, ⟨7, _⟩ => ⟨S8192x768, .f32⟩
  | .hbm, ⟨8, _⟩ => ⟨S8192x768, .f32⟩
  | .hbm, ⟨9, _⟩ => ⟨S8192x6, .f32⟩
  | .hbm, ⟨10, _⟩ => ⟨S1x6, .f32⟩
  | .hbm, ⟨11, _⟩ => ⟨S8192x6, .f32⟩
  | .hbm, ⟨12, _⟩ => ⟨S8192x6, .f32⟩
  | .hbm, ⟨13, _⟩ => ⟨S8192x6, .f32⟩
  | .hbm, ⟨14, _⟩ => ⟨S_, .f32⟩
  | .hbm, ⟨15, _⟩ => ⟨S8192x6, .f32⟩
  | .hbm, ⟨16, _⟩ => ⟨S8192x6, .f32⟩
  | .hbm, ⟨17, _⟩ => ⟨S8192x6, .f32⟩
  | .hbm, ⟨18, _⟩ => ⟨S8192x6, .f32⟩
  | .hbm, ⟨19, _⟩ => ⟨S8192x6, .i1⟩
  | .hbm, ⟨20, _⟩ => ⟨S8192x6, .f32⟩
  | .hbm, ⟨21, _⟩ => ⟨S8192x6, .f32⟩
  | .hbm, ⟨22, _⟩ => ⟨S8192x6, .f32⟩
  | .hbm, ⟨23, _⟩ => ⟨S8192x6, .f32⟩
  | .hbm, ⟨24, _⟩ => ⟨S8192x6, .f32⟩
  | .hbm, ⟨25, _⟩ => ⟨S8192x6, .f32⟩
  | .hbm, ⟨26, _⟩ => ⟨S8192x6, .f32⟩
  | .hbm, ⟨27, _⟩ => ⟨S8192x6, .f32⟩
  | .hbm, ⟨28, _⟩ => ⟨S_, .f32⟩
  | .hbm, ⟨29, _⟩ => ⟨S8192x6, .f32⟩
  | .hbm, ⟨30, _⟩ => ⟨S8192x6, .i1⟩
  | .hbm, ⟨31, _⟩ => ⟨S_, .f32⟩
  | .hbm, ⟨32, _⟩ => ⟨S8192x6, .f32⟩
  | .hbm, ⟨33, _⟩ => ⟨S8192x6, .f32⟩
  | .hbm, ⟨34, _⟩ => ⟨S_, .f32⟩
  | .hbm, ⟨35, _⟩ => ⟨S8192x6, .f32⟩
  | .hbm, ⟨36, _⟩ => ⟨S8192x6, .i1⟩
  | .hbm, ⟨37, _⟩ => ⟨S_, .f32⟩
  | .hbm, ⟨38, _⟩ => ⟨S8192x6, .f32⟩
  | .hbm, ⟨39, _⟩ => ⟨S8192x6, .f32⟩
  | .hbm, ⟨40, _⟩ => ⟨S8192x6, .f32⟩
  | .hbm, ⟨41, _⟩ => ⟨S8192x6, .f32⟩
  | .hbm, ⟨42, _⟩ => ⟨S_, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192x6, .f32⟩
  | .hbm, ⟨50, _⟩ => ⟨S8192x6, .i1⟩
  | .hbm, ⟨51, _⟩ => ⟨S_, .f32⟩
  | .hbm, ⟨52, _⟩ => ⟨S8192x6, .f32⟩
  | .hbm, ⟨53, _⟩ => ⟨S8192x6, .f32⟩
  | .hbm, ⟨54, _⟩ => ⟨S8192x6, .f32⟩
  | .hbm, ⟨55, _⟩ => ⟨S8192x6, .f32⟩
  | .hbm, ⟨56, _⟩ => ⟨S8192x6, .f32⟩
  | .hbm, ⟨57, _⟩ => ⟨S_, .f32⟩
  | .hbm, ⟨58, _⟩ => ⟨S8192x6, .f32⟩
  | .hbm, ⟨59, _⟩ => ⟨S8192x6, .f32⟩
  | .hbm, ⟨60, _⟩ => ⟨S8192x6, .f32⟩
  | .hbm, ⟨61, _⟩ => ⟨S8192x768, .f32⟩
  | .hbm, ⟨62, _⟩ => ⟨S8192x768, .f32⟩
  | .hbm, ⟨63, _⟩ => ⟨S8192x6, .f32⟩
  | .hbm, ⟨64, _⟩ => ⟨S8192x6, .f32⟩
  | .hbm, ⟨65, _⟩ => ⟨S8192x6, .f32⟩
  | .hbm, ⟨66, _⟩ => ⟨S_, .f32⟩
  | .hbm, ⟨67, _⟩ => ⟨S6, .f32⟩
  | .hbm, ⟨68, _⟩ => ⟨S1x6, .f32⟩
  | .hbm, ⟨69, _⟩ => ⟨S_, .f32⟩
  | .hbm, ⟨70, _⟩ => ⟨S6, .f32⟩
  | .hbm, ⟨71, _⟩ => ⟨S_, .f32⟩
  | .hbm, ⟨72, _⟩ => ⟨S8192x1542, .f32⟩
  | .hbm, ⟨73, _⟩ => ⟨S_, .f32⟩
  | .hbm, ⟨74, _⟩ => ⟨S8192x1542, .f32⟩
  | .hbm, ⟨75, _⟩ => ⟨S8192x1542, .f32⟩
  | .hbm, ⟨76, _⟩ => ⟨S_, .f32⟩
  | .hbm, ⟨77, _⟩ => ⟨S8192x1542, .f32⟩
  | .hbm, ⟨78, _⟩ => ⟨S8192x1542, .f32⟩
  | .hbm, ⟨79, _⟩ => ⟨S8192x768, .f32⟩
  | .hbm, ⟨80, _⟩ => ⟨S8192x768, .bf16⟩
  | .hbm, ⟨81, _⟩ => ⟨S8192x768, .f32⟩
  | .hbm, ⟨82, _⟩ => ⟨S8192x768, .bf16⟩
  | .hbm, ⟨83, _⟩ => ⟨S8192x6, .f32⟩
  | .hbm, ⟨84, _⟩ => ⟨S_, .i32⟩
  | .hbm, ⟨85, _⟩ => ⟨S_, .f32⟩
  | .hbm, ⟨86, _⟩ => ⟨S8192x128, .f32⟩
  | .hbm, ⟨87, _⟩ => ⟨S8192x128, .bf16⟩
  | .hbm, ⟨88, _⟩ => ⟨S1x6, .f32⟩
  | .hbm, ⟨89, _⟩ => ⟨S_, .i32⟩
  | .hbm, ⟨90, _⟩ => ⟨S_, .f32⟩
  | .hbm, ⟨91, _⟩ => ⟨S1x128, .f32⟩
  | _, _ => ⟨S8192x1542, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1_0 : Ref sig .tc := ⟨.hbm, 27, rfl⟩
abbrev main_call0_call0_cst_0 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_cst_1 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_cst_2 : Ref sig .tc := ⟨.hbm, 34, rfl⟩
abbrev main_call0_call0_v17 : Ref sig .tc := ⟨.hbm, 35, rfl⟩
abbrev main_call0_call0_v18 : Ref sig .tc := ⟨.hbm, 36, rfl⟩
abbrev main_call0_call0_cst_3 : Ref sig .tc := ⟨.hbm, 37, rfl⟩
abbrev main_call0_call0_v19 : Ref sig .tc := ⟨.hbm, 38, rfl⟩
abbrev main_call0_call0_v20 : Ref sig .tc := ⟨.hbm, 39, rfl⟩
abbrev main_call0_call0_v21 : Ref sig .tc := ⟨.hbm, 40, rfl⟩
abbrev main_v6_1 : Ref sig .tc := ⟨.hbm, 41, rfl⟩
abbrev main_call0_call0_cst_4 : Ref sig .tc := ⟨.hbm, 42, rfl⟩
abbrev main_call0_call0_cst_5 : Ref sig .tc := ⟨.hbm, 43, rfl⟩
abbrev main_call0_call0_v23 : Ref sig .tc := ⟨.hbm, 44, rfl⟩
abbrev main_call0_call0_cst_6 : Ref sig .tc := ⟨.hbm, 45, rfl⟩
abbrev main_call0_call0_cst_7 : Ref sig .tc := ⟨.hbm, 46, rfl⟩
abbrev main_call0_call0_v24 : Ref sig .tc := ⟨.hbm, 47, rfl⟩
abbrev main_call0_call0_cst_8 : Ref sig .tc := ⟨.hbm, 48, rfl⟩
abbrev main_call0_call0_v25 : Ref sig .tc := ⟨.hbm, 49, rfl⟩
abbrev main_call0_call0_v26 : Ref sig .tc := ⟨.hbm, 50, rfl⟩
abbrev main_call0_call0_cst_9 : Ref sig .tc := ⟨.hbm, 51, rfl⟩
abbrev main_call0_call0_v27 : Ref sig .tc := ⟨.hbm, 52, rfl⟩
abbrev main_call0_call0_v28 : Ref sig .tc := ⟨.hbm, 53, rfl⟩
abbrev main_call0_call0_v29 : Ref sig .tc := ⟨.hbm, 54, rfl⟩
abbrev main_call0_call0_v30 : Ref sig .tc := ⟨.hbm, 55, rfl⟩
abbrev main_call0_call0_v31 : Ref sig .tc := ⟨.hbm, 56, rfl⟩
abbrev main_call0_call0_cst_10 : Ref sig .tc := ⟨.hbm, 57, rfl⟩
abbrev main_call0_call0_v32 : Ref sig .tc := ⟨.hbm, 58, rfl⟩
abbrev main_v6_2 : Ref sig .tc := ⟨.hbm, 59, rfl⟩
abbrev main_v6_0 : Ref sig .tc := ⟨.hbm, 60, rfl⟩
abbrev main_v7 : Ref sig .tc := ⟨.hbm, 61, rfl⟩
abbrev main_v8 : Ref sig .tc := ⟨.hbm, 62, rfl⟩
abbrev main_call1_v0 : Ref sig .tc := ⟨.hbm, 63, rfl⟩
abbrev main_call1_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_cst_1 : Ref sig .tc := ⟨.hbm, 71, rfl⟩
abbrev main_v13 : Ref sig .tc := ⟨.hbm, 72, rfl⟩
abbrev main_cst_2 : Ref sig .tc := ⟨.hbm, 73, rfl⟩
abbrev main_v14 : Ref sig .tc := ⟨.hbm, 74, rfl⟩
abbrev main_v15 : Ref sig .tc := ⟨.hbm, 75, rfl⟩
abbrev main_cst_3 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_c : Ref sig .tc := ⟨.hbm, 84, rfl⟩
abbrev main_call2_v0 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_c_4 : Ref sig .tc := ⟨.hbm, 89, rfl⟩
abbrev main_call3_v0 : Ref sig .tc := ⟨.hbm, 90, rfl⟩
abbrev main_v26 : Ref sig .tc := ⟨.hbm, 91, rfl⟩

abbrev nD : Nat := 1
abbrev τ : Topo := Topo.v7x

variable {F : FTy → Type} [FloatOps F]
-- ==== GdnPre.lean ====
abbrev S8192x2304 : Shape := ⟨2, ![8192, 2304]⟩
abbrev S8192x3340 : Shape := ⟨2, ![8192, 3340]⟩
abbrev S6 : Shape := ⟨1, ![6]⟩
abbrev S8192x768 : Shape := ⟨2, ![8192, 768]⟩
abbrev S8192x6 : Shape := ⟨2, ![8192, 6]⟩
abbrev S8192x12 : Shape := ⟨2, ![8192, 12]⟩
abbrev S_ : Shape := ⟨0, ![]⟩
abbrev S8192x128 : Shape := ⟨2, ![8192, 128]⟩
abbrev S8192x3072 : Shape := ⟨2, ![8192, 3072]⟩
abbrev S8192x256 : Shape := ⟨2, ![8192, 256]⟩
abbrev S8192x3456 : Shape := ⟨2, ![8192, 3456]⟩
abbrev S1x6 : Shape := ⟨2, ![1, 6]⟩
abbrev S1x128 : Shape := ⟨2, ![1, 128]⟩
abbrev S512x2304 : Shape := ⟨2, ![512, 2304]⟩
abbrev S512x128 : Shape := ⟨2, ![512, 128]⟩
abbrev S512x768 : Shape := ⟨2, ![512, 768]⟩
abbrev S512 : Shape := ⟨1, ![512]⟩
abbrev S512x1 : Shape := ⟨2, ![512, 1]⟩
abbrev S128 : Shape := ⟨1, ![128]⟩

abbrev nBuf : Space → Nat
  | .hbm => 32
  | .vmem => 20
  | .smem => 0
  | _ => 0

abbrev bufTy : (tb : Table) → Fin (tcTables nBuf tb) → BufTy
  | .hbm, ⟨0, _⟩ => ⟨S8192x2304, .f32⟩
  | .hbm, ⟨1, _⟩ => ⟨S8192x3340, .f32⟩
  | .hbm, ⟨2, _⟩ => ⟨S6, .f32⟩
  | .hbm, ⟨3, _⟩ => ⟨S6, .f32⟩
  | .hbm, ⟨4, _⟩ => ⟨S8192x768, .f32⟩
  | .hbm, ⟨5, _⟩ => ⟨S8192x768, .f32⟩
  | .hbm, ⟨6, _⟩ => ⟨S8192x768, .f32⟩
  | .hbm, ⟨7, _⟩ => ⟨S8192x6, .f32⟩
  | .hbm, ⟨8, _⟩ => ⟨S8192x6, .f32⟩
  | .hbm, ⟨9, _⟩ => ⟨S8192x12, .f32⟩
  | .hbm, ⟨10, _⟩ => ⟨S_, .i32⟩
  | .hbm, ⟨11, _⟩ => ⟨S_, .f32⟩
  | .hbm, ⟨12, _⟩ => ⟨S8192x128, .f32⟩
  | .hbm, ⟨13, _⟩ => ⟨S8192x12, .f32⟩
  | .hbm, ⟨14, _⟩ => ⟨S8192x3072, .f32⟩
  | .hbm, ⟨15, _⟩ => ⟨S8192x256, .f32⟩
  | .hbm, ⟨16, _⟩ => ⟨S_, .i32⟩
  | .hbm, ⟨17, _⟩ => ⟨S_, .f32⟩
  | .hbm, ⟨18, _⟩ => ⟨S8192x128, .f32⟩
  | .hbm, ⟨19, _⟩ => ⟨S8192x3456, .f32⟩
  | .hbm, ⟨20, _⟩ => ⟨S1x6, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S1x6, .f32⟩
  | .hbm, ⟨25, _⟩ => ⟨S_, .i32⟩
  | .hbm, ⟨26, _⟩ => ⟨S_, .f32⟩
  | .hbm, ⟨27, _⟩ => ⟨S1x128, .f32⟩
  | .hbm, ⟨28, _⟩ => ⟨S8192x2304, .f32⟩
  | .hbm, ⟨29, _⟩ => ⟨S8192x128, .bf16⟩
  | .hbm, ⟨30, _⟩ => ⟨S1x128, .f32⟩
  | .hbm, ⟨31, _⟩ => ⟨S1x128, .f32⟩
  | .local _ .vmem, ⟨0, _⟩ => ⟨S512x2304, .f32⟩
  | .local _ .vmem, ⟨1, _⟩ => ⟨S512x2304, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x128, .f32⟩
  | .local _ .vmem, ⟨13, _⟩ => ⟨S512x128, .f32⟩
  | .local _ .vmem, ⟨14, _⟩ => ⟨S512x2304, .f32⟩
  | .local _ .vmem, ⟨15, _⟩ => ⟨S512x2304, .f32⟩
  | .local _ .vmem, ⟨16, _⟩ => ⟨S512x128, .bf16⟩
  | .local _ .vmem, ⟨17, _⟩ => ⟨S512x128, .bf16⟩
  | .local _ .vmem, ⟨18, _⟩ => ⟨S1x128, .f32⟩
  | .local _ .vmem, ⟨19, _⟩ => ⟨S1x128, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_call3_v0 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v11_2 : Ref sig .tc := ⟨.hbm, 30, rfl⟩
abbrev main_v11_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GdnPreRefIdeal.lean ====
abbrev S8192x2304 : Shape := ⟨2, ![8192, 2304]⟩
abbrev S8192x3340 : Shape := ⟨2, ![8192, 3340]⟩
abbrev S6 : Shape := ⟨1, ![6]⟩
abbrev S8192x768 : Shape := ⟨2, ![8192, 768]⟩
abbrev S8192x6 : Shape := ⟨2, ![8192, 6]⟩
abbrev S8192x12 : Shape := ⟨2, ![8192, 12]⟩
abbrev S_ : Shape := ⟨0, ![]⟩
abbrev S8192x3x6x128 : Shape := ⟨4, ![8192, 3, 6, 128]⟩
abbrev S8192x1x6x128 : Shape := ⟨4, ![8192, 1, 6, 128]⟩
abbrev S8192x6x128 : Shape := ⟨3, ![8192, 6, 128]⟩
abbrev S8192x6x1 : Shape := ⟨3, ![8192, 6, 1]⟩
abbrev S1x6 : Shape := ⟨2, ![1, 6]⟩
abbrev S8192x128 : Shape := ⟨2, ![8192, 128]⟩
abbrev S1x128 : Shape := ⟨2, ![1, 128]⟩

abbrev nBuf : Space → Nat
  | .hbm => 216
  | .vmem => 0
  | .smem => 0
  | _ => 0

abbrev hbmTy0_0 (i : Nat) : BufTy := match i % 128 with
  | 0 => ⟨S8192x2304, .f32⟩
  | 1 => ⟨S8192x3340, .f32⟩
  | 2 => ⟨S6, .f32⟩
  | 3 => ⟨S6, .f32⟩
  | 4 => ⟨S8192x768, .f32⟩
  | 5 => ⟨S8192x768, .f32⟩
  | 6 => ⟨S8192x768, .f32⟩
  | 7 => ⟨S8192x6, .f32⟩
  | 8 => ⟨S8192x6, .f32⟩
  | 9 => ⟨S8192x12, .f32⟩
  | 10 => ⟨S8192x2304, .f32⟩
  | 11 => ⟨S8192x2304, .f32⟩
  | 12 => ⟨S_, .f32⟩
  | 13 => ⟨S8192x2304, .f32⟩
  | 14 => ⟨S8192x2304, .f32⟩
  | 15 => ⟨S_, .f32⟩
  | 16 => ⟨S8192x2304, .f32⟩
  | 17 => ⟨S8192x2304, .f32⟩
  | 18 => ⟨S_, .f32⟩
  | 19 => ⟨S8192x2304, .f32⟩
  | 20 => ⟨S8192x2304, .f32⟩
  | 21 => ⟨S8192x2304, .f32⟩
  | 22 => ⟨S8192x2304, .f32⟩
  | 23 => ⟨S8192x3x6x128, .f32⟩
  | 24 => ⟨S8192x1x6x128, .f32⟩
  | 25 => ⟨S8192x6x128, .f32⟩
  | 26 => ⟨S8192x6x128, .f32⟩
  | 27 => ⟨S_, .f32⟩
  | 28 => ⟨S8192x6, .f32⟩
  | 29 => ⟨S8192x6x1, .f32⟩
  | 30 => ⟨S_, .f32⟩
  | 31 => ⟨S8192x6x1, .f32⟩
  | 32 => ⟨S8192x6x1, .f32⟩
  | 33 => ⟨S8192x6x1, .f32⟩
  | 34 => ⟨S8192x6x1, .f32⟩
  | 35 => ⟨S_, .f32⟩
  | 36 => ⟨S8192x6x1, .f32⟩
  | 37 => ⟨S8192x6x1, .f32⟩
  | 38 => ⟨S8192x6x128, .f32⟩
  | 39 => ⟨S8192x6x128, .f32⟩
  | 40 => ⟨S_, .f32⟩
  | 41 => ⟨S8192x6x128, .f32⟩
  | 42 => ⟨S8192x6x128, .f32⟩
  | 43 => ⟨S8192x1x6x128, .f32⟩
  | 44 => ⟨S8192x6x128, .f32⟩
  | 45 => ⟨S8192x6x128, .f32⟩
  | 46 => ⟨S_, .f32⟩
  | 47 => ⟨S8192x6, .f32⟩
  | 48 => ⟨S8192x6x1, .f32⟩
  | 49 => ⟨S_, .f32⟩
  | 50 => ⟨S8192x6x1, .f32⟩
  | 51 => ⟨S8192x6x1, .f32⟩
  | 52 => ⟨S8192x6x1, .f32⟩
  | 53 => ⟨S8192x6x1, .f32⟩
  | 54 => ⟨S_, .f32⟩
  | 55 => ⟨S8192x6x1, .f32⟩
  | 56 => ⟨S8192x6x1, .f32⟩
  | 57 => ⟨S8192x6x128, .f32⟩
  | 58 => ⟨S8192x6x128, .f32⟩
  | 59 => ⟨S8192x6, .f32⟩
  | 60 => ⟨S8192x6, .f32⟩
  | 61 => ⟨S8192x6, .f32⟩
  | 62 => ⟨S_, .f32⟩
  | 63 => ⟨S8192x6, .f32⟩
  | 64 => ⟨S8192x6, .f32⟩
  | 65 => ⟨S_, .f32⟩
  | 66 => ⟨S8192x6, .f32⟩
  | 67 => ⟨S8192x6, .f32⟩
  | 68 => ⟨S_, .f32⟩
  | 69 => ⟨S8192x6, .f32⟩
  | 70 => ⟨S8192x6, .f32⟩
  | 71 => ⟨S8192x6, .f32⟩
  | 72 => ⟨S6, .f32⟩
  | 73 => ⟨S6, .f32⟩
  | 74 => ⟨S8192x6, .f32⟩
  | 75 => ⟨S1x6, .f32⟩
  | 76 => ⟨S8192x6, .f32⟩
  | 77 => ⟨S8192x6, .f32⟩
  | 78 => ⟨S_, .f32⟩
  | 79 => ⟨S8192x6, .f32⟩
  | 80 => ⟨S8192x6, .f32⟩
  | 81 => ⟨S8192x6, .f32⟩
  | 82 => ⟨S8192x6, .f32⟩
  | 83 => ⟨S8192x6, .i1⟩
  | 84 => ⟨S8192x6, .f32⟩
  | 85 => ⟨S8192x6, .f32⟩
  | 86 => ⟨S8192x6, .f32⟩
  | 87 => ⟨S8192x6, .f32⟩
  | 88 => ⟨S8192x6, .f32⟩
  | 89 => ⟨S8192x6, .f32⟩
  | 90 => ⟨S8192x6, .f32⟩
  | 91 => ⟨S8192x6, .f32⟩
  | 92 => ⟨S_, .f32⟩
  | 93 => ⟨S8192x6, .f32⟩
  | 94 => ⟨S8192x6, .i1⟩
  | 95 => ⟨S_, .f32⟩
  | 96 => ⟨S8192x6, .f32⟩
  | 97 => ⟨S8192x6, .f32⟩
  | 98 => ⟨S_, .f32⟩
  | 99 => ⟨S8192x6, .f32⟩
  | 100 => ⟨S8192x6, .i1⟩
  | 101 => ⟨S_, .f32⟩
  | 102 => ⟨S8192x6, .f32⟩
  | 103 => ⟨S8192x6, .f32⟩
  | 104 => ⟨S8192x6, .f32⟩
  | 105 => ⟨S8192x6, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S8192x6, .f32⟩
  | 114 => ⟨S8192x6, .i1⟩
  | 115 => ⟨S_, .f32⟩
  | 116 => ⟨S8192x6, .f32⟩
  | 117 => ⟨S8192x6, .f32⟩
  | 118 => ⟨S8192x6, .f32⟩
  | 119 => ⟨S8192x6, .f32⟩
  | 120 => ⟨S8192x6, .f32⟩
  | 121 => ⟨S_, .f32⟩
  | 122 => ⟨S8192x6, .f32⟩
  | 123 => ⟨S8192x6, .f32⟩
  | 124 => ⟨S1x6, .f32⟩
  | 125 => ⟨S8192x6, .f32⟩
  | 126 => ⟨S8192x6, .f32⟩
  | 127 => ⟨S8192x768, .f32⟩
  | _ => ⟨S8192x2304, .f32⟩

abbrev hbmTy0_1 (i : Nat) : BufTy := match i % 128 with
  | 0 => ⟨S8192x768, .f32⟩
  | 1 => ⟨S8192x1x6x128, .f32⟩
  | 2 => ⟨S8192x6x128, .f32⟩
  | 3 => ⟨S8192x768, .f32⟩
  | 4 => ⟨S8192x6x128, .f32⟩
  | 5 => ⟨S8192x1x6x128, .f32⟩
  | 6 => ⟨S_, .f32⟩
  | 7 => ⟨S8192x3x6x128, .f32⟩
  | 8 => ⟨S8192x6x128, .f32⟩
  | 9 => ⟨S8192x6x128, .f32⟩
  | 10 => ⟨S8192x6, .f32⟩
  | 11 => ⟨S8192x6, .f32⟩
  | 12 => ⟨S8192x6, .f32⟩
  | 13 => ⟨S_, .f32⟩
  | 14 => ⟨S6, .f32⟩
  | 15 => ⟨S1x6, .f32⟩
  | 16 => ⟨S_, .f32⟩
  | 17 => ⟨S6, .f32⟩
  | 18 => ⟨S8192x6, .f32⟩
  | 19 => ⟨S_, .f32⟩
  | 20 => ⟨S6, .f32⟩
  | 21 => ⟨S1x6, .f32⟩
  | 22 => ⟨S_, .f32⟩
  | 23 => ⟨S6, .f32⟩
  | 24 => ⟨S_, .f32⟩
  | 25 => ⟨S8192x12, .f32⟩
  | 26 => ⟨S6, .f32⟩
  | 27 => ⟨S6, .f32⟩
  | 28 => ⟨S8192x6, .f32⟩
  | 29 => ⟨S_, .f32⟩
  | 30 => ⟨S8192x12, .f32⟩
  | 31 => ⟨S8192x12, .f32⟩
  | 32 => ⟨S8192x6x128, .f32⟩
  | 33 => ⟨S_, .f32⟩
  | 34 => ⟨S8192x6, .f32⟩
  | 35 => ⟨S8192x6x1, .f32⟩
  | 36 => ⟨S8192x6x128, .f32⟩
  | 37 => ⟨S8192x6x128, .f32⟩
  | 38 => ⟨S8192x6x1, .f32⟩
  | 39 => ⟨S_, .f32⟩
  | 40 => ⟨S8192x6, .f32⟩
  | 41 => ⟨S8192x6x128, .f32⟩
  | 42 => ⟨S8192x6x128, .f32⟩
  | 43 => ⟨S8192x6x128, .f32⟩
  | 44 => ⟨S8192x6x128, .f32⟩
  | 45 => ⟨S8192x6x128, .f32⟩
  | 46 => ⟨S8192x1x6x128, .f32⟩
  | 47 => ⟨S_, .f32⟩
  | 48 => ⟨S8192x3x6x128, .f32⟩
  | 49 => ⟨S8192x3x6x128, .f32⟩
  | 50 => ⟨S_, .f32⟩
  | 51 => ⟨S8192x6x128, .f32⟩
  | 52 => ⟨S8192x6x128, .f32⟩
  | 53 => ⟨S8192x6x128, .f32⟩
  | 54 => ⟨S_, .f32⟩
  | 55 => ⟨S8192x6, .f32⟩
  | 56 => ⟨S8192x6x1, .f32⟩
  | 57 => ⟨S8192x6x128, .f32⟩
  | 58 => ⟨S8192x6x128, .f32⟩
  | 59 => ⟨S8192x6x1, .f32⟩
  | 60 => ⟨S_, .f32⟩
  | 61 => ⟨S8192x6, .f32⟩
  | 62 => ⟨S8192x6x128, .f32⟩
  | 63 => ⟨S8192x6x128, .f32⟩
  | 64 => ⟨S8192x6x128, .f32⟩
  | 65 => ⟨S8192x6x128, .f32⟩
  | 66 => ⟨S8192x6x128, .f32⟩
  | 67 => ⟨S8192x1x6x128, .f32⟩
  | 68 => ⟨S_, .f32⟩
  | 69 => ⟨S8192x3x6x128, .f32⟩
  | 70 => ⟨S8192x3x6x128, .f32⟩
  | 71 => ⟨S8192x2304, .f32⟩
  | 72 => ⟨S8192x2304, .f32⟩
  | 73 => ⟨S8192x2304, .f32⟩
  | 74 => ⟨S8192x2304, .f32⟩
  | 75 => ⟨S8192x2304, .f32⟩
  | 76 => ⟨S_, .i32⟩
  | 77 => ⟨S_, .f32⟩
  | 78 => ⟨S8192x128, .f32⟩
  | 79 => ⟨S8192x128, .bf16⟩
  | 80 => ⟨S1x6, .f32⟩
  | 81 => ⟨S_, .i32⟩
  | 82 => ⟨S_, .f32⟩
  | 83 => ⟨S1x128, .f32⟩
  | 84 => ⟨S1x6, .f32⟩
  | 85 => ⟨S_, .i32⟩
  | 86 => ⟨S_, .f32⟩
  | 87 => ⟨S1x128, .f32⟩
  | _ => ⟨S8192x2304, .f32⟩

abbrev hbmTy (i : Nat) : BufTy := match i / 128 with
  | 0 => hbmTy0_0 i
  | 1 => hbmTy0_1 i
  | _ => ⟨S8192x2304, .f32⟩

abbrev bufTy : (tb : Table) → Fin (tcTables nBuf tb) → BufTy
  | .hbm, ⟨i, _⟩ => hbmTy i
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v1_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v1_1 : Ref sig .tc := ⟨.hbm, 21, rfl⟩
abbrev main_v1_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_3 : Ref sig .tc := ⟨.hbm, 46, rfl⟩
abbrev main_v21 : Ref sig .tc := ⟨.hbm, 47, rfl⟩
abbrev main_v22 : Ref sig .tc := ⟨.hbm, 48, rfl⟩
abbrev main_cst_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v47_0 : Ref sig .tc := ⟨.hbm, 91, rfl⟩
abbrev main_call1_cst_0 : Ref sig .tc := ⟨.hbm, 92, rfl⟩
abbrev main_call1_v13 : Ref sig .tc := ⟨.hbm, 93, rfl⟩
abbrev main_call1_v14 : Ref sig .tc := ⟨.hbm, 94, rfl⟩
abbrev main_call1_cst_1 : Ref sig .tc := ⟨.hbm, 95, rfl⟩
abbrev main_call1_v15 : Ref sig .tc := ⟨.hbm, 96, rfl⟩
abbrev main_call1_v16 : Ref sig .tc := ⟨.hbm, 97, rfl⟩
abbrev main_call1_cst_2 : Ref sig .tc := ⟨.hbm, 98, rfl⟩
abbrev main_call1_v17 : Ref sig .tc := ⟨.hbm, 99, rfl⟩
abbrev main_call1_v18 : Ref sig .tc := ⟨.hbm, 100, rfl⟩
abbrev main_call1_cst_3 : Ref sig .tc := ⟨.hbm, 101, rfl⟩
abbrev main_call1_v19 : Ref sig .tc := ⟨.hbm, 102, rfl⟩
abbrev main_call1_v20 : Ref sig .tc := ⟨.hbm, 103, rfl⟩
abbrev main_call1_v21 : Ref sig .tc := ⟨.hbm, 104, rfl⟩
abbrev main_v47_1 : Ref sig .tc := ⟨.hbm, 105, rfl⟩
abbrev main_call1_cst_4 : Ref sig .tc := ⟨.hbm, 106, rfl⟩
abbrev main_call1_cst_5 : Ref sig .tc := ⟨.hbm, 107, rfl⟩
abbrev main_call1_v23 : Ref sig .tc := ⟨.hbm, 108, rfl⟩
abbrev main_call1_cst_6 : Ref sig .tc := ⟨.hbm, 109, rfl⟩
abbrev main_call1_cst_7 : Ref sig .tc := ⟨.hbm, 110, rfl⟩
abbrev main_call1_v24 : Ref sig .tc := ⟨.hbm, 111, rfl⟩
abbrev main_call1_cst_8 : Ref sig .tc := ⟨.hbm, 112, rfl⟩
abbrev main_call1_v25 : Ref sig .tc := ⟨.hbm, 113, rfl⟩
abbrev main_call1_v26 : Ref sig .tc := ⟨.hbm, 114, rfl⟩
abbrev main_call1_cst_9 : Ref sig .tc := ⟨.hbm, 115, rfl⟩
abbrev main_call1_v27 : Ref sig .tc := ⟨.hbm, 116, rfl⟩
abbrev main_call1_v28 : Ref sig .tc := ⟨.hbm, 117, rfl⟩
abbrev main_call1_v29 : Ref sig .tc := ⟨.hbm, 118, rfl⟩
abbrev main_call1_v30 : Ref sig .tc := ⟨.hbm, 119, rfl⟩
abbrev main_call1_v31 : Ref sig .tc := ⟨.hbm, 120, rfl⟩
abbrev main_call1_cst_10 : Ref sig .tc := ⟨.hbm, 121, rfl⟩
abbrev main_call1_v32 : Ref sig .tc := ⟨.hbm, 122, rfl⟩
abbrev main_v47_2 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_cst_9 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_cst_10 : Ref sig .tc := ⟨.hbm, 141, rfl⟩
abbrev main_v64 : Ref sig .tc := ⟨.hbm, 142, rfl⟩
abbrev main_v65 : Ref sig .tc := ⟨.hbm, 143, rfl⟩
abbrev main_cst_11 : Ref sig .tc := ⟨.hbm, 144, rfl⟩
abbrev main_v66 : Ref sig .tc := ⟨.hbm, 145, rfl⟩
abbrev main_v67 : Ref sig .tc := ⟨.hbm, 146, rfl⟩
abbrev main_cst_12 : Ref sig .tc := ⟨.hbm, 147, rfl⟩
abbrev main_v68 : Ref sig .tc := ⟨.hbm, 148, rfl⟩
abbrev main_v69 : Ref sig .tc := ⟨.hbm, 149, rfl⟩
abbrev main_cst_13 : Ref sig .tc := ⟨.hbm, 150, rfl⟩
abbrev main_v70 : Ref sig .tc := ⟨.hbm, 151, rfl⟩
abbrev main_cst_14 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_cst_15 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_cst_16 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_cst_17 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_cst_18 : Ref sig .tc := ⟨.hbm, 175, rfl⟩
abbrev main_v90 : Ref sig .tc := ⟨.hbm, 176, rfl⟩
abbrev main_v91 : Ref sig .tc := ⟨.hbm, 177, rfl⟩
abbrev main_cst_19 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_cst_20 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_cst_21 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_cst_22 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_call3_v0 : Ref sig .tc := ⟨.hbm, 200, rfl⟩
abbrev main_call3_v1 : Ref sig .tc := ⟨.hbm, 201, rfl⟩
abbrev main_call3_v2 : Ref sig .tc := ⟨.hbm, 202, rfl⟩
abbrev main_v110 : Ref sig .tc := ⟨.hbm, 203, rfl⟩
abbrev main_c : Ref sig .tc := ⟨.hbm, 204, rfl⟩
abbrev main_call4_v0 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_c_23 : Ref sig .tc := ⟨.hbm, 209, rfl⟩
abbrev main_call5_v0 : Ref sig .tc := ⟨.hbm, 210, rfl⟩
abbrev main_v114 : Ref sig .tc := ⟨.hbm, 211, rfl⟩
abbrev main_v115 : Ref sig .tc := ⟨.hbm, 212, rfl⟩
abbrev main_c_24 : Ref sig .tc := ⟨.hbm, 213, rfl⟩
abbrev main_call6_v0 : Ref sig .tc := ⟨.hbm, 214, rfl⟩
abbrev main_v116 : Ref sig .tc := ⟨.hbm, 215, rfl⟩

abbrev nD : Nat := 1
abbrev τ : Topo := Topo.v7x

variable {F : FTy → Type} [FloatOps F]
-- ==== Memory.lean ====
abbrev S8192x1024 : Shape := ⟨2, ![8192, 1024]⟩
abbrev S256x512 : Shape := ⟨2, ![256, 512]⟩
abbrev S8192x256 : Shape := ⟨2, ![8192, 256]⟩
abbrev S256x256 : Shape := ⟨2, ![256, 256]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S256x512, .f32⟩
  | .hbm, ⟨2, _⟩ => ⟨S8192x1024, .f32⟩
  | .hbm, ⟨3, _⟩ => ⟨S8192x1024, .bf16⟩
  | .hbm, ⟨4, _⟩ => ⟨S8192x256, .bf16⟩
  | .hbm, ⟨5, _⟩ => ⟨S256x256, .f32⟩
  | .hbm, ⟨6, _⟩ => ⟨S256x256, .f32⟩
  | .local _ .vmem, ⟨0, _⟩ => ⟨S512x256, .bf16⟩
  | .local _ .vmem, ⟨1, _⟩ => ⟨S512x256, .bf16⟩
  | .local _ .vmem, ⟨2, _⟩ => ⟨S256x256, .f32⟩
  | .local _ .vmem, ⟨3, _⟩ => ⟨S256x256, .f32⟩
  | .local _ .vmem, ⟨4, _⟩ => ⟨S512x256, .f32⟩
  | .local _ .vmem, ⟨5, _⟩ => ⟨S512x256, .f32⟩
  | .local _ .vmem, ⟨6, _⟩ => ⟨S512x256, .bf16⟩
  | .local _ .vmem, ⟨7, _⟩ => ⟨S512x256, .bf16⟩
  | .local _ .vmem, ⟨8, _⟩ => ⟨S256x256, .f32⟩
  | .local _ .vmem, ⟨9, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemoryRefIdeal.lean ====
abbrev S8192x1024 : Shape := ⟨2, ![8192, 1024]⟩
abbrev S256x512 : Shape := ⟨2, ![256, 512]⟩
abbrev S8192x256 : Shape := ⟨2, ![8192, 256]⟩
abbrev S256x256 : Shape := ⟨2, ![256, 256]⟩
abbrev S256x4x64 : Shape := ⟨3, ![256, 4, 64]⟩
abbrev S8192x4x64 : Shape := ⟨3, ![8192, 4, 64]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x64x8192 : Shape := ⟨3, ![4, 64, 8192]⟩
abbrev S4x64x256 : Shape := ⟨3, ![4, 64, 256]⟩
abbrev S4x256x64 : Shape := ⟨3, ![4, 256, 64]⟩
abbrev S4x8192x64 : Shape := ⟨3, ![4, 8192, 64]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x512, .f32⟩
  | .hbm, ⟨2, _⟩ => ⟨S8192x1024, .f32⟩
  | .hbm, ⟨3, _⟩ => ⟨S8192x256, .f32⟩
  | .hbm, ⟨4, _⟩ => ⟨S256x256, .f32⟩
  | .hbm, ⟨5, _⟩ => ⟨S256x4x64, .f32⟩
  | .hbm, ⟨6, _⟩ => ⟨S256x256, .f32⟩
  | .hbm, ⟨7, _⟩ => ⟨S256x4x64, .f32⟩
  | .hbm, ⟨8, _⟩ => ⟨S8192x4x64, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x64x8192, .f32⟩
  | .hbm, ⟨52, _⟩ => ⟨S8192x4x64, .f32⟩
  | .hbm, ⟨53, _⟩ => ⟨S8192x256, .f32⟩
  | .hbm, ⟨54, _⟩ => ⟨S8192x256, .f32⟩
  | .hbm, ⟨55, _⟩ => ⟨S8192x4x64, .f32⟩
  | .hbm, ⟨56, _⟩ => ⟨S4x64x8192, .f32⟩
  | .hbm, ⟨57, _⟩ => ⟨S4x8192x256, .f32⟩
  | .hbm, ⟨58, _⟩ => ⟨S4x64x256, .f32⟩
  | .hbm, ⟨59, _⟩ => ⟨S256x4x64, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x64, .f32⟩
  | .hbm, ⟨78, _⟩ => ⟨S256x4x64, .f32⟩
  | .hbm, ⟨79, _⟩ => ⟨S4x8192x64, .f32⟩
  | .hbm, ⟨80, _⟩ => ⟨S8192x4x64, .f32⟩
  | .hbm, ⟨81, _⟩ => ⟨S8192x256, .f32⟩
  | .hbm, ⟨82, _⟩ => ⟨S256x256, .f32⟩
  | .hbm, ⟨83, _⟩ => ⟨S_, .f32⟩
  | .hbm, ⟨84, _⟩ => ⟨S256x512, .f32⟩
  | .hbm, ⟨85, _⟩ => ⟨S256x256, .f32⟩
  | .hbm, ⟨86, _⟩ => ⟨S_, .f32⟩
  | .hbm, ⟨87, _⟩ => ⟨S256x512, .f32⟩
  | .hbm, ⟨88, _⟩ => ⟨S256x512, .f32⟩
  | .hbm, ⟨89, _⟩ => ⟨S8192x256, .bf16⟩
  | .hbm, ⟨90, _⟩ => ⟨S256x256, .f32⟩
  | .hbm, ⟨91, _⟩ => ⟨S256x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== GdnPost.lean ====
abbrev S8192x768 : Shape := ⟨2, ![8192, 768]⟩
abbrev S8192x3340 : Shape := ⟨2, ![8192, 3340]⟩
abbrev S128 : Shape := ⟨1, ![128]⟩
abbrev S8192x1024 : Shape := ⟨2, ![8192, 1024]⟩
abbrev S8192x12 : Shape := ⟨2, ![8192, 12]⟩
abbrev S8192x3072 : Shape := ⟨2, ![8192, 3072]⟩
abbrev S8192x256 : Shape := ⟨2, ![8192, 256]⟩
abbrev S_ : Shape := ⟨0, ![]⟩
abbrev S8192x128 : Shape := ⟨2, ![8192, 128]⟩
abbrev S8192x3456 : Shape := ⟨2, ![8192, 3456]⟩
abbrev S1x128 : Shape := ⟨2, ![1, 128]⟩
abbrev S512x768 : Shape := ⟨2, ![512, 768]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S8192x768, .f32⟩
  | .hbm, ⟨1, _⟩ => ⟨S8192x3340, .f32⟩
  | .hbm, ⟨2, _⟩ => ⟨S128, .f32⟩
  | .hbm, ⟨3, _⟩ => ⟨S8192x1024, .f32⟩
  | .hbm, ⟨4, _⟩ => ⟨S8192x12, .f32⟩
  | .hbm, ⟨5, _⟩ => ⟨S8192x3072, .f32⟩
  | .hbm, ⟨6, _⟩ => ⟨S8192x256, .f32⟩
  | .hbm, ⟨7, _⟩ => ⟨S_, .i32⟩
  | .hbm, ⟨8, _⟩ => ⟨S_, .f32⟩
  | .hbm, ⟨9, _⟩ => ⟨S8192x128, .f32⟩
  | .hbm, ⟨10, _⟩ => ⟨S8192x3456, .f32⟩
  | .hbm, ⟨11, _⟩ => ⟨S1x128, .f32⟩
  | .hbm, ⟨12, _⟩ => ⟨S8192x768, .f32⟩
  | .hbm, ⟨13, _⟩ => ⟨S8192x768, .bf16⟩
  | .hbm, ⟨14, _⟩ => ⟨S1x128, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S1x128, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .bf16⟩
  | .local _ .vmem, ⟨10, _⟩ => ⟨S512x768, .bf16⟩
  | .local _ .vmem, ⟨11, _⟩ => ⟨S1x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GdnPostRefIdeal.lean ====
abbrev S8192x768 : Shape := ⟨2, ![8192, 768]⟩
abbrev S8192x3340 : Shape := ⟨2, ![8192, 3340]⟩
abbrev S128 : Shape := ⟨1, ![128]⟩
abbrev S8192x1024 : Shape := ⟨2, ![8192, 1024]⟩
abbrev S8192x6x128 : Shape := ⟨3, ![8192, 6, 128]⟩
abbrev S_ : Shape := ⟨0, ![]⟩
abbrev S8192x6 : Shape := ⟨2, ![8192, 6]⟩
abbrev S8192x6x1 : Shape := ⟨3, ![8192, 6, 1]⟩
abbrev S1x1x128 : Shape := ⟨3, ![1, 1, 128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x3340, .f32⟩
  | .hbm, ⟨2, _⟩ => ⟨S128, .f32⟩
  | .hbm, ⟨3, _⟩ => ⟨S8192x1024, .f32⟩
  | .hbm, ⟨4, _⟩ => ⟨S8192x768, .f32⟩
  | .hbm, ⟨5, _⟩ => ⟨S8192x6x128, .f32⟩
  | .hbm, ⟨6, _⟩ => ⟨S8192x6x128, .f32⟩
  | .hbm, ⟨7, _⟩ => ⟨S_, .f32⟩
  | .hbm, ⟨8, _⟩ => ⟨S8192x6, .f32⟩
  | .hbm, ⟨9, _⟩ => ⟨S8192x6x1, .f32⟩
  | .hbm, ⟨10, _⟩ => ⟨S_, .f32⟩
  | .hbm, ⟨11, _⟩ => ⟨S8192x6x1, .f32⟩
  | .hbm, ⟨12, _⟩ => ⟨S8192x6x1, .f32⟩
  | .hbm, ⟨13, _⟩ => ⟨S_, .f32⟩
  | .hbm, ⟨14, _⟩ => ⟨S8192x6x1, .f32⟩
  | .hbm, ⟨15, _⟩ => ⟨S8192x6x1, .f32⟩
  | .hbm, ⟨16, _⟩ => ⟨S8192x6x1, .f32⟩
  | .hbm, ⟨17, _⟩ => ⟨S8192x6x1, .f32⟩
  | .hbm, ⟨18, _⟩ => ⟨S_, .f32⟩
  | .hbm, ⟨19, _⟩ => ⟨S8192x6x1, .f32⟩
  | .hbm, ⟨20, _⟩ => ⟨S8192x6x1, .f32⟩
  | .hbm, ⟨21, _⟩ => ⟨S8192x6x128, .f32⟩
  | .hbm, ⟨22, _⟩ => ⟨S8192x6x128, .f32⟩
  | .hbm, ⟨23, _⟩ => ⟨S1x1x128, .f32⟩
  | .hbm, ⟨24, _⟩ => ⟨S8192x6x128, .f32⟩
  | .hbm, ⟨25, _⟩ => ⟨S8192x6x128, .f32⟩
  | .hbm, ⟨26, _⟩ => ⟨S8192x6x128, .f32⟩
  | .hbm, ⟨27, _⟩ => ⟨S8192x6x128, .f32⟩
  | .hbm, ⟨28, _⟩ => ⟨S8192x6x128, .f32⟩
  | .hbm, ⟨29, _⟩ => ⟨S_, .f32⟩
  | .hbm, ⟨30, _⟩ => ⟨S8192x6x128, .f32⟩
  | .hbm, ⟨31, _⟩ => ⟨S8192x6x128, .f32⟩
  | .hbm, ⟨32, _⟩ => ⟨S_, .f32⟩
  | .hbm, ⟨33, _⟩ => ⟨S8192x6x128, .f32⟩
  | .hbm, ⟨34, _⟩ => ⟨S8192x6x128, .f32⟩
  | .hbm, ⟨35, _⟩ => ⟨S_, .f32⟩
  | .hbm, ⟨36, _⟩ => ⟨S8192x6x128, .f32⟩
  | .hbm, ⟨37, _⟩ => ⟨S8192x6x128, .f32⟩
  | .hbm, ⟨38, _⟩ => ⟨S8192x6x128, .f32⟩
  | .hbm, ⟨39, _⟩ => ⟨S8192x6x128, .f32⟩
  | .hbm, ⟨40, _⟩ => ⟨S8192x6x128, .f32⟩
  | .hbm, ⟨41, _⟩ => ⟨S8192x768, .f32⟩
  | .hbm, ⟨42, _⟩ => ⟨S8192x768, .f32⟩
  | .hbm, ⟨43, _⟩ => ⟨S8192x6x128, .f32⟩
  | .hbm, ⟨44, _⟩ => ⟨S8192x6x128, .f32⟩
  | .hbm, ⟨45, _⟩ => ⟨S8192x6x128, .f32⟩
  | .hbm, ⟨46, _⟩ => ⟨S8192x6x128, .f32⟩
  | .hbm, ⟨47, _⟩ => ⟨S8192x6x128, .f32⟩
  | .hbm, ⟨48, _⟩ => ⟨S8192x6x128, .f32⟩
  | .hbm, ⟨49, _⟩ => ⟨S8192x6x128, .f32⟩
  | .hbm, ⟨50, _⟩ => ⟨S8192x768, .f32⟩
  | .hbm, ⟨51, _⟩ => ⟨S8192x6x128, .f32⟩
  | .hbm, ⟨52, _⟩ => ⟨S_, .f32⟩
  | .hbm, ⟨53, _⟩ => ⟨S128, .f32⟩
  | .hbm, ⟨54, _⟩ => ⟨S1x1x128, .f32⟩
  | .hbm, ⟨55, _⟩ => ⟨S8192x6x128, .f32⟩
  | .hbm, ⟨56, _⟩ => ⟨S8192x6x128, .f32⟩
  | .hbm, ⟨57, _⟩ => ⟨S_, .f32⟩
  | .hbm, ⟨58, _⟩ => ⟨S128, .f32⟩
  | .hbm, ⟨59, _⟩ => ⟨S8192x6x128, .f32⟩
  | .hbm, ⟨60, _⟩ => ⟨S_, .f32⟩
  | .hbm, ⟨61, _⟩ => ⟨S8192x6, .f32⟩
  | .hbm, ⟨62, _⟩ => ⟨S8192x6x1, .f32⟩
  | .hbm, ⟨63, _⟩ => ⟨S8192x6x128, .f32⟩
  | .hbm, ⟨64, _⟩ => ⟨S8192x6x128, .f32⟩
  | .hbm, ⟨65, _⟩ => ⟨S8192x6x1, .f32⟩
  | .hbm, ⟨66, _⟩ => ⟨S_, .f32⟩
  | .hbm, ⟨67, _⟩ => ⟨S8192x6x1, .f32⟩
  | .hbm, ⟨68, _⟩ => ⟨S8192x6x1, .f32⟩
  | .hbm, ⟨69, _⟩ => ⟨S_, .f32⟩
  | .hbm, ⟨70, _⟩ => ⟨S8192x6, .f32⟩
  | .hbm, ⟨71, _⟩ => ⟨S8192x6x128, .f32⟩
  | .hbm, ⟨72, _⟩ => ⟨S8192x6x128, .f32⟩
  | .hbm, ⟨73, _⟩ => ⟨S8192x6x128, .f32⟩
  | .hbm, ⟨74, _⟩ => ⟨S8192x6x128, .f32⟩
  | .hbm, ⟨75, _⟩ => ⟨S8192x6x128, .f32⟩
  | .hbm, ⟨76, _⟩ => ⟨S8192x768, .f32⟩
  | .hbm, ⟨77, _⟩ => ⟨S8192x768, .bf16⟩
  | .hbm, ⟨78, _⟩ => ⟨S1x128, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== Proof.Reals.lean ====
/- Extended reals that are real numbers: how the operations of the ideal instance act on them, and the real values of
   the constants that the programs use. -/
module

public import Idealize.ShloMosaic.Lib.Pipeline.ValueKit
public import Idealize.ShloMosaic.Lib.Pointwise
public import Idealize.ShloMosaic.Lib.ReduceAll
public import Idealize.ShloMosaic.Lib.IdealHost

@[expose] public section

noncomputable section

namespace Cert.Reals

open Idealize.ShloMosaic
open scoped BigOperators

/-- A finite sum of real numbers, taken in the extended reals, is the real sum. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A sum over an axis cut into tiles, taken tile by tile, is the sum over the axis. -/
theorem sum_tiles {P T N : ℕ} (h : P * T = N) (row : Fin P → Fin T → Fin N) (hr : ∀ p r, (row p r).val = p.val * T + r.val)
    (f : Fin N → ℝ) : ∑ p, ((∑ r, f (row p r) : ℝ) : EReal) = ((∑ n, f n : ℝ) : EReal) := by
  rw [sum_coe, Fin.sum_univ_tiles P T h f]
  exact congrArg _ (Finset.sum_congr rfl fun p _ => Finset.sum_congr rfl fun r _ => congrArg f (Fin.ext (hr p r)))

/-- The same of extended reals. -/
theorem sum_tiles_ereal {P T N : ℕ} (h : P * T = N) (row : Fin P → Fin T → Fin N) (hr : ∀ p r, (row p r).val = p.val * T + r.val)
    (f : Fin N → EReal) : ∑ p, ∑ r, f (row p r) = ∑ n, f n := by
  rw [Fin.sum_univ_tiles P T h f]
  exact Finset.sum_congr rfl fun p _ => Finset.sum_congr rfl fun r _ => congrArg f (Fin.ext (hr p r))

/-- The quotient of two real numbers, the divisor not zero, is the real quotient. -/
theorem div_coe {a b : ℝ} (hb : b ≠ 0) : Ideal.div (a : EReal) (b : EReal) = ((a / b : ℝ) : EReal) := by
  rw [Ideal.div_coe hb, ← EReal.coe_mul, mul_one_div]

/-- The reciprocal square root of a positive real number is the real one. -/
theorem rsqrt_coe {a : ℝ} (ha : 0 < a) : Ideal.rsqrt (a : EReal) = (((Real.sqrt a)⁻¹ : ℝ) : EReal) := by
  rw [Ideal.rsqrt_coe, if_neg (not_lt.mpr ha.le), if_neg ha.ne']

/-- An extended real whose absolute value is below infinity is a real number. -/
theorem exists_of_abs_lt_top {x : EReal} (h : max x (-x) < ⊤) : ∃ r : ℝ, x = (r : EReal) := by
  induction x with
  | bot => simp at h
  | coe r => exact ⟨r, rfl⟩
  | top => simp at h

/-- The pattern of infinity in the format f32. -/
theorem ofBits_inf : Ideal.ofBits .f32 0x7F800000#32 = ⊤ := by
  simp [Ideal.ofBits, Ideal.ieee]

theorem ofBits_1024 : Ideal.ofBits .f32 0x44800000#32 = ((1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-1 / 2 : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem ofBits_inv_2048 : Ideal.ofBits .f32 0x3A000000#32 = ((1 / 2048 : ℝ) : EReal) := by
  simp [Ideal.ofBits, Ideal.ieee, -EReal.coe_mul]; norm_num

/-- The number that the f32 pattern of 1e-6 stands for. -/
def eps : ℝ := 8796093 * (2 : ℝ) ^ (-43 : ℤ)

theorem ofBits_eps : Ideal.ofBits .f32 0x358637BD#32 = (eps : EReal) := by
  simp [Ideal.ofBits, Ideal.ieee, -EReal.coe_mul, eps]

theorem eps_pos : 0 < eps := by unfold eps; positivity

/-- The mean of the squares of 1024 real numbers, plus 1e-6, is positive. -/
theorem mean_sq_pos (f : Fin 1024 → ℝ) : 0 < (∑ k, f k * f k) / 1024 + eps :=
  add_pos_of_nonneg_of_pos (div_nonneg (Finset.sum_nonneg fun k _ => mul_self_nonneg _) (by norm_num)) eps_pos

/-- The reciprocal root mean square of a row. -/
def rinv (x : Fin 1024 → ℝ) : ℝ := (Real.sqrt ((∑ k, x k * x k) / 1024 + eps))⁻¹

/-- The reciprocal square root over its argument is its cube. -/
theorem inv_sqrt_div {a : ℝ} (ha : 0 < a) : (Real.sqrt a)⁻¹ / a = (Real.sqrt a)⁻¹ * (Real.sqrt a)⁻¹ * (Real.sqrt a)⁻¹ := by
  have h : (Real.sqrt a)⁻¹ * (Real.sqrt a)⁻¹ = a⁻¹ := by rw [← mul_inv, Real.mul_self_sqrt ha.le]
  rw [h, div_eq_mul_inv, mul_comm]

/-- `stablehlo.abs` of `x`, compared with infinity, says that `x` is a real number. -/
theorem exists_of_abs_lt {x : EReal} (h : Ideal.cmp .olt (max x (-x)) ⊤ = 1#1) : ∃ r : ℝ, x = (r : EReal) := by
  refine exists_of_abs_lt_top ?_
  by_contra hn
  simp [Ideal.cmp, hn] at h

/-- Every rank-zero shape has one index. -/
instance : Subsingleton (⟨0, ![]⟩ : Shape).Idx := ⟨fun _ _ => funext fun a => a.elim0⟩

/-- A printed "all absolute values are below infinity" says that every entry is a real number. -/
theorem reals_of_all {s : Shape} {axes : List (Fin s.rank)} (x : FVec Ideal s .f32) (init : IVec ⟨0, ![]⟩ 1) (b : (⟨0, ![]⟩ : Shape).BroadcastsInDim s ![])
    (h : s.ReducesTo axes ⟨0, ![]⟩) (hu : 0 < (⟨0, ![]⟩ : Shape).numel)
    (e : Host.reduce IntOp.andi (cmpf .olt (Host.absf x) (broadcastInDim s ![] b (constant ⟨0, ![]⟩ .f32 0x7F800000#32)))
      init h hu ix0 = 1#1) (i : s.Idx) : ∃ a : ℝ, x i = a := by
  have e1 := Host.reduce_andi_all _ _ h hu ix0 e i
  refine exists_of_abs_lt ?_
  rw [← ofBits_inf]
  exact e1

end Cert.Reals

end
-- ==== Proof.Loss.lean ====
/- The loss head and its gradients: the arrays that the kernel leaves, as real numbers. -/
module

public import proofs.«01_k».proof.Proof.Reals
public import proofs.«01_k».proof.Proof.Gen.LossIdeal.Frame

@[expose] public section

set_option maxRecDepth 16384

noncomputable section

namespace Cert.LossIdeal.Value

open Cert.LossIdeal Cert.LossIdeal.Gen Cert.Reals Idealize.ShloMosaic Idealize.ShloMosaic.TcCoe Idealize.SL.Sem
open Idealize.ShloMosaic.Pipeline (Dat)
open scoped BigOperators

/-- The cotangent of the normalised row: its error over the width. -/
def lossDy (x t g : Fin 1024 → ℝ) (k : Fin 1024) : ℝ := (x k * rinv x * g k - t k) * (1 / 1024)

/-- The gradient of a row of the loss with respect to the row. -/
def lossDx (x t g : Fin 1024 → ℝ) (k : Fin 1024) : ℝ :=
  rinv x * (lossDy x t g k * g k - x k * rinv x * ((∑ l, lossDy x t g l * g l * (x l * rinv x)) / 1024))

/-- A row's share of the loss. -/
def lossRow (x t g : Fin 1024 → ℝ) : ℝ := (∑ k, (x k * rinv x * g k - t k) * (x k * rinv x * g k - t k)) * (1 / 2048)

variable (m : (ℓ : Loc nD τ sig) → Buf (Elt Ideal) ℓ)

/-- The block of each window at each grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] :=
  (by decide +kernel : ∀ t : Fin grid0.N, _)

section Payloads

variable (X T : FVec Ideal S512x1024 .f32) (G : FVec Ideal S1x1024 .f32) (x t : Fin 512 → Fin 1024 → ℝ) (g : Fin 1024 → ℝ)
  (hX : ∀ r k, X (ix2 r k) = (x r k : EReal)) (hT : ∀ r k, T (ix2 r k) = (t r k : EReal)) (hG : ∀ k, G (ix2 0 k) = (g k : EReal))
include hX hT hG

theorem pay_dh (r : Fin 512) (k : Fin 1024) :
    k0_pay2 (F := Ideal) (k0_pay5 G) (k0_pay6 X) (k0_pay7 X) (k0_pay10 X G T) (ix2 r k) = (lossDx (x r) (t r) g k : EReal) := by
  pointwise [k0_pay1, k0_pay2, k0_pay5, k0_pay6, k0_pay7, k0_pay8, k0_pay9, k0_pay10, k0_pay11]
  simp only [hX, hT, hG, ofBits_1024, ofBits_eps, ofBits_inv_1024, ← EReal.coe_mul, ← EReal.coe_add, ← EReal.coe_sub, sum_coe,
    div_coe (show (1024 : ℝ) ≠ 0 by norm_num), rsqrt_coe (mean_sq_pos _)]
  rfl

theorem pay_dg (A : FVec Ideal S1x1024 .f32) (k : Fin 1024) :
    k0_pay1 (F := Ideal) (k0_pay7 X) (k0_pay10 X G T) (k0_pay11 A) (ix2 0 k)
      = A (ix2 0 k) + ((∑ r, lossDy (x r) (t r) g k * (x r k * rinv (x r)) : ℝ) : EReal) := by
  pointwise [k0_pay1, k0_pay2, k0_pay5, k0_pay6, k0_pay7, k0_pay8, k0_pay9, k0_pay10, k0_pay11]
  simp only [hX, hT, hG, ofBits_1024, ofBits_eps, ofBits_inv_1024, ← EReal.coe_mul, ← EReal.coe_add, ← EReal.coe_sub, sum_coe,
    div_coe (show (1024 : ℝ) ≠ 0 by norm_num), rsqrt_coe (mean_sq_pos _)]
  rfl

theorem pay_loss (A : FVec Ideal S1x128 .f32) (k : Fin 128) :
    k0_pay9 (F := Ideal) X G T A (ix2 0 k) = A (ix2 0 k) + ((∑ r, lossRow (x r) (t r) g : ℝ) : EReal) := by
  pointwise [k0_pay1, k0_pay2, k0_pay5, k0_pay6, k0_pay7, k0_pay8, k0_pay9, k0_pay10, k0_pay11]
  simp only [hX, hT, hG, ofBits_1024, ofBits_eps, ofBits_inv_2048, ← EReal.coe_mul, ← EReal.coe_add, ← EReal.coe_sub, sum_coe,
    div_coe (show (1024 : ℝ) ≠ 0 by norm_num), rsqrt_coe (mean_sq_pos _)]
  rfl

end Payloads

section Arrays

variable (c : Dev nD) (x t : Fin 8192 → Fin 1024 → ℝ) (g : Fin 1024 → ℝ)
  (hx : ∀ r k, (m ((c : Thread nD τ).loc main_arg0) : FVec Ideal S8192x1024 .f32) (ix2 r k) = (x r k : EReal))
  (ht : ∀ r k, (m ((c : Thread nD τ).loc main_arg1) : FVec Ideal S8192x1024 .f32) (ix2 r k) = (t r k : EReal))
  (hg : ∀ k, (m ((c : Thread nD τ).loc main_arg2) : FVec Ideal S1024 .f32) (ix1 k) = (g k : EReal))

/-- Row `r` of the block at grid point `p`, as a row of the array. -/
def row (p : Fin cfg0.N) (r : Fin 512) : Fin 8192 :=
  ⟨p.val * 512 + r.val, by have := lt_of_lt_of_eq p.isLt (show cfg0.N = 16 from N_0); omega⟩

include hx in
theorem blk_x (p : Fin cfg0.N) (r : Fin 512) (k : Fin 1024) :
    (iblk m c 0 p : FVec Ideal S512x1024 .f32) (ix2 r k) = (x (row p r) k : EReal) := by
  rw [← hx]; blk_ext [iblk, V, idx p, row]

include ht in
theorem blk_t (p : Fin cfg0.N) (r : Fin 512) (k : Fin 1024) :
    (iblk m c 1 p : FVec Ideal S512x1024 .f32) (ix2 r k) = (t (row p r) k : EReal) := by
  rw [← ht]; blk_ext [iblk, V, idx p, row]

include hg in
theorem blk_g (p : Fin cfg0.N) (k : Fin 1024) : (iblk m c 2 p : FVec Ideal S1x1024 .f32) (ix2 0 k) = (g k : EReal) := by
  rw [← hg]; blk_simp [iblk, idx p]; entry_read; pointwise; blk_ext [idx p]

include hx ht hg

/-- The gradient of the activations, as the kernel leaves it. -/
theorem final_4 : (dats m 0 c).arrAt 4 (cfgs 0).N = fun i => ((lossDx (x (i 0)) (t (i 0)) g (i 1) : ℝ) : EReal) := by
  refine (dats m 0 c).arrAt_eq_of_covers 4 _ (by decide +kernel) fun p hf y => ?_
  have e : ((cfg0.win 4).blk p).view.emb y = ix2 (row p (y 0)) (y 1) := by blk_ext [idx p, row]
  have h2 := pay_dh _ _ _ _ _ _ (blk_x m c x hx p) (blk_t m c t ht p) (blk_g m c g hg p) (y 0) (y 1)
  rw [e]
  refine Eq.trans ?_ h2
  blk_simp; rw [after0_4]
  by_cases h : p.val % 16 = 0
  · rw [outsAt0_A m c p h]; dsimp only; frame_out
    exact congrArg _ (eq_ix2 y)
  · rw [outsAt0_B m c p h]; dsimp only; frame_out
    exact congrArg _ (eq_ix2 y)

/-- The gradient of the gain, as the kernel leaves it: its blocks' sums, added up. -/
theorem final_5 : (dats m 0 c).arrAt 5 (cfgs 0).N
    = fun i => ((∑ r, lossDy (x r) (t r) g (i 1) * (x r (i 1) * rinv (x r)) : ℝ) : EReal) := by
  refine (dats m 0 c).arrAt_eq_of_after_last 5 t0_15 (by decide +kernel) _ fun j => ?_
  have h2 := fun (p : Fin cfg0.N) (A : FVec Ideal S1x1024 .f32) (k : Fin 1024) =>
    pay_dg _ _ _ _ _ _ (blk_x m c x hx p) (blk_t m c t ht p) (blk_g m c g hg p) A k
  blk_simp
  rw [after0_5, Pipeline.eq_sum_fin_of_reset_step_apply_last (fun n h => (outsAt0 m c n h).2.2) 16 (fun _ => 0)
    (fun p j => ((∑ r, lossDy (x (row p r)) (t (row p r)) g (j 1) * (x (row p r) (j 1) * rinv (x (row p r))) : ℝ) : EReal))
    (fun p h j => by
      rw [outsAt0_A m c p h]; frame_out
      idx_vars j
      obtain rfl : j0 = 0 := Subsingleton.elim _ _
      refine (h2 p _ j1).trans (congrArg (· + _) ?_)
      pointwise [k0_pay11, k0_pay4])
    (fun p h j => by
      rw [outsAt0_B m c p h]; frame_out
      idx_vars j
      obtain rfl : j0 = 0 := Subsingleton.elim _ _
      exact h2 p _ j1)
    (le_of_eq N_0) t0_15 rfl j, zero_add]
  exact sum_tiles rfl row (fun _ _ => rfl) fun r => lossDy (x r) (t r) g (j 1) * (x r (j 1) * rinv (x r))

/-- The loss in every lane, as the kernel leaves it: its blocks' sums, added up. -/
theorem final_3 : (dats m 0 c).arrAt 3 (cfgs 0).N = fun _ => ((∑ r, lossRow (x r) (t r) g : ℝ) : EReal) := by
  refine (dats m 0 c).arrAt_eq_of_after_last 3 t0_15 (by decide +kernel) _ fun j => ?_
  have h2 := fun (p : Fin cfg0.N) (A : FVec Ideal S1x128 .f32) (k : Fin 128) =>
    pay_loss _ _ _ _ _ _ (blk_x m c x hx p) (blk_t m c t ht p) (blk_g m c g hg p) A k
  blk_simp
  rw [after0_3, Pipeline.eq_sum_fin_of_reset_step_apply_last (fun n h => (outsAt0 m c n h).1) 16 (fun _ => 0)
    (fun p _ => ((∑ r, lossRow (x (row p r)) (t (row p r)) g : ℝ) : EReal))
    (fun p h j => by
      rw [outsAt0_A m c p h]; frame_out
      idx_vars j
      obtain rfl : j0 = 0 := Subsingleton.elim _ _
      refine (h2 p _ j1).trans (congrArg (· + _) ?_)
      pointwise [k0_pay3])
    (fun p h j => by
      rw [outsAt0_B m c p h]; frame_out
      idx_vars j
      obtain rfl : j0 = 0 := Subsingleton.elim _ _
      exact h2 p _ j1)
    (le_of_eq N_0) t0_15 rfl j, zero_add]
  exact sum_tiles rfl row (fun _ _ => rfl) fun r => lossRow (x r) (t r) g

end Arrays

end Cert.LossIdeal.Value

end
-- ==== Proof.LossClaim.lean ====
/- The loss head: the kernel and the reference leave the same arrays. -/
module

public import proofs.«01_k».proof.Defs
public import proofs.«01_k».proof.Proof.Loss
public import proofs.«01_k».proof.Proof.Gen.LossRefIdeal.Run
public import Idealize.ShloMosaic.Lib.Claim

@[expose] public section

set_option maxRecDepth 16384

noncomputable section

namespace Cert.LossProof

open Cert.Reals Idealize.ShloMosaic Idealize.ShloMosaic.TcCoe Idealize.SL.Sem
open Cert.LossIdeal.Value (lossDx lossDy lossRow final_3 final_4 final_5)
open scoped BigOperators

/-- The precondition says that every entry of the three arguments is a real number. -/
theorem reals [Cert.Pre_finite_loss.Facts] (h t : FVec Ideal ⟨2, ![8192, 1024]⟩ .f32) (g : FVec Ideal ⟨1, ![1024]⟩ .f32)
    (hf : Cert.Pre_finite_loss.fn (F := Ideal) h t g = fun _ => 1#1) :
    (∀ i, ∃ a : ℝ, h i = a) ∧ (∀ i, ∃ a : ℝ, t i = a) ∧ ∀ i, ∃ a : ℝ, g i = a := by
  have e := congrFun hf ix0
  unfold Cert.Pre_finite_loss.fn at e
  dsimp only at e
  simp only [andi, IntOp.andi_eq_one] at e
  exact ⟨reals_of_all h _ _ _ _ e.1.1, reals_of_all t _ _ _ _ e.1.2, reals_of_all g _ _ _ _ e.2⟩

/-- The derivative of a row of the loss, as the chain rule gives it, is the kernel's formula. -/
theorem dx_eq (x t w : Fin 1024 → ℝ) (j : Fin 1024) {r s : ℝ} (hr : r = rinv x) (hs : r / s = r * r * r) :
    1 / 2 / 1024 * (2 * (x j * r * w j - t j)) * w j * r
      + x j * ∑ _k : Fin 1, (∑ k, x k * (1 / 2 / 1024 * (2 * (x k * r * w k - t k)) * w k)) * (-1 / 2 * (r / s)) / 1024
      + (∑ _k : Fin 1, (∑ k, x k * (1 / 2 / 1024 * (2 * (x k * r * w k - t k)) * w k)) * (-1 / 2 * (r / s)) / 1024) * x j
      = lossDx x t w j := by
  have h : ∑ l, lossDy x t w l * w l * (x l * r) = r * ∑ k, x k * (1 / 2 / 1024 * (2 * (x k * r * w k - t k)) * w k) := by
    rw [Finset.mul_sum]
    exact Finset.sum_congr rfl fun l _ => by rw [lossDy, ← hr]; ring
  rw [hs, lossDx, ← hr, h, lossDy, ← hr, Fin.sum_univ_one]
  ring

/-- The loss head leaves the loss and its two gradients. -/
theorem algebraic [Cert.Pre_finite_loss.Facts] : Cert.algebraic_LossIdeal_LossRefIdeal_pre_finite_loss := by
  pair_intro
  · run_from Cert.LossIdeal.Gen.run_main m g
  · obtain ⟨h0, h1, h2⟩ := reals _ _ _ (hpre (0 : Dev _))
    choose x hx using h0
    choose t ht using h1
    choose w hw using h2
    run_from Cert.LossRefIdeal.Value.run m' g'
    all_goals
      obtain rfl : c = 0 := Subsingleton.elim _ _
      obtain ⟨a0, a1, a2⟩ := hagree 0
      first
        | rw [final_3 m 0 _ _ _ (fun r k => hx (ix2 r k)) (fun r k => ht (ix2 r k)) fun k => hw (ix1 k)]
        | rw [final_4 m 0 _ _ _ (fun r k => hx (ix2 r k)) (fun r k => ht (ix2 r k)) fun k => hw (ix1 k)]
        | rw [final_5 m 0 _ _ _ (fun r k => hx (ix2 r k)) (fun r k => ht (ix2 r k)) fun k => hw (ix1 k)]
      funext j
      idx_vars j
      pointwise [LossRefIdeal.Value.res_main_v50]
      simp only [a0, a1, a2, hx, ht, hw, ofBits_1024, ofBits_eps, ofBits_half, ofBits_neg_half, ofBits_two, ofBits_one, zero_add,
        ← EReal.coe_mul, ← EReal.coe_add, ← EReal.coe_sub, sum_coe, div_coe (show (1024 : ℝ) ≠ 0 by norm_num),
        rsqrt_coe (mean_sq_pos _), div_coe (mean_sq_pos _).ne']
      refine congrArg Real.toEReal ?_
    · rw [Finset.mul_sum]
      exact Finset.sum_congr rfl fun r _ => by unfold lossRow rinv; ring
    · exact dx_eq (fun k => x (ix2 j0 k)) (fun k => t (ix2 j0 k)) (fun k => w (ix1 k)) j1 rfl (inv_sqrt_div (mean_sq_pos _))
    · rw [Fin.sum_univ_one]
      exact Finset.sum_congr rfl fun r _ => by unfold lossDy rinv; ring

end Cert.LossProof

end
-- ==== Proof.Pieces.lean ====
/- What a buffer holds that is filled run of rows by run of rows. -/
module

public import Idealize.ShloMosaic.Lib.Pipeline.ValueKit
public import Idealize.ShloMosaic.Lib.Pipeline.ReadBack
public import Idealize.ShloMosaic.Lib.Pointwise

@[expose] public section

noncomputable section

namespace Cert.Pieces

open Idealize.ShloMosaic

variable {Val : EltTy → Type} [∀ e, Nonempty (Val e)] {sig : RefSig} {κ : Kind} {sp : Space} {e : EltTy}

/-- Full rows loaded from a buffer that two stores of full rows filled are the rows of the array that the stores hold. -/
theorem readCov_rows {M N a h n o : ℕ} (v : View sig κ sp ⟨2, ![M, N]⟩ e) (G : ℕ → Fin N → Val e)
    (inb1 : ∀ i : Fin 2, ![a, 0] i + ![h, N] i ≤ ![M, N] i) (inb2 : ∀ i : Fin 2, ![0, 0] i + ![a, N] i ≤ ![M, N] i)
    (inb : ∀ i : Fin 2, ![o, 0] i + ![n, N] i ≤ ![M, N] i)
    (P : (⟨2, ![h, N]⟩ : Shape).Idx → Val e) (Q : (⟨2, ![a, N]⟩ : Shape).Idx → Val e)
    (hP : ∀ (r : Fin h) (k : Fin N), P (ix2 r k) = G (a + r.val) k) (hQ : ∀ (r : Fin a) (k : Fin N), Q (ix2 r k) = G r.val k)
    (hM : M ≤ a + h) (r : Fin n) (k : Fin N) :
    (v.readCov [(⟨Rect.unit (s := ⟨2, ![M, N]⟩) ![a, 0] ![h, N] inb1, P⟩ : View.Piece Val _ e), ⟨Rect.unit (s := ⟨2, ![M, N]⟩) ![0, 0] ![a, N] inb2, Q⟩]
      (Rect.unit (s := ⟨2, ![M, N]⟩) ![o, 0] ![n, N] inb).toLoadRect : (⟨2, ![n, N]⟩ : Shape).Idx → Val e) (ix2 r k) = G (o + r.val) k := by
  have hp : View.PiecesOf (fun y : (⟨2, ![M, N]⟩ : Shape).Idx => G (y 0).val (y 1))
      [(⟨Rect.unit (s := ⟨2, ![M, N]⟩) ![a, 0] ![h, N] inb1, P⟩ : View.Piece Val _ e), ⟨Rect.unit (s := ⟨2, ![M, N]⟩) ![0, 0] ![a, N] inb2, Q⟩] := by
    refine ⟨fun x => ?_, fun x => ?_, trivial⟩
    · refine (congrArg P (eq_ix2 x)).trans ((hP (x 0) (x 1)).trans ?_)
      refine congr (congrArg G ?_) (Fin.ext ?_)
      · change a + _ = a + 1 * _; omega
      · change _ = 0 + 1 * _; omega
    · refine (congrArg Q (eq_ix2 x)).trans ((hQ (x 0) (x 1)).trans ?_)
      refine congr (congrArg G ?_) (Fin.ext ?_)
      · change _ = 0 + 1 * _; omega
      · change _ = 0 + 1 * _; omega
  rw [View.readCov_eq_canon']
  refine (View.canon_apply_of_pieces (fun y : (⟨2, ![M, N]⟩ : Shape).Idx => G (y 0).val (y 1)) _ hp.mem _ ?_).trans ?_
  · by_cases hc : a ≤ o + 1 * r.val
    · refine ⟨_, List.mem_cons_self, (Rect.mem_set_unit (inb := inb1)).mpr (Fin.forall_fin_two.mpr ⟨⟨hc, ?_⟩, ⟨Nat.zero_le _, ?_⟩⟩)⟩
      · have := inb 0
        change o + n ≤ M at this
        change o + 1 * r.val < a + h
        omega
      · change 0 + 1 * k.val < 0 + N
        omega
    · refine ⟨_, List.mem_cons_of_mem _ List.mem_cons_self, (Rect.mem_set_unit (inb := inb2)).mpr (Fin.forall_fin_two.mpr ⟨⟨Nat.zero_le _, ?_⟩, ⟨Nat.zero_le _, ?_⟩⟩)⟩
      · change o + 1 * r.val < 0 + a
        omega
      · change 0 + 1 * k.val < 0 + N
        omega
  · refine congr (congrArg G ?_) (Fin.ext ?_)
    · change o + 1 * r.val = _; omega
    · change 0 + 1 * k.val = _; omega

/-- A payload of one full row, read at the index of the buffer that the row's store gives it. -/
theorem row_piece {M N j : ℕ} (G : (⟨2, ![M, N]⟩ : Shape).Idx → Val e) (hj : j < M) (inb : ∀ i : Fin 2, ![j, 0] i + ![1, N] i ≤ ![M, N] i)
    (P : (⟨2, ![1, N]⟩ : Shape).Idx → Val e) (hP : ∀ k : Fin N, P (ix2 0 k) = G (ix2 ⟨j, hj⟩ k))
    (x : (Rect.unit (s := ⟨2, ![M, N]⟩) ![j, 0] ![1, N] inb).shape.Idx) :
    P x = G ((Rect.unit (s := ⟨2, ![M, N]⟩) ![j, 0] ![1, N] inb).emb x) := by
  obtain ⟨x0, x1, rfl⟩ : ∃ (x0 : Fin 1) (x1 : Fin N), x = ix2 x0 x1 := ⟨_, _, eq_ix2 x⟩
  obtain rfl : x0 = 0 := Subsingleton.elim _ _
  refine (hP x1).trans (congrArg G ?_)
  funext i
  refine Fin.ext ?_
  match i with
  | ⟨0, _⟩ => rfl
  | ⟨1, _⟩ => change x1.val = 0 + 1 * x1.val; omega

/-- A row loaded from a buffer is the buffer's row. -/
theorem ld_row {M N j : ℕ} (A : (⟨2, ![M, N]⟩ : Shape).Idx → Val e) (hj : j < M) (inb : ∀ i : Fin 2, ![j, 0] i + ![1, N] i ≤ ![M, N] i)
    (k : Fin N) :
    (View.ld A (Rect.unit (s := ⟨2, ![M, N]⟩) ![j, 0] ![1, N] inb) : (⟨2, ![1, N]⟩ : Shape).Idx → Val e) (ix2 0 k) = A (ix2 ⟨j, hj⟩ k) :=
  (row_piece A hj inb (fun y => A (ix2 ⟨j, hj⟩ (y 1))) (fun _ => rfl) (ix2 0 k)).symm

/-- An index of a row is in the row's rectangle. -/
theorem mem_row {M N j : ℕ} (inb : ∀ i : Fin 2, ![j, 0] i + ![1, N] i ≤ ![M, N] i) (y : (⟨2, ![M, N]⟩ : Shape).Idx) (h : (y 0).val = j) :
    y ∈ (Rect.unit (s := ⟨2, ![M, N]⟩) ![j, 0] ![1, N] inb).set := by
  refine (Rect.mem_set_unit (inb := inb)).mpr (Fin.forall_fin_two.mpr ⟨⟨le_of_eq h.symm, ?_⟩, ⟨Nat.zero_le _, ?_⟩⟩)
  · change (y 0).val < j + 1; omega
  · change (y 1).val < 0 + N
    have : (y 1).val < N := (y 1).isLt
    omega

end Cert.Pieces

end
-- ==== Proof.Conv.lean ====
/- The convolution's gradients: the arrays that the kernel leaves. -/
module

public import proofs.«01_k».proof.Proof.Reals
public import proofs.«01_k».proof.Proof.Gen.ConvIdeal.Value
public import proofs.«01_k».proof.Proof.Pieces

@[expose] public section

set_option maxRecDepth 16384

noncomputable section

namespace Cert.ConvIdeal.Value

open Cert.ConvIdeal Cert.ConvIdeal.Gen Cert.Reals Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The block of each window at each grid point. -/
theorem idx : ∀ t : Fin cfg0.N, win0_0.index t = ![t.val, 0] ∧ win0_1.index t = ![t.val * 64 - 1, 0] ∧ win0_2.index t = ![t.val, 0]
    ∧ win0_3.index t = ![min ((t.val + 1) * 64) 1023, 0] ∧ win0_4.index t = ![0, 0] ∧ win0_5.index t = ![t.val, 0]
    ∧ win0_6.index t = ![0, 0] :=
  (by decide +kernel : ∀ t : Fin grid0.N, _)

/-- A column of the activations behind eight zero rows. -/
def up (x : Fin 8192 → EReal) (n : ℕ) : EReal := if h : 8 ≤ n ∧ n < 8200 then x ⟨n - 8, by omega⟩ else 0

/-- A column of the cotangent before zero rows. -/
def down (x : Fin 8192 → EReal) (n : ℕ) : EReal := if h : n < 8192 then x ⟨n, h⟩ else 0

/-- The activations, the first columns of the projection. -/
def act (r : Fin 8192) (k : Fin 2304) : EReal :=
  (m ((c : Thread nD τ).loc main_arg0) : FVec Ideal S8192x3340 .f32) (ix2 r ⟨k.val, by omega⟩)

/-- The cotangent of the convolution. -/
def cot (r : Fin 8192) (k : Fin 2304) : EReal := (m ((c : Thread nD τ).loc main_arg2) : FVec Ideal S8192x2304 .f32) (ix2 r k)

/-- The filter. -/
def filt (j : Fin 4) (k : Fin 2304) : EReal := (m ((c : Thread nD τ).loc main_arg1) : FVec Ideal S4x2304 .f32) (ix2 j k)

/-- Row `r` of the block at grid point `p`, as a row of the array. -/
def row (p : Fin cfg0.N) (r : Fin 512) : Fin 8192 :=
  ⟨p.val * 512 + r.val, by have := lt_of_lt_of_eq p.isLt (show cfg0.N = 16 from N_0); omega⟩

/-- The projection's columns, as the host puts them together. -/
def cat (a : FVec Ideal S8192x3072 .f32) (b : FVec Ideal S8192x256 .f32) (d : FVec Ideal S8192x128 .f32) : FVec Ideal S8192x3456 .f32 :=
  concatenate S8192x3456 1 [⟨S8192x3072, a⟩, ⟨S8192x256, b⟩, ⟨S8192x128, d⟩] concatenates_S8192x3072_S8192x256_S8192x128_S8192x3456_d1

theorem proj (r : Fin 8192) (k : Fin 2304) : (V m c main_v4 : FVec Ideal S8192x3456 .f32) (ix2 r ⟨k.val, by omega⟩) = act m c r k := by
  have e : ∃ b d, (V m c main_v4 : FVec Ideal S8192x3456 .f32)
      = cat (extractStridedSlice S8192x3072 ![0, 0] (m ((c : Thread nD τ).loc main_arg0)) slices_S8192x3340_S8192x3072_0_0) b d := by
    unfold V
    simp only [List.flatten_cons, List.flatten_nil, List.append_nil, List.cons_append, List.nil_append, StableHlo.after_cons, StableHlo.after_nil]
    rw [StableHlo.nary_result']
    refine ⟨_, _, congrArg (fun a => cat a _ _) ?_⟩
    after_results_simp
    rfl
  obtain ⟨b, d, e⟩ := e
  rw [e]
  pointwise [act, cat]
  rw [dif_pos (by omega)]

/-- The tests of the first and of the last grid point. -/
theorem tests : ∀ t : Fin cfg0.N, Scalar.cmpi .eq (BitVec.ofNat 32 (grid0.coords t 0).val) 0#32 = (if t.val = 0 then 1#1 else 0#1)
    ∧ Scalar.cmpi .eq (BitVec.ofNat 32 (grid0.coords t 0).val) 15#32 = (if t.val = 15 then 1#1 else 0#1) :=
  (by decide +kernel : ∀ t : Fin grid0.N, _)

theorem blk_x (p : Fin cfg0.N) (r : Fin 512) (k : Fin 2304) :
    (X0_0 m c p : FVec Ideal S512x2304 .f32) (ix2 r k) = act m c (row p r) k := by
  rw [← proj]; unfold X0_0 Pipeline.Window.fill
  rw [dif_pos (moved0_0 p _)]
  blk_ext [iblk, idx p, row]

theorem blk_xh (p : Fin cfg0.N) (r : Fin 8) (k : Fin 2304) :
    k0_pay4 (F := Ideal) (grid0.coords p) (X0_1 m c p) (ix2 r k) = up (act m c · k) (p.val * 512 + r.val) := by
  have hp := lt_of_lt_of_eq p.isLt (show cfg0.N = 16 from N_0)
  unfold X0_1 Pipeline.Window.fill
  pointwise [k0_pay4]
  rw [dif_pos (moved0_1 p _), (tests p).1, up]
  by_cases h : p.val = 0
  · rw [if_pos h, dif_neg (by omega)]; rfl
  · rw [if_neg h, dif_pos ⟨by omega, by omega⟩]
    refine Eq.trans (b := iblk m c 1 p _) rfl ?_
    rw [← proj]
    blk_ext [iblk, idx p, row]

theorem blk_dy (p : Fin cfg0.N) (r : Fin 512) (k : Fin 2304) :
    (iblk m c 2 p : FVec Ideal S512x2304 .f32) (ix2 r k) = cot m c (row p r) k := by
  blk_ext [iblk, V, idx p, row, cot]

theorem blk_dyh (p : Fin cfg0.N) (r : Fin 8) (k : Fin 2304) :
    k0_pay7 (F := Ideal) (grid0.coords p) (iblk m c 3 p) (ix2 r k) = down (cot m c · k) (p.val * 512 + (512 + r.val)) := by
  have hp := lt_of_lt_of_eq p.isLt (show cfg0.N = 16 from N_0)
  pointwise [k0_pay7]
  rw [(tests p).2, down]
  by_cases h : p.val = 15
  · rw [if_pos h, dif_neg (by omega)]; rfl
  · rw [if_neg h, dif_pos (by omega)]
    refine Eq.trans (b := iblk m c 3 p _) rfl ?_
    blk_ext [iblk, V, idx p, row, cot]

theorem blk_w (p : Fin cfg0.N) (j : Fin 4) (k : Fin 2304) :
    (iblk m c 4 p : FVec Ideal S4x2304 .f32) (ix2 j k) = filt m c j k := by
  blk_ext [iblk, V, idx p, filt]

/-- The payload of the gradient of the activations, over the rows loaded. -/
theorem pay_dx (w0 w1 w2 w3 : Vec Ideal S1x2304 .f32) (d0 d1 d2 d3 : Vec Ideal S512x2304 .f32) (r : Fin 512) (k : Fin 2304) :
    k0_pay9 (F := Ideal) w0 d0 w1 d1 w2 d2 w3 d3 (ix2 r k)
      = w0 (ix2 0 k) * d0 (ix2 r k) + w1 (ix2 0 k) * d1 (ix2 r k) + w2 (ix2 0 k) * d2 (ix2 r k) + w3 (ix2 0 k) * d3 (ix2 r k) := by
  pointwise [k0_pay9]

section Payloads

variable (D X : Vec Ideal S512x2304 .f32) (A : Vec Ideal S1x2304 .f32) (k : Fin 2304)

theorem pay_dw0 : k0_pay10 (F := Ideal) D A X (ix2 0 k) = A (ix2 0 k) + ∑ r, X (ix2 r k) * D (ix2 r k) := by pointwise [k0_pay10]
theorem pay_dw1 : k0_pay1 (F := Ideal) (k0_pay11 A) (k0_pay12 D X) (ix2 0 k) = A (ix2 0 k) + ∑ r, X (ix2 r k) * D (ix2 r k) := by
  pointwise [k0_pay1, k0_pay11, k0_pay12]
theorem pay_dw2 : k0_pay2 (F := Ideal) D A X (ix2 0 k) = A (ix2 0 k) + ∑ r, X (ix2 r k) * D (ix2 r k) := by pointwise [k0_pay2]
theorem pay_dw3 : k0_pay3 (F := Ideal) D A X (ix2 0 k) = A (ix2 0 k) + ∑ r, X (ix2 r k) * D (ix2 r k) := by pointwise [k0_pay3]

end Payloads

/-- A grid point's part of the filter's gradient. -/
def part (p : Fin cfg0.N) (y : S4x2304.Idx) : EReal :=
  ∑ r : Fin 512, up (act m c · (y 1)) (p.val * 512 + (5 + (y 0).val + r.val)) * cot m c (row p r) (y 1)

theorem blk_xr (p : Fin cfg0.N) (r : Fin 512) (k : Fin 2304) :
    k0_pay5 (F := Ideal) (X0_0 m c p) (ix2 r k) = up (act m c · k) (p.val * 512 + (8 + r.val)) := by
  have hp := lt_of_lt_of_eq p.isLt (show cfg0.N = 16 from N_0)
  pointwise [k0_pay5]
  rw [blk_x, up, dif_pos ⟨by omega, by omega⟩]
  exact congrArg (act m c · k) (Fin.ext (by change _ = _ - 8; simp only [row]; omega))

/-- Rows loaded from the buffer of the activations behind the eight rows before them. -/
theorem rows_x (p : Fin cfg0.N) {sig : RefSig} {κ : Kind} {sp : Space} (v : View sig κ sp S520x2304 .f32) (o : ℕ)
    (inb : ∀ i : Fin 2, ![o, 0] i + ![512, 2304] i ≤ ![520, 2304] i) (r : Fin 512) (k : Fin 2304) :
    (v.readCov
      [⟨Rect.unit ![8, 0] ![512, 2304] inb_S520x2304_S512x2304_8_0, k0_pay5 (X0_0 m c p)⟩,
        ⟨Rect.unit ![0, 0] ![8, 2304] inb_S520x2304_S8x2304_0_0, k0_pay4 (grid0.coords p) (X0_1 m c p)⟩]
      (Rect.unit (s := S520x2304) ![o, 0] ![512, 2304] inb).toLoadRect : Vec Ideal S512x2304 .f32) (ix2 r k)
      = up (act m c · k) (p.val * 512 + (o + r.val)) :=
  Pieces.readCov_rows (Val := Elt Ideal) (e := .f32) (M := 520) (N := 2304) (a := 8) (h := 512) (n := 512) (o := o) v
    (fun n k => up (act m c · k) (p.val * 512 + n)) inb_S520x2304_S512x2304_8_0 inb_S520x2304_S8x2304_0_0 inb
    (k0_pay5 (X0_0 m c p)) (k0_pay4 (grid0.coords p) (X0_1 m c p)) (blk_xr m c p) (blk_xh m c p) (by norm_num) r k

/-- The gradient of the filter that a grid point leaves, over what it found. -/
theorem step (p : Fin cfg0.N) (A : Vec Ideal S4x2304 .f32) {sig : RefSig} {κ : Kind} {sp : Space} (v : View sig κ sp S520x2304 .f32)
    (T : List (View.Piece (Elt Ideal) S4x2304 .f32)) (j : S4x2304.Idx) :
    View.canon
      ([⟨Rect.unit ![3, 0] ![1, 2304] inb_S4x2304_S1x2304_3_0,
          k0_pay3 (iblk m c 2 p) (View.ld A (Rect.unit ![3, 0] ![1, 2304] inb_S4x2304_S1x2304_3_0)) (k0_pay5 (X0_0 m c p))⟩,
        ⟨Rect.unit ![2, 0] ![1, 2304] inb_S4x2304_S1x2304_2_0,
          k0_pay2 (iblk m c 2 p) (View.ld A (Rect.unit ![2, 0] ![1, 2304] inb_S4x2304_S1x2304_2_0))
            (v.readCov
              [⟨Rect.unit ![8, 0] ![512, 2304] inb_S520x2304_S512x2304_8_0, k0_pay5 (X0_0 m c p)⟩,
                ⟨Rect.unit ![0, 0] ![8, 2304] inb_S520x2304_S8x2304_0_0, k0_pay4 (grid0.coords p) (X0_1 m c p)⟩]
              (Rect.unit ![7, 0] ![512, 2304] inb_S520x2304_S512x2304_7_0).toLoadRect)⟩,
        ⟨Rect.unit ![1, 0] ![1, 2304] inb_S4x2304_S1x2304_1_0,
          k0_pay1 (k0_pay11 (View.ld A (Rect.unit ![1, 0] ![1, 2304] inb_S4x2304_S1x2304_1_0)))
            (k0_pay12 (iblk m c 2 p)
              (v.readCov
                [⟨Rect.unit ![8, 0] ![512, 2304] inb_S520x2304_S512x2304_8_0, k0_pay5 (X0_0 m c p)⟩,
                  ⟨Rect.unit ![0, 0] ![8, 2304] inb_S520x2304_S8x2304_0_0, k0_pay4 (grid0.coords p) (X0_1 m c p)⟩]
                (Rect.unit ![6, 0] ![512, 2304] inb_S520x2304_S512x2304_6_0).toLoadRect))⟩,
        ⟨Rect.unit ![0, 0] ![1, 2304] inb_S4x2304_S1x2304_0_0,
          k0_pay10 (iblk m c 2 p) (View.ld A (Rect.unit ![0, 0] ![1, 2304] inb_S4x2304_S1x2304_0_0))
            (v.readCov
              [⟨Rect.unit ![8, 0] ![512, 2304] inb_S520x2304_S512x2304_8_0, k0_pay5 (X0_0 m c p)⟩,
                ⟨Rect.unit ![0, 0] ![8, 2304] inb_S520x2304_S8x2304_0_0, k0_pay4 (grid0.coords p) (X0_1 m c p)⟩]
              (Rect.unit ![5, 0] ![512, 2304] inb_S520x2304_S512x2304_5_0).toLoadRect)⟩] ++ T) j = A j + part m c p j := by
  refine View.canon_append_of_piecesOf (fun y => A y + part m c p y) T _ ?_ j ?_
  · refine ⟨?_, ?_, ?_, ?_, trivial⟩
    · refine Pieces.row_piece (M := 4) (N := 2304) (j := 3) (fun y => A y + part m c p y) (by norm_num) inb_S4x2304_S1x2304_3_0 _ fun k => ?_
      refine (pay_dw3 _ _ _ k).trans (congr (congrArg _ ?_) ?_)
      · exact Pieces.ld_row (Val := Elt Ideal) (e := .f32) A (by norm_num) inb_S4x2304_S1x2304_3_0 k
      · exact Finset.sum_congr rfl fun r _ => by rw [blk_xr, blk_dy]; rfl
    · refine Pieces.row_piece (M := 4) (N := 2304) (j := 2) (fun y => A y + part m c p y) (by norm_num) inb_S4x2304_S1x2304_2_0 _ fun k => ?_
      refine (pay_dw2 _ _ _ k).trans (congr (congrArg _ ?_) ?_)
      · exact Pieces.ld_row (Val := Elt Ideal) (e := .f32) A (by norm_num) inb_S4x2304_S1x2304_2_0 k
      · exact Finset.sum_congr rfl fun r _ => by rw [rows_x, blk_dy]; rfl
    · refine Pieces.row_piece (M := 4) (N := 2304) (j := 1) (fun y => A y + part m c p y) (by norm_num) inb_S4x2304_S1x2304_1_0 _ fun k => ?_
      refine (pay_dw1 _ _ _ k).trans (congr (congrArg _ ?_) ?_)
      · exact Pieces.ld_row (Val := Elt Ideal) (e := .f32) A (by norm_num) inb_S4x2304_S1x2304_1_0 k
      · exact Finset.sum_congr rfl fun r _ => by rw [rows_x, blk_dy]; rfl
    · refine Pieces.row_piece (M := 4) (N := 2304) (j := 0) (fun y => A y + part m c p y) (by norm_num) inb_S4x2304_S1x2304_0_0 _ fun k => ?_
      refine (pay_dw0 _ _ _ k).trans (congr (congrArg _ ?_) ?_)
      · exact Pieces.ld_row (Val := Elt Ideal) (e := .f32) A (by norm_num) inb_S4x2304_S1x2304_0_0 k
      · exact Finset.sum_congr rfl fun r _ => by rw [rows_x, blk_dy]; rfl
  · have h4 : (j 0).val < 4 := (j 0).isLt
    simp only [List.mem_cons, List.not_mem_nil, or_false, exists_eq_or_imp, exists_eq_left]
    obtain h | h | h | h : (j 0).val = 3 ∨ (j 0).val = 2 ∨ (j 0).val = 1 ∨ (j 0).val = 0 := by omega
    · exact .inl (Pieces.mem_row _ j h)
    · exact .inr (.inl (Pieces.mem_row _ j h))
    · exact .inr (.inr (.inl (Pieces.mem_row _ j h)))
    · exact .inr (.inr (.inr (Pieces.mem_row _ j h)))

theorem blk_dyr (p : Fin cfg0.N) (r : Fin 512) (k : Fin 2304) :
    k0_pay6 (F := Ideal) (iblk m c 2 p) (ix2 r k) = down (cot m c · k) (p.val * 512 + r.val) := by
  have hp := lt_of_lt_of_eq p.isLt (show cfg0.N = 16 from N_0)
  pointwise [k0_pay6]
  rw [blk_dy, down, dif_pos (by omega)]
  rfl

/-- Rows loaded from the buffer of the cotangent before the eight rows behind them. -/
theorem rows_dy (p : Fin cfg0.N) {sig : RefSig} {κ : Kind} {sp : Space} (v : View sig κ sp S520x2304 .f32) (o : ℕ)
    (inb : ∀ i : Fin 2, ![o, 0] i + ![512, 2304] i ≤ ![520, 2304] i) (r : Fin 512) (k : Fin 2304) :
    (v.readCov
      [⟨Rect.unit ![512, 0] ![8, 2304] inb_S520x2304_S8x2304_512_0, k0_pay7 (grid0.coords p) (iblk m c 3 p)⟩,
        ⟨Rect.unit ![0, 0] ![512, 2304] inb_S520x2304_S512x2304_0_0, k0_pay6 (iblk m c 2 p)⟩]
      (Rect.unit (s := S520x2304) ![o, 0] ![512, 2304] inb).toLoadRect : Vec Ideal S512x2304 .f32) (ix2 r k)
      = down (cot m c · k) (p.val * 512 + (o + r.val)) :=
  Pieces.readCov_rows (Val := Elt Ideal) (e := .f32) (M := 520) (N := 2304) (a := 512) (h := 8) (n := 512) (o := o) v
    (fun n k => down (cot m c · k) (p.val * 512 + n)) inb_S520x2304_S8x2304_512_0 inb_S520x2304_S512x2304_0_0 inb
    (k0_pay7 (grid0.coords p) (iblk m c 3 p)) (k0_pay6 (iblk m c 2 p)) (blk_dyh m c p) (blk_dyr m c p) (by norm_num) r k

/-- The gradient of the activations at row `n` and column `k`. -/
def dx (n : ℕ) (k : Fin 2304) : EReal :=
  filt m c 0 k * down (cot m c · k) (n + 3) + filt m c 1 k * down (cot m c · k) (n + 2) + filt m c 2 k * down (cot m c · k) (n + 1)
    + filt m c 3 k * down (cot m c · k) n

/-- The gradient of the activations that a grid point stores. -/
theorem stored_dx (p : Fin cfg0.N) (y : S512x2304.Idx) :
    k0_pay9 (F := Ideal) (View.ld (iblk m c 4 p) (Rect.unit ![0, 0] ![1, 2304] inb_S4x2304_S1x2304_0_0))
      ((View.whole cc0_scratch1).readCov
        [⟨Rect.unit ![512, 0] ![8, 2304] inb_S520x2304_S8x2304_512_0, k0_pay7 (grid0.coords p) (iblk m c 3 p)⟩,
          ⟨Rect.unit ![0, 0] ![512, 2304] inb_S520x2304_S512x2304_0_0, k0_pay6 (iblk m c 2 p)⟩]
        (Rect.unit ![3, 0] ![512, 2304] inb_S520x2304_S512x2304_3_0).toLoadRect)
      (View.ld (iblk m c 4 p) (Rect.unit ![1, 0] ![1, 2304] inb_S4x2304_S1x2304_1_0))
      ((View.whole cc0_scratch1).readCov
        [⟨Rect.unit ![512, 0] ![8, 2304] inb_S520x2304_S8x2304_512_0, k0_pay7 (grid0.coords p) (iblk m c 3 p)⟩,
          ⟨Rect.unit ![0, 0] ![512, 2304] inb_S520x2304_S512x2304_0_0, k0_pay6 (iblk m c 2 p)⟩]
        (Rect.unit ![2, 0] ![512, 2304] inb_S520x2304_S512x2304_2_0).toLoadRect)
      (View.ld (iblk m c 4 p) (Rect.unit ![2, 0] ![1, 2304] inb_S4x2304_S1x2304_2_0))
      ((View.whole cc0_scratch1).readCov
        [⟨Rect.unit ![512, 0] ![8, 2304] inb_S520x2304_S8x2304_512_0, k0_pay7 (grid0.coords p) (iblk m c 3 p)⟩,
          ⟨Rect.unit ![0, 0] ![512, 2304] inb_S520x2304_S512x2304_0_0, k0_pay6 (iblk m c 2 p)⟩]
        (Rect.unit ![1, 0] ![512, 2304] inb_S520x2304_S512x2304_1_0).toLoadRect)
      (View.ld (iblk m c 4 p) (Rect.unit ![3, 0] ![1, 2304] inb_S4x2304_S1x2304_3_0)) (k0_pay6 (iblk m c 2 p)) y
      = dx m c (p.val * 512 + (y 0).val) (y 1) := by
  obtain ⟨r, k, rfl⟩ : ∃ (r : Fin 512) (k : Fin 2304), y = ix2 r k := ⟨_, _, eq_ix2 y⟩
  refine (pay_dx ..).trans ?_
  have hw : ∀ (j : ℕ) (hj : j < 4) (inb), (View.ld (iblk m c 4 p) (Rect.unit (s := S4x2304) ![j, 0] ![1, 2304] inb) : Vec Ideal S1x2304 .f32) (ix2 0 k)
      = filt m c ⟨j, hj⟩ k := fun j hj inb =>
    (Pieces.ld_row (Val := Elt Ideal) (e := .f32) (iblk m c 4 p) hj inb k).trans (blk_w m c p _ k)
  rw [hw 0 (by norm_num), hw 1 (by norm_num), hw 2 (by norm_num), hw 3 (by norm_num), rows_dy, rows_dy, rows_dy, blk_dyr]
  have ha : ∀ a : ℕ, p.val * 512 + (a + r.val) = p.val * 512 + r.val + a := by omega
  simp only [ha]
  rfl

/-- The gradient of the activations, as the kernel leaves it. -/
theorem final_5 : (dats m 0 c).arrAt 5 (cfgs 0).N = fun i => dx m c (i 0).val (i 1) := by
  refine (dats m 0 c).arrAt_eq_of_covers 5 _ (by decide +kernel) fun p hf y => ?_
  have e : ((cfg0.win 5).blk p).view.emb y = ix2 (row p (y 0)) (y 1) := by blk_ext [idx p, row]
  rw [e]
  blk_simp; rw [after0_5]
  by_cases h : p.val % 16 = 0
  · rw [outsAt0_A m c p h]; frame_open
    simp (disch := decide) only [↓ View.readCov_skip, ↓ View.readCov_cons_toLoadRect, ↓ View.readCov_fill]; frame_out
    exact stored_dx m c p y
  · rw [outsAt0_B m c p h]; frame_open
    simp (disch := decide) only [↓ View.readCov_skip, ↓ View.readCov_cons_toLoadRect, ↓ View.readCov_fill]; frame_out
    exact stored_dx m c p y

/-- The gradient of the filter: the cotangent against the activations that each tap reads. -/
def dw (j : S4x2304.Idx) : EReal := ∑ r : Fin 8192, up (act m c · (j 1)) (r.val + (5 + (j 0).val)) * cot m c r (j 1)

theorem sum_part (j : S4x2304.Idx) : ∑ p, part m c p j = dw m c j := by
  refine Eq.trans ?_ (sum_tiles_ereal rfl row (fun _ _ => rfl) fun r => up (act m c · (j 1)) (r.val + (5 + (j 0).val)) * cot m c r (j 1))
  refine Finset.sum_congr rfl fun p _ => Finset.sum_congr rfl fun r _ => ?_
  have ha : p.val * 512 + (5 + (j 0).val + r.val) = (row p r).val + (5 + (j 0).val) := by simp only [row]; omega
  rw [ha]

theorem dw_reset (p : Fin cfg0.N) (h : p.val % 16 = 0) (j : S4x2304.Idx) : (outsAt0 m c p.val p.isLt).2 j = 0 + part m c p j := by
  rw [outsAt0_A m c p h]; frame_open
  simp (disch := decide) only [↓ View.readCov_skip, ↓ View.readCov_cons_toLoadRect, ↓ View.readCov_fill]; frame_out
  have h0 : (k0_pay8 (F := Ideal) : Vec Ideal S4x2304 .f32) j = 0 := by pointwise [k0_pay8]
  rw [← h0]
  have hs := step m c p (k0_pay8 (F := Ideal)) (View.whole cc0_scratch0) [⟨Rect.unit ![0, 0] ![4, 2304] inb_S4x2304_S4x2304_0_0, k0_pay8 (F := Ideal)⟩] j
  simp only [List.cons_append, List.nil_append] at hs
  exact hs

theorem dw_step (p : Fin cfg0.N) (h : ¬p.val % 16 = 0) (j : S4x2304.Idx) :
    (outsAt0 m c p.val p.isLt).2 j = (outsAt0 m c (p.val - 1) (Nat.lt_of_le_of_lt (Nat.sub_le _ _) p.isLt)).2 j + part m c p j := by
  rw [outsAt0_B m c p h]; frame_open
  simp (disch := decide) only [↓ View.readCov_skip, ↓ View.readCov_cons_toLoadRect, ↓ View.readCov_fill]; frame_out
  have hs := step m c p (outsAt0 m c (p.val - 1) (Nat.lt_of_le_of_lt (Nat.sub_le _ _) p.isLt)).2 (View.whole cc0_scratch0) [] j
  simp only [List.cons_append, List.nil_append] at hs
  exact hs

/-- The gradient of the filter, as the kernel leaves it: its blocks' sums, added up. -/
theorem final_6 : (dats m 0 c).arrAt 6 (cfgs 0).N = dw m c := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0) (part m c)
    (dw_reset m c) (dw_step m c) (le_of_eq N_0) t0_15 rfl j, zero_add]
  exact sum_part m c j

end Cert.ConvIdeal.Value

end
-- ==== Proof.ConvClaim.lean ====
/- The convolution: the kernel and the reference leave the same gradients. -/
module

public import proofs.«01_k».proof.Defs
public import proofs.«01_k».proof.Proof.Conv
public import proofs.«01_k».proof.Proof.Gen.ConvRefIdeal.Run
public import Idealize.ShloMosaic.Lib.Claim

@[expose] public section

set_option maxRecDepth 16384

noncomputable section

namespace Cert.ConvProof

open Cert.Reals Idealize.ShloMosaic Idealize.ShloMosaic.TcCoe Idealize.SL.Sem
open Cert.ConvIdeal.Value (final_5 final_6 dx dw up down act cot filt)
open scoped BigOperators

variable (a d : Fin 8192 → EReal)

/-- A product with a row that may lie behind the last is the product with the cotangent before zero rows. -/
theorem tap_down {P : Prop} [Decidable P] (w : EReal) {n : ℕ} (hP : P ↔ n < 8192) (e : P → Fin 8192) (he : ∀ h, (e h).val = n) :
    (if h : P then w * d (e h) else 0) = w * down d n := by
  by_cases h : P
  · rw [dif_pos h, down, dif_pos (hP.mp h)]
    exact congrArg (w * d ·) (Fin.ext (he h))
  · rw [dif_neg h, down, dif_neg (fun h' => h (hP.mpr h')), mul_zero]

/-- The activations three rows up, zero before the first. -/
theorem tap_up {P : Prop} [Decidable P] (r : Fin 8192) {n : ℕ} (hn : n < 8200) (hP : P ↔ n < 8) (e : ¬P → Fin 8192) (he : ∀ h, (e h).val = n - 8) :
    d r * (if h : P then 0 else a (e h)) = up a n * d r := by
  rw [mul_comm]
  refine congrArg (· * d r) ?_
  by_cases h : P
  · rw [dif_pos h, up, dif_neg (by have := hP.mp h; omega)]
  · rw [dif_neg h, up, dif_pos ⟨not_lt.mp (mt hP.mpr h), hn⟩]
    exact congrArg a (Fin.ext (he h))

/-- The tap three rows up: its first three rows meet zeros. -/
theorem tap_split : ∑ x : Fin 3, d ⟨x.val, by omega⟩ * 0 + ∑ x : Fin 8189, d ⟨3 + x.val, by omega⟩ * a ⟨x.val, by omega⟩
    = ∑ r : Fin 8192, up a (r.val + 5) * d r := by
  rw [Fin.sum_univ_add (a := 3) (b := 8189) fun r : Fin 8192 => up a (r.val + 5) * d r]
  refine congrArg₂ (· + ·) (Finset.sum_congr rfl fun x _ => ?_) (Finset.sum_congr rfl fun x _ => ?_)
  · change _ = up a (x.val + 5) * d _
    rw [up, dif_neg (by omega), mul_zero, zero_mul]
  · change _ = up a (3 + x.val + 5) * d _
    rw [up, dif_pos ⟨by omega, by omega⟩, mul_comm]
    exact congrArg (· * _) (congrArg a (Fin.ext (by change x.val = 3 + x.val + 5 - 8; omega)))

/-- The convolution leaves the gradients of its activations and of its filter. -/
theorem algebraic : Cert.algebraic_ConvIdeal_ConvRefIdeal := by
  pair_intro
  · run_from Cert.ConvIdeal.Gen.run_main m g
    exact Cert.ConvIdeal.Gen.V_main_arg0 m c
  · run_from Cert.ConvRefIdeal.Value.run m' g'
    all_goals
      obtain rfl : c = 0 := Subsingleton.elim _ _
      obtain ⟨a0, a1, a2⟩ := hagree 0
      first
        | rw [final_5 m 0]
        | rw [final_6 m 0]
      funext j
      idx_vars j
      pointwise
    · have h3 : filt m 0 3 j1 * cot m 0 j0 j1 = filt m 0 3 j1 * down (cot m 0 · j1) j0.val := by rw [down, dif_pos j0.isLt]
      refine (congrArg₂ (· + ·) (congrArg₂ (· + ·) (congrArg₂ (· + ·) h3
        (tap_down (cot m 0 · j1) (filt m 0 2 j1) (n := j0.val + 1) (by omega) _ fun h => by change 3 + j0.val - 2 = _; omega))
        (tap_down (cot m 0 · j1) (filt m 0 1 j1) (n := j0.val + 2) (by omega) _ fun h => by change 3 + j0.val - 1 = _; omega))
        (tap_down (cot m 0 · j1) (filt m 0 0 j1) (n := j0.val + 3) (by omega) _ fun h => by change 3 + j0.val = _; omega)).trans ?_
      unfold dx
      abel
    · obtain h | h | h | h : j0 = 0 ∨ j0 = 1 ∨ j0 = 2 ∨ j0 = 3 := by omega
      · subst h
        rw [dif_neg (by decide), dif_neg (by decide), dif_neg (by decide), dif_pos (by decide), zero_add, zero_add, zero_add]
        exact tap_split (act m 0 · j1) (cot m 0 · j1)
      · subst h
        rw [dif_neg (by decide), dif_neg (by decide), dif_pos (by decide), dif_neg (by decide), zero_add, zero_add, add_zero]
        refine Finset.sum_congr rfl fun x _ => ?_
        exact tap_up (act m 0 · j1) (cot m 0 · j1) x (n := x.val + (5 + 1)) (by omega) (by omega) _ fun h => by
          change 1 + x.val - 3 = _; omega
      · subst h
        rw [dif_neg (by decide), dif_pos (by decide), dif_neg (by decide), dif_neg (by decide), zero_add, add_zero, add_zero]
        refine Finset.sum_congr rfl fun x _ => ?_
        exact tap_up (act m 0 · j1) (cot m 0 · j1) x (n := x.val + (5 + 2)) (by omega) (by omega) _ fun h => by
          change 2 + x.val - 3 = _; omega
      · subst h
        rw [dif_pos (by decide), dif_neg (by decide), dif_neg (by decide), dif_neg (by decide), add_zero, add_zero, add_zero]
        refine Finset.sum_congr rfl fun x _ => ?_
        change _ = up (act m 0 · j1) (x.val + (5 + 3)) * cot m 0 x j1
        rw [up, dif_pos ⟨by omega, by omega⟩, mul_comm]
        exact congrArg (· * _) (congrArg (act m 0 · j1) (Fin.ext (by change x.val = x.val + (5 + 3) - 8; omega)))

end Cert.ConvProof

end
-- ==== Proof.Cum.lean ====
/- The reversed cumulative sum: the array that the kernel leaves, as real numbers. -/
module

public import Idealize.ShloMosaic.Lib.StableHlo.ReadAt
public import Idealize.ShloMosaic.Lib.Pipeline.ReadBack
public import proofs.«01_k».proof.Proof.Reals
public import proofs.«01_k».proof.Proof.Gen.CumIdeal.Value

@[expose] public section

set_option maxRecDepth 16384

noncomputable section

namespace Cert.CumIdeal.Value

open Cert.CumIdeal Cert.CumIdeal.Gen Cert.Reals Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The block of each window at each grid point: the tiles from the last to the first. -/
theorem idx : ∀ t : Fin cfg0.N, win0_0.index t = ![31 - t.val, 0] ∧ win0_1.index t = ![31 - t.val, 0] ∧ win0_2.index t = ![31 - t.val, 0]
    ∧ win0_3.index t = ![31 - t.val, 0] ∧ win0_4.index t = ![31 - t.val, 0] :=
  (by decide +kernel : ∀ t : Fin grid0.N, _)

/-- Row `r` of the block at grid point `p`, as a row of the array. -/
def row (p : Fin cfg0.N) (r : Fin 256) : Fin 8192 :=
  ⟨(31 - p.val) * 256 + r.val, by have := lt_of_lt_of_eq p.isLt (show cfg0.N = 32 from N_0); omega⟩

/-- A row of six numbers beside 122 zeros. -/
def lanes (x : Fin 6 → ℝ) (k : Fin 128) : ℝ := if h : k.val < 6 then x ⟨k.val, h⟩ else 0

variable (x0 x1 x2 x3 : Fin 6 → Fin 8192 → ℝ)

/-- The sum of the four cotangents at row `n`, zero behind the last row. -/
def tot (n : ℕ) (k : Fin 128) : ℝ :=
  if h : n < 8192 then lanes (x0 · ⟨n, h⟩) k + lanes (x1 · ⟨n, h⟩) k + lanes (x2 · ⟨n, h⟩) k + lanes (x3 · ⟨n, h⟩) k else 0

/-- The sum of the rows from `n` on. -/
def tail (n : ℕ) (k : Fin 128) : ℝ := ∑ i ∈ Finset.Ico n 8192, tot x0 x1 x2 x3 i k

/-- The rows from `n` on are a tile's rows from `n` on and the rows behind the tile. -/
theorem tail_tile {a : ℕ} (ha : a + 256 ≤ 8192) (r : Fin 256) (k : Fin 128) :
    tail x0 x1 x2 x3 (a + 256) k + ∑ l : Fin 256, (if r ≤ l then 1 else 0) * tot x0 x1 x2 x3 (a + l.val) k = tail x0 x1 x2 x3 (a + r.val) k := by
  have hs : ∑ l : Fin 256, (if r ≤ l then 1 else 0) * tot x0 x1 x2 x3 (a + l.val) k = ∑ i ∈ Finset.Ico (a + r.val) (a + 256), tot x0 x1 x2 x3 i k := by
    refine (Finset.sum_congr rfl fun l _ => (by simp only [Fin.le_def] :
      (if r ≤ l then 1 else 0) * tot x0 x1 x2 x3 (a + l.val) k = (fun n => (if r.val ≤ n then 1 else 0) * tot x0 x1 x2 x3 (a + n) k) l.val)).trans ?_
    rw [Fin.sum_univ_eq_sum_range (fun n => (if r.val ≤ n then 1 else 0) * tot x0 x1 x2 x3 (a + n) k) 256]
    simp only [ite_mul, one_mul, zero_mul]
    rw [← Finset.sum_filter, show (Finset.range 256).filter (r.val ≤ ·) = Finset.Ico r.val 256 by ext n; simp [and_comm],
      Finset.sum_Ico_add (fun i => tot x0 x1 x2 x3 i k) r.val 256 a, Nat.add_comm r.val, Nat.add_comm 256]
  rw [hs, add_comm]
  exact Finset.sum_Ico_consecutive _ (by omega) ha

/-- The choice of `x` on and above the diagonal is `x` times one there and zero below. -/
theorem select_le (r l : Fin 256) (x : ℝ) :
    Scalar.select (IntOp.cmpi CmpIPredicate.sle (BitVec.ofNat 32 r.val) (BitVec.ofNat 32 l.val)) (x : EReal) 0 = (((if r ≤ l then 1 else 0) * x : ℝ) : EReal) := by
  have h : IntOp.cmpi CmpIPredicate.sle (BitVec.ofNat 32 r.val) (BitVec.ofNat 32 l.val) = BitVec.ofBool (decide (r ≤ l)) := by
    have hr := r.isLt; have hl := l.isLt
    simp only [IntOp.cmpi, BitVec.sle_eq_decide, BitVec.toInt_eq_toNat_cond, BitVec.toNat_ofNat, Fin.le_def]
    congr 2; simp only [eq_iff_iff]; omega
  rw [h]
  by_cases hr : r ≤ l <;> simp [hr, Scalar.select]

theorem select_zero (b : BitVec 1) : Scalar.select b (0 : EReal) 0 = 0 := by simp [Scalar.select]

theorem pad_zero : (FloatOps.sitofp FTy.f32 0#32 : Ideal .f32) = ((0 : ℝ) : EReal) := by simp [FloatOps.sitofp]

theorem pay2_zero (k : Fin 128) : k0_pay2 (F := Ideal) (ix2 0 k) = ((0 : ℝ) : EReal) := by pointwise [k0_pay2]; rfl

section Payloads

variable (X0 X1 X2 X3 : Vec Ideal S256x128 .f32) (C : Vec Ideal S1x128 .f32) (x : Fin 256 → Fin 128 → ℝ) (s : Fin 128 → ℝ)
  (hX : ∀ r k, X0 (ix2 r k) + X1 (ix2 r k) + X2 (ix2 r k) + X3 (ix2 r k) = (x r k : EReal)) (hC : ∀ k, C (ix2 0 k) = (s k : EReal))
include hX hC

theorem pay_out (r : Fin 256) (k : Fin 128) :
    k0_pay4 (F := Ideal) X0 X1 X2 X3 C (ix2 r k) = ((s k + ∑ l, (if r ≤ l then 1 else 0) * x l k : ℝ) : EReal) := by
  pointwise [k0_pay4, k0_pay3]
  simp only [hX, hC, ← EReal.coe_sub, sub_self, EReal.coe_zero, select_le, select_zero, sub_zero, Finset.sum_const_zero, add_zero, sum_coe, ← EReal.coe_add]

theorem pay_carry (k : Fin 128) : k0_pay1 (F := Ideal) (k0_pay3 X0 X1 X2 X3) C (ix2 0 k) = ((s k + ∑ r, x r k : ℝ) : EReal) := by
  pointwise [k0_pay1, k0_pay3]
  simp only [hX, hC, sum_coe, ← EReal.coe_add]

end Payloads

section Steps

variable (p : Fin cfg0.N)

theorem carry_A (h : p.val % 32 = 0) : (outsAt0 m c p.val p.isLt).2 = k0_pay1 (F := Ideal) (k0_pay3 (iblk m c 0 p) (iblk m c 1 p) (iblk m c 2 p) (iblk m c 3 p)) (k0_pay2 (F := Ideal)) := by
  rw [outsAt0_A m c p h]; dsimp only; frame_out

theorem out_A (h : p.val % 32 = 0) : (outsAt0 m c p.val p.isLt).1 = k0_pay4 (F := Ideal) (iblk m c 0 p) (iblk m c 1 p) (iblk m c 2 p) (iblk m c 3 p) (k0_pay2 (F := Ideal)) := by
  rw [outsAt0_A m c p h]; dsimp only; frame_out

theorem carry_B (h : ¬p.val % 32 = 0) : (outsAt0 m c p.val p.isLt).2 = k0_pay1 (F := Ideal) (k0_pay3 (iblk m c 0 p) (iblk m c 1 p) (iblk m c 2 p) (iblk m c 3 p)) ((outsAt0 m c (p.val - 1) (Nat.lt_of_le_of_lt (Nat.sub_le _ _) p.isLt)).2) := by
  rw [outsAt0_B m c p h]; dsimp only; frame_out; rw [read_unread_whole]

theorem out_B (h : ¬p.val % 32 = 0) : (outsAt0 m c p.val p.isLt).1 = k0_pay4 (F := Ideal) (iblk m c 0 p) (iblk m c 1 p) (iblk m c 2 p) (iblk m c 3 p) ((outsAt0 m c (p.val - 1) (Nat.lt_of_le_of_lt (Nat.sub_le _ _) p.isLt)).2) := by
  rw [outsAt0_B m c p h]; dsimp only; frame_out; rw [read_unread_whole]

end Steps

section Blocks

variable (h0 : ∀ j r, (m ((c : Thread nD τ).loc main_arg1) : FVec Ideal S6x1x8192 .f32) (ix3 j 0 r) = (x0 j r : EReal))
  (h1 : ∀ j r, (m ((c : Thread nD τ).loc main_arg2) : FVec Ideal S6x8192x1 .f32) (ix3 j r 0) = (x1 j r : EReal))
  (h2 : ∀ j r, (m ((c : Thread nD τ).loc main_arg3) : FVec Ideal S6x1x8192 .f32) (ix3 j 0 r) = (x2 j r : EReal))
  (h3 : ∀ j r, (m ((c : Thread nD τ).loc main_arg4) : FVec Ideal S6x8192x1 .f32) (ix3 j r 0) = (x3 j r : EReal))

include h0 in
theorem blk_0 (p : Fin cfg0.N) (r : Fin 256) (k : Fin 128) :
    (iblk m c 0 p : FVec Ideal S256x128 .f32) (ix2 r k) = (lanes (x0 · (row p r)) k : EReal) := by
  have e : ((View.whole main_v2).slice (win0_0.rect p)).emb (ix2 r k) = ix2 (row p r) k := by blk_ext [idx p, row]
  blk_simp [iblk]; rw [e]
  unfold V
  after_reads_at
  unfold lanes
  split
  · exact h0 _ _
  · exact pad_zero

include h1 in
theorem blk_1 (p : Fin cfg0.N) (r : Fin 256) (k : Fin 128) :
    (iblk m c 1 p : FVec Ideal S256x128 .f32) (ix2 r k) = (lanes (x1 · (row p r)) k : EReal) := by
  have e : ((View.whole main_v5).slice (win0_1.rect p)).emb (ix2 r k) = ix2 (row p r) k := by blk_ext [idx p, row]
  blk_simp [iblk]; rw [e]
  unfold V
  after_reads_at
  unfold lanes
  split
  · exact h1 _ _
  · exact pad_zero

include h2 in
theorem blk_2 (p : Fin cfg0.N) (r : Fin 256) (k : Fin 128) :
    (iblk m c 2 p : FVec Ideal S256x128 .f32) (ix2 r k) = (lanes (x2 · (row p r)) k : EReal) := by
  have e : ((View.whole main_v8).slice (win0_2.rect p)).emb (ix2 r k) = ix2 (row p r) k := by blk_ext [idx p, row]
  blk_simp [iblk]; rw [e]
  unfold V
  after_reads_at
  unfold lanes
  split
  · exact h2 _ _
  · exact pad_zero

include h3 in
theorem blk_3 (p : Fin cfg0.N) (r : Fin 256) (k : Fin 128) :
    (iblk m c 3 p : FVec Ideal S256x128 .f32) (ix2 r k) = (lanes (x3 · (row p r)) k : EReal) := by
  have e : ((View.whole main_v11).slice (win0_3.rect p)).emb (ix2 r k) = ix2 (row p r) k := by blk_ext [idx p, row]
  blk_simp [iblk]; rw [e]
  unfold V
  after_reads_at
  unfold lanes
  split
  · exact h3 _ _
  · exact pad_zero

include h0 h1 h2 h3

/-- The four blocks at a grid point sum to the tile's rows of the sum of the cotangents. -/
theorem blk_tot (p : Fin cfg0.N) (r : Fin 256) (k : Fin 128) :
    (show EReal from (iblk m c 0 p : FVec Ideal S256x128 .f32) (ix2 r k)) + (show EReal from (iblk m c 1 p : FVec Ideal S256x128 .f32) (ix2 r k))
      + (show EReal from (iblk m c 2 p : FVec Ideal S256x128 .f32) (ix2 r k)) + (show EReal from (iblk m c 3 p : FVec Ideal S256x128 .f32) (ix2 r k))
      = (tot x0 x1 x2 x3 ((31 - p.val) * 256 + r.val) k : EReal) := by
  rw [blk_0 m c x0 h0, blk_1 m c x1 h1, blk_2 m c x2 h2, blk_3 m c x3 h3, ← EReal.coe_add, ← EReal.coe_add, ← EReal.coe_add, tot, dif_pos (show (31 - p.val) * 256 + r.val < 8192 from (row p r).isLt)]
  rfl

/-- What is carried behind grid point `n`: the sum of the rows from the tile's first on. -/
theorem carry : ∀ (n : ℕ) (hn : n < cfg0.N) (k : Fin 128),
    (outsAt0 m c n hn).2 (ix2 0 k) = (tail x0 x1 x2 x3 ((31 - n) * 256) k : EReal)
  | 0, hn, k => by
    have h := tail_tile x0 x1 x2 x3 (a := 31 * 256) (by norm_num) 0 k
    simp only [show tail x0 x1 x2 x3 (31 * 256 + 256) k = 0 by simp [tail], Fin.zero_le, if_true, one_mul, Fin.val_zero, Nat.add_zero] at h
    refine (congrFun (carry_A m c ⟨0, hn⟩ rfl) (ix2 0 k)).trans ((pay_carry (iblk m c 0 ⟨0, hn⟩) (iblk m c 1 ⟨0, hn⟩) (iblk m c 2 ⟨0, hn⟩) (iblk m c 3 ⟨0, hn⟩) (k0_pay2 (F := Ideal)) _ (fun _ => 0) (blk_tot m c x0 x1 x2 x3 h0 h1 h2 h3 ⟨0, hn⟩) pay2_zero k).trans (congrArg Real.toEReal h))
  | n + 1, hn, k => by
    have hN := lt_of_lt_of_eq hn (show cfg0.N = 32 from N_0)
    have h := tail_tile x0 x1 x2 x3 (a := (31 - (n + 1)) * 256) (by omega) 0 k
    rw [show (31 - (n + 1)) * 256 + 256 = (31 - n) * 256 by omega] at h
    simp only [Fin.zero_le, if_true, one_mul, Fin.val_zero, Nat.add_zero] at h
    refine (congrFun (carry_B m c ⟨n + 1, hn⟩ (show ¬(n + 1) % 32 = 0 by omega)) (ix2 0 k)).trans ((pay_carry (iblk m c 0 ⟨n + 1, hn⟩) (iblk m c 1 ⟨n + 1, hn⟩) (iblk m c 2 ⟨n + 1, hn⟩) (iblk m c 3 ⟨n + 1, hn⟩) (outsAt0 m c n (by omega)).2 _ _ (blk_tot m c x0 x1 x2 x3 h0 h1 h2 h3 ⟨n + 1, hn⟩) (carry n (by omega)) k).trans (congrArg Real.toEReal h))

/-- The block that grid point `p` leaves: at each row the sum of the rows from it on. -/
theorem out (p : Fin cfg0.N) (r : Fin 256) (k : Fin 128) :
    (outsAt0 m c p.val p.isLt).1 (ix2 r k) = (tail x0 x1 x2 x3 ((31 - p.val) * 256 + r.val) k : EReal) := by
  have hN := lt_of_lt_of_eq p.isLt (show cfg0.N = 32 from N_0)
  have h := tail_tile x0 x1 x2 x3 (a := (31 - p.val) * 256) (by omega) r k
  by_cases hp : p.val % 32 = 0
  · rw [out_A m c p hp]
    refine (pay_out (iblk m c 0 p) (iblk m c 1 p) (iblk m c 2 p) (iblk m c 3 p) (k0_pay2 (F := Ideal)) _ (fun _ => 0) (blk_tot m c x0 x1 x2 x3 h0 h1 h2 h3 p) pay2_zero r k).trans ?_
    rw [← h, show (31 - p.val) * 256 + 256 = 8192 by omega]; simp [tail]
  · rw [out_B m c p hp]
    refine (pay_out (iblk m c 0 p) (iblk m c 1 p) (iblk m c 2 p) (iblk m c 3 p) (outsAt0 m c (p.val - 1) (by omega)).2 _ _ (blk_tot m c x0 x1 x2 x3 h0 h1 h2 h3 p) (carry m c x0 x1 x2 x3 h0 h1 h2 h3 (p.val - 1) (by omega)) r k).trans ?_
    rw [← h, show (31 - p.val) * 256 + 256 = (31 - (p.val - 1)) * 256 by omega]

/-- The array of the kernel: at each row the sum of the rows from it on. -/
theorem final_4 : (dats m 0 c).arrAt 4 (cfgs 0).N = fun i => (tail x0 x1 x2 x3 (i 0).val (i 1) : EReal) := by
  refine (dats m 0 c).arrAt_eq_of_covers 4 _ (by decide +kernel) fun p hf y => ?_
  have e : ((cfg0.win 4).blk p).view.emb y = ix2 (row p (y 0)) (y 1) := by blk_ext [idx p, row]
  rw [e]
  blk_simp
  rw [after0_4]
  idx_vars y
  exact out m c x0 x1 x2 x3 h0 h1 h2 h3 p _ _

end Blocks

end Cert.CumIdeal.Value

end
-- ==== Proof.CumClaim.lean ====
/- The gradient of the cumulative gate: the kernel's array is the reference's. -/
module

public import proofs.«01_k».proof.Defs
public import Idealize.ShloMosaic.Lib.Claim
public import Idealize.ShloMosaic.Lib.Routing.OpsOne
public import proofs.«01_k».proof.Proof.Cum
public import proofs.«01_k».proof.Proof.Gen.CumRefIdeal.Run

@[expose] public section

set_option maxRecDepth 16384

noncomputable section

namespace Cert.CumProof

open Cert.Reals Idealize.ShloMosaic Idealize.ShloMosaic.TcCoe Idealize.SL.Sem
open Cert.CumIdeal.Value (tot tail lanes final_4)
open scoped BigOperators

theorem foldl_sum {ι : Type} (g : ι → EReal) (l : List ι) (a : EReal) : l.foldl (fun r n => r + g n) a = a + (l.map g).sum := by
  induction l generalizing a with
  | nil => simp
  | cons b l ih => rw [List.foldl_cons, ih, List.map_cons, List.sum_cons, add_assoc]

/-- A sum over the windows that begin at each row and run past the last row is the sum of the rows from there on. -/
theorem window_sum {N C M : ℕ} (x : FVec Ideal ⟨2, ![N, C]⟩ .f32) (init : FVec Ideal ⟨0, ![]⟩ .f32) (h0 : ∀ i, init i = 0)
    (h : (⟨2, ![N, C]⟩ : Shape).ReduceWindows (![N, 1] : Fin 2 → Nat) ![1, 1] ![0, 0] ![M, 0] ⟨2, ![N, C]⟩) (hu : 0 < (⟨0, ![]⟩ : Shape).numel) (j : Fin N) (c : Fin C) :
    Host.reduceWindowAdd ![N, 1] ![1, 1] ![0, 0] ![M, 0] x init h hu (ix2 j c)
      = ∑ n : Fin N, if hn : j.val + n.val < N then x (ix2 ⟨j.val + n.val, hn⟩ c) else 0 := by
  have hw (n : Fin (Routing.shape2 N 1).numel) : ((Routing.shape2 N 1).rowMajor.symm n 0).val = n.val ∧ ((Routing.shape2 N 1).rowMajor.symm n 1).val = 0 := by
    rw [Routing.symm_col]; exact ⟨rfl, rfl⟩
  refine (foldl_sum _ _ _).trans ?_
  rw [h0, zero_add, ← Fin.sum_univ_def]
  refine Fintype.sum_equiv (finCongr (Routing.numel_col N)) _ _ fun n => ?_
  have h1 : (∀ a : Fin 2, (![0, 0] : Fin 2 → ℕ) a ≤ ((ix2 j c : (⟨2, ![N, C]⟩ : Shape).Idx) a).val * (![1, 1] : Fin 2 → ℕ) a + ((Routing.shape2 N 1).rowMajor.symm n a).val
      ∧ ((ix2 j c : (⟨2, ![N, C]⟩ : Shape).Idx) a).val * (![1, 1] : Fin 2 → ℕ) a + ((Routing.shape2 N 1).rowMajor.symm n a).val - (![0, 0] : Fin 2 → ℕ) a < (![N, C] : Fin 2 → ℕ) a)
      ↔ j.val + n.val < N := by
    rw [Fin.forall_fin_two, (hw n).1, (hw n).2]
    have := c.isLt
    show (0 ≤ j.val * 1 + n.val ∧ j.val * 1 + n.val - 0 < N) ∧ (0 ≤ c.val * 1 + 0 ∧ c.val * 1 + 0 - 0 < C) ↔ _
    omega
  by_cases hn : j.val + n.val < N
  · rw [dif_pos (show j.val + (finCongr (Routing.numel_col N) n).val < N from hn)]
    refine (dif_pos (h1.mpr hn)).trans (congrArg x (funext fun a => Fin.ext ?_))
    match a with
    | ⟨0, _⟩ => show j.val * 1 + ((Routing.shape2 N 1).rowMajor.symm n 0).val - 0 = j.val + n.val; rw [(hw n).1]; omega
    | ⟨1, _⟩ => show c.val * 1 + ((Routing.shape2 N 1).rowMajor.symm n 1).val - 0 = c.val; rw [(hw n).2]; omega
  · rw [dif_neg (show ¬j.val + (finCongr (Routing.numel_col N) n).val < N from hn)]
    exact dif_neg fun hh => hn (h1.mp hh)

/-- The precondition says that every entry of the four cotangents is a real number. -/
theorem reals [Cert.Pre_finite_cumsum.Facts] (f : FVec Ideal ⟨2, ![8192, 6]⟩ .f32) (a c : FVec Ideal ⟨3, ![6, 1, 8192]⟩ .f32) (b d : FVec Ideal ⟨3, ![6, 8192, 1]⟩ .f32)
    (hf : Cert.Pre_finite_cumsum.fn (F := Ideal) f a b c d = fun _ => 1#1) :
    (∀ i, ∃ r : ℝ, a i = r) ∧ (∀ i, ∃ r : ℝ, b i = r) ∧ (∀ i, ∃ r : ℝ, c i = r) ∧ ∀ i, ∃ r : ℝ, d i = r := by
  have e := congrFun hf ix0
  unfold Cert.Pre_finite_cumsum.fn Cert.Pre_finite_cumsum.fn_part1 at e
  dsimp only at e
  simp only [andi, IntOp.andi_eq_one] at e
  exact ⟨reals_of_all a _ _ _ _ e.1.1.1, reals_of_all b _ _ _ _ e.1.1.2, reals_of_all c _ _ _ _ e.1.2, reals_of_all d _ _ _ _ e.2⟩

section Rows

variable (x0 x1 x2 x3 : Fin 6 → Fin 8192 → ℝ)

/-- The rows from `n` on, counted from `n`. -/
theorem tail_eq (n : ℕ) (k : Fin 128) : tail x0 x1 x2 x3 n k = ∑ l : Fin 8192, tot x0 x1 x2 x3 (n + l.val) k := by
  rw [Fin.sum_univ_eq_sum_range (fun l => tot x0 x1 x2 x3 (n + l) k) 8192]
  have h := Finset.sum_Ico_eq_sum_range (fun i => tot x0 x1 x2 x3 i k) n (n + 8192)
  rw [Nat.add_sub_cancel_left] at h
  rw [← h]
  refine Finset.sum_subset (Finset.Ico_subset_Ico le_rfl (by omega)) fun i hi hi' => dif_neg ?_
  rw [Finset.mem_Ico] at hi hi'
  omega

/-- Behind the six lanes there is nothing to sum. -/
theorem tail_pad (n : ℕ) {k : Fin 128} (hk : ¬k.val < 6) : tail x0 x1 x2 x3 n k = 0 :=
  Finset.sum_eq_zero fun i _ => by simp [tot, lanes, hk]

end Rows

theorem algebraic [Cert.Pre_finite_cumsum.Facts] : Cert.algebraic_CumIdeal_CumRefIdeal_pre_finite_cumsum := by
  pair_intro
  · run_from Cert.CumIdeal.Gen.run_main m g
    · exact Cert.CumIdeal.Gen.V_main_arg0 m c
    · exact Cert.CumIdeal.Gen.V_main_arg1 m c
    · exact Cert.CumIdeal.Gen.V_main_arg2 m c
    · exact Cert.CumIdeal.Gen.V_main_arg3 m c
    · exact Cert.CumIdeal.Gen.V_main_arg4 m c
  · obtain ⟨h0, h1, h2, h3⟩ := reals _ _ _ _ _ (hpre (0 : Dev _))
    choose x0 h0 using h0
    choose x1 h1 using h1
    choose x2 h2 using h2
    choose x3 h3 using h3
    run_from Cert.CumRefIdeal.Value.run m' g'
    obtain rfl : c = 0 := Subsingleton.elim _ _
    rw [final_4 m 0 _ _ _ _ (fun j r => h0 (ix3 j 0 r)) (fun j r => h1 (ix3 j r 0)) (fun j r => h2 (ix3 j 0 r)) fun j r => h3 (ix3 j r 0)]
    funext j
    idx_vars j
    pointwise
    split
    · next hk =>
      rw [window_sum _ _ (fun i => by pointwise)]
      refine (Finset.sum_congr rfl fun n _ => ?_).trans ((sum_coe _ _).trans (congrArg Real.toEReal (tail_eq _ _ _ _ _ _).symm))
      by_cases hn : j0.val + n.val < 8192
      · rw [dif_pos hn, tot, dif_pos hn]
        pointwise
        simp only [lanes, hk, dif_pos, h0, h1, h2, h3, Fin.sum_univ_one, zero_add, ← EReal.coe_add, sum_coe]
        refine congrArg Real.toEReal ?_
        ring
      · rw [dif_neg hn, tot, dif_neg hn]; rfl
    · next hk =>
      rw [tail_pad _ _ _ _ _ hk]; exact Cert.CumIdeal.Value.pad_zero

end Cert.CumProof

end
-- ==== Proof.FfnPay.lean ====
/- The SwiGLU half step's gradients: what the two kernels' payloads compute, as real numbers. -/
module

public import proofs.«01_k».proof.Proof.Reals
public import proofs.«01_k».proof.Proof.Gen.FfnIdeal.Frame

@[expose] public section

set_option maxRecDepth 16384

noncomputable section

namespace Cert.FfnIdeal.Value

open Cert.FfnIdeal Cert.FfnIdeal.Gen Cert.Reals Idealize.ShloMosaic Idealize.ShloMosaic.TcCoe Idealize.SL.Sem
open scoped BigOperators

/-- A normalised row. -/
def nrm (x g : Fin 1024 → ℝ) (k : Fin 1024) : ℝ := x k * rinv x * g k

/-- The logistic function. -/
def sg (a : ℝ) : ℝ := 1 / (1 + Real.exp (-a))

/-- The gated activation. -/
def act (a u : ℝ) : ℝ := a * sg a * u

/-- The cotangent of the gate's pre-activation, from the cotangent `z` of the gated activation. -/
def dgt (z a u : ℝ) : ℝ := z * u * (sg a * (1 + a * (1 - sg a)))

/-- The cotangent of the linear half, from the cotangent `z` of the gated activation. -/
def dup (z a : ℝ) : ℝ := z * (a * sg a)

/-- The cotangent of the gated activation: half the cotangent's row against a row of the second matrix. -/
def da (o d : Fin 1024 → ℝ) : ℝ := ∑ i, 1 / 2 * o i * d i

/-- The gradient of a row through its normalisation, from the cotangent `y` of the normalised row, beside the cotangent `o`
    that reaches it directly. -/
def dnrm (x g y o : Fin 1024 → ℝ) (k : Fin 1024) : ℝ :=
  rinv x * (y k * g k) - x k * (rinv x * rinv x * rinv x * ((∑ l, x l * (y l * g l)) / 1024)) + o k

theorem exp_pos' (a : ℝ) : 1 + Real.exp (-a) ≠ 0 := (add_pos one_pos (Real.exp_pos _)).ne'

section First

variable (X O : FVec Ideal S512x1024 .f32) (G : FVec Ideal S1x1024 .f32) (A U : FVec Ideal S1x512x704 .bf16)
  (P Q : FVec Ideal S1x1x1024x704 .f32) (D : FVec Ideal S1x704x1024 .f32)
  (x o : Fin 512 → Fin 1024 → ℝ) (g : Fin 1024 → ℝ) (a u : Fin 512 → Fin 704 → ℝ) (p q : Fin 1024 → Fin 704 → ℝ)
  (d : Fin 704 → Fin 1024 → ℝ)

theorem pay_n (hX : ∀ r k, X (ix2 r k) = (x r k : EReal)) (hG : ∀ k, G (ix2 0 k) = (g k : EReal)) (r : Fin 512) (k : Fin 1024) :
    k0_pay7 (F := Ideal) X G (ix2 r k) = (nrm (x r) g k : EReal) := by
  pointwise [k0_pay7]
  simp only [hX, hG, ofBits_1024, ofBits_eps, ← EReal.coe_mul, ← EReal.coe_add, sum_coe,
    div_coe (show (1024 : ℝ) ≠ 0 by norm_num), rsqrt_coe (mean_sq_pos _)]
  rfl

theorem pay_gate (hA : ∀ r j, A (ix3 0 r j) = (a r j : EReal)) (r : Fin 512) (j : Fin 704) :
    k0_pay11 (F := Ideal) A (ix2 r j) = (a r j : EReal) := by
  pointwise [k0_pay11]; exact hA r j

theorem pay_up (hU : ∀ r j, U (ix3 0 r j) = (u r j : EReal)) (r : Fin 512) (j : Fin 704) :
    k0_pay12 (F := Ideal) U (ix2 r j) = (u r j : EReal) := by
  pointwise [k0_pay12]; exact hU r j

theorem pay_wg (hP : ∀ k j, P (ix4 0 0 k j) = (p k j : EReal)) (k : Fin 1024) (j : Fin 704) :
    k0_pay8 (F := Ideal) P (ix2 k j) = (p k j : EReal) := by
  pointwise [k0_pay8]; exact hP k j

theorem pay_wu (hQ : ∀ k j, Q (ix4 0 0 k j) = (q k j : EReal)) (k : Fin 1024) (j : Fin 704) :
    k0_pay9 (F := Ideal) Q (ix2 k j) = (q k j : EReal) := by
  pointwise [k0_pay9]; exact hQ k j

theorem pay_wd (hD : ∀ j k, D (ix3 0 j k) = (d j k : EReal)) (j : Fin 704) (k : Fin 1024) :
    k0_pay10 (F := Ideal) D (ix2 j k) = (d j k : EReal) := by
  pointwise [k0_pay10]; exact hD j k

theorem pay_sg (hA : ∀ r j, A (ix3 0 r j) = (a r j : EReal)) (r : Fin 512) (j : Fin 704) :
    k0_pay13 (F := Ideal) (k0_pay11 A) (ix2 r j) = (sg (a r j) : EReal) := by
  pointwise [k0_pay13]
  simp only [pay_gate A a hA, ofBits_one, ← EReal.coe_one, zero_sub, ← EReal.coe_neg, Ideal.exp_coe, ← EReal.coe_add, div_coe (exp_pos' _)]
  rfl

theorem pay_silu (hA : ∀ r j, A (ix3 0 r j) = (a r j : EReal)) (r : Fin 512) (j : Fin 704) :
    k0_pay14 (F := Ideal) (k0_pay11 A) (ix2 r j) = ((a r j * sg (a r j) : ℝ) : EReal) := by
  pointwise [k0_pay14]
  simp only [pay_gate A a hA, pay_sg A a hA, ← EReal.coe_mul]

theorem pay_dy (hO : ∀ r k, O (ix2 r k) = (o r k : EReal)) (r : Fin 512) (k : Fin 1024) :
    k0_pay15 (F := Ideal) O (ix2 r k) = ((1 / 2 * o r k : ℝ) : EReal) := by
  pointwise [k0_pay15]
  simp only [hO, ofBits_half, ← EReal.coe_mul]

theorem pay_da (hD : ∀ j k, D (ix3 0 j k) = (d j k : EReal)) (hO : ∀ r k, O (ix2 r k) = (o r k : EReal)) (r : Fin 512) (j : Fin 704) :
    k0_pay16 (F := Ideal) (k0_pay10 D) O (ix2 r j) = (da (o r) (d j) : EReal) := by
  pointwise [k0_pay16]
  simp only [pay_dy O o hO, pay_wd D d hD, ← EReal.coe_mul, sum_coe]
  rfl

theorem pay_dup (hD : ∀ j k, D (ix3 0 j k) = (d j k : EReal)) (hA : ∀ r j, A (ix3 0 r j) = (a r j : EReal))
    (hO : ∀ r k, O (ix2 r k) = (o r k : EReal)) (r : Fin 512) (j : Fin 704) :
    k0_pay17 (F := Ideal) (k0_pay10 D) (k0_pay11 A) O (ix2 r j) = (dup (da (o r) (d j)) (a r j) : EReal) := by
  pointwise [k0_pay17]
  simp only [pay_da O D o d hD hO, pay_silu A a hA, ← EReal.coe_mul]
  rfl

theorem pay_dgt (hD : ∀ j k, D (ix3 0 j k) = (d j k : EReal)) (hA : ∀ r j, A (ix3 0 r j) = (a r j : EReal))
    (hU : ∀ r j, U (ix3 0 r j) = (u r j : EReal)) (hO : ∀ r k, O (ix2 r k) = (o r k : EReal)) (r : Fin 512) (j : Fin 704) :
    k0_pay18 (F := Ideal) (k0_pay10 D) (k0_pay11 A) (k0_pay12 U) O (ix2 r j) = (dgt (da (o r) (d j)) (a r j) (u r j) : EReal) := by
  pointwise [k0_pay18]
  simp only [pay_da O D o d hD hO, pay_sg A a hA, pay_gate A a hA, pay_up U u hU, ofBits_one, ← EReal.coe_mul, ← EReal.coe_add, ← EReal.coe_sub]
  rfl

/-- A block of the second matrix's gradient: what was there, and this block's rows' share. -/
theorem pay_dwd (hA : ∀ r j, A (ix3 0 r j) = (a r j : EReal)) (hU : ∀ r j, U (ix3 0 r j) = (u r j : EReal))
    (hO : ∀ r k, O (ix2 r k) = (o r k : EReal)) (E : FVec Ideal S704x1024 .f32) (j : Fin 704) (k : Fin 1024) :
    k0_pay19 (F := Ideal) (k0_pay11 A) (k0_pay12 U) O E (ix2 j k)
      = E (ix2 j k) + ((∑ r, act (a r j) (u r j) * (1 / 2 * o r k) : ℝ) : EReal) := by
  pointwise [k0_pay19]
  simp only [pay_silu A a hA, pay_up U u hU, pay_dy O o hO, ← EReal.coe_mul, sum_coe]
  rfl

/-- A block of the gate matrix's gradient. -/
theorem pay_dwg (hX : ∀ r k, X (ix2 r k) = (x r k : EReal)) (hG : ∀ k, G (ix2 0 k) = (g k : EReal))
    (hD : ∀ j k, D (ix3 0 j k) = (d j k : EReal)) (hA : ∀ r j, A (ix3 0 r j) = (a r j : EReal))
    (hU : ∀ r j, U (ix3 0 r j) = (u r j : EReal)) (hO : ∀ r k, O (ix2 r k) = (o r k : EReal))
    (E : FVec Ideal S1x1024x704 .f32) (k : Fin 1024) (j : Fin 704) :
    k0_pay1 (F := Ideal) (k0_pay20 (k0_pay7 X G) (k0_pay10 D) (k0_pay11 A) (k0_pay12 U) O E) (ix3 0 k j)
      = E (ix3 0 k j) + ((∑ r, nrm (x r) g k * dgt (da (o r) (d j)) (a r j) (u r j) : ℝ) : EReal) := by
  pointwise [k0_pay1, k0_pay20]
  simp only [pay_n X G x g hX hG, pay_dgt O A U D o a u d hD hA hU hO, ← EReal.coe_mul, sum_coe]

/-- A block of the linear half's matrix's gradient. -/
theorem pay_dwu (hX : ∀ r k, X (ix2 r k) = (x r k : EReal)) (hG : ∀ k, G (ix2 0 k) = (g k : EReal))
    (hD : ∀ j k, D (ix3 0 j k) = (d j k : EReal)) (hA : ∀ r j, A (ix3 0 r j) = (a r j : EReal))
    (hO : ∀ r k, O (ix2 r k) = (o r k : EReal))
    (E : FVec Ideal S1x1024x704 .f32) (k : Fin 1024) (j : Fin 704) :
    k0_pay2 (F := Ideal) (k0_pay7 X G) (k0_pay17 (k0_pay10 D) (k0_pay11 A) O) E (ix3 0 k j)
      = E (ix3 0 k j) + ((∑ r, nrm (x r) g k * dup (da (o r) (d j)) (a r j) : ℝ) : EReal) := by
  pointwise [k0_pay2]
  simp only [pay_n X G x g hX hG, pay_dup O A D o a d hD hA hO, ← EReal.coe_mul, sum_coe]

/-- A block of the normalised rows' cotangent: this block of hidden columns' share. -/
theorem pay_dn (hP : ∀ k j, P (ix4 0 0 k j) = (p k j : EReal)) (hQ : ∀ k j, Q (ix4 0 0 k j) = (q k j : EReal))
    (hD : ∀ j k, D (ix3 0 j k) = (d j k : EReal)) (hA : ∀ r j, A (ix3 0 r j) = (a r j : EReal))
    (hU : ∀ r j, U (ix3 0 r j) = (u r j : EReal)) (hO : ∀ r k, O (ix2 r k) = (o r k : EReal)) (r : Fin 512) (k : Fin 1024) :
    k0_pay3 (F := Ideal) (k0_pay8 P) (k0_pay9 Q) (k0_pay17 (k0_pay10 D) (k0_pay11 A) O)
        (k0_pay18 (k0_pay10 D) (k0_pay11 A) (k0_pay12 U) O) (ix3 0 r k)
      = ((∑ j, dgt (da (o r) (d j)) (a r j) (u r j) * p k j + ∑ j, dup (da (o r) (d j)) (a r j) * q k j : ℝ) : EReal) := by
  pointwise [k0_pay3]
  simp only [pay_dgt O A U D o a u d hD hA hU hO, pay_dup O A D o a d hD hA hO, pay_wg P p hP, pay_wu Q q hQ, ← EReal.coe_mul, sum_coe,
    ← EReal.coe_add]

end First

section Second

variable (X O : FVec Ideal S512x1024 .f32) (G : FVec Ideal S1x1024 .f32) (Y0 Y1 Y2 Y3 : FVec Ideal S1x512x1024 .bf16)
  (x o : Fin 512 → Fin 1024 → ℝ) (g : Fin 1024 → ℝ) (y : Fin 4 → Fin 512 → Fin 1024 → ℝ)
  (hX : ∀ r k, X (ix2 r k) = (x r k : EReal)) (hG : ∀ k, G (ix2 0 k) = (g k : EReal))
  (h0 : ∀ r k, Y0 (ix3 0 r k) = (y 0 r k : EReal)) (h1 : ∀ r k, Y1 (ix3 0 r k) = (y 1 r k : EReal))
  (h2 : ∀ r k, Y2 (ix3 0 r k) = (y 2 r k : EReal)) (h3 : ∀ r k, Y3 (ix3 0 r k) = (y 3 r k : EReal))
include hX h0 h1 h2 h3

/-- A block of the gain's gradient. -/
theorem pay_dgain (E : FVec Ideal S1x1024 .f32) (k : Fin 1024) :
    k1_pay3 (F := Ideal) (k1_pay8 X Y0 Y1 Y2 Y3) E (ix2 0 k)
      = E (ix2 0 k) + ((∑ r, x r k * rinv (x r) * ∑ s, y s r k : ℝ) : EReal) := by
  pointwise [k1_pay3, k1_pay8, k1_pay4, k1_pay5, k1_pay6]
  simp only [hX, h0, h1, h2, h3, ofBits_1024, ofBits_eps, ← EReal.coe_mul, ← EReal.coe_add, sum_coe,
    div_coe (show (1024 : ℝ) ≠ 0 by norm_num), rsqrt_coe (mean_sq_pos _), Fin.sum_univ_four]
  rfl

include hG in
/-- A block of the rows' gradient. -/
theorem pay_dh (hO : ∀ r k, O (ix2 r k) = (o r k : EReal)) (r : Fin 512) (k : Fin 1024) :
    k1_pay1 (F := Ideal) X (k1_pay6 X) (k1_pay7 X) (k1_pay9 G Y0 Y1 Y2 Y3) (k1_pay10 X G Y0 Y1 Y2 Y3) O (ix2 r k)
      = (dnrm (x r) g (fun l => ∑ s, y s r l) (o r) k : EReal) := by
  pointwise [k1_pay1, k1_pay4, k1_pay5, k1_pay6, k1_pay7, k1_pay9, k1_pay10]
  simp only [hX, hG, h0, h1, h2, h3, hO, ofBits_1024, ofBits_eps, ofBits_neg_half, ← EReal.coe_mul, ← EReal.coe_add, sum_coe,
    div_coe (show (1024 : ℝ) ≠ 0 by norm_num), rsqrt_coe (mean_sq_pos _), div_coe (mean_sq_pos _).ne']
  refine congrArg Real.toEReal ?_
  rw [Fin.sum_univ_one, inv_sqrt_div (mean_sq_pos _)]
  simp only [dnrm, rinv, Fin.sum_univ_four]
  ring

end Second

end Cert.FfnIdeal.Value

end
-- ==== Proof.FfnFirst.lean ====
/- The SwiGLU half step's gradients: the arrays that the first kernel leaves, as real numbers. -/
module

public import proofs.«01_k».proof.Proof.FfnPay

@[expose] public section

set_option maxRecDepth 16384

noncomputable section

namespace Cert.FfnIdeal.Value

open Cert.FfnIdeal Cert.FfnIdeal.Gen Cert.Reals Idealize.ShloMosaic Idealize.ShloMosaic.TcCoe Idealize.SL.Sem
open Idealize.ShloMosaic.Pipeline (Dat)
open scoped BigOperators

/-- The block of each window of the first kernel at each grid point. -/
theorem idx0 : ∀ t : Fin cfg0.N, win0_0.index t = ![t.val % 16, 0] ∧ win0_1.index t = ![t.val % 16, 0] ∧ win0_2.index t = ![0, 0]
    ∧ win0_3.index t = ![t.val / 16, t.val % 16, 0] ∧ win0_4.index t = ![t.val / 16, t.val % 16, 0]
    ∧ win0_5.index t = ![t.val / 16, 0, 0, 0] ∧ win0_6.index t = ![t.val / 16 + 4, 0, 0, 0] ∧ win0_7.index t = ![0, t.val / 16, 0]
    ∧ win0_8.index t = ![t.val / 16, t.val % 16, 0] ∧ win0_9.index t = ![t.val / 16, 0, 0] ∧ win0_10.index t = ![t.val / 16, 0, 0]
    ∧ win0_11.index t = ![t.val / 16, 0] :=
  (by decide +kernel : ∀ t : Fin grid0.N, _)

/-- Row `r` of the block at grid point `p`, as a row of the array. -/
def row0 (p : Fin cfg0.N) (r : Fin 512) : Fin 8192 := ⟨p.val % 16 * 512 + r.val, by have := Nat.mod_lt p.val (show 0 < 16 by norm_num); omega⟩

/-- The quarter of the hidden columns that grid point `p` works on. -/
def quart (p : Fin cfg0.N) : Fin 4 := ⟨p.val / 16, by have := lt_of_lt_of_eq p.isLt (show cfg0.N = 64 from N_0); omega⟩

/-- Column `j` of quarter `s`, as a hidden column. -/
def hid (s : Fin 4) (j : Fin 704) : Fin 2816 := ⟨s.val * 704 + j.val, by omega⟩

/-- Quarter `s` among the eight blocks of the first matrix: the gate's half, -/
def lo (s : Fin 4) : Fin 8 := ⟨s.val, by omega⟩

/-- and the linear half. -/
def hi (s : Fin 4) : Fin 8 := ⟨s.val + 4, by omega⟩

section Arrays

variable (V : (c : Dev nD) → (b : Ref sig .tc) → Buf (Elt Ideal) ((c : Thread nD τ).loc b)) (c : Dev nD)
  (x o : Fin 8192 → Fin 1024 → ℝ) (g : Fin 1024 → ℝ) (a u : Fin 8192 → Fin 2816 → ℝ) (wg wu : Fin 1024 → Fin 2816 → ℝ)
  (d : Fin 2816 → Fin 1024 → ℝ)
  (hx : ∀ r k, (V c main_arg0 : FVec Ideal S8192x1024 .f32) (ix2 r k) = (x r k : EReal))
  (ho : ∀ r k, (V c main_arg4 : FVec Ideal S8192x1024 .f32) (ix2 r k) = (o r k : EReal))
  (hg : ∀ k, (V c main_v23 : FVec Ideal S1x1024 .f32) (ix2 0 k) = (g k : EReal))
  (ha : ∀ s r j, (V c main_v21 : FVec Ideal S4x8192x704 .bf16) (ix3 s r j) = (a r (hid s j) : EReal))
  (hu : ∀ s r j, (V c main_v22 : FVec Ideal S4x8192x704 .bf16) (ix3 s r j) = (u r (hid s j) : EReal))
  (hwg : ∀ s k j, (V c main_v2 : FVec Ideal S8x1x1024x704 .f32) (ix4 (lo s) 0 k j) = (wg k (hid s j) : EReal))
  (hwu : ∀ s k j, (V c main_v2 : FVec Ideal S8x1x1024x704 .f32) (ix4 (hi s) 0 k j) = (wu k (hid s j) : EReal))
  (hd : ∀ j k, (V c main_v3 : FVec Ideal S1x2816x1024 .f32) (ix3 0 j k) = (d j k : EReal))

/-- Hidden column `j`'s cotangents in row `r`. -/
def dgtR (o : Fin 8192 → Fin 1024 → ℝ) (a u : Fin 8192 → Fin 2816 → ℝ) (d : Fin 2816 → Fin 1024 → ℝ) (r : Fin 8192) (j : Fin 2816) : ℝ :=
  dgt (da (o r) (d j)) (a r j) (u r j)

def dupR (o : Fin 8192 → Fin 1024 → ℝ) (a : Fin 8192 → Fin 2816 → ℝ) (d : Fin 2816 → Fin 1024 → ℝ) (r : Fin 8192) (j : Fin 2816) : ℝ :=
  dup (da (o r) (d j)) (a r j)

/-- A quarter's share of the cotangent of the normalised rows. -/
def dnR (o : Fin 8192 → Fin 1024 → ℝ) (a u : Fin 8192 → Fin 2816 → ℝ) (wg wu : Fin 1024 → Fin 2816 → ℝ) (d : Fin 2816 → Fin 1024 → ℝ)
    (s : Fin 4) (r : Fin 8192) (k : Fin 1024) : ℝ :=
  ∑ j, dgtR o a u d r (hid s j) * wg k (hid s j) + ∑ j, dupR o a d r (hid s j) * wu k (hid s j)

include hx in
theorem blk0_x (p : Fin cfg0.N) (r : Fin 512) (k : Fin 1024) :
    (iblk0 V c 0 p : FVec Ideal S512x1024 .f32) (ix2 r k) = (x (row0 p r) k : EReal) := by
  rw [← hx]; blk_ext [iblk0, idx0 p, row0]

include ho in
theorem blk0_o (p : Fin cfg0.N) (r : Fin 512) (k : Fin 1024) :
    (iblk0 V c 1 p : FVec Ideal S512x1024 .f32) (ix2 r k) = (o (row0 p r) k : EReal) := by
  rw [← ho]; blk_ext [iblk0, idx0 p, row0]

include hg in
theorem blk0_g (p : Fin cfg0.N) (k : Fin 1024) : (iblk0 V c 2 p : FVec Ideal S1x1024 .f32) (ix2 0 k) = (g k : EReal) := by
  rw [← hg]; blk_ext [iblk0, idx0 p]

include ha in
theorem blk0_a (p : Fin cfg0.N) (r : Fin 512) (j : Fin 704) :
    (iblk0 V c 3 p : FVec Ideal S1x512x704 .bf16) (ix3 0 r j) = (a (row0 p r) (hid (quart p) j) : EReal) := by
  rw [← ha]; blk_ext [iblk0, idx0 p, row0, quart]

include hu in
theorem blk0_u (p : Fin cfg0.N) (r : Fin 512) (j : Fin 704) :
    (iblk0 V c 4 p : FVec Ideal S1x512x704 .bf16) (ix3 0 r j) = (u (row0 p r) (hid (quart p) j) : EReal) := by
  rw [← hu]; blk_ext [iblk0, idx0 p, row0, quart]

include hwg in
theorem blk0_wg (p : Fin cfg0.N) (k : Fin 1024) (j : Fin 704) :
    (iblk0 V c 5 p : FVec Ideal S1x1x1024x704 .f32) (ix4 0 0 k j) = (wg k (hid (quart p) j) : EReal) := by
  rw [← hwg]; blk_ext [iblk0, idx0 p, quart, lo]

include hwu in
theorem blk0_wu (p : Fin cfg0.N) (k : Fin 1024) (j : Fin 704) :
    (iblk0 V c 6 p : FVec Ideal S1x1x1024x704 .f32) (ix4 0 0 k j) = (wu k (hid (quart p) j) : EReal) := by
  rw [← hwu]; blk_ext [iblk0, idx0 p, quart, hi]

include hd in
theorem blk0_d (p : Fin cfg0.N) (j : Fin 704) (k : Fin 1024) :
    (iblk0 V c 7 p : FVec Ideal S1x704x1024 .f32) (ix3 0 j k) = (d (hid (quart p) j) k : EReal) := by
  rw [← hd]; blk_ext [iblk0, idx0 p, quart, hid]

/-- The points of a run of sixteen work on one quarter. -/
theorem quart_run {t : Fin cfg0.N} (ht : t.val % 16 = 16 - 1) (s : Fin 16) :
    quart ⟨16 * (t.val / 16) + s.val, Pipeline.run_point_lt_of_flush t ht s⟩ = quart t :=
  Fin.ext (by simp only [quart]; omega)

/-- A sum over the row blocks of a run of sixteen points is the sum over the rows. -/
theorem sum_run {t : Fin cfg0.N} (ht : t.val % 16 = 16 - 1) (f : Fin 4 → Fin 8192 → ℝ) :
    ∑ s : Fin 16, ((∑ r, f (quart ⟨16 * (t.val / 16) + s.val, Pipeline.run_point_lt_of_flush t ht s⟩)
        (row0 ⟨16 * (t.val / 16) + s.val, Pipeline.run_point_lt_of_flush t ht s⟩ r) : ℝ) : EReal)
      = ((∑ r, f (quart t) r : ℝ) : EReal) := by
  simp only [quart_run ht]
  exact sum_tiles rfl (fun (s : Fin 16) r => row0 ⟨16 * (t.val / 16) + s.val, Pipeline.run_point_lt_of_flush t ht s⟩ r)
    (fun s r => by simp only [row0]; omega) (f (quart t))

include hx ho hg ha hu hwg hwu hd in
/-- The quarters' shares of the normalised rows' cotangent, as the first kernel leaves them. -/
theorem final0_8 : (dat0 V c).arrAt 8 cfg0.N = fun i => ((dnR o a u wg wu d (i 0) (i 1) (i 2) : ℝ) : EReal) := by
  refine (dat0 V c).arrAt_eq_of_covers 8 _ (by decide +kernel) fun p hf y => ?_
  idx_vars y
  obtain rfl : y0 = 0 := Subsingleton.elim _ _
  have e : ((cfg0.win 8).blk p).view.emb (ix3 0 y1 y2) = ix3 (quart p) (row0 p y1) y2 := by blk_ext [idx0 p, row0, quart]
  have h2 := pay_dn (iblk0 V c 1 p) (iblk0 V c 3 p) (iblk0 V c 4 p) (iblk0 V c 5 p) (iblk0 V c 6 p) (iblk0 V c 7 p) _ _ _ _ _ _
    (blk0_wg V c wg hwg p) (blk0_wu V c wu hwu p) (blk0_d V c d hd p) (blk0_a V c a ha p) (blk0_u V c u hu p) (blk0_o V c o ho p) y1 y2
  rw [e]
  refine Eq.trans ?_ h2
  blk_simp; rw [after0_8]
  by_cases h : p.val % 16 = 0
  · rw [outsAt0_A V c p h]; dsimp only; frame_out
  · rw [outsAt0_B V c p h]; dsimp only; frame_out

include hx ho hg ha hu hd in
/-- The gate matrix's gradient, as the first kernel leaves it: its row blocks' shares, added up. -/
theorem final0_9 : (dat0 V c).arrAt 9 cfg0.N
    = fun i => ((∑ r, nrm (x r) g (i 1) * dgtR o a u d r (hid (i 0) (i 2)) : ℝ) : EReal) := by
  refine (dat0 V c).arrAt_eq_of_covers 9 _ (by decide +kernel) fun t hf y => ?_
  have ht : t.val % 16 = 16 - 1 := (flush0_9 t).mp hf
  have h2 := fun (p : Fin cfg0.N) => pay_dwg (iblk0 V c 0 p) (iblk0 V c 1 p) (iblk0 V c 2 p) (iblk0 V c 3 p) (iblk0 V c 4 p) (iblk0 V c 7 p)
    _ _ _ _ _ _ (blk0_x V c x hx p) (blk0_g V c g hg p) (blk0_d V c d hd p) (blk0_a V c a ha p) (blk0_u V c u hu p) (blk0_o V c o ho p)
  have e : ((cfg0.win 9).blk t).view.emb y = ix3 (quart t) (y 1) (y 2) := by
    idx_vars y
    obtain rfl : y0 = 0 := Subsingleton.elim _ _
    blk_ext [idx0 t, quart]
  rw [e]
  blk_simp
  rw [after0_9, Pipeline.eq_sum_fin_of_reset_step_apply_of_flush (fun n h => (outsAt0 V c n h).2.1) 16 (fun _ => 0)
    (fun p y => ((∑ r, nrm (x (row0 p r)) g (y 1) * dgtR o a u d (row0 p r) (hid (quart p) (y 2)) : ℝ) : EReal))
    (fun p h y => by
      rw [outsAt0_A V c p h]; dsimp only; frame_out
      idx_vars y
      obtain rfl : y0 = 0 := Subsingleton.elim _ _
      refine (h2 p _ y1 y2).trans (congrArg (· + _) ?_)
      pointwise [k0_pay4])
    (fun p h y => by
      rw [outsAt0_B V c p h]; dsimp only; frame_out
      idx_vars y
      obtain rfl : y0 = 0 := Subsingleton.elim _ _
      exact h2 p _ y1 y2)
    t ht y, zero_add]
  exact sum_run ht fun q r => nrm (x r) g (y 1) * dgtR o a u d r (hid q (y 2))

include hx ho hg ha hd in
/-- The linear half's matrix's gradient, as the first kernel leaves it. -/
theorem final0_10 : (dat0 V c).arrAt 10 cfg0.N
    = fun i => ((∑ r, nrm (x r) g (i 1) * dupR o a d r (hid (i 0) (i 2)) : ℝ) : EReal) := by
  refine (dat0 V c).arrAt_eq_of_covers 10 _ (by decide +kernel) fun t hf y => ?_
  have ht : t.val % 16 = 16 - 1 := (flush0_10 t).mp hf
  have h2 := fun (p : Fin cfg0.N) => pay_dwu (iblk0 V c 0 p) (iblk0 V c 1 p) (iblk0 V c 2 p) (iblk0 V c 3 p) (iblk0 V c 7 p)
    _ _ _ _ _ (blk0_x V c x hx p) (blk0_g V c g hg p) (blk0_d V c d hd p) (blk0_a V c a ha p) (blk0_o V c o ho p)
  have e : ((cfg0.win 10).blk t).view.emb y = ix3 (quart t) (y 1) (y 2) := by
    idx_vars y
    obtain rfl : y0 = 0 := Subsingleton.elim _ _
    blk_ext [idx0 t, quart]
  rw [e]
  blk_simp
  rw [after0_10, Pipeline.eq_sum_fin_of_reset_step_apply_of_flush (fun n h => (outsAt0 V c n h).2.2.1) 16 (fun _ => 0)
    (fun p y => ((∑ r, nrm (x (row0 p r)) g (y 1) * dupR o a d (row0 p r) (hid (quart p) (y 2)) : ℝ) : EReal))
    (fun p h y => by
      rw [outsAt0_A V c p h]; dsimp only; frame_out
      idx_vars y
      obtain rfl : y0 = 0 := Subsingleton.elim _ _
      refine (h2 p _ y1 y2).trans (congrArg (· + _) ?_)
      pointwise [k0_pay5])
    (fun p h y => by
      rw [outsAt0_B V c p h]; dsimp only; frame_out
      idx_vars y
      obtain rfl : y0 = 0 := Subsingleton.elim _ _
      exact h2 p _ y1 y2)
    t ht y, zero_add]
  exact sum_run ht fun q r => nrm (x r) g (y 1) * dupR o a d r (hid q (y 2))

include ho ha hu in
/-- The second matrix's gradient, as the first kernel leaves it. -/
theorem final0_11 : (dat0 V c).arrAt 11 cfg0.N
    = fun i => ((∑ r, act (a r (i 0)) (u r (i 0)) * (1 / 2 * o r (i 1)) : ℝ) : EReal) := by
  refine (dat0 V c).arrAt_eq_of_covers 11 _ (by decide +kernel) fun t hf y => ?_
  have ht : t.val % 16 = 16 - 1 := (flush0_11 t).mp hf
  have h2 := fun (p : Fin cfg0.N) => pay_dwd (iblk0 V c 1 p) (iblk0 V c 3 p) (iblk0 V c 4 p)
    _ _ _ (blk0_a V c a ha p) (blk0_u V c u hu p) (blk0_o V c o ho p)
  have e : ((cfg0.win 11).blk t).view.emb y = ix2 (hid (quart t) (y 0)) (y 1) := by blk_ext [idx0 t, quart, hid]
  rw [e]
  blk_simp
  rw [after0_11, Pipeline.eq_sum_fin_of_reset_step_apply_of_flush (fun n h => (outsAt0 V c n h).2.2.2) 16 (fun _ => 0)
    (fun p y => ((∑ r, act (a (row0 p r) (hid (quart p) (y 0))) (u (row0 p r) (hid (quart p) (y 0))) * (1 / 2 * o (row0 p r) (y 1)) : ℝ) : EReal))
    (fun p h y => by
      rw [outsAt0_A V c p h]; dsimp only; frame_out
      idx_vars y
      refine (h2 p _ y0 y1).trans (congrArg (· + _) ?_)
      pointwise [k0_pay6])
    (fun p h y => by
      rw [outsAt0_B V c p h]; dsimp only; frame_out
      idx_vars y
      exact h2 p _ y0 y1)
    t ht y, zero_add]
  exact sum_run ht fun q r => act (a r (hid q (y 0))) (u r (hid q (y 0))) * (1 / 2 * o r (y 1))

end Arrays

end Cert.FfnIdeal.Value

end
-- ==== Proof.FfnSecond.lean ====
/- The SwiGLU half step's gradients: the arrays that the second kernel leaves, as real numbers. -/
module

public import proofs.«01_k».proof.Proof.FfnPay

@[expose] public section

set_option maxRecDepth 16384

noncomputable section

namespace Cert.FfnIdeal.Value

open Cert.FfnIdeal Cert.FfnIdeal.Gen Cert.Reals Idealize.ShloMosaic Idealize.ShloMosaic.TcCoe Idealize.SL.Sem
open Idealize.ShloMosaic.Pipeline (Dat)
open scoped BigOperators

/-- The block of each window of the second kernel at each grid point. -/
theorem idx1 : ∀ t : Fin cfg1.N, win1_0.index t = ![t.val, 0] ∧ win1_1.index t = ![0, 0] ∧ win1_2.index t = ![0, t.val, 0]
    ∧ win1_3.index t = ![1, t.val, 0] ∧ win1_4.index t = ![2, t.val, 0] ∧ win1_5.index t = ![3, t.val, 0]
    ∧ win1_6.index t = ![t.val, 0] ∧ win1_7.index t = ![t.val, 0] ∧ win1_8.index t = ![0, 0] :=
  (by decide +kernel : ∀ t : Fin grid1.N, _)

/-- Row `r` of the block at grid point `p`, as a row of the array. -/
def row1 (p : Fin cfg1.N) (r : Fin 512) : Fin 8192 :=
  ⟨p.val * 512 + r.val, by have := lt_of_lt_of_eq p.isLt (show cfg1.N = 16 from N_1); omega⟩

variable (V : (c : Dev nD) → (b : Ref sig .tc) → Buf (Elt Ideal) ((c : Thread nD τ).loc b)) (c : Dev nD)
  (x o : Fin 8192 → Fin 1024 → ℝ) (g : Fin 1024 → ℝ) (y : Fin 4 → Fin 8192 → Fin 1024 → ℝ)
  (hx : ∀ r k, (V c main_arg0 : FVec Ideal S8192x1024 .f32) (ix2 r k) = (x r k : EReal))
  (ho : ∀ r k, (V c main_arg4 : FVec Ideal S8192x1024 .f32) (ix2 r k) = (o r k : EReal))
  (hg : ∀ k, (V c main_v25 : FVec Ideal S1x1024 .f32) (ix2 0 k) = (g k : EReal))
  (hy : ∀ s r k, (V c main_v24_0 : FVec Ideal S4x8192x1024 .bf16) (ix3 s r k) = (y s r k : EReal))

include hx in
theorem blk1_x (p : Fin cfg1.N) (r : Fin 512) (k : Fin 1024) :
    (iblk1 V c 0 p : FVec Ideal S512x1024 .f32) (ix2 r k) = (x (row1 p r) k : EReal) := by
  rw [← hx]; blk_ext [iblk1, idx1 p, row1]

include ho in
theorem blk1_o (p : Fin cfg1.N) (r : Fin 512) (k : Fin 1024) :
    (iblk1 V c 6 p : FVec Ideal S512x1024 .f32) (ix2 r k) = (o (row1 p r) k : EReal) := by
  rw [← ho]; blk_ext [iblk1, idx1 p, row1]

include hg in
theorem blk1_g (p : Fin cfg1.N) (k : Fin 1024) : (iblk1 V c 1 p : FVec Ideal S1x1024 .f32) (ix2 0 k) = (g k : EReal) := by
  rw [← hg]; blk_ext [iblk1, idx1 p]

include hy in
theorem blk1_y0 (p : Fin cfg1.N) (r : Fin 512) (k : Fin 1024) :
    (iblk1 V c 2 p : FVec Ideal S1x512x1024 .bf16) (ix3 0 r k) = (y 0 (row1 p r) k : EReal) := by
  rw [← hy]; blk_ext [iblk1, idx1 p, row1]

include hy in
theorem blk1_y1 (p : Fin cfg1.N) (r : Fin 512) (k : Fin 1024) :
    (iblk1 V c 3 p : FVec Ideal S1x512x1024 .bf16) (ix3 0 r k) = (y 1 (row1 p r) k : EReal) := by
  rw [← hy]; blk_ext [iblk1, idx1 p, row1]

include hy in
theorem blk1_y2 (p : Fin cfg1.N) (r : Fin 512) (k : Fin 1024) :
    (iblk1 V c 4 p : FVec Ideal S1x512x1024 .bf16) (ix3 0 r k) = (y 2 (row1 p r) k : EReal) := by
  rw [← hy]; blk_ext [iblk1, idx1 p, row1]

include hy in
theorem blk1_y3 (p : Fin cfg1.N) (r : Fin 512) (k : Fin 1024) :
    (iblk1 V c 5 p : FVec Ideal S1x512x1024 .bf16) (ix3 0 r k) = (y 3 (row1 p r) k : EReal) := by
  rw [← hy]; blk_ext [iblk1, idx1 p, row1]

include hx ho hg hy

/-- The gradient of the rows, as the second kernel leaves it. -/
theorem final1_7 : (dat1 V c).arrAt 7 cfg1.N = fun i => ((dnrm (x (i 0)) g (fun l => ∑ s, y s (i 0) l) (o (i 0)) (i 1) : ℝ) : EReal) := by
  refine (dat1 V c).arrAt_eq_of_covers 7 _ (by decide +kernel) fun p hf z => ?_
  idx_vars z
  have e : ((cfg1.win 7).blk p).view.emb (ix2 z0 z1) = ix2 (row1 p z0) z1 := by blk_ext [idx1 p, row1]
  have h2 := pay_dh (iblk1 V c 0 p) (iblk1 V c 6 p) (iblk1 V c 1 p) (iblk1 V c 2 p) (iblk1 V c 3 p) (iblk1 V c 4 p) (iblk1 V c 5 p)
    _ _ _ (fun s r k => y s (row1 p r) k) (blk1_x V c x hx p) (blk1_g V c g hg p) (blk1_y0 V c y hy p) (blk1_y1 V c y hy p) (blk1_y2 V c y hy p)
    (blk1_y3 V c y hy p) (blk1_o V c o ho p) z0 z1
  rw [e]
  refine Eq.trans ?_ h2
  blk_simp; rw [after1_7]
  by_cases h : p.val % 16 = 0
  · rw [outsAt1_A V c p h]; dsimp only; frame_out
  · rw [outsAt1_B V c p h]; dsimp only; frame_out

omit ho hg in
/-- The gradient of the gain, as the second kernel leaves it: its blocks' sums, added up. -/
theorem final1_8 : (dat1 V c).arrAt 8 cfg1.N
    = fun i => ((∑ r, x r (i 1) * rinv (x r) * ∑ s, y s r (i 1) : ℝ) : EReal) := by
  refine (dat1 V c).arrAt_eq_of_after_last 8 t1_15 (by decide +kernel) _ fun j => ?_
  have h2 := fun (p : Fin cfg1.N) => pay_dgain (iblk1 V c 0 p) (iblk1 V c 2 p) (iblk1 V c 3 p) (iblk1 V c 4 p) (iblk1 V c 5 p)
    _ (fun s r k => y s (row1 p r) k) (blk1_x V c x hx p) (blk1_y0 V c y hy p) (blk1_y1 V c y hy p) (blk1_y2 V c y hy p) (blk1_y3 V c y hy p)
  blk_simp
  rw [after1_8, Pipeline.eq_sum_fin_of_reset_step_apply_last (fun n h => (outsAt1 V c n h).2) 16 (fun _ => 0)
    (fun p j => ((∑ r, x (row1 p r) (j 1) * rinv (x (row1 p r)) * ∑ s, y s (row1 p r) (j 1) : ℝ) : EReal))
    (fun p h j => by
      rw [outsAt1_A V c p h]; dsimp only; frame_out
      idx_vars j
      obtain rfl : j0 = 0 := Subsingleton.elim _ _
      refine (h2 p _ j1).trans (congrArg (· + _) ?_)
      pointwise [k1_pay2])
    (fun p h j => by
      rw [outsAt1_B V c p h]; dsimp only; frame_out
      idx_vars j
      obtain rfl : j0 = 0 := Subsingleton.elim _ _
      exact h2 p _ j1)
    (le_of_eq N_1) t1_15 rfl j, zero_add]
  exact sum_tiles rfl row1 (fun _ _ => rfl) fun r => x r (j 1) * rinv (x r) * ∑ s, y s r (j 1)

end Cert.FfnIdeal.Value

end
-- ==== Proof.FfnRun.lean ====
/- The SwiGLU half step's gradients: the kernels' run, and the arrays it leaves as functions of the arguments. -/
module

public import proofs.«01_k».proof.Proof.FfnFirst
public import proofs.«01_k».proof.Proof.FfnSecond
public import Idealize.ShloMosaic.Lib.StableHlo.ReadAt

@[expose] public section

set_option maxRecDepth 16384

noncomputable section

namespace Cert.FfnIdeal.Value

open Cert.FfnIdeal Cert.FfnIdeal.Gen Cert.Reals Idealize.ShloMosaic Idealize.ShloMosaic.TcCoe Idealize.SL.Sem
open scoped BigOperators

/-- The gate's column of the first matrix that belongs to hidden column `j`, -/
def glo (j : Fin 2816) : Fin 5632 := ⟨j.val, by omega⟩

/-- and the linear half's column. -/
def ghi (j : Fin 2816) : Fin 5632 := ⟨2816 + j.val, by omega⟩

/-- The first product: row `r`'s normalised entries against column `q` of the first matrix. -/
def pre (x : Fin 8192 → Fin 1024 → ℝ) (g : Fin 1024 → ℝ) (w : Fin 1024 → Fin 5632 → ℝ) (r : Fin 8192) (q : Fin 5632) : ℝ :=
  ∑ k, nrm (x r) g k * w k q

section Arrays

variable (m : (ℓ : Loc nD τ sig) → Buf (Elt Ideal) ℓ) (ρ : Dev nD → PrngReg) (c : Dev nD)
  (x o : Fin 8192 → Fin 1024 → ℝ) (g : Fin 1024 → ℝ) (w : Fin 1024 → Fin 5632 → ℝ) (d : Fin 2816 → Fin 1024 → ℝ)
  (hx : ∀ r k, (m ((c : Thread nD τ).loc main_arg0) : FVec Ideal S8192x1024 .f32) (ix2 r k) = (x r k : EReal))
  (hg : ∀ k, (m ((c : Thread nD τ).loc main_arg1) : FVec Ideal S1024 .f32) (ix1 k) = (g k : EReal))
  (hw : ∀ k q, (m ((c : Thread nD τ).loc main_arg2) : FVec Ideal S1024x5632 .f32) (ix2 k q) = (w k q : EReal))
  (hd : ∀ j k, (m ((c : Thread nD τ).loc main_arg3) : FVec Ideal S2816x1024 .f32) (ix2 j k) = (d j k : EReal))
  (ho : ∀ r k, (m ((c : Thread nD τ).loc main_arg4) : FVec Ideal S8192x1024 .f32) (ix2 r k) = (o r k : EReal))

include hg in
theorem in_g (k : Fin 1024) : (V1 m ρ c main_v23 : FVec Ideal S1x1024 .f32) (ix2 0 k) = (g k : EReal) := by
  rw [← hg]
  show StableHlo.after hostOps0 (W0 m ρ c) (Proc.devRef .tc main_v23) (ix2 0 k) = _
  after_reads_at

include hd in
theorem in_d (j : Fin 2816) (k : Fin 1024) : (V1 m ρ c main_v3 : FVec Ideal S1x2816x1024 .f32) (ix3 0 j k) = (d j k : EReal) := by
  rw [← hd]
  show StableHlo.after hostOps0 (W0 m ρ c) (Proc.devRef .tc main_v3) (ix3 0 j k) = _
  after_reads_at

include hw in
theorem in_wg (s : Fin 4) (k : Fin 1024) (j : Fin 704) :
    (V1 m ρ c main_v2 : FVec Ideal S8x1x1024x704 .f32) (ix4 (lo s) 0 k j) = (w k (glo (hid s j)) : EReal) := by
  rw [← hw]
  show StableHlo.after hostOps0 (W0 m ρ c) (Proc.devRef .tc main_v2) (ix4 (lo s) 0 k j) = _
  after_reads_at
  rfl

include hw in
theorem in_wu (s : Fin 4) (k : Fin 1024) (j : Fin 704) :
    (V1 m ρ c main_v2 : FVec Ideal S8x1x1024x704 .f32) (ix4 (hi s) 0 k j) = (w k (ghi (hid s j)) : EReal) := by
  rw [← hw]
  show StableHlo.after hostOps0 (W0 m ρ c) (Proc.devRef .tc main_v2) (ix4 (hi s) 0 k j) = _
  after_reads_at
  exact congrArg (fun q => (m ((c : Thread nD τ).loc main_arg2) : FVec Ideal S1024x5632 .f32) (ix2 k q))
    (Fin.ext (by simp only [hi, ghi, hid]; omega))

include hx hg hw in
/-- The gate's pre-activations, which the host computes as the forward pass does. -/
theorem in_a (s : Fin 4) (r : Fin 8192) (j : Fin 704) :
    (V1 m ρ c main_v21 : FVec Ideal S4x8192x704 .bf16) (ix3 s r j) = (pre x g w r (glo (hid s j)) : EReal) := by
  show StableHlo.after hostOps0 (W0 m ρ c) (Proc.devRef .tc main_v21) (ix3 s r j) = _
  have ex : ∀ r k, (W0 m ρ c (Proc.devRef .tc main_arg0) : FVec Ideal S8192x1024 .f32) (ix2 r k) = (x r k : EReal) := hx
  have eg : ∀ k, (W0 m ρ c (Proc.devRef .tc main_arg1) : FVec Ideal S1024 .f32) (ix1 k) = (g k : EReal) := hg
  have ew : ∀ k q, (W0 m ρ c (Proc.devRef .tc main_arg2) : FVec Ideal S1024x5632 .f32) (ix2 k q) = (w k q : EReal) := hw
  after_reads_at
  simp only [ex, eg, ew, ofBits_1024, ofBits_eps, zero_add, ← EReal.coe_mul, ← EReal.coe_add, sum_coe,
    div_coe (show (1024 : ℝ) ≠ 0 by norm_num), rsqrt_coe (mean_sq_pos _)]
  rfl

include hx hg hw in
/-- The linear half's pre-activations. -/
theorem in_u (s : Fin 4) (r : Fin 8192) (j : Fin 704) :
    (V1 m ρ c main_v22 : FVec Ideal S4x8192x704 .bf16) (ix3 s r j) = (pre x g w r (ghi (hid s j)) : EReal) := by
  show StableHlo.after hostOps0 (W0 m ρ c) (Proc.devRef .tc main_v22) (ix3 s r j) = _
  have ex : ∀ r k, (W0 m ρ c (Proc.devRef .tc main_arg0) : FVec Ideal S8192x1024 .f32) (ix2 r k) = (x r k : EReal) := hx
  have eg : ∀ k, (W0 m ρ c (Proc.devRef .tc main_arg1) : FVec Ideal S1024 .f32) (ix1 k) = (g k : EReal) := hg
  have ew : ∀ k q, (W0 m ρ c (Proc.devRef .tc main_arg2) : FVec Ideal S1024x5632 .f32) (ix2 k q) = (w k q : EReal) := hw
  after_reads_at
  simp only [ex, eg, ew, ofBits_1024, ofBits_eps, zero_add, ← EReal.coe_mul, ← EReal.coe_add, sum_coe,
    div_coe (show (1024 : ℝ) ≠ 0 by norm_num), rsqrt_coe (mean_sq_pos _)]
  refine congrArg (fun q => ((pre x g w r q : ℝ) : EReal)) (Fin.ext ?_)
  simp only [ghi, hid]; omega

/-- The hidden columns' cotangents, from the arguments: the gate's, -/
def dg (x o : Fin 8192 → Fin 1024 → ℝ) (g : Fin 1024 → ℝ) (w : Fin 1024 → Fin 5632 → ℝ) (d : Fin 2816 → Fin 1024 → ℝ) :=
  dgtR o (fun r j => pre x g w r (glo j)) (fun r j => pre x g w r (ghi j)) d

/-- and the linear half's. -/
def du (x o : Fin 8192 → Fin 1024 → ℝ) (g : Fin 1024 → ℝ) (w : Fin 1024 → Fin 5632 → ℝ) (d : Fin 2816 → Fin 1024 → ℝ) :=
  dupR o (fun r j => pre x g w r (glo j)) d

/-- The normalised rows' cotangent. -/
def dn (x o : Fin 8192 → Fin 1024 → ℝ) (g : Fin 1024 → ℝ) (w : Fin 1024 → Fin 5632 → ℝ) (d : Fin 2816 → Fin 1024 → ℝ)
    (r : Fin 8192) (k : Fin 1024) : ℝ :=
  ∑ j, dg x o g w d r j * w k (glo j) + ∑ j, du x o g w d r j * w k (ghi j)

/-- The quarters' shares make up the whole. -/
theorem sum_quarters (f : Fin 2816 → ℝ) : ∑ s : Fin 4, ∑ j, f (hid s j) = ∑ j, f j := by
  rw [Fin.sum_univ_tiles 4 704 rfl f]
  exact Finset.sum_congr rfl fun p _ => Finset.sum_congr rfl fun r _ => congrArg f (Fin.ext rfl)

theorem dn_eq (r : Fin 8192) (k : Fin 1024) :
    ∑ s, dnR o (fun r j => pre x g w r (glo j)) (fun r j => pre x g w r (ghi j)) (fun k j => w k (glo j)) (fun k j => w k (ghi j)) d s r k
      = dn x o g w d r k := by
  simp only [dnR, Finset.sum_add_distrib]
  rw [sum_quarters fun j => dgtR o (fun r j => pre x g w r (glo j)) (fun r j => pre x g w r (ghi j)) d r j * w k (glo j),
    sum_quarters fun j => dupR o (fun r j => pre x g w r (glo j)) d r j * w k (ghi j)]
  rfl

theorem in_x1 : V1 m ρ c main_arg0 = m ((c : Thread nD τ).loc main_arg0) := W1_args m ρ c main_arg0 (by decide)
theorem in_o1 : V1 m ρ c main_arg4 = m ((c : Thread nD τ).loc main_arg4) := W1_args m ρ c main_arg4 (by decide)
theorem in_x3 : V3 m ρ c main_arg0 = m ((c : Thread nD τ).loc main_arg0) := W3_args m ρ c main_arg0 (by decide)
theorem in_o3 : V3 m ρ c main_arg4 = m ((c : Thread nD τ).loc main_arg4) := W3_args m ρ c main_arg4 (by decide)

include hg in
theorem in_g3 (k : Fin 1024) : (V3 m ρ c main_v25 : FVec Ideal S1x1024 .f32) (ix2 0 k) = (g k : EReal) := by
  have e : ∀ k, (W2 m ρ c (Proc.devRef .tc main_arg1) : FVec Ideal S1024 .f32) (ix1 k) = (g k : EReal) := fun k => by
    rw [W2_args m ρ c main_arg1 (by decide)]; exact hg k
  rw [← e]
  show StableHlo.after hostOps1 (W2 m ρ c) (Proc.devRef .tc main_v25) (ix2 0 k) = _
  after_reads_at

include hx hg hw hd ho

/-- The quarters' shares, as the second kernel finds them. -/
theorem in_y3 (s : Fin 4) (r : Fin 8192) (k : Fin 1024) : (V3 m ρ c main_v24_0 : FVec Ideal S4x8192x1024 .bf16) (ix3 s r k)
    = (dnR o (fun r j => pre x g w r (glo j)) (fun r j => pre x g w r (ghi j)) (fun k j => w k (glo j)) (fun k j => w k (ghi j)) d s r k : EReal) := by
  have e : V3 m ρ c main_v24_0 = (dat0 (V1 m ρ) c).arrAt 8 cfg0.N :=
    (W3_of m ρ c main_v24_0 (by decide)).trans (W2_arr m ρ c 8)
  rw [e, final0_8 (V1 m ρ) c x o g (fun r j => pre x g w r (glo j)) (fun r j => pre x g w r (ghi j)) (fun k j => w k (glo j))
    (fun k j => w k (ghi j)) d (by rw [in_x1]; exact hx) (by rw [in_o1]; exact ho) (in_g m ρ c g hg) (in_a m ρ c x g w hx hg hw)
    (in_u m ρ c x g w hx hg hw) (in_wg m ρ c w hw) (in_wu m ρ c w hw) (in_d m ρ c d hd)]
  rfl

/-- The rows' gradient. -/
theorem out_dh : (dat1 (V3 m ρ) c).arrAt 7 cfg1.N = fun i => ((dnrm (x (i 0)) g (dn x o g w d (i 0)) (o (i 0)) (i 1) : ℝ) : EReal) := by
  rw [final1_7 (V3 m ρ) c x o g _ (by rw [in_x3]; exact hx) (by rw [in_o3]; exact ho) (in_g3 m ρ c g hg) (in_y3 m ρ c x o g w d hx hg hw hd ho)]
  funext i
  exact congrArg (fun f => ((dnrm (x (i 0)) g f (o (i 0)) (i 1) : ℝ) : EReal)) (funext fun l => dn_eq x o g w d (i 0) l)

/-- The gain's gradient. -/
theorem out_dgain : (dat1 (V3 m ρ) c).arrAt 8 cfg1.N
    = fun i => ((∑ r, x r (i 1) * rinv (x r) * dn x o g w d r (i 1) : ℝ) : EReal) := by
  rw [final1_8 (V3 m ρ) c x _ (by rw [in_x3]; exact hx) (in_y3 m ρ c x o g w d hx hg hw hd ho)]
  funext i
  exact congrArg Real.toEReal (Finset.sum_congr rfl fun r _ => congrArg (x r (i 1) * rinv (x r) * ·) (dn_eq x o g w d r (i 1)))

/-- The gate matrix's gradient. -/
theorem out_dwg : (dat0 (V1 m ρ) c).arrAt 9 cfg0.N
    = fun i => ((∑ r, nrm (x r) g (i 1) * dg x o g w d r (hid (i 0) (i 2)) : ℝ) : EReal) :=
  final0_9 (V1 m ρ) c x o g (fun r j => pre x g w r (glo j)) (fun r j => pre x g w r (ghi j)) d
    (by rw [in_x1]; exact hx) (by rw [in_o1]; exact ho) (in_g m ρ c g hg) (in_a m ρ c x g w hx hg hw)
    (in_u m ρ c x g w hx hg hw) (in_d m ρ c d hd)

/-- The linear half's matrix's gradient. -/
theorem out_dwu : (dat0 (V1 m ρ) c).arrAt 10 cfg0.N
    = fun i => ((∑ r, nrm (x r) g (i 1) * du x o g w d r (hid (i 0) (i 2)) : ℝ) : EReal) :=
  final0_10 (V1 m ρ) c x o g (fun r j => pre x g w r (glo j)) d
    (by rw [in_x1]; exact hx) (by rw [in_o1]; exact ho) (in_g m ρ c g hg) (in_a m ρ c x g w hx hg hw) (in_d m ρ c d hd)

omit hd in
/-- The second matrix's gradient. -/
theorem out_dwd : (dat0 (V1 m ρ) c).arrAt 11 cfg0.N
    = fun i => ((∑ r, act (pre x g w r (glo (i 0))) (pre x g w r (ghi (i 0))) * (1 / 2 * o r (i 1)) : ℝ) : EReal) :=
  final0_11 (V1 m ρ) c o (fun r j => pre x g w r (glo j)) (fun r j => pre x g w r (ghi j))
    (by rw [in_o1]; exact ho) (in_a m ρ c x g w hx hg hw) (in_u m ρ c x g w hx hg hw)

end Arrays

section Run

open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernels run: they end with their five results at what the two pipelines leave, and the arguments as they were. -/
theorem run_main : θ_run defs (onTc (τ := τ) (main (F := Ideal))) ⟨m, fun _ => 0, ρ⟩ (fun r => ∀ c : Dev nD,
      r.2.mem ((c.tc : Thread nD τ).loc main_v26_0) = (dat1 (V3 m ρ) c).arrAt 7 cfg1.N
      ∧ r.2.mem ((c.tc : Thread nD τ).loc main_v26_1) = (dat1 (V3 m ρ) c).arrAt 8 cfg1.N
      ∧ r.2.mem ((c.tc : Thread nD τ).loc main_v24_1) = (dat0 (V1 m ρ) c).arrAt 9 cfg0.N
      ∧ r.2.mem ((c.tc : Thread nD τ).loc main_v24_2) = (dat0 (V1 m ρ) c).arrAt 10 cfg0.N
      ∧ r.2.mem ((c.tc : Thread nD τ).loc main_v24_3) = (dat0 (V1 m ρ) c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      have first : ∀ b, b ∉ hostOps1_W → (∀ w : Fin cfg1.W, Pipeline.arrRef spec1 w = b → (cfg1.win w).isOut = false)
          → W4 m ρ c (Proc.devRef .tc b) = W2 m ρ c (Proc.devRef .tc b) :=
        fun b h1 h2 => (W4_of m ρ c b h2).trans (W3_of m ρ c b h1)
      ⟨(h c _ (mem_uc main_v26_0 (by decide))).trans (W4_arr m ρ c 7),
       (h c _ (mem_uc main_v26_1 (by decide))).trans (W4_arr m ρ c 8),
       (h c _ (mem_uc main_v24_1 (by decide))).trans ((first main_v24_1 (by decide) (by decide)).trans (W2_arr m ρ c 9)),
       (h c _ (mem_uc main_v24_2 (by decide))).trans ((first main_v24_2 (by decide) (by decide)).trans (W2_arr m ρ c 10)),
       (h c _ (mem_uc main_v24_3 (by decide))).trans ((first main_v24_3 (by decide) (by decide)).trans (W2_arr m ρ c 11)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Run

end Cert.FfnIdeal.Value

end
-- ==== Proof.FfnClaim.lean ====
/- The SwiGLU half step: the kernels and the reference leave the same gradients. -/
module

public import proofs.«01_k».proof.Defs
public import proofs.«01_k».proof.Proof.FfnRun
public import proofs.«01_k».proof.Proof.Gen.FfnRefIdeal.Run
public import Idealize.ShloMosaic.Lib.Claim

@[expose] public section

set_option maxRecDepth 16384

noncomputable section

namespace Cert.FfnProof

open Cert.Reals Idealize.ShloMosaic Idealize.ShloMosaic.TcCoe Idealize.SL.Sem
open Cert.FfnIdeal.Value (nrm dnrm pre dg du dn dgtR dupR dgt dup da sg act glo ghi hid exp_pos')
open scoped BigOperators

/-- A sum over the first matrix's columns is the sum over its gate's half and the sum over its linear half. -/
theorem sum_halves (f : Fin 5632 → EReal) : ∑ q, f q = ∑ j, f (glo j) + ∑ j, f (ghi j) :=
  (Fin.sum_univ_add (a := 2816) (b := 2816) f).trans rfl

/-- The derivative of the gate's activation, as the chain rule gives it. -/
theorem dgt_eq (z a u : ℝ) : z * u * (1 / (1 + Real.exp (-a))) + a * (z * u) * (1 / (1 + Real.exp (-a)) * (1 - 1 / (1 + Real.exp (-a))))
    = dgt z a u := by unfold dgt sg; ring

/-- The derivative of the linear half, as the chain rule gives it. -/
theorem dup_eq (z a : ℝ) : a * (1 / (1 + Real.exp (-a))) * z = dup z a := by unfold dup sg; ring

section Reference

open Cert.FfnRefIdeal Cert.FfnRefIdeal.Value

variable (m : (ℓ : Loc nD τ sig) → Buf (Elt Ideal) ℓ) (c : Dev nD)
  (x o : Fin 8192 → Fin 1024 → ℝ) (g : Fin 1024 → ℝ) (w : Fin 1024 → Fin 5632 → ℝ) (d : Fin 2816 → Fin 1024 → ℝ)
  (hx : ∀ r k, (m ((c : Thread nD τ).loc main_arg0) : FVec Ideal S8192x1024 .f32) (ix2 r k) = (x r k : EReal))
  (hg : ∀ k, (m ((c : Thread nD τ).loc main_arg1) : FVec Ideal S1024 .f32) (ix1 k) = (g k : EReal))
  (hw : ∀ k q, (m ((c : Thread nD τ).loc main_arg2) : FVec Ideal S1024x5632 .f32) (ix2 k q) = (w k q : EReal))
  (hd : ∀ j k, (m ((c : Thread nD τ).loc main_arg3) : FVec Ideal S2816x1024 .f32) (ix2 j k) = (d j k : EReal))
  (ho : ∀ r k, (m ((c : Thread nD τ).loc main_arg4) : FVec Ideal S8192x1024 .f32) (ix2 r k) = (o r k : EReal))
include hx hg hw hd ho

/-- The reference's gradient of the gate's half of the first matrix. -/
theorem ref_dwg (s : Fin 4) (k : Fin 1024) (j : Fin 704) :
    (res_main_v62 m c : FVec Ideal S4x1024x704 .f32) (ix3 s k j) = ((∑ r, nrm (x r) g k * dg x o g w d r (hid s j) : ℝ) : EReal) := by
  pointwise [res_main_v62]
  simp only [dif_pos (show s.val * 704 + j.val < 2816 by omega), hx, hg, hw, hd, ho, ofBits_1024, ofBits_eps, ofBits_half, ← EReal.coe_one,
    ← EReal.coe_mul, ← EReal.coe_add, ← EReal.coe_sub, ← EReal.coe_neg, sum_coe, div_coe (show (1024 : ℝ) ≠ 0 by norm_num),
    rsqrt_coe (mean_sq_pos _), Ideal.exp_coe, div_coe (exp_pos' _)]
  refine congrArg Real.toEReal (Finset.sum_congr rfl fun r _ => ?_)
  simp only [nrm, dg, dgtR, dgt, da, sg, pre, rinv, glo, ghi, hid]
  ring

/-- The reference's gradient of the linear half of the first matrix. -/
theorem ref_dwu (s : Fin 4) (k : Fin 1024) (j : Fin 704) :
    (res_main_v63 m c : FVec Ideal S4x1024x704 .f32) (ix3 s k j) = ((∑ r, nrm (x r) g k * du x o g w d r (hid s j) : ℝ) : EReal) := by
  have e1 : ∀ h, (⟨(4 + s.val) * 704 + j.val - 2816, h⟩ : Fin 2816) = hid s j := fun h => Fin.ext (by simp only [hid]; omega)
  have e2 : ∀ h, (⟨(4 + s.val) * 704 + j.val - 2816, h⟩ : Fin 5632) = glo (hid s j) := fun h => Fin.ext (by simp only [glo, hid]; omega)
  pointwise [res_main_v63]
  simp only [dif_neg (show ¬(4 + s.val) * 704 + j.val < 2816 by omega), e1, e2, hx, hg, hw, hd, ho, ofBits_1024, ofBits_eps, ofBits_half,
    ← EReal.coe_one, ← EReal.coe_mul, ← EReal.coe_add, ← EReal.coe_sub, ← EReal.coe_neg, sum_coe, div_coe (show (1024 : ℝ) ≠ 0 by norm_num),
    rsqrt_coe (mean_sq_pos _), Ideal.exp_coe, div_coe (exp_pos' _)]
  refine congrArg Real.toEReal (Finset.sum_congr rfl fun r _ => ?_)
  simp only [nrm, du, dupR, dup, da, sg, pre, rinv, glo]
  ring

omit hx hg hw hd ho in
/-- The cotangent of a normalised row, as the chain rule gives it. -/
theorem dn_fold (r : Fin 8192) (k : Fin 1024) :
    (∑ j : Fin 2816, dgt (da (o r) (d j)) (pre x g w r ⟨j.val, by omega⟩) (pre x g w r ⟨2816 + j.val, by omega⟩) * w k ⟨j.val, by omega⟩)
      + ∑ j : Fin 2816, dup (da (o r) (d j)) (pre x g w r ⟨j.val, by omega⟩) * w k ⟨2816 + j.val, by omega⟩ = dn x o g w d r k := rfl

omit hx hg hw hd ho in
/-- The reciprocal root mean square of row `r`. -/
theorem rinv_fold (r : Fin 8192) : (Real.sqrt ((∑ l, x r l * x r l) / 1024 + eps))⁻¹ = rinv (x r) := rfl

omit hx hg hw hd ho in
/-- The pre-activations of row `r`. -/
theorem pre_fold (r : Fin 8192) (q : Fin 5632) : ∑ k, x r k * rinv (x r) * g k * w k q = pre x g w r q := rfl

omit hx hg hw hd ho in
/-- The cotangent of the gated activation. -/
theorem da_fold (r : Fin 8192) (j : Fin 2816) : ∑ i, 1 / 2 * o r i * d j i = da (o r) (d j) := rfl

/-- The reference's gradient of the gain. -/
theorem ref_dgain (k : Fin 1024) :
    (res_main_v61 m c : FVec Ideal S1x1024 .f32) (ix2 0 k) = ((∑ r, x r k * rinv (x r) * dn x o g w d r k : ℝ) : EReal) := by
  pointwise [res_main_v61]
  simp only [hx, hg, hw, hd, ho, ofBits_1024, ofBits_eps, ofBits_half,
    ← EReal.coe_one, ← EReal.coe_mul, ← EReal.coe_add, ← EReal.coe_sub, ← EReal.coe_neg, sum_coe, div_coe (show (1024 : ℝ) ≠ 0 by norm_num),
    rsqrt_coe (mean_sq_pos _), Ideal.exp_coe, div_coe (exp_pos' _), dgt_eq, dup_eq]
  simp only [rinv_fold, pre_fold, da_fold, dn_fold, Fin.sum_univ_one]

/-- The reference's gradient of the half step's input. -/
theorem ref_dh (r : Fin 8192) (k : Fin 1024) :
    (res_main_v58 m c : FVec Ideal S8192x1024 .f32) (ix2 r k) = (dnrm (x r) g (dn x o g w d r) (o r) k : EReal) := by
  pointwise [res_main_v58]
  simp only [hx, hg, hw, hd, ho, ofBits_1024, ofBits_eps, ofBits_half, ofBits_neg_half, ofBits_two,
    ← EReal.coe_one, ← EReal.coe_mul, ← EReal.coe_add, ← EReal.coe_sub, ← EReal.coe_neg, sum_coe, div_coe (show (1024 : ℝ) ≠ 0 by norm_num),
    rsqrt_coe (mean_sq_pos _), div_coe (mean_sq_pos _).ne', Ideal.exp_coe, div_coe (exp_pos' _), dgt_eq, dup_eq, inv_sqrt_div (mean_sq_pos _)]
  simp only [rinv_fold, pre_fold, da_fold, dn_fold, Fin.sum_univ_one, dnrm]
  exact congrArg Real.toEReal (by ring)

end Reference

/-- The precondition says that every entry of the five arguments is a real number. -/
theorem reals [Cert.Pre_finite_ffn.Facts] (h : FVec Ideal ⟨2, ![8192, 1024]⟩ .f32) (g : FVec Ideal ⟨1, ![1024]⟩ .f32)
    (w : FVec Ideal ⟨2, ![1024, 5632]⟩ .f32) (d : FVec Ideal ⟨2, ![2816, 1024]⟩ .f32) (o : FVec Ideal ⟨2, ![8192, 1024]⟩ .f32)
    (hf : Cert.Pre_finite_ffn.fn (F := Ideal) h g w d o = fun _ => 1#1) :
    (∀ i, ∃ a : ℝ, h i = a) ∧ (∀ i, ∃ a : ℝ, g i = a) ∧ (∀ i, ∃ a : ℝ, w i = a) ∧ (∀ i, ∃ a : ℝ, d i = a) ∧ ∀ i, ∃ a : ℝ, o i = a := by
  have e := congrFun hf ix0
  unfold Cert.Pre_finite_ffn.fn Cert.Pre_finite_ffn.fn_part1 at e
  dsimp only at e
  simp only [andi, IntOp.andi_eq_one] at e
  exact ⟨reals_of_all h _ _ _ _ e.1.1.1.1, reals_of_all g _ _ _ _ e.1.1.1.2, reals_of_all w _ _ _ _ e.1.1.2, reals_of_all d _ _ _ _ e.1.2,
    reals_of_all o _ _ _ _ e.2⟩

/-- The half step's backward kernels leave the gradients of its input, its gain and its two matrices. -/
theorem algebraic [Cert.Pre_finite_ffn.Facts] : Cert.algebraic_FfnIdeal_FfnRefIdeal_pre_finite_ffn := by
  pair_intro
  · run_from Cert.FfnIdeal.Value.run_main m g
  · obtain ⟨h0, h1, h2, h3, h4⟩ := reals _ _ _ _ _ (hpre (0 : Dev _))
    choose x hx using h0
    choose gn hg using h1
    choose w hw using h2
    choose d hd using h3
    choose o ho using h4
    run_from Cert.FfnRefIdeal.Value.run m' g'
    all_goals
      obtain rfl : c = 0 := Subsingleton.elim _ _
      obtain ⟨a0, a1, a2, a3, a4⟩ := hagree 0
      have kx := fun r k => hx (ix2 r k)
      have kg := fun k => hg (ix1 k)
      have kw := fun k q => hw (ix2 k q)
      have kd := fun j k => hd (ix2 j k)
      have ko := fun r k => ho (ix2 r k)
      have rx := fun r k => (congrFun a0 (ix2 r k)).trans (kx r k)
      have rg := fun k => (congrFun a1 (ix1 k)).trans (kg k)
      have rw' := fun k q => (congrFun a2 (ix2 k q)).trans (kw k q)
      have rd := fun j k => (congrFun a3 (ix2 j k)).trans (kd j k)
      have ro := fun r k => (congrFun a4 (ix2 r k)).trans (ko r k)
    · rw [Cert.FfnIdeal.Value.out_dh m g 0 _ _ _ _ _ kx kg kw kd ko]
      funext j
      idx_vars j
      exact ref_dh m' 0 _ _ _ _ _ rx rg rw' rd ro j0 j1
    · rw [Cert.FfnIdeal.Value.out_dgain m g 0 _ _ _ _ _ kx kg kw kd ko]
      funext j
      idx_vars j
      obtain rfl : j0 = 0 := Subsingleton.elim _ _
      exact ref_dgain m' 0 _ _ _ _ _ rx rg rw' rd ro j1
    · rw [Cert.FfnIdeal.Value.out_dwg m g 0 _ _ _ _ _ kx kg kw kd ko]
      funext j
      idx_vars j
      exact ref_dwg m' 0 _ _ _ _ _ rx rg rw' rd ro j0 j1 j2
    · rw [Cert.FfnIdeal.Value.out_dwu m g 0 _ _ _ _ _ kx kg kw kd ko]
      funext j
      idx_vars j
      exact ref_dwu m' 0 _ _ _ _ _ rx rg rw' rd ro j0 j1 j2
    · rw [Cert.FfnIdeal.Value.out_dwd m g 0 _ _ _ _ kx kg kw ko]
      funext j
      idx_vars j
      pointwise
      simp only [kx, kg, kw, ko, ofBits_1024, ofBits_eps, ofBits_half,
        ← EReal.coe_one, ← EReal.coe_mul, ← EReal.coe_add, ← EReal.coe_sub, ← EReal.coe_neg, sum_coe,
        div_coe (show (1024 : ℝ) ≠ 0 by norm_num), rsqrt_coe (mean_sq_pos _), Ideal.exp_coe, div_coe (exp_pos' _)]
      refine congrArg Real.toEReal (Finset.sum_congr rfl fun r _ => ?_)
      simp only [act, sg, pre, nrm, rinv, glo, ghi]
      ring

end Cert.FfnProof

end
-- ==== Proof.FoxMath.lean ====
/- Forgetting attention in real numbers: the masked logits of a head, the attention weights, and the gradients in the
   queries, the keys, the values and the sums of log gates. -/
module

public import proofs.«01_k».proof.Proof.Reals
public import Idealize.ShloMosaic.Lib.Pointwise

@[expose] public section

noncomputable section

namespace Cert.Fox

open Cert.Reals Idealize.ShloMosaic
open scoped BigOperators

/-! ## Constants -/

/-- The scale of the logits: the number that the f32 pattern of `1 / sqrt 128` stands for. -/
def scale : ℝ := 11863283 / 134217728

theorem ofBits_scale : Ideal.ofBits .f32 0x3DB504F3#32 = (scale : EReal) := by
  simp [Ideal.ofBits, Ideal.ieee, -EReal.coe_mul, scale]; norm_num

theorem ofBits_neg_inf : Ideal.ofBits .f32 0xFF800000#32 = ⊥ := by
  simp [Ideal.ofBits, Ideal.ieee]

theorem ofBits_zero : Ideal.ofBits .f32 0x00000000#32 = 0 := by
  simp [Ideal.ofBits, Ideal.ieee]

/-! ## The weights of one row -/

section Row

variable {n : ℕ} (ℓ : Fin n → ℝ) (r : Fin n)

/-- The sum of the exponentials of the logits that the causal mask keeps in row `r`. -/
def mass : ℝ := ∑ s, if s ≤ r then Real.exp (ℓ s) else 0

theorem mass_pos : 0 < mass ℓ r :=
  Finset.sum_pos' (fun s _ => by split_ifs <;> positivity) ⟨r, Finset.mem_univ _, by rw [if_pos le_rfl]; positivity⟩

/-- The weight of key `s` in row `r`: the softmax under the causal mask. -/
def weight (s : Fin n) : ℝ := if s ≤ r then Real.exp (ℓ s) / mass ℓ r else 0

/-- Logits moved by one number have the exponentials multiplied by one number. -/
theorem mass_shift (a : ℝ) (ℓ' : Fin n → ℝ) (h : ∀ s, ℓ' s = ℓ s + a) : mass ℓ' r = Real.exp a * mass ℓ r := by
  unfold mass
  rw [Finset.mul_sum]
  exact Finset.sum_congr rfl fun s _ => by rw [h, Real.exp_add]; split_ifs <;> ring

/-- The weights do not change when all logits of a row move by one number. -/
theorem weight_shift (a : ℝ) (ℓ' : Fin n → ℝ) (h : ∀ s, ℓ' s = ℓ s + a) (s : Fin n) :
    (if s ≤ r then Real.exp (ℓ' s) else 0) / mass ℓ' r = weight ℓ r s := by
  rw [mass_shift ℓ r a ℓ' h, h, weight]
  split_ifs
  · rw [Real.exp_add, mul_comm (Real.exp (ℓ s)), mul_div_mul_left _ _ (Real.exp_pos a).ne']
  · rw [zero_div]

/-- The masked logits of a row have a real number as their greatest entry. -/
theorem exists_top : ∃ M : ℝ, Finset.fold max (⊥ : EReal) (fun s => if s ≤ r then (ℓ s : EReal) else ⊥) Finset.univ = (M : EReal) := by
  have h1 : Finset.fold max (⊥ : EReal) (fun s => if s ≤ r then (ℓ s : EReal) else ⊥) Finset.univ ≠ ⊤ := by
    refine ne_of_lt ((Finset.fold_max_lt _).mpr ⟨bot_lt_top, fun s _ => ?_⟩)
    split_ifs
    · exact EReal.coe_lt_top _
    · exact bot_lt_top
  have h2 : Finset.fold max (⊥ : EReal) (fun s => if s ≤ r then (ℓ s : EReal) else ⊥) Finset.univ ≠ ⊥ := by
    refine ne_of_gt ((Finset.lt_fold_max _).mpr (.inr ⟨r, Finset.mem_univ _, ?_⟩))
    rw [if_pos le_rfl]
    exact EReal.bot_lt_coe _
  exact ⟨_, (EReal.coe_toReal h1 h2).symm⟩

/-- The greatest of the masked logits of a row. -/
def top : ℝ := (exists_top ℓ r).choose

theorem fold_top : Finset.fold max (⊥ : EReal) (fun s => if s ≤ r then (ℓ s : EReal) else ⊥) Finset.univ = (top ℓ r : EReal) :=
  (exists_top ℓ r).choose_spec

/-- The exponentials of the masked logits less their greatest entry. -/
def expo (s : Fin n) : ℝ := if s ≤ r then Real.exp (ℓ s - top ℓ r) else 0

theorem sum_expo : ∑ s, expo ℓ r s = mass (fun s => ℓ s - top ℓ r) r := rfl

theorem sum_expo_ne : ∑ s, expo ℓ r s ≠ 0 := by
  rw [sum_expo]; exact (mass_pos _ r).ne'

/-- The weights by these exponentials, for logits that differ from `ℓ` by one number. -/
theorem expo_div (ℓ' : Fin n → ℝ) (a : ℝ) (h : ∀ s, ℓ' s = ℓ s + a) (s : Fin n) :
    expo ℓ' r s / ∑ t, expo ℓ' r t = weight ℓ r s := by
  rw [sum_expo]
  exact weight_shift ℓ r (a - top ℓ' r) (fun t => ℓ' t - top ℓ' r) (fun t => by rw [h]; ring) s

/-- The derivative through the division and the exponential of a softmax, by the weights. -/
theorem softmax_grad (e p g : Fin n → ℝ) (Z : ℝ) (hZ : Z ≠ 0) (hp : ∀ s, e s / Z = p s) (s : Fin n) :
    (g s / Z + -∑ t, g t * (1 / (Z * Z)) * e t) * e s = p s * (g s - ∑ t, p t * g t) := by
  have h1 : ∀ t, e t = p t * Z := fun t => by rw [← hp t, div_mul_cancel₀ _ hZ]
  have h2 : ∑ t, g t * (1 / (Z * Z)) * e t = (∑ t, p t * g t) / Z := by
    rw [Finset.sum_div]
    exact Finset.sum_congr rfl fun t _ => by rw [h1 t]; field_simp
  rw [h2, h1 s]
  field_simp
  ring

end Row

/-! ## The masked terms as the programs print them -/

/-- A choice by the comparison of two positions is the choice by their order. -/
theorem select_le {n : ℕ} (hn : n ≤ 8192) (a b : Fin n) (x y : EReal) :
    Scalar.select (IntOp.cmpi .sle (BitVec.ofNat 32 a.val) (BitVec.ofNat 32 b.val)) x y = if a ≤ b then x else y := by
  have h : IntOp.cmpi CmpIPredicate.sle (BitVec.ofNat 32 a.val) (BitVec.ofNat 32 b.val) = BitVec.ofBool (decide (a ≤ b)) := by
    have ha := a.isLt
    have hb := b.isLt
    simp only [IntOp.cmpi, BitVec.sle_eq_decide, BitVec.toInt_eq_toNat_cond, BitVec.toNat_ofNat, Fin.le_def]
    congr 2
    rw [eq_iff_iff]
    omega
  rw [h]
  by_cases hab : a ≤ b <;> simp [Scalar.select, hab]

/-- The exponential of a masked logit less the greatest one of its row. -/
theorem exp_masked {n : ℕ} (ℓ : Fin n → ℝ) (r s : Fin n) :
    Ideal.exp ((if s ≤ r then (ℓ s : EReal) else ⊥) - (top ℓ r : EReal)) = (expo ℓ r s : EReal) := by
  unfold expo
  split_ifs
  · rw [← EReal.coe_sub, Ideal.exp_coe]
  · rw [EReal.bot_sub, Ideal.exp_bot, EReal.coe_zero]

/-- The choice between a real number and zero is a real number. -/
theorem coe_ite (q : Prop) [Decidable q] (a : ℝ) : (if q then (a : EReal) else 0) = ((if q then a else 0 : ℝ) : EReal) := by
  split_ifs <;> simp

/-! ## The attention -/

/-- The column of entry `d` of head `h`. -/
def col (h : Fin 6) (d : Fin 128) : Fin 768 := ⟨h.val * 128 + d.val, by omega⟩

/-- The column of entry `d` of head `h` in the wider array. -/
def colw (h : Fin 6) (d : Fin 128) : Fin 1024 := ⟨h.val * 128 + d.val, by omega⟩

/-- The head of a column. -/
def head (k : Fin 768) : Fin 6 := ⟨k.val / 128, by omega⟩

section Attention

variable (q : Fin 8192 → Fin 1024 → ℝ) (k v : Fin 8192 → Fin 768 → ℝ) (c : Fin 6 → Fin 8192 → ℝ) (ct : Fin 8192 → Fin 1024 → ℝ)

/-- The product of a query with a key. -/
def qk (h : Fin 6) (r s : Fin 8192) : ℝ := ∑ d, q r (colw h d) * k s (col h d)

/-- The logits less the part that one row shares. -/
def logit (h : Fin 6) (r s : Fin 8192) : ℝ := qk q k h r s * scale - c h s

/-- The attention weights. -/
def prob (h : Fin 6) (r s : Fin 8192) : ℝ := weight (logit q k c h r) r s

/-- The cotangent of the weights. -/
def dprob (h : Fin 6) (r s : Fin 8192) : ℝ := ∑ d, ct r (colw h d) * v s (col h d)

/-- The cotangent of the logits. -/
def dlogit (h : Fin 6) (r s : Fin 8192) : ℝ :=
  prob q k c h r s * (dprob v ct h r s - ∑ t, prob q k c h r t * dprob v ct h r t)

/-- The gradient in the values. -/
def dval (s : Fin 8192) (j : Fin 768) : ℝ := ∑ r, prob q k c (head j) r s * ct r (Fin.castLE (by decide) j)

/-- The gradient in the keys. -/
def dkey (s : Fin 8192) (j : Fin 768) : ℝ := ∑ r, dlogit q k v c ct (head j) r s * scale * q r (Fin.castLE (by decide) j)

/-- The gradient in the queries. -/
def dquery (r : Fin 8192) (j : Fin 768) : ℝ := ∑ s, dlogit q k v c ct (head j) r s * scale * k s j

/-- The row sums of the attention's result against its cotangent. -/
def dmean (h : Fin 6) (r : Fin 8192) : ℝ := ∑ t, prob q k c h r t * dprob v ct h r t

/-- The gradient in the query's sum of log gates. -/
def dgateq (h : Fin 6) (r : Fin 8192) : ℝ := ∑ s, dlogit q k v c ct h r s

/-- The gradient in the key's sum of log gates. -/
def dgate (h : Fin 6) (s : Fin 8192) : ℝ := -∑ r, dlogit q k v c ct h r s

end Attention

end Cert.Fox

end
-- ==== Proof.FoxKvPay.lean ====
/- The attention's gradient in keys, values and sums of log gates: what the kernel computes from one tile of queries and
   one tile of keys, in real numbers. -/
module

public import proofs.«01_k».proof.Proof.FoxMath
public import proofs.«01_k».proof.Proof.Gen.FoxKvIdeal.Skeleton
public import Idealize.ShloMosaic.PureOps.IdealRules

@[expose] public section

noncomputable section

namespace Cert.FoxKvProof

open Cert.Reals Cert.Fox Cert.FoxKvIdeal Cert.FoxKvIdeal.Gen Idealize.ShloMosaic
open scoped BigOperators

theorem named_scale : Named.named (F := Ideal) (φ := .f32) κ "scale_log2_e" 0x3E0293EE#32 = ((scale * (Real.log 2)⁻¹ : ℝ) : EReal) :=
  IdealRules.named_const.ideal_named_scalar _ _ _ _ rfl

theorem named_mask : Named.named (F := Ideal) (φ := .f32) κ "mask" 0xF149F2CA#32 = (⊥ : EReal) :=
  IdealRules.named_const.ideal_named_scalar _ _ _ _ rfl

theorem exp2_def (x : EReal) : (FloatOps.exp2 (F := Ideal) (φ := .f32) x : EReal) = Ideal.exp2 x := rfl

/-- The power of two of a masked exponent. -/
theorem exp2_masked (q : Prop) [Decidable q] (x l : ℝ) :
    Ideal.exp2 ((if q then (x : EReal) else ⊥) - (l : EReal)) = ((if q then Real.rpow 2 (x - l) else 0 : ℝ) : EReal) := by
  split_ifs
  · rw [← EReal.coe_sub, Ideal.exp2_coe]
  · rw [EReal.bot_sub, Ideal.exp2_bot, EReal.coe_zero]

section Tile

variable (a b o v : Fin 1024 → Fin 128 → ℝ) (cr ls de : Fin 1024 → ℝ)

/-- The weights of a tile that the mask keeps whole. -/
def full (r s : Fin 1024) : ℝ := Real.rpow 2 ((∑ d, a r d * b s d) * (scale * (Real.log 2)⁻¹) - cr s - ls r)

/-- The weights of a tile on the diagonal. -/
def diag (r s : Fin 1024) : ℝ := if s ≤ r then full a b cr ls r s else 0

/-- The cotangent of the logits of a tile with weights `w`. -/
def dtile (w : Fin 1024 → Fin 1024 → ℝ) (r s : Fin 1024) : ℝ := w r s * ((∑ d, o r d * v s d) - de r)

end Tile

section Payloads

variable (A B V : Vec Ideal S1024x128 .bf16) (O : Vec Ideal S1024x128 .f32) (C : Vec Ideal S1x1x1024 .f32) (L D : Vec Ideal S1x1024x1 .f32)
  (a b o v : Fin 1024 → Fin 128 → ℝ) (cr ls de : Fin 1024 → ℝ)
  (hA : ∀ r d, A (ix2 r d) = (a r d : EReal)) (hB : ∀ r d, B (ix2 r d) = (b r d : EReal)) (hV : ∀ r d, V (ix2 r d) = (v r d : EReal))
  (hO : ∀ r d, O (ix2 r d) = (o r d : EReal)) (hC : ∀ s, C (ix3 0 0 s) = (cr s : EReal)) (hL : ∀ r, L (ix3 0 r 0) = (ls r : EReal))
  (hD : ∀ r, D (ix3 0 r 0) = (de r : EReal))

include hA hB hC hL

theorem full_0 (r s : Fin 1024) : k0_pay9 (F := Ideal) A B C L (ix2 r s) = (full a b cr ls r s : EReal) := by
  pointwise [k0_pay9]
  simp only [hA, hB, hC, hL, named_scale, ← EReal.coe_mul, ← EReal.coe_sub, sum_coe, exp2_def, Ideal.exp2_coe]
  rfl

theorem full_1 (r s : Fin 1024) : k0_pay12 (F := Ideal) (k0_pay11 A B C) L (ix2 r s) = (full a b cr ls r s : EReal) := by
  pointwise [k0_pay12, k0_pay11]
  simp only [hA, hB, hC, hL, named_scale, ← EReal.coe_mul, ← EReal.coe_sub, sum_coe, exp2_def, Ideal.exp2_coe]
  rfl

theorem full_2 (r s : Fin 1024) : k0_pay14 (F := Ideal) A B C L (ix2 r s) = (full a b cr ls r s : EReal) := by
  pointwise [k0_pay14]
  simp only [hA, hB, hC, hL, named_scale, ← EReal.coe_mul, ← EReal.coe_sub, sum_coe, exp2_def, Ideal.exp2_coe]
  rfl

theorem diag_0 (r s : Fin 1024) : k0_pay31 (F := Ideal) A B C L (ix2 r s) = (diag a b cr ls r s : EReal) := by
  pointwise [k0_pay31]
  simp only [hA, hB, hC, hL, named_scale, named_mask, select_le (by decide : 1024 ≤ 8192), ← EReal.coe_mul, ← EReal.coe_sub, sum_coe, exp2_def, exp2_masked]
  rfl

theorem diag_1 (r s : Fin 1024) : k0_pay34 (F := Ideal) (k0_pay33 A B) C L (ix2 r s) = (diag a b cr ls r s : EReal) := by
  pointwise [k0_pay34, k0_pay33]
  simp only [hA, hB, hC, hL, named_scale, named_mask, select_le (by decide : 1024 ≤ 8192), ← EReal.coe_mul, ← EReal.coe_sub, sum_coe, exp2_def, exp2_masked]
  rfl

theorem diag_2 (r s : Fin 1024) : k0_pay38 (F := Ideal) (k0_pay36 A B C) (k0_pay37 L) (ix2 r s) = (diag a b cr ls r s : EReal) := by
  pointwise [k0_pay38, k0_pay36, k0_pay37]
  simp only [hA, hB, hC, hL, named_scale, named_mask, select_le (by decide : 1024 ≤ 8192), ← EReal.coe_mul, ← EReal.coe_sub, sum_coe, exp2_def, exp2_masked]
  rfl

include hV hO hD

theorem dfull_0 (r s : Fin 1024) :
    k0_pay17 (F := Ideal) (k0_pay9 A B C L) (k0_pay10 O V) (k0_pay16 D) (ix2 r s) = (dtile o v de (full a b cr ls) r s : EReal) := by
  pointwise [k0_pay17, k0_pay10, k0_pay16]
  simp only [full_0 A B C L a b cr ls hA hB hC hL, hO, hV, hD, ← EReal.coe_mul, ← EReal.coe_sub, sum_coe]
  rfl

theorem dfull_1 (r s : Fin 1024) :
    k0_pay18 (F := Ideal) (k0_pay12 (k0_pay11 A B C) L) (k0_pay13 O V) D (ix2 r s) = (dtile o v de (full a b cr ls) r s : EReal) := by
  pointwise [k0_pay18, k0_pay13]
  simp only [full_1 A B C L a b cr ls hA hB hC hL, hO, hV, hD, ← EReal.coe_mul, ← EReal.coe_sub, sum_coe]
  rfl

theorem dfull_2 (r s : Fin 1024) :
    k0_pay19 (F := Ideal) (k0_pay14 A B C L) (k0_pay15 O V) D (ix2 r s) = (dtile o v de (full a b cr ls) r s : EReal) := by
  pointwise [k0_pay19, k0_pay15]
  simp only [full_2 A B C L a b cr ls hA hB hC hL, hO, hV, hD, ← EReal.coe_mul, ← EReal.coe_sub, sum_coe]
  rfl

theorem ddiag_0 (r s : Fin 1024) :
    k0_pay39 (F := Ideal) (k0_pay31 A B C L) (k0_pay32 O V) D (ix2 r s) = (dtile o v de (diag a b cr ls) r s : EReal) := by
  pointwise [k0_pay39, k0_pay32]
  simp only [diag_0 A B C L a b cr ls hA hB hC hL, hO, hV, hD, ← EReal.coe_mul, ← EReal.coe_sub, sum_coe]
  rfl

theorem ddiag_1 (r s : Fin 1024) :
    k0_pay40 (F := Ideal) (k0_pay34 (k0_pay33 A B) C L) (k0_pay35 O V) D (ix2 r s) = (dtile o v de (diag a b cr ls) r s : EReal) := by
  pointwise [k0_pay40, k0_pay35]
  simp only [diag_1 A B C L a b cr ls hA hB hC hL, hO, hV, hD, ← EReal.coe_mul, ← EReal.coe_sub, sum_coe]
  rfl

theorem ddiag_2 (r s : Fin 1024) :
    k0_pay41 (F := Ideal) (k0_pay36 A B C) (k0_pay37 L) O V D (ix2 r s) = (dtile o v de (diag a b cr ls) r s : EReal) := by
  pointwise [k0_pay41]
  simp only [diag_2 A B C L a b cr ls hA hB hC hL, hO, hV, hD, ← EReal.coe_mul, ← EReal.coe_sub, sum_coe]
  rfl

end Payloads

section Steps

variable (W T : FVec Ideal S1024x1024 .f32) (A : Vec Ideal S1024x128 .bf16) (O Z : Vec Ideal S1024x128 .f32) (Y : Vec Ideal S1x1x1024 .f32)
  (w t : Fin 1024 → Fin 1024 → ℝ) (a o : Fin 1024 → Fin 128 → ℝ)
  (hW : ∀ r s, W (ix2 r s) = (w r s : EReal)) (hA : ∀ r d, A (ix2 r d) = (a r d : EReal)) (hO : ∀ r d, O (ix2 r d) = (o r d : EReal))

section Values

include hW hO

theorem dv_f0 (s : Fin 1024) (d : Fin 128) : k0_pay26 (F := Ideal) (k0_pay20 W O) Z (ix2 s d) = Z (ix2 s d) + ((∑ r, w r s * o r d : ℝ) : EReal) := by
  pointwise [k0_pay26, k0_pay20]
  simp only [hW, hO, ← EReal.coe_mul, sum_coe]

theorem dv_f1 (s : Fin 1024) (d : Fin 128) : k0_pay29 (F := Ideal) (k0_pay21 W O) Z (ix2 s d) = Z (ix2 s d) + ((∑ r, w r s * o r d : ℝ) : EReal) := by
  pointwise [k0_pay29, k0_pay21]
  simp only [hW, hO, ← EReal.coe_mul, sum_coe]

theorem dv_f2 (s : Fin 1024) (d : Fin 128) : k0_pay5 (F := Ideal) (k0_pay22 W O) Z (ix2 s d) = Z (ix2 s d) + ((∑ r, w r s * o r d : ℝ) : EReal) := by
  pointwise [k0_pay5, k0_pay22]
  simp only [hW, hO, ← EReal.coe_mul, sum_coe]

theorem dv_d0 (s : Fin 1024) (d : Fin 128) : k0_pay47 (F := Ideal) (k0_pay42 W O) Z (ix2 s d) = Z (ix2 s d) + ((∑ r, w r s * o r d : ℝ) : EReal) := by
  pointwise [k0_pay47, k0_pay42]
  simp only [hW, hO, ← EReal.coe_mul, sum_coe]

theorem dv_d1 (s : Fin 1024) (d : Fin 128) : k0_pay50 (F := Ideal) (k0_pay43 W O) Z (ix2 s d) = Z (ix2 s d) + ((∑ r, w r s * o r d : ℝ) : EReal) := by
  pointwise [k0_pay50, k0_pay43]
  simp only [hW, hO, ← EReal.coe_mul, sum_coe]

end Values

include hO in
theorem dv_d2 (S T : FVec Ideal S1024x1024 .f32) (hS : ∀ r s, k0_pay38 (F := Ideal) S T (ix2 r s) = (w r s : EReal)) (s : Fin 1024) (d : Fin 128) :
    k0_pay53 (F := Ideal) (k0_pay44 S T O) Z (ix2 s d) = Z (ix2 s d) + ((∑ r, w r s * o r d : ℝ) : EReal) := by
  pointwise [k0_pay53, k0_pay44]
  simp only [hS, hO, ← EReal.coe_mul, sum_coe]

section Keys

include hA

theorem dk_f0 (P Q R : FVec Ideal S1024x1024 .f32) (hS : ∀ r s, k0_pay17 (F := Ideal) P Q R (ix2 r s) = (t r s : EReal)) (s : Fin 1024) (d : Fin 128) :
    k0_pay27 (F := Ideal) (k0_pay23 P Q R A) Z (ix2 s d) = Z (ix2 s d) + (((∑ r, t r s * a r d) * scale : ℝ) : EReal) := by
  pointwise [k0_pay27, k0_pay23]
  simp only [hS, hA, ofBits_scale, ← EReal.coe_mul, sum_coe]

theorem dk_f1 (P Q : FVec Ideal S1024x1024 .f32) (R : Vec Ideal S1x1024x1 .f32) (hS : ∀ r s, k0_pay18 (F := Ideal) P Q R (ix2 r s) = (t r s : EReal)) (s : Fin 1024) (d : Fin 128) :
    k0_pay30 (F := Ideal) (k0_pay24 P Q R A) Z (ix2 s d) = Z (ix2 s d) + (((∑ r, t r s * a r d) * scale : ℝ) : EReal) := by
  pointwise [k0_pay30, k0_pay24]
  simp only [hS, hA, ofBits_scale, ← EReal.coe_mul, sum_coe]

theorem dk_f2 (P Q : FVec Ideal S1024x1024 .f32) (R : Vec Ideal S1x1024x1 .f32) (hS : ∀ r s, k0_pay19 (F := Ideal) P Q R (ix2 r s) = (t r s : EReal)) (s : Fin 1024) (d : Fin 128) :
    k0_pay6 (F := Ideal) (k0_pay25 P Q R A) Z (ix2 s d) = Z (ix2 s d) + (((∑ r, t r s * a r d) * scale : ℝ) : EReal) := by
  pointwise [k0_pay6, k0_pay25]
  simp only [hS, hA, ofBits_scale, ← EReal.coe_mul, sum_coe]

variable (hT : ∀ r s, T (ix2 r s) = (t r s : EReal))

include hT

theorem dk_d0 (s : Fin 1024) (d : Fin 128) : k0_pay48 (F := Ideal) T A Z (ix2 s d) = Z (ix2 s d) + (((∑ r, t r s * a r d) * scale : ℝ) : EReal) := by
  pointwise [k0_pay48]
  simp only [hT, hA, ofBits_scale, ← EReal.coe_mul, sum_coe]

theorem dk_d1 (s : Fin 1024) (d : Fin 128) : k0_pay51 (F := Ideal) (k0_pay45 T A) Z (ix2 s d) = Z (ix2 s d) + (((∑ r, t r s * a r d) * scale : ℝ) : EReal) := by
  pointwise [k0_pay51, k0_pay45]
  simp only [hT, hA, ofBits_scale, ← EReal.coe_mul, sum_coe]

theorem dk_d2 (s : Fin 1024) (d : Fin 128) : k0_pay54 (F := Ideal) (k0_pay46 T A) Z (ix2 s d) = Z (ix2 s d) + (((∑ r, t r s * a r d) * scale : ℝ) : EReal) := by
  pointwise [k0_pay54, k0_pay46]
  simp only [hT, hA, ofBits_scale, ← EReal.coe_mul, sum_coe]

end Keys

section Gates

variable (hT : ∀ r s, T (ix2 r s) = (t r s : EReal))

include hT

theorem dc_f0 (s : Fin 1024) : k0_pay28 (F := Ideal) T Y (ix3 0 0 s) = Y (ix3 0 0 s) + ((-∑ r, t r s : ℝ) : EReal) := by
  pointwise [k0_pay28]
  simp only [hT, sum_coe, EReal.coe_neg, sub_eq_add_neg]

theorem dc_f1 (s : Fin 1024) : k0_pay4 (F := Ideal) T Y (ix3 0 0 s) = Y (ix3 0 0 s) + ((-∑ r, t r s : ℝ) : EReal) := by
  pointwise [k0_pay4]
  simp only [hT, sum_coe, EReal.coe_neg, sub_eq_add_neg]

theorem dc_f2 (s : Fin 1024) : k0_pay7 (F := Ideal) T Y (ix3 0 0 s) = Y (ix3 0 0 s) + ((-∑ r, t r s : ℝ) : EReal) := by
  pointwise [k0_pay7]
  simp only [hT, sum_coe, EReal.coe_neg, sub_eq_add_neg]

theorem dc_d0 (s : Fin 1024) : k0_pay49 (F := Ideal) T Y (ix3 0 0 s) = Y (ix3 0 0 s) + ((-∑ r, t r s : ℝ) : EReal) := by
  pointwise [k0_pay49]
  simp only [hT, sum_coe, EReal.coe_neg, sub_eq_add_neg]

theorem dc_d1 (s : Fin 1024) : k0_pay52 (F := Ideal) T Y (ix3 0 0 s) = Y (ix3 0 0 s) + ((-∑ r, t r s : ℝ) : EReal) := by
  pointwise [k0_pay52]
  simp only [hT, sum_coe, EReal.coe_neg, sub_eq_add_neg]

theorem dc_d2 (s : Fin 1024) : k0_pay8 (F := Ideal) (k0_pay55 Y) (k0_pay56 T) (ix3 0 0 s) = Y (ix3 0 0 s) + ((-∑ r, t r s : ℝ) : EReal) := by
  pointwise [k0_pay8, k0_pay55, k0_pay56]
  simp only [hT, sum_coe, EReal.coe_neg, sub_eq_add_neg]

end Gates

end Steps

end Cert.FoxKvProof

end
-- ==== Proof.FoxKvPieces.lean ====
/- The three heads that a block of the attention holds: reading one head's part and putting three of them together. -/
module

public import Idealize.ShloMosaic.Lib.Pipeline.ValueKit
public import Idealize.ShloMosaic.Lib.Pipeline.ReadBack
public import Idealize.ShloMosaic.Lib.Pointwise

@[expose] public section

noncomputable section

namespace Cert.Heads

open Idealize.ShloMosaic

/-- The column of entry `d` of head `h` in a block of three heads. -/
def at3 (h : Fin 3) (d : Fin 128) : Fin 384 := ⟨128 * h.val + d.val, by omega⟩

theorem exists_at3 (e : Fin 384) : ∃ h d, e = at3 h d :=
  ⟨⟨e.val / 128, by omega⟩, ⟨e.val % 128, by omega⟩, Fin.ext (by simp only [at3]; omega)⟩

variable {Val : EltTy → Type} [∀ e, Nonempty (Val e)] {e : EltTy}

theorem mem_emb {s : Shape} (r : Rect s) (x : r.shape.Idx) : r.emb x ∈ r.set := by
  rw [LoadRect.mem_set]
  exact fun a => ⟨x a, (x a).isLt, rfl⟩

/-- An index of one head's columns, in the block. -/
theorem emb_slab {M o : ℕ} (h : Fin 3) (ho : o = 128 * h.val) (inb : ∀ i : Fin 2, ![0, o] i + ![M, 128] i ≤ ![M, 384] i) (s : Fin M) (d : Fin 128) :
    (Rect.unit (s := ⟨2, ![M, 384]⟩) ![0, o] ![M, 128] inb).emb (ix2 s d) = ix2 s (at3 h d) := by
  refine funext fun i => Fin.ext ?_
  match i with
  | ⟨0, _⟩ => change 0 + 1 * s.val = s.val; omega
  | ⟨1, _⟩ => change o + 1 * d.val = 128 * h.val + d.val; omega

/-- One head's columns loaded from a block. -/
theorem ld_slab {M o : ℕ} (A : (⟨2, ![M, 384]⟩ : Shape).Idx → Val e) (h : Fin 3) (ho : o = 128 * h.val)
    (inb : ∀ i : Fin 2, ![0, o] i + ![M, 128] i ≤ ![M, 384] i) (s : Fin M) (d : Fin 128) :
    (View.ld A (Rect.unit (s := ⟨2, ![M, 384]⟩) ![0, o] ![M, 128] inb) : (⟨2, ![M, 128]⟩ : Shape).Idx → Val e) (ix2 s d) = A (ix2 s (at3 h d)) :=
  congrArg A (emb_slab h ho inb s d)

theorem slab_piece {M o : ℕ} (G : (⟨2, ![M, 384]⟩ : Shape).Idx → Val e) (h : Fin 3) (ho : o = 128 * h.val)
    (inb : ∀ i : Fin 2, ![0, o] i + ![M, 128] i ≤ ![M, 384] i)
    (P : (⟨2, ![M, 128]⟩ : Shape).Idx → Val e) (hP : ∀ s d, P (ix2 s d) = G (ix2 s (at3 h d)))
    (x : (Rect.unit (s := ⟨2, ![M, 384]⟩) ![0, o] ![M, 128] inb).shape.Idx) :
    P x = G ((Rect.unit (s := ⟨2, ![M, 384]⟩) ![0, o] ![M, 128] inb).emb x) := by
  obtain ⟨s, d, rfl⟩ : ∃ (s : Fin M) (d : Fin 128), x = ix2 s d := ⟨_, _, eq_ix2 x⟩
  rw [hP, emb_slab h ho inb s d]

theorem mem_slab {M o : ℕ} (h : Fin 3) (ho : o = 128 * h.val) (inb : ∀ i : Fin 2, ![0, o] i + ![M, 128] i ≤ ![M, 384] i) (s : Fin M) (d : Fin 128) :
    (ix2 s (at3 h d) : (⟨2, ![M, 384]⟩ : Shape).Idx) ∈ (Rect.unit (s := ⟨2, ![M, 384]⟩) ![0, o] ![M, 128] inb).set := by
  rw [← emb_slab h ho inb s d]
  exact mem_emb _ _

/-- Three heads' columns stored into a block are what the block holds. -/
theorem slabs {M : ℕ} (G : (⟨2, ![M, 384]⟩ : Shape).Idx → Val e)
    (i2 : ∀ i : Fin 2, ![0, 256] i + ![M, 128] i ≤ ![M, 384] i) (i1 : ∀ i : Fin 2, ![0, 128] i + ![M, 128] i ≤ ![M, 384] i)
    (i0 : ∀ i : Fin 2, ![0, 0] i + ![M, 128] i ≤ ![M, 384] i) (P2 P1 P0 : (⟨2, ![M, 128]⟩ : Shape).Idx → Val e)
    (T : List (View.Piece Val ⟨2, ![M, 384]⟩ e))
    (h2 : ∀ s d, P2 (ix2 s d) = G (ix2 s (at3 2 d))) (h1 : ∀ s d, P1 (ix2 s d) = G (ix2 s (at3 1 d))) (h0 : ∀ s d, P0 (ix2 s d) = G (ix2 s (at3 0 d)))
    (s : Fin M) (h : Fin 3) (d : Fin 128) :
    View.canon ([(⟨Rect.unit (s := ⟨2, ![M, 384]⟩) ![0, 256] ![M, 128] i2, P2⟩ : View.Piece Val _ e),
      ⟨Rect.unit (s := ⟨2, ![M, 384]⟩) ![0, 128] ![M, 128] i1, P1⟩, ⟨Rect.unit (s := ⟨2, ![M, 384]⟩) ![0, 0] ![M, 128] i0, P0⟩] ++ T) (ix2 s (at3 h d))
      = G (ix2 s (at3 h d)) := by
  refine View.canon_append_of_piecesOf G T _ ?_ _ ?_
  · exact ⟨slab_piece G 2 rfl i2 P2 h2, slab_piece G 1 rfl i1 P1 h1, slab_piece G 0 rfl i0 P0 h0, trivial⟩
  simp only [List.mem_cons, List.not_mem_nil, or_false, exists_eq_or_imp, exists_eq_left]
  match h with
  | 2 => exact .inl (mem_slab 2 rfl i2 s d)
  | 1 => exact .inr (.inl (mem_slab 1 rfl i1 s d))
  | 0 => exact .inr (.inr (mem_slab 0 rfl i0 s d))

/-- An index of one head's numbers, in the block. -/
theorem emb_head {A B o : ℕ} (h : Fin 3) (ho : o = h.val) (inb : ∀ i : Fin 3, ![o, 0, 0] i + ![1, A, B] i ≤ ![3, A, B] i) (r : Fin A) (s : Fin B) :
    (Rect.unit (s := ⟨3, ![3, A, B]⟩) ![o, 0, 0] ![1, A, B] inb).emb (ix3 0 r s) = ix3 h r s := by
  refine funext fun i => Fin.ext ?_
  match i with
  | ⟨0, _⟩ => change o + 1 * 0 = h.val; omega
  | ⟨1, _⟩ => change 0 + 1 * r.val = r.val; omega
  | ⟨2, _⟩ => change 0 + 1 * s.val = s.val; omega

/-- One head's numbers loaded from a block that has the heads as its first axis. -/
theorem ld_head {A B o : ℕ} (X : (⟨3, ![3, A, B]⟩ : Shape).Idx → Val e) (h : Fin 3) (ho : o = h.val)
    (inb : ∀ i : Fin 3, ![o, 0, 0] i + ![1, A, B] i ≤ ![3, A, B] i) (r : Fin A) (s : Fin B) :
    (View.ld X (Rect.unit (s := ⟨3, ![3, A, B]⟩) ![o, 0, 0] ![1, A, B] inb) : (⟨3, ![1, A, B]⟩ : Shape).Idx → Val e) (ix3 0 r s) = X (ix3 h r s) :=
  congrArg X (emb_head h ho inb r s)

theorem head_piece {A B o : ℕ} (G : (⟨3, ![3, A, B]⟩ : Shape).Idx → Val e) (h : Fin 3) (ho : o = h.val)
    (inb : ∀ i : Fin 3, ![o, 0, 0] i + ![1, A, B] i ≤ ![3, A, B] i)
    (P : (⟨3, ![1, A, B]⟩ : Shape).Idx → Val e) (hP : ∀ r s, P (ix3 0 r s) = G (ix3 h r s))
    (x : (Rect.unit (s := ⟨3, ![3, A, B]⟩) ![o, 0, 0] ![1, A, B] inb).shape.Idx) :
    P x = G ((Rect.unit (s := ⟨3, ![3, A, B]⟩) ![o, 0, 0] ![1, A, B] inb).emb x) := by
  obtain ⟨z, r, s, rfl⟩ : ∃ (z : Fin 1) (r : Fin A) (s : Fin B), x = ix3 z r s := ⟨_, _, _, eq_ix3 x⟩
  obtain rfl : z = 0 := Subsingleton.elim _ _
  rw [hP, emb_head h ho inb r s]

theorem mem_head {A B o : ℕ} (h : Fin 3) (ho : o = h.val) (inb : ∀ i : Fin 3, ![o, 0, 0] i + ![1, A, B] i ≤ ![3, A, B] i) (r : Fin A) (s : Fin B) :
    (ix3 h r s : (⟨3, ![3, A, B]⟩ : Shape).Idx) ∈ (Rect.unit (s := ⟨3, ![3, A, B]⟩) ![o, 0, 0] ![1, A, B] inb).set := by
  rw [← emb_head h ho inb r s]
  exact mem_emb _ _

/-- Three heads' numbers stored into a block are what the block holds. -/
theorem leads {A B : ℕ} (G : (⟨3, ![3, A, B]⟩ : Shape).Idx → Val e)
    (i2 : ∀ i : Fin 3, ![2, 0, 0] i + ![1, A, B] i ≤ ![3, A, B] i) (i1 : ∀ i : Fin 3, ![1, 0, 0] i + ![1, A, B] i ≤ ![3, A, B] i)
    (i0 : ∀ i : Fin 3, ![0, 0, 0] i + ![1, A, B] i ≤ ![3, A, B] i) (P2 P1 P0 : (⟨3, ![1, A, B]⟩ : Shape).Idx → Val e)
    (T : List (View.Piece Val ⟨3, ![3, A, B]⟩ e))
    (h2 : ∀ r s, P2 (ix3 0 r s) = G (ix3 2 r s)) (h1 : ∀ r s, P1 (ix3 0 r s) = G (ix3 1 r s)) (h0 : ∀ r s, P0 (ix3 0 r s) = G (ix3 0 r s))
    (h : Fin 3) (r : Fin A) (s : Fin B) :
    View.canon ([(⟨Rect.unit (s := ⟨3, ![3, A, B]⟩) ![2, 0, 0] ![1, A, B] i2, P2⟩ : View.Piece Val _ e),
      ⟨Rect.unit (s := ⟨3, ![3, A, B]⟩) ![1, 0, 0] ![1, A, B] i1, P1⟩, ⟨Rect.unit (s := ⟨3, ![3, A, B]⟩) ![0, 0, 0] ![1, A, B] i0, P0⟩] ++ T) (ix3 h r s)
      = G (ix3 h r s) := by
  refine View.canon_append_of_piecesOf G T _ ?_ _ ?_
  · exact ⟨head_piece G 2 rfl i2 P2 h2, head_piece G 1 rfl i1 P1 h1, head_piece G 0 rfl i0 P0 h0, trivial⟩
  simp only [List.mem_cons, List.not_mem_nil, or_false, exists_eq_or_imp, exists_eq_left]
  match h with
  | 2 => exact .inl (mem_head 2 rfl i2 r s)
  | 1 => exact .inr (.inl (mem_head 1 rfl i1 r s))
  | 0 => exact .inr (.inr (mem_head 0 rfl i0 r s))

end Cert.Heads

end
-- ==== Proof.FoxKvTile.lean ====
/- What one grid point adds to the three gradients, its block of three heads taken together. -/
module

public import proofs.«01_k».proof.Proof.FoxKvPay
public import proofs.«01_k».proof.Proof.FoxKvPieces

@[expose] public section

set_option maxRecDepth 16384

noncomputable section

namespace Cert.FoxKvProof

open Cert.Reals Cert.Fox Cert.Heads Cert.FoxKvIdeal Cert.FoxKvIdeal.Gen Idealize.ShloMosaic Idealize.ShloMosaic.TcCoe Idealize.SL.Sem
open scoped BigOperators

/-- The rectangles of head 0 in a block, and the block's part there. -/
abbrev rect0 : Rect S1024x384 := Rect.unit (s := S1024x384) ![0, 0] ![1024, 128] inb_S1024x384_S1024x128_0_0
abbrev rectLine0 : Rect S3x1x1024 := Rect.unit (s := S3x1x1024) ![0, 0, 0] ![1, 1, 1024] inb_S3x1x1024_S1x1x1024_0_0_0
abbrev rectColm0 : Rect S3x1024x1 := Rect.unit (s := S3x1024x1) ![0, 0, 0] ![1, 1024, 1] inb_S3x1024x1_S1x1024x1_0_0_0
abbrev slab0 {e : EltTy} (X : Vec Ideal S1024x384 e) : Vec Ideal S1024x128 e := View.ld (Val := Elt Ideal) X rect0
abbrev line0 (X : Vec Ideal S3x1x1024 .f32) : Vec Ideal S1x1x1024 .f32 := View.ld (Val := Elt Ideal) X rectLine0
abbrev colm0 (X : Vec Ideal S3x1024x1 .f32) : Vec Ideal S1x1024x1 .f32 := View.ld (Val := Elt Ideal) X rectColm0

theorem slab0_at {e : EltTy} (X : Vec Ideal S1024x384 e) (r : Fin 1024) (d : Fin 128) : slab0 X (ix2 r d) = X (ix2 r (at3 0 d)) :=
  ld_slab (Val := Elt Ideal) X 0 rfl inb_S1024x384_S1024x128_0_0 r d

theorem line0_at (X : Vec Ideal S3x1x1024 .f32) (s : Fin 1024) : line0 X (ix3 0 0 s) = X (ix3 0 0 s) :=
  ld_head (Val := Elt Ideal) X 0 rfl inb_S3x1x1024_S1x1x1024_0_0_0 0 s

theorem colm0_at (X : Vec Ideal S3x1024x1 .f32) (r : Fin 1024) : colm0 X (ix3 0 r 0) = X (ix3 0 r 0) :=
  ld_head (Val := Elt Ideal) X 0 rfl inb_S3x1024x1_S1x1024x1_0_0_0 r 0

/-- The rectangles of head 1 in a block, and the block's part there. -/
abbrev rect1 : Rect S1024x384 := Rect.unit (s := S1024x384) ![0, 128] ![1024, 128] inb_S1024x384_S1024x128_0_128
abbrev rectLine1 : Rect S3x1x1024 := Rect.unit (s := S3x1x1024) ![1, 0, 0] ![1, 1, 1024] inb_S3x1x1024_S1x1x1024_1_0_0
abbrev rectColm1 : Rect S3x1024x1 := Rect.unit (s := S3x1024x1) ![1, 0, 0] ![1, 1024, 1] inb_S3x1024x1_S1x1024x1_1_0_0
abbrev slab1 {e : EltTy} (X : Vec Ideal S1024x384 e) : Vec Ideal S1024x128 e := View.ld (Val := Elt Ideal) X rect1
abbrev line1 (X : Vec Ideal S3x1x1024 .f32) : Vec Ideal S1x1x1024 .f32 := View.ld (Val := Elt Ideal) X rectLine1
abbrev colm1 (X : Vec Ideal S3x1024x1 .f32) : Vec Ideal S1x1024x1 .f32 := View.ld (Val := Elt Ideal) X rectColm1

theorem slab1_at {e : EltTy} (X : Vec Ideal S1024x384 e) (r : Fin 1024) (d : Fin 128) : slab1 X (ix2 r d) = X (ix2 r (at3 1 d)) :=
  ld_slab (Val := Elt Ideal) X 1 rfl inb_S1024x384_S1024x128_0_128 r d

theorem line1_at (X : Vec Ideal S3x1x1024 .f32) (s : Fin 1024) : line1 X (ix3 0 0 s) = X (ix3 1 0 s) :=
  ld_head (Val := Elt Ideal) X 1 rfl inb_S3x1x1024_S1x1x1024_1_0_0 0 s

theorem colm1_at (X : Vec Ideal S3x1024x1 .f32) (r : Fin 1024) : colm1 X (ix3 0 r 0) = X (ix3 1 r 0) :=
  ld_head (Val := Elt Ideal) X 1 rfl inb_S3x1024x1_S1x1024x1_1_0_0 r 0

/-- The rectangles of head 2 in a block, and the block's part there. -/
abbrev rect2 : Rect S1024x384 := Rect.unit (s := S1024x384) ![0, 256] ![1024, 128] inb_S1024x384_S1024x128_0_256
abbrev rectLine2 : Rect S3x1x1024 := Rect.unit (s := S3x1x1024) ![2, 0, 0] ![1, 1, 1024] inb_S3x1x1024_S1x1x1024_2_0_0
abbrev rectColm2 : Rect S3x1024x1 := Rect.unit (s := S3x1024x1) ![2, 0, 0] ![1, 1024, 1] inb_S3x1024x1_S1x1024x1_2_0_0
abbrev slab2 {e : EltTy} (X : Vec Ideal S1024x384 e) : Vec Ideal S1024x128 e := View.ld (Val := Elt Ideal) X rect2
abbrev line2 (X : Vec Ideal S3x1x1024 .f32) : Vec Ideal S1x1x1024 .f32 := View.ld (Val := Elt Ideal) X rectLine2
abbrev colm2 (X : Vec Ideal S3x1024x1 .f32) : Vec Ideal S1x1024x1 .f32 := View.ld (Val := Elt Ideal) X rectColm2

theorem slab2_at {e : EltTy} (X : Vec Ideal S1024x384 e) (r : Fin 1024) (d : Fin 128) : slab2 X (ix2 r d) = X (ix2 r (at3 2 d)) :=
  ld_slab (Val := Elt Ideal) X 2 rfl inb_S1024x384_S1024x128_0_256 r d

theorem line2_at (X : Vec Ideal S3x1x1024 .f32) (s : Fin 1024) : line2 X (ix3 0 0 s) = X (ix3 2 0 s) :=
  ld_head (Val := Elt Ideal) X 2 rfl inb_S3x1x1024_S1x1x1024_2_0_0 0 s

theorem colm2_at (X : Vec Ideal S3x1024x1 .f32) (r : Fin 1024) : colm2 X (ix3 0 r 0) = X (ix3 2 r 0) :=
  ld_head (Val := Elt Ideal) X 2 rfl inb_S3x1024x1_S1x1024x1_2_0_0 r 0

/-- A block with a number added at each entry of each head. -/
def plus (Z : Vec Ideal S1024x384 .f32) (f : Fin 3 → Fin 1024 → Fin 128 → ℝ) : Vec Ideal S1024x384 .f32 :=
  fun y => Z y + ((f ⟨(y 1).val / 128, Nat.div_lt_of_lt_mul (y 1).isLt⟩ (y 0) ⟨(y 1).val % 128, Nat.mod_lt _ (by decide)⟩ : ℝ) : EReal)

theorem plus_at (Z : Vec Ideal S1024x384 .f32) (f : Fin 3 → Fin 1024 → Fin 128 → ℝ) (s : Fin 1024) (h : Fin 3) (d : Fin 128) :
    plus Z f (ix2 s (at3 h d)) = Z (ix2 s (at3 h d)) + ((f h s d : ℝ) : EReal) := by
  have e1 : (⟨(at3 h d).val / 128, Nat.div_lt_of_lt_mul (at3 h d).isLt⟩ : Fin 3) = h := Fin.ext (by simp only [at3]; omega)
  have e2 : (⟨(at3 h d).val % 128, Nat.mod_lt _ (by decide)⟩ : Fin 128) = d := Fin.ext (by simp only [at3]; omega)
  exact congrArg (fun x : ℝ => Z (ix2 s (at3 h d)) + (x : EReal)) (congrArg₂ (fun a b => f a s b) e1 e2)

theorem plus_eq (Z : Vec Ideal S1024x384 .f32) (f : Fin 3 → Fin 1024 → Fin 128 → ℝ) (s : Fin 1024) (h : Fin 3) (d : Fin 128) {x z : EReal}
    (hx : x = z + ((f h s d : ℝ) : EReal)) (hz : z = Z (ix2 s (at3 h d))) : x = plus Z f (ix2 s (at3 h d)) :=
  hx.trans ((congrArg (fun u : EReal => u + ((f h s d : ℝ) : EReal)) hz).trans (plus_at Z f s h d).symm)

/-- A block of three rows with a number added at each entry. -/
def plusLine (Y : Vec Ideal S3x1x1024 .f32) (f : Fin 3 → Fin 1024 → ℝ) : Vec Ideal S3x1x1024 .f32 := fun y => Y y + ((f (y 0) (y 2) : ℝ) : EReal)

theorem plusLine_at (Y : Vec Ideal S3x1x1024 .f32) (f : Fin 3 → Fin 1024 → ℝ) (h : Fin 3) (s : Fin 1024) :
    plusLine Y f (ix3 h 0 s) = Y (ix3 h 0 s) + ((f h s : ℝ) : EReal) := rfl

variable (A B V : Vec Ideal S1024x384 .bf16) (O : Vec Ideal S1024x384 .f32) (C : Vec Ideal S3x1x1024 .f32) (L D : Vec Ideal S3x1024x1 .f32)
  (a b o v : Fin 3 → Fin 1024 → Fin 128 → ℝ) (cr ls de : Fin 3 → Fin 1024 → ℝ)

/-- The blocks of a grid point hold real numbers, head by head. -/
structure Blocks : Prop where
  hA : ∀ h r d, A (ix2 r (at3 h d)) = (a h r d : EReal)
  hB : ∀ h r d, B (ix2 r (at3 h d)) = (b h r d : EReal)
  hO : ∀ h r d, O (ix2 r (at3 h d)) = (o h r d : EReal)
  hV : ∀ h r d, V (ix2 r (at3 h d)) = (v h r d : EReal)
  hC : ∀ h s, C (ix3 h 0 s) = (cr h s : EReal)
  hL : ∀ h r, L (ix3 h r 0) = (ls h r : EReal)
  hD : ∀ h r, D (ix3 h r 0) = (de h r : EReal)

/-- The weights, and the gradient in the logits, of head `h` of a tile below the diagonal. -/
def fullW (h : Fin 3) : Fin 1024 → Fin 1024 → ℝ := full (a h) (b h) (cr h) (ls h)
def fullT (h : Fin 3) : Fin 1024 → Fin 1024 → ℝ := dtile (o h) (v h) (de h) (fullW a b cr ls h)

/-- The weights, and the gradient in the logits, of head `h` of a tile on the diagonal. -/
def diagW (h : Fin 3) : Fin 1024 → Fin 1024 → ℝ := diag (a h) (b h) (cr h) (ls h)
def diagT (h : Fin 3) : Fin 1024 → Fin 1024 → ℝ := dtile (o h) (v h) (de h) (diagW a b cr ls h)

variable {A B V O C L D a b o v cr ls de} (H : Blocks A B V O C L D a b o v cr ls de)

include H

theorem fullW0 (r s : Fin 1024) : k0_pay9 (slab0 A) (slab0 B) (line0 C) (colm0 L) (ix2 r s) = (fullW a b cr ls 0 r s : EReal) :=
  full_0 _ _ _ _ (a 0) (b 0) (cr 0) (ls 0) (fun r d => (slab0_at A r d).trans (H.hA 0 r d)) (fun r d => (slab0_at B r d).trans (H.hB 0 r d))
    (fun s => (line0_at C s).trans (H.hC 0 s)) (fun r => (colm0_at L r).trans (H.hL 0 r)) r s

theorem fullT0 (r s : Fin 1024) : k0_pay17 (k0_pay9 (slab0 A) (slab0 B) (line0 C) (colm0 L)) (k0_pay10 (slab0 O) (slab0 V)) (k0_pay16 (colm0 D)) (ix2 r s) = (fullT a b o v cr ls de 0 r s : EReal) :=
  dfull_0 _ _ _ _ _ _ _ (a 0) (b 0) (o 0) (v 0) (cr 0) (ls 0) (de 0) (fun r d => (slab0_at A r d).trans (H.hA 0 r d)) (fun r d => (slab0_at B r d).trans (H.hB 0 r d))
    (fun r d => (slab0_at V r d).trans (H.hV 0 r d)) (fun r d => (slab0_at O r d).trans (H.hO 0 r d))
    (fun s => (line0_at C s).trans (H.hC 0 s)) (fun r => (colm0_at L r).trans (H.hL 0 r)) (fun r => (colm0_at D r).trans (H.hD 0 r)) r s

theorem diagW0 (r s : Fin 1024) : k0_pay31 (slab0 A) (slab0 B) (line0 C) (colm0 L) (ix2 r s) = (diagW a b cr ls 0 r s : EReal) :=
  diag_0 _ _ _ _ (a 0) (b 0) (cr 0) (ls 0) (fun r d => (slab0_at A r d).trans (H.hA 0 r d)) (fun r d => (slab0_at B r d).trans (H.hB 0 r d))
    (fun s => (line0_at C s).trans (H.hC 0 s)) (fun r => (colm0_at L r).trans (H.hL 0 r)) r s

theorem diagT0 (r s : Fin 1024) : k0_pay39 (k0_pay31 (slab0 A) (slab0 B) (line0 C) (colm0 L)) (k0_pay32 (slab0 O) (slab0 V)) (colm0 D) (ix2 r s) = (diagT a b o v cr ls de 0 r s : EReal) :=
  ddiag_0 _ _ _ _ _ _ _ (a 0) (b 0) (o 0) (v 0) (cr 0) (ls 0) (de 0) (fun r d => (slab0_at A r d).trans (H.hA 0 r d)) (fun r d => (slab0_at B r d).trans (H.hB 0 r d))
    (fun r d => (slab0_at V r d).trans (H.hV 0 r d)) (fun r d => (slab0_at O r d).trans (H.hO 0 r d))
    (fun s => (line0_at C s).trans (H.hC 0 s)) (fun r => (colm0_at L r).trans (H.hL 0 r)) (fun r => (colm0_at D r).trans (H.hD 0 r)) r s

theorem fullW1 (r s : Fin 1024) : k0_pay12 (k0_pay11 (slab1 A) (slab1 B) (line1 C)) (colm1 L) (ix2 r s) = (fullW a b cr ls 1 r s : EReal) :=
  full_1 _ _ _ _ (a 1) (b 1) (cr 1) (ls 1) (fun r d => (slab1_at A r d).trans (H.hA 1 r d)) (fun r d => (slab1_at B r d).trans (H.hB 1 r d))
    (fun s => (line1_at C s).trans (H.hC 1 s)) (fun r => (colm1_at L r).trans (H.hL 1 r)) r s

theorem fullT1 (r s : Fin 1024) : k0_pay18 (k0_pay12 (k0_pay11 (slab1 A) (slab1 B) (line1 C)) (colm1 L)) (k0_pay13 (slab1 O) (slab1 V)) (colm1 D) (ix2 r s) = (fullT a b o v cr ls de 1 r s : EReal) :=
  dfull_1 _ _ _ _ _ _ _ (a 1) (b 1) (o 1) (v 1) (cr 1) (ls 1) (de 1) (fun r d => (slab1_at A r d).trans (H.hA 1 r d)) (fun r d => (slab1_at B r d).trans (H.hB 1 r d))
    (fun r d => (slab1_at V r d).trans (H.hV 1 r d)) (fun r d => (slab1_at O r d).trans (H.hO 1 r d))
    (fun s => (line1_at C s).trans (H.hC 1 s)) (fun r => (colm1_at L r).trans (H.hL 1 r)) (fun r => (colm1_at D r).trans (H.hD 1 r)) r s

theorem diagW1 (r s : Fin 1024) : k0_pay34 (k0_pay33 (slab1 A) (slab1 B)) (line1 C) (colm1 L) (ix2 r s) = (diagW a b cr ls 1 r s : EReal) :=
  diag_1 _ _ _ _ (a 1) (b 1) (cr 1) (ls 1) (fun r d => (slab1_at A r d).trans (H.hA 1 r d)) (fun r d => (slab1_at B r d).trans (H.hB 1 r d))
    (fun s => (line1_at C s).trans (H.hC 1 s)) (fun r => (colm1_at L r).trans (H.hL 1 r)) r s

theorem diagT1 (r s : Fin 1024) : k0_pay40 (k0_pay34 (k0_pay33 (slab1 A) (slab1 B)) (line1 C) (colm1 L)) (k0_pay35 (slab1 O) (slab1 V)) (colm1 D) (ix2 r s) = (diagT a b o v cr ls de 1 r s : EReal) :=
  ddiag_1 _ _ _ _ _ _ _ (a 1) (b 1) (o 1) (v 1) (cr 1) (ls 1) (de 1) (fun r d => (slab1_at A r d).trans (H.hA 1 r d)) (fun r d => (slab1_at B r d).trans (H.hB 1 r d))
    (fun r d => (slab1_at V r d).trans (H.hV 1 r d)) (fun r d => (slab1_at O r d).trans (H.hO 1 r d))
    (fun s => (line1_at C s).trans (H.hC 1 s)) (fun r => (colm1_at L r).trans (H.hL 1 r)) (fun r => (colm1_at D r).trans (H.hD 1 r)) r s

theorem fullW2 (r s : Fin 1024) : k0_pay14 (slab2 A) (slab2 B) (line2 C) (colm2 L) (ix2 r s) = (fullW a b cr ls 2 r s : EReal) :=
  full_2 _ _ _ _ (a 2) (b 2) (cr 2) (ls 2) (fun r d => (slab2_at A r d).trans (H.hA 2 r d)) (fun r d => (slab2_at B r d).trans (H.hB 2 r d))
    (fun s => (line2_at C s).trans (H.hC 2 s)) (fun r => (colm2_at L r).trans (H.hL 2 r)) r s

theorem fullT2 (r s : Fin 1024) : k0_pay19 (k0_pay14 (slab2 A) (slab2 B) (line2 C) (colm2 L)) (k0_pay15 (slab2 O) (slab2 V)) (colm2 D) (ix2 r s) = (fullT a b o v cr ls de 2 r s : EReal) :=
  dfull_2 _ _ _ _ _ _ _ (a 2) (b 2) (o 2) (v 2) (cr 2) (ls 2) (de 2) (fun r d => (slab2_at A r d).trans (H.hA 2 r d)) (fun r d => (slab2_at B r d).trans (H.hB 2 r d))
    (fun r d => (slab2_at V r d).trans (H.hV 2 r d)) (fun r d => (slab2_at O r d).trans (H.hO 2 r d))
    (fun s => (line2_at C s).trans (H.hC 2 s)) (fun r => (colm2_at L r).trans (H.hL 2 r)) (fun r => (colm2_at D r).trans (H.hD 2 r)) r s

theorem diagW2 (r s : Fin 1024) : k0_pay38 (k0_pay36 (slab2 A) (slab2 B) (line2 C)) (k0_pay37 (colm2 L)) (ix2 r s) = (diagW a b cr ls 2 r s : EReal) :=
  diag_2 _ _ _ _ (a 2) (b 2) (cr 2) (ls 2) (fun r d => (slab2_at A r d).trans (H.hA 2 r d)) (fun r d => (slab2_at B r d).trans (H.hB 2 r d))
    (fun s => (line2_at C s).trans (H.hC 2 s)) (fun r => (colm2_at L r).trans (H.hL 2 r)) r s

theorem diagT2 (r s : Fin 1024) : k0_pay41 (k0_pay36 (slab2 A) (slab2 B) (line2 C)) (k0_pay37 (colm2 L)) (slab2 O) (slab2 V) (colm2 D) (ix2 r s) = (diagT a b o v cr ls de 2 r s : EReal) :=
  ddiag_2 _ _ _ _ _ _ _ (a 2) (b 2) (o 2) (v 2) (cr 2) (ls 2) (de 2) (fun r d => (slab2_at A r d).trans (H.hA 2 r d)) (fun r d => (slab2_at B r d).trans (H.hB 2 r d))
    (fun r d => (slab2_at V r d).trans (H.hV 2 r d)) (fun r d => (slab2_at O r d).trans (H.hO 2 r d))
    (fun s => (line2_at C s).trans (H.hC 2 s)) (fun r => (colm2_at L r).trans (H.hL 2 r)) (fun r => (colm2_at D r).trans (H.hD 2 r)) r s

/-- A tile below the diagonal adds its part of the gradient in the values. -/
theorem full_dv (Z : Vec Ideal S1024x384 .f32) (T : List (View.Piece (Elt Ideal) S1024x384 .f32)) (s : Fin 1024) (h : Fin 3) (d : Fin 128) :
    View.canon ([(⟨rect2, k0_pay5 (k0_pay22 (k0_pay14 (slab2 A) (slab2 B) (line2 C) (colm2 L)) (slab2 O)) (slab2 Z)⟩ : View.Piece (Elt Ideal) S1024x384 .f32),
      (⟨rect1, k0_pay29 (k0_pay21 (k0_pay12 (k0_pay11 (slab1 A) (slab1 B) (line1 C)) (colm1 L)) (slab1 O)) (slab1 Z)⟩ : View.Piece (Elt Ideal) S1024x384 .f32),
      (⟨rect0, k0_pay26 (k0_pay20 (k0_pay9 (slab0 A) (slab0 B) (line0 C) (colm0 L)) (slab0 O)) (slab0 Z)⟩ : View.Piece (Elt Ideal) S1024x384 .f32)] ++ T) (ix2 s (at3 h d))
      = Z (ix2 s (at3 h d)) + ((∑ r, fullW a b cr ls h r s * o h r d : ℝ) : EReal) := by
  refine Eq.trans (slabs (Val := Elt Ideal) (e := .f32) (plus Z (fun h s d => ∑ r, fullW a b cr ls h r s * o h r d)) _ _ _ _ _ _ T (fun s d => ?_) (fun s d => ?_) (fun s d => ?_) s h d) (plus_at _ _ _ _ _)
  · exact plus_eq Z _ s 2 d (dv_f2 _ _ _ _ _ (fullW2 H) (fun r d => (slab2_at O r d).trans (H.hO 2 r d)) s d) (slab2_at Z s d)
  · exact plus_eq Z _ s 1 d (dv_f1 _ _ _ _ _ (fullW1 H) (fun r d => (slab1_at O r d).trans (H.hO 1 r d)) s d) (slab1_at Z s d)
  · exact plus_eq Z _ s 0 d (dv_f0 _ _ _ _ _ (fullW0 H) (fun r d => (slab0_at O r d).trans (H.hO 0 r d)) s d) (slab0_at Z s d)

/-- A tile below the diagonal adds its part of the gradient in the keys. -/
theorem full_dk (Z : Vec Ideal S1024x384 .f32) (T : List (View.Piece (Elt Ideal) S1024x384 .f32)) (s : Fin 1024) (h : Fin 3) (d : Fin 128) :
    View.canon ([(⟨rect2, k0_pay6 (k0_pay25 (k0_pay14 (slab2 A) (slab2 B) (line2 C) (colm2 L)) (k0_pay15 (slab2 O) (slab2 V)) (colm2 D) (slab2 A)) (slab2 Z)⟩ : View.Piece (Elt Ideal) S1024x384 .f32),
      (⟨rect1, k0_pay30 (k0_pay24 (k0_pay12 (k0_pay11 (slab1 A) (slab1 B) (line1 C)) (colm1 L)) (k0_pay13 (slab1 O) (slab1 V)) (colm1 D) (slab1 A)) (slab1 Z)⟩ : View.Piece (Elt Ideal) S1024x384 .f32),
      (⟨rect0, k0_pay27 (k0_pay23 (k0_pay9 (slab0 A) (slab0 B) (line0 C) (colm0 L)) (k0_pay10 (slab0 O) (slab0 V)) (k0_pay16 (colm0 D)) (slab0 A)) (slab0 Z)⟩ : View.Piece (Elt Ideal) S1024x384 .f32)] ++ T) (ix2 s (at3 h d))
      = Z (ix2 s (at3 h d)) + (((∑ r, fullT a b o v cr ls de h r s * a h r d) * scale : ℝ) : EReal) := by
  refine Eq.trans (slabs (Val := Elt Ideal) (e := .f32) (plus Z (fun h s d => (∑ r, fullT a b o v cr ls de h r s * a h r d) * scale)) _ _ _ _ _ _ T (fun s d => ?_) (fun s d => ?_) (fun s d => ?_) s h d) (plus_at _ _ _ _ _)
  · exact plus_eq Z _ s 2 d (dk_f2 _ _ _ _ (fun r d => (slab2_at A r d).trans (H.hA 2 r d)) _ _ _ (fullT2 H) s d) (slab2_at Z s d)
  · exact plus_eq Z _ s 1 d (dk_f1 _ _ _ _ (fun r d => (slab1_at A r d).trans (H.hA 1 r d)) _ _ _ (fullT1 H) s d) (slab1_at Z s d)
  · exact plus_eq Z _ s 0 d (dk_f0 _ _ _ _ (fun r d => (slab0_at A r d).trans (H.hA 0 r d)) _ _ _ (fullT0 H) s d) (slab0_at Z s d)

/-- A tile below the diagonal adds its part of the gradient in the sums of log gates. -/
theorem full_dc (Y : Vec Ideal S3x1x1024 .f32) (T : List (View.Piece (Elt Ideal) S3x1x1024 .f32)) (h : Fin 3) (s : Fin 1024) :
    View.canon ([(⟨rectLine2, k0_pay7 (k0_pay19 (k0_pay14 (slab2 A) (slab2 B) (line2 C) (colm2 L)) (k0_pay15 (slab2 O) (slab2 V)) (colm2 D)) (line2 Y)⟩ : View.Piece (Elt Ideal) S3x1x1024 .f32),
      (⟨rectLine1, k0_pay4 (k0_pay18 (k0_pay12 (k0_pay11 (slab1 A) (slab1 B) (line1 C)) (colm1 L)) (k0_pay13 (slab1 O) (slab1 V)) (colm1 D)) (line1 Y)⟩ : View.Piece (Elt Ideal) S3x1x1024 .f32),
      (⟨rectLine0, k0_pay28 (k0_pay17 (k0_pay9 (slab0 A) (slab0 B) (line0 C) (colm0 L)) (k0_pay10 (slab0 O) (slab0 V)) (k0_pay16 (colm0 D))) (line0 Y)⟩ : View.Piece (Elt Ideal) S3x1x1024 .f32)] ++ T) (ix3 h 0 s)
      = Y (ix3 h 0 s) + ((-∑ r, fullT a b o v cr ls de h r s : ℝ) : EReal) := by
  refine leads (Val := Elt Ideal) (e := .f32) (A := 1) (B := 1024) (plusLine Y (fun h s => -∑ r, fullT a b o v cr ls de h r s)) _ _ _ _ _ _ T (fun z s => ?_) (fun z s => ?_) (fun z s => ?_) h 0 s
  · obtain rfl : z = 0 := Subsingleton.elim _ _
    exact (dc_f2 _ _ _ (fullT2 H) s).trans (congrArg (· + _) (line2_at Y s))
  · obtain rfl : z = 0 := Subsingleton.elim _ _
    exact (dc_f1 _ _ _ (fullT1 H) s).trans (congrArg (· + _) (line1_at Y s))
  · obtain rfl : z = 0 := Subsingleton.elim _ _
    exact (dc_f0 _ _ _ (fullT0 H) s).trans (congrArg (· + _) (line0_at Y s))

/-- A tile on the diagonal adds its part of the gradient in the values. -/
theorem diag_dv (Z : Vec Ideal S1024x384 .f32) (T : List (View.Piece (Elt Ideal) S1024x384 .f32)) (s : Fin 1024) (h : Fin 3) (d : Fin 128) :
    View.canon ([(⟨rect2, k0_pay53 (k0_pay44 (k0_pay36 (slab2 A) (slab2 B) (line2 C)) (k0_pay37 (colm2 L)) (slab2 O)) (slab2 Z)⟩ : View.Piece (Elt Ideal) S1024x384 .f32),
      (⟨rect1, k0_pay50 (k0_pay43 (k0_pay34 (k0_pay33 (slab1 A) (slab1 B)) (line1 C) (colm1 L)) (slab1 O)) (slab1 Z)⟩ : View.Piece (Elt Ideal) S1024x384 .f32),
      (⟨rect0, k0_pay47 (k0_pay42 (k0_pay31 (slab0 A) (slab0 B) (line0 C) (colm0 L)) (slab0 O)) (slab0 Z)⟩ : View.Piece (Elt Ideal) S1024x384 .f32)] ++ T) (ix2 s (at3 h d))
      = Z (ix2 s (at3 h d)) + ((∑ r, diagW a b cr ls h r s * o h r d : ℝ) : EReal) := by
  refine Eq.trans (slabs (Val := Elt Ideal) (e := .f32) (plus Z (fun h s d => ∑ r, diagW a b cr ls h r s * o h r d)) _ _ _ _ _ _ T (fun s d => ?_) (fun s d => ?_) (fun s d => ?_) s h d) (plus_at _ _ _ _ _)
  · exact plus_eq Z _ s 2 d (dv_d2 _ _ _ _ (fun r d => (slab2_at O r d).trans (H.hO 2 r d)) _ _ (diagW2 H) s d) (slab2_at Z s d)
  · exact plus_eq Z _ s 1 d (dv_d1 _ _ _ _ _ (diagW1 H) (fun r d => (slab1_at O r d).trans (H.hO 1 r d)) s d) (slab1_at Z s d)
  · exact plus_eq Z _ s 0 d (dv_d0 _ _ _ _ _ (diagW0 H) (fun r d => (slab0_at O r d).trans (H.hO 0 r d)) s d) (slab0_at Z s d)

/-- A tile on the diagonal adds its part of the gradient in the keys. -/
theorem diag_dk (Z : Vec Ideal S1024x384 .f32) (T : List (View.Piece (Elt Ideal) S1024x384 .f32)) (s : Fin 1024) (h : Fin 3) (d : Fin 128) :
    View.canon ([(⟨rect2, k0_pay54 (k0_pay46 (k0_pay41 (k0_pay36 (slab2 A) (slab2 B) (line2 C)) (k0_pay37 (colm2 L)) (slab2 O) (slab2 V) (colm2 D)) (slab2 A)) (slab2 Z)⟩ : View.Piece (Elt Ideal) S1024x384 .f32),
      (⟨rect1, k0_pay51 (k0_pay45 (k0_pay40 (k0_pay34 (k0_pay33 (slab1 A) (slab1 B)) (line1 C) (colm1 L)) (k0_pay35 (slab1 O) (slab1 V)) (colm1 D)) (slab1 A)) (slab1 Z)⟩ : View.Piece (Elt Ideal) S1024x384 .f32),
      (⟨rect0, k0_pay48 (k0_pay39 (k0_pay31 (slab0 A) (slab0 B) (line0 C) (colm0 L)) (k0_pay32 (slab0 O) (slab0 V)) (colm0 D)) (slab0 A) (slab0 Z)⟩ : View.Piece (Elt Ideal) S1024x384 .f32)] ++ T) (ix2 s (at3 h d))
      = Z (ix2 s (at3 h d)) + (((∑ r, diagT a b o v cr ls de h r s * a h r d) * scale : ℝ) : EReal) := by
  refine Eq.trans (slabs (Val := Elt Ideal) (e := .f32) (plus Z (fun h s d => (∑ r, diagT a b o v cr ls de h r s * a h r d) * scale)) _ _ _ _ _ _ T (fun s d => ?_) (fun s d => ?_) (fun s d => ?_) s h d) (plus_at _ _ _ _ _)
  · exact plus_eq Z _ s 2 d (dk_d2 _ _ _ _ _ (fun r d => (slab2_at A r d).trans (H.hA 2 r d)) (diagT2 H) s d) (slab2_at Z s d)
  · exact plus_eq Z _ s 1 d (dk_d1 _ _ _ _ _ (fun r d => (slab1_at A r d).trans (H.hA 1 r d)) (diagT1 H) s d) (slab1_at Z s d)
  · exact plus_eq Z _ s 0 d (dk_d0 _ _ _ _ _ (fun r d => (slab0_at A r d).trans (H.hA 0 r d)) (diagT0 H) s d) (slab0_at Z s d)

/-- A tile on the diagonal adds its part of the gradient in the sums of log gates. -/
theorem diag_dc (Y : Vec Ideal S3x1x1024 .f32) (T : List (View.Piece (Elt Ideal) S3x1x1024 .f32)) (h : Fin 3) (s : Fin 1024) :
    View.canon ([(⟨rectLine2, k0_pay8 (k0_pay55 (line2 Y)) (k0_pay56 (k0_pay41 (k0_pay36 (slab2 A) (slab2 B) (line2 C)) (k0_pay37 (colm2 L)) (slab2 O) (slab2 V) (colm2 D)))⟩ : View.Piece (Elt Ideal) S3x1x1024 .f32),
      (⟨rectLine1, k0_pay52 (k0_pay40 (k0_pay34 (k0_pay33 (slab1 A) (slab1 B)) (line1 C) (colm1 L)) (k0_pay35 (slab1 O) (slab1 V)) (colm1 D)) (line1 Y)⟩ : View.Piece (Elt Ideal) S3x1x1024 .f32),
      (⟨rectLine0, k0_pay49 (k0_pay39 (k0_pay31 (slab0 A) (slab0 B) (line0 C) (colm0 L)) (k0_pay32 (slab0 O) (slab0 V)) (colm0 D)) (line0 Y)⟩ : View.Piece (Elt Ideal) S3x1x1024 .f32)] ++ T) (ix3 h 0 s)
      = Y (ix3 h 0 s) + ((-∑ r, diagT a b o v cr ls de h r s : ℝ) : EReal) := by
  refine leads (Val := Elt Ideal) (e := .f32) (A := 1) (B := 1024) (plusLine Y (fun h s => -∑ r, diagT a b o v cr ls de h r s)) _ _ _ _ _ _ T (fun z s => ?_) (fun z s => ?_) (fun z s => ?_) h 0 s
  · obtain rfl : z = 0 := Subsingleton.elim _ _
    exact (dc_d2 _ _ _ (diagT2 H) s).trans (congrArg (· + _) (line2_at Y s))
  · obtain rfl : z = 0 := Subsingleton.elim _ _
    exact (dc_d1 _ _ _ (diagT1 H) s).trans (congrArg (· + _) (line1_at Y s))
  · obtain rfl : z = 0 := Subsingleton.elim _ _
    exact (dc_d0 _ _ _ (diagT0 H) s).trans (congrArg (· + _) (line0_at Y s))

end Cert.FoxKvProof

end
-- ==== Proof.FoxKvCases.lean ====
/- What each grid point of the attention's gradient leaves in its three blocks. -/
module

public import proofs.«01_k».proof.Proof.FoxKvTile
public import proofs.«01_k».proof.Proof.Gen.FoxKvIdeal.Value
public import Idealize.ShloMosaic.Lib.Claim
public import Idealize.ShloMosaic.Lib.Pipeline.ReadBack

@[expose] public section

set_option maxRecDepth 16384

noncomputable section

namespace Cert.FoxKvProof

open Cert.Reals Cert.Fox Cert.Heads Cert.FoxKvIdeal Cert.FoxKvIdeal.Gen Idealize.ShloMosaic Idealize.ShloMosaic.TcCoe Idealize.SL.Sem
open scoped BigOperators

theorem pay1_at (j : S1024x384.Idx) : (k0_pay1 (F := Ideal) : Vec Ideal S1024x384 .f32) j = 0 := by pointwise [k0_pay1]

theorem pay2_at (j : S1024x384.Idx) : (k0_pay2 (F := Ideal) : Vec Ideal S1024x384 .f32) j = 0 := by pointwise [k0_pay2]

theorem pay3_at (j : S3x1x1024.Idx) : (k0_pay3 (F := Ideal) : Vec Ideal S3x1x1024 .f32) j = 0 := by pointwise [k0_pay3]

variable (m : (ℓ : Loc nD τ sig) → Buf (Elt Ideal) ℓ) (c : Dev nD) (t : Fin cfg0.N)

/-- The three blocks as the point before left them. -/
abbrev before := outsAt0 m c (t.val - 1) (Nat.lt_of_le_of_lt (Nat.sub_le _ _) t.isLt)

theorem dk_A {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (iblk m c 5 t) a b o v cr ls de) (h0 : t.val % 8 = 0) (h1 : ¬t.val / 8 % 8 + 1 ≤ t.val % 8) (h2 : t.val / 8 % 8 = t.val % 8)
    (s : Fin 1024) (h : Fin 3) (d : Fin 128) : (outsAt0 m c t.val t.isLt).1 (ix2 s (at3 h d)) = 0 + (((∑ r, diagT a b o v cr ls de h r s * a h r d) * scale : ℝ) : EReal) := by
  rw [← pay1_at (ix2 s (at3 h d))]
  rw [outsAt0_A m c t h0 h1 h2]; frame_open
  simp (disch := decide) only [↓ View.readCov_skip, ↓ View.readCov_cons_toLoadRect, ↓ View.readCov_fill]; frame_out
  have hs := diag_dk H (k0_pay1 (F := Ideal)) [⟨Rect.unit ![0, 0] ![1024, 384] inb_S1024x384_S1024x384_0_0, k0_pay1 (F := Ideal)⟩] s h d
  simp only [List.cons_append, List.nil_append] at hs
  exact hs

theorem dv_A {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (iblk m c 5 t) a b o v cr ls de) (h0 : t.val % 8 = 0) (h1 : ¬t.val / 8 % 8 + 1 ≤ t.val % 8) (h2 : t.val / 8 % 8 = t.val % 8)
    (s : Fin 1024) (h : Fin 3) (d : Fin 128) : (outsAt0 m c t.val t.isLt).2.1 (ix2 s (at3 h d)) = 0 + ((∑ r, diagW a b cr ls h r s * o h r d : ℝ) : EReal) := by
  rw [← pay2_at (ix2 s (at3 h d))]
  rw [outsAt0_A m c t h0 h1 h2]; frame_open
  simp (disch := decide) only [↓ View.readCov_skip, ↓ View.readCov_cons_toLoadRect, ↓ View.readCov_fill]; frame_out
  have hs := diag_dv H (k0_pay2 (F := Ideal)) [⟨Rect.unit ![0, 0] ![1024, 384] inb_S1024x384_S1024x384_0_0, k0_pay2 (F := Ideal)⟩] s h d
  simp only [List.cons_append, List.nil_append] at hs
  exact hs

theorem dc_A {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (iblk m c 5 t) a b o v cr ls de) (h0 : t.val % 8 = 0) (h1 : ¬t.val / 8 % 8 + 1 ≤ t.val % 8) (h2 : t.val / 8 % 8 = t.val % 8)
    (h : Fin 3) (s : Fin 1024) : (outsAt0 m c t.val t.isLt).2.2 (ix3 h 0 s) = 0 + ((-∑ r, diagT a b o v cr ls de h r s : ℝ) : EReal) := by
  rw [← pay3_at (ix3 h 0 s)]
  rw [outsAt0_A m c t h0 h1 h2]; frame_open
  simp (disch := decide) only [↓ View.readCov_skip, ↓ View.readCov_cons_toLoadRect, ↓ View.readCov_fill]; frame_out
  have hs := diag_dc H (k0_pay3 (F := Ideal)) [⟨Rect.unit ![0, 0, 0] ![3, 1, 1024] inb_S3x1x1024_S3x1x1024_0_0_0, k0_pay3 (F := Ideal)⟩] h s
  simp only [List.cons_append, List.nil_append] at hs
  exact hs

theorem dk_B {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (iblk m c 5 t) a b o v cr ls de) (h0 : ¬t.val % 8 = 0) (h1 : t.val / 8 % 8 + 1 ≤ t.val % 8) (h2 : ¬t.val / 8 % 8 = t.val % 8)
    (s : Fin 1024) (h : Fin 3) (d : Fin 128) : (outsAt0 m c t.val t.isLt).1 (ix2 s (at3 h d)) = (before m c t).1 (ix2 s (at3 h d)) + (((∑ r, fullT a b o v cr ls de h r s * a h r d) * scale : ℝ) : EReal) := by
  rw [outsAt0_B m c t h0 h1 h2]; frame_open
  simp (disch := decide) only [↓ View.readCov_skip, ↓ View.readCov_cons_toLoadRect, ↓ View.readCov_fill]; frame_out
  have hs := full_dk H (before m c t).1 [] s h d
  simp only [List.cons_append, List.nil_append] at hs
  exact hs

theorem dv_B {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (iblk m c 5 t) a b o v cr ls de) (h0 : ¬t.val % 8 = 0) (h1 : t.val / 8 % 8 + 1 ≤ t.val % 8) (h2 : ¬t.val / 8 % 8 = t.val % 8)
    (s : Fin 1024) (h : Fin 3) (d : Fin 128) : (outsAt0 m c t.val t.isLt).2.1 (ix2 s (at3 h d)) = (before m c t).2.1 (ix2 s (at3 h d)) + ((∑ r, fullW a b cr ls h r s * o h r d : ℝ) : EReal) := by
  rw [outsAt0_B m c t h0 h1 h2]; frame_open
  simp (disch := decide) only [↓ View.readCov_skip, ↓ View.readCov_cons_toLoadRect, ↓ View.readCov_fill]; frame_out
  have hs := full_dv H (before m c t).2.1 [] s h d
  simp only [List.cons_append, List.nil_append] at hs
  exact hs

theorem dc_B {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (iblk m c 5 t) a b o v cr ls de) (h0 : ¬t.val % 8 = 0) (h1 : t.val / 8 % 8 + 1 ≤ t.val % 8) (h2 : ¬t.val / 8 % 8 = t.val % 8)
    (h : Fin 3) (s : Fin 1024) : (outsAt0 m c t.val t.isLt).2.2 (ix3 h 0 s) = (before m c t).2.2 (ix3 h 0 s) + ((-∑ r, fullT a b o v cr ls de h r s : ℝ) : EReal) := by
  rw [outsAt0_B m c t h0 h1 h2]; frame_open
  simp (disch := decide) only [↓ View.readCov_skip, ↓ View.readCov_cons_toLoadRect, ↓ View.readCov_fill]; frame_out
  have hs := full_dc H (before m c t).2.2 [] h s
  simp only [List.cons_append, List.nil_append] at hs
  exact hs

theorem dk_C (h0 : t.val % 8 = 0) (h1 : ¬t.val / 8 % 8 + 1 ≤ t.val % 8) (h2 : ¬t.val / 8 % 8 = t.val % 8) (j : S1024x384.Idx) :
    (outsAt0 m c t.val t.isLt).1 j = 0 := by
  rw [outsAt0_C m c t h0 h1 h2]; dsimp only; frame_out
  exact pay1_at j

theorem dv_C (h0 : t.val % 8 = 0) (h1 : ¬t.val / 8 % 8 + 1 ≤ t.val % 8) (h2 : ¬t.val / 8 % 8 = t.val % 8) (j : S1024x384.Idx) :
    (outsAt0 m c t.val t.isLt).2.1 j = 0 := by
  rw [outsAt0_C m c t h0 h1 h2]; dsimp only; frame_out
  exact pay2_at j

theorem dc_C (h0 : t.val % 8 = 0) (h1 : ¬t.val / 8 % 8 + 1 ≤ t.val % 8) (h2 : ¬t.val / 8 % 8 = t.val % 8) (j : S3x1x1024.Idx) :
    (outsAt0 m c t.val t.isLt).2.2 j = 0 := by
  rw [outsAt0_C m c t h0 h1 h2]; dsimp only; frame_out
  exact pay3_at j

theorem dk_D {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (iblk m c 5 t) a b o v cr ls de) (h0 : ¬t.val % 8 = 0) (h1 : ¬t.val / 8 % 8 + 1 ≤ t.val % 8) (h2 : t.val / 8 % 8 = t.val % 8)
    (s : Fin 1024) (h : Fin 3) (d : Fin 128) : (outsAt0 m c t.val t.isLt).1 (ix2 s (at3 h d)) = (before m c t).1 (ix2 s (at3 h d)) + (((∑ r, diagT a b o v cr ls de h r s * a h r d) * scale : ℝ) : EReal) := by
  rw [outsAt0_D m c t h0 h1 h2]; frame_open
  simp (disch := decide) only [↓ View.readCov_skip, ↓ View.readCov_cons_toLoadRect, ↓ View.readCov_fill]; frame_out
  have hs := diag_dk H (before m c t).1 [] s h d
  simp only [List.cons_append, List.nil_append] at hs
  exact hs

theorem dv_D {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (iblk m c 5 t) a b o v cr ls de) (h0 : ¬t.val % 8 = 0) (h1 : ¬t.val / 8 % 8 + 1 ≤ t.val % 8) (h2 : t.val / 8 % 8 = t.val % 8)
    (s : Fin 1024) (h : Fin 3) (d : Fin 128) : (outsAt0 m c t.val t.isLt).2.1 (ix2 s (at3 h d)) = (before m c t).2.1 (ix2 s (at3 h d)) + ((∑ r, diagW a b cr ls h r s * o h r d : ℝ) : EReal) := by
  rw [outsAt0_D m c t h0 h1 h2]; frame_open
  simp (disch := decide) only [↓ View.readCov_skip, ↓ View.readCov_cons_toLoadRect, ↓ View.readCov_fill]; frame_out
  have hs := diag_dv H (before m c t).2.1 [] s h d
  simp only [List.cons_append, List.nil_append] at hs
  exact hs

theorem dc_D {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (iblk m c 5 t) a b o v cr ls de) (h0 : ¬t.val % 8 = 0) (h1 : ¬t.val / 8 % 8 + 1 ≤ t.val % 8) (h2 : t.val / 8 % 8 = t.val % 8)
    (h : Fin 3) (s : Fin 1024) : (outsAt0 m c t.val t.isLt).2.2 (ix3 h 0 s) = (before m c t).2.2 (ix3 h 0 s) + ((-∑ r, diagT a b o v cr ls de h r s : ℝ) : EReal) := by
  rw [outsAt0_D m c t h0 h1 h2]; frame_open
  simp (disch := decide) only [↓ View.readCov_skip, ↓ View.readCov_cons_toLoadRect, ↓ View.readCov_fill]; frame_out
  have hs := diag_dc H (before m c t).2.2 [] h s
  simp only [List.cons_append, List.nil_append] at hs
  exact hs

theorem dk_E (h0 : ¬t.val % 8 = 0) (h1 : ¬t.val / 8 % 8 + 1 ≤ t.val % 8) (h2 : ¬t.val / 8 % 8 = t.val % 8) (j : S1024x384.Idx) :
    (outsAt0 m c t.val t.isLt).1 j = (before m c t).1 j := by
  rw [outsAt0_E m c t h0 h1 h2]; dsimp only; rfl

theorem dv_E (h0 : ¬t.val % 8 = 0) (h1 : ¬t.val / 8 % 8 + 1 ≤ t.val % 8) (h2 : ¬t.val / 8 % 8 = t.val % 8) (j : S1024x384.Idx) :
    (outsAt0 m c t.val t.isLt).2.1 j = (before m c t).2.1 j := by
  rw [outsAt0_E m c t h0 h1 h2]; dsimp only; rfl

theorem dc_E (h0 : ¬t.val % 8 = 0) (h1 : ¬t.val / 8 % 8 + 1 ≤ t.val % 8) (h2 : ¬t.val / 8 % 8 = t.val % 8) (j : S3x1x1024.Idx) :
    (outsAt0 m c t.val t.isLt).2.2 j = (before m c t).2.2 j := by
  rw [outsAt0_E m c t h0 h1 h2]; dsimp only; rfl

end Cert.FoxKvProof

end
-- ==== Proof.FoxKvRef.lean ====
/- The reference of the attention's gradient in keys, values and sums of log gates, in real numbers. -/
module

public import proofs.«01_k».proof.Proof.FoxMath
public import proofs.«01_k».proof.Proof.Gen.FoxKvRefIdeal.Run
public import Idealize.ShloMosaic.Lib.Claim

@[expose] public section

set_option maxRecDepth 16384

noncomputable section

namespace Cert.FoxKvProof

open Cert.Reals Cert.Fox Idealize.ShloMosaic Idealize.ShloMosaic.TcCoe Idealize.SL.Sem
open scoped BigOperators

section Fold

variable (q : Fin 8192 → Fin 1024 → ℝ) (k v : Fin 8192 → Fin 768 → ℝ) (c : Fin 6 → Fin 8192 → ℝ) (ct : Fin 8192 → Fin 1024 → ℝ)

/-- The logits as the reference has them. -/
def rlogit (h : Fin 6) (r s : Fin 8192) : ℝ := qk q k h r s * scale + c h r - c h s

theorem rlogit_eq (h : Fin 6) (r s : Fin 8192) : rlogit q k c h r s = logit q k c h r s + c h r := by
  unfold rlogit logit; ring

theorem prob_eq (h : Fin 6) (r s : Fin 8192) :
    expo (rlogit q k c h r) r s / ∑ t, expo (rlogit q k c h r) r t = prob q k c h r s :=
  expo_div (logit q k c h r) r (rlogit q k c h r) (c h r) (rlogit_eq q k c h r) s

end Fold

section Stages

open Cert.FoxKvRefIdeal Cert.FoxKvRefIdeal.Gen Cert.FoxKvRefIdeal.Value

theorem qk_coe (q : Fin 8192 → Fin 1024 → ℝ) (k : Fin 8192 → Fin 768 → ℝ) (r s : Fin 8192) (f : Fin 128 → Fin 1024) (f' : Fin 128 → Fin 768) :
    ∑ d, (q r (f d) : EReal) * (k s (f' d) : EReal) = ((∑ d, q r (f d) * k s (f' d) : ℝ) : EReal) := by
  simp only [← EReal.coe_mul, sum_coe]

/-- The columns of the attention's queries, head by head. -/
def wide (a : FVec Ideal S8192x1024 .f32) : FVec Ideal S8192x6x128 .f32 :=
  shapeCast _ (extractStridedSlice S8192x768 ![0, 0] a slices_S8192x1024_S8192x768_0_0) shapeCasts_S8192x768_S8192x6x128

theorem wide_at (a : FVec Ideal S8192x1024 .f32) (r : Fin 8192) (h : Fin 6) (d : Fin 128) : wide a (ix3 r h d) = a (ix2 r (colw h d)) := by
  pointwise [wide, colw]

/-- The columns of keys or values, head by head. -/
def thin (a : FVec Ideal S8192x768 .f32) : FVec Ideal S8192x6x128 .f32 := shapeCast _ a shapeCasts_S8192x768_S8192x6x128

theorem thin_at (a : FVec Ideal S8192x768 .f32) (r : Fin 8192) (h : Fin 6) (d : Fin 128) : thin a (ix3 r h d) = a (ix2 r (col h d)) := by
  pointwise [thin, col]

/-- The cotangent of the attention's result, head by head, with the positions last. -/
def cot (a : FVec Ideal S8192x6x128 .f32) : FVec Ideal S6x128x8192 .f32 :=
  transpose S6x128x8192 [1, 2, 0] a transposes_S8192x6x128_S6x128x8192_1_2_0

theorem cot_at (a : FVec Ideal S8192x6x128 .f32) (r : Fin 8192) (h : Fin 6) (d : Fin 128) : cot a (ix3 h d r) = a (ix3 r h d) := by
  pointwise [cot]

/-- The causal mask. -/
def causal : IVec S6x8192x8192 1 :=
  broadcastInDim S6x8192x8192 ![1, 2] bcast_S8192x8192_S6x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

theorem causal_at (h : Fin 6) (r s : Fin 8192) : causal (ix3 h r s) = IntOp.cmpi .sle (BitVec.ofNat 32 s.val) (BitVec.ofNat 32 r.val) := by
  pointwise [causal]

/-- The logits. -/
def logits (q k : FVec Ideal S8192x6x128 .f32) (g : FVec Ideal S6x8192 .f32) : FVec Ideal S6x8192x8192 .f32 :=
  subf (addf (mulf (Host.dotGeneral dot_S8192x6x128_S8192x6x128_S6x8192x8192_2_2_0_0_1_1 none q k)
      (broadcastInDim S6x8192x8192 ![] bcast_S_S6x8192x8192 (constant S_ .f32 0x3DB504F3#32)))
    (broadcastInDim S6x8192x8192 ![0, 1, 2] bcast_S6x8192x1_S6x8192x8192_0_1_2 (broadcastInDim S6x8192x1 ![0, 1] bcast_S6x8192_S6x8192x1_0_1 g)))
    (broadcastInDim S6x8192x8192 ![0, 1, 2] bcast_S6x1x8192_S6x8192x8192_0_1_2 (broadcastInDim S6x1x8192 ![0, 2] bcast_S6x8192_S6x1x8192_0_2 g))

theorem logits_at (q k : FVec Ideal S8192x6x128 .f32) (g : FVec Ideal S6x8192 .f32) (h : Fin 6) (r s : Fin 8192) :
    logits q k g (ix3 h r s) = (∑ d, q (ix3 r h d) * k (ix3 s h d)) * (scale : EReal) + g (ix2 h r) - g (ix2 h s) := by
  pointwise [logits]
  rw [ofBits_scale]

/-- The logits under the mask. -/
def masked (x : FVec Ideal S6x8192x8192 .f32) : FVec Ideal S6x8192x8192 .f32 :=
  select causal x (broadcastInDim S6x8192x8192 ![] bcast_S_S6x8192x8192 (id (constant S_ .f32 0xFF800000#32)))

theorem masked_at (x : FVec Ideal S6x8192x8192 .f32) (h : Fin 6) (r s : Fin 8192) : masked x (ix3 h r s) = if s ≤ r then x (ix3 h r s) else ⊥ := by
  rw [← select_le le_rfl s r, ← causal_at h]
  refine congrArg (Scalar.select _ _) ?_
  pointwise [id]
  exact ofBits_neg_inf

/-- The greatest entry along the last axis. -/
theorem reduce_max {a b n : ℕ} (h : (⟨3, ![a, b, n]⟩ : Shape).ReducesTo [2] ⟨2, ![a, b]⟩) {u : Shape} (hu : 0 < u.numel)
    (x : FVec Ideal ⟨3, ![a, b, n]⟩ .f32) (v : FVec Ideal u .f32) (hv : v (Shape.Idx.first hu) = (⊥ : EReal)) (i : Fin a) (j : Fin b) :
    Host.reduce FloatOps.maximumf x v h hu (ix2 i j) = Finset.fold max (⊥ : EReal) (fun s => x (ix3 i j s)) Finset.univ := by
  pointwise
  rw [hv]

theorem low_at : (constant (F := Ideal) S_ .f32 0xFF800000#32 : FVec Ideal S_ .f32) (Shape.Idx.first h_S_) = (⊥ : EReal) := ofBits_neg_inf

theorem low_max (x : FVec Ideal S6x8192 .f32) (h : Fin 6) (r : Fin 8192) :
    maximumf (broadcastInDim S6x8192 ![] bcast_S_S6x8192 (constant S_ .f32 0xFF800000#32)) x (ix2 h r) = x (ix2 h r) := by
  pointwise
  rw [ofBits_neg_inf, max_bot_left]

/-- The greatest entry of each row. -/
def tops (x : FVec Ideal S6x8192x8192 .f32) : FVec Ideal S6x8192 .f32 :=
  maximumf (broadcastInDim S6x8192 ![] bcast_S_S6x8192 (constant S_ .f32 0xFF800000#32)) (Host.reduce FloatOps.maximumf x (constant S_ .f32 0xFF800000#32) reducesTo_S6x8192x8192_S6x8192_d2 h_S_)

theorem tops_at (x : FVec Ideal S6x8192x8192 .f32) (h : Fin 6) (r : Fin 8192) :
    tops x (ix2 h r) = Finset.fold max ⊥ (fun s => x (ix3 h r s)) Finset.univ := by
  unfold tops
  rw [low_max]
  exact reduce_max _ h_S_ x _ low_at h r

/-- A number per row, along the row. -/
def spread (z : FVec Ideal S6x8192 .f32) : FVec Ideal S6x8192x8192 .f32 :=
  broadcastInDim S6x8192x8192 ![0, 1, 2] bcast_S6x8192x1_S6x8192x8192_0_1_2 (broadcastInDim S6x8192x1 ![0, 1] bcast_S6x8192_S6x8192x1_0_1 z)

theorem spread_at (z : FVec Ideal S6x8192 .f32) (h : Fin 6) (r s : Fin 8192) : spread z (ix3 h r s) = z (ix2 h r) := by
  pointwise [spread]

/-- The sum of each row. -/
def rows (x : FVec Ideal S6x8192x8192 .f32) : FVec Ideal S6x8192 .f32 :=
  Host.reduceAdd x (constant S_ .f32 0x00000000#32) reducesTo_S6x8192x8192_S6x8192_d2 h_S_

theorem rows_at (x : FVec Ideal S6x8192x8192 .f32) (h : Fin 6) (r : Fin 8192) : rows x (ix2 h r) = ∑ s, x (ix3 h r s) := by
  pointwise [rows]

/-- The product of the weights with the cotangent. -/
def outer (g : FVec Ideal S6x128x8192 .f32) (p : FVec Ideal S6x8192x8192 .f32) : FVec Ideal S8192x768 .f32 :=
  shapeCast _ (transpose S8192x6x128 [2, 0, 1] (Host.dotGeneral dot_S6x128x8192_S6x8192x8192_S6x128x8192_2_1_1_2_0_0 none g p) transposes_S6x128x8192_S8192x6x128_2_0_1) shapeCasts_S8192x6x128_S8192x768

/-- The entry of its head that a column holds. -/
def entry (j : Fin 768) : Fin 128 := ⟨j.val % 128, by omega⟩

theorem outer_at (g : FVec Ideal S6x128x8192 .f32) (p : FVec Ideal S6x8192x8192 .f32) (s : Fin 8192) (j : Fin 768) :
    outer g p (ix2 s j) = ∑ r, g (ix3 (head j) (entry j) r) * p (ix3 (head j) r s) := by
  pointwise [outer, head, entry]

/-- The product of the cotangent with the values. -/
def inner (g : FVec Ideal S6x128x8192 .f32) (v : FVec Ideal S8192x6x128 .f32) : FVec Ideal S6x8192x8192 .f32 :=
  Host.dotGeneral dot_S6x128x8192_S8192x6x128_S6x8192x8192_1_2_2_0_0_1 none g v

theorem inner_at (g : FVec Ideal S6x128x8192 .f32) (v : FVec Ideal S8192x6x128 .f32) (h : Fin 6) (r s : Fin 8192) :
    inner g v (ix3 h r s) = ∑ d, g (ix3 h d r) * v (ix3 s h d) := by
  pointwise [inner]

/-- One over the square of each row's sum. -/
def recip (z : FVec Ideal S6x8192 .f32) : FVec Ideal S6x8192x8192 .f32 :=
  broadcastInDim S6x8192x8192 ![0, 1, 2] bcast_S6x8192x1_S6x8192x8192_0_1_2 (Host.divf (broadcastInDim S6x8192x1 ![] bcast_S_S6x8192x1 (constant S_ .f32 0x3F800000#32)) (mulf (broadcastInDim S6x8192x1 ![0, 1] bcast_S6x8192_S6x8192x1_0_1 z) (broadcastInDim S6x8192x1 ![0, 1] bcast_S6x8192_S6x8192x1_0_1 z)))

theorem recip_at (z : FVec Ideal S6x8192 .f32) (h : Fin 6) (r s : Fin 8192) : recip z (ix3 h r s) = Ideal.div 1 (z (ix2 h r) * z (ix2 h r)) := by
  pointwise [recip]

/-- The cotangent of the row sums. -/
def back (y : FVec Ideal S6x8192 .f32) : FVec Ideal S6x8192x8192 .f32 :=
  broadcastInDim S6x8192x8192 ![0, 1] bcast_S6x8192_S6x8192x8192_0_1 (Host.reduceAdd (Host.negf (shapeCast _ y shapeCasts_S6x8192_S6x8192x1)) (constant S_ .f32 0x00000000#32) reducesTo_S6x8192x1_S6x8192_d2 h_S_)

theorem back_at (y : FVec Ideal S6x8192 .f32) (h : Fin 6) (r s : Fin 8192) : back y (ix3 h r s) = -y (ix2 h r) := by
  pointwise [back]
  exact Fin.sum_univ_one _

/-- The entries that the mask keeps. -/
def keep (x : FVec Ideal S6x8192x8192 .f32) : FVec Ideal S6x8192x8192 .f32 :=
  select causal x (broadcastInDim S6x8192x8192 ![] bcast_S_S6x8192x8192 (constant S_ .f32 0x00000000#32))

theorem keep_at (x : FVec Ideal S6x8192x8192 .f32) (h : Fin 6) (r s : Fin 8192) : keep x (ix3 h r s) = if s ≤ r then x (ix3 h r s) else 0 := by
  rw [← select_le le_rfl s r, ← causal_at h]
  refine congrArg (Scalar.select _ _) ?_
  pointwise

/-- The product of the cotangent of the logits with the queries. -/
def keys (x : FVec Ideal S6x8192x8192 .f32) (q : FVec Ideal S8192x6x128 .f32) : FVec Ideal S8192x768 .f32 :=
  shapeCast _ (transpose S8192x6x128 [1, 0, 2] (Host.dotGeneral dot_S6x8192x8192_S8192x6x128_S6x8192x128_1_0_2_2_0_1 none (mulf x (broadcastInDim S6x8192x8192 ![] bcast_S_S6x8192x8192 (constant S_ .f32 0x3DB504F3#32))) q) transposes_S6x8192x128_S8192x6x128_1_0_2) shapeCasts_S8192x6x128_S8192x768

theorem keys_at (x : FVec Ideal S6x8192x8192 .f32) (q : FVec Ideal S8192x6x128 .f32) (s : Fin 8192) (j : Fin 768) :
    keys x q (ix2 s j) = ∑ r, x (ix3 (head j) r s) * (scale : EReal) * q (ix3 r (head j) (entry j)) := by
  pointwise [keys, head, entry]
  simp only [ofBits_scale]

/-- The sums over the queries of the cotangent of the logits, their signs turned. -/
def gates (x : FVec Ideal S6x8192x8192 .f32) : FVec Ideal S6x1x8192 .f32 :=
  shapeCast _ (Host.reduceAdd (shapeCast _ (Host.reduceAdd (Host.negf x) (constant S_ .f32 0x00000000#32) reducesTo_S6x8192x8192_S6x8192_d1 h_S_) shapeCasts_S6x8192_S6x1x8192) (constant S_ .f32 0x00000000#32) reducesTo_S6x1x8192_S6x8192_d1 h_S_) shapeCasts_S6x8192_S6x1x8192

theorem gates_at (x : FVec Ideal S6x8192x8192 .f32) (h : Fin 6) (s : Fin 8192) : gates x (ix3 h 0 s) = ∑ r, -x (ix3 h r s) := by
  pointwise [gates]
  exact Fin.sum_univ_one _

/-- The exponentials of an array less its rows' greatest entries. -/
def exps (x : FVec Ideal S6x8192x8192 .f32) : FVec Ideal S6x8192x8192 .f32 := Host.exp (subf x (spread (tops x)))

theorem exps_at (x : FVec Ideal S6x8192x8192 .f32) (h : Fin 6) (r s : Fin 8192) :
    exps x (ix3 h r s) = Ideal.exp (x (ix3 h r s) - tops x (ix2 h r)) := by
  rw [← spread_at (tops x) h r s]
  rfl

/-- An array divided by a number per row. -/
def quot (x : FVec Ideal S6x8192x8192 .f32) (z : FVec Ideal S6x8192 .f32) : FVec Ideal S6x8192x8192 .f32 := Host.divf x (spread z)

theorem quot_at (x : FVec Ideal S6x8192x8192 .f32) (z : FVec Ideal S6x8192 .f32) (h : Fin 6) (r s : Fin 8192) :
    quot x z (ix3 h r s) = Ideal.div (x (ix3 h r s)) (z (ix2 h r)) := by
  rw [← spread_at z h r s]
  rfl

/-- The cotangent of the logits, by the exponentials `e`, their sums `z` and the cotangent of the weights `d`. -/
def dlog (d e : FVec Ideal S6x8192x8192 .f32) (z : FVec Ideal S6x8192 .f32) : FVec Ideal S6x8192x8192 .f32 :=
  keep (mulf (addf (quot d z) (back (rows (mulf (mulf d (recip z)) e)))) e)

theorem dlog_at (d e : FVec Ideal S6x8192x8192 .f32) (z : FVec Ideal S6x8192 .f32) (h : Fin 6) (r s : Fin 8192) :
    dlog d e z (ix3 h r s) = if s ≤ r then
      (Ideal.div (d (ix3 h r s)) (z (ix2 h r)) + -∑ t, d (ix3 h r t) * Ideal.div 1 (z (ix2 h r) * z (ix2 h r)) * e (ix3 h r t)) * e (ix3 h r s) else 0 := by
  refine (keep_at _ h r s).trans (if_congr Iff.rfl (Eq.trans
    (b := (quot d z (ix3 h r s) + back (rows (mulf (mulf d (recip z)) e)) (ix3 h r s)) * e (ix3 h r s)) rfl ?_) rfl)
  have h1 : ∀ t, mulf (mulf d (recip z)) e (ix3 h r t) = d (ix3 h r t) * recip z (ix3 h r t) * e (ix3 h r t) := fun _ => rfl
  rw [quot_at, back_at, rows_at]
  simp only [h1, recip_at]

section Real

variable (a0 a4 : FVec Ideal S8192x1024 .f32) (a1 a2 : FVec Ideal S8192x768 .f32) (a3 : FVec Ideal S6x8192 .f32)
variable (q : Fin 8192 → Fin 1024 → ℝ) (k v : Fin 8192 → Fin 768 → ℝ) (g : Fin 6 → Fin 8192 → ℝ) (ct : Fin 8192 → Fin 1024 → ℝ)

/-- The exponentials of the program's masked logits. -/
def expArr : FVec Ideal S6x8192x8192 .f32 := exps (masked (logits (wide a0) (thin a1) a3))

/-- The program's cotangent of the logits. -/
def dlogArr : FVec Ideal S6x8192x8192 .f32 :=
  dlog (inner (cot (wide a4)) (thin a2)) (expArr a0 a1 a3) (rows (expArr a0 a1 a3))

variable (hq : ∀ r j, a0 (ix2 r j) = (q r j : EReal)) (hk : ∀ r j, a1 (ix2 r j) = (k r j : EReal)) (hv : ∀ r j, a2 (ix2 r j) = (v r j : EReal))
  (hg : ∀ r j, a3 (ix2 r j) = (g r j : EReal)) (hct : ∀ r j, a4 (ix2 r j) = (ct r j : EReal))

include hq hk hg in
theorem logits_coe (h : Fin 6) (r s : Fin 8192) : logits (wide a0) (thin a1) a3 (ix3 h r s) = (rlogit q k g h r s : EReal) := by
  rw [logits_at]
  simp only [wide_at, thin_at, hq, hk, hg]
  rw [qk_coe, ← EReal.coe_mul, ← EReal.coe_add, ← EReal.coe_sub]
  rfl

include hq hk hg in
theorem expArr_coe (h : Fin 6) (r s : Fin 8192) : expArr a0 a1 a3 (ix3 h r s) = (expo (rlogit q k g h r) r s : EReal) := by
  unfold expArr
  rw [exps_at, tops_at]
  simp only [masked_at, logits_coe a0 a1 a3 q k g hq hk hg]
  rw [fold_top, exp_masked]

include hq hk hg in
theorem rowsArr_coe (h : Fin 6) (r : Fin 8192) : rows (expArr a0 a1 a3) (ix2 h r) = ((∑ s, expo (rlogit q k g h r) r s : ℝ) : EReal) := by
  rw [rows_at]
  simp only [expArr_coe a0 a1 a3 q k g hq hk hg]
  exact sum_coe _ _

include hv hct in
theorem inner_coe (h : Fin 6) (r s : Fin 8192) : inner (cot (wide a4)) (thin a2) (ix3 h r s) = (dprob v ct h r s : EReal) := by
  rw [inner_at]
  simp only [cot_at, wide_at, thin_at, hv, hct]
  rw [qk_coe]
  rfl

include hq hk hg hv hct in
theorem dlogArr_coe (h : Fin 6) (r s : Fin 8192) : dlogArr a0 a4 a1 a2 a3 (ix3 h r s) = (dlogit q k v g ct h r s : EReal) := by
  unfold dlogArr
  rw [dlog_at]
  simp only [inner_coe a4 a2 v ct hv hct, expArr_coe a0 a1 a3 q k g hq hk hg, rowsArr_coe a0 a1 a3 q k g hq hk hg]
  have hZ := sum_expo_ne (rlogit q k g h r) r
  rw [← EReal.coe_mul, ← EReal.coe_one, div_coe (mul_ne_zero hZ hZ), div_coe hZ]
  simp only [← EReal.coe_mul, sum_coe, ← EReal.coe_neg, ← EReal.coe_add]
  have e := softmax_grad (expo (rlogit q k g h r) r) (prob q k g h r) (dprob v ct h r) _ hZ (prob_eq q k g h r) s
  rw [coe_ite]
  refine congrArg Real.toEReal (Eq.trans ?_ e)
  split_ifs with hs
  · rfl
  · unfold expo; rw [if_neg hs, mul_zero]

end Real

end Stages

section Reference

open Cert.FoxKvRefIdeal Cert.FoxKvRefIdeal.Value

variable (m : (ℓ : Loc nD τ sig) → Buf (Elt Ideal) ℓ) (c : Dev nD)
variable (q : Fin 8192 → Fin 1024 → ℝ) (k v : Fin 8192 → Fin 768 → ℝ) (g : Fin 6 → Fin 8192 → ℝ) (ct : Fin 8192 → Fin 1024 → ℝ)
variable (hq : ∀ r j, m (c.tc.loc main_arg0) (ix2 r j) = (q r j : EReal)) (hk : ∀ r j, m (c.tc.loc main_arg1) (ix2 r j) = (k r j : EReal))
variable (hv : ∀ r j, m (c.tc.loc main_arg2) (ix2 r j) = (v r j : EReal)) (hg : ∀ r j, m (c.tc.loc main_arg3) (ix2 r j) = (g r j : EReal))
variable (hct : ∀ r j, m (c.tc.loc main_arg4) (ix2 r j) = (ct r j : EReal))

theorem v78_eq : res_main_v78 m c = outer (cot (wide (m (c.tc.loc main_arg4))))
    (quot (expArr (m (c.tc.loc main_arg0)) (m (c.tc.loc main_arg1)) (m (c.tc.loc main_arg3)))
      (rows (expArr (m (c.tc.loc main_arg0)) (m (c.tc.loc main_arg1)) (m (c.tc.loc main_arg3))))) := rfl

theorem v79_eq : res_main_v79 m c = keys (dlogArr (m (c.tc.loc main_arg0)) (m (c.tc.loc main_arg4)) (m (c.tc.loc main_arg1)) (m (c.tc.loc main_arg2)) (m (c.tc.loc main_arg3)))
    (wide (m (c.tc.loc main_arg0))) := rfl

theorem v80_eq : res_main_v80 m c
    = gates (dlogArr (m (c.tc.loc main_arg0)) (m (c.tc.loc main_arg4)) (m (c.tc.loc main_arg1)) (m (c.tc.loc main_arg2)) (m (c.tc.loc main_arg3))) := rfl

theorem colw_head (j : Fin 768) : colw (head j) (entry j) = Fin.castLE (by decide) j :=
  Fin.ext (by simp only [colw, head, entry, Fin.coe_castLE]; omega)

include hq hk hg hct in
/-- The reference's gradient in the values. -/
theorem ref_dv (s : Fin 8192) (j : Fin 768) : (res_main_v78 m c : FVec Ideal S8192x768 .f32) (ix2 s j) = (dval q k g ct s j : EReal) := by
  rw [v78_eq, outer_at]
  have e : ∀ r, quot (expArr (m (c.tc.loc main_arg0)) (m (c.tc.loc main_arg1)) (m (c.tc.loc main_arg3)))
      (rows (expArr (m (c.tc.loc main_arg0)) (m (c.tc.loc main_arg1)) (m (c.tc.loc main_arg3)))) (ix3 (head j) r s) = (prob q k g (head j) r s : EReal) := fun r => by
    rw [quot_at, expArr_coe _ _ _ q k g hq hk hg, rowsArr_coe _ _ _ q k g hq hk hg, div_coe (sum_expo_ne _ r), prob_eq]
  simp only [e, cot_at, wide_at, hct, colw_head, ← EReal.coe_mul, sum_coe]
  exact congrArg Real.toEReal (Finset.sum_congr rfl fun r _ => mul_comm _ _)

include hq hk hv hg hct in
/-- The reference's gradient in the keys. -/
theorem ref_dk (s : Fin 8192) (j : Fin 768) : (res_main_v79 m c : FVec Ideal S8192x768 .f32) (ix2 s j) = (dkey q k v g ct s j : EReal) := by
  rw [v79_eq, keys_at]
  simp only [dlogArr_coe _ _ _ _ _ q k v g ct hq hk hv hg hct, wide_at, hq, colw_head, ← EReal.coe_mul, sum_coe]
  rfl

include hq hk hv hg hct in
/-- The reference's gradient in the sums of log gates. -/
theorem ref_dc (h : Fin 6) (s : Fin 8192) : (res_main_v80 m c : FVec Ideal S6x1x8192 .f32) (ix3 h 0 s) = (dgate q k v g ct h s : EReal) := by
  rw [v80_eq, gates_at]
  simp only [dlogArr_coe _ _ _ _ _ q k v g ct hq hk hv hg hct, ← EReal.coe_neg, sum_coe]
  exact congrArg Real.toEReal (Finset.sum_neg_distrib _)

end Reference

end Cert.FoxKvProof

end
-- ==== Proof.FoxKvHost.lean ====
/- What the host lines before the kernel compute: the row log-sums of the attention, and the row sums of its result against the
   cotangent. -/
module

public import proofs.«01_k».proof.Proof.FoxKvRef
public import proofs.«01_k».proof.Proof.Gen.FoxKvIdeal.Frame
public import Idealize.ShloMosaic.Lib.StableHlo.ReadAt

@[expose] public section

set_option maxRecDepth 16384

noncomputable section

namespace Cert.FoxKvProof

open Cert.Reals Cert.Fox Cert.FoxKvIdeal Cert.FoxKvIdeal.Gen Idealize.ShloMosaic Idealize.ShloMosaic.TcCoe Idealize.SL.Sem
open scoped BigOperators

/-! ## The host's functions -/

/-- The logits without the part that a row shares. -/
def logits0 (q k : FVec Ideal S8192x6x128 .f32) (g : FVec Ideal S6x8192 .f32) : FVec Ideal S6x8192x8192 .f32 :=
  subf (mulf (Host.dotGeneral dot_S8192x6x128_S8192x6x128_S6x8192x8192_2_2_0_0_1_1 none q k)
      (broadcastInDim S6x8192x8192 ![] bcast_S_S6x8192x8192 (constant S_ .f32 0x3DB504F3#32)))
    (broadcastInDim S6x8192x8192 ![0, 1, 2] bcast_S6x1x8192_S6x8192x8192_0_1_2 (broadcastInDim S6x1x8192 ![0, 2] bcast_S6x8192_S6x1x8192_0_2 g))

theorem logits0_at (q k : FVec Ideal S8192x6x128 .f32) (g : FVec Ideal S6x8192 .f32) (h : Fin 6) (r s : Fin 8192) :
    logits0 q k g (ix3 h r s) = (∑ d, q (ix3 r h d) * k (ix3 s h d)) * (scale : EReal) - g (ix2 h s) := by
  pointwise [logits0]
  rw [ofBits_scale]

/-- The greatest entry of each row. -/
def tops0 (x : FVec Ideal S6x8192x8192 .f32) : FVec Ideal S6x8192 .f32 :=
  Host.reduce FloatOps.maximumf x (constant S_ .f32 0xFF800000#32) reducesTo_S6x8192x8192_S6x8192_d2 h_S_

theorem tops0_at (x : FVec Ideal S6x8192x8192 .f32) (h : Fin 6) (r : Fin 8192) :
    tops0 x (ix2 h r) = Finset.fold max ⊥ (fun s => x (ix3 h r s)) Finset.univ :=
  reduce_max _ h_S_ x _ low_at h r

/-- The exponentials of an array less its rows' greatest entries. -/
def exps0 (x : FVec Ideal S6x8192x8192 .f32) : FVec Ideal S6x8192x8192 .f32 := Host.exp (subf x (spread (tops0 x)))

theorem exps0_at (x : FVec Ideal S6x8192x8192 .f32) (h : Fin 6) (r s : Fin 8192) :
    exps0 x (ix3 h r s) = Ideal.exp (x (ix3 h r s) - tops0 x (ix2 h r)) := by
  rw [← spread_at (tops0 x) h r s]
  rfl

/-- The log-sums of the rows, base two. -/
def lsum (t z : FVec Ideal S6x8192 .f32) : FVec Ideal S6x8192x1 .f32 :=
  Host.divf (addf (broadcastInDim S6x8192x1 ![0, 1] bcast_S6x8192_S6x8192x1_0_1 t) (Host.log (broadcastInDim S6x8192x1 ![0, 1] bcast_S6x8192_S6x8192x1_0_1 z)))
    (broadcastInDim S6x8192x1 ![] bcast_S_S6x8192x1 (Host.log (constant S_ .f32 0x40000000#32)))

theorem lsum_at (t z : FVec Ideal S6x8192 .f32) (h : Fin 6) (r : Fin 8192) :
    lsum t z (ix3 h r 0) = Ideal.div (t (ix2 h r) + Ideal.log (z (ix2 h r))) (Ideal.log ((2 : ℝ) : EReal)) := by
  pointwise [lsum]
  rw [ofBits_two]

/-- The attention's result, from values and weights. -/
def outp (v : FVec Ideal S8192x6x128 .f32) (p : FVec Ideal S6x8192x8192 .f32) : FVec Ideal S8192x768 .f32 :=
  shapeCast _ (transpose S8192x6x128 [2, 0, 1] (Host.dotGeneral dot_S8192x6x128_S6x8192x8192_S6x128x8192_0_2_2_1_1_0 none v p) transposes_S6x128x8192_S8192x6x128_2_0_1) shapeCasts_S8192x6x128_S8192x768

theorem outp_at (v : FVec Ideal S8192x6x128 .f32) (p : FVec Ideal S6x8192x8192 .f32) (r : Fin 8192) (j : Fin 768) :
    outp v p (ix2 r j) = ∑ s, v (ix3 s (head j) (entry j)) * p (ix3 (head j) r s) := by
  pointwise [outp, head, entry]

/-- The row sums of the attention's result against the cotangent. -/
def delt (o : FVec Ideal S8192x768 .f32) (d : FVec Ideal S8192x1024 .f32) : FVec Ideal S6x8192x1 .f32 :=
  shapeCast _ (transpose S6x8192 [1, 0] (Host.reduceAdd (shapeCast S8192x6x128 (mulf o (extractStridedSlice S8192x768 ![0, 0] d slices_S8192x1024_S8192x768_0_0)) shapeCasts_S8192x768_S8192x6x128)
    (constant S_ .f32 0x00000000#32) reducesTo_S8192x6x128_S8192x6_d2 h_S_) transposes_S8192x6_S6x8192_1_0) shapeCasts_S6x8192_S6x8192x1

theorem delt_at (o : FVec Ideal S8192x768 .f32) (d : FVec Ideal S8192x1024 .f32) (h : Fin 6) (r : Fin 8192) :
    delt o d (ix3 h r 0) = ∑ e, o (ix2 r (col h e)) * d (ix2 r (colw h e)) := by
  pointwise [delt, col, colw]

/-- The sums of log gates, base two. -/
def crow (g : FVec Ideal S6x8192 .f32) : FVec Ideal S6x1x8192 .f32 :=
  shapeCast _ (Host.divf g (broadcastInDim S6x8192 ![] bcast_S_S6x8192 (Host.log (constant S_ .f32 0x40000000#32)))) shapeCasts_S6x8192_S6x1x8192

theorem crow_at (g : FVec Ideal S6x8192 .f32) (h : Fin 6) (s : Fin 8192) :
    crow g (ix3 h 0 s) = Ideal.div (g (ix2 h s)) (Ideal.log ((2 : ℝ) : EReal)) := by
  pointwise [crow]
  rw [ofBits_two]

/-! ## The saved arrays in real numbers -/

/-- The logarithm of a positive real number. -/
theorem log_pos_coe {x : ℝ} (hx : 0 < x) : Ideal.log (x : EReal) = (Real.log x : EReal) := by
  rw [Ideal.log_coe, if_neg hx.not_ge]

theorem log_two : Ideal.log ((2 : ℝ) : EReal) = (Real.log 2 : EReal) := log_pos_coe (by norm_num)

theorem log_two_ne : Real.log 2 ≠ 0 := (Real.log_pos (by norm_num)).ne'

theorem head_col (h : Fin 6) (e : Fin 128) : head (col h e) = h := Fin.ext (by simp only [head, col]; omega)

theorem entry_col (h : Fin 6) (e : Fin 128) : entry (col h e) = e := Fin.ext (by simp only [entry, col]; omega)

section Saved

variable (a0 a4 : FVec Ideal S8192x1024 .f32) (a1 a2 : FVec Ideal S8192x768 .f32) (a3 : FVec Ideal S6x8192 .f32)

/-- The masked logits of the saved log-sums. -/
def savedLogits : FVec Ideal S6x8192x8192 .f32 := masked (logits0 (wide a0) (thin a1) a3)

/-- The saved log-sums of the rows. -/
def savedSums : FVec Ideal S6x8192x1 .f32 := lsum (tops0 (savedLogits a0 a1 a3)) (rows (exps0 (savedLogits a0 a1 a3)))

/-- The attention's result. -/
def outArr : FVec Ideal S8192x768 .f32 := outp (thin a2) (quot (expArr a0 a1 a3) (rows (expArr a0 a1 a3)))

variable (q : Fin 8192 → Fin 1024 → ℝ) (k v : Fin 8192 → Fin 768 → ℝ) (g : Fin 6 → Fin 8192 → ℝ) (ct : Fin 8192 → Fin 1024 → ℝ)
  (hq : ∀ r j, a0 (ix2 r j) = (q r j : EReal)) (hk : ∀ r j, a1 (ix2 r j) = (k r j : EReal)) (hv : ∀ r j, a2 (ix2 r j) = (v r j : EReal))
  (hg : ∀ r j, a3 (ix2 r j) = (g r j : EReal)) (hct : ∀ r j, a4 (ix2 r j) = (ct r j : EReal))

include hg in
theorem crow_real (h : Fin 6) (s : Fin 8192) : crow a3 (ix3 h 0 s) = ((g h s / Real.log 2 : ℝ) : EReal) := by
  rw [crow_at, log_two, hg, div_coe log_two_ne]

include hq hk hg

theorem saved_coe (h : Fin 6) (r s : Fin 8192) : savedLogits a0 a1 a3 (ix3 h r s) = if s ≤ r then (logit q k g h r s : EReal) else ⊥ := by
  unfold savedLogits
  rw [masked_at, logits0_at]
  simp only [wide_at, thin_at, hq, hk, hg]
  rw [qk_coe, ← EReal.coe_mul, ← EReal.coe_sub]
  rfl

theorem savedSums_coe (h : Fin 6) (r : Fin 8192) :
    savedSums a0 a1 a3 (ix3 h r 0) = ((Real.log (mass (logit q k g h r) r) / Real.log 2 : ℝ) : EReal) := by
  have ht : tops0 (savedLogits a0 a1 a3) (ix2 h r) = (top (logit q k g h r) r : EReal) := by
    rw [tops0_at]
    simp only [saved_coe a0 a1 a3 q k g hq hk hg]
    exact fold_top _ _
  have he : ∀ s, exps0 (savedLogits a0 a1 a3) (ix3 h r s) = (expo (logit q k g h r) r s : EReal) := fun s => by
    rw [exps0_at, ht, saved_coe a0 a1 a3 q k g hq hk hg, exp_masked]
  have hm : mass (logit q k g h r) r = Real.exp (top (logit q k g h r) r) * ∑ s, expo (logit q k g h r) r s := by
    rw [sum_expo]
    exact mass_shift (fun s => logit q k g h r s - top (logit q k g h r) r) r _ _ fun s => by ring
  have hp : 0 < ∑ s, expo (logit q k g h r) r s := mass_pos _ r
  unfold savedSums
  rw [lsum_at, rows_at, ht, log_two]
  simp only [he, sum_coe]
  rw [log_pos_coe hp, ← EReal.coe_add, div_coe log_two_ne, hm, Real.log_mul (Real.exp_ne_zero _) hp.ne', Real.log_exp]

include hv

theorem outArr_coe (r : Fin 8192) (h : Fin 6) (e : Fin 128) :
    outArr a0 a1 a2 a3 (ix2 r (col h e)) = ((∑ s, prob q k g h r s * v s (col h e) : ℝ) : EReal) := by
  unfold outArr
  have hp : ∀ s, quot (expArr a0 a1 a3) (rows (expArr a0 a1 a3)) (ix3 h r s) = (prob q k g h r s : EReal) := fun s => by
    rw [quot_at, expArr_coe _ _ _ q k g hq hk hg, rowsArr_coe _ _ _ q k g hq hk hg, div_coe (sum_expo_ne _ r), prob_eq]
  simp only [outp_at, head_col, entry_col, hp, thin_at, hv, ← EReal.coe_mul, sum_coe]
  exact congrArg Real.toEReal (Finset.sum_congr rfl fun s _ => mul_comm _ _)

omit hq hk hv hg in
/-- The row sums of the attention's result against its cotangent are the weights' sums against theirs. -/
theorem sum_out (h : Fin 6) (r : Fin 8192) :
    ∑ e, (∑ s, prob q k g h r s * v s (col h e)) * ct r (colw h e) = ∑ t, prob q k g h r t * dprob v ct h r t := by
  simp only [Finset.sum_mul, dprob, Finset.mul_sum]
  rw [Finset.sum_comm]
  exact Finset.sum_congr rfl fun s _ => Finset.sum_congr rfl fun e _ => by ring

include hct

theorem delt_real (h : Fin 6) (r : Fin 8192) :
    delt (outArr a0 a1 a2 a3) a4 (ix3 h r 0) = ((∑ t, prob q k g h r t * dprob v ct h r t : ℝ) : EReal) := by
  rw [delt_at]
  simp only [outArr_coe a0 a1 a2 a3 q k v g hq hk hv hg, hct, ← EReal.coe_mul, sum_coe]
  exact congrArg Real.toEReal (sum_out q k v g ct h r)

end Saved

/-! ## The kernel's arguments -/

section Arguments

variable (m : (ℓ : Loc nD τ sig) → Buf (Elt Ideal) ℓ) (c : Dev nD)

theorem v3_eq : (V m c main_v3 : FVec Ideal S6x1x8192 .f32) = crow (m (c.tc.loc main_arg3)) := by
  unfold V
  after_reads_simp
  rfl

theorem v31_eq : (V m c main_v31 : FVec Ideal S6x8192x1 .f32)
    = savedSums (m (c.tc.loc main_arg0)) (m (c.tc.loc main_arg1)) (m (c.tc.loc main_arg3)) := by
  unfold V
  after_reads_simp
  rfl

theorem v71_eq : (V m c main_v71 : FVec Ideal S6x8192x1 .f32)
    = delt (outArr (m (c.tc.loc main_arg0)) (m (c.tc.loc main_arg1)) (m (c.tc.loc main_arg2)) (m (c.tc.loc main_arg3))) (m (c.tc.loc main_arg4)) := by
  unfold V
  after_reads_simp
  rfl

theorem v72_at (r : Fin 8192) (j : Fin 1024) : (V m c main_v72 : FVec Ideal S8192x1024 .bf16) (ix2 r j) = (m (c.tc.loc main_arg0) : FVec Ideal S8192x1024 .f32) (ix2 r j) := by
  unfold V
  after_reads_simp
  rfl

theorem v73_at (r : Fin 8192) (j : Fin 768) : (V m c main_v73 : FVec Ideal S8192x768 .bf16) (ix2 r j) = (m (c.tc.loc main_arg1) : FVec Ideal S8192x768 .f32) (ix2 r j) := by
  unfold V
  after_reads_simp
  rfl

theorem v74_at (r : Fin 8192) (j : Fin 768) : (V m c main_v74 : FVec Ideal S8192x768 .bf16) (ix2 r j) = (m (c.tc.loc main_arg2) : FVec Ideal S8192x768 .f32) (ix2 r j) := by
  unfold V
  after_reads_simp
  rfl

theorem arg4_at (r : Fin 8192) (j : Fin 1024) : (V m c main_arg4 : FVec Ideal S8192x1024 .f32) (ix2 r j) = (m (c.tc.loc main_arg4) : FVec Ideal S8192x1024 .f32) (ix2 r j) := by
  unfold V
  after_reads_simp

/-! ## The arguments in real numbers -/

variable (q : Fin 8192 → Fin 1024 → ℝ) (k v : Fin 8192 → Fin 768 → ℝ) (g : Fin 6 → Fin 8192 → ℝ) (ct : Fin 8192 → Fin 1024 → ℝ)
variable (hq : ∀ r j, m (c.tc.loc main_arg0) (ix2 r j) = (q r j : EReal)) (hk : ∀ r j, m (c.tc.loc main_arg1) (ix2 r j) = (k r j : EReal))
variable (hv : ∀ r j, m (c.tc.loc main_arg2) (ix2 r j) = (v r j : EReal)) (hg : ∀ r j, m (c.tc.loc main_arg3) (ix2 r j) = (g r j : EReal))
variable (hct : ∀ r j, m (c.tc.loc main_arg4) (ix2 r j) = (ct r j : EReal))

include hg in
theorem crow_coe (h : Fin 6) (s : Fin 8192) : (V m c main_v3 : FVec Ideal S6x1x8192 .f32) (ix3 h 0 s) = ((g h s / Real.log 2 : ℝ) : EReal) := by
  rw [v3_eq, crow_real _ g hg]

include hq hk hg in
theorem lse_coe (h : Fin 6) (r : Fin 8192) :
    (V m c main_v31 : FVec Ideal S6x8192x1 .f32) (ix3 h r 0) = ((Real.log (mass (logit q k g h r) r) / Real.log 2 : ℝ) : EReal) := by
  rw [v31_eq, savedSums_coe _ _ _ q k g hq hk hg]

include hq hk hv hg hct in
theorem delta_coe (h : Fin 6) (r : Fin 8192) :
    (V m c main_v71 : FVec Ideal S6x8192x1 .f32) (ix3 h r 0) = ((∑ t, prob q k g h r t * dprob v ct h r t : ℝ) : EReal) := by
  rw [v71_eq, delt_real _ _ _ _ _ q k v g ct hq hk hv hg hct]

end Arguments

end Cert.FoxKvProof

end
-- ==== Proof.FoxKv.lean ====
/- The attention's gradient in keys, values and sums of log gates: what the kernel's arrays hold. -/
module

public import proofs.«01_k».proof.Proof.FoxKvCases
public import proofs.«01_k».proof.Proof.FoxKvHost

@[expose] public section

set_option maxRecDepth 16384

noncomputable section

namespace Cert.FoxKvProof

open Cert.Reals Cert.Fox Cert.Heads Cert.FoxKvIdeal Cert.FoxKvIdeal.Gen Idealize.ShloMosaic Idealize.ShloMosaic.TcCoe Idealize.SL.Sem
open scoped BigOperators

/-- The block of each window at each grid point. -/
theorem idx : ∀ t : Fin cfg0.N, win0_0.index t = ![max (t.val % 8) (t.val / 8 % 8), t.val / 64] ∧ win0_1.index t = ![t.val / 8 % 8, t.val / 64]
    ∧ win0_2.index t = ![t.val / 8 % 8, t.val / 64] ∧ win0_3.index t = ![t.val / 64, 0, t.val / 8 % 8]
    ∧ win0_4.index t = ![t.val / 64, max (t.val % 8) (t.val / 8 % 8), 0] ∧ win0_5.index t = ![t.val / 64, max (t.val % 8) (t.val / 8 % 8), 0]
    ∧ win0_6.index t = ![max (t.val % 8) (t.val / 8 % 8), t.val / 64] ∧ win0_7.index t = ![t.val / 8 % 8, t.val / 64]
    ∧ win0_8.index t = ![t.val / 8 % 8, t.val / 64] ∧ win0_9.index t = ![t.val / 64, 0, t.val / 8 % 8] :=
  (by decide +kernel : ∀ t : Fin grid0.N, _)

theorem pt_lt (t : Fin cfg0.N) : t.val < 128 := lt_of_lt_of_eq t.isLt N_0

/-- Row `r` of the queries' tile, and of the tile that the kernel reads: at points above the diagonal it reads the diagonal's. -/
def qrow (t : Fin cfg0.N) (r : Fin 1024) : Fin 8192 := ⟨t.val % 8 * 1024 + r.val, by omega⟩
def rrow (t : Fin cfg0.N) (r : Fin 1024) : Fin 8192 := ⟨max (t.val % 8) (t.val / 8 % 8) * 1024 + r.val, by omega⟩

/-- Row `s` of the keys' tile. -/
def krow (t : Fin cfg0.N) (s : Fin 1024) : Fin 8192 := ⟨t.val / 8 % 8 * 1024 + s.val, by omega⟩

/-- The heads and the columns of a block. -/
def hd (t : Fin cfg0.N) (h : Fin 3) : Fin 6 := ⟨t.val / 64 * 3 + h.val, by have := pt_lt t; omega⟩
def kcol (t : Fin cfg0.N) (e : Fin 384) : Fin 768 := ⟨t.val / 64 * 384 + e.val, by have := pt_lt t; omega⟩

theorem kcol_at3 (t : Fin cfg0.N) (h : Fin 3) (d : Fin 128) : kcol t (at3 h d) = col (hd t h) d := Fin.ext (by simp only [kcol, at3, col, hd]; omega)

theorem cast_kcol (t : Fin cfg0.N) (h : Fin 3) (d : Fin 128) : Fin.castLE (by decide) (kcol t (at3 h d)) = colw (hd t h) d :=
  Fin.ext (by simp only [kcol, at3, colw, hd, Fin.val_castLE]; omega)

theorem head_kcol (t : Fin cfg0.N) (h : Fin 3) (d : Fin 128) : head (kcol t (at3 h d)) = hd t h := Fin.ext (by simp only [kcol, at3, head, hd]; omega)

theorem rrow_eq {t : Fin cfg0.N} (h : t.val / 8 % 8 ≤ t.val % 8) : rrow t = qrow t := funext fun r => Fin.ext (by simp only [rrow, qrow]; omega)

section Values

variable (q : Fin 8192 → Fin 1024 → ℝ) (k v : Fin 8192 → Fin 768 → ℝ) (g : Fin 6 → Fin 8192 → ℝ) (ct : Fin 8192 → Fin 1024 → ℝ)

/-- The numbers in the blocks at a grid point. -/
def bq (t : Fin cfg0.N) (h : Fin 3) (r : Fin 1024) (d : Fin 128) : ℝ := q (rrow t r) (colw (hd t h) d)
def bk (t : Fin cfg0.N) (h : Fin 3) (s : Fin 1024) (d : Fin 128) : ℝ := k (krow t s) (col (hd t h) d)
def bg (t : Fin cfg0.N) (h : Fin 3) (s : Fin 1024) : ℝ := g (hd t h) (krow t s) / Real.log 2
def bl (t : Fin cfg0.N) (h : Fin 3) (r : Fin 1024) : ℝ := Real.log (mass (logit q k g (hd t h) (rrow t r)) (rrow t r)) / Real.log 2
def bd (t : Fin cfg0.N) (h : Fin 3) (r : Fin 1024) : ℝ := ∑ s, prob q k g (hd t h) (rrow t r) s * dprob v ct (hd t h) (rrow t r) s

/-- Two to the difference of the logits and the row's log-sum, both divided by the logarithm of two, is the weight. -/
theorem pow_prob (h : Fin 6) (r s : Fin 8192) (hs : s ≤ r) :
    Real.rpow 2 (qk q k h r s * (scale * (Real.log 2)⁻¹) - g h s / Real.log 2 - Real.log (mass (logit q k g h r) r) / Real.log 2) = prob q k g h r s := by
  have e : Real.log 2 * (qk q k h r s * (scale * (Real.log 2)⁻¹) - g h s / Real.log 2 - Real.log (mass (logit q k g h r) r) / Real.log 2)
      = logit q k g h r s - Real.log (mass (logit q k g h r) r) := by
    have := log_two_ne
    unfold logit
    field_simp
  unfold prob weight
  rw [if_pos hs, show ∀ x : ℝ, Real.rpow 2 x = Real.exp (Real.log 2 * x) from fun x => Real.rpow_def_of_pos two_pos x, e, Real.exp_sub, Real.exp_log (mass_pos _ _)]

theorem full_prob (t : Fin cfg0.N) (ht : t.val / 8 % 8 + 1 ≤ t.val % 8) (h : Fin 3) (r s : Fin 1024) :
    fullW (bq q t) (bk k t) (bg g t) (bl q k g t) h r s = prob q k g (hd t h) (qrow t r) (krow t s) := by
  rw [← rrow_eq (Nat.le_of_succ_le ht)]
  exact pow_prob q k g (hd t h) (rrow t r) (krow t s) (Fin.le_def.mpr (by simp only [rrow, krow]; omega))

theorem diag_prob (t : Fin cfg0.N) (ht : t.val / 8 % 8 = t.val % 8) (h : Fin 3) (r s : Fin 1024) :
    diagW (bq q t) (bk k t) (bg g t) (bl q k g t) h r s = prob q k g (hd t h) (qrow t r) (krow t s) := by
  rw [← rrow_eq (le_of_eq ht)]
  have e : krow t s ≤ rrow t r ↔ s ≤ r := by simp only [Fin.le_def, rrow, krow]; omega
  unfold diagW diag
  by_cases hs : s ≤ r
  · rw [if_pos hs]; exact pow_prob q k g (hd t h) (rrow t r) (krow t s) (e.mpr hs)
  · rw [if_neg hs]; unfold prob weight; rw [if_neg (mt e.mp hs)]

/-- Above the diagonal every weight is zero. -/
theorem above_prob (t : Fin cfg0.N) (ht : t.val % 8 < t.val / 8 % 8) (h : Fin 6) (r s : Fin 1024) : prob q k g h (qrow t r) (krow t s) = 0 := by
  unfold prob weight
  rw [if_neg]
  simp only [Fin.le_def, qrow, krow]; omega

theorem above_dlogit (t : Fin cfg0.N) (ht : t.val % 8 < t.val / 8 % 8) (h : Fin 6) (r s : Fin 1024) :
    dlogit q k v g ct h (qrow t r) (krow t s) = 0 := by
  unfold dlogit; rw [above_prob q k g t ht, zero_mul]

/-- The logits' gradient in a tile, by the tile's weights. -/
theorem dtile_dlogit (t : Fin cfg0.N) (ht : t.val / 8 % 8 ≤ t.val % 8) (h : Fin 3) (w : Fin 1024 → Fin 1024 → ℝ)
    (hw : ∀ r s, w r s = prob q k g (hd t h) (qrow t r) (krow t s)) (r s : Fin 1024) :
    dtile (bq ct t h) (bk v t h) (bd q k v g ct t h) w r s = dlogit q k v g ct (hd t h) (qrow t r) (krow t s) := by
  unfold dtile dlogit bd
  rw [hw, ← rrow_eq ht]
  rfl

/-- What grid point `t` adds to the gradient in the values, in the keys, and in the sums of log gates. -/
def partV (t : Fin cfg0.N) (s : Fin 1024) (e : Fin 384) : ℝ := ∑ r, prob q k g (head (kcol t e)) (qrow t r) (krow t s) * ct (qrow t r) (Fin.castLE (by decide) (kcol t e))
def partK (t : Fin cfg0.N) (s : Fin 1024) (e : Fin 384) : ℝ :=
  ∑ r, dlogit q k v g ct (head (kcol t e)) (qrow t r) (krow t s) * scale * q (qrow t r) (Fin.castLE (by decide) (kcol t e))
def partG (t : Fin cfg0.N) (h : Fin 3) (s : Fin 1024) : ℝ := ∑ r, -dlogit q k v g ct (hd t h) (qrow t r) (krow t s)

theorem partV_of (t : Fin cfg0.N) (ht : t.val / 8 % 8 ≤ t.val % 8) (h : Fin 3) (w : Fin 1024 → Fin 1024 → ℝ)
    (hw : ∀ r s, w r s = prob q k g (hd t h) (qrow t r) (krow t s)) (s : Fin 1024) (d : Fin 128) :
    ∑ r, w r s * bq ct t h r d = partV q k g ct t s (at3 h d) := by
  unfold partV bq
  rw [cast_kcol, head_kcol, rrow_eq ht]
  exact Finset.sum_congr rfl fun r _ => by rw [hw]

theorem partK_of (t : Fin cfg0.N) (ht : t.val / 8 % 8 ≤ t.val % 8) (h : Fin 3) (w : Fin 1024 → Fin 1024 → ℝ)
    (hw : ∀ r s, w r s = prob q k g (hd t h) (qrow t r) (krow t s)) (s : Fin 1024) (d : Fin 128) :
    (∑ r, dtile (bq ct t h) (bk v t h) (bd q k v g ct t h) w r s * bq q t h r d) * scale = partK q k v g ct t s (at3 h d) := by
  unfold partK
  rw [cast_kcol, head_kcol, Finset.sum_mul]
  refine Finset.sum_congr rfl fun r _ => ?_
  rw [dtile_dlogit q k v g ct t ht h w hw, bq, rrow_eq ht]
  ring

theorem partG_of (t : Fin cfg0.N) (ht : t.val / 8 % 8 ≤ t.val % 8) (h : Fin 3) (w : Fin 1024 → Fin 1024 → ℝ)
    (hw : ∀ r s, w r s = prob q k g (hd t h) (qrow t r) (krow t s)) (s : Fin 1024) :
    -∑ r, dtile (bq ct t h) (bk v t h) (bd q k v g ct t h) w r s = partG q k v g ct t h s := by
  unfold partG
  rw [← Finset.sum_neg_distrib]
  exact Finset.sum_congr rfl fun r _ => by rw [dtile_dlogit q k v g ct t ht h w hw]

theorem partV_above (t : Fin cfg0.N) (ht : t.val % 8 < t.val / 8 % 8) (s : Fin 1024) (e : Fin 384) : partV q k g ct t s e = 0 :=
  Finset.sum_eq_zero fun r _ => by rw [above_prob q k g t ht, zero_mul]

theorem partK_above (t : Fin cfg0.N) (ht : t.val % 8 < t.val / 8 % 8) (s : Fin 1024) (e : Fin 384) : partK q k v g ct t s e = 0 :=
  Finset.sum_eq_zero fun r _ => by rw [above_dlogit q k v g ct t ht, zero_mul, zero_mul]

theorem partG_above (t : Fin cfg0.N) (ht : t.val % 8 < t.val / 8 % 8) (h : Fin 3) (s : Fin 1024) : partG q k v g ct t h s = 0 :=
  Finset.sum_eq_zero fun r _ => by rw [above_dlogit q k v g ct t ht, neg_zero]

end Values

variable (m : (ℓ : Loc nD τ sig) → Buf (Elt Ideal) ℓ) (c : Dev nD)
  (q : Fin 8192 → Fin 1024 → ℝ) (k v : Fin 8192 → Fin 768 → ℝ) (g : Fin 6 → Fin 8192 → ℝ) (ct : Fin 8192 → Fin 1024 → ℝ)
  (hq : ∀ r j, m (c.tc.loc main_arg0) (ix2 r j) = (q r j : EReal)) (hk : ∀ r j, m (c.tc.loc main_arg1) (ix2 r j) = (k r j : EReal))
  (hv : ∀ r j, m (c.tc.loc main_arg2) (ix2 r j) = (v r j : EReal)) (hg : ∀ h r, m (c.tc.loc main_arg3) (ix2 h r) = (g h r : EReal))
  (hct : ∀ r j, m (c.tc.loc main_arg4) (ix2 r j) = (ct r j : EReal))

include hq in
theorem blk_q (t : Fin cfg0.N) (h : Fin 3) (r : Fin 1024) (d : Fin 128) :
    (X0_0 m c t : FVec Ideal S1024x384 .bf16) (ix2 r (at3 h d)) = (bq q t h r d : EReal) := by
  unfold bq; rw [← hq, ← v72_at m c]
  unfold X0_0 Pipeline.Window.fill; rw [dif_pos (moved0_0 t _)]; blk_ext [iblk, idx t, rrow, colw, hd, at3]

include hct in
theorem blk_ct (t : Fin cfg0.N) (h : Fin 3) (r : Fin 1024) (d : Fin 128) :
    (X0_6 m c t : FVec Ideal S1024x384 .f32) (ix2 r (at3 h d)) = (bq ct t h r d : EReal) := by
  unfold bq; rw [← hct, ← arg4_at m c]
  unfold X0_6 Pipeline.Window.fill; rw [dif_pos (moved0_6 t _)]; blk_ext [iblk, idx t, rrow, colw, hd, at3]

include hk in
theorem blk_k (t : Fin cfg0.N) (h : Fin 3) (s : Fin 1024) (d : Fin 128) :
    (iblk m c 1 t : FVec Ideal S1024x384 .bf16) (ix2 s (at3 h d)) = (bk k t h s d : EReal) := by
  unfold bk; rw [← hk, ← v73_at m c]; blk_ext [iblk, idx t, krow, col, hd, at3]

include hv in
theorem blk_v (t : Fin cfg0.N) (h : Fin 3) (s : Fin 1024) (d : Fin 128) :
    (iblk m c 2 t : FVec Ideal S1024x384 .bf16) (ix2 s (at3 h d)) = (bk v t h s d : EReal) := by
  unfold bk; rw [← hv, ← v74_at m c]; blk_ext [iblk, idx t, krow, col, hd, at3]

include hg in
theorem blk_g (t : Fin cfg0.N) (h : Fin 3) (s : Fin 1024) : (iblk m c 3 t : FVec Ideal S3x1x1024 .f32) (ix3 h 0 s) = (bg g t h s : EReal) := by
  unfold bg; rw [← crow_coe m c g hg]; blk_ext [iblk, idx t, krow, hd]

include hq hk hg in
theorem blk_l (t : Fin cfg0.N) (h : Fin 3) (r : Fin 1024) : (iblk m c 4 t : FVec Ideal S3x1024x1 .f32) (ix3 h r 0) = (bl q k g t h r : EReal) := by
  unfold bl; rw [← lse_coe m c q k g hq hk hg]; blk_ext [iblk, idx t, rrow, hd]

include hq hk hv hg hct in
theorem blk_d (t : Fin cfg0.N) (h : Fin 3) (r : Fin 1024) : (iblk m c 5 t : FVec Ideal S3x1024x1 .f32) (ix3 h r 0) = (bd q k v g ct t h r : EReal) := by
  unfold bd; rw [← delta_coe m c q k v g ct hq hk hv hg hct]; blk_ext [iblk, idx t, rrow, hd]

include hq hk hv hg hct in
theorem blocks (t : Fin cfg0.N) : Blocks (X0_0 m c t) (iblk m c 1 t) (iblk m c 2 t) (X0_6 m c t) (iblk m c 3 t) (iblk m c 4 t) (iblk m c 5 t)
    (bq q t) (bk k t) (bq ct t) (bk v t) (bg g t) (bl q k g t) (bd q k v g ct t) where
  hA := blk_q m c q hq t
  hB := blk_k m c k hk t
  hO := blk_ct m c ct hct t
  hV := blk_v m c v hv t
  hC := blk_g m c g hg t
  hL := blk_l m c q k g hq hk hg t
  hD := blk_d m c q k v g ct hq hk hv hg hct t

end Cert.FoxKvProof

end
-- ==== Proof.FoxKvFinal.lean ====
/- The attention's gradient in keys, values and sums of log gates: the kernel's arrays, added up over the queries' tiles. -/
module

public import proofs.«01_k».proof.Proof.FoxKv

@[expose] public section

set_option maxRecDepth 16384

noncomputable section

namespace Cert.FoxKvProof

open Cert.Reals Cert.Fox Cert.Heads Cert.FoxKvIdeal Cert.FoxKvIdeal.Gen Idealize.ShloMosaic Idealize.ShloMosaic.TcCoe Idealize.SL.Sem
open scoped BigOperators

/-- The points of a run of eight work on one tile of keys of one block of heads. -/
theorem krow_run {t : Fin cfg0.N} (ht : t.val % 8 = 8 - 1) (p : Fin 8) : krow ⟨8 * (t.val / 8) + p.val, Pipeline.run_point_lt_of_flush t ht p⟩ = krow t :=
  funext fun s => Fin.ext (by simp only [krow]; omega)

theorem kcol_run {t : Fin cfg0.N} (ht : t.val % 8 = 8 - 1) (p : Fin 8) : kcol ⟨8 * (t.val / 8) + p.val, Pipeline.run_point_lt_of_flush t ht p⟩ = kcol t :=
  funext fun s => Fin.ext (by simp only [kcol]; omega)

theorem hd_run {t : Fin cfg0.N} (ht : t.val % 8 = 8 - 1) (p : Fin 8) : hd ⟨8 * (t.val / 8) + p.val, Pipeline.run_point_lt_of_flush t ht p⟩ = hd t :=
  funext fun s => Fin.ext (by simp only [hd]; omega)

/-- A sum over the queries' tiles of a run of eight points is the sum over the queries. -/
theorem sum_run {t : Fin cfg0.N} (ht : t.val % 8 = 8 - 1) (f : Fin 8192 → ℝ) :
    ∑ p : Fin 8, ((∑ r, f (qrow ⟨8 * (t.val / 8) + p.val, Pipeline.run_point_lt_of_flush t ht p⟩ r) : ℝ) : EReal) = ((∑ r, f r : ℝ) : EReal) :=
  sum_tiles rfl (fun (p : Fin 8) r => qrow ⟨8 * (t.val / 8) + p.val, Pipeline.run_point_lt_of_flush t ht p⟩ r)
    (fun p r => by simp only [qrow]; omega) f

variable (m : (ℓ : Loc nD τ sig) → Buf (Elt Ideal) ℓ) (c : Dev nD)
  (q : Fin 8192 → Fin 1024 → ℝ) (k v : Fin 8192 → Fin 768 → ℝ) (g : Fin 6 → Fin 8192 → ℝ) (ct : Fin 8192 → Fin 1024 → ℝ)
  (hq : ∀ r j, m (c.tc.loc main_arg0) (ix2 r j) = (q r j : EReal)) (hk : ∀ r j, m (c.tc.loc main_arg1) (ix2 r j) = (k r j : EReal))
  (hv : ∀ r j, m (c.tc.loc main_arg2) (ix2 r j) = (v r j : EReal)) (hg : ∀ h r, m (c.tc.loc main_arg3) (ix2 h r) = (g h r : EReal))
  (hct : ∀ r j, m (c.tc.loc main_arg4) (ix2 r j) = (ct r j : EReal))

include hq hk hv hg hct

omit hq hk hv hg hct in
/-- The parts of the gradient in the values that a run of eight points adds, as one sum. -/
theorem partV_run {t : Fin cfg0.N} (ht : t.val % 8 = 8 - 1) (s : Fin 1024) (e : Fin 384) :
    ∑ p : Fin 8, ((partV q k g ct ⟨8 * (t.val / 8) + p.val, Pipeline.run_point_lt_of_flush t ht p⟩ s e : ℝ) : EReal)
      = ((dval q k g ct (krow t s) (kcol t e) : ℝ) : EReal) := by
  simp only [partV, krow_run ht, kcol_run ht]
  exact sum_run ht fun r => prob q k g (head (kcol t e)) r (krow t s) * ct r (Fin.castLE (by decide) (kcol t e))

/-- The first point of a run of eight leaves its own part of the gradient in the values; a later one adds its part. -/
theorem dv_reset (t : Fin cfg0.N) (h0 : t.val % 8 = 0) (y : S1024x384.Idx) : (outsAt0 m c t.val t.isLt).2.1 y = 0 + ((partV q k g ct t (y 0) (y 1) : ℝ) : EReal) := by
  idx_vars y
  obtain ⟨h, d, rfl⟩ := exists_at3 y1
  by_cases h2 : t.val / 8 % 8 = t.val % 8
  · exact (dv_A m c t (blocks m c q k v g ct hq hk hv hg hct t) h0 (by omega) h2 y0 h d).trans
      (congrArg (fun x : ℝ => (0 : EReal) + (x : EReal)) (partV_of q k g ct t (le_of_eq h2) h _ (fun r s => diag_prob q k g t h2 h r s) y0 d))
  · exact (dv_C m c t h0 (by omega) h2 (ix2 y0 (at3 h d))).trans
      ((congrArg (fun x : ℝ => (0 : EReal) + (x : EReal)) (partV_above q k g ct t (by omega) y0 (at3 h d))).trans (by simp)).symm

theorem dv_step (t : Fin cfg0.N) (h0 : ¬t.val % 8 = 0) (y : S1024x384.Idx) :
    (outsAt0 m c t.val t.isLt).2.1 y = (before m c t).2.1 y + ((partV q k g ct t (y 0) (y 1) : ℝ) : EReal) := by
  idx_vars y
  obtain ⟨h, d, rfl⟩ := exists_at3 y1
  rcases lt_trichotomy (t.val % 8) (t.val / 8 % 8) with h2 | h2 | h2
  · exact (dv_E m c t h0 (by omega) (by omega) (ix2 y0 (at3 h d))).trans
      ((congrArg (fun x : ℝ => ((before m c t).2.1 (ix2 y0 (at3 h d)) : EReal) + (x : EReal)) (partV_above q k g ct t h2 y0 (at3 h d))).trans (by simp)).symm
  · exact (dv_D m c t (blocks m c q k v g ct hq hk hv hg hct t) h0 (by omega) h2.symm y0 h d).trans
      (congrArg (fun x : ℝ => ((before m c t).2.1 (ix2 y0 (at3 h d)) : EReal) + (x : EReal)) (partV_of q k g ct t (le_of_eq h2.symm) h _ (fun r s => diag_prob q k g t h2.symm h r s) y0 d))
  · exact (dv_B m c t (blocks m c q k v g ct hq hk hv hg hct t) h0 h2 (by omega) y0 h d).trans
      (congrArg (fun x : ℝ => ((before m c t).2.1 (ix2 y0 (at3 h d)) : EReal) + (x : EReal)) (partV_of q k g ct t (le_of_lt h2) h _ (fun r s => full_prob q k g t h2 h r s) y0 d))

/-- The gradient in the values, as the kernel leaves it. -/
theorem final_dv : (dats m 0 c).arrAt 8 (cfgs 0).N = fun i => ((dval q k g ct (i 0) (i 1) : ℝ) : EReal) := by
  refine (dats m 0 c).arrAt_eq_of_covers 8 _ (by decide +kernel) fun t hf y => ?_
  have ht : t.val % 8 = 8 - 1 := (flush0_8 t).mp hf
  have e : ((cfg0.win 8).blk t).view.emb y = ix2 (krow t (y 0)) (kcol t (y 1)) := by blk_ext [idx t, krow, kcol]
  rw [e]
  blk_simp
  rw [after0_8, Pipeline.eq_sum_fin_of_reset_step_apply_of_flush (fun n h => (outsAt0 m c n h).2.1) 8 (fun _ => 0)
    (fun p y => ((partV q k g ct p (y 0) (y 1) : ℝ) : EReal)) (dv_reset m c q k v g ct hq hk hv hg hct) (dv_step m c q k v g ct hq hk hv hg hct) t ht y, zero_add]
  exact partV_run q k g ct ht (y 0) (y 1)

omit hq hk hv hg hct in
/-- The parts of the gradient in the keys that a run of eight points adds, as one sum. -/
theorem partK_run {t : Fin cfg0.N} (ht : t.val % 8 = 8 - 1) (s : Fin 1024) (e : Fin 384) :
    ∑ p : Fin 8, ((partK q k v g ct ⟨8 * (t.val / 8) + p.val, Pipeline.run_point_lt_of_flush t ht p⟩ s e : ℝ) : EReal)
      = ((dkey q k v g ct (krow t s) (kcol t e) : ℝ) : EReal) := by
  simp only [partK, krow_run ht, kcol_run ht]
  exact sum_run ht fun r => dlogit q k v g ct (head (kcol t e)) r (krow t s) * scale * q r (Fin.castLE (by decide) (kcol t e))

/-- The first point of a run of eight leaves its own part of the gradient in the keys; a later one adds its part. -/
theorem dk_reset (t : Fin cfg0.N) (h0 : t.val % 8 = 0) (y : S1024x384.Idx) : (outsAt0 m c t.val t.isLt).1 y = 0 + ((partK q k v g ct t (y 0) (y 1) : ℝ) : EReal) := by
  idx_vars y
  obtain ⟨h, d, rfl⟩ := exists_at3 y1
  by_cases h2 : t.val / 8 % 8 = t.val % 8
  · exact (dk_A m c t (blocks m c q k v g ct hq hk hv hg hct t) h0 (by omega) h2 y0 h d).trans
      (congrArg (fun x : ℝ => (0 : EReal) + (x : EReal)) (partK_of q k v g ct t (le_of_eq h2) h _ (fun r s => diag_prob q k g t h2 h r s) y0 d))
  · exact (dk_C m c t h0 (by omega) h2 (ix2 y0 (at3 h d))).trans
      ((congrArg (fun x : ℝ => (0 : EReal) + (x : EReal)) (partK_above q k v g ct t (by omega) y0 (at3 h d))).trans (by simp)).symm

theorem dk_step (t : Fin cfg0.N) (h0 : ¬t.val % 8 = 0) (y : S1024x384.Idx) :
    (outsAt0 m c t.val t.isLt).1 y = (before m c t).1 y + ((partK q k v g ct t (y 0) (y 1) : ℝ) : EReal) := by
  idx_vars y
  obtain ⟨h, d, rfl⟩ := exists_at3 y1
  rcases lt_trichotomy (t.val % 8) (t.val / 8 % 8) with h2 | h2 | h2
  · exact (dk_E m c t h0 (by omega) (by omega) (ix2 y0 (at3 h d))).trans
      ((congrArg (fun x : ℝ => ((before m c t).1 (ix2 y0 (at3 h d)) : EReal) + (x : EReal)) (partK_above q k v g ct t h2 y0 (at3 h d))).trans (by simp)).symm
  · exact (dk_D m c t (blocks m c q k v g ct hq hk hv hg hct t) h0 (by omega) h2.symm y0 h d).trans
      (congrArg (fun x : ℝ => ((before m c t).1 (ix2 y0 (at3 h d)) : EReal) + (x : EReal)) (partK_of q k v g ct t (le_of_eq h2.symm) h _ (fun r s => diag_prob q k g t h2.symm h r s) y0 d))
  · exact (dk_B m c t (blocks m c q k v g ct hq hk hv hg hct t) h0 h2 (by omega) y0 h d).trans
      (congrArg (fun x : ℝ => ((before m c t).1 (ix2 y0 (at3 h d)) : EReal) + (x : EReal)) (partK_of q k v g ct t (le_of_lt h2) h _ (fun r s => full_prob q k g t h2 h r s) y0 d))

/-- The gradient in the keys, as the kernel leaves it. -/
theorem final_dk : (dats m 0 c).arrAt 7 (cfgs 0).N = fun i => ((dkey q k v g ct (i 0) (i 1) : ℝ) : EReal) := by
  refine (dats m 0 c).arrAt_eq_of_covers 7 _ (by decide +kernel) fun t hf y => ?_
  have ht : t.val % 8 = 8 - 1 := (flush0_7 t).mp hf
  have e : ((cfg0.win 7).blk t).view.emb y = ix2 (krow t (y 0)) (kcol t (y 1)) := by blk_ext [idx t, krow, kcol]
  rw [e]
  blk_simp
  rw [after0_7, Pipeline.eq_sum_fin_of_reset_step_apply_of_flush (fun n h => (outsAt0 m c n h).1) 8 (fun _ => 0)
    (fun p y => ((partK q k v g ct p (y 0) (y 1) : ℝ) : EReal)) (dk_reset m c q k v g ct hq hk hv hg hct) (dk_step m c q k v g ct hq hk hv hg hct) t ht y, zero_add]
  exact partK_run q k v g ct ht (y 0) (y 1)

omit hq hk hv hg hct in
/-- The parts of the gradient in the sums of log gates that a run of eight points adds, as one sum. -/
theorem partG_run {t : Fin cfg0.N} (ht : t.val % 8 = 8 - 1) (h : Fin 3) (s : Fin 1024) :
    ∑ p : Fin 8, ((partG q k v g ct ⟨8 * (t.val / 8) + p.val, Pipeline.run_point_lt_of_flush t ht p⟩ h s : ℝ) : EReal)
      = ((dgate q k v g ct (hd t h) (krow t s) : ℝ) : EReal) := by
  simp only [partG, krow_run ht, hd_run ht]
  rw [dgate, ← Finset.sum_neg_distrib]
  exact sum_run ht fun r => -dlogit q k v g ct (hd t h) r (krow t s)

/-- The first point of a run of eight leaves its own part of the gradient in the sums of log gates; a later one adds its part. -/
theorem dc_reset (t : Fin cfg0.N) (h0 : t.val % 8 = 0) (y : S3x1x1024.Idx) : (outsAt0 m c t.val t.isLt).2.2 y = 0 + ((partG q k v g ct t (y 0) (y 2) : ℝ) : EReal) := by
  idx_vars y
  obtain rfl : y1 = 0 := Subsingleton.elim _ _
  by_cases h2 : t.val / 8 % 8 = t.val % 8
  · exact (dc_A m c t (blocks m c q k v g ct hq hk hv hg hct t) h0 (by omega) h2 y0 y2).trans
      (congrArg (fun x : ℝ => (0 : EReal) + (x : EReal)) (partG_of q k v g ct t (le_of_eq h2) y0 _ (fun r s => diag_prob q k g t h2 y0 r s) y2))
  · exact (dc_C m c t h0 (by omega) h2 (ix3 y0 0 y2)).trans
      ((congrArg (fun x : ℝ => (0 : EReal) + (x : EReal)) (partG_above q k v g ct t (by omega) y0 y2)).trans (by simp)).symm

theorem dc_step (t : Fin cfg0.N) (h0 : ¬t.val % 8 = 0) (y : S3x1x1024.Idx) :
    (outsAt0 m c t.val t.isLt).2.2 y = (before m c t).2.2 y + ((partG q k v g ct t (y 0) (y 2) : ℝ) : EReal) := by
  idx_vars y
  obtain rfl : y1 = 0 := Subsingleton.elim _ _
  rcases lt_trichotomy (t.val % 8) (t.val / 8 % 8) with h2 | h2 | h2
  · exact (dc_E m c t h0 (by omega) (by omega) (ix3 y0 0 y2)).trans
      ((congrArg (fun x : ℝ => ((before m c t).2.2 (ix3 y0 0 y2) : EReal) + (x : EReal)) (partG_above q k v g ct t h2 y0 y2)).trans (by simp)).symm
  · exact (dc_D m c t (blocks m c q k v g ct hq hk hv hg hct t) h0 (by omega) h2.symm y0 y2).trans
      (congrArg (fun x : ℝ => ((before m c t).2.2 (ix3 y0 0 y2) : EReal) + (x : EReal)) (partG_of q k v g ct t (le_of_eq h2.symm) y0 _ (fun r s => diag_prob q k g t h2.symm y0 r s) y2))
  · exact (dc_B m c t (blocks m c q k v g ct hq hk hv hg hct t) h0 h2 (by omega) y0 y2).trans
      (congrArg (fun x : ℝ => ((before m c t).2.2 (ix3 y0 0 y2) : EReal) + (x : EReal)) (partG_of q k v g ct t (le_of_lt h2) y0 _ (fun r s => full_prob q k g t h2 y0 r s) y2))

/-- The gradient in the sums of log gates, as the kernel leaves it. -/
theorem final_dc : (dats m 0 c).arrAt 9 (cfgs 0).N = fun i => ((dgate q k v g ct (i 0) (i 2) : ℝ) : EReal) := by
  refine (dats m 0 c).arrAt_eq_of_covers 9 _ (by decide +kernel) fun t hf y => ?_
  have ht : t.val % 8 = 8 - 1 := (flush0_9 t).mp hf
  have e : ((cfg0.win 9).blk t).view.emb y = ix3 (hd t (y 0)) 0 (krow t (y 2)) := by
    idx_vars y
    obtain rfl : y1 = 0 := Subsingleton.elim _ _
    blk_ext [idx t, hd, krow]
  rw [e]
  blk_simp
  rw [after0_9, Pipeline.eq_sum_fin_of_reset_step_apply_of_flush (fun n h => (outsAt0 m c n h).2.2) 8 (fun _ => 0)
    (fun p y => ((partG q k v g ct p (y 0) (y 2) : ℝ) : EReal)) (dc_reset m c q k v g ct hq hk hv hg hct) (dc_step m c q k v g ct hq hk hv hg hct) t ht y, zero_add]
  exact partG_run q k v g ct ht (y 0) (y 2)

end Cert.FoxKvProof

end
-- ==== Proof.FoxKvClaim.lean ====
/- The attention's gradient in keys, values and sums of log gates: the kernel's arrays are the reference's. -/
module

public import proofs.«01_k».proof.Defs
public import Idealize.ShloMosaic.Lib.Claim
public import Idealize.ShloMosaic.PureOps.IdealRules
public import proofs.«01_k».proof.Proof.FoxKvFinal
public import proofs.«01_k».proof.Proof.FoxKvRef
public import proofs.«01_k».proof.Proof.Gen.FoxKvRefIdeal.Run

@[expose] public section

set_option maxRecDepth 16384

noncomputable section

namespace Cert.FoxKvProof

open Cert.Reals Cert.Fox Idealize.ShloMosaic Idealize.ShloMosaic.TcCoe Idealize.SL.Sem
open scoped BigOperators

/-- Reading the kernel over the reals gives two of its constants their names. -/
theorem preserves : Cert.preserves_FoxKv_FoxKvIdeal :=
  ⟨IdealRules.named_const.statement Cert.FoxKvIdeal.κ "scale_log2_e" .f32 0x3E0293EE#32 (((11863283 / 134217728) * (Real.log 2)⁻¹ : ℝ) : EReal) rfl,
    IdealRules.named_const.statement Cert.FoxKvIdeal.κ "mask" .f32 0xF149F2CA#32 ⊥ rfl⟩

/-- The precondition says that every entry of the five arguments is a real number. -/
theorem reals [Cert.Pre_finite_fox_kv.Facts] (q : FVec Ideal ⟨2, ![8192, 1024]⟩ .f32) (k v : FVec Ideal ⟨2, ![8192, 768]⟩ .f32)
    (g : FVec Ideal ⟨2, ![6, 8192]⟩ .f32) (o : FVec Ideal ⟨2, ![8192, 1024]⟩ .f32)
    (hf : Cert.Pre_finite_fox_kv.fn (F := Ideal) q k v g o = fun _ => 1#1) :
    (∀ i, ∃ a : ℝ, q i = a) ∧ (∀ i, ∃ a : ℝ, k i = a) ∧ (∀ i, ∃ a : ℝ, v i = a) ∧ (∀ i, ∃ a : ℝ, g i = a) ∧ ∀ i, ∃ a : ℝ, o i = a := by
  have e := congrFun hf ix0
  unfold Cert.Pre_finite_fox_kv.fn Cert.Pre_finite_fox_kv.fn_part1 at e
  dsimp only at e
  simp only [andi, IntOp.andi_eq_one] at e
  exact ⟨reals_of_all q _ _ _ _ e.1.1.1.1, reals_of_all k _ _ _ _ e.1.1.1.2, reals_of_all v _ _ _ _ e.1.1.2, reals_of_all g _ _ _ _ e.1.2,
    reals_of_all o _ _ _ _ e.2⟩

/-- The kernel leaves the attention's gradients in its keys, its values and the keys' sums of log gates. -/
theorem algebraic [Cert.Pre_finite_fox_kv.Facts] : Cert.algebraic_FoxKvIdeal_FoxKvRefIdeal_pre_finite_fox_kv := by
  pair_intro
  · run_from Cert.FoxKvIdeal.Value.run_blocks m g
  · obtain ⟨h0, h1, h2, h3, h4⟩ := reals _ _ _ _ _ (hpre (0 : Dev _))
    choose q hq using h0
    choose k hk using h1
    choose v hv using h2
    choose l hl using h3
    choose o ho using h4
    run_from Cert.FoxKvRefIdeal.Value.run m' g'
    all_goals
      obtain rfl : c = 0 := Subsingleton.elim _ _
      obtain ⟨a0, a1, a2, a3, a4⟩ := hagree 0
      have kq := fun r j => hq (ix2 r j)
      have kk := fun r j => hk (ix2 r j)
      have kv := fun r j => hv (ix2 r j)
      have kl := fun h r => hl (ix2 h r)
      have ko := fun r j => ho (ix2 r j)
      have rq := fun r j => (congrFun a0 (ix2 r j)).trans (kq r j)
      have rk := fun r j => (congrFun a1 (ix2 r j)).trans (kk r j)
      have rv := fun r j => (congrFun a2 (ix2 r j)).trans (kv r j)
      have rl := fun h r => (congrFun a3 (ix2 h r)).trans (kl h r)
      have ro := fun r j => (congrFun a4 (ix2 r j)).trans (ko r j)
    · rw [final_dk m 0 _ _ _ _ _ kq kk kv kl ko]
      funext j
      idx_vars j
      exact ref_dk m' 0 _ _ _ _ _ rq rk rv rl ro j0 j1
    · rw [final_dv m 0 _ _ _ _ _ kq kk kv kl ko]
      funext j
      idx_vars j
      exact ref_dv m' 0 _ _ _ _ rq rk rl ro j0 j1
    · rw [final_dc m 0 _ _ _ _ _ kq kk kv kl ko]
      funext j
      idx_vars j
      obtain rfl : j1 = 0 := Subsingleton.elim _ _
      exact ref_dc m' 0 _ _ _ _ _ rq rk rv rl ro j0 j2

end Cert.FoxKvProof

end
-- ==== Proof.FoxQTile.lean ====
/- The attention's gradient in queries: what one grid point adds to the blocks of the gradients, its three heads taken
   together. -/
module

public import proofs.«01_k».proof.Proof.FoxKvTile
public import proofs.«01_k».proof.Proof.Gen.FoxQIdeal.Skeleton

@[expose] public section

set_option maxRecDepth 16384

noncomputable section

namespace Cert.FoxQProof

open Cert.Reals Cert.Fox Cert.Heads Cert.FoxQIdeal Cert.FoxQIdeal.Gen Idealize.ShloMosaic Idealize.ShloMosaic.TcCoe Idealize.SL.Sem
open Cert.FoxKvProof (slab0 slab1 slab2 line0 line1 line2 colm0 colm1 colm2 slab0_at slab1_at slab2_at colm0_at colm1_at colm2_at rect0 rect1 rect2 rectColm0 rectColm1 rectColm2
  plus plus_at plus_eq Blocks fullT diagT fullT0 fullT1 fullT2 diagT0 diagT1 diagT2)
open scoped BigOperators

/-- A block of three columns with a number added at each entry. -/
def plusColm (Y : Vec Ideal S3x1024x1 .f32) (f : Fin 3 → Fin 1024 → ℝ) : Vec Ideal S3x1024x1 .f32 := fun y => Y y + ((f (y 0) (y 1) : ℝ) : EReal)

variable {A B V : Vec Ideal S1024x384 .bf16} {O : Vec Ideal S1024x384 .f32} {C : Vec Ideal S3x1x1024 .f32} {L D : Vec Ideal S3x1024x1 .f32}
  {a b o v : Fin 3 → Fin 1024 → Fin 128 → ℝ} {cr ls de : Fin 3 → Fin 1024 → ℝ}

section Steps

variable (W : FVec Ideal S1024x1024 .f32) (K : Vec Ideal S1024x128 .bf16) (Z : Vec Ideal S1024x128 .f32) (Y : Vec Ideal S1x1024x1 .f32)
  (w : Fin 1024 → Fin 1024 → ℝ) (k : Fin 1024 → Fin 128 → ℝ)

section Queries

variable (hK : ∀ r d, K (ix2 r d) = (k r d : EReal))

include hK

theorem dq_f0 (P Q R : FVec Ideal S1024x1024 .f32) (hW : ∀ r s, k0_pay20 (F := Ideal) P Q R (ix2 r s) = (w r s : EReal)) (r : Fin 1024) (d : Fin 128) :
    k0_pay27 (F := Ideal) (k0_pay26 P Q R K Z) (ix2 r d) = Z (ix2 r d) + ((∑ s, w r s * k s d : ℝ) : EReal) := by
  pointwise [k0_pay27, k0_pay26]
  simp only [hW, hK, ← EReal.coe_mul, sum_coe]

theorem dq_f1 (P Q : FVec Ideal S1024x1024 .f32) (R : Vec Ideal S1x1024x1 .f32) (hW : ∀ r s, k0_pay21 (F := Ideal) P Q R (ix2 r s) = (w r s : EReal)) (r : Fin 1024) (d : Fin 128) :
    k0_pay29 (F := Ideal) (k0_pay23 P Q R K) Z (ix2 r d) = Z (ix2 r d) + ((∑ s, w r s * k s d : ℝ) : EReal) := by
  pointwise [k0_pay29, k0_pay23]
  simp only [hW, hK, ← EReal.coe_mul, sum_coe]

theorem dq_f2 (P Q : FVec Ideal S1024x1024 .f32) (R : Vec Ideal S1x1024x1 .f32) (hW : ∀ r s, k0_pay22 (F := Ideal) P Q R (ix2 r s) = (w r s : EReal)) (r : Fin 1024) (d : Fin 128) :
    k0_pay31 (F := Ideal) (k0_pay24 P Q R K) Z (ix2 r d) = Z (ix2 r d) + ((∑ s, w r s * k s d : ℝ) : EReal) := by
  pointwise [k0_pay31, k0_pay24]
  simp only [hW, hK, ← EReal.coe_mul, sum_coe]

theorem dq_d0 (P Q : FVec Ideal S1024x1024 .f32) (R : Vec Ideal S1x1024x1 .f32) (hW : ∀ r s, k0_pay39 (F := Ideal) P Q R (ix2 r s) = (w r s : EReal)) (r : Fin 1024) (d : Fin 128) :
    k0_pay46 (F := Ideal) (k0_pay42 P Q R K) Z (ix2 r d) = Z (ix2 r d) + ((∑ s, w r s * k s d : ℝ) : EReal) := by
  pointwise [k0_pay46, k0_pay42]
  simp only [hW, hK, ← EReal.coe_mul, sum_coe]

theorem dq_d1 (P Q : FVec Ideal S1024x1024 .f32) (R : Vec Ideal S1x1024x1 .f32) (hW : ∀ r s, k0_pay40 (F := Ideal) P Q R (ix2 r s) = (w r s : EReal)) (r : Fin 1024) (d : Fin 128) :
    k0_pay48 (F := Ideal) (k0_pay43 P Q R K) Z (ix2 r d) = Z (ix2 r d) + ((∑ s, w r s * k s d : ℝ) : EReal) := by
  pointwise [k0_pay48, k0_pay43]
  simp only [hW, hK, ← EReal.coe_mul, sum_coe]

theorem dq_d2 (P : FVec Ideal S1024x1024 .f32) (Q : FVec Ideal S1024x1024 .f32) (O : Vec Ideal S1024x128 .f32) (V : Vec Ideal S1024x128 .bf16) (R : Vec Ideal S1x1024x1 .f32) (hW : ∀ r s, k0_pay41 (F := Ideal) P Q O V R (ix2 r s) = (w r s : EReal)) (r : Fin 1024) (d : Fin 128) :
    k0_pay10 (F := Ideal) (k0_pay44 P Q O V R K) Z (ix2 r d) = Z (ix2 r d) + ((∑ s, w r s * k s d : ℝ) : EReal) := by
  pointwise [k0_pay10, k0_pay44]
  simp only [hW, hK, ← EReal.coe_mul, sum_coe]

end Queries

section Gates

theorem dc_f0 (P Q R : FVec Ideal S1024x1024 .f32) (hW : ∀ r s, k0_pay20 (F := Ideal) P Q R (ix2 r s) = (w r s : EReal)) (r : Fin 1024) :
    k0_pay25 (F := Ideal) P Q R Y (ix3 0 r 0) = Y (ix3 0 r 0) + ((∑ s, w r s : ℝ) : EReal) := by
  pointwise [k0_pay25]
  simp only [hW, sum_coe]

variable (hW : ∀ r s, W (ix2 r s) = (w r s : EReal))

include hW

theorem dc_f1 (r : Fin 1024) : k0_pay28 (F := Ideal) W Y (ix3 0 r 0) = Y (ix3 0 r 0) + ((∑ s, w r s : ℝ) : EReal) := by
  pointwise [k0_pay28]
  simp only [hW, sum_coe]

theorem dc_f2 (r : Fin 1024) : k0_pay30 (F := Ideal) W Y (ix3 0 r 0) = Y (ix3 0 r 0) + ((∑ s, w r s : ℝ) : EReal) := by
  pointwise [k0_pay30]
  simp only [hW, sum_coe]

theorem dc_d0 (r : Fin 1024) : k0_pay45 (F := Ideal) W Y (ix3 0 r 0) = Y (ix3 0 r 0) + ((∑ s, w r s : ℝ) : EReal) := by
  pointwise [k0_pay45]
  simp only [hW, sum_coe]

theorem dc_d1 (r : Fin 1024) : k0_pay47 (F := Ideal) W Y (ix3 0 r 0) = Y (ix3 0 r 0) + ((∑ s, w r s : ℝ) : EReal) := by
  pointwise [k0_pay47]
  simp only [hW, sum_coe]

theorem dc_d2 (r : Fin 1024) : k0_pay9 (F := Ideal) (k0_pay49 W Y) (ix3 0 r 0) = Y (ix3 0 r 0) + ((∑ s, w r s : ℝ) : EReal) := by
  pointwise [k0_pay9, k0_pay49]
  simp only [hW, sum_coe]

end Gates

end Steps

section Tiles

variable (H : Blocks A B V O C L D a b o v cr ls de)

include H

theorem fullQ0 (r s : Fin 1024) : k0_pay20 (k0_pay12 (slab0 A) (slab0 B) (line0 C) (colm0 L)) (k0_pay13 (slab0 O) (slab0 V)) (k0_pay19 (colm0 D)) (ix2 r s) = (fullT a b o v cr ls de 0 r s : EReal) :=
  fullT0 H r s

theorem fullQ1 (r s : Fin 1024) : k0_pay21 (k0_pay15 (k0_pay14 (slab1 A) (slab1 B) (line1 C)) (colm1 L)) (k0_pay16 (slab1 O) (slab1 V)) (colm1 D) (ix2 r s) = (fullT a b o v cr ls de 1 r s : EReal) :=
  fullT1 H r s

theorem fullQ2 (r s : Fin 1024) : k0_pay22 (k0_pay17 (slab2 A) (slab2 B) (line2 C) (colm2 L)) (k0_pay18 (slab2 O) (slab2 V)) (colm2 D) (ix2 r s) = (fullT a b o v cr ls de 2 r s : EReal) :=
  fullT2 H r s

theorem diagQ0 (r s : Fin 1024) : k0_pay39 (k0_pay32 (slab0 A) (slab0 B) (line0 C) (colm0 L)) (k0_pay33 (slab0 O) (slab0 V)) (colm0 D) (ix2 r s) = (diagT a b o v cr ls de 0 r s : EReal) :=
  diagT0 H r s

theorem diagQ1 (r s : Fin 1024) : k0_pay40 (k0_pay35 (k0_pay34 (slab1 A) (slab1 B)) (line1 C) (colm1 L)) (k0_pay36 (slab1 O) (slab1 V)) (colm1 D) (ix2 r s) = (diagT a b o v cr ls de 1 r s : EReal) :=
  diagT1 H r s

theorem diagQ2 (r s : Fin 1024) : k0_pay41 (k0_pay37 (slab2 A) (slab2 B) (line2 C)) (k0_pay38 (colm2 L)) (slab2 O) (slab2 V) (colm2 D) (ix2 r s) = (diagT a b o v cr ls de 2 r s : EReal) :=
  diagT2 H r s

/-- A tile below the diagonal adds its part of the gradient in the queries. -/
theorem full_dq (Z : Vec Ideal S1024x384 .f32) (T : List (View.Piece (Elt Ideal) S1024x384 .f32)) (r : Fin 1024) (h : Fin 3) (d : Fin 128) :
    View.canon ([(⟨rect2, k0_pay31 (k0_pay24 (k0_pay17 (slab2 A) (slab2 B) (line2 C) (colm2 L)) (k0_pay18 (slab2 O) (slab2 V)) (colm2 D) (slab2 B)) (slab2 Z)⟩ : View.Piece (Elt Ideal) S1024x384 .f32),
      (⟨rect1, k0_pay29 (k0_pay23 (k0_pay15 (k0_pay14 (slab1 A) (slab1 B) (line1 C)) (colm1 L)) (k0_pay16 (slab1 O) (slab1 V)) (colm1 D) (slab1 B)) (slab1 Z)⟩ : View.Piece (Elt Ideal) S1024x384 .f32),
      (⟨rect0, k0_pay27 (k0_pay26 (k0_pay12 (slab0 A) (slab0 B) (line0 C) (colm0 L)) (k0_pay13 (slab0 O) (slab0 V)) (k0_pay19 (colm0 D)) (slab0 B) (slab0 Z))⟩ : View.Piece (Elt Ideal) S1024x384 .f32)] ++ T) (ix2 r (at3 h d))
      = Z (ix2 r (at3 h d)) + ((∑ s, fullT a b o v cr ls de h r s * b h s d : ℝ) : EReal) := by
  refine Eq.trans (slabs (Val := Elt Ideal) (e := .f32) (plus Z (fun h r d => ∑ s, fullT a b o v cr ls de h r s * b h s d)) _ _ _ _ _ _ T (fun r d => ?_) (fun r d => ?_) (fun r d => ?_) r h d) (plus_at _ _ _ _ _)
  · exact plus_eq Z _ r 2 d (dq_f2 _ _ _ _ (fun r d => (slab2_at B r d).trans (H.hB 2 r d)) _ _ _ (fullQ2 H) r d) (slab2_at Z r d)
  · exact plus_eq Z _ r 1 d (dq_f1 _ _ _ _ (fun r d => (slab1_at B r d).trans (H.hB 1 r d)) _ _ _ (fullQ1 H) r d) (slab1_at Z r d)
  · exact plus_eq Z _ r 0 d (dq_f0 _ _ _ _ (fun r d => (slab0_at B r d).trans (H.hB 0 r d)) _ _ _ (fullQ0 H) r d) (slab0_at Z r d)

/-- A tile below the diagonal adds its part of the gradient in the sums of log gates. -/
theorem full_dc (Y : Vec Ideal S3x1024x1 .f32) (T : List (View.Piece (Elt Ideal) S3x1024x1 .f32)) (h : Fin 3) (r : Fin 1024) :
    View.canon ([(⟨rectColm2, k0_pay30 (k0_pay22 (k0_pay17 (slab2 A) (slab2 B) (line2 C) (colm2 L)) (k0_pay18 (slab2 O) (slab2 V)) (colm2 D)) (colm2 Y)⟩ : View.Piece (Elt Ideal) S3x1024x1 .f32),
      (⟨rectColm1, k0_pay28 (k0_pay21 (k0_pay15 (k0_pay14 (slab1 A) (slab1 B) (line1 C)) (colm1 L)) (k0_pay16 (slab1 O) (slab1 V)) (colm1 D)) (colm1 Y)⟩ : View.Piece (Elt Ideal) S3x1024x1 .f32),
      (⟨rectColm0, k0_pay25 (k0_pay12 (slab0 A) (slab0 B) (line0 C) (colm0 L)) (k0_pay13 (slab0 O) (slab0 V)) (k0_pay19 (colm0 D)) (colm0 Y)⟩ : View.Piece (Elt Ideal) S3x1024x1 .f32)] ++ T) (ix3 h r 0)
      = Y (ix3 h r 0) + ((∑ s, fullT a b o v cr ls de h r s : ℝ) : EReal) := by
  refine leads (Val := Elt Ideal) (e := .f32) (A := 1024) (B := 1) (plusColm Y (fun h r => ∑ s, fullT a b o v cr ls de h r s)) _ _ _ _ _ _ T (fun r z => ?_) (fun r z => ?_) (fun r z => ?_) h r 0
  · obtain rfl : z = 0 := Subsingleton.elim _ _
    exact (dc_f2 _ _ _ (fullQ2 H) r).trans (congrArg (· + _) (colm2_at Y r))
  · obtain rfl : z = 0 := Subsingleton.elim _ _
    exact (dc_f1 _ _ _ (fullQ1 H) r).trans (congrArg (· + _) (colm1_at Y r))
  · obtain rfl : z = 0 := Subsingleton.elim _ _
    exact (dc_f0 _ _ _ _ _ (fullQ0 H) r).trans (congrArg (· + _) (colm0_at Y r))

/-- A tile on the diagonal adds its part of the gradient in the queries. -/
theorem diag_dq (Z : Vec Ideal S1024x384 .f32) (T : List (View.Piece (Elt Ideal) S1024x384 .f32)) (r : Fin 1024) (h : Fin 3) (d : Fin 128) :
    View.canon ([(⟨rect2, k0_pay10 (k0_pay44 (k0_pay37 (slab2 A) (slab2 B) (line2 C)) (k0_pay38 (colm2 L)) (slab2 O) (slab2 V) (colm2 D) (slab2 B)) (slab2 Z)⟩ : View.Piece (Elt Ideal) S1024x384 .f32),
      (⟨rect1, k0_pay48 (k0_pay43 (k0_pay35 (k0_pay34 (slab1 A) (slab1 B)) (line1 C) (colm1 L)) (k0_pay36 (slab1 O) (slab1 V)) (colm1 D) (slab1 B)) (slab1 Z)⟩ : View.Piece (Elt Ideal) S1024x384 .f32),
      (⟨rect0, k0_pay46 (k0_pay42 (k0_pay32 (slab0 A) (slab0 B) (line0 C) (colm0 L)) (k0_pay33 (slab0 O) (slab0 V)) (colm0 D) (slab0 B)) (slab0 Z)⟩ : View.Piece (Elt Ideal) S1024x384 .f32)] ++ T) (ix2 r (at3 h d))
      = Z (ix2 r (at3 h d)) + ((∑ s, diagT a b o v cr ls de h r s * b h s d : ℝ) : EReal) := by
  refine Eq.trans (slabs (Val := Elt Ideal) (e := .f32) (plus Z (fun h r d => ∑ s, diagT a b o v cr ls de h r s * b h s d)) _ _ _ _ _ _ T (fun r d => ?_) (fun r d => ?_) (fun r d => ?_) r h d) (plus_at _ _ _ _ _)
  · exact plus_eq Z _ r 2 d (dq_d2 _ _ _ _ (fun r d => (slab2_at B r d).trans (H.hB 2 r d)) _ _ _ _ _ (diagQ2 H) r d) (slab2_at Z r d)
  · exact plus_eq Z _ r 1 d (dq_d1 _ _ _ _ (fun r d => (slab1_at B r d).trans (H.hB 1 r d)) _ _ _ (diagQ1 H) r d) (slab1_at Z r d)
  · exact plus_eq Z _ r 0 d (dq_d0 _ _ _ _ (fun r d => (slab0_at B r d).trans (H.hB 0 r d)) _ _ _ (diagQ0 H) r d) (slab0_at Z r d)

/-- A tile on the diagonal adds its part of the gradient in the sums of log gates. -/
theorem diag_dc (Y : Vec Ideal S3x1024x1 .f32) (T : List (View.Piece (Elt Ideal) S3x1024x1 .f32)) (h : Fin 3) (r : Fin 1024) :
    View.canon ([(⟨rectColm2, k0_pay9 (k0_pay49 (k0_pay41 (k0_pay37 (slab2 A) (slab2 B) (line2 C)) (k0_pay38 (colm2 L)) (slab2 O) (slab2 V) (colm2 D)) (colm2 Y))⟩ : View.Piece (Elt Ideal) S3x1024x1 .f32),
      (⟨rectColm1, k0_pay47 (k0_pay40 (k0_pay35 (k0_pay34 (slab1 A) (slab1 B)) (line1 C) (colm1 L)) (k0_pay36 (slab1 O) (slab1 V)) (colm1 D)) (colm1 Y)⟩ : View.Piece (Elt Ideal) S3x1024x1 .f32),
      (⟨rectColm0, k0_pay45 (k0_pay39 (k0_pay32 (slab0 A) (slab0 B) (line0 C) (colm0 L)) (k0_pay33 (slab0 O) (slab0 V)) (colm0 D)) (colm0 Y)⟩ : View.Piece (Elt Ideal) S3x1024x1 .f32)] ++ T) (ix3 h r 0)
      = Y (ix3 h r 0) + ((∑ s, diagT a b o v cr ls de h r s : ℝ) : EReal) := by
  refine leads (Val := Elt Ideal) (e := .f32) (A := 1024) (B := 1) (plusColm Y (fun h r => ∑ s, diagT a b o v cr ls de h r s)) _ _ _ _ _ _ T (fun r z => ?_) (fun r z => ?_) (fun r z => ?_) h r 0
  · obtain rfl : z = 0 := Subsingleton.elim _ _
    exact (dc_d2 _ _ _ (diagQ2 H) r).trans (congrArg (· + _) (colm2_at Y r))
  · obtain rfl : z = 0 := Subsingleton.elim _ _
    exact (dc_d1 _ _ _ (diagQ1 H) r).trans (congrArg (· + _) (colm1_at Y r))
  · obtain rfl : z = 0 := Subsingleton.elim _ _
    exact (dc_d0 _ _ _ (diagQ0 H) r).trans (congrArg (· + _) (colm0_at Y r))

end Tiles

section Start

variable (X : Vec Ideal S1024x384 .bf16) (x : Fin 3 → Fin 1024 → Fin 128 → ℝ)
  (hX : ∀ h r d, X (ix2 r (at3 h d)) = (x h r d : EReal)) (hO : ∀ h r d, O (ix2 r (at3 h d)) = (o h r d : EReal))

include hX hO

theorem delta_0 (r : Fin 1024) : k0_pay2 (F := Ideal) X O (ix3 0 r 0) = ((∑ d, x 0 r d * o 0 r d : ℝ) : EReal) := by
  have e : k0_pay2 (F := Ideal) X O (ix3 0 r 0) = ∑ d, X (ix2 r (at3 0 d)) * O (ix2 r (at3 0 d)) := by pointwise [k0_pay2, k0_pay1, at3]
  rw [e]
  simp only [hX, hO, ← EReal.coe_mul, sum_coe]

theorem delta_1 (r : Fin 1024) : k0_pay3 (F := Ideal) X O (ix3 0 r 0) = ((∑ d, x 1 r d * o 1 r d : ℝ) : EReal) := by
  have e : k0_pay3 (F := Ideal) X O (ix3 0 r 0) = ∑ d, X (ix2 r (at3 1 d)) * O (ix2 r (at3 1 d)) := by pointwise [k0_pay3, k0_pay1, at3]
  rw [e]
  simp only [hX, hO, ← EReal.coe_mul, sum_coe]

theorem delta_2 (r : Fin 1024) : k0_pay4 (F := Ideal) X O (ix3 0 r 0) = ((∑ d, x 2 r d * o 2 r d : ℝ) : EReal) := by
  have e : k0_pay4 (F := Ideal) X O (ix3 0 r 0) = ∑ d, X (ix2 r (at3 2 d)) * O (ix2 r (at3 2 d)) := by pointwise [k0_pay4, k0_pay1, at3]
  rw [e]
  simp only [hX, hO, ← EReal.coe_mul, sum_coe]

/-- The row sums of the attention's result against its cotangent, as a first point stores them. -/
theorem start_delta (T : List (View.Piece (Elt Ideal) S3x1024x1 .f32)) (h : Fin 3) (r : Fin 1024) :
    View.canon ([(⟨rectColm2, k0_pay4 X O⟩ : View.Piece (Elt Ideal) S3x1024x1 .f32), (⟨rectColm1, k0_pay3 X O⟩ : View.Piece (Elt Ideal) S3x1024x1 .f32),
      (⟨rectColm0, k0_pay2 X O⟩ : View.Piece (Elt Ideal) S3x1024x1 .f32)] ++ T) (ix3 h r 0) = ((∑ d, x h r d * o h r d : ℝ) : EReal) := by
  refine leads (Val := Elt Ideal) (e := .f32) (A := 1024) (B := 1) (fun y => ((∑ d, x (y 0) (y 1) d * o (y 0) (y 1) d : ℝ) : EReal)) _ _ _ _ _ _ T
    (fun r z => ?_) (fun r z => ?_) (fun r z => ?_) h r 0
  · obtain rfl : z = 0 := Subsingleton.elim _ _
    exact delta_2 X x hX hO r
  · obtain rfl : z = 0 := Subsingleton.elim _ _
    exact delta_1 X x hX hO r
  · obtain rfl : z = 0 := Subsingleton.elim _ _
    exact delta_0 X x hX hO r

end Start

theorem pay5_at (j : S3x1024x1.Idx) : (k0_pay5 (F := Ideal) : Vec Ideal S3x1024x1 .f32) j = 0 := by pointwise [k0_pay5]

theorem pay6_at (j : S1024x384.Idx) : (k0_pay6 (F := Ideal) : Vec Ideal S1024x384 .f32) j = 0 := by pointwise [k0_pay6]

theorem pay7_eq (X : Vec Ideal S3x1024x1 .f32) : k0_pay7 X = X := shapeCast_self _ _

theorem pay8_eq (X : Vec Ideal S3x1024x1 .f32) : k0_pay8 X = X := shapeCast_self _ _

theorem pay11_at (X : Vec Ideal S1024x384 .f32) (r : Fin 1024) (e : Fin 384) : k0_pay11 (F := Ideal) X (ix2 r e) = X (ix2 r e) * (scale : EReal) := by
  pointwise [k0_pay11]
  rw [ofBits_scale]

end Cert.FoxQProof

end
-- ==== Proof.FoxQCases.lean ====
/- What each grid point of the attention's gradient in queries leaves in its four blocks. -/
module

public import proofs.«01_k».proof.Proof.FoxQTile
public import proofs.«01_k».proof.Proof.Gen.FoxQIdeal.Value
public import Idealize.ShloMosaic.Lib.Claim
public import Idealize.ShloMosaic.Lib.Pipeline.ReadBack

@[expose] public section

set_option maxRecDepth 16384

noncomputable section

namespace Cert.FoxQProof

open Cert.Reals Cert.Fox Cert.Heads Cert.FoxQIdeal Cert.FoxQIdeal.Gen Idealize.ShloMosaic Idealize.ShloMosaic.TcCoe Idealize.SL.Sem
open Cert.FoxKvProof (Blocks fullT diagT rectColm0 rectColm1 rectColm2)
open scoped BigOperators

variable (m : (ℓ : Loc nD τ sig) → Buf (Elt Ideal) ℓ) (c : Dev nD) (t : Fin cfg0.N)

/-- The four blocks as the point before left them. -/
abbrev before := outsAt0 m c (t.val - 1) (Nat.lt_of_le_of_lt (Nat.sub_le _ _) t.isLt)

/-- A load of a whole block reads what the stores before it left. -/
theorem read_cols {ρ : RefSig} {κ : Kind} {sp : Space} (v : View ρ κ sp S3x1024x1 .f32) (L : List (View.Piece (Elt Ideal) S3x1024x1 .f32)) :
    v.readCov L (Rect.unit ![0, 0, 0] ![3, 1024, 1] inb_S3x1024x1_S3x1024x1_0_0_0).toLoadRect = View.canon L := by
  rw [View.readCov_eq_canon']
  exact funext fun j => congrArg (View.canon L) (funext fun a => Fin.ext (by fin_cases a <;> simp [LoadRect.idx, Rect.toLoadRect, Rect.unit]))

theorem read_rows {ρ : RefSig} {κ : Kind} {sp : Space} (v : View ρ κ sp S1024x384 .f32) (L : List (View.Piece (Elt Ideal) S1024x384 .f32)) :
    v.readCov L (Rect.unit ![0, 0] ![1024, 384] inb_S1024x384_S1024x384_0_0).toLoadRect = View.canon L := by
  rw [View.readCov_eq_canon']
  exact funext fun j => congrArg (View.canon L) (funext fun a => Fin.ext (by fin_cases a <;> simp [LoadRect.idx, Rect.toLoadRect, Rect.unit]))

/-- The row sums of the attention's result against its cotangent, stored head by head. -/
def start (X : Vec Ideal S1024x384 .bf16) (O : Vec Ideal S1024x384 .f32) : Vec Ideal S3x1024x1 .f32 :=
  View.canon [(⟨rectColm2, k0_pay4 X O⟩ : View.Piece (Elt Ideal) S3x1024x1 .f32), (⟨rectColm1, k0_pay3 X O⟩ : View.Piece (Elt Ideal) S3x1024x1 .f32),
    (⟨rectColm0, k0_pay2 X O⟩ : View.Piece (Elt Ideal) S3x1024x1 .f32)]

theorem start_at {X : Vec Ideal S1024x384 .bf16} {O : Vec Ideal S1024x384 .f32} {x o : Fin 3 → Fin 1024 → Fin 128 → ℝ}
    (hX : ∀ h r d, X (ix2 r (at3 h d)) = (x h r d : EReal)) (hO : ∀ h r d, O (ix2 r (at3 h d)) = (o h r d : EReal)) (h : Fin 3) (r : Fin 1024) :
    start X O (ix3 h r 0) = ((∑ d, x h r d * o h r d : ℝ) : EReal) := start_delta X x hX hO [] h r

theorem delta_A (h0 : t.val % 8 = 0) (h1 : ¬t.val % 8 + 1 ≤ t.val / 8 % 8) (h2 : t.val / 8 % 8 = t.val % 8) (h3 : ¬t.val % 8 = 7) : (outsAt0 m c t.val t.isLt).2.1 = start (X0_5 m c t) (X0_6 m c t) := by
  rw [outsAt0_A m c t h0 h1 h2 h3]; frame_open
  simp (disch := decide) only [↓ View.readCov_skip, ↓ View.readCov_cons_toLoadRect, ↓ View.readCov_fill, read_cols, read_rows, pay7_eq, pay8_eq]; frame_out

theorem acc_A {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (start (X0_5 m c t) (X0_6 m c t)) a b o v cr ls de) (h0 : t.val % 8 = 0) (h1 : ¬t.val % 8 + 1 ≤ t.val / 8 % 8) (h2 : t.val / 8 % 8 = t.val % 8) (h3 : ¬t.val % 8 = 7)
    (r : Fin 1024) (h : Fin 3) (d : Fin 128) : (outsAt0 m c t.val t.isLt).2.2.2 (ix2 r (at3 h d)) = 0 + ((∑ s, diagT a b o v cr ls de h r s * b h s d : ℝ) : EReal) := by
  rw [← pay6_at (ix2 r (at3 h d))]
  rw [outsAt0_A m c t h0 h1 h2 h3]; frame_open
  simp (disch := decide) only [↓ View.readCov_skip, ↓ View.readCov_cons_toLoadRect, ↓ View.readCov_fill, read_cols, read_rows, pay7_eq, pay8_eq]; frame_out
  have hs := diag_dq H (k0_pay6 (F := Ideal)) [⟨Rect.unit ![0, 0] ![1024, 384] inb_S1024x384_S1024x384_0_0, k0_pay6 (F := Ideal)⟩] r h d
  simp only [List.cons_append, List.nil_append] at hs
  exact hs

theorem dc_A {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (start (X0_5 m c t) (X0_6 m c t)) a b o v cr ls de) (h0 : t.val % 8 = 0) (h1 : ¬t.val % 8 + 1 ≤ t.val / 8 % 8) (h2 : t.val / 8 % 8 = t.val % 8) (h3 : ¬t.val % 8 = 7)
    (h : Fin 3) (r : Fin 1024) : (outsAt0 m c t.val t.isLt).2.2.1 (ix3 h r 0) = 0 + ((∑ s, diagT a b o v cr ls de h r s : ℝ) : EReal) := by
  rw [← pay5_at (ix3 h r 0)]
  rw [outsAt0_A m c t h0 h1 h2 h3]; frame_open
  simp (disch := decide) only [↓ View.readCov_skip, ↓ View.readCov_cons_toLoadRect, ↓ View.readCov_fill, read_cols, read_rows, pay7_eq, pay8_eq]; frame_out
  have hs := diag_dc H (k0_pay5 (F := Ideal)) [⟨Rect.unit ![0, 0, 0] ![3, 1024, 1] inb_S3x1024x1_S3x1024x1_0_0_0, k0_pay5 (F := Ideal)⟩, ⟨Rect.unit ![0, 0, 0] ![3, 1024, 1] inb_S3x1024x1_S3x1024x1_0_0_0, k0_pay5 (F := Ideal)⟩] h r
  simp only [List.cons_append, List.nil_append] at hs
  exact hs

theorem delta_B (h0 : ¬t.val % 8 = 0) (h1 : ¬t.val % 8 + 1 ≤ t.val / 8 % 8) (h2 : ¬t.val / 8 % 8 = t.val % 8) (h3 : ¬t.val % 8 = 7) (j : S3x1024x1.Idx) : (outsAt0 m c t.val t.isLt).2.1 j = (before m c t).2.1 j := by
  rw [outsAt0_B m c t h0 h1 h2 h3]; frame_open
  simp (disch := decide) only [↓ View.readCov_skip, ↓ View.readCov_cons_toLoadRect, ↓ View.readCov_fill, read_cols, read_rows, pay7_eq, pay8_eq]; frame_out

theorem acc_B (h0 : ¬t.val % 8 = 0) (h1 : ¬t.val % 8 + 1 ≤ t.val / 8 % 8) (h2 : ¬t.val / 8 % 8 = t.val % 8) (h3 : ¬t.val % 8 = 7) (j : S1024x384.Idx) : (outsAt0 m c t.val t.isLt).2.2.2 j = (before m c t).2.2.2 j := by
  rw [outsAt0_B m c t h0 h1 h2 h3]; dsimp only; rfl

theorem dc_B (h0 : ¬t.val % 8 = 0) (h1 : ¬t.val % 8 + 1 ≤ t.val / 8 % 8) (h2 : ¬t.val / 8 % 8 = t.val % 8) (h3 : ¬t.val % 8 = 7) (j : S3x1024x1.Idx) : (outsAt0 m c t.val t.isLt).2.2.1 j = (before m c t).2.2.1 j := by
  rw [outsAt0_B m c t h0 h1 h2 h3]; frame_open
  simp (disch := decide) only [↓ View.readCov_skip, ↓ View.readCov_cons_toLoadRect, ↓ View.readCov_fill, read_cols, read_rows, pay7_eq, pay8_eq]; frame_out

theorem delta_C (h0 : ¬t.val % 8 = 0) (h1 : ¬t.val % 8 + 1 ≤ t.val / 8 % 8) (h2 : ¬t.val / 8 % 8 = t.val % 8) (h3 : t.val % 8 = 7) (j : S3x1024x1.Idx) : (outsAt0 m c t.val t.isLt).2.1 j = (before m c t).2.1 j := by
  rw [outsAt0_C m c t h0 h1 h2 h3]; frame_open
  simp (disch := decide) only [↓ View.readCov_skip, ↓ View.readCov_cons_toLoadRect, ↓ View.readCov_fill, read_cols, read_rows, pay7_eq, pay8_eq]; frame_out

theorem acc_C (h0 : ¬t.val % 8 = 0) (h1 : ¬t.val % 8 + 1 ≤ t.val / 8 % 8) (h2 : ¬t.val / 8 % 8 = t.val % 8) (h3 : t.val % 8 = 7) (j : S1024x384.Idx) : (outsAt0 m c t.val t.isLt).2.2.2 j = (before m c t).2.2.2 j := by
  rw [outsAt0_C m c t h0 h1 h2 h3]; dsimp only; rfl

theorem dc_C (h0 : ¬t.val % 8 = 0) (h1 : ¬t.val % 8 + 1 ≤ t.val / 8 % 8) (h2 : ¬t.val / 8 % 8 = t.val % 8) (h3 : t.val % 8 = 7) (j : S3x1024x1.Idx) : (outsAt0 m c t.val t.isLt).2.2.1 j = (before m c t).2.2.1 j := by
  rw [outsAt0_C m c t h0 h1 h2 h3]; frame_open
  simp (disch := decide) only [↓ View.readCov_skip, ↓ View.readCov_cons_toLoadRect, ↓ View.readCov_fill, read_cols, read_rows, pay7_eq, pay8_eq]; frame_out

theorem dq_C (h0 : ¬t.val % 8 = 0) (h1 : ¬t.val % 8 + 1 ≤ t.val / 8 % 8) (h2 : ¬t.val / 8 % 8 = t.val % 8) (h3 : t.val % 8 = 7) (r : Fin 1024) (e : Fin 384) :
    (outsAt0 m c t.val t.isLt).1 (ix2 r e) = (outsAt0 m c t.val t.isLt).2.2.2 (ix2 r e) * (scale : EReal) := by
  rw [acc_C m c t h0 h1 h2 h3 (ix2 r e)]; rw [outsAt0_C m c t h0 h1 h2 h3]; frame_open
  simp (disch := decide) only [↓ View.readCov_skip, ↓ View.readCov_cons_toLoadRect, ↓ View.readCov_fill, read_cols, read_rows, pay7_eq, pay8_eq]; frame_out
  simp only [read_unread_whole]
  exact pay11_at _ r e

theorem delta_D (h0 : t.val % 8 = 0) (h1 : t.val % 8 + 1 ≤ t.val / 8 % 8) (h2 : ¬t.val / 8 % 8 = t.val % 8) (h3 : ¬t.val % 8 = 7) : (outsAt0 m c t.val t.isLt).2.1 = start (X0_5 m c t) (X0_6 m c t) := by
  rw [outsAt0_D m c t h0 h1 h2 h3]; frame_open
  simp (disch := decide) only [↓ View.readCov_skip, ↓ View.readCov_cons_toLoadRect, ↓ View.readCov_fill, read_cols, read_rows, pay7_eq, pay8_eq]; frame_out

theorem acc_D {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (start (X0_5 m c t) (X0_6 m c t)) a b o v cr ls de) (h0 : t.val % 8 = 0) (h1 : t.val % 8 + 1 ≤ t.val / 8 % 8) (h2 : ¬t.val / 8 % 8 = t.val % 8) (h3 : ¬t.val % 8 = 7)
    (r : Fin 1024) (h : Fin 3) (d : Fin 128) : (outsAt0 m c t.val t.isLt).2.2.2 (ix2 r (at3 h d)) = 0 + ((∑ s, fullT a b o v cr ls de h r s * b h s d : ℝ) : EReal) := by
  rw [← pay6_at (ix2 r (at3 h d))]
  rw [outsAt0_D m c t h0 h1 h2 h3]; frame_open
  simp (disch := decide) only [↓ View.readCov_skip, ↓ View.readCov_cons_toLoadRect, ↓ View.readCov_fill, read_cols, read_rows, pay7_eq, pay8_eq]; frame_out
  have hs := full_dq H (k0_pay6 (F := Ideal)) [⟨Rect.unit ![0, 0] ![1024, 384] inb_S1024x384_S1024x384_0_0, k0_pay6 (F := Ideal)⟩] r h d
  simp only [List.cons_append, List.nil_append] at hs
  exact hs

theorem dc_D {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (start (X0_5 m c t) (X0_6 m c t)) a b o v cr ls de) (h0 : t.val % 8 = 0) (h1 : t.val % 8 + 1 ≤ t.val / 8 % 8) (h2 : ¬t.val / 8 % 8 = t.val % 8) (h3 : ¬t.val % 8 = 7)
    (h : Fin 3) (r : Fin 1024) : (outsAt0 m c t.val t.isLt).2.2.1 (ix3 h r 0) = 0 + ((∑ s, fullT a b o v cr ls de h r s : ℝ) : EReal) := by
  rw [← pay5_at (ix3 h r 0)]
  rw [outsAt0_D m c t h0 h1 h2 h3]; frame_open
  simp (disch := decide) only [↓ View.readCov_skip, ↓ View.readCov_cons_toLoadRect, ↓ View.readCov_fill, read_cols, read_rows, pay7_eq, pay8_eq]; frame_out
  have hs := full_dc H (k0_pay5 (F := Ideal)) [⟨Rect.unit ![0, 0, 0] ![3, 1024, 1] inb_S3x1024x1_S3x1024x1_0_0_0, k0_pay5 (F := Ideal)⟩, ⟨Rect.unit ![0, 0, 0] ![3, 1024, 1] inb_S3x1024x1_S3x1024x1_0_0_0, k0_pay5 (F := Ideal)⟩] h r
  simp only [List.cons_append, List.nil_append] at hs
  exact hs

theorem delta_E (h0 : ¬t.val % 8 = 0) (h1 : ¬t.val % 8 + 1 ≤ t.val / 8 % 8) (h2 : t.val / 8 % 8 = t.val % 8) (h3 : ¬t.val % 8 = 7) (j : S3x1024x1.Idx) : (outsAt0 m c t.val t.isLt).2.1 j = (before m c t).2.1 j := by
  rw [outsAt0_E m c t h0 h1 h2 h3]; frame_open
  simp (disch := decide) only [↓ View.readCov_skip, ↓ View.readCov_cons_toLoadRect, ↓ View.readCov_fill, read_cols, read_rows, pay7_eq, pay8_eq]; frame_out

theorem acc_E {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (before m c t).2.1 a b o v cr ls de) (h0 : ¬t.val % 8 = 0) (h1 : ¬t.val % 8 + 1 ≤ t.val / 8 % 8) (h2 : t.val / 8 % 8 = t.val % 8) (h3 : ¬t.val % 8 = 7)
    (r : Fin 1024) (h : Fin 3) (d : Fin 128) : (outsAt0 m c t.val t.isLt).2.2.2 (ix2 r (at3 h d)) = (before m c t).2.2.2 (ix2 r (at3 h d)) + ((∑ s, diagT a b o v cr ls de h r s * b h s d : ℝ) : EReal) := by
  rw [outsAt0_E m c t h0 h1 h2 h3]; frame_open
  simp (disch := decide) only [↓ View.readCov_skip, ↓ View.readCov_cons_toLoadRect, ↓ View.readCov_fill, read_cols, read_rows, pay7_eq, pay8_eq]; frame_out
  simp only [read_unread_whole]
  have hs := diag_dq H (before m c t).2.2.2 [] r h d
  simp only [List.cons_append, List.nil_append] at hs
  exact hs

theorem dc_E {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (before m c t).2.1 a b o v cr ls de) (h0 : ¬t.val % 8 = 0) (h1 : ¬t.val % 8 + 1 ≤ t.val / 8 % 8) (h2 : t.val / 8 % 8 = t.val % 8) (h3 : ¬t.val % 8 = 7)
    (h : Fin 3) (r : Fin 1024) : (outsAt0 m c t.val t.isLt).2.2.1 (ix3 h r 0) = (before m c t).2.2.1 (ix3 h r 0) + ((∑ s, diagT a b o v cr ls de h r s : ℝ) : EReal) := by
  rw [outsAt0_E m c t h0 h1 h2 h3]; frame_open
  simp (disch := decide) only [↓ View.readCov_skip, ↓ View.readCov_cons_toLoadRect, ↓ View.readCov_fill, read_cols, read_rows, pay7_eq, pay8_eq]; frame_out
  have hs := diag_dc H (before m c t).2.2.1 [⟨Rect.unit ![0, 0, 0] ![3, 1024, 1] inb_S3x1024x1_S3x1024x1_0_0_0, (before m c t).2.2.1⟩] h r
  simp only [List.cons_append, List.nil_append] at hs
  exact hs

theorem delta_F (h0 : ¬t.val % 8 = 0) (h1 : t.val % 8 + 1 ≤ t.val / 8 % 8) (h2 : ¬t.val / 8 % 8 = t.val % 8) (h3 : ¬t.val % 8 = 7) (j : S3x1024x1.Idx) : (outsAt0 m c t.val t.isLt).2.1 j = (before m c t).2.1 j := by
  rw [outsAt0_F m c t h0 h1 h2 h3]; frame_open
  simp (disch := decide) only [↓ View.readCov_skip, ↓ View.readCov_cons_toLoadRect, ↓ View.readCov_fill, read_cols, read_rows, pay7_eq, pay8_eq]; frame_out

theorem acc_F {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (before m c t).2.1 a b o v cr ls de) (h0 : ¬t.val % 8 = 0) (h1 : t.val % 8 + 1 ≤ t.val / 8 % 8) (h2 : ¬t.val / 8 % 8 = t.val % 8) (h3 : ¬t.val % 8 = 7)
    (r : Fin 1024) (h : Fin 3) (d : Fin 128) : (outsAt0 m c t.val t.isLt).2.2.2 (ix2 r (at3 h d)) = (before m c t).2.2.2 (ix2 r (at3 h d)) + ((∑ s, fullT a b o v cr ls de h r s * b h s d : ℝ) : EReal) := by
  rw [outsAt0_F m c t h0 h1 h2 h3]; frame_open
  simp (disch := decide) only [↓ View.readCov_skip, ↓ View.readCov_cons_toLoadRect, ↓ View.readCov_fill, read_cols, read_rows, pay7_eq, pay8_eq]; frame_out
  simp only [read_unread_whole]
  have hs := full_dq H (before m c t).2.2.2 [] r h d
  simp only [List.cons_append, List.nil_append] at hs
  exact hs

theorem dc_F {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (before m c t).2.1 a b o v cr ls de) (h0 : ¬t.val % 8 = 0) (h1 : t.val % 8 + 1 ≤ t.val / 8 % 8) (h2 : ¬t.val / 8 % 8 = t.val % 8) (h3 : ¬t.val % 8 = 7)
    (h : Fin 3) (r : Fin 1024) : (outsAt0 m c t.val t.isLt).2.2.1 (ix3 h r 0) = (before m c t).2.2.1 (ix3 h r 0) + ((∑ s, fullT a b o v cr ls de h r s : ℝ) : EReal) := by
  rw [outsAt0_F m c t h0 h1 h2 h3]; frame_open
  simp (disch := decide) only [↓ View.readCov_skip, ↓ View.readCov_cons_toLoadRect, ↓ View.readCov_fill, read_cols, read_rows, pay7_eq, pay8_eq]; frame_out
  have hs := full_dc H (before m c t).2.2.1 [⟨Rect.unit ![0, 0, 0] ![3, 1024, 1] inb_S3x1024x1_S3x1024x1_0_0_0, (before m c t).2.2.1⟩] h r
  simp only [List.cons_append, List.nil_append] at hs
  exact hs

theorem delta_G (h0 : ¬t.val % 8 = 0) (h1 : ¬t.val % 8 + 1 ≤ t.val / 8 % 8) (h2 : t.val / 8 % 8 = t.val % 8) (h3 : t.val % 8 = 7) (j : S3x1024x1.Idx) : (outsAt0 m c t.val t.isLt).2.1 j = (before m c t).2.1 j := by
  rw [outsAt0_G m c t h0 h1 h2 h3]; frame_open
  simp (disch := decide) only [↓ View.readCov_skip, ↓ View.readCov_cons_toLoadRect, ↓ View.readCov_fill, read_cols, read_rows, pay7_eq, pay8_eq]; frame_out

theorem acc_G {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (before m c t).2.1 a b o v cr ls de) (h0 : ¬t.val % 8 = 0) (h1 : ¬t.val % 8 + 1 ≤ t.val / 8 % 8) (h2 : t.val / 8 % 8 = t.val % 8) (h3 : t.val % 8 = 7)
    (r : Fin 1024) (h : Fin 3) (d : Fin 128) : (outsAt0 m c t.val t.isLt).2.2.2 (ix2 r (at3 h d)) = (before m c t).2.2.2 (ix2 r (at3 h d)) + ((∑ s, diagT a b o v cr ls de h r s * b h s d : ℝ) : EReal) := by
  rw [outsAt0_G m c t h0 h1 h2 h3]; frame_open
  simp (disch := decide) only [↓ View.readCov_skip, ↓ View.readCov_cons_toLoadRect, ↓ View.readCov_fill, read_cols, read_rows, pay7_eq, pay8_eq]; frame_out
  simp only [read_unread_whole]
  have hs := diag_dq H (before m c t).2.2.2 [] r h d
  simp only [List.cons_append, List.nil_append] at hs
  exact hs

theorem dc_G {a b o v : Fin 3 → Fin 1024 → Fin 128 → ℝ} {cr ls de : Fin 3 → Fin 1024 → ℝ}
    (H : Blocks (X0_0 m c t) (iblk m c 1 t) (iblk m c 2 t) (X0_6 m c t) (iblk m c 3 t) (iblk m c 4 t) (before m c t).2.1 a b o v cr ls de) (h0 : ¬t.val % 8 = 0) (h1 : ¬t.val % 8 + 1 ≤ t.val / 8 % 8) (h2 : t.val / 8 % 8 = t.val % 8) (h3 : t.val % 8 = 7)
    (h : Fin 3) (r : Fin 1024) : (outsAt0 m c t.val t.isLt).2.2.1 (ix3 h r 0) = (before m c t).2.2.1 (ix3 h r 0) + ((∑ s, diagT a b o v cr ls de h r s : ℝ) : EReal) := by
  rw [outsAt0_G m c t h0 h1 h2 h3]; frame_open
  simp (disch := decide) only [↓ View.readCov_skip, ↓ View.readCov_cons_toLoadRect, ↓ View.readCov_fill, read_cols, read_rows, pay7_eq, pay8_eq]; frame_out
  have hs := diag_dc H (before m c t).2.2.1 [⟨Rect.unit ![0, 0, 0] ![3, 1024, 1] inb_S3x1024x1_S3x1024x1_0_0_0, (before m c t).2.2.1⟩] h r
  simp only [List.cons_append, List.nil_append] at hs
  exact hs

theorem dq_G (h0 : ¬t.val % 8 = 0) (h1 : ¬t.val % 8 + 1 ≤ t.val / 8 % 8) (h2 : t.val / 8 % 8 = t.val % 8) (h3 : t.val % 8 = 7) (r : Fin 1024) (e : Fin 384) :
    (outsAt0 m c t.val t.isLt).1 (ix2 r e) = (outsAt0 m c t.val t.isLt).2.2.2 (ix2 r e) * (scale : EReal) := by
  rw [outsAt0_G m c t h0 h1 h2 h3]; frame_open
  simp (disch := decide) only [↓ View.readCov_skip, ↓ View.readCov_cons_toLoadRect, ↓ View.readCov_fill, read_cols, read_rows, pay7_eq, pay8_eq]; frame_out
  exact pay11_at _ r e

end Cert.FoxQProof

end
-- ==== Proof.FoxQHost.lean ====
/- The attention's gradient in queries: what the host lines before the kernel compute, and the reference, in real numbers. -/
module

public import proofs.«01_k».proof.Proof.FoxKvHost
public import proofs.«01_k».proof.Proof.Gen.FoxQIdeal.Frame
public import proofs.«01_k».proof.Proof.Gen.FoxQRefIdeal.Run

@[expose] public section

set_option maxRecDepth 16384

noncomputable section

namespace Cert.FoxQProof

open Cert.Reals Cert.Fox Idealize.ShloMosaic Idealize.ShloMosaic.TcCoe Idealize.SL.Sem
open Cert.FoxKvProof (wide thin entry colw_head dlogArr dlogArr_coe crow crow_real savedSums savedSums_coe outArr outArr_coe delt delt_real sum_out thin_at)
open scoped BigOperators

section Stages

open Cert.FoxQRefIdeal Cert.FoxQRefIdeal.Gen Cert.FoxQRefIdeal.Value

/-- The product of the cotangent of the logits with the keys. -/
def queries (x : FVec Ideal S6x8192x8192 .f32) (k : FVec Ideal S8192x6x128 .f32) : FVec Ideal S8192x768 .f32 :=
  shapeCast _ (transpose S8192x6x128 [1, 0, 2] (Host.dotGeneral dot_S6x8192x8192_S8192x6x128_S6x8192x128_2_0_1_2_0_1 none (mulf x (broadcastInDim S6x8192x8192 ![] bcast_S_S6x8192x8192 (constant S_ .f32 0x3DB504F3#32))) k) transposes_S6x8192x128_S8192x6x128_1_0_2) shapeCasts_S8192x6x128_S8192x768

theorem queries_at (x : FVec Ideal S6x8192x8192 .f32) (k : FVec Ideal S8192x6x128 .f32) (r : Fin 8192) (j : Fin 768) :
    queries x k (ix2 r j) = ∑ s, x (ix3 (head j) r s) * (scale : EReal) * k (ix3 s (head j) (entry j)) := by
  pointwise [queries, head, entry]
  simp only [ofBits_scale]

/-- The sums over the keys of the cotangent of the logits. -/
def sums (x : FVec Ideal S6x8192x8192 .f32) : FVec Ideal S6x8192x1 .f32 :=
  shapeCast _ (Host.reduceAdd (shapeCast _ (Host.reduceAdd x (constant S_ .f32 0x00000000#32) reducesTo_S6x8192x8192_S6x8192_d2 h_S_) shapeCasts_S6x8192_S6x8192x1) (constant S_ .f32 0x00000000#32) reducesTo_S6x8192x1_S6x8192_d2 h_S_) shapeCasts_S6x8192_S6x8192x1

theorem sums_at (x : FVec Ideal S6x8192x8192 .f32) (h : Fin 6) (r : Fin 8192) : sums x (ix3 h r 0) = ∑ s, x (ix3 h r s) := by
  pointwise [sums]
  exact Fin.sum_univ_one _

end Stages

section Reference

open Cert.FoxQRefIdeal Cert.FoxQRefIdeal.Value

variable (m : (ℓ : Loc nD τ sig) → Buf (Elt Ideal) ℓ) (c : Dev nD)
variable (q : Fin 8192 → Fin 1024 → ℝ) (k v : Fin 8192 → Fin 768 → ℝ) (g : Fin 6 → Fin 8192 → ℝ) (ct : Fin 8192 → Fin 1024 → ℝ)
variable (hq : ∀ r j, m (c.tc.loc main_arg0) (ix2 r j) = (q r j : EReal)) (hk : ∀ r j, m (c.tc.loc main_arg1) (ix2 r j) = (k r j : EReal))
variable (hv : ∀ r j, m (c.tc.loc main_arg2) (ix2 r j) = (v r j : EReal)) (hg : ∀ r j, m (c.tc.loc main_arg3) (ix2 r j) = (g r j : EReal))
variable (hct : ∀ r j, m (c.tc.loc main_arg4) (ix2 r j) = (ct r j : EReal))

theorem dq_eq (i : S8192x768.Idx) : (res_out0 m c : FVec Ideal S8192x768 .bf16) i
    = queries (dlogArr (m (c.tc.loc main_arg0)) (m (c.tc.loc main_arg4)) (m (c.tc.loc main_arg1)) (m (c.tc.loc main_arg2)) (m (c.tc.loc main_arg3)))
      (thin (m (c.tc.loc main_arg1))) i := rfl

theorem delta_eq : res_out1 m c
    = delt (outArr (m (c.tc.loc main_arg0)) (m (c.tc.loc main_arg1)) (m (c.tc.loc main_arg2)) (m (c.tc.loc main_arg3))) (m (c.tc.loc main_arg4)) := rfl

theorem dc_eq : res_out2 m c
    = sums (dlogArr (m (c.tc.loc main_arg0)) (m (c.tc.loc main_arg4)) (m (c.tc.loc main_arg1)) (m (c.tc.loc main_arg2)) (m (c.tc.loc main_arg3))) := rfl

theorem col_head (j : Fin 768) : col (head j) (entry j) = j := Fin.ext (by simp only [col, head, entry]; omega)

include hq hk hv hg hct

/-- The reference's gradient in the queries. -/
theorem ref_dq (r : Fin 8192) (j : Fin 768) : (res_out0 m c : FVec Ideal S8192x768 .bf16) (ix2 r j) = (dquery q k v g ct r j : EReal) := by
  rw [dq_eq, queries_at]
  simp only [dlogArr_coe _ _ _ _ _ q k v g ct hq hk hv hg hct, thin_at, hk, col_head, ← EReal.coe_mul, sum_coe]
  rfl

/-- The reference's row sums of the attention's result against its cotangent. -/
theorem ref_delta (h : Fin 6) (r : Fin 8192) : (res_out1 m c : FVec Ideal S6x8192x1 .f32) (ix3 h r 0) = (dmean q k v g ct h r : EReal) := by
  rw [delta_eq, delt_real _ _ _ _ _ q k v g ct hq hk hv hg hct]
  rfl

/-- The reference's gradient in the sums of log gates of the queries. -/
theorem ref_dc (h : Fin 6) (r : Fin 8192) : (res_out2 m c : FVec Ideal S6x8192x1 .f32) (ix3 h r 0) = (dgateq q k v g ct h r : EReal) := by
  rw [dc_eq, sums_at]
  simp only [dlogArr_coe _ _ _ _ _ q k v g ct hq hk hv hg hct, sum_coe]
  rfl

end Reference

section Arguments

open Cert.FoxQIdeal Cert.FoxQIdeal.Gen

variable (m : (ℓ : Loc nD τ sig) → Buf (Elt Ideal) ℓ) (c : Dev nD)

theorem v3_eq : (V m c main_v3 : FVec Ideal S6x1x8192 .f32) = crow (m (c.tc.loc main_arg3)) := by
  unfold V
  after_reads_simp
  rfl

theorem v31_eq : (V m c main_v31 : FVec Ideal S6x8192x1 .f32)
    = savedSums (m (c.tc.loc main_arg0)) (m (c.tc.loc main_arg1)) (m (c.tc.loc main_arg3)) := by
  unfold V
  after_reads_simp
  rfl

theorem v67_at (r : Fin 8192) (j : Fin 1024) : (V m c main_v67 : FVec Ideal S8192x1024 .bf16) (ix2 r j) = (m (c.tc.loc main_arg0) : FVec Ideal S8192x1024 .f32) (ix2 r j) := by
  unfold V
  after_reads_simp
  rfl

theorem v68_at (r : Fin 8192) (j : Fin 768) : (V m c main_v68 : FVec Ideal S8192x768 .bf16) (ix2 r j) = (m (c.tc.loc main_arg1) : FVec Ideal S8192x768 .f32) (ix2 r j) := by
  unfold V
  after_reads_simp
  rfl

theorem v69_at (r : Fin 8192) (j : Fin 768) : (V m c main_v69 : FVec Ideal S8192x768 .bf16) (ix2 r j) = (m (c.tc.loc main_arg2) : FVec Ideal S8192x768 .f32) (ix2 r j) := by
  unfold V
  after_reads_simp
  rfl

theorem arg4_at (r : Fin 8192) (j : Fin 1024) : (V m c main_arg4 : FVec Ideal S8192x1024 .f32) (ix2 r j) = (m (c.tc.loc main_arg4) : FVec Ideal S8192x1024 .f32) (ix2 r j) := by
  unfold V
  after_reads_simp

/-- An array of the heads' columns, made wider by columns of zeros. -/
def wider (o : FVec Ideal S8192x768 .f32) : FVec Ideal S8192x1024 .f32 :=
  pad S8192x1024 ![0, 0] ![0, 256] ![0, 0] o (sitofp (F := Ideal) .f32 (constantI S_ 32 0#32)) pads_S8192x768_S8192x1024_000_02560 h_S_

theorem wider_at (o : FVec Ideal S8192x768 .f32) (r : Fin 8192) (h : Fin 6) (d : Fin 128) : wider o (ix2 r (colw h d)) = o (ix2 r (col h d)) := by
  pointwise [wider, colw, col]
  exact dif_pos (by omega)

theorem v70_eq (i : S8192x1024.Idx) : (V m c main_v70 : FVec Ideal S8192x1024 .bf16) i
    = wider (outArr (m (c.tc.loc main_arg0)) (m (c.tc.loc main_arg1)) (m (c.tc.loc main_arg2)) (m (c.tc.loc main_arg3))) i := by
  unfold V
  after_reads_simp
  rfl

end Arguments

end Cert.FoxQProof

end
-- ==== Proof.FoxQ.lean ====
/- The attention's gradient in queries: what the kernel's blocks hold at each grid point. -/
module

public import proofs.«01_k».proof.Proof.FoxQCases
public import proofs.«01_k».proof.Proof.FoxQHost
public import proofs.«01_k».proof.Proof.FoxKv

@[expose] public section

set_option maxRecDepth 16384

noncomputable section

namespace Cert.FoxQProof

open Cert.Reals Cert.Fox Cert.Heads Cert.FoxQIdeal Cert.FoxQIdeal.Gen Idealize.ShloMosaic Idealize.ShloMosaic.TcCoe Idealize.SL.Sem
open Cert.FoxKvProof (Blocks dtile diag fullT diagT fullW diagW pow_prob crow_real savedSums_coe outArr outArr_coe sum_out)
open scoped BigOperators

/-- The block of each window at each grid point. -/
theorem idx : ∀ t : Fin cfg0.N, win0_0.index t = ![t.val / 8 % 8, t.val / 64] ∧ win0_1.index t = ![min (t.val % 8) (t.val / 8 % 8), t.val / 64]
    ∧ win0_2.index t = ![min (t.val % 8) (t.val / 8 % 8), t.val / 64] ∧ win0_3.index t = ![t.val / 64, 0, min (t.val % 8) (t.val / 8 % 8)]
    ∧ win0_4.index t = ![t.val / 64, t.val / 8 % 8, 0] ∧ win0_5.index t = ![t.val / 8 % 8, t.val / 64]
    ∧ win0_6.index t = ![t.val / 8 % 8, t.val / 64] ∧ win0_7.index t = ![t.val / 8 % 8, t.val / 64]
    ∧ win0_8.index t = ![t.val / 64, t.val / 8 % 8, 0] ∧ win0_9.index t = ![t.val / 64, t.val / 8 % 8, 0] :=
  (by decide +kernel : ∀ t : Fin grid0.N, _)

theorem pt_lt (t : Fin cfg0.N) : t.val < 128 := lt_of_lt_of_eq t.isLt N_0

/-- Row `r` of the queries' tile. -/
def qrow (t : Fin cfg0.N) (r : Fin 1024) : Fin 8192 := ⟨t.val / 8 % 8 * 1024 + r.val, by omega⟩

/-- Row `s` of the keys' tile, and of the tile that the kernel reads: at points above the diagonal it reads the diagonal's. -/
def krow (t : Fin cfg0.N) (s : Fin 1024) : Fin 8192 := ⟨t.val % 8 * 1024 + s.val, by omega⟩
def rrow (t : Fin cfg0.N) (s : Fin 1024) : Fin 8192 := ⟨min (t.val % 8) (t.val / 8 % 8) * 1024 + s.val, by omega⟩

/-- The heads and the columns of a block. -/
def hd (t : Fin cfg0.N) (h : Fin 3) : Fin 6 := ⟨t.val / 64 * 3 + h.val, by have := pt_lt t; omega⟩
def kcol (t : Fin cfg0.N) (e : Fin 384) : Fin 768 := ⟨t.val / 64 * 384 + e.val, by have := pt_lt t; omega⟩

theorem kcol_at3 (t : Fin cfg0.N) (h : Fin 3) (d : Fin 128) : kcol t (at3 h d) = col (hd t h) d := Fin.ext (by simp only [kcol, at3, col, hd]; omega)

theorem head_kcol (t : Fin cfg0.N) (h : Fin 3) (d : Fin 128) : head (kcol t (at3 h d)) = hd t h := Fin.ext (by simp only [kcol, at3, head, hd]; omega)

theorem rrow_eq {t : Fin cfg0.N} (h : t.val % 8 ≤ t.val / 8 % 8) : rrow t = krow t := funext fun r => Fin.ext (by simp only [rrow, krow]; omega)

section Values

variable (q : Fin 8192 → Fin 1024 → ℝ) (k v : Fin 8192 → Fin 768 → ℝ) (g : Fin 6 → Fin 8192 → ℝ) (ct : Fin 8192 → Fin 1024 → ℝ)

/-- The numbers in the blocks at a grid point. -/
def bq (t : Fin cfg0.N) (h : Fin 3) (r : Fin 1024) (d : Fin 128) : ℝ := q (qrow t r) (colw (hd t h) d)
def bk (t : Fin cfg0.N) (h : Fin 3) (s : Fin 1024) (d : Fin 128) : ℝ := k (rrow t s) (col (hd t h) d)
def bo (t : Fin cfg0.N) (h : Fin 3) (r : Fin 1024) (d : Fin 128) : ℝ := ∑ s, prob q k g (hd t h) (qrow t r) s * v s (col (hd t h) d)
def bg (t : Fin cfg0.N) (h : Fin 3) (s : Fin 1024) : ℝ := g (hd t h) (rrow t s) / Real.log 2
def bl (t : Fin cfg0.N) (h : Fin 3) (r : Fin 1024) : ℝ := Real.log (mass (logit q k g (hd t h) (qrow t r)) (qrow t r)) / Real.log 2
def bd (t : Fin cfg0.N) (h : Fin 3) (r : Fin 1024) : ℝ := dmean q k v g ct (hd t h) (qrow t r)

/-- The weights of a tile below the diagonal, and of one on it. -/
theorem full_prob (t : Fin cfg0.N) (ht : t.val % 8 + 1 ≤ t.val / 8 % 8) (h : Fin 3) (r s : Fin 1024) :
    fullW (bq q t) (bk k t) (bg g t) (bl q k g t) h r s = prob q k g (hd t h) (qrow t r) (krow t s) := by
  rw [← rrow_eq (Nat.le_of_succ_le ht)]
  exact pow_prob q k g (hd t h) (qrow t r) (rrow t s) (Fin.le_def.mpr (by simp only [rrow, qrow]; omega))

theorem diag_prob (t : Fin cfg0.N) (ht : t.val / 8 % 8 = t.val % 8) (h : Fin 3) (r s : Fin 1024) :
    diagW (bq q t) (bk k t) (bg g t) (bl q k g t) h r s = prob q k g (hd t h) (qrow t r) (krow t s) := by
  rw [← rrow_eq (le_of_eq ht.symm)]
  have e : rrow t s ≤ qrow t r ↔ s ≤ r := by simp only [Fin.le_def, rrow, qrow]; omega
  unfold diagW diag
  by_cases hs : s ≤ r
  · rw [if_pos hs]; exact pow_prob q k g (hd t h) (qrow t r) (rrow t s) (e.mpr hs)
  · rw [if_neg hs]; unfold prob weight; rw [if_neg (mt e.mp hs)]

/-- Above the diagonal the gradient in the logits is zero. -/
theorem above_dlogit (t : Fin cfg0.N) (ht : t.val / 8 % 8 < t.val % 8) (h : Fin 6) (r s : Fin 1024) :
    dlogit q k v g ct h (qrow t r) (krow t s) = 0 := by
  unfold dlogit prob weight
  rw [if_neg (by simp only [Fin.le_def, qrow, krow]; omega), zero_mul]

/-- The gradient in the logits in a tile, by the tile's weights. -/
theorem tile_dlogit (t : Fin cfg0.N) (ht : t.val % 8 ≤ t.val / 8 % 8) (h : Fin 3) (w : Fin 1024 → Fin 1024 → ℝ)
    (hw : ∀ r s, w r s = prob q k g (hd t h) (qrow t r) (krow t s)) (r s : Fin 1024) :
    dtile (bq ct t h) (bk v t h) (bd q k v g ct t h) w r s = dlogit q k v g ct (hd t h) (qrow t r) (krow t s) := by
  unfold dtile dlogit bd
  rw [hw, ← rrow_eq ht]
  rfl

/-- What grid point `t` adds to the unscaled gradient in the queries, and to the gradient in the sums of log gates. -/
def partQ (t : Fin cfg0.N) (r : Fin 1024) (e : Fin 384) : ℝ := ∑ s, dlogit q k v g ct (head (kcol t e)) (qrow t r) (krow t s) * k (krow t s) (kcol t e)
def partG (t : Fin cfg0.N) (h : Fin 3) (r : Fin 1024) : ℝ := ∑ s, dlogit q k v g ct (hd t h) (qrow t r) (krow t s)

theorem partQ_of (t : Fin cfg0.N) (ht : t.val % 8 ≤ t.val / 8 % 8) (h : Fin 3) (w : Fin 1024 → Fin 1024 → ℝ)
    (hw : ∀ r s, w r s = prob q k g (hd t h) (qrow t r) (krow t s)) (r : Fin 1024) (d : Fin 128) :
    ∑ s, dtile (bq ct t h) (bk v t h) (bd q k v g ct t h) w r s * bk k t h s d = partQ q k v g ct t r (at3 h d) := by
  unfold partQ
  rw [head_kcol, kcol_at3]
  refine Finset.sum_congr rfl fun s _ => ?_
  rw [tile_dlogit q k v g ct t ht h w hw, bk, rrow_eq ht]

theorem partG_of (t : Fin cfg0.N) (ht : t.val % 8 ≤ t.val / 8 % 8) (h : Fin 3) (w : Fin 1024 → Fin 1024 → ℝ)
    (hw : ∀ r s, w r s = prob q k g (hd t h) (qrow t r) (krow t s)) (r : Fin 1024) :
    ∑ s, dtile (bq ct t h) (bk v t h) (bd q k v g ct t h) w r s = partG q k v g ct t h r :=
  Finset.sum_congr rfl fun s _ => tile_dlogit q k v g ct t ht h w hw r s

theorem partQ_above (t : Fin cfg0.N) (ht : t.val / 8 % 8 < t.val % 8) (r : Fin 1024) (e : Fin 384) : partQ q k v g ct t r e = 0 :=
  Finset.sum_eq_zero fun s _ => by rw [above_dlogit q k v g ct t ht, zero_mul]

theorem partG_above (t : Fin cfg0.N) (ht : t.val / 8 % 8 < t.val % 8) (h : Fin 3) (r : Fin 1024) : partG q k v g ct t h r = 0 :=
  Finset.sum_eq_zero fun s _ => above_dlogit q k v g ct t ht (hd t h) r s

end Values

variable (m : (ℓ : Loc nD τ sig) → Buf (Elt Ideal) ℓ) (c : Dev nD)
  (q : Fin 8192 → Fin 1024 → ℝ) (k v : Fin 8192 → Fin 768 → ℝ) (g : Fin 6 → Fin 8192 → ℝ) (ct : Fin 8192 → Fin 1024 → ℝ)
  (hq : ∀ r j, m (c.tc.loc main_arg0) (ix2 r j) = (q r j : EReal)) (hk : ∀ r j, m (c.tc.loc main_arg1) (ix2 r j) = (k r j : EReal))
  (hv : ∀ r j, m (c.tc.loc main_arg2) (ix2 r j) = (v r j : EReal)) (hg : ∀ h r, m (c.tc.loc main_arg3) (ix2 h r) = (g h r : EReal))
  (hct : ∀ r j, m (c.tc.loc main_arg4) (ix2 r j) = (ct r j : EReal))

include hq in
theorem blk_q (t : Fin cfg0.N) (h : Fin 3) (r : Fin 1024) (d : Fin 128) :
    (X0_0 m c t : FVec Ideal S1024x384 .bf16) (ix2 r (at3 h d)) = (bq q t h r d : EReal) := by
  unfold bq; rw [← hq, ← v67_at m c]
  unfold X0_0 Pipeline.Window.fill; rw [dif_pos (moved0_0 t _)]; blk_ext [iblk, idx t, qrow, colw, hd, at3]

include hct in
theorem blk_ct (t : Fin cfg0.N) (h : Fin 3) (r : Fin 1024) (d : Fin 128) :
    (X0_6 m c t : FVec Ideal S1024x384 .f32) (ix2 r (at3 h d)) = (bq ct t h r d : EReal) := by
  unfold bq; rw [← hct, ← arg4_at m c]
  unfold X0_6 Pipeline.Window.fill; rw [dif_pos (moved0_6 t _)]; blk_ext [iblk, idx t, qrow, colw, hd, at3]

include hq hk hv hg in
theorem blk_o (t : Fin cfg0.N) (h : Fin 3) (r : Fin 1024) (d : Fin 128) :
    (X0_5 m c t : FVec Ideal S1024x384 .bf16) (ix2 r (at3 h d)) = (bo q k v g t h r d : EReal) := by
  unfold bo; rw [← outArr_coe _ _ _ _ q k v g hq hk hv hg,
    ← wider_at (outArr (m (c.tc.loc main_arg0)) (m (c.tc.loc main_arg1)) (m (c.tc.loc main_arg2)) (m (c.tc.loc main_arg3))), ← v70_eq m c]
  unfold X0_5 Pipeline.Window.fill; rw [dif_pos (moved0_5 t _)]; blk_ext [iblk, idx t, qrow, colw, hd, at3]

include hk in
theorem blk_k (t : Fin cfg0.N) (h : Fin 3) (s : Fin 1024) (d : Fin 128) :
    (iblk m c 1 t : FVec Ideal S1024x384 .bf16) (ix2 s (at3 h d)) = (bk k t h s d : EReal) := by
  unfold bk; rw [← hk, ← v68_at m c]; blk_ext [iblk, idx t, rrow, col, hd, at3]

include hv in
theorem blk_v (t : Fin cfg0.N) (h : Fin 3) (s : Fin 1024) (d : Fin 128) :
    (iblk m c 2 t : FVec Ideal S1024x384 .bf16) (ix2 s (at3 h d)) = (bk v t h s d : EReal) := by
  unfold bk; rw [← hv, ← v69_at m c]; blk_ext [iblk, idx t, rrow, col, hd, at3]

include hg in
theorem blk_g (t : Fin cfg0.N) (h : Fin 3) (s : Fin 1024) : (iblk m c 3 t : FVec Ideal S3x1x1024 .f32) (ix3 h 0 s) = (bg g t h s : EReal) := by
  unfold bg; rw [← crow_real _ g hg, ← v3_eq m c]; blk_ext [iblk, idx t, rrow, hd]

include hq hk hg in
theorem blk_l (t : Fin cfg0.N) (h : Fin 3) (r : Fin 1024) : (iblk m c 4 t : FVec Ideal S3x1024x1 .f32) (ix3 h r 0) = (bl q k g t h r : EReal) := by
  unfold bl; rw [← savedSums_coe _ _ _ q k g hq hk hg, ← v31_eq m c]; blk_ext [iblk, idx t, qrow, hd]

include hq hk hv hg hct

/-- The first point of a run of eight stores the row sums of the attention's result against its cotangent. -/
theorem start_eq (t : Fin cfg0.N) (h : Fin 3) (r : Fin 1024) : start (X0_5 m c t) (X0_6 m c t) (ix3 h r 0) = (bd q k v g ct t h r : EReal) :=
  (start_at (blk_o m c q k v g hq hk hv hg t) (blk_ct m c ct hct t) h r).trans (congrArg Real.toEReal (sum_out q k v g ct (hd t h) (qrow t r)))

omit hq hk hv hg hct in
/-- A later point keeps the row sums of the point before. -/
theorem delta_next (t : Fin cfg0.N) (h0 : ¬t.val % 8 = 0) (j : S3x1024x1.Idx) : (outsAt0 m c t.val t.isLt).2.1 j = (before m c t).2.1 j := by
  by_cases h3 : t.val % 8 = 7 <;> rcases lt_trichotomy (t.val % 8) (t.val / 8 % 8) with h2 | h2 | h2
  · omega
  · exact delta_G m c t h0 (by omega) h2.symm h3 j
  · exact delta_C m c t h0 (by omega) (by omega) h3 j
  · exact delta_F m c t h0 h2 (by omega) h3 j
  · exact delta_E m c t h0 (by omega) h2.symm h3 j
  · exact delta_B m c t h0 (by omega) (by omega) h3 j

theorem delta_first (t : Fin cfg0.N) (h0 : t.val % 8 = 0) (h : Fin 3) (r : Fin 1024) :
    (outsAt0 m c t.val t.isLt).2.1 (ix3 h r 0) = (bd q k v g ct t h r : EReal) := by
  refine Eq.trans ?_ (start_eq m c q k v g ct hq hk hv hg hct t h r)
  by_cases h2 : t.val / 8 % 8 = t.val % 8
  · exact congrFun (delta_A m c t h0 (by omega) h2 (by omega)) _
  · exact congrFun (delta_D m c t h0 (by omega) h2 (by omega)) _

omit hq hk hv hg hct in
theorem bd_before (t p : Fin cfg0.N) (h0 : ¬t.val % 8 = 0) (hp : p.val = t.val - 1) : bd q k v g ct p = bd q k v g ct t := by
  funext h r
  unfold bd
  rw [show hd p h = hd t h from Fin.ext (by simp only [hd]; omega), show qrow p r = qrow t r from Fin.ext (by simp only [qrow]; omega)]

/-- Every point holds the row sums of its rows of queries. -/
theorem delta_all : ∀ (n : Nat) (hn : n < cfg0.N) (h : Fin 3) (r : Fin 1024),
    (outsAt0 m c n hn).2.1 (ix3 h r 0) = (bd q k v g ct ⟨n, hn⟩ h r : EReal) := by
  intro n
  induction n with
  | zero => exact fun hn h r => delta_first m c q k v g ct hq hk hv hg hct ⟨0, hn⟩ rfl h r
  | succ n ih =>
    intro hn h r
    by_cases h0 : (n + 1) % 8 = 0
    · exact delta_first m c q k v g ct hq hk hv hg hct ⟨n + 1, hn⟩ h0 h r
    · rw [← bd_before q k v g ct ⟨n + 1, hn⟩ ⟨n, Nat.lt_of_succ_lt hn⟩ h0 rfl]
      exact (delta_next m c ⟨n + 1, hn⟩ h0 (ix3 h r 0)).trans (ih (Nat.lt_of_succ_lt hn) h r)

/-- The blocks at a first point of a run of eight, and at a later one. -/
theorem blocks {t : Fin cfg0.N} {D : Vec Ideal S3x1024x1 .f32} (hD : ∀ h r, D (ix3 h r 0) = (bd q k v g ct t h r : EReal)) :
    Blocks (X0_0 m c t) (iblk m c 1 t) (iblk m c 2 t) (X0_6 m c t) (iblk m c 3 t) (iblk m c 4 t) D
    (bq q t) (bk k t) (bq ct t) (bk v t) (bg g t) (bl q k g t) (bd q k v g ct t) where
  hA := blk_q m c q hq t
  hB := blk_k m c k hk t
  hO := blk_ct m c ct hct t
  hV := blk_v m c v hv t
  hC := blk_g m c g hg t
  hL := blk_l m c q k g hq hk hg t
  hD := hD

theorem before_delta (t : Fin cfg0.N) (h0 : ¬t.val % 8 = 0) (h : Fin 3) (r : Fin 1024) : (before m c t).2.1 (ix3 h r 0) = (bd q k v g ct t h r : EReal) := by
  rw [← bd_before q k v g ct t ⟨t.val - 1, Nat.lt_of_le_of_lt (Nat.sub_le _ _) t.isLt⟩ h0 rfl]
  exact delta_all m c q k v g ct hq hk hv hg hct (t.val - 1) _ h r

end Cert.FoxQProof

end
-- ==== Proof.FoxQFinal.lean ====
/- The attention's gradient in queries: the kernel's arrays, added up over the keys' tiles. -/
module

public import proofs.«01_k».proof.Proof.FoxQ

@[expose] public section

set_option maxRecDepth 16384

noncomputable section

namespace Cert.FoxQProof

open Cert.Reals Cert.Fox Cert.Heads Cert.FoxQIdeal Cert.FoxQIdeal.Gen Idealize.ShloMosaic Idealize.ShloMosaic.TcCoe Idealize.SL.Sem
open scoped BigOperators

/-- The points of a run of eight work on one tile of queries of one block of heads. -/
theorem qrow_run {t : Fin cfg0.N} (ht : t.val % 8 = 8 - 1) (p : Fin 8) : qrow ⟨8 * (t.val / 8) + p.val, Pipeline.run_point_lt_of_flush t ht p⟩ = qrow t :=
  funext fun s => Fin.ext (by simp only [qrow]; omega)

theorem kcol_run {t : Fin cfg0.N} (ht : t.val % 8 = 8 - 1) (p : Fin 8) : kcol ⟨8 * (t.val / 8) + p.val, Pipeline.run_point_lt_of_flush t ht p⟩ = kcol t :=
  funext fun s => Fin.ext (by simp only [kcol]; omega)

theorem hd_run {t : Fin cfg0.N} (ht : t.val % 8 = 8 - 1) (p : Fin 8) : hd ⟨8 * (t.val / 8) + p.val, Pipeline.run_point_lt_of_flush t ht p⟩ = hd t :=
  funext fun s => Fin.ext (by simp only [hd]; omega)

/-- A sum over the keys' tiles of a run of eight points is the sum over the keys. -/
theorem sum_run {t : Fin cfg0.N} (ht : t.val % 8 = 8 - 1) (f : Fin 8192 → ℝ) :
    ∑ p : Fin 8, ((∑ r, f (krow ⟨8 * (t.val / 8) + p.val, Pipeline.run_point_lt_of_flush t ht p⟩ r) : ℝ) : EReal) = ((∑ r, f r : ℝ) : EReal) :=
  sum_tiles rfl (fun (p : Fin 8) r => krow ⟨8 * (t.val / 8) + p.val, Pipeline.run_point_lt_of_flush t ht p⟩ r)
    (fun p r => by simp only [krow]; omega) f

/-- A part that is zero adds nothing. -/
theorem plus_zero (x : EReal) {p : ℝ} (h : p = 0) : x = x + (p : EReal) := by rw [h, EReal.coe_zero, add_zero]

variable (m : (ℓ : Loc nD τ sig) → Buf (Elt Ideal) ℓ) (c : Dev nD)
  (q : Fin 8192 → Fin 1024 → ℝ) (k v : Fin 8192 → Fin 768 → ℝ) (g : Fin 6 → Fin 8192 → ℝ) (ct : Fin 8192 → Fin 1024 → ℝ)
  (hq : ∀ r j, m (c.tc.loc main_arg0) (ix2 r j) = (q r j : EReal)) (hk : ∀ r j, m (c.tc.loc main_arg1) (ix2 r j) = (k r j : EReal))
  (hv : ∀ r j, m (c.tc.loc main_arg2) (ix2 r j) = (v r j : EReal)) (hg : ∀ h r, m (c.tc.loc main_arg3) (ix2 h r) = (g h r : EReal))
  (hct : ∀ r j, m (c.tc.loc main_arg4) (ix2 r j) = (ct r j : EReal))

include hq hk hv hg hct

omit hq hk hv hg hct in
/-- The parts of the unscaled gradient in the queries that a run of eight points adds, as one sum. -/
theorem partQ_run {t : Fin cfg0.N} (ht : t.val % 8 = 8 - 1) (r : Fin 1024) (e : Fin 384) :
    ∑ p : Fin 8, ((partQ q k v g ct ⟨8 * (t.val / 8) + p.val, Pipeline.run_point_lt_of_flush t ht p⟩ r e : ℝ) : EReal)
      = ((∑ s, dlogit q k v g ct (head (kcol t e)) (qrow t r) s * k s (kcol t e) : ℝ) : EReal) := by
  simp only [partQ, qrow_run ht, kcol_run ht]
  exact sum_run ht fun s => dlogit q k v g ct (head (kcol t e)) (qrow t r) s * k s (kcol t e)

/-- The first point of a run of eight leaves its own part of the gradient in the queries; a later one adds its part. -/
theorem acc_reset (t : Fin cfg0.N) (h0 : t.val % 8 = 0) (y : S1024x384.Idx) : (outsAt0 m c t.val t.isLt).2.2.2 y = 0 + ((partQ q k v g ct t (y 0) (y 1) : ℝ) : EReal) := by
  idx_vars y
  obtain ⟨h, d, rfl⟩ := exists_at3 y1
  have H := blocks m c q k v g ct hq hk hv hg hct (start_eq m c q k v g ct hq hk hv hg hct t)
  by_cases h2 : t.val / 8 % 8 = t.val % 8
  · exact (acc_A m c t H h0 (by omega) h2 (by omega) y0 h d).trans
      (congrArg (fun x : ℝ => (0 : EReal) + (x : EReal)) (partQ_of q k v g ct t (le_of_eq h2.symm) h _ (fun r s => diag_prob q k g t h2 h r s) y0 d))
  · exact (acc_D m c t H h0 (by omega) h2 (by omega) y0 h d).trans
      (congrArg (fun x : ℝ => (0 : EReal) + (x : EReal)) (partQ_of q k v g ct t (by omega) h _ (fun r s => full_prob q k g t (by omega) h r s) y0 d))

theorem acc_step (t : Fin cfg0.N) (h0 : ¬t.val % 8 = 0) (y : S1024x384.Idx) :
    (outsAt0 m c t.val t.isLt).2.2.2 y = (before m c t).2.2.2 y + ((partQ q k v g ct t (y 0) (y 1) : ℝ) : EReal) := by
  idx_vars y
  obtain ⟨h, d, rfl⟩ := exists_at3 y1
  have H := blocks m c q k v g ct hq hk hv hg hct (before_delta m c q k v g ct hq hk hv hg hct t h0)
  rcases lt_trichotomy (t.val / 8 % 8) (t.val % 8) with h2 | h2 | h2
  · refine Eq.trans ?_ (plus_zero _ (partQ_above q k v g ct t h2 y0 (at3 h d)))
    by_cases h3 : t.val % 8 = 7
    · exact acc_C m c t h0 (by omega) (by omega) h3 (ix2 y0 (at3 h d))
    · exact acc_B m c t h0 (by omega) (by omega) h3 (ix2 y0 (at3 h d))
  · refine Eq.trans ?_ (congrArg (fun x : ℝ => ((before m c t).2.2.2 (ix2 y0 (at3 h d)) : EReal) + (x : EReal))
      (partQ_of q k v g ct t (le_of_eq h2.symm) h _ (fun r s => diag_prob q k g t h2 h r s) y0 d))
    by_cases h3 : t.val % 8 = 7
    · exact acc_G m c t H h0 (by omega) h2 h3 y0 h d
    · exact acc_E m c t H h0 (by omega) h2 h3 y0 h d
  · exact (acc_F m c t H h0 h2 (by omega) (by omega) y0 h d).trans
      (congrArg (fun x : ℝ => ((before m c t).2.2.2 (ix2 y0 (at3 h d)) : EReal) + (x : EReal)) (partQ_of q k v g ct t (le_of_lt h2) h _ (fun r s => full_prob q k g t h2 h r s) y0 d))

omit hq hk hv hg hct in
/-- The last point of a run of eight stores the scaled sum. -/
theorem dq_last (t : Fin cfg0.N) (ht : t.val % 8 = 8 - 1) (y : S1024x384.Idx) : (outsAt0 m c t.val t.isLt).1 y = (outsAt0 m c t.val t.isLt).2.2.2 y * (scale : EReal) := by
  idx_vars y
  by_cases h2 : t.val / 8 % 8 = t.val % 8
  · exact dq_G m c t (by omega) (by omega) h2 ht y0 y1
  · exact dq_C m c t (by omega) (by omega) h2 ht y0 y1

omit hq hk hv hg hct in
theorem scaled (r : Fin 8192) (j : Fin 768) : ((∑ s, dlogit q k v g ct (head j) r s * k s j : ℝ) : EReal) * (scale : EReal) = (dquery q k v g ct r j : EReal) := by
  rw [← EReal.coe_mul, dquery, Finset.sum_mul]
  exact congrArg Real.toEReal (Finset.sum_congr rfl fun s _ => by ring)

/-- The gradient in the queries, as the kernel leaves it. -/
theorem final_dq : (dats m 0 c).arrAt 7 (cfgs 0).N = fun i => ((dquery q k v g ct (i 0) (i 1) : ℝ) : EReal) := by
  refine (dats m 0 c).arrAt_eq_of_covers 7 _ (by decide +kernel) fun t hf y => ?_
  have ht : t.val % 8 = 8 - 1 := (flush0_7 t).mp hf
  have e : ((cfg0.win 7).blk t).view.emb y = ix2 (qrow t (y 0)) (kcol t (y 1)) := by blk_ext [idx t, qrow, kcol]
  rw [e]
  blk_simp
  rw [after0_7, dq_last m c t ht, Pipeline.eq_sum_fin_of_reset_step_apply_of_flush (fun n h => (outsAt0 m c n h).2.2.2) 8 (fun _ => 0)
    (fun p y => ((partQ q k v g ct p (y 0) (y 1) : ℝ) : EReal)) (acc_reset m c q k v g ct hq hk hv hg hct) (acc_step m c q k v g ct hq hk hv hg hct) t ht y, zero_add,
    partQ_run q k v g ct ht (y 0) (y 1)]
  exact scaled q k v g ct (qrow t (y 0)) (kcol t (y 1))

/-- The row sums of the attention's result against its cotangent, as the kernel leaves them. -/
theorem final_delta : (dats m 0 c).arrAt 8 (cfgs 0).N = fun i => ((dmean q k v g ct (i 0) (i 1) : ℝ) : EReal) := by
  refine (dats m 0 c).arrAt_eq_of_covers 8 _ (by decide +kernel) fun t hf y => ?_
  have e : ((cfg0.win 8).blk t).view.emb y = ix3 (hd t (y 0)) (qrow t (y 1)) 0 := by
    idx_vars y
    obtain rfl : y2 = 0 := Subsingleton.elim _ _
    blk_ext [idx t, hd, qrow]
  rw [e]
  blk_simp
  rw [after0_8]
  have ey : y = ix3 (y 0) (y 1) 0 := by
    idx_vars y
    obtain rfl : y2 = 0 := Subsingleton.elim _ _
    rfl
  exact (congrArg (outsAt0 m c t.val t.isLt).2.1 ey).trans (delta_all m c q k v g ct hq hk hv hg hct t.val t.isLt (y 0) (y 1))

omit hq hk hv hg hct in
/-- The parts of the gradient in the sums of log gates that a run of eight points adds, as one sum. -/
theorem partG_run {t : Fin cfg0.N} (ht : t.val % 8 = 8 - 1) (h : Fin 3) (r : Fin 1024) :
    ∑ p : Fin 8, ((partG q k v g ct ⟨8 * (t.val / 8) + p.val, Pipeline.run_point_lt_of_flush t ht p⟩ h r : ℝ) : EReal)
      = ((dgateq q k v g ct (hd t h) (qrow t r) : ℝ) : EReal) := by
  simp only [partG, qrow_run ht, hd_run ht]
  exact sum_run ht fun s => dlogit q k v g ct (hd t h) (qrow t r) s

/-- The first point of a run of eight leaves its own part of the gradient in the sums of log gates; a later one adds its part. -/
theorem dc_reset (t : Fin cfg0.N) (h0 : t.val % 8 = 0) (y : S3x1024x1.Idx) : (outsAt0 m c t.val t.isLt).2.2.1 y = 0 + ((partG q k v g ct t (y 0) (y 1) : ℝ) : EReal) := by
  idx_vars y
  obtain rfl : y2 = 0 := Subsingleton.elim _ _
  have H := blocks m c q k v g ct hq hk hv hg hct (start_eq m c q k v g ct hq hk hv hg hct t)
  by_cases h2 : t.val / 8 % 8 = t.val % 8
  · exact (dc_A m c t H h0 (by omega) h2 (by omega) y0 y1).trans
      (congrArg (fun x : ℝ => (0 : EReal) + (x : EReal)) (partG_of q k v g ct t (le_of_eq h2.symm) y0 _ (fun r s => diag_prob q k g t h2 y0 r s) y1))
  · exact (dc_D m c t H h0 (by omega) h2 (by omega) y0 y1).trans
      (congrArg (fun x : ℝ => (0 : EReal) + (x : EReal)) (partG_of q k v g ct t (by omega) y0 _ (fun r s => full_prob q k g t (by omega) y0 r s) y1))

theorem dc_step (t : Fin cfg0.N) (h0 : ¬t.val % 8 = 0) (y : S3x1024x1.Idx) :
    (outsAt0 m c t.val t.isLt).2.2.1 y = (before m c t).2.2.1 y + ((partG q k v g ct t (y 0) (y 1) : ℝ) : EReal) := by
  idx_vars y
  obtain rfl : y2 = 0 := Subsingleton.elim _ _
  have H := blocks m c q k v g ct hq hk hv hg hct (before_delta m c q k v g ct hq hk hv hg hct t h0)
  rcases lt_trichotomy (t.val / 8 % 8) (t.val % 8) with h2 | h2 | h2
  · refine Eq.trans ?_ (plus_zero _ (partG_above q k v g ct t h2 y0 y1))
    by_cases h3 : t.val % 8 = 7
    · exact dc_C m c t h0 (by omega) (by omega) h3 (ix3 y0 y1 0)
    · exact dc_B m c t h0 (by omega) (by omega) h3 (ix3 y0 y1 0)
  · refine Eq.trans ?_ (congrArg (fun x : ℝ => ((before m c t).2.2.1 (ix3 y0 y1 0) : EReal) + (x : EReal))
      (partG_of q k v g ct t (le_of_eq h2.symm) y0 _ (fun r s => diag_prob q k g t h2 y0 r s) y1))
    by_cases h3 : t.val % 8 = 7
    · exact dc_G m c t H h0 (by omega) h2 h3 y0 y1
    · exact dc_E m c t H h0 (by omega) h2 h3 y0 y1
  · exact (dc_F m c t H h0 h2 (by omega) (by omega) y0 y1).trans
      (congrArg (fun x : ℝ => ((before m c t).2.2.1 (ix3 y0 y1 0) : EReal) + (x : EReal)) (partG_of q k v g ct t (le_of_lt h2) y0 _ (fun r s => full_prob q k g t h2 y0 r s) y1))

/-- The gradient in the sums of log gates of the queries, as the kernel leaves it. -/
theorem final_dc : (dats m 0 c).arrAt 9 (cfgs 0).N = fun i => ((dgateq q k v g ct (i 0) (i 1) : ℝ) : EReal) := by
  refine (dats m 0 c).arrAt_eq_of_covers 9 _ (by decide +kernel) fun t hf y => ?_
  have ht : t.val % 8 = 8 - 1 := (flush0_9 t).mp hf
  have e : ((cfg0.win 9).blk t).view.emb y = ix3 (hd t (y 0)) (qrow t (y 1)) 0 := by
    idx_vars y
    obtain rfl : y2 = 0 := Subsingleton.elim _ _
    blk_ext [idx t, hd, qrow]
  rw [e]
  blk_simp
  rw [after0_9, Pipeline.eq_sum_fin_of_reset_step_apply_of_flush (fun n h => (outsAt0 m c n h).2.2.1) 8 (fun _ => 0)
    (fun p y => ((partG q k v g ct p (y 0) (y 1) : ℝ) : EReal)) (dc_reset m c q k v g ct hq hk hv hg hct) (dc_step m c q k v g ct hq hk hv hg hct) t ht y, zero_add]
  exact partG_run q k v g ct ht (y 0) (y 1)

end Cert.FoxQProof

end
-- ==== Proof.FoxQClaim.lean ====
/- The attention's gradient in queries: the kernel's arrays are the reference's. -/
module

public import proofs.«01_k».proof.Defs
public import Idealize.ShloMosaic.Lib.Claim
public import Idealize.ShloMosaic.PureOps.IdealRules
public import proofs.«01_k».proof.Proof.FoxQFinal
public import proofs.«01_k».proof.Proof.FoxKvClaim
public import proofs.«01_k».proof.Proof.Gen.FoxQRefIdeal.Run

@[expose] public section

set_option maxRecDepth 16384

noncomputable section

namespace Cert.FoxQProof

open Cert.Reals Cert.Fox Idealize.ShloMosaic Idealize.ShloMosaic.TcCoe Idealize.SL.Sem
open Cert.FoxKvProof (reals)
open scoped BigOperators

/-- Reading the kernel over the reals gives two of its constants their names. -/
theorem preserves : Cert.preserves_FoxQ_FoxQIdeal :=
  ⟨IdealRules.named_const.statement Cert.FoxQIdeal.κ "scale_log2_e" .f32 0x3E0293EE#32 (((11863283 / 134217728) * (Real.log 2)⁻¹ : ℝ) : EReal) rfl,
    IdealRules.named_const.statement Cert.FoxQIdeal.κ "mask" .f32 0xF149F2CA#32 ⊥ rfl⟩

/-- The kernel leaves the attention's gradient in its queries, the row sums of its result against the cotangent, and the gradient in
    the queries' sums of log gates. -/
theorem algebraic [Cert.Pre_finite_fox_kv.Facts] : Cert.algebraic_FoxQIdeal_FoxQRefIdeal_pre_finite_fox_kv := by
  pair_intro
  · run_from Cert.FoxQIdeal.Value.run_blocks m g
  · obtain ⟨h0, h1, h2, h3, h4⟩ := reals _ _ _ _ _ (hpre (0 : Dev _))
    choose q hq using h0
    choose k hk using h1
    choose v hv using h2
    choose l hl using h3
    choose o ho using h4
    run_from Cert.FoxQRefIdeal.Value.run m' g'
    all_goals
      obtain rfl : c = 0 := Subsingleton.elim _ _
      obtain ⟨a0, a1, a2, a3, a4⟩ := hagree 0
      have kq := fun r j => hq (ix2 r j)
      have kk := fun r j => hk (ix2 r j)
      have kv := fun r j => hv (ix2 r j)
      have kl := fun h r => hl (ix2 h r)
      have ko := fun r j => ho (ix2 r j)
      have rq := fun r j => (congrFun a0 (ix2 r j)).trans (kq r j)
      have rk := fun r j => (congrFun a1 (ix2 r j)).trans (kk r j)
      have rv := fun r j => (congrFun a2 (ix2 r j)).trans (kv r j)
      have rl := fun h r => (congrFun a3 (ix2 h r)).trans (kl h r)
      have ro := fun r j => (congrFun a4 (ix2 r j)).trans (ko r j)
    · rw [final_dq m 0 _ _ _ _ _ kq kk kv kl ko]
      funext j
      idx_vars j
      exact ref_dq m' 0 _ _ _ _ _ rq rk rv rl ro j0 j1
    · rw [final_delta m 0 _ _ _ _ _ kq kk kv kl ko]
      funext j
      idx_vars j
      obtain rfl : j2 = 0 := Subsingleton.elim _ _
      exact ref_delta m' 0 _ _ _ _ _ rq rk rv rl ro j0 j1
    · rw [final_dc m 0 _ _ _ _ _ kq kk kv kl ko]
      funext j
      idx_vars j
      obtain rfl : j2 = 0 := Subsingleton.elim _ _
      exact ref_dc m' 0 _ _ _ _ _ rq rk rv rl ro j0 j1

end Cert.FoxQProof

end
-- ==== Proof.Norm.lean ====
/- The gradients of a normalisation whose argument also goes on unchanged: the arrays that the kernel leaves, as real
   numbers. -/
module

public import proofs.«01_k».proof.Proof.FfnPay
public import proofs.«01_k».proof.Proof.Gen.NormIdeal.Value
public import Idealize.ShloMosaic.Lib.StableHlo.ReadAt

@[expose] public section

set_option maxRecDepth 16384

noncomputable section

namespace Cert.NormIdeal.Value

open Cert.NormIdeal Cert.NormIdeal.Gen Cert.Reals Idealize.ShloMosaic Idealize.ShloMosaic.TcCoe Idealize.SL.Sem
open Cert.FfnIdeal.Value (dnrm)
open scoped BigOperators

section Block

variable (X Y O : FVec Ideal S512x1024 .f32) (G : FVec Ideal S1x1024 .f32) (x y o : Fin 512 → Fin 1024 → ℝ) (g : Fin 1024 → ℝ)
  (hX : ∀ r k, X (ix2 r k) = (x r k : EReal)) (hY : ∀ r k, Y (ix2 r k) = (y r k : EReal))
include hX hY

/-- What a block of rows adds to the gain's gradient. -/
theorem pay_dgain (E : FVec Ideal S1x1024 .f32) (k : Fin 1024) :
    k0_pay2 (F := Ideal) (k0_pay5 X Y) E (ix2 0 k) = E (ix2 0 k) + ((∑ r, x r k * rinv (x r) * y r k : ℝ) : EReal) := by
  pointwise [k0_pay2, k0_pay5, k0_pay4, k0_pay3]
  simp only [hX, hY, ofBits_1024, ofBits_eps, ← EReal.coe_mul, ← EReal.coe_add, sum_coe,
    div_coe (show (1024 : ℝ) ≠ 0 by norm_num), rsqrt_coe (mean_sq_pos _)]
  rfl

/-- The gradient of a block of rows. -/
theorem pay_dh (hG : ∀ k, G (ix2 0 k) = (g k : EReal)) (hO : ∀ r k, O (ix2 r k) = (o r k : EReal)) (r : Fin 512) (k : Fin 1024) :
    k0_pay6 (F := Ideal) X G Y O (ix2 r k) = (dnrm (x r) g (y r) (o r) k : EReal) := by
  pointwise [k0_pay6, k0_pay4, k0_pay3]
  simp only [hX, hG, hY, hO, ofBits_1024, ofBits_eps, ofBits_neg_half, ← EReal.coe_mul, ← EReal.coe_add, sum_coe,
    div_coe (show (1024 : ℝ) ≠ 0 by norm_num), rsqrt_coe (mean_sq_pos _), div_coe (mean_sq_pos _).ne']
  refine congrArg Real.toEReal ?_
  rw [Fin.sum_univ_one, inv_sqrt_div (mean_sq_pos _)]
  simp only [dnrm, rinv]
  ring

end Block

/-- The block of each window at each grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- Row `r` of the block at grid point `p`, as a row of the array. -/
def row (p : Fin cfg0.N) (r : Fin 512) : Fin 8192 :=
  ⟨p.val * 512 + r.val, by have := lt_of_lt_of_eq p.isLt (show cfg0.N = 16 from N_0); omega⟩

variable (m : (ℓ : Loc nD τ sig) → Buf (Elt Ideal) ℓ) (c : Dev nD)
  (x y o : Fin 8192 → Fin 1024 → ℝ) (g : Fin 1024 → ℝ)
  (hx : ∀ r k, (m ((c : Thread nD τ).loc main_arg0) : FVec Ideal S8192x1024 .f32) (ix2 r k) = (x r k : EReal))
  (hg : ∀ k, (m ((c : Thread nD τ).loc main_arg1) : FVec Ideal S1024 .f32) (ix1 k) = (g k : EReal))
  (ho : ∀ r k, (m ((c : Thread nD τ).loc main_arg2) : FVec Ideal S8192x1024 .f32) (ix2 r k) = (o r k : EReal))
  (hy : ∀ r k, (m ((c : Thread nD τ).loc main_arg3) : FVec Ideal S8192x1024 .f32) (ix2 r k) = (y r k : EReal))

include hx in
theorem blk_x (p : Fin cfg0.N) (r : Fin 512) (k : Fin 1024) :
    (iblk m c 0 p : FVec Ideal S512x1024 .f32) (ix2 r k) = (x (row p r) k : EReal) := by
  rw [← hx]; blk_ext [iblk, V, idx p, row]

include hg in
theorem blk_g (p : Fin cfg0.N) (k : Fin 1024) : (iblk m c 1 p : FVec Ideal S1x1024 .f32) (ix2 0 k) = (g k : EReal) := by
  rw [← hg]; blk_simp [iblk, idx p]; entry_read; pointwise; blk_ext [idx p]

include hy in
theorem blk_y (p : Fin cfg0.N) (r : Fin 512) (k : Fin 1024) :
    (iblk m c 2 p : FVec Ideal S512x1024 .f32) (ix2 r k) = (y (row p r) k : EReal) := by
  rw [← hy]; blk_ext [iblk, V, idx p, row]

include ho in
theorem blk_o (p : Fin cfg0.N) (r : Fin 512) (k : Fin 1024) :
    (iblk m c 3 p : FVec Ideal S512x1024 .f32) (ix2 r k) = (o (row p r) k : EReal) := by
  rw [← ho]; blk_ext [iblk, V, idx p, row]

include hx hy

include hg ho in
/-- The gradient of the rows, as the kernel leaves it. -/
theorem final_4 : (dats m 0 c).arrAt 4 cfg0.N = fun i => ((dnrm (x (i 0)) g (y (i 0)) (o (i 0)) (i 1) : ℝ) : EReal) := by
  refine (dats m 0 c).arrAt_eq_of_covers 4 _ (by decide +kernel) fun p hf z => ?_
  have e : ((cfg0.win 4).blk p).view.emb z = ix2 (row p (z 0)) (z 1) := by blk_ext [idx p, row]
  have h2 := pay_dh _ _ _ _ _ _ _ _ (blk_x m c x hx p) (blk_y m c y hy p) (blk_g m c g hg p) (blk_o m c o ho p) (z 0) (z 1)
  rw [e]
  refine Eq.trans ?_ h2
  blk_simp; rw [after0_4]
  by_cases h : p.val % 16 = 0
  · rw [outsAt0_A m c p h]; dsimp only; frame_out
    exact congrArg _ (eq_ix2 z)
  · rw [outsAt0_B m c p h]; dsimp only; frame_out
    exact congrArg _ (eq_ix2 z)

/-- The gradient of the gain, as the kernel leaves it: its blocks' sums, added up. -/
theorem final_5 : (dats m 0 c).arrAt 5 cfg0.N = fun i => ((∑ r, x r (i 1) * rinv (x r) * y r (i 1) : ℝ) : EReal) := by
  refine (dats m 0 c).arrAt_eq_of_after_last 5 t0_15 (by decide +kernel) _ fun j => ?_
  have h2 := fun (p : Fin cfg0.N) => pay_dgain _ _ _ _ (blk_x m c x hx p) (blk_y m c y hy p)
  blk_simp
  rw [after0_5, Pipeline.eq_sum_fin_of_reset_step_apply_last (fun n h => (outsAt0 m c n h).2) 16 (fun _ => 0)
    (fun p j => ((∑ r, x (row p r) (j 1) * rinv (x (row p r)) * y (row p r) (j 1) : ℝ) : EReal))
    (fun p h j => by
      rw [outsAt0_A m c p h]; dsimp only; frame_out
      idx_vars j
      obtain rfl : j0 = 0 := Subsingleton.elim _ _
      refine (h2 p _ j1).trans (congrArg (· + _) ?_)
      pointwise [k0_pay1])
    (fun p h j => by
      rw [outsAt0_B m c p h]; dsimp only; frame_out
      idx_vars j
      obtain rfl : j0 = 0 := Subsingleton.elim _ _
      exact h2 p _ j1)
    (le_of_eq N_0) t0_15 rfl j, zero_add]
  exact sum_tiles rfl row (fun _ _ => rfl) fun r => x r (j 1) * rinv (x r) * y r (j 1)

end Cert.NormIdeal.Value

end
-- ==== Proof.NormClaim.lean ====
/- The gradients of a normalisation whose argument also goes on unchanged: the kernel and the reference leave the same
   arrays. -/
module

public import proofs.«01_k».proof.Defs
public import proofs.«01_k».proof.Proof.Norm
public import proofs.«01_k».proof.Proof.Gen.NormRefIdeal.Run
public import Idealize.ShloMosaic.Lib.Claim

@[expose] public section

set_option maxRecDepth 16384

noncomputable section

namespace Cert.NormProof

open Cert.Reals Idealize.ShloMosaic Idealize.ShloMosaic.TcCoe Idealize.SL.Sem
open Cert.FfnIdeal.Value (dnrm)
open Cert.NormIdeal.Value (final_4 final_5)
open scoped BigOperators

/-- The precondition says that every entry of the four arguments is a real number. -/
theorem reals [Cert.Pre_finite_norm.Facts] (h : FVec Ideal ⟨2, ![8192, 1024]⟩ .f32) (g : FVec Ideal ⟨1, ![1024]⟩ .f32)
    (o y : FVec Ideal ⟨2, ![8192, 1024]⟩ .f32) (hf : Cert.Pre_finite_norm.fn (F := Ideal) h g o y = fun _ => 1#1) :
    (∀ i, ∃ a : ℝ, h i = a) ∧ (∀ i, ∃ a : ℝ, g i = a) ∧ (∀ i, ∃ a : ℝ, o i = a) ∧ ∀ i, ∃ a : ℝ, y i = a := by
  have e := congrFun hf ix0
  unfold Cert.Pre_finite_norm.fn Cert.Pre_finite_norm.fn_part1 at e
  dsimp only at e
  simp only [andi, IntOp.andi_eq_one] at e
  exact ⟨reals_of_all h _ _ _ _ e.1.1.1, reals_of_all g _ _ _ _ e.1.1.2, reals_of_all o _ _ _ _ e.1.2, reals_of_all y _ _ _ _ e.2⟩

/-- The kernel leaves the gradients of the rows and of the gain. -/
theorem algebraic [Cert.Pre_finite_norm.Facts] : Cert.algebraic_NormIdeal_NormRefIdeal_pre_finite_norm := by
  pair_intro
  · run_from Cert.NormIdeal.Value.run_blocks m g
  · obtain ⟨h0, h1, h2, h3⟩ := reals _ _ _ _ (hpre (0 : Dev _))
    choose x hx using h0
    choose w hw using h1
    choose o ho using h2
    choose y hy using h3
    run_from Cert.NormRefIdeal.Value.run m' g'
    all_goals
      obtain rfl : c = 0 := Subsingleton.elim _ _
      obtain ⟨a0, a1, a2, a3⟩ := hagree 0
      first
        | rw [final_4 m 0 _ _ _ _ (fun r k => hx (ix2 r k)) (fun k => hw (ix1 k)) (fun r k => ho (ix2 r k)) fun r k => hy (ix2 r k)]
        | rw [final_5 m 0 _ _ (fun r k => hx (ix2 r k)) fun r k => hy (ix2 r k)]
      funext j
      idx_vars j
      pointwise
      simp only [a0, a1, a2, a3, hx, ho, hy, hw, ofBits_1024, ofBits_eps, ofBits_neg_half, zero_add,
        ← EReal.coe_mul, ← EReal.coe_add, sum_coe, div_coe (show (1024 : ℝ) ≠ 0 by norm_num),
        rsqrt_coe (mean_sq_pos _), div_coe (mean_sq_pos _).ne']
      refine congrArg Real.toEReal ?_
    · rw [Fin.sum_univ_one, inv_sqrt_div (mean_sq_pos _)]
      simp only [dnrm, rinv]
      ring
    · rw [Fin.sum_univ_one]
      rfl

end Cert.NormProof

end
-- ==== Proof.KvPost.lean ====
/- The gradients of the shared keys, values and log forget gates: the arrays that the kernel leaves. -/
module

public import proofs.«01_k».proof.Proof.Reals
public import proofs.«01_k».proof.Proof.Gen.KvPostIdeal.Value
public import Idealize.ShloMosaic.Lib.StableHlo.ReadAt

@[expose] public section

set_option maxRecDepth 16384

noncomputable section

namespace Cert.KvPostIdeal.Value

open Cert.KvPostIdeal Cert.KvPostIdeal.Gen Cert.Reals Idealize.ShloMosaic Idealize.ShloMosaic.TcCoe Idealize.SL.Sem
open scoped BigOperators

/-- The absolute value of a real number. -/
theorem abs_coe (x : ℝ) : FloatOps.absf (F := Ideal) (φ := .f32) (x : EReal) = ((|x| : ℝ) : EReal) := by
  show max (x : EReal) (-(x : EReal)) = _
  rw [← EReal.coe_neg, ← EReal.coe_strictMono.monotone.map_max]
  rfl

/-- The comparison that keeps the first six lanes. -/
theorem first_six : ∀ k : Fin 128, IntOp.cmpi .slt (BitVec.ofNat 32 k.val) 6#32 = if k.val < 6 then 1#1 else 0#1 := by decide +kernel

/-- The gradient of the log forget gate, as the kernel takes it: the derivative of the softplus as the sum of the
    derivatives of its maximum and of its logarithm. -/
theorem gate_eq (a d : ℝ) (h : a ≠ 0 ∨ d = 0) :
    -(((if 0 ≤ -a then -(-d / (Real.exp (-|-a|) + 1) * Real.exp (-|-a|)) else 0)
        + -if 0 ≤ -a then 0 else -(-d / (Real.exp (-|-a|) + 1) * Real.exp (-|-a|)))
      + -d * if 0 < -a then 1 else if -a = 0 then 1 / 2 else 0) = d / (1 + Real.exp a) := by
  have e1 : 1 + Real.exp a ≠ 0 := (add_pos one_pos (Real.exp_pos _)).ne'
  rcases lt_trichotomy a 0 with ha | rfl | ha
  · rw [if_pos (by linarith), if_pos (by linarith), if_pos (by linarith), abs_neg, abs_of_neg ha, neg_neg]
    field_simp
    ring
  · obtain rfl : d = 0 := h.resolve_left (fun h => h rfl)
    simp
  · rw [if_neg (by linarith), if_neg (by linarith), if_neg (by linarith), if_neg (by linarith), abs_neg, abs_of_pos ha, Real.exp_neg]
    have e2 := Real.exp_pos a
    field_simp
    ring

section Block

variable (P D : FVec Ideal S512x128 .f32) (B : FVec Ideal S1x128 .f32) (p d : Fin 512 → Fin 128 → ℝ) (b : Fin 128 → ℝ)
  (hP : ∀ r k, P (ix2 r k) = (p r k : EReal)) (hD : ∀ r k, D (ix2 r k) = (d r k : EReal)) (hB : ∀ k, B (ix2 0 k) = (b k : EReal))
  (h0 : ∀ r k, p r k + b k ≠ 0 ∨ d r k = 0) (hk : ∀ r k, ¬k.val < 6 → d r k = 0)
include hP hD hB h0 hk

theorem pay_gate (r : Fin 512) (k : Fin 128) :
    k0_pay1 (F := Ideal) (k0_pay9 D) k0_pay10 (k0_pay12 P B) (k0_pay13 (F := Ideal) P B) (k0_pay14 P B) k0_pay15 (ix2 r k)
      = ((d r k / (1 + Real.exp (p r k + b k)) : ℝ) : EReal) := by
  have hs : Scalar.select (IntOp.cmpi .slt (BitVec.ofNat 32 k.val) 6#32) ((d r k : ℝ) : EReal) 0 = ((d r k : ℝ) : EReal) := by
    rw [first_six]
    by_cases h : k.val < 6
    · rw [if_pos h]; rfl
    · rw [if_neg h, hk r k h]; rfl
  have e1 : Real.exp (-|-(p r k + b k)|) + 1 ≠ 0 := (add_pos (Real.exp_pos _) one_pos).ne'
  pointwise [k0_pay1, k0_pay9, k0_pay10, k0_pay12, k0_pay13, k0_pay14, k0_pay11, k0_pay15]
  simp only [hP, hD, hB, ofBits_one, ofBits_half, zero_sub, ← EReal.coe_mul, ← EReal.coe_add, ← EReal.coe_neg, hs, abs_coe, Ideal.exp_coe,
    ← EReal.coe_one, div_coe e1]
  rw [← gate_eq _ _ (h0 r k)]
  simp only [EReal.coe_neg, EReal.coe_add, EReal.coe_mul, apply_ite Real.toEReal, EReal.coe_zero]
  simp only [← EReal.coe_zero, ← EReal.coe_neg, ← EReal.coe_add, ← EReal.coe_mul, EReal.coe_le_coe_iff, EReal.coe_lt_coe_iff, EReal.coe_eq_coe_iff]

/-- What a block of rows adds to the bias's gradient. -/
theorem pay_bias (E : FVec Ideal S1x128 .f32) (k : Fin 128) :
    k0_pay6 (F := Ideal) (k0_pay9 D) k0_pay10 (k0_pay12 P B) (k0_pay13 (F := Ideal) P B) (k0_pay14 P B) k0_pay15 E (ix2 0 k)
      = E (ix2 0 k) + ((∑ r, d r k / (1 + Real.exp (p r k + b k)) : ℝ) : EReal) := by
  pointwise [k0_pay6]
  simp only [pay_gate P D B p d b hP hD hB h0 hk, sum_coe]

end Block

/-- A row of six numbers beside 122 zeros. -/
def lanes (x : Fin 6 → ℝ) (k : Fin 128) : ℝ := if h : k.val < 6 then x ⟨k.val, h⟩ else 0

theorem pad_zero : (FloatOps.sitofp FTy.f32 0#32 : Ideal .f32) = ((0 : ℝ) : EReal) := by simp [FloatOps.sitofp]

/-- The log forget gate's cotangent through its derivative. -/
def gate (p d : Fin 6 → ℝ) (b : Fin 6 → ℝ) (k : Fin 128) : ℝ := lanes d k / (1 + Real.exp (lanes p k + lanes b k))

/-- The block of each window at each grid point. -/
theorem idx : ∀ t : Fin cfg0.N, win0_2.index t = ![t.val, 12] ∧ win0_3.index t = ![0, 0] ∧ win0_4.index t = ![t.val, 0]
    ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![0, 0] :=
  (by decide +kernel : ∀ t : Fin grid0.N, _)

/-- Row `r` of the block at grid point `p`, as a row of the array. -/
def row (p : Fin cfg0.N) (r : Fin 512) : Fin 8192 :=
  ⟨p.val * 512 + r.val, by have := lt_of_lt_of_eq p.isLt (show cfg0.N = 16 from N_0); omega⟩

/-- Gate `j`'s column of the projection. -/
def col (j : Fin 6) : Fin 1542 := ⟨1536 + j.val, by omega⟩

variable (m : (ℓ : Loc nD τ sig) → Buf (Elt Ideal) ℓ) (c : Dev nD)

section Sums

/-- The keys' gradient: the two layers' cotangents, added. -/
theorem final_9 : (dats m 0 c).arrAt 9 cfg0.N = (addf (m ((c : Thread nD τ).loc main_arg2)) (m ((c : Thread nD τ).loc main_arg3)) : FVec Ideal S8192x768 .f32) := by
  refine (dats m 0 c).arrAt_eq_of_covers 9 _ (by decide +kernel) fun p hf z => ?_
  have e : ((cfg0.win 9).blk p).view.emb z = ix2 (row p (z 0)) (z 1) := by blk_ext [idx p, row]
  have h4 : (iblk m c 4 p : FVec Ideal S512x768 .f32) z = (m ((c : Thread nD τ).loc main_arg2) : FVec Ideal S8192x768 .f32) (ix2 (row p (z 0)) (z 1)) := by
    blk_ext [iblk, V, idx p, row]
  have h5 : (iblk m c 5 p : FVec Ideal S512x768 .f32) z = (m ((c : Thread nD τ).loc main_arg3) : FVec Ideal S8192x768 .f32) (ix2 (row p (z 0)) (z 1)) := by
    blk_ext [iblk, V, idx p, row]
  rw [e]
  refine Eq.trans ?_ (congrArg₂ (fun u v : EReal => u + v) h4 h5)
  blk_simp; rw [after0_9]
  by_cases h : p.val % 16 = 0
  · rw [outsAt0_A m c p h]; dsimp only; frame_out; pointwise [k0_pay2, k0_pay7]
  · rw [outsAt0_B m c p h]; dsimp only; frame_out; pointwise [k0_pay2, k0_pay7]

/-- The values' gradient. -/
theorem final_10 : (dats m 0 c).arrAt 10 cfg0.N = (addf (m ((c : Thread nD τ).loc main_arg4)) (m ((c : Thread nD τ).loc main_arg5)) : FVec Ideal S8192x768 .f32) := by
  refine (dats m 0 c).arrAt_eq_of_covers 10 _ (by decide +kernel) fun p hf z => ?_
  have e : ((cfg0.win 10).blk p).view.emb z = ix2 (row p (z 0)) (z 1) := by blk_ext [idx p, row]
  have h6 : (iblk m c 6 p : FVec Ideal S512x768 .f32) z = (m ((c : Thread nD τ).loc main_arg4) : FVec Ideal S8192x768 .f32) (ix2 (row p (z 0)) (z 1)) := by
    blk_ext [iblk, V, idx p, row]
  have h7 : (iblk m c 7 p : FVec Ideal S512x768 .f32) z = (m ((c : Thread nD τ).loc main_arg5) : FVec Ideal S8192x768 .f32) (ix2 (row p (z 0)) (z 1)) := by
    blk_ext [iblk, V, idx p, row]
  rw [e]
  refine Eq.trans ?_ (congrArg₂ (fun u v : EReal => u + v) h6 h7)
  blk_simp; rw [after0_10]
  by_cases h : p.val % 16 = 0
  · rw [outsAt0_A m c p h]; dsimp only; frame_out; pointwise [k0_pay3, k0_pay8]
  · rw [outsAt0_B m c p h]; dsimp only; frame_out; pointwise [k0_pay3, k0_pay8]

end Sums

variable (x : Fin 8192 → Fin 6 → ℝ) (d : Fin 8192 → Fin 6 → ℝ) (b : Fin 6 → ℝ)
  (hx : ∀ r j, (m ((c : Thread nD τ).loc main_arg0) : FVec Ideal S8192x1542 .f32) (ix2 r (col j)) = (x r j : EReal))
  (hb : ∀ j, (m ((c : Thread nD τ).loc main_arg1) : FVec Ideal S6 .f32) (ix1 j) = (b j : EReal))
  (hd : ∀ r j, (m ((c : Thread nD τ).loc main_arg6) : FVec Ideal S8192x6 .f32) (ix2 r j) = (d r j : EReal))
  (h0 : ∀ r j, x r j + b j ≠ 0)

include hx in
theorem blk_x (p : Fin cfg0.N) (r : Fin 512) (k : Fin 128) :
    (iblk m c 2 p : FVec Ideal S512x128 .f32) (ix2 r k) = (lanes (x (row p r)) k : EReal) := by
  have e : ((View.whole main_v0).slice (win0_2.rect p)).emb (ix2 r k) = ix2 (row p r) (⟨1536 + k.val, by omega⟩ : Fin 1664) := by
    blk_ext [idx p, row]
  blk_simp [iblk]; rw [e]
  unfold V
  after_reads_at
  unfold lanes
  by_cases hk : k.val < 6
  · rw [dif_pos hk, dif_pos (show 1536 + k.val < 1542 by omega)]; exact hx _ ⟨k.val, hk⟩
  · rw [dif_neg hk, dif_neg (show ¬1536 + k.val < 1542 by omega)]; exact pad_zero

include hb in
theorem blk_b (p : Fin cfg0.N) (k : Fin 128) : (iblk m c 3 p : FVec Ideal S1x128 .f32) (ix2 0 k) = (lanes b k : EReal) := by
  have e : ((View.whole main_v2).slice (win0_3.rect p)).emb (ix2 0 k) = ix2 0 k := by blk_ext [idx p]
  blk_simp [iblk]; rw [e]
  unfold V
  after_reads_at
  unfold lanes
  split
  · exact hb _
  · exact pad_zero

include hd in
theorem blk_d (p : Fin cfg0.N) (r : Fin 512) (k : Fin 128) :
    (iblk m c 8 p : FVec Ideal S512x128 .f32) (ix2 r k) = (lanes (d (row p r)) k : EReal) := by
  have e : ((View.whole main_v3).slice (win0_8.rect p)).emb (ix2 r k) = ix2 (row p r) k := by blk_ext [idx p, row]
  blk_simp [iblk]; rw [e]
  unfold V
  after_reads_at
  unfold lanes
  split
  · exact hd _ _
  · exact pad_zero

theorem off_zero (h0 : ∀ r j, x r j + b j ≠ 0) (r : Fin 8192) (k : Fin 128) : lanes (x r) k + lanes b k ≠ 0 ∨ lanes (d r) k = 0 := by
  unfold lanes
  by_cases hk : k.val < 6
  · simp only [dif_pos hk]; exact .inl (h0 r _)
  · exact .inr (dif_neg hk)

include hx hb hd h0

/-- The gradient of the gates' columns, as the kernel leaves it. -/
theorem final_11 : (dats m 0 c).arrAt 11 cfg0.N = fun i => ((gate (x (i 0)) (d (i 0)) b (i 1) : ℝ) : EReal) := by
  refine (dats m 0 c).arrAt_eq_of_covers 11 _ (by decide +kernel) fun p hf z => ?_
  have e : ((cfg0.win 11).blk p).view.emb z = ix2 (row p (z 0)) (z 1) := by blk_ext [idx p, row]
  have h2 := pay_gate _ _ _ _ _ _ (blk_x m c x hx p) (blk_d m c d hd p) (blk_b m c b hb p) (fun r k => off_zero x d b h0 (row p r) k)
    (fun r k h => dif_neg h) (z 0) (z 1)
  rw [e]
  refine Eq.trans ?_ h2
  blk_simp; rw [after0_11]
  by_cases h : p.val % 16 = 0
  · rw [outsAt0_A m c p h]; dsimp only; frame_out; pointwise [k0_pay4]
  · rw [outsAt0_B m c p h]; dsimp only; frame_out; pointwise [k0_pay4]

/-- The gradient of the bias, as the kernel leaves it: its blocks' sums, added up. -/
theorem final_12 : (dats m 0 c).arrAt 12 cfg0.N = fun i => ((∑ r, gate (x r) (d r) b (i 1) : ℝ) : EReal) := by
  refine (dats m 0 c).arrAt_eq_of_after_last 12 t0_15 (by decide +kernel) _ fun j => ?_
  have h2 := fun (p : Fin cfg0.N) => pay_bias _ _ _ _ _ _ (blk_x m c x hx p) (blk_d m c d hd p) (blk_b m c b hb p)
    (fun r k => off_zero x d b h0 (row p r) k) (fun r k h => dif_neg h)
  blk_simp
  rw [after0_12, Pipeline.eq_sum_fin_of_reset_step_apply_last (fun n h => (outsAt0 m c n h).2.2.2) 16 (fun _ => 0)
    (fun p j => ((∑ r, gate (x (row p r)) (d (row p r)) b (j 1) : ℝ) : EReal))
    (fun p h j => by
      rw [outsAt0_A m c p h]; dsimp only; frame_out
      idx_vars j
      obtain rfl : j0 = 0 := Subsingleton.elim _ _
      refine (h2 p _ j1).trans (congrArg (· + _) ?_)
      pointwise [k0_pay5])
    (fun p h j => by
      rw [outsAt0_B m c p h]; dsimp only; frame_out
      idx_vars j
      obtain rfl : j0 = 0 := Subsingleton.elim _ _
      exact h2 p _ j1)
    (le_of_eq N_0) t0_15 rfl j, zero_add]
  exact sum_tiles rfl row (fun _ _ => rfl) fun r => gate (x r) (d r) b (j 1)

end Cert.KvPostIdeal.Value

end
-- ==== Proof.KvPostClaim.lean ====
/- The gradients of the keys, the values and the forget gates of the attention: the kernel and the reference leave the same
   arrays, where no gate's argument is zero. -/
module

public import proofs.«01_k».proof.Defs
public import proofs.«01_k».proof.Proof.KvPost
public import proofs.«01_k».proof.Proof.Gen.KvPostRefIdeal.Run
public import Idealize.ShloMosaic.Lib.Claim

@[expose] public section

set_option maxRecDepth 16384

noncomputable section

namespace Cert.KvPostProof

open Cert.Reals Idealize.ShloMosaic Idealize.ShloMosaic.TcCoe Idealize.SL.Sem
open Cert.KvPostIdeal.Value (final_9 final_10 final_11 final_12 lanes gate col pad_zero abs_coe)
open Cert.KvPostRefIdeal.Value (res_main_v19 res_main_v21 res_main_v24 res_main_v26)
open scoped BigOperators

/-- An entry of the comparison that the precondition takes over the gates' arguments. -/
theorem ne_of_une {u v : EReal} (h : FloatOps.cmpf (F := Ideal) (φ := .f32) .une u v = 1#1) : u ≠ v := by
  intro e
  subst e
  exact absurd h (by simp [FloatOps.cmpf, Ideal.cmp])

/-- The precondition says that the projection, the bias and the cotangent of the log forget gates are real numbers, and that no
    gate's argument is zero. -/
theorem reals [Cert.Pre_regular_kv_post.Facts] (p : FVec Ideal ⟨2, ![8192, 1542]⟩ .f32) (b : FVec Ideal ⟨1, ![6]⟩ .f32)
    (k0 k1 v0 v1 : FVec Ideal ⟨2, ![8192, 768]⟩ .f32) (d : FVec Ideal ⟨2, ![8192, 6]⟩ .f32)
    (hf : Cert.Pre_regular_kv_post.fn (F := Ideal) p b k0 k1 v0 v1 d = fun _ => 1#1) :
    (∀ i, ∃ a : ℝ, p i = a) ∧ (∀ i, ∃ a : ℝ, b i = a) ∧ (∀ i, ∃ a : ℝ, d i = a) ∧
      ∀ r (j : Fin 6), (p (ix2 r (col j)) : EReal) + b (ix1 j) ≠ 0 := by
  have e := congrFun hf ix0
  unfold Cert.Pre_regular_kv_post.fn Cert.Pre_regular_kv_post.fn_part1 at e
  dsimp only at e
  simp only [andi, IntOp.andi_eq_one] at e
  refine ⟨reals_of_all p _ _ _ _ e.1.1.1, reals_of_all b _ _ _ _ e.1.1.2, reals_of_all d _ _ _ _ e.1.2, fun r j => ?_⟩
  refine fun hz => ne_of_une (Host.reduce_andi_all _ _ _ _ ix0 e.2 (ix2 r j)) ?_
  pointwise
  exact hz

/-- The derivative of the logarithm of the logistic function, as the reference takes it, is the logistic function of the opposite. -/
theorem exp_sub_softplus (y : ℝ) : Real.exp (y - (max y 0 + Real.log (1 + Real.exp (-|y|)))) = 1 / (1 + Real.exp (-y)) := by
  have h1 := Real.exp_pos (-|y|)
  rw [Real.exp_sub, Real.exp_add, Real.exp_log (by linarith)]
  rcases le_total 0 y with h | h
  · rw [max_eq_left h, abs_of_nonneg h, div_mul_eq_div_div, div_self (Real.exp_pos y).ne']
  · rw [max_eq_right h, abs_of_nonpos h, Real.exp_zero, one_mul, neg_neg, Real.exp_neg]
    have := Real.exp_pos y
    field_simp
    ring

theorem log1p_exp (t : ℝ) : Ideal.log1p ((Real.exp t : ℝ) : EReal) = ((Real.log (1 + Real.exp t) : ℝ) : EReal) := by
  have := Real.exp_pos t
  show Ideal.log (1 + ((Real.exp t : ℝ) : EReal)) = _
  rw [← EReal.coe_one, ← EReal.coe_add, Ideal.log_coe, if_neg (by linarith)]

theorem max_zero (y : ℝ) : max (y : EReal) 0 = ((max y 0 : ℝ) : EReal) := by
  rw [← EReal.coe_zero, EReal.coe_strictMono.monotone.map_max]

theorem ref_gate (d s : ℝ) : -(-d * Real.exp (-s - (max (-s) 0 + Real.log (1 + Real.exp (-|-s|))))) = d / (1 + Real.exp s) := by
  rw [exp_sub_softplus, neg_neg]
  ring

/-- Whether an entry of the projection's gradient lies in the `n` columns from `lo` on. -/
theorem pad_iff (r : Fin 8192) (k : Fin 1542) (lo n : ℕ) :
    (∀ a : Fin 2, ![0, lo] a ≤ (ix2 r k a).val ∧ ((ix2 r k a).val - ![0, lo] a) % (![0, 0] a + 1) = 0
      ∧ ((ix2 r k a).val - ![0, lo] a) / (![0, 0] a + 1) < ![8192, n] a) ↔ lo ≤ k.val ∧ k.val - lo < n := by
  rw [Fin.forall_fin_two]
  constructor
  · rintro ⟨-, h1, -, h3⟩
    exact ⟨h1, (Nat.div_one (k.val - lo)).symm.trans_lt h3⟩
  · rintro ⟨h1, h3⟩
    exact ⟨⟨Nat.zero_le _, Nat.mod_one _, (Nat.div_one (r.val - 0)).trans_lt r.isLt⟩, h1, Nat.mod_one _,
      (Nat.div_one (k.val - lo)).trans_lt h3⟩

theorem pads {a b c a' b' c' : EReal} (ha : a = a') (hb : b = b') (hc : c = c') : a + b + c = a' + b' + c' := by rw [ha, hb, hc]

set_option maxHeartbeats 2000000 in
/-- The kernel leaves the gradients of the keys, the values, the forget gates and the gates' bias. -/
theorem algebraic [Cert.Pre_regular_kv_post.Facts] : Cert.algebraic_KvPostIdeal_KvPostRefIdeal_pre_regular_kv_post := by
  pair_intro
  · run_from Cert.KvPostIdeal.Value.run_blocks m g
  · obtain ⟨e0, e1, e2, e3⟩ := reals _ _ _ _ _ _ _ (hpre (0 : Dev _))
    choose x hx using e0
    choose b hb using e1
    choose d hd using e2
    have h0 : ∀ r (j : Fin 6), x (ix2 r (col j)) + b (ix1 j) ≠ 0 := fun r j h => e3 r j (by rw [hx, hb, ← EReal.coe_add, h, EReal.coe_zero])
    run_from Cert.KvPostRefIdeal.Value.run m' g'
    all_goals
      obtain rfl : c = 0 := Subsingleton.elim _ _
      obtain ⟨a0, a1, a2, a3, a4, a5, a6⟩ := hagree 0
      first
        | rw [final_9 m 0]
        | rw [final_10 m 0]
        | rw [final_11 m 0 _ _ _ (fun r j => hx (ix2 r (col j))) (fun j => hb (ix1 j)) (fun r j => hd (ix2 r j)) h0]
        | rw [final_12 m 0 _ _ _ (fun r j => hx (ix2 r (col j))) (fun j => hb (ix1 j)) (fun r j => hd (ix2 r j)) h0]
      funext j
      idx_vars j
    · pointwise [res_main_v19]
      refine (pads (dif_neg fun h => absurd ((pad_iff j0 ⟨j1.val, by omega⟩ 1536 6).1 h).1 (by dsimp only; omega))
        (dif_neg fun h => absurd ((pad_iff j0 ⟨j1.val, by omega⟩ 768 768).1 h).1 (by dsimp only; omega))
        (dif_pos ((pad_iff j0 ⟨j1.val, by omega⟩ 0 768).2 ⟨Nat.zero_le _, by dsimp only; omega⟩))).trans ?_
      rw [zero_add, zero_add, a2, a3]
    · pointwise [res_main_v21]
      refine (pads (dif_neg fun h => absurd ((pad_iff j0 ⟨768 + j1.val, by omega⟩ 1536 6).1 h).1 (by dsimp only; omega))
        (dif_pos ((pad_iff j0 ⟨768 + j1.val, by omega⟩ 768 768).2 ⟨by dsimp only; omega, by dsimp only; omega⟩))
        (dif_neg fun h => absurd ((pad_iff j0 ⟨768 + j1.val, by omega⟩ 0 768).1 h).2 (by dsimp only; omega))).trans ?_
      rw [zero_add, add_zero, a4, a5]
    · pointwise [res_main_v24]
      simp only [a0, a1, a6, hx, hb, hd, ← EReal.coe_add, ← EReal.coe_neg, ofBits_inf, EReal.coe_ne_top, if_false, ne_eq, not_true,
        abs_coe, Ideal.exp_coe, log1p_exp, max_zero, ← EReal.coe_sub, ← EReal.coe_mul, ref_gate]
      unfold gate lanes
      by_cases hk : j1.val < 6
      · rw [dif_pos hk]
        refine (pads (dif_pos ((pad_iff j0 ⟨1536 + j1.val, by omega⟩ 1536 6).2 ⟨by dsimp only; omega, by dsimp only; omega⟩))
          (dif_neg fun h => absurd ((pad_iff j0 ⟨1536 + j1.val, by omega⟩ 768 768).1 h).2 (by dsimp only; omega))
          (dif_neg fun h => absurd ((pad_iff j0 ⟨1536 + j1.val, by omega⟩ 0 768).1 h).2 (by dsimp only; omega))).trans ?_
        rw [add_zero, add_zero]
        simp only [dif_pos hk]
        rfl
      · simp only [dif_neg hk, pad_zero, zero_div]
    · pointwise [res_main_v26]
      simp only [a0, a1, a6, hx, hb, hd, ← EReal.coe_add, ← EReal.coe_neg, ofBits_inf, EReal.coe_ne_top, if_false, ne_eq, not_true,
        abs_coe, Ideal.exp_coe, log1p_exp, max_zero, ← EReal.coe_sub, ← EReal.coe_mul, ref_gate, sum_coe, Fin.sum_univ_one]
      unfold gate lanes
      by_cases hk : j1.val < 6
      · simp only [dif_pos hk]
        rfl
      · simp only [dif_neg hk, pad_zero, zero_div, Finset.sum_const_zero]

end Cert.KvPostProof
-- ==== Proof.Memory.lean ====
/- The gradients of the memory attention: the arrays that the kernel leaves, as real numbers. -/
module

public import proofs.«01_k».proof.Proof.FfnPay
public import proofs.«01_k».proof.Proof.Gen.MemoryIdeal.Value
public import Idealize.ShloMosaic.Lib.StableHlo.ReadAt

@[expose] public section

set_option maxRecDepth 16384

noncomputable section

namespace Cert.MemoryIdeal.Value

open Cert.MemoryIdeal Cert.MemoryIdeal.Gen Cert.Reals Idealize.ShloMosaic Idealize.ShloMosaic.TcCoe Idealize.SL.Sem

open scoped BigOperators

/-! ## The softmax of a row -/

section Row

variable (l g : Fin 256 → ℝ)

/-- A row of real numbers has a real number as its greatest entry. -/
theorem exists_top : ∃ t : ℝ, Finset.fold max (⊥ : EReal) (fun s => (l s : EReal)) Finset.univ = (t : EReal) := by
  have h1 : Finset.fold max (⊥ : EReal) (fun s => (l s : EReal)) Finset.univ ≠ ⊤ :=
    ne_of_lt ((Finset.fold_max_lt _).mpr ⟨bot_lt_top, fun s _ => EReal.coe_lt_top _⟩)
  have h2 : Finset.fold max (⊥ : EReal) (fun s => (l s : EReal)) Finset.univ ≠ ⊥ :=
    ne_of_gt ((Finset.lt_fold_max _).mpr (.inr ⟨0, Finset.mem_univ _, EReal.bot_lt_coe _⟩))
  exact ⟨_, (EReal.coe_toReal h1 h2).symm⟩

/-- The greatest entry of a row. -/
def top : ℝ := (exists_top l).choose

theorem fold_top : Finset.fold max (⊥ : EReal) (fun s => (l s : EReal)) Finset.univ = (top l : EReal) := (exists_top l).choose_spec

/-- The greatest entry of a row is one of its entries. -/
theorem top_mem : ∃ s, l s = top l := by
  by_contra hn
  push Not at hn
  have hle : ∀ s, l s ≤ top l := fun s => by
    have : (l s : EReal) ≤ (top l : EReal) := by
      rw [← fold_top]; exact (Finset.le_fold_max _).mpr (.inr ⟨s, Finset.mem_univ _, le_rfl⟩)
    exact_mod_cast this
  have : (top l : EReal) < (top l : EReal) := by
    conv_lhs => rw [← fold_top]
    exact (Finset.fold_max_lt _).mpr ⟨EReal.bot_lt_coe _, fun s _ => by exact_mod_cast lt_of_le_of_ne (hle s) (hn s)⟩
  exact lt_irrefl _ this

/-- The exponential of an entry less the greatest. -/
def ex (s : Fin 256) : ℝ := Real.exp (l s - top l)

/-- The sum of the exponentials. -/
def zz : ℝ := ∑ s, ex l s

theorem zz_ne : zz l ≠ 0 := (Finset.sum_pos (fun s _ => Real.exp_pos _) ⟨0, Finset.mem_univ _⟩).ne'

/-- The weights of a row. -/
def sm (s : Fin 256) : ℝ := ex l s / zz l

/-- The gradient `g` of the weights, passed through the softmax and the scale. -/
def dlg (s : Fin 256) : ℝ := ((g s / zz l + -∑ t, g t * (1 / (zz l * zz l)) * ex l t) * ex l s) * (1 / 8)

/-- One where the row is at its greatest. -/
def ind (s : Fin 256) : ℝ := if l s = top l then 1 else 0

theorem ind_ne : ∑ s, ind l s ≠ 0 := by
  obtain ⟨s, hs⟩ := top_mem l
  refine (Finset.sum_pos' (fun t _ => ?_) ⟨s, Finset.mem_univ _, ?_⟩).ne'
  · unfold ind; split_ifs <;> norm_num
  · unfold ind; rw [if_pos hs]; norm_num

/-- The gradients of a row's logits add up to nothing. -/
theorem dlg_sum : ∑ s, (g s / zz l + -∑ t, g t * (1 / (zz l * zz l)) * ex l t) * ex l s = 0 := by
  have hz := zz_ne l
  have e : ∀ s, g s / zz l * ex l s = g s * (1 / (zz l * zz l)) * ex l s * zz l := fun s => by field_simp
  simp only [add_mul, neg_mul, Finset.sum_add_distrib, Finset.sum_neg_distrib, e, ← Finset.sum_mul, ← Finset.mul_sum]
  rw [show ∑ s, ex l s = zz l from rfl]
  ring

end Row

theorem ofBits_eighth : Ideal.ofBits .f32 0x3E000000#32 = ((1 / 8 : ℝ) : EReal) := by
  simp [Ideal.ofBits, Ideal.ieee, -EReal.coe_mul]; norm_num

theorem ofBits_low : Ideal.ofBits .f32 0xFF800000#32 = ⊥ := by
  simp [Ideal.ofBits, Ideal.ieee]

/-! ## Heads -/

/-- Lane `i` of head `h`, as a column of the four heads side by side. -/
def cl (h : Fin 4) (i : Fin 64) : Fin 256 := ⟨h.val * 64 + i.val, by omega⟩

/-- The head of a column. -/
def hd (j : Fin 256) : Fin 4 := ⟨j.val / 64, by omega⟩

/-- One on the columns of head `h`. -/
def mk (h : Fin 4) (j : Fin 256) : ℝ := if hd j = h then 1 else 0

/-- A sum under a head's mask is the sum over its lanes. -/
theorem sum_mask (h : Fin 4) (f g : Fin 256 → ℝ) : ∑ j, f j * mk h j * g j = ∑ i, f (cl h i) * g (cl h i) := by
  rw [Fin.sum_univ_tiles 4 64 rfl, Finset.sum_eq_single h]
  · refine Finset.sum_congr rfl fun i _ => ?_
    have e : hd (cl h i) = h := Fin.ext (by simp only [hd, cl]; omega)
    change f (cl h i) * mk h (cl h i) * g (cl h i) = _
    rw [mk, if_pos e, mul_one]
  · intro b _ hb
    refine Finset.sum_eq_zero fun i _ => ?_
    have e : hd (cl b i) = b := Fin.ext (by simp only [hd, cl]; omega)
    change f (cl b i) * mk h (cl b i) * g (cl b i) = _
    rw [mk, e, if_neg hb]; ring
  · exact fun hn => absurd (Finset.mem_univ _) hn

/-- A number per head, under the masks and added up, is the number of the column's head. -/
theorem sum_heads (f : Fin 4 → ℝ) (j : Fin 256) : ∑ h, f h * mk h j = f (hd j) := by
  simp only [mk, mul_ite, mul_one, mul_zero, Finset.sum_ite_eq, Finset.mem_univ, if_true]

/-- The logits of a query under head `h`. -/
def lgt (q : Fin 256 → ℝ) (k : Fin 256 → Fin 256 → ℝ) (h : Fin 4) (s : Fin 256) : ℝ := (∑ i, q (cl h i) * k s (cl h i)) * (1 / 8)

/-- The gradient of the weights under head `h`. -/
def dw (d : Fin 256 → ℝ) (v : Fin 256 → Fin 256 → ℝ) (h : Fin 4) (s : Fin 256) : ℝ := ∑ i, d (cl h i) * v s (cl h i)

/-- The gradient of the scaled products under head `h`. -/
def dl (q d : Fin 256 → ℝ) (k v : Fin 256 → Fin 256 → ℝ) (h : Fin 4) (s : Fin 256) : ℝ := dlg (lgt q k h) (dw d v h) s

/-! ## A block of rows -/

section Soft

variable (A : FVec Ideal S512x256 .f32) (a : Fin 512 → Fin 256 → ℝ) (hA : ∀ r s, A (ix2 r s) = (a r s : EReal))
include hA

theorem pay_l (r : Fin 512) (s : Fin 256) : k0_pay29 (F := Ideal) A (ix2 r s) = ((a r s * (1 / 8) : ℝ) : EReal) := by
  pointwise [k0_pay29]
  rw [hA, ofBits_eighth, ← EReal.coe_mul]

theorem pay_top (r : Fin 512) : k0_pay30 (F := Ideal) A (ix1 r) = (top (fun s => a r s * (1 / 8)) : EReal) := by
  pointwise [k0_pay30]
  simp only [pay_l A a hA, ofBits_low]
  exact fold_top _

theorem pay_ex (r : Fin 512) (s : Fin 256) : k0_pay33 (F := Ideal) A (ix2 r s) = (ex (fun s => a r s * (1 / 8)) s : EReal) := by
  pointwise [k0_pay33]
  rw [pay_top A a hA, pay_l A a hA, ← EReal.coe_sub, Ideal.exp_coe]
  rfl

theorem pay_zz (r : Fin 512) : k0_pay34 (F := Ideal) A (ix2 r 0) = (zz (fun s => a r s * (1 / 8)) : EReal) := by
  pointwise [k0_pay34]
  simp only [pay_ex A a hA, sum_coe]
  rfl

theorem pay_sm (r : Fin 512) (s : Fin 256) : k0_pay35 (F := Ideal) A (ix2 r s) = (sm (fun s => a r s * (1 / 8)) s : EReal) := by
  pointwise [k0_pay35]
  rw [pay_ex A a hA, pay_zz A a hA, div_coe (zz_ne _)]
  rfl

theorem pay_inv (r : Fin 512) : k0_pay36 (F := Ideal) A (ix2 r 0)
    = ((1 / (zz (fun s => a r s * (1 / 8)) * zz (fun s => a r s * (1 / 8))) : ℝ) : EReal) := by
  pointwise [k0_pay36]
  rw [pay_zz A a hA, ← EReal.coe_one, ← EReal.coe_mul, div_coe (mul_ne_zero (zz_ne _) (zz_ne _))]

theorem pay_ind (r : Fin 512) (s : Fin 256) : k0_pay31 (F := Ideal) A (ix2 r s) = (ind (fun s => a r s * (1 / 8)) s : EReal) := by
  pointwise [k0_pay31]
  rw [pay_top A a hA, pay_l A a hA]
  unfold ind
  by_cases h : a r s * (1 / 8) = top (fun s => a r s * (1 / 8))
  · rw [if_pos h, h]
    simp [Ideal.cmp, FloatOps.sitofp]
  · have h' : ¬ ((a r s * (1 / 8) : ℝ) : EReal) = (top (fun s => a r s * (1 / 8)) : EReal) := fun e => h (EReal.coe_eq_coe_iff.mp e)
    rw [if_neg h]
    generalize ((a r s * (1 / 8) : ℝ) : EReal) = x at h' ⊢
    generalize (top (fun s => a r s * (1 / 8)) : EReal) = y at h' ⊢
    simp [Ideal.cmp, FloatOps.sitofp, h']

theorem pay_count (r : Fin 512) : k0_pay32 (F := Ideal) A (ix1 r) = ((∑ s, ind (fun s => a r s * (1 / 8)) s : ℝ) : EReal) := by
  pointwise [k0_pay32]
  simp only [pay_ind A a hA, sum_coe]

variable (V : FVec Ideal S256x256 .f32) (D : FVec Ideal S512x256 .f32) (M : FVec Ideal S1x256 .f32) (v : Fin 256 → Fin 256 → ℝ) (d : Fin 512 → Fin 256 → ℝ)
  (h : Fin 4) (hV : ∀ s j, V (ix2 s j) = (v s j : EReal)) (hD : ∀ r j, D (ix2 r j) = (d r j : EReal)) (hM : ∀ j, M (ix2 0 j) = (mk h j : EReal))
include hV hD hM

theorem pay_dl (r : Fin 512) (s : Fin 256) :
    k0_pay54 (F := Ideal) V M (k0_pay31 A) (k0_pay32 A) (k0_pay33 A) (k0_pay34 A) (k0_pay36 A) D (ix2 r s)
      = (dlg (fun s => a r s * (1 / 8)) (dw (d r) v h) s : EReal) := by
  have hz := zz_ne (fun s => a r s * (1 / 8))
  have hc := ind_ne (fun s => a r s * (1 / 8))
  pointwise [k0_pay54, k0_pay52]
  simp only [hV, hD, hM, pay_ind A a hA, pay_count A a hA, pay_ex A a hA, pay_zz A a hA, pay_inv A a hA, ofBits_eighth, Fin.sum_univ_one, zero_sub,
    ← EReal.coe_mul, ← EReal.coe_neg, sum_coe, div_coe hz, ← EReal.coe_add, sum_mask, div_coe hc]
  refine congrArg Real.toEReal ?_
  have e := dlg_sum (fun s => a r s * (1 / 8)) (dw (d r) v h)
  simp only [dw] at e
  rw [Finset.sum_neg_distrib, e, neg_zero, zero_div, zero_mul, add_zero]
  rfl

end Soft

section Heads

/-- The masks of the four heads. -/
def masks : Fin 4 → FVec Ideal S1x256 .f32 :=
  ![k0_pay6, k0_pay16 (iota .tc S1x256 32 [1] iota_S1x256_d1_w32) 64#32, k0_pay26 (iota .tc S1x256 32 [1] iota_S1x256_d1_w32),
    k0_pay37 (iota .tc S1x256 32 [1] iota_S1x256_d1_w32)]

/-- A lane lies between a head's bounds exactly if its column is one of the head's. -/
theorem mask_bit : ∀ (h : Fin 4) (j : Fin 256), IntOp.andi (IntOp.cmpi .sge (BitVec.ofNat 32 j.val) (BitVec.ofNat 32 (h.val * 64)))
    (IntOp.cmpi .slt (BitVec.ofNat 32 j.val) (BitVec.ofNat 32 (h.val * 64 + 64))) = if hd j = h then 1#1 else 0#1 := by decide +kernel

theorem masks_eq (h : Fin 4) (j : Fin 256) : masks h (ix2 0 j) = (mk h j : EReal) := by
  fin_cases h <;> pointwise [masks, k0_pay6, k0_pay16, k0_pay26, k0_pay37, mk]
  all_goals
    first
      | refine (congrArg (fun b => Scalar.select b (1 : EReal) 0) (mask_bit 0 j)).trans ?_
      | refine (congrArg (fun b => Scalar.select b (1 : EReal) 0) (mask_bit 1 j)).trans ?_
      | refine (congrArg (fun b => Scalar.select b (1 : EReal) 0) (mask_bit 2 j)).trans ?_
      | refine (congrArg (fun b => Scalar.select b (1 : EReal) 0) (mask_bit 3 j)).trans ?_
    split_ifs <;> simp [Scalar.select]

variable (Q D : FVec Ideal S512x256 .f32) (K V E : FVec Ideal S256x256 .f32)

/-- The position of each lane. -/
abbrev lanes : IVec S1x256 32 := iota .tc S1x256 32 [1] iota_S1x256_d1_w32

/-- The products of the queries and the keys under head `h`. -/
def lg (h : Fin 4) : FVec Ideal S512x256 .f32 :=
  matmul dot_S512x256_S256x256_S512x256_1_1_0_0_n_n none (truncf .bf16 (k0_pay52 (masks h) (k0_pay5 Q)) bitsLt_bf16_f32) (truncf .bf16 K bitsLt_bf16_f32)
    (constant S512x256 .f32 0x00000000#32)

/-- The gradient of the scaled products under head `h`. -/
def gl (h : Fin 4) : FVec Ideal S512x256 .f32 :=
  k0_pay54 V (masks h) (k0_pay31 (lg Q K h)) (k0_pay32 (lg Q K h)) (k0_pay33 (lg Q K h)) (k0_pay34 (lg Q K h)) (k0_pay36 (lg Q K h)) (k0_pay45 D)

theorem gl_0 : k0_pay67 (F := Ideal) (k0_pay10 Q K) (k0_pay11 Q K) (k0_pay12 Q K) (k0_pay13 Q K) (k0_pay15 Q K) (k0_pay64 k0_pay6 (k0_pay45 D))
    (k0_pay65 V) (constant S512x256 .f32 0x00000000#32) = gl Q D K V 0 := rfl

theorem gl_1 : k0_pay60 (F := Ideal) V (k0_pay20 (k0_pay5 Q) K lanes 64#32) (k0_pay21 (k0_pay5 Q) K lanes 64#32) (k0_pay22 (k0_pay5 Q) K lanes 64#32)
    (k0_pay23 (k0_pay5 Q) K lanes 64#32) (k0_pay25 (k0_pay5 Q) K lanes 64#32) (k0_pay45 D) (k0_pay57 (k0_pay16 lanes 64#32)) = gl Q D K V 1 := rfl

theorem gl_2 : k0_pay54 (F := Ideal) V (k0_pay26 lanes) (k0_pay31 (k0_pay28 (k0_pay5 Q) K lanes)) (k0_pay32 (k0_pay28 (k0_pay5 Q) K lanes))
    (k0_pay33 (k0_pay28 (k0_pay5 Q) K lanes)) (k0_pay34 (k0_pay28 (k0_pay5 Q) K lanes)) (k0_pay36 (k0_pay28 (k0_pay5 Q) K lanes)) (k0_pay45 D)
    = gl Q D K V 2 := rfl

theorem gl_3 : k0_pay48 (F := Ideal) V D (k0_pay37 lanes) (k0_pay41 (k0_pay5 Q) K lanes) (k0_pay42 (k0_pay5 Q) K lanes) (k0_pay43 (k0_pay5 Q) K lanes)
    = gl Q D K V 3 := rfl

theorem w_0 : k0_pay14 (F := Ideal) Q K = k0_pay35 (lg Q K 0) := rfl

theorem w_1 : k0_pay24 (F := Ideal) (k0_pay5 Q) K lanes 64#32 = k0_pay35 (lg Q K 1) := rfl

theorem w_2 : k0_pay35 (F := Ideal) (k0_pay28 (k0_pay5 Q) K lanes) = k0_pay35 (lg Q K 2) := rfl

/-- The gradient of the queries, a block of rows. -/
def outQ : FVec Ideal S512x256 .bf16 :=
  k0_pay69 K k0_pay6 (k0_pay10 Q K) (k0_pay11 Q K) (k0_pay12 Q K) (k0_pay13 Q K) (k0_pay15 Q K)
    (k0_pay62 K V (k0_pay16 lanes 64#32) (k0_pay20 (k0_pay5 Q) K lanes 64#32) (k0_pay21 (k0_pay5 Q) K lanes 64#32) (k0_pay22 (k0_pay5 Q) K lanes 64#32)
      (k0_pay23 (k0_pay5 Q) K lanes 64#32) (k0_pay25 (k0_pay5 Q) K lanes 64#32) (k0_pay45 D)
      (k0_pay56 K V (k0_pay26 lanes) (k0_pay31 (k0_pay28 (k0_pay5 Q) K lanes)) (k0_pay32 (k0_pay28 (k0_pay5 Q) K lanes))
        (k0_pay33 (k0_pay28 (k0_pay5 Q) K lanes)) (k0_pay34 (k0_pay28 (k0_pay5 Q) K lanes)) (k0_pay36 (k0_pay28 (k0_pay5 Q) K lanes)) (k0_pay37 lanes)
        (k0_pay45 D)
        (k0_pay49 K V D (k0_pay37 lanes) (k0_pay41 (k0_pay5 Q) K lanes) (k0_pay42 (k0_pay5 Q) K lanes) (k0_pay43 (k0_pay5 Q) K lanes)))
      (k0_pay57 (k0_pay16 lanes 64#32)))
    (k0_pay64 k0_pay6 (k0_pay45 D)) (k0_pay65 V) (constant S512x256 .f32 0x00000000#32)

/-- The gradient of the keys, to which a block of rows adds. -/
def outK : FVec Ideal S256x256 .f32 :=
  k0_pay3 (k0_pay68 (k0_pay7 Q) (k0_pay10 Q K) (k0_pay11 Q K) (k0_pay12 Q K) (k0_pay13 Q K) (k0_pay15 Q K)
    (k0_pay61 V (k0_pay17 (k0_pay5 Q) lanes 64#32) (k0_pay20 (k0_pay5 Q) K lanes 64#32) (k0_pay21 (k0_pay5 Q) K lanes 64#32)
      (k0_pay22 (k0_pay5 Q) K lanes 64#32) (k0_pay23 (k0_pay5 Q) K lanes 64#32) (k0_pay25 (k0_pay5 Q) K lanes 64#32) (k0_pay45 D)
      (k0_pay55 V (k0_pay26 lanes) (k0_pay27 (k0_pay5 Q) lanes) (k0_pay31 (k0_pay28 (k0_pay5 Q) K lanes)) (k0_pay32 (k0_pay28 (k0_pay5 Q) K lanes))
        (k0_pay33 (k0_pay28 (k0_pay5 Q) K lanes)) (k0_pay34 (k0_pay28 (k0_pay5 Q) K lanes)) (k0_pay36 (k0_pay28 (k0_pay5 Q) K lanes)) (k0_pay45 D)
        (k0_pay50 V D (k0_pay37 lanes) (k0_pay41 (k0_pay5 Q) K lanes) (k0_pay42 (k0_pay5 Q) K lanes) (k0_pay43 (k0_pay5 Q) K lanes))
        (k0_pay51 (k0_pay38 (k0_pay5 Q) lanes)) (constant S256x256 .f32 0x00000000#32))
      (k0_pay57 (k0_pay16 lanes 64#32)))
    (k0_pay64 k0_pay6 (k0_pay45 D)) (k0_pay65 V) (constant S512x256 .f32 0x00000000#32)) E

/-- The gradient of the values, to which a block of rows adds. -/
def outV : FVec Ideal S256x256 .f32 :=
  k0_pay4 (k0_pay66 (k0_pay14 Q K)
    (k0_pay59 (k0_pay24 (k0_pay5 Q) K lanes 64#32) (k0_pay45 D)
      (k0_pay53 (k0_pay26 lanes) (k0_pay35 (k0_pay28 (k0_pay5 Q) K lanes)) (k0_pay45 D) (k0_pay47 D (k0_pay37 lanes) (k0_pay43 (k0_pay5 Q) K lanes)))
      (k0_pay57 (k0_pay16 lanes 64#32)))
    (k0_pay63 k0_pay6 (k0_pay45 D))) E

variable (q d : Fin 512 → Fin 256 → ℝ) (k v : Fin 256 → Fin 256 → ℝ)
  (hQ : ∀ r j, Q (ix2 r j) = (q r j : EReal)) (hD : ∀ r j, D (ix2 r j) = (d r j : EReal))
  (hK : ∀ s j, K (ix2 s j) = (k s j : EReal)) (hV : ∀ s j, V (ix2 s j) = (v s j : EReal))

include hQ in
theorem same_q (r : Fin 512) (j : Fin 256) : k0_pay5 (F := Ideal) Q (ix2 r j) = (q r j : EReal) := by
  pointwise [k0_pay5]; exact hQ r j

include hD in
theorem same_d (r : Fin 512) (j : Fin 256) : k0_pay45 (F := Ideal) D (ix2 r j) = (d r j : EReal) := by
  pointwise [k0_pay45]; exact hD r j

include hQ hK in
theorem pay_lg (h : Fin 4) (r : Fin 512) (s : Fin 256) : lg Q K h (ix2 r s) = ((∑ i, q r (cl h i) * k s (cl h i) : ℝ) : EReal) := by
  pointwise [lg, k0_pay52]
  simp only [same_q Q q hQ, hK, masks_eq, ← EReal.coe_mul, sum_coe, sum_mask]

include hQ hK in
theorem pay_w (h : Fin 4) (r : Fin 512) (s : Fin 256) : k0_pay35 (F := Ideal) (lg Q K h) (ix2 r s) = (sm (lgt (q r) k h) s : EReal) :=
  pay_sm _ (fun r s => ∑ i, q r (cl h i) * k s (cl h i)) (pay_lg Q K q k hQ hK h) r s

include hQ hD hK hV

theorem pay_gl (h : Fin 4) (r : Fin 512) (s : Fin 256) : gl Q D K V h (ix2 r s) = (dl (q r) (d r) k v h s : EReal) :=
  pay_dl _ (fun r s => ∑ i, q r (cl h i) * k s (cl h i)) (pay_lg Q K q k hQ hK h) V _ _ v d h hV (same_d D d hD) (masks_eq h) r s

theorem pay_q (r : Fin 512) (j : Fin 256) : outQ Q D K V (ix2 r j) = ((∑ s, dl (q r) (d r) k v (hd j) s * k s j : ℝ) : EReal) := by
  have m0 := masks_eq 0 j
  have m1 := masks_eq 1 j
  have m2 := masks_eq 2 j
  have m3 := masks_eq 3 j
  simp only [masks, Matrix.cons_val] at m0 m1 m2 m3
  unfold outQ k0_pay69 k0_pay62 k0_pay56 k0_pay49
  rw [gl_0, gl_1, gl_2, gl_3]
  pointwise
  simp only [pay_gl Q D K V q d k v hQ hD hK hV, hK, m0, m1, m2, m3, ← EReal.coe_mul, sum_coe, ← EReal.coe_add]
  refine congrArg Real.toEReal ?_
  rw [← sum_heads (fun h => ∑ s, dl (q r) (d r) k v h s * k s j) j, Fin.sum_univ_four]
  ring

theorem pay_k (s j : Fin 256) : outK Q D K V E (ix2 s j) = E (ix2 s j) + ((∑ r, dl (q r) (d r) k v (hd j) s * q r j : ℝ) : EReal) := by
  have m0 := masks_eq 0 j
  have m1 := masks_eq 1 j
  have m2 := masks_eq 2 j
  have m3 := masks_eq 3 j
  simp only [masks, Matrix.cons_val] at m0 m1 m2 m3
  unfold outK k0_pay3 k0_pay68 k0_pay61 k0_pay55 k0_pay50
  rw [gl_0, gl_1, gl_2, gl_3]
  pointwise [k0_pay7, k0_pay17, k0_pay27, k0_pay51, k0_pay38]
  simp only [pay_gl Q D K V q d k v hQ hD hK hV, same_q Q q hQ, m0, m1, m2, m3, ← EReal.coe_mul, sum_coe, ← EReal.coe_add]
  refine congrArg (fun t : ℝ => E (ix2 s j) + (t : EReal)) ?_
  have e : ∀ r, dl (q r) (d r) k v (hd j) s * q r j = ∑ h, dl (q r) (d r) k v h s * q r j * mk h j := fun r =>
    (sum_heads (fun h => dl (q r) (d r) k v h s * q r j) j).symm
  simp only [e, Fin.sum_univ_four, Finset.sum_add_distrib, mul_assoc]
  ring

omit hV in
theorem pay_v (s j : Fin 256) : outV Q D K E (ix2 s j) = E (ix2 s j) + ((∑ r, sm (lgt (q r) k (hd j)) s * d r j : ℝ) : EReal) := by
  have m0 := masks_eq 0 j
  have m1 := masks_eq 1 j
  have m2 := masks_eq 2 j
  have m3 := masks_eq 3 j
  simp only [masks, Matrix.cons_val] at m0 m1 m2 m3
  have w3 : ∀ r s, Ideal.div (k0_pay43 (F := Ideal) (k0_pay5 Q) K lanes (ix2 r s)) (k0_pay44 (F := Ideal) (k0_pay43 (k0_pay5 Q) K lanes) (ix2 r 0))
      = (sm (lgt (q r) k 3) s : EReal) := fun r s => by rw [← pay_w Q K q k hQ hK 3 r s]; pointwise [k0_pay35]; rfl
  unfold outV k0_pay4 k0_pay66 k0_pay59 k0_pay53 k0_pay47
  rw [w_0, w_1, w_2]
  pointwise [k0_pay63, k0_pay58, k0_pay57, k0_pay52, k0_pay46]
  simp only [w3, pay_w Q K q k hQ hK, same_d D d hD, hD, m0, m1, m2, m3, ← EReal.coe_mul, sum_coe, ← EReal.coe_add]
  refine congrArg (fun t : ℝ => E (ix2 s j) + (t : EReal)) ?_
  have e : ∀ r, sm (lgt (q r) k (hd j)) s * d r j = ∑ h, sm (lgt (q r) k h) s * d r j * mk h j := fun r =>
    (sum_heads (fun h => sm (lgt (q r) k h) s * d r j) j).symm
  simp only [e, Fin.sum_univ_four, Finset.sum_add_distrib, mul_assoc]
  ring

end Heads

variable (m : (ℓ : Loc nD τ sig) → Buf (Elt Ideal) ℓ) (c : Dev nD)

/-- The block that each window is at. -/
theorem idx : ∀ t : Fin cfg0.N, win0_0.index t = ![t.val, 3] ∧ win0_1.index t = ![0, 0] ∧ win0_2.index t = ![0, 1]
    ∧ win0_3.index t = ![t.val, 3] ∧ win0_4.index t = ![t.val, 0] ∧ win0_5.index t = ![0, 0] ∧ win0_6.index t = ![0, 0] :=
  (by decide +kernel : ∀ t : Fin grid0.N, _)

/-- Row `r` of the block at grid point `p`, as a row of the array. -/
def row (p : Fin cfg0.N) (r : Fin 512) : Fin 8192 :=
  ⟨p.val * 512 + r.val, by have := lt_of_lt_of_eq p.isLt (show cfg0.N = 16 from N_0); omega⟩

/-- A column of the attention's, among the columns of the projection and of the cotangent. -/
def qc (j : Fin 256) : Fin 1024 := ⟨768 + j.val, by omega⟩

/-- A column of the keys, among those of keys and values. -/
def kc (j : Fin 256) : Fin 512 := ⟨j.val, by omega⟩

/-- A column of the values, among those of keys and values. -/
def vc (j : Fin 256) : Fin 512 := ⟨256 + j.val, by omega⟩

variable (q d : Fin 8192 → Fin 256 → ℝ) (k v : Fin 256 → Fin 256 → ℝ)
  (hQ : ∀ r j, (m ((c : Thread nD τ).loc main_arg0) : FVec Ideal S8192x1024 .f32) (ix2 r (qc j)) = (q r j : EReal))
  (hK : ∀ s j, (m ((c : Thread nD τ).loc main_arg1) : FVec Ideal S256x512 .f32) (ix2 s (kc j)) = (k s j : EReal))
  (hV : ∀ s j, (m ((c : Thread nD τ).loc main_arg1) : FVec Ideal S256x512 .f32) (ix2 s (vc j)) = (v s j : EReal))
  (hD : ∀ r j, (m ((c : Thread nD τ).loc main_arg2) : FVec Ideal S8192x1024 .f32) (ix2 r (qc j)) = (d r j : EReal))

include hQ in
theorem blk_q (p : Fin cfg0.N) (r : Fin 512) (j : Fin 256) : (iblk m c 0 p : FVec Ideal S512x256 .bf16) (ix2 r j) = (q (row p r) j : EReal) := by
  have e : ((View.whole main_v0).slice (win0_0.rect p)).emb (ix2 r j) = ix2 (row p r) (qc j) := by blk_ext [idx p, row, qc]
  blk_simp [iblk]; rw [e]
  unfold V
  after_reads_at
  exact hQ _ _

include hK in
theorem blk_k (p : Fin cfg0.N) (s j : Fin 256) : (iblk m c 1 p : FVec Ideal S256x256 .f32) (ix2 s j) = (k s j : EReal) := by
  rw [← hK]; blk_ext [iblk, V, idx p, kc]

include hV in
theorem blk_v (p : Fin cfg0.N) (s j : Fin 256) : (iblk m c 2 p : FVec Ideal S256x256 .f32) (ix2 s j) = (v s j : EReal) := by
  rw [← hV]; blk_ext [iblk, V, idx p, vc]

include hD in
theorem blk_d (p : Fin cfg0.N) (r : Fin 512) (j : Fin 256) : (iblk m c 3 p : FVec Ideal S512x256 .f32) (ix2 r j) = (d (row p r) j : EReal) := by
  rw [← hD]; blk_ext [iblk, V, idx p, row, qc]

theorem at_pair (y : S512x256.Idx) : y = ix2 (y 0) (y 1) := by idx_vars y; rfl

include hQ hK hV hD

/-- The gradient of the queries, as the kernel leaves it. -/
theorem final_4 : (dats m 0 c).arrAt 4 cfg0.N
    = fun i => ((∑ s, dl (q (i 0)) (d (i 0)) k v (hd (i 1)) s * k s (i 1) : ℝ) : EReal) := by
  refine (dats m 0 c).arrAt_eq_of_covers 4 _ (by decide +kernel) fun p hf y => ?_
  have e : ((cfg0.win 4).blk p).view.emb y = ix2 (row p (y 0)) (y 1) := by blk_ext [idx p, row]
  have h2 := pay_q _ _ _ _ _ _ _ _ (blk_q m c q hQ p) (blk_d m c d hD p) (blk_k m c k hK p) (blk_v m c v hV p) (y 0) (y 1)
  rw [e]
  refine Eq.trans ?_ h2
  blk_simp; rw [after0_4]
  by_cases h : p.val % 16 = 0
  · rw [outsAt0_A m c p h]; dsimp only; frame_out; exact congrArg (outQ _ _ _ _) (at_pair y)
  · rw [outsAt0_B m c p h]; dsimp only; frame_out; exact congrArg (outQ _ _ _ _) (at_pair y)

/-- The gradient of the keys, as the kernel leaves it: its blocks' sums, added up. -/
theorem final_5 : (dats m 0 c).arrAt 5 cfg0.N
    = fun i => ((∑ r, dl (q r) (d r) k v (hd (i 1)) (i 0) * q r (i 1) : ℝ) : EReal) := by
  refine (dats m 0 c).arrAt_eq_of_after_last 5 t0_15 (by decide +kernel) _ fun j => ?_
  have h2 := fun (p : Fin cfg0.N) E => pay_k _ _ _ _ E _ _ _ _ (blk_q m c q hQ p) (blk_d m c d hD p) (blk_k m c k hK p) (blk_v m c v hV p)
  blk_simp
  rw [after0_5, Pipeline.eq_sum_fin_of_reset_step_apply_last (fun n h => (outsAt0 m c n h).2.1) 16 (fun _ => 0)
    (fun p j => ((∑ r, dl (q (row p r)) (d (row p r)) k v (hd (j 1)) (j 0) * q (row p r) (j 1) : ℝ) : EReal))
    (fun p h j => by
      rw [outsAt0_A m c p h]; dsimp only; frame_out
      idx_vars j
      refine (h2 p _ j0 j1).trans (congrArg (· + _) ?_)
      pointwise [k0_pay1])
    (fun p h j => by
      rw [outsAt0_B m c p h]; dsimp only; frame_out
      idx_vars j
      exact h2 p _ j0 j1)
    (le_of_eq N_0) t0_15 rfl j, zero_add]
  exact sum_tiles rfl row (fun _ _ => rfl) fun r => dl (q r) (d r) k v (hd (j 1)) (j 0) * q r (j 1)

omit hV in
/-- The gradient of the values, as the kernel leaves it: its blocks' sums, added up. -/
theorem final_6 : (dats m 0 c).arrAt 6 cfg0.N
    = fun i => ((∑ r, sm (lgt (q r) k (hd (i 1))) (i 0) * d r (i 1) : ℝ) : EReal) := by
  refine (dats m 0 c).arrAt_eq_of_after_last 6 t0_15 (by decide +kernel) _ fun j => ?_
  have h2 := fun (p : Fin cfg0.N) E => pay_v _ _ _ E _ _ _ (blk_q m c q hQ p) (blk_d m c d hD p) (blk_k m c k hK p)
  blk_simp
  rw [after0_6, Pipeline.eq_sum_fin_of_reset_step_apply_last (fun n h => (outsAt0 m c n h).2.2) 16 (fun _ => 0)
    (fun p j => ((∑ r, sm (lgt (q (row p r)) k (hd (j 1))) (j 0) * d (row p r) (j 1) : ℝ) : EReal))
    (fun p h j => by
      rw [outsAt0_A m c p h]; dsimp only; frame_out
      idx_vars j
      refine (h2 p _ j0 j1).trans (congrArg (· + _) ?_)
      pointwise [k0_pay2])
    (fun p h j => by
      rw [outsAt0_B m c p h]; dsimp only; frame_out
      idx_vars j
      exact h2 p _ j0 j1)
    (le_of_eq N_0) t0_15 rfl j, zero_add]
  exact sum_tiles rfl row (fun _ _ => rfl) fun r => sm (lgt (q r) k (hd (j 1))) (j 0) * d r (j 1)

end Cert.MemoryIdeal.Value

end
-- ==== Proof.MemoryRef.lean ====
/- The gradients of the memory attention: the arrays of the reference, as real numbers. -/
module

public import proofs.«01_k».proof.Proof.Memory
public import proofs.«01_k».proof.Proof.FoxKvRef
public import proofs.«01_k».proof.Proof.Gen.MemoryRefIdeal.Run

@[expose] public section

set_option maxRecDepth 16384

noncomputable section

namespace Cert.MemoryRefIdeal.Value

open Cert.MemoryRefIdeal Cert.MemoryRefIdeal.Gen Cert.Reals Idealize.ShloMosaic Idealize.ShloMosaic.TcCoe Idealize.SL.Sem
open Cert.FoxKvProof (reduce_max)
open Cert.MemoryIdeal.Value (top fold_top ex zz zz_ne sm dlg cl hd lgt dw dl qc kc vc ofBits_eighth ofBits_low)
open scoped BigOperators

/-- The lane of a column within its head. -/
def ln (j : Fin 256) : Fin 64 := ⟨j.val % 64, by omega⟩

theorem cl_hd (j : Fin 256) : cl (hd j) (ln j) = j := Fin.ext (Nat.div_add_mod' _ _)

/-! ## The terms that the reference repeats -/

/-- The attention's columns of an array of rows, by head. -/
def part (p : FVec Ideal S8192x1024 .f32) : FVec Ideal S8192x4x64 .f32 :=
  shapeCast _ (extractStridedSlice S8192x256 ![0, 768] p slices_S8192x1024_S8192x256_0_768) shapeCasts_S8192x256_S8192x4x64

/-- The keys by head. -/
def keys (kv : FVec Ideal S256x512 .f32) : FVec Ideal S256x4x64 .f32 :=
  shapeCast _ (extractStridedSlice S256x256 ![0, 0] kv slices_S256x512_S256x256_0_0) shapeCasts_S256x256_S256x4x64

/-- The values by head. -/
def vals (kv : FVec Ideal S256x512 .f32) : FVec Ideal S256x4x64 .f32 :=
  shapeCast _ (extractStridedSlice S256x256 ![0, 256] kv slices_S256x512_S256x256_0_256) shapeCasts_S256x256_S256x4x64

/-- The logits. -/
def logits (p : FVec Ideal S8192x1024 .f32) (kv : FVec Ideal S256x512 .f32) : FVec Ideal S4x8192x256 .f32 :=
  mulf (Host.dotGeneral dot_S8192x4x64_S256x4x64_S4x8192x256_2_2_0_0_1_1 none (part p) (keys kv))
    (broadcastInDim S4x8192x256 ![] bcast_S_S4x8192x256 (constant S_ .f32 0x3E000000#32))

/-- The greatest entry of each row. -/
def tops (x : FVec Ideal S4x8192x256 .f32) : FVec Ideal S4x8192 .f32 :=
  maximumf (broadcastInDim S4x8192 ![] bcast_S_S4x8192 (constant S_ .f32 0xFF800000#32))
    (Host.reduce FloatOps.maximumf x (constant S_ .f32 0xFF800000#32) reducesTo_S4x8192x256_S4x8192_d2 h_S_)

/-- The exponentials of logits less the greatest of their row. -/
def expos (x : FVec Ideal S4x8192x256 .f32) : FVec Ideal S4x8192x256 .f32 :=
  Host.exp (subf x (broadcastInDim S4x8192x256 ![0, 1, 2] bcast_S4x8192x1_S4x8192x256_0_1_2
    (broadcastInDim S4x8192x1 ![0, 1] bcast_S4x8192_S4x8192x1_0_1 (tops x))))

/-- The sum of each row, as a column. -/
def rows (e : FVec Ideal S4x8192x256 .f32) : FVec Ideal S4x8192x1 .f32 :=
  broadcastInDim S4x8192x1 ![0, 1] bcast_S4x8192_S4x8192x1_0_1
    (Host.reduceAdd e (constant S_ .f32 0x00000000#32) reducesTo_S4x8192x256_S4x8192_d2 h_S_)

/-- A number per row, along the row. -/
def along (z : FVec Ideal S4x8192x1 .f32) : FVec Ideal S4x8192x256 .f32 :=
  broadcastInDim S4x8192x256 ![0, 1, 2] bcast_S4x8192x1_S4x8192x256_0_1_2 z

/-- The weights of a row, by their exponentials. -/
def weights (e : FVec Ideal S4x8192x256 .f32) : FVec Ideal S4x8192x256 .f32 := Host.divf e (along (rows e))

/-- The cotangent by head, its rows last. -/
def cot (d : FVec Ideal S8192x1024 .f32) : FVec Ideal S4x64x8192 .f32 :=
  transpose S4x64x8192 [1, 2, 0] (part d) transposes_S8192x4x64_S4x64x8192_1_2_0

/-- The gradient of the weights. -/
def dweights (d : FVec Ideal S8192x1024 .f32) (kv : FVec Ideal S256x512 .f32) : FVec Ideal S4x8192x256 .f32 :=
  Host.dotGeneral dot_S4x64x8192_S256x4x64_S4x8192x256_1_2_2_0_0_1 none (cot d) (vals kv)

/-- A gradient of the weights, passed through the softmax and the scale. -/
def dlogits (g e : FVec Ideal S4x8192x256 .f32) : FVec Ideal S4x8192x256 .f32 :=
  mulf (mulf (addf (Host.divf g (along (rows e)))
    (broadcastInDim S4x8192x256 ![0, 1] bcast_S4x8192_S4x8192x256_0_1
      (Host.reduceAdd (Host.negf (shapeCast _ (Host.reduceAdd
        (mulf (mulf g (along (Host.divf (broadcastInDim S4x8192x1 ![] bcast_S_S4x8192x1 (constant S_ .f32 0x3F800000#32)) (mulf (rows e) (rows e))))) e)
        (constant S_ .f32 0x00000000#32) reducesTo_S4x8192x256_S4x8192_d2 h_S_) shapeCasts_S4x8192_S4x8192x1))
        (constant S_ .f32 0x00000000#32) reducesTo_S4x8192x1_S4x8192_d2 h_S_))) e)
    (broadcastInDim S4x8192x256 ![] bcast_S_S4x8192x256 (constant S_ .f32 0x3E000000#32))

/-- The gradient of the queries. -/
def gq (l : FVec Ideal S4x8192x256 .f32) (kv : FVec Ideal S256x512 .f32) : FVec Ideal S8192x256 .bf16 :=
  truncf .bf16 (shapeCast _ (transpose S8192x4x64 [1, 0, 2] (Host.dotGeneral dot_S4x8192x256_S256x4x64_S4x8192x64_2_0_1_2_0_1 none l (keys kv))
    transposes_S4x8192x64_S8192x4x64_1_0_2) shapeCasts_S8192x4x64_S8192x256) bitsLt_bf16_f32

/-- The gradients of keys and values, side by side. -/
def gkv (w l : FVec Ideal S4x8192x256 .f32) (p d : FVec Ideal S8192x1024 .f32) : FVec Ideal S256x512 .f32 :=
  addf
    (pad S256x512 ![0, 256] ![0, 0] ![0, 0] (shapeCast S256x256 (transpose S256x4x64 [2, 0, 1]
      (Host.dotGeneral dot_S4x64x8192_S4x8192x256_S4x64x256_2_1_1_2_0_0 none (cot d) w) transposes_S4x64x256_S256x4x64_2_0_1) shapeCasts_S256x4x64_S256x256)
      (constant S_ .f32 0x00000000#32) pads_S256x256_S256x512_000_25600 h_S_)
    (pad S256x512 ![0, 0] ![0, 256] ![0, 0] (shapeCast S256x256 (transpose S256x4x64 [1, 0, 2]
      (Host.dotGeneral dot_S4x8192x256_S8192x4x64_S4x256x64_1_0_2_2_0_1 none l (part p)) transposes_S4x256x64_S256x4x64_1_0_2) shapeCasts_S256x4x64_S256x256)
      (constant S_ .f32 0x00000000#32) pads_S256x256_S256x512_000_02560 h_S_)

theorem greatest (x : FVec Ideal S4x8192 .f32) (h : Fin 4) (r : Fin 8192) :
    maximumf (broadcastInDim S4x8192 ![] bcast_S_S4x8192 (constant S_ .f32 0xFF800000#32)) x (ix2 h r) = x (ix2 h r) := by
  pointwise
  rw [ofBits_low, max_bot_left]

theorem low_at : (constant (F := Ideal) S_ .f32 0xFF800000#32 : FVec Ideal S_ .f32) (Shape.Idx.first h_S_) = (⊥ : EReal) := ofBits_low

section Pieces

variable (x g : FVec Ideal S4x8192x256 .f32) (l w : Fin 4 → Fin 8192 → Fin 256 → ℝ) (hx : ∀ h r s, x (ix3 h r s) = (l h r s : EReal))
  (hg : ∀ h r s, g (ix3 h r s) = (w h r s : EReal))
include hx

theorem tops_at (h : Fin 4) (r : Fin 8192) : tops x (ix2 h r) = (top (l h r) : EReal) := by
  unfold tops
  rw [greatest, reduce_max _ h_S_ x _ low_at h r]
  simp only [hx]
  exact fold_top _

theorem expos_at (h : Fin 4) (r : Fin 8192) (s : Fin 256) : expos x (ix3 h r s) = (ex (l h r) s : EReal) := by
  pointwise [expos]
  rw [tops_at x l hx, hx, ← EReal.coe_sub, Ideal.exp_coe]
  rfl

theorem rows_at (h : Fin 4) (r : Fin 8192) : rows (expos x) (ix3 h r 0) = (zz (l h r) : EReal) := by
  pointwise [rows]
  simp only [expos_at x l hx, sum_coe, zero_add]
  rfl

theorem weights_at (h : Fin 4) (r : Fin 8192) (s : Fin 256) : weights (expos x) (ix3 h r s) = (sm (l h r) s : EReal) := by
  pointwise [weights, along]
  rw [expos_at x l hx, rows_at x l hx, div_coe (zz_ne _)]
  rfl

include hg in
theorem dlogits_at (h : Fin 4) (r : Fin 8192) (s : Fin 256) : dlogits g (expos x) (ix3 h r s) = (dlg (l h r) (w h r) s : EReal) := by
  have hz := zz_ne (l h r)
  pointwise [dlogits, along]
  simp only [hg, expos_at x l hx, rows_at x l hx, ofBits_eighth, ofBits_one, ← EReal.coe_one, zero_add, Fin.sum_univ_one, ← EReal.coe_mul, div_coe hz,
    div_coe (mul_ne_zero hz hz), sum_coe, ← EReal.coe_neg, ← EReal.coe_add]
  rfl

end Pieces

theorem part_at (p : FVec Ideal S8192x1024 .f32) (a : Fin 8192 → Fin 256 → ℝ) (hp : ∀ r j, p (ix2 r (qc j)) = (a r j : EReal))
    (r : Fin 8192) (h : Fin 4) (i : Fin 64) : part p (ix3 r h i) = (a r (cl h i) : EReal) := by
  rw [← hp]; pointwise [part, qc, cl]

theorem keys_at (kv : FVec Ideal S256x512 .f32) (a : Fin 256 → Fin 256 → ℝ) (hp : ∀ s j, kv (ix2 s (kc j)) = (a s j : EReal))
    (s : Fin 256) (h : Fin 4) (i : Fin 64) : keys kv (ix3 s h i) = (a s (cl h i) : EReal) := by
  rw [← hp]; pointwise [keys, kc, cl]

theorem vals_at (kv : FVec Ideal S256x512 .f32) (a : Fin 256 → Fin 256 → ℝ) (hp : ∀ s j, kv (ix2 s (vc j)) = (a s j : EReal))
    (s : Fin 256) (h : Fin 4) (i : Fin 64) : vals kv (ix3 s h i) = (a s (cl h i) : EReal) := by
  rw [← hp]; pointwise [vals, vc, cl]

section Arrays

variable (p d : FVec Ideal S8192x1024 .f32) (kv : FVec Ideal S256x512 .f32) (q g : Fin 8192 → Fin 256 → ℝ) (k v : Fin 256 → Fin 256 → ℝ)
  (hQ : ∀ r j, p (ix2 r (qc j)) = (q r j : EReal)) (hK : ∀ s j, kv (ix2 s (kc j)) = (k s j : EReal))
  (hV : ∀ s j, kv (ix2 s (vc j)) = (v s j : EReal)) (hD : ∀ r j, d (ix2 r (qc j)) = (g r j : EReal))

include hQ hK in
theorem logits_at (h : Fin 4) (r : Fin 8192) (s : Fin 256) : logits p kv (ix3 h r s) = (lgt (q r) k h s : EReal) := by
  pointwise [logits]
  simp only [part_at p q hQ, keys_at kv k hK, ofBits_eighth, ← EReal.coe_mul, sum_coe]
  rfl

include hD in
theorem cot_at (h : Fin 4) (i : Fin 64) (r : Fin 8192) : cot d (ix3 h i r) = (g r (cl h i) : EReal) := by
  rw [← part_at d g hD]; pointwise [cot]

include hD hV in
theorem dweights_at (h : Fin 4) (r : Fin 8192) (s : Fin 256) : dweights d kv (ix3 h r s) = (dw (g r) v h s : EReal) := by
  pointwise [dweights]
  simp only [cot_at d g hD, vals_at kv v hV, ← EReal.coe_mul, sum_coe]
  rfl

section Ends

variable (w l : FVec Ideal S4x8192x256 .f32) (a b : Fin 4 → Fin 8192 → Fin 256 → ℝ) (hw : ∀ h r s, w (ix3 h r s) = (a h r s : EReal))
  (hl : ∀ h r s, l (ix3 h r s) = (b h r s : EReal))

include hl hK in
theorem gq_at (r : Fin 8192) (j : Fin 256) : gq l kv (ix2 r j) = ((∑ s, b (hd j) r s * k s j : ℝ) : EReal) := by
  have e : gq l kv (ix2 r j) = ∑ s, l (ix3 (hd j) r s) * keys kv (ix3 s (hd j) (ln j)) := by pointwise [gq, hd, ln]
  rw [e]
  simp only [hl, keys_at kv k hK, cl_hd, ← EReal.coe_mul, sum_coe]

include hl hQ in
theorem gkv_left (s j : Fin 256) : gkv w l p d (ix2 s (kc j)) = ((∑ r, b (hd j) r s * q r j : ℝ) : EReal) := by
  have e : gkv w l p d (ix2 s (kc j)) = ∑ r, l (ix3 (hd j) r s) * part p (ix3 r (hd j) (ln j)) := by
    pointwise [gkv, hd, ln, kc]
    rw [dif_neg (fun h => h.1), zero_add]
  rw [e]
  simp only [hl, part_at p q hQ, cl_hd, ← EReal.coe_mul, sum_coe]

include hw hD in
theorem gkv_right (s j : Fin 256) : gkv w l p d (ix2 s (vc j)) = ((∑ r, a (hd j) r s * g r j : ℝ) : EReal) := by
  have e : gkv w l p d (ix2 s (vc j)) = ∑ r, cot d (ix3 (hd j) (ln j) r) * w (ix3 (hd j) r s) := by
    pointwise [gkv, hd, ln, vc]
  rw [e]
  simp only [hw, cot_at d g hD, cl_hd, ← EReal.coe_mul, sum_coe]
  exact congrArg Real.toEReal (Finset.sum_congr rfl fun r _ => mul_comm _ _)

end Ends

end Arrays

theorem slice_left (G : FVec Ideal S256x512 .f32) (s j : Fin 256) :
    extractStridedSlice S256x256 ![0, 0] G slices_S256x512_S256x256_0_0 (ix2 s j) = G (ix2 s (kc j)) := by
  pointwise [kc]

theorem slice_right (G : FVec Ideal S256x512 .f32) (s j : Fin 256) :
    extractStridedSlice S256x256 ![0, 256] G slices_S256x512_S256x256_0_256 (ix2 s j) = G (ix2 s (vc j)) := by
  pointwise [vc]

section Results

variable (m : (ℓ : Loc nD τ sig) → Buf (Elt Ideal) ℓ) (c : Dev nD)

theorem res_q : res_main_v70 m c = gq (dlogits (dweights (m ((c.tc : Thread nD τ).loc main_arg2)) (m ((c.tc : Thread nD τ).loc main_arg1)))
    (expos (logits (m ((c.tc : Thread nD τ).loc main_arg0)) (m ((c.tc : Thread nD τ).loc main_arg1))))) (m ((c.tc : Thread nD τ).loc main_arg1)) := rfl

theorem res_k : res_main_v71 m c = extractStridedSlice S256x256 ![0, 0]
    (gkv (weights (expos (logits (m ((c.tc : Thread nD τ).loc main_arg0)) (m ((c.tc : Thread nD τ).loc main_arg1)))))
      (dlogits (dweights (m ((c.tc : Thread nD τ).loc main_arg2)) (m ((c.tc : Thread nD τ).loc main_arg1)))
        (expos (logits (m ((c.tc : Thread nD τ).loc main_arg0)) (m ((c.tc : Thread nD τ).loc main_arg1)))))
      (m ((c.tc : Thread nD τ).loc main_arg0)) (m ((c.tc : Thread nD τ).loc main_arg2))) slices_S256x512_S256x256_0_0 := rfl

theorem res_v : res_main_v72 m c = extractStridedSlice S256x256 ![0, 256]
    (gkv (weights (expos (logits (m ((c.tc : Thread nD τ).loc main_arg0)) (m ((c.tc : Thread nD τ).loc main_arg1)))))
      (dlogits (dweights (m ((c.tc : Thread nD τ).loc main_arg2)) (m ((c.tc : Thread nD τ).loc main_arg1)))
        (expos (logits (m ((c.tc : Thread nD τ).loc main_arg0)) (m ((c.tc : Thread nD τ).loc main_arg1)))))
      (m ((c.tc : Thread nD τ).loc main_arg0)) (m ((c.tc : Thread nD τ).loc main_arg2))) slices_S256x512_S256x256_0_256 := rfl

variable (q g : Fin 8192 → Fin 256 → ℝ) (k v : Fin 256 → Fin 256 → ℝ)
  (hQ : ∀ r j, (m ((c.tc : Thread nD τ).loc main_arg0) : FVec Ideal S8192x1024 .f32) (ix2 r (qc j)) = (q r j : EReal))
  (hK : ∀ s j, (m ((c.tc : Thread nD τ).loc main_arg1) : FVec Ideal S256x512 .f32) (ix2 s (kc j)) = (k s j : EReal))
  (hV : ∀ s j, (m ((c.tc : Thread nD τ).loc main_arg1) : FVec Ideal S256x512 .f32) (ix2 s (vc j)) = (v s j : EReal))
  (hD : ∀ r j, (m ((c.tc : Thread nD τ).loc main_arg2) : FVec Ideal S8192x1024 .f32) (ix2 r (qc j)) = (g r j : EReal))
include hQ hK hD

include hV in
/-- The reference's gradient of the queries. -/
theorem ref_q (r : Fin 8192) (j : Fin 256) : (res_main_v70 m c : FVec Ideal S8192x256 .bf16) (ix2 r j)
    = ((∑ s, dl (q r) (g r) k v (hd j) s * k s j : ℝ) : EReal) := by
  rw [res_q]
  exact gq_at _ k hK _ (fun h r => dl (q r) (g r) k v h) (dlogits_at _ _ (fun h r => lgt (q r) k h) (fun h r => dw (g r) v h)
    (logits_at _ _ q k hQ hK) (dweights_at _ _ g v hV hD)) r j

include hV in
/-- The reference's gradient of the keys. -/
theorem ref_k (s j : Fin 256) : (res_main_v71 m c : FVec Ideal S256x256 .f32) (ix2 s j)
    = ((∑ r, dl (q r) (g r) k v (hd j) s * q r j : ℝ) : EReal) := by
  rw [res_k, slice_left]
  exact gkv_left _ _ q hQ _ _ (fun h r => dl (q r) (g r) k v h)
    (dlogits_at _ _ (fun h r => lgt (q r) k h) (fun h r => dw (g r) v h) (logits_at _ _ q k hQ hK) (dweights_at _ _ g v hV hD)) s j

/-- The reference's gradient of the values. -/
theorem ref_v (s j : Fin 256) : (res_main_v72 m c : FVec Ideal S256x256 .f32) (ix2 s j)
    = ((∑ r, sm (lgt (q r) k (hd j)) s * g r j : ℝ) : EReal) := by
  rw [res_v, slice_right]
  exact gkv_right _ _ g hD _ _ (fun h r => sm (lgt (q r) k h))
    (weights_at _ (fun h r => lgt (q r) k h) (logits_at _ _ q k hQ hK)) s j

end Results

end Cert.MemoryRefIdeal.Value

end
-- ==== Proof.MemoryClaim.lean ====
/- The gradients of the memory attention: the kernel and the reference leave the same arrays. -/
module

public import proofs.«01_k».proof.Defs
public import proofs.«01_k».proof.Proof.MemoryRef
public import Idealize.ShloMosaic.Lib.Claim

@[expose] public section

set_option maxRecDepth 16384

noncomputable section

namespace Cert.MemoryProof

open Cert.Reals Idealize.ShloMosaic Idealize.ShloMosaic.TcCoe Idealize.SL.Sem
open Cert.MemoryIdeal.Value (final_4 final_5 final_6 qc kc vc)
open Cert.MemoryRefIdeal.Value (ref_q ref_k ref_v)
open scoped BigOperators

/-- The precondition says that every entry of the three arguments is a real number. -/
theorem reals [Cert.Pre_finite_mem.Facts] (p : FVec Ideal ⟨2, ![8192, 1024]⟩ .f32) (kv : FVec Ideal ⟨2, ![256, 512]⟩ .f32)
    (d : FVec Ideal ⟨2, ![8192, 1024]⟩ .f32) (hf : Cert.Pre_finite_mem.fn (F := Ideal) p kv d = fun _ => 1#1) :
    (∀ i, ∃ a : ℝ, p i = a) ∧ (∀ i, ∃ a : ℝ, kv i = a) ∧ ∀ i, ∃ a : ℝ, d i = a := by
  have e := congrFun hf ix0
  unfold Cert.Pre_finite_mem.fn at e
  dsimp only at e
  simp only [andi, IntOp.andi_eq_one] at e
  exact ⟨reals_of_all p _ _ _ _ e.1.1, reals_of_all kv _ _ _ _ e.1.2, reals_of_all d _ _ _ _ e.2⟩

/-- The kernel leaves the gradients of the queries, of the keys and of the values. -/
theorem algebraic [Cert.Pre_finite_mem.Facts] : Cert.algebraic_MemoryIdeal_MemoryRefIdeal_pre_finite_mem := by
  pair_intro
  · run_from Cert.MemoryIdeal.Value.run_blocks m g
  · obtain ⟨h0, h1, h2⟩ := reals _ _ _ (hpre (0 : Dev _))
    choose q hq using h0
    choose k hk using h1
    choose d hc using h2
    run_from Cert.MemoryRefIdeal.Value.run m' g'
    all_goals
      obtain rfl : c = 0 := Subsingleton.elim _ _
      obtain ⟨a0, a1, a2⟩ := hagree 0
      have kq := fun r j => hq (ix2 r (qc j))
      have kk := fun s j => hk (ix2 s (kc j))
      have kv := fun s j => hk (ix2 s (vc j))
      have kd := fun r j => hc (ix2 r (qc j))
      have rq := fun r j => (congrFun a0 (ix2 r (qc j))).trans (kq r j)
      have rk := fun s j => (congrFun a1 (ix2 s (kc j))).trans (kk s j)
      have rv := fun s j => (congrFun a1 (ix2 s (vc j))).trans (kv s j)
      have rd := fun r j => (congrFun a2 (ix2 r (qc j))).trans (kd r j)
    · rw [final_4 m 0 _ _ _ _ kq kk kv kd]
      funext j
      idx_vars j
      exact ref_q m' 0 _ _ _ _ rq rk rv rd j0 j1
    · rw [final_5 m 0 _ _ _ _ kq kk kv kd]
      funext j
      idx_vars j
      exact ref_k m' 0 _ _ _ _ rq rk rv rd j0 j1
    · rw [final_6 m 0 _ _ _ kq kk kd]
      funext j
      idx_vars j
      exact ref_v m' 0 _ _ _ rq rk rd j0 j1

end Cert.MemoryProof

end
-- ==== Proof.GdnPost.lean ====
/- The gradients of the gated norm after the recurrence: the arrays that the kernel leaves, as real numbers. -/
module

public import proofs.«01_k».proof.Proof.FfnPay
public import proofs.«01_k».proof.Proof.Gen.GdnPostIdeal.Value
public import Idealize.ShloMosaic.Lib.StableHlo.ReadAt

@[expose] public section

set_option maxRecDepth 16384

noncomputable section

namespace Cert.GdnPostIdeal.Value

open Cert.GdnPostIdeal Cert.GdnPostIdeal.Gen Cert.Reals Idealize.ShloMosaic Idealize.ShloMosaic.TcCoe Idealize.SL.Sem
open Cert.FfnIdeal.Value (sg exp_pos')
open scoped BigOperators

/-- Lane `k` of head `h`, as a column of the six heads side by side. -/
def cl (h : Fin 6) (k : Fin 128) : Fin 768 := ⟨h.val * 128 + k.val, by omega⟩

/-- The head of a column. -/
def hd (j : Fin 768) : Fin 6 := ⟨j.val / 128, by omega⟩

/-- The lane of a column. -/
def ln (j : Fin 768) : Fin 128 := ⟨j.val % 128, by omega⟩

theorem cl_hd (j : Fin 768) : cl (hd j) (ln j) = j := Fin.ext (Nat.div_add_mod' _ _)

theorem ofBits_128 : Ideal.ofBits .f32 0x43000000#32 = ((128 : ℝ) : EReal) := by
  simp [Ideal.ofBits, Ideal.ieee, -EReal.coe_mul]; norm_num

theorem head_sq_pos (f : Fin 128 → ℝ) : 0 < (∑ k, f k * f k) / 128 + eps :=
  add_pos_of_nonneg_of_pos (div_nonneg (Finset.sum_nonneg fun k _ => mul_self_nonneg _) (by norm_num)) eps_pos

/-- The reciprocal root mean square of a head. -/
def hinv (x : Fin 128 → ℝ) : ℝ := (Real.sqrt ((∑ k, x k * x k) / 128 + eps))⁻¹

/-- The cotangent of a head's norm, passed through the norm. -/
def dhead (x w q : Fin 128 → ℝ) (k : Fin 128) : ℝ :=
  q k * w k * hinv x - x k * ((∑ i, x i * (q i * w i)) * (hinv x * hinv x * hinv x) / 128)

section Head

variable (X Q : FVec Ideal S512x128 .f32) (G : FVec Ideal S1x128 .f32) (x q : Fin 512 → Fin 128 → ℝ) (w : Fin 128 → ℝ)
  (hX : ∀ r k, X (ix2 r k) = (x r k : EReal))
include hX

theorem head_n (r : Fin 512) (k : Fin 128) : k0_pay32 (F := Ideal) X (ix2 r k) = ((x r k * hinv (x r) : ℝ) : EReal) := by
  pointwise [k0_pay32, k0_pay30, k0_pay29]
  simp only [hX, ofBits_128, ofBits_eps, ← EReal.coe_mul, ← EReal.coe_add, sum_coe,
    div_coe (show (128 : ℝ) ≠ 0 by norm_num), rsqrt_coe (head_sq_pos _)]
  rfl

theorem head_d (hQ : ∀ r k, Q (ix2 r k) = (q r k : EReal)) (hG : ∀ k, G (ix2 0 k) = (w k : EReal)) (r : Fin 512) (k : Fin 128) :
    k0_pay67 (F := Ideal) G X (k0_pay30 X) (k0_pay31 X) Q (ix2 r k) = (dhead (x r) w (q r) k : EReal) := by
  pointwise [k0_pay67, k0_pay31, k0_pay30, k0_pay29]
  simp only [hX, hQ, hG, ofBits_128, ofBits_eps, ofBits_neg_half, ← EReal.coe_mul, ← EReal.coe_add, sum_coe,
    div_coe (show (128 : ℝ) ≠ 0 by norm_num), rsqrt_coe (head_sq_pos _), div_coe (head_sq_pos _).ne']
  refine congrArg Real.toEReal ?_
  rw [Fin.sum_univ_one, inv_sqrt_div (head_sq_pos _)]
  simp only [dhead, hinv]
  ring

end Head

/-- What the norm of a head, gated, is multiplied by: the cotangent times the gate. -/
def gated (z d : Fin 768 → ℝ) (j : Fin 768) : ℝ := d j * (z j * sg (z j))

/-- The gradient of the recurrence's output. -/
def dout (o z d : Fin 768 → ℝ) (w : Fin 128 → ℝ) (j : Fin 768) : ℝ :=
  dhead (fun k => o (cl (hd j) k)) w (fun k => gated z d (cl (hd j) k)) (ln j)

/-- The gradient of the gate's argument. -/
def dz (o z d : Fin 768 → ℝ) (w : Fin 128 → ℝ) (j : Fin 768) : ℝ :=
  d j * (o j * hinv (fun k => o (cl (hd j) k)) * w (ln j)) * (sg (z j) * (1 + z j * (1 - sg (z j))))

/-- What a row adds to the gradient of the norm's gain. -/
def dgain (o z d : Fin 768 → ℝ) (k : Fin 128) : ℝ :=
  ∑ h, o (cl h k) * hinv (fun i => o (cl h i)) * gated z d (cl h k)

section Block

/-- The six heads of a block of rows. -/
def heads (O : FVec Ideal S512x768 .f32) : Fin 6 → FVec Ideal S512x128 .f32 :=
  ![k0_pay7 O, k0_pay8 O, k0_pay9 O, k0_pay10 O, k0_pay11 O, k0_pay12 O]

theorem heads_eq (O : FVec Ideal S512x768 .f32) (h : Fin 6) (r : Fin 512) (k : Fin 128) : heads O h (ix2 r k) = O (ix2 r (cl h k)) := by
  fin_cases h <;> pointwise [heads, k0_pay7, k0_pay8, k0_pay9, k0_pay10, k0_pay11, k0_pay12, cl]

/-- Six heads side by side, read at a column. -/
theorem beside (A : Fin 6 → FVec Ideal S512x128 .f32) (r : Fin 512) (j : Fin 768) :
    concatenate S512x768 1 [⟨S512x128, A 0⟩, ⟨S512x128, A 1⟩, ⟨S512x128, A 2⟩, ⟨S512x128, A 3⟩, ⟨S512x128, A 4⟩, ⟨S512x128, A 5⟩]
      concatenates_S512x128_S512x128_S512x128_S512x128_S512x128_S512x128_S512x768_d1 (ix2 r j) = A (hd j) (ix2 r (ln j)) := by
  have key : ∀ (n : ℕ) (hn : n < 6) (k : Fin 128), j.val = n * 128 + k.val → A ⟨n, hn⟩ (ix2 r k) = A (hd j) (ix2 r (ln j)) := by
    intro n hn k e
    rw [show hd j = ⟨n, hn⟩ from Fin.ext (by simp only [hd]; omega), show ln j = k from Fin.ext (by simp only [ln]; omega)]
  pointwise
  split_ifs
  all_goals first
    | exact key 0 (by omega) _ (by dsimp only; omega)
    | exact key 1 (by omega) _ (by dsimp only; omega)
    | exact key 2 (by omega) _ (by dsimp only; omega)
    | exact key 3 (by omega) _ (by dsimp only; omega)
    | exact key 4 (by omega) _ (by dsimp only; omega)
    | exact key 5 (by omega) _ (by dsimp only; omega)

variable (O Z D : FVec Ideal S512x768 .f32) (G : FVec Ideal S1x128 .f32) (o z d : Fin 512 → Fin 768 → ℝ) (w : Fin 128 → ℝ)
  (hO : ∀ r k, O (ix2 r k) = (o r k : EReal)) (hZ : ∀ r k, Z (ix2 r k) = (z r k : EReal)) (hD : ∀ r k, D (ix2 r k) = (d r k : EReal))
  (hG : ∀ k, G (ix2 0 k) = (w k : EReal))

theorem same_z : k0_pay5 (F := Ideal) Z = Z := by funext i; idx_vars i; pointwise [k0_pay5]

theorem same_g : k0_pay6 (F := Ideal) G = G := by funext i; idx_vars i; pointwise [k0_pay6]

include hZ hD in
theorem pay_gated (r : Fin 512) (j : Fin 768) : k0_pay47 (F := Ideal) (k0_pay5 Z) D (ix2 r j) = (gated (z r) (d r) j : EReal) := by
  rw [same_z]
  pointwise [k0_pay47, k0_pay46, k0_pay45, k0_pay44]
  simp only [hZ, hD, ofBits_one, ← EReal.coe_one, zero_sub, ← EReal.coe_neg, Ideal.exp_coe, ← EReal.coe_add, div_coe (exp_pos' _), ← EReal.coe_mul]
  rfl

/-- The gradient of head `h`. -/
def hgrad (Y : FVec Ideal S512x768 .f32) (h : Fin 6) : FVec Ideal S512x128 .f32 :=
  k0_pay67 G (heads O h) (k0_pay30 (heads O h)) (k0_pay31 (heads O h)) (heads (k0_pay47 Y D) h)

/-- The gradient of the recurrence's output, a block of rows: the six heads' gradients side by side. -/
def outO : FVec Ideal S512x768 .f32 :=
  k0_pay1 (k0_pay6 G) (k0_pay7 O) (k0_pay14 O) (k0_pay15 O) (k0_pay49 (k0_pay5 Z) D)
    (hgrad O D (k0_pay6 G) (k0_pay5 Z) 5) (hgrad O D (k0_pay6 G) (k0_pay5 Z) 4) (hgrad O D (k0_pay6 G) (k0_pay5 Z) 3)
    (hgrad O D (k0_pay6 G) (k0_pay5 Z) 2) (hgrad O D (k0_pay6 G) (k0_pay5 Z) 1)

theorem hgrad_1 (Y : FVec Ideal S512x768 .f32) :
    k0_pay67 (F := Ideal) G (k0_pay8 O) (k0_pay19 O) (k0_pay20 O) (k0_pay50 Y D) = hgrad O D G Y 1 := rfl

theorem hgrad_2 (Y : FVec Ideal S512x768 .f32) :
    k0_pay65 (F := Ideal) G (k0_pay9 O) (k0_pay25 (k0_pay23 O)) (k0_pay26 (k0_pay23 O)) (k0_pay51 Y D) = hgrad O D G Y 2 := rfl

theorem hgrad_3 (Y : FVec Ideal S512x768 .f32) :
    k0_pay64 (F := Ideal) (k0_pay10 O) (k0_pay62 G (k0_pay30 (k0_pay10 O)) (k0_pay52 Y D))
      (k0_pay63 G (k0_pay10 O) (k0_pay31 (k0_pay10 O)) (k0_pay52 Y D)) = hgrad O D G Y 3 := rfl

theorem hgrad_4 (Y : FVec Ideal S512x768 .f32) :
    k0_pay59 (F := Ideal) G (k0_pay11 O) (k0_pay35 (k0_pay11 O)) (k0_pay36 (k0_pay11 O)) (k0_pay53 Y D) = hgrad O D G Y 4 := rfl

theorem hgrad_5 (Y : FVec Ideal S512x768 .f32) :
    k0_pay58 (F := Ideal) (k0_pay12 O) (k0_pay41 (k0_pay39 (k0_pay12 O))) (k0_pay42 (k0_pay39 (k0_pay12 O))) (k0_pay56 Y G D)
      (k0_pay57 Y G D (k0_pay12 O)) = hgrad O D G Y 5 := rfl

theorem normed_0 (H : FVec Ideal S1x128 .f32) : k0_pay17 (F := Ideal) O H = k0_pay33 (k0_pay6 H) (heads O 0) := rfl

theorem normed_1 (H : FVec Ideal S1x128 .f32) : k0_pay22 (F := Ideal) O H = k0_pay33 (k0_pay6 H) (heads O 1) := rfl

theorem normed_2 : k0_pay28 (F := Ideal) G (k0_pay9 O) (k0_pay23 O) = k0_pay33 G (heads O 2) := rfl

theorem normed_3 : k0_pay33 (F := Ideal) G (k0_pay10 O) = k0_pay33 G (heads O 3) := rfl

theorem normed_4 : k0_pay38 (F := Ideal) G (k0_pay11 O) = k0_pay33 G (heads O 4) := rfl

theorem at_pair (y : S512x768.Idx) : y = ix2 (y 0) (y 1) := by idx_vars y; rfl

include hO hZ hD hG in
theorem pay_o (r : Fin 512) (j : Fin 768) : outO O Z D G (ix2 r j) = (dout (o r) (z r) (d r) w j : EReal) :=
  (beside (hgrad O D (k0_pay6 G) (k0_pay5 Z)) r j).trans
    (head_d _ _ _ (fun r k => o r (cl (hd j) k)) (fun r k => gated (z r) (d r) (cl (hd j) k)) w (fun r k => (heads_eq O _ r k).trans (hO r _))
      (fun r k => (heads_eq _ _ r k).trans (pay_gated Z D z d hZ hD r _)) (fun k => by rw [same_g]; exact hG k) r (ln j))

/-- The gradient of the gate's argument, a block of rows. -/
def outZ : FVec Ideal S512x768 .f32 :=
  k0_pay48 (k0_pay5 Z) (k0_pay6 G) D (heads O 5) (k0_pay33 (k0_pay6 G) (heads O 0)) (k0_pay33 (k0_pay6 G) (heads O 1))
    (k0_pay33 (k0_pay6 G) (heads O 2)) (k0_pay33 (k0_pay6 G) (heads O 3)) (k0_pay33 (k0_pay6 G) (heads O 4)) (k0_pay39 (heads O 5))

include hO hG in
theorem normed_at (r : Fin 512) (j : Fin 768) : k0_pay33 (F := Ideal) (k0_pay6 G) (heads O (hd j)) (ix2 r (ln j))
    = ((o r j * hinv (fun k => o r (cl (hd j) k)) * w (ln j) : ℝ) : EReal) := by
  rw [same_g]
  pointwise [k0_pay33]
  rw [head_n (heads O (hd j)) (fun r k => o r (cl (hd j) k)) (fun r k => (heads_eq O _ r k).trans (hO r _)), hG, ← EReal.coe_mul, cl_hd]

include hO hZ hD hG in
theorem pay_z (r : Fin 512) (j : Fin 768) : outZ O Z D G (ix2 r j) = (dz (o r) (z r) (d r) w j : EReal) := by
  have hN := (beside (fun h => k0_pay33 (k0_pay6 G) (heads O h)) r j).trans (normed_at O G o w hO hG r j)
  unfold outZ
  rw [same_z]
  unfold k0_pay48
  generalize hn : concatenate S512x768 1 _ _ = N
  have hN' : N (ix2 r j) = ((o r j * hinv (fun k => o r (cl (hd j) k)) * w (ln j) : ℝ) : EReal) := by rw [← hn]; exact hN
  pointwise [k0_pay46, k0_pay45, k0_pay44]
  have e := exp_pos' (z r j)
  simp only [hN', hZ, hD, ofBits_one, ← EReal.coe_one, zero_sub, ← EReal.coe_neg, Ideal.exp_coe, ← EReal.coe_add, div_coe e, ← EReal.coe_mul, div_coe (mul_ne_zero e e)]
  refine congrArg Real.toEReal ?_
  simp only [dz, sg]
  field_simp
  ring

include hO hZ hD in
/-- What a block of rows adds to the gradient of the norm's gain. -/
theorem pay_w (E : FVec Ideal S1x128 .f32) (k : Fin 128) :
    k0_pay4 (F := Ideal) (k0_pay66 (k0_pay32 (heads O 1)) (k0_pay32 (heads O 2)) (heads (k0_pay47 (k0_pay5 Z) D) 1) (heads (k0_pay47 (k0_pay5 Z) D) 2)
        (k0_pay60 (k0_pay32 (heads O 3)) (k0_pay32 (heads O 4)) (heads (k0_pay47 (k0_pay5 Z) D) 3) (heads (k0_pay47 (k0_pay5 Z) D) 4)
          (k0_pay55 (k0_pay5 Z) D (heads O 5) (k0_pay39 (heads O 5)))))
      (k0_pay68 (k0_pay32 (heads O 0)) (heads (k0_pay47 (k0_pay5 Z) D) 0)) E (ix2 0 k)
      = E (ix2 0 k) + ((∑ r, dgain (o r) (z r) (d r) k : ℝ) : EReal) := by
  have h5 : k0_pay55 (F := Ideal) (k0_pay5 Z) D (heads O 5) (k0_pay39 (heads O 5)) (ix2 0 k)
      = ∑ r, k0_pay32 (F := Ideal) (heads O 5) (ix2 r k) * heads (k0_pay47 (k0_pay5 Z) D) 5 (ix2 r k) := by
    pointwise [k0_pay55]
    rfl
  have hn : ∀ h r, k0_pay32 (F := Ideal) (heads O h) (ix2 r k) = ((o r (cl h k) * hinv (fun i => o r (cl h i)) : ℝ) : EReal) := fun h r =>
    head_n (heads O h) (fun r k => o r (cl h k)) (fun r k => (heads_eq O _ r k).trans (hO r _)) r k
  have hq : ∀ h r, heads (k0_pay47 (F := Ideal) (k0_pay5 Z) D) h (ix2 r k) = ((gated (z r) (d r) (cl h k) : ℝ) : EReal) := fun h r =>
    (heads_eq _ _ r k).trans (pay_gated Z D z d hZ hD r _)
  pointwise [k0_pay4, k0_pay66, k0_pay60, k0_pay68]
  rw [h5]
  simp only [hn, hq, ← EReal.coe_mul, sum_coe, ← EReal.coe_add]
  refine congrArg (fun t : ℝ => E (ix2 0 k) + (t : EReal)) ?_
  simp only [dgain, Fin.sum_univ_six, Finset.sum_add_distrib]
  ring

end Block

variable (m : (ℓ : Loc nD τ sig) → Buf (Elt Ideal) ℓ) (c : Dev nD)

/-- The block that each window is at. -/
theorem idx : ∀ t : Fin cfg0.N, win0_0.index t = ![t.val, 0] ∧ win0_1.index t = ![t.val, 3] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-- Row `r` of the block at grid point `p`, as a row of the array. -/
def row (p : Fin cfg0.N) (r : Fin 512) : Fin 8192 :=
  ⟨p.val * 512 + r.val, by have := lt_of_lt_of_eq p.isLt (show cfg0.N = 16 from N_0); omega⟩

/-- A column of the gate among the columns of the projection. -/
def zc (k : Fin 768) : Fin 3340 := ⟨2304 + k.val, by omega⟩

/-- A column of the norm's output among the columns of its cotangent. -/
def dc (k : Fin 768) : Fin 1024 := ⟨k.val, by omega⟩

theorem proj (r : Fin 8192) (k : Fin 768) : (V m c main_v4 : FVec Ideal S8192x3456 .f32) (ix2 r ⟨2304 + k.val, by omega⟩)
    = (m ((c : Thread nD τ).loc main_arg1) : FVec Ideal S8192x3340 .f32) (ix2 r (zc k)) := by
  unfold V
  after_reads_at
  rw [dif_pos (show 2304 + k.val < 3072 by omega)]
  after_reads_at
  rfl

variable (o z d : Fin 8192 → Fin 768 → ℝ) (w : Fin 128 → ℝ)
  (hO : ∀ r k, (m ((c : Thread nD τ).loc main_arg0) : FVec Ideal S8192x768 .f32) (ix2 r k) = (o r k : EReal))
  (hZ : ∀ r k, (m ((c : Thread nD τ).loc main_arg1) : FVec Ideal S8192x3340 .f32) (ix2 r (zc k)) = (z r k : EReal))
  (hG : ∀ k, (m ((c : Thread nD τ).loc main_arg2) : FVec Ideal S128 .f32) (ix1 k) = (w k : EReal))
  (hD : ∀ r k, (m ((c : Thread nD τ).loc main_arg3) : FVec Ideal S8192x1024 .f32) (ix2 r (dc k)) = (d r k : EReal))

include hO in
theorem blk_o (p : Fin cfg0.N) (r : Fin 512) (k : Fin 768) : (iblk m c 0 p : FVec Ideal S512x768 .f32) (ix2 r k) = (o (row p r) k : EReal) := by
  rw [← hO]; blk_ext [iblk, V, idx p, row]

include hZ in
theorem blk_z (p : Fin cfg0.N) (r : Fin 512) (k : Fin 768) : (X0_1 m c p : FVec Ideal S512x768 .f32) (ix2 r k) = (z (row p r) k : EReal) := by
  rw [← hZ, ← proj m c]; unfold X0_1 Pipeline.Window.fill
  rw [dif_pos (moved0_1 p _)]
  blk_ext [iblk, idx p, row]

include hG in
theorem blk_g (p : Fin cfg0.N) (k : Fin 128) : (iblk m c 2 p : FVec Ideal S1x128 .f32) (ix2 0 k) = (w k : EReal) := by
  have e : ((View.whole main_v5).slice (win0_2.rect p)).emb (ix2 0 k) = ix2 0 k := by blk_ext [idx p]
  blk_simp [iblk]; rw [e]
  unfold V
  after_reads_at
  exact hG k

include hD in
theorem blk_d (p : Fin cfg0.N) (r : Fin 512) (k : Fin 768) : (X0_3 m c p : FVec Ideal S512x768 .f32) (ix2 r k) = (d (row p r) k : EReal) := by
  rw [← hD]; unfold X0_3 Pipeline.Window.fill
  rw [dif_pos (moved0_3 p _)]
  blk_ext [iblk, V, idx p, row, dc]

include hO hZ hG hD

/-- The gradient of the recurrence's output, as the kernel leaves it. -/
theorem final_4 : (dats m 0 c).arrAt 4 cfg0.N = fun i => ((dout (o (i 0)) (z (i 0)) (d (i 0)) w (i 1) : ℝ) : EReal) := by
  refine (dats m 0 c).arrAt_eq_of_covers 4 _ (by decide +kernel) fun p hf y => ?_
  have e : ((cfg0.win 4).blk p).view.emb y = ix2 (row p (y 0)) (y 1) := by blk_ext [idx p, row]
  have h2 := pay_o _ _ _ _ _ _ _ _ (blk_o m c o hO p) (blk_z m c z hZ p) (blk_d m c d hD p) (blk_g m c w hG p) (y 0) (y 1)
  rw [e]
  refine Eq.trans ?_ h2
  blk_simp; rw [after0_4]
  by_cases h : p.val % 16 = 0
  · rw [outsAt0_A m c p h]; dsimp only; frame_out; rw [hgrad_1, hgrad_2, hgrad_3, hgrad_4, hgrad_5]; exact congrArg (outO _ _ _ _) (at_pair y)
  · rw [outsAt0_B m c p h]; dsimp only; frame_out; rw [hgrad_1, hgrad_2, hgrad_3, hgrad_4, hgrad_5]; exact congrArg (outO _ _ _ _) (at_pair y)

/-- The gradient of the gate's argument, as the kernel leaves it. -/
theorem final_5 : (dats m 0 c).arrAt 5 cfg0.N = fun i => ((dz (o (i 0)) (z (i 0)) (d (i 0)) w (i 1) : ℝ) : EReal) := by
  refine (dats m 0 c).arrAt_eq_of_covers 5 _ (by decide +kernel) fun p hf y => ?_
  have e : ((cfg0.win 5).blk p).view.emb y = ix2 (row p (y 0)) (y 1) := by blk_ext [idx p, row]
  have h2 := pay_z _ _ _ _ _ _ _ _ (blk_o m c o hO p) (blk_z m c z hZ p) (blk_d m c d hD p) (blk_g m c w hG p) (y 0) (y 1)
  rw [e]
  refine Eq.trans ?_ h2
  blk_simp; rw [after0_5]
  by_cases h : p.val % 16 = 0
  · rw [outsAt0_A m c p h]; dsimp only; frame_out; rw [normed_0, normed_1, normed_2, normed_4]; exact congrArg (outZ _ _ _ _) (at_pair y)
  · rw [outsAt0_B m c p h]; dsimp only; frame_out; rw [normed_0, normed_1, normed_2, normed_4]; exact congrArg (outZ _ _ _ _) (at_pair y)

omit hG in
/-- The gradient of the gain, as the kernel leaves it: its blocks' sums, added up. -/
theorem final_6 : (dats m 0 c).arrAt 6 cfg0.N = fun i => ((∑ r, dgain (o r) (z r) (d r) (i 1) : ℝ) : EReal) := by
  refine (dats m 0 c).arrAt_eq_of_after_last 6 t0_15 (by decide +kernel) _ fun j => ?_
  have h2 := fun (p : Fin cfg0.N) => pay_w _ _ _ _ _ _ (blk_o m c o hO p) (blk_z m c z hZ p) (blk_d m c d hD p)
  blk_simp
  rw [after0_6, Pipeline.eq_sum_fin_of_reset_step_apply_last (fun n h => (outsAt0 m c n h).2.2) 16 (fun _ => 0)
    (fun p j => ((∑ r, dgain (o (row p r)) (z (row p r)) (d (row p r)) (j 1) : ℝ) : EReal))
    (fun p h j => by
      rw [outsAt0_A m c p h]; dsimp only; frame_out
      idx_vars j
      obtain rfl : j0 = 0 := Subsingleton.elim _ _
      refine (h2 p _ j1).trans (congrArg (· + _) ?_)
      pointwise [k0_pay3])
    (fun p h j => by
      rw [outsAt0_B m c p h]; dsimp only; frame_out
      idx_vars j
      obtain rfl : j0 = 0 := Subsingleton.elim _ _
      exact h2 p _ j1)
    (le_of_eq N_0) t0_15 rfl j, zero_add]
  exact sum_tiles rfl row (fun _ _ => rfl) fun r => dgain (o r) (z r) (d r) (j 1)

end Cert.GdnPostIdeal.Value

end
-- ==== Proof.GdnPostClaim.lean ====
/- The gradients of the gated norm after the recurrence: the kernel and the reference leave the same arrays. -/
module

public import proofs.«01_k».proof.Defs
public import proofs.«01_k».proof.Proof.GdnPost
public import proofs.«01_k».proof.Proof.Gen.GdnPostRefIdeal.Run
public import Idealize.ShloMosaic.Lib.Claim

@[expose] public section

set_option maxRecDepth 16384

noncomputable section

namespace Cert.GdnPostProof

open Cert.Reals Idealize.ShloMosaic Idealize.ShloMosaic.TcCoe Idealize.SL.Sem
open Cert.FfnIdeal.Value (sg exp_pos')
open Cert.GdnPostIdeal.Value (final_4 final_5 final_6 zc dc cl hd ln cl_hd hinv dhead gated dout dz dgain ofBits_128 head_sq_pos)
open Cert.GdnPostRefIdeal.Value (res_main_v48)
open scoped BigOperators

/-- The precondition says that every entry of the four arguments is a real number. -/
theorem reals [Cert.Pre_finite_post.Facts] (o : FVec Ideal ⟨2, ![8192, 768]⟩ .f32) (p : FVec Ideal ⟨2, ![8192, 3340]⟩ .f32)
    (w : FVec Ideal ⟨1, ![128]⟩ .f32) (d : FVec Ideal ⟨2, ![8192, 1024]⟩ .f32)
    (hf : Cert.Pre_finite_post.fn (F := Ideal) o p w d = fun _ => 1#1) :
    (∀ i, ∃ a : ℝ, o i = a) ∧ (∀ i, ∃ a : ℝ, p i = a) ∧ (∀ i, ∃ a : ℝ, w i = a) ∧ ∀ i, ∃ a : ℝ, d i = a := by
  have e := congrFun hf ix0
  unfold Cert.Pre_finite_post.fn Cert.Pre_finite_post.fn_part1 at e
  dsimp only at e
  simp only [andi, IntOp.andi_eq_one] at e
  exact ⟨reals_of_all o _ _ _ _ e.1.1.1, reals_of_all p _ _ _ _ e.1.1.2, reals_of_all w _ _ _ _ e.1.2, reals_of_all d _ _ _ _ e.2⟩

/-- The host's sum over the first two of three axes. -/
theorem sum_leading {a b n : ℕ} (h : (⟨3, ![a, b, n]⟩ : Shape).ReducesTo [0, 1] ⟨1, ![n]⟩) (v : (⟨3, ![a, b, n]⟩ : Shape).Idx → EReal)
    (init : EReal) (k : Fin n) : Ideal.hostReduceAdd h v init (ix1 k) = init + ∑ r, ∑ j, v (ix3 r j k) := by
  refine congrArg (init + ·) ?_
  rw [← Fintype.sum_prod_type' (f := fun r j => v (ix3 r j k))]
  have key : ∀ i, h.drop i = ix1 k → ix3 (i 0) (i 1) k = i := fun i e => by
    funext x
    apply Fin.ext
    match x with
    | ⟨0, _⟩ => rfl
    | ⟨1, _⟩ => rfl
    | ⟨2, _⟩ => exact (congrArg Fin.val (congrFun e 0)).symm
  refine Finset.sum_nbij' (fun i => (i 0, i 1)) (fun p => ix3 p.1 p.2 k) (fun _ _ => Finset.mem_univ _) (fun p _ => ?_)
    (fun i hi => key i (Finset.mem_filter.1 hi).2) (fun _ _ => rfl) fun i hi => congrArg v (key i (Finset.mem_filter.1 hi).2).symm
  refine Finset.mem_filter.2 ⟨Finset.mem_univ _, ?_⟩
  funext x
  apply Fin.ext
  match x with
  | ⟨0, _⟩ => rfl

/-- The kernel leaves the gradients of the recurrence's output, of the gate's argument and of the gain. -/
theorem algebraic [Cert.Pre_finite_post.Facts] : Cert.algebraic_GdnPostIdeal_GdnPostRefIdeal_pre_finite_post := by
  pair_intro
  · run_from Cert.GdnPostIdeal.Value.run_blocks m g
  · obtain ⟨h0, h1, h2, h3⟩ := reals _ _ _ _ (hpre (0 : Dev _))
    choose o ho using h0
    choose z hz using h1
    choose w hw using h2
    choose d hc using h3
    run_from Cert.GdnPostRefIdeal.Value.run m' g'
    all_goals
      obtain rfl : c = 0 := Subsingleton.elim _ _
      obtain ⟨a0, a1, a2, a3⟩ := hagree 0
      first
        | rw [final_4 m 0 _ _ _ _ (fun r k => ho (ix2 r k)) (fun r k => hz (ix2 r (zc k))) (fun k => hw (ix1 k)) fun r k => hc (ix2 r (dc k))]
        | rw [final_5 m 0 _ _ _ _ (fun r k => ho (ix2 r k)) (fun r k => hz (ix2 r (zc k))) (fun k => hw (ix1 k)) fun r k => hc (ix2 r (dc k))]
        | rw [final_6 m 0 _ _ _ (fun r k => ho (ix2 r k)) (fun r k => hz (ix2 r (zc k))) fun r k => hc (ix2 r (dc k))]
      funext j
      idx_vars j
    · pointwise [res_main_v48]
      simp only [a0, a1, a2, a3, ho, hz, hw, hc, ofBits_128, ofBits_eps, ofBits_neg_half, ofBits_one, zero_add, ← EReal.coe_one, ← EReal.coe_neg,
        ← EReal.coe_mul, ← EReal.coe_add, ← EReal.coe_sub, sum_coe, div_coe (show (128 : ℝ) ≠ 0 by norm_num), Ideal.exp_coe, div_coe (exp_pos' _),
        rsqrt_coe (head_sq_pos _), div_coe (head_sq_pos _).ne']
      refine congrArg Real.toEReal ?_
      rw [Fin.sum_univ_one, inv_sqrt_div (head_sq_pos _)]
      simp only [dout, dhead, gated, cl_hd, hinv, sg]
      simp only [cl, hd, ln, zc, dc]
      ring
    · pointwise
      simp only [a0, a1, a2, a3, ho, hz, hw, hc, ofBits_128, ofBits_eps, ofBits_neg_half, ofBits_one, zero_add, ← EReal.coe_one, ← EReal.coe_neg,
        ← EReal.coe_mul, ← EReal.coe_add, ← EReal.coe_sub, sum_coe, div_coe (show (128 : ℝ) ≠ 0 by norm_num), Ideal.exp_coe, div_coe (exp_pos' _),
        rsqrt_coe (head_sq_pos _), div_coe (head_sq_pos _).ne']
      refine congrArg Real.toEReal ?_
      simp only [dz, hinv, sg]
      simp only [cl, hd, ln, zc, dc]
      ring
    · pointwise
      rw [sum_leading]
      pointwise [sum_leading]
      simp only [a0, a1, a2, a3, ho, hz, hw, hc, ofBits_128, ofBits_eps, ofBits_one, zero_add, ← EReal.coe_one, ← EReal.coe_neg,
        ← EReal.coe_mul, ← EReal.coe_add, sum_coe, div_coe (show (128 : ℝ) ≠ 0 by norm_num), Ideal.exp_coe, div_coe (exp_pos' _),
        rsqrt_coe (head_sq_pos _)]
      refine congrArg Real.toEReal ?_
      simp only [Fin.sum_univ_one, dgain, gated, hinv, sg, cl, zc, dc]

end Cert.GdnPostProof

end
-- ==== Proof.lean ====
module

public import proofs.«01_k».proof.Defs
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossRefIdeal
public import proofs.«01_k».proof.Proof.Gen.LossRefIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvRefIdeal
public import proofs.«01_k».proof.Proof.Gen.ConvRefIdeal.Run
public import proofs.«01_k».proof.Proof.Gen.Cum
public import proofs.«01_k».proof.Proof.Gen.Cum.Frame
public import proofs.«01_k».proof.Proof.Gen.CumIdeal
public import proofs.«01_k».proof.Proof.Gen.CumIdeal.Frame
public import proofs.«01_k».proof.Proof.Gen.CumRefIdeal
public import proofs.«01_k».proof.Proof.Gen.CumRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FoxKv
public import proofs.«01_k».proof.Proof.Gen.FoxKv.Frame
public import proofs.«01_k».proof.Proof.Gen.FoxKvIdeal
public import proofs.«01_k».proof.Proof.Gen.FoxKvIdeal.Frame
public import proofs.«01_k».proof.Proof.Gen.FoxKvRefIdeal
public import proofs.«01_k».proof.Proof.Gen.FoxKvRefIdeal.Run
public import proofs.«01_k».proof.Proof.Gen.FoxQ
public import proofs.«01_k».proof.Proof.Gen.FoxQ.Frame
public import proofs.«01_k».proof.Proof.Gen.FoxQIdeal
public import proofs.«01_k».proof.Proof.Gen.FoxQIdeal.Frame
public import proofs.«01_k».proof.Proof.Gen.FoxQRefIdeal
public import proofs.«01_k».proof.Proof.Gen.FoxQRefIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormRefIdeal.Run
public import proofs.«01_k».proof.Proof.Gen.KvPost
public import proofs.«01_k».proof.Proof.Gen.KvPost.Frame
public import proofs.«01_k».proof.Proof.Gen.KvPostIdeal
public import proofs.«01_k».proof.Proof.Gen.KvPostIdeal.Frame
public import proofs.«01_k».proof.Proof.Gen.KvPostRefIdeal
public import proofs.«01_k».proof.Proof.Gen.KvPostRefIdeal.Run
public import proofs.«01_k».proof.Proof.Gen.GdnPre
public import proofs.«01_k».proof.Proof.Gen.GdnPre.Frame
public import proofs.«01_k».proof.Proof.Gen.GdnPreIdeal
public import proofs.«01_k».proof.Proof.Gen.GdnPreIdeal.Frame
public import proofs.«01_k».proof.Proof.Gen.GdnPreRefIdeal
public import proofs.«01_k».proof.Proof.Gen.GdnPreRefIdeal.Run
public import proofs.«01_k».proof.Proof.Gen.Memory
public import proofs.«01_k».proof.Proof.Gen.Memory.Frame
public import proofs.«01_k».proof.Proof.Gen.MemoryIdeal
public import proofs.«01_k».proof.Proof.Gen.MemoryIdeal.Frame
public import proofs.«01_k».proof.Proof.Gen.MemoryRefIdeal
public import proofs.«01_k».proof.Proof.Gen.MemoryRefIdeal.Run
public import proofs.«01_k».proof.Proof.Gen.GdnPost
public import proofs.«01_k».proof.Proof.Gen.GdnPost.Frame
public import proofs.«01_k».proof.Proof.Gen.GdnPostIdeal
public import proofs.«01_k».proof.Proof.Gen.GdnPostIdeal.Frame
public import proofs.«01_k».proof.Proof.Gen.GdnPostRefIdeal
public import proofs.«01_k».proof.Proof.Gen.GdnPostRefIdeal.Run
public import proofs.«01_k».proof.Proof.Gen.Pre_finite_loss
public import proofs.«01_k».proof.Proof.Gen.Pre_finite_cumsum
public import proofs.«01_k».proof.Proof.Gen.Pre_finite_ffn
public import proofs.«01_k».proof.Proof.Gen.Pre_finite_fox_kv
public import proofs.«01_k».proof.Proof.Gen.Pre_finite_norm
public import proofs.«01_k».proof.Proof.Gen.Pre_regular_kv_post
public import proofs.«01_k».proof.Proof.Gen.Pre_finite_mem
public import proofs.«01_k».proof.Proof.Gen.Pre_finite_post
public import proofs.«01_k».proof.Proof.LossClaim
public import proofs.«01_k».proof.Proof.ConvClaim
public import proofs.«01_k».proof.Proof.CumClaim
public import proofs.«01_k».proof.Proof.FfnClaim
public import proofs.«01_k».proof.Proof.FoxKvClaim
public import proofs.«01_k».proof.Proof.FoxQClaim
public import proofs.«01_k».proof.Proof.NormClaim
public import proofs.«01_k».proof.Proof.KvPostClaim
public import proofs.«01_k».proof.Proof.MemoryClaim
public import proofs.«01_k».proof.Proof.GdnPostClaim
public import Idealize.ShloMosaic.Lib.Claim

@[expose] public section

noncomputable section

namespace Cert.Proof

open Idealize.ShloMosaic Idealize.SL.Sem

/-- The reference `LossRefIdeal` runs to the end and leaves its arguments as they were. -/
theorem frame_LossRefIdeal [Cert.LossRefIdeal.Facts] : Cert.quiescent_LossRefIdeal := by
  intro m g _
  run_from Cert.LossRefIdeal.Value.run m g
  · simp
  · exact sem_eq_zero_of_no_sems (by decide) _

/-- The reference `ConvRefIdeal` runs to the end and leaves its arguments as they were. -/
theorem frame_ConvRefIdeal [Cert.ConvRefIdeal.Facts] : Cert.quiescent_ConvRefIdeal := by
  intro m g _
  run_from Cert.ConvRefIdeal.Value.run m g
  · simp
  · exact sem_eq_zero_of_no_sems (by decide) _

/-- The reference `CumRefIdeal` runs to the end and leaves its arguments as they were. -/
theorem frame_CumRefIdeal [Cert.CumRefIdeal.Facts] : Cert.quiescent_CumRefIdeal := by
  intro m g _
  run_from Cert.CumRefIdeal.Value.run m g
  · simp
  · exact sem_eq_zero_of_no_sems (by decide) _

/-- The reference `FfnRefIdeal` runs to the end and leaves its arguments as they were. -/
theorem frame_FfnRefIdeal [Cert.FfnRefIdeal.Facts] : Cert.quiescent_FfnRefIdeal := by
  intro m g _
  run_from Cert.FfnRefIdeal.Value.run m g
  · simp
  · exact sem_eq_zero_of_no_sems (by decide) _

/-- The reference `FoxKvRefIdeal` runs to the end and leaves its arguments as they were. -/
theorem frame_FoxKvRefIdeal [Cert.FoxKvRefIdeal.Facts] : Cert.quiescent_FoxKvRefIdeal := by
  intro m g _
  run_from Cert.FoxKvRefIdeal.Value.run m g
  · simp
  · exact sem_eq_zero_of_no_sems (by decide) _

/-- The reference `FoxQRefIdeal` runs to the end and leaves its arguments as they were. -/
theorem frame_FoxQRefIdeal [Cert.FoxQRefIdeal.Facts] : Cert.quiescent_FoxQRefIdeal := by
  intro m g _
  run_from Cert.FoxQRefIdeal.Value.run m g
  · simp
  · exact sem_eq_zero_of_no_sems (by decide) _

/-- The reference `NormRefIdeal` runs to the end and leaves its arguments as they were. -/
theorem frame_NormRefIdeal [Cert.NormRefIdeal.Facts] : Cert.quiescent_NormRefIdeal := by
  intro m g _
  run_from Cert.NormRefIdeal.Value.run m g
  · simp
  · exact sem_eq_zero_of_no_sems (by decide) _

/-- The reference `KvPostRefIdeal` runs to the end and leaves its arguments as they were. -/
theorem frame_KvPostRefIdeal [Cert.KvPostRefIdeal.Facts] : Cert.quiescent_KvPostRefIdeal := by
  intro m g _
  run_from Cert.KvPostRefIdeal.Value.run m g
  · simp
  · exact sem_eq_zero_of_no_sems (by decide) _

/-- The reference `GdnPreRefIdeal` runs to the end and leaves its arguments as they were. -/
theorem frame_GdnPreRefIdeal [Cert.GdnPreRefIdeal.Facts] : Cert.quiescent_GdnPreRefIdeal := by
  intro m g _
  run_from Cert.GdnPreRefIdeal.Value.run m g
  · simp
  · exact sem_eq_zero_of_no_sems (by decide) _

/-- The reference `MemoryRefIdeal` runs to the end and leaves its arguments as they were. -/
theorem frame_MemoryRefIdeal [Cert.MemoryRefIdeal.Facts] : Cert.quiescent_MemoryRefIdeal := by
  intro m g _
  run_from Cert.MemoryRefIdeal.Value.run m g
  · simp
  · exact sem_eq_zero_of_no_sems (by decide) _

/-- The reference `GdnPostRefIdeal` runs to the end and leaves its arguments as they were. -/
theorem frame_GdnPostRefIdeal [Cert.GdnPostRefIdeal.Facts] : Cert.quiescent_GdnPostRefIdeal := by
  intro m g _
  run_from Cert.GdnPostRefIdeal.Value.run m g
  · simp
  · exact sem_eq_zero_of_no_sems (by decide) _

/-- Every claim of the certificate. -/
theorem claim : Cert.Claim := ⟨Cert.Loss.Gen.facts, Cert.LossIdeal.Gen.facts, Cert.LossRefIdeal.Gen.facts, Cert.Conv.Gen.facts, Cert.ConvIdeal.Gen.facts, Cert.ConvRefIdeal.Gen.facts, Cert.Cum.Gen.facts, Cert.CumIdeal.Gen.facts, Cert.CumRefIdeal.Gen.facts, Cert.Ffn.Gen.facts, Cert.FfnIdeal.Gen.facts, Cert.FfnRefIdeal.Gen.facts, Cert.FoxKv.Gen.facts, Cert.FoxKvIdeal.Gen.facts, Cert.FoxKvRefIdeal.Gen.facts, Cert.FoxQ.Gen.facts, Cert.FoxQIdeal.Gen.facts, Cert.FoxQRefIdeal.Gen.facts, Cert.Norm.Gen.facts, Cert.NormIdeal.Gen.facts, Cert.NormRefIdeal.Gen.facts, Cert.KvPost.Gen.facts, Cert.KvPostIdeal.Gen.facts, Cert.KvPostRefIdeal.Gen.facts, Cert.GdnPre.Gen.facts, Cert.GdnPreIdeal.Gen.facts, Cert.GdnPreRefIdeal.Gen.facts, Cert.Memory.Gen.facts, Cert.MemoryIdeal.Gen.facts, Cert.MemoryRefIdeal.Gen.facts, Cert.GdnPost.Gen.facts, Cert.GdnPostIdeal.Gen.facts, Cert.GdnPostRefIdeal.Gen.facts, Cert.Pre_finite_loss.Gen.facts, Cert.Pre_finite_cumsum.Gen.facts, Cert.Pre_finite_ffn.Gen.facts, Cert.Pre_finite_fox_kv.Gen.facts, Cert.Pre_finite_norm.Gen.facts, Cert.Pre_regular_kv_post.Gen.facts, Cert.Pre_finite_mem.Gen.facts, Cert.Pre_finite_post.Gen.facts,
  fun m ρ _ => Cert.Loss.Gen.frame m ρ,
  fun m ρ _ => Cert.LossIdeal.Gen.frame m ρ,
  fun m ρ _ => Cert.LossIdeal.Gen.frame m ρ,
  fun m ρ _ => frame_LossRefIdeal m ρ trivial,
  fun m ρ _ => frame_LossRefIdeal m ρ trivial,
  fun m ρ _ => Cert.Conv.Gen.frame m ρ,
  fun m ρ _ => Cert.ConvIdeal.Gen.frame m ρ,
  fun m ρ _ => frame_ConvRefIdeal m ρ trivial,
  fun m ρ _ => Cert.Cum.Gen.frame m ρ,
  fun m ρ _ => Cert.CumIdeal.Gen.frame m ρ,
  fun m ρ _ => Cert.CumIdeal.Gen.frame m ρ,
  fun m ρ _ => frame_CumRefIdeal m ρ trivial,
  fun m ρ _ => frame_CumRefIdeal m ρ trivial,
  fun m ρ _ => Cert.Ffn.Gen.frame m ρ,
  fun m ρ _ => Cert.FfnIdeal.Gen.frame m ρ,
  fun m ρ _ => Cert.FfnIdeal.Gen.frame m ρ,
  fun m ρ _ => frame_FfnRefIdeal m ρ trivial,
  fun m ρ _ => frame_FfnRefIdeal m ρ trivial,
  fun m ρ _ => Cert.FoxKv.Gen.frame m ρ,
  fun m ρ _ => Cert.FoxKvIdeal.Gen.frame m ρ,
  fun m ρ _ => Cert.FoxKvIdeal.Gen.frame m ρ,
  fun m ρ _ => frame_FoxKvRefIdeal m ρ trivial,
  fun m ρ _ => frame_FoxKvRefIdeal m ρ trivial,
  fun m ρ _ => Cert.FoxQ.Gen.frame m ρ,
  fun m ρ _ => Cert.FoxQIdeal.Gen.frame m ρ,
  fun m ρ _ => Cert.FoxQIdeal.Gen.frame m ρ,
  fun m ρ _ => frame_FoxQRefIdeal m ρ trivial,
  fun m ρ _ => frame_FoxQRefIdeal m ρ trivial,
  fun m ρ _ => Cert.Norm.Gen.frame m ρ,
  fun m ρ _ => Cert.NormIdeal.Gen.frame m ρ,
  fun m ρ _ => Cert.NormIdeal.Gen.frame m ρ,
  fun m ρ _ => frame_NormRefIdeal m ρ trivial,
  fun m ρ _ => frame_NormRefIdeal m ρ trivial,
  fun m ρ _ => Cert.KvPost.Gen.frame m ρ,
  fun m ρ _ => Cert.KvPostIdeal.Gen.frame m ρ,
  fun m ρ _ => Cert.KvPostIdeal.Gen.frame m ρ,
  fun m ρ _ => frame_KvPostRefIdeal m ρ trivial,
  fun m ρ _ => frame_KvPostRefIdeal m ρ trivial,
  fun m ρ _ => Cert.GdnPre.Gen.frame m ρ,
  fun m ρ _ => Cert.GdnPreIdeal.Gen.frame m ρ,
  fun m ρ _ => frame_GdnPreRefIdeal m ρ trivial,
  fun m ρ _ => Cert.Memory.Gen.frame m ρ,
  fun m ρ _ => Cert.MemoryIdeal.Gen.frame m ρ,
  fun m ρ _ => Cert.MemoryIdeal.Gen.frame m ρ,
  fun m ρ _ => frame_MemoryRefIdeal m ρ trivial,
  fun m ρ _ => frame_MemoryRefIdeal m ρ trivial,
  fun m ρ _ => Cert.GdnPost.Gen.frame m ρ,
  fun m ρ _ => Cert.GdnPostIdeal.Gen.frame m ρ,
  fun m ρ _ => Cert.GdnPostIdeal.Gen.frame m ρ,
  fun m ρ _ => frame_GdnPostRefIdeal m ρ trivial,
  fun m ρ _ => frame_GdnPostRefIdeal m ρ trivial,
  trivial,
  Cert.LossProof.algebraic,
  trivial,
  Cert.ConvProof.algebraic,
  trivial,
  Cert.CumProof.algebraic,
  trivial,
  Cert.FfnProof.algebraic,
  Cert.FoxKvProof.preserves,
  Cert.FoxKvProof.algebraic,
  Cert.FoxQProof.preserves,
  Cert.FoxQProof.algebraic,
  trivial,
  Cert.NormProof.algebraic,
  trivial,
  Cert.KvPostProof.algebraic,
  trivial,
  trivial,
  Cert.MemoryProof.algebraic,
  trivial,
  Cert.GdnPostProof.algebraic⟩

end Cert.Proof

end
